-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5)) (m ((c.tc : Thread Cert.FoxIdeal.nD Cert.FoxIdeal.τ).loc Cert.FoxIdeal.main_arg6)) (m ((c.tc : Thread Cert.FoxIdeal.nD Cert.FoxIdeal.τ).loc Cert.FoxIdeal.main_arg7))).1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5)) (m ((c.tc : Thread Cert.FoxIdeal.nD Cert.FoxIdeal.τ).loc Cert.FoxIdeal.main_arg6)) (m ((c.tc : Thread Cert.FoxIdeal.nD Cert.FoxIdeal.τ).loc Cert.FoxIdeal.main_arg7))).2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5)) (m ((c.tc : Thread Cert.FoxIdeal.nD Cert.FoxIdeal.τ).loc Cert.FoxIdeal.main_arg6)) (m ((c.tc : Thread Cert.FoxIdeal.nD Cert.FoxIdeal.τ).loc Cert.FoxIdeal.main_arg7))).2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5)) (m ((c.tc : Thread Cert.FoxIdeal.nD Cert.FoxIdeal.τ).loc Cert.FoxIdeal.main_arg6)) (m ((c.tc : Thread Cert.FoxIdeal.nD Cert.FoxIdeal.τ).loc Cert.FoxIdeal.main_arg7))).2.2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5)) (m ((c.tc : Thread Cert.FoxIdeal.nD Cert.FoxIdeal.τ).loc Cert.FoxIdeal.main_arg6)) (m ((c.tc : Thread Cert.FoxIdeal.nD Cert.FoxIdeal.τ).loc Cert.FoxIdeal.main_arg7))).2.2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5)) (m ((c.tc : Thread Cert.FoxRefIdeal.nD Cert.FoxRefIdeal.τ).loc Cert.FoxRefIdeal.main_arg6)) (m ((c.tc : Thread Cert.FoxRefIdeal.nD Cert.FoxRefIdeal.τ).loc Cert.FoxRefIdeal.main_arg7))).1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5)) (m ((c.tc : Thread Cert.FoxRefIdeal.nD Cert.FoxRefIdeal.τ).loc Cert.FoxRefIdeal.main_arg6)) (m ((c.tc : Thread Cert.FoxRefIdeal.nD Cert.FoxRefIdeal.τ).loc Cert.FoxRefIdeal.main_arg7))).2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5)) (m ((c.tc : Thread Cert.FoxRefIdeal.nD Cert.FoxRefIdeal.τ).loc Cert.FoxRefIdeal.main_arg6)) (m ((c.tc : Thread Cert.FoxRefIdeal.nD Cert.FoxRefIdeal.τ).loc Cert.FoxRefIdeal.main_arg7))).2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5)) (m ((c.tc : Thread Cert.FoxRefIdeal.nD Cert.FoxRefIdeal.τ).loc Cert.FoxRefIdeal.main_arg6)) (m ((c.tc : Thread Cert.FoxRefIdeal.nD Cert.FoxRefIdeal.τ).loc Cert.FoxRefIdeal.main_arg7))).2.2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5)) (m ((c.tc : Thread Cert.FoxRefIdeal.nD Cert.FoxRefIdeal.τ).loc Cert.FoxRefIdeal.main_arg6)) (m ((c.tc : Thread Cert.FoxRefIdeal.nD Cert.FoxRefIdeal.τ).loc Cert.FoxRefIdeal.main_arg7))).2.2.2.2 = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_sb_finite [hPre_sb_finite : Cert.Pre_sb_finite.Facts] (m : (ℓ : Loc Cert.SbIdeal.nD Cert.SbIdeal.τ Cert.SbIdeal.sig) → Buf (Elt Ideal) ℓ) : Prop :=
  ∀ c : Dev Cert.SbIdeal.nD,
    (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6))).1 = (fun _ => 1#1)
    ∧ (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6))).2.1 = (fun _ => 1#1)
    ∧ (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6))).2.2.1 = (fun _ => 1#1)
    ∧ (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6))).2.2.2 = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3)) (m ((c.tc : Thread Cert.SbRefIdeal.nD Cert.SbRefIdeal.τ).loc Cert.SbRefIdeal.main_arg4)) (m ((c.tc : Thread Cert.SbRefIdeal.nD Cert.SbRefIdeal.τ).loc Cert.SbRefIdeal.main_arg5)) (m ((c.tc : Thread Cert.SbRefIdeal.nD Cert.SbRefIdeal.τ).loc Cert.SbRefIdeal.main_arg6))).1 = (fun _ => 1#1)
    ∧ (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3)) (m ((c.tc : Thread Cert.SbRefIdeal.nD Cert.SbRefIdeal.τ).loc Cert.SbRefIdeal.main_arg4)) (m ((c.tc : Thread Cert.SbRefIdeal.nD Cert.SbRefIdeal.τ).loc Cert.SbRefIdeal.main_arg5)) (m ((c.tc : Thread Cert.SbRefIdeal.nD Cert.SbRefIdeal.τ).loc Cert.SbRefIdeal.main_arg6))).2.1 = (fun _ => 1#1)
    ∧ (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3)) (m ((c.tc : Thread Cert.SbRefIdeal.nD Cert.SbRefIdeal.τ).loc Cert.SbRefIdeal.main_arg4)) (m ((c.tc : Thread Cert.SbRefIdeal.nD Cert.SbRefIdeal.τ).loc Cert.SbRefIdeal.main_arg5)) (m ((c.tc : Thread Cert.SbRefIdeal.nD Cert.SbRefIdeal.τ).loc Cert.SbRefIdeal.main_arg6))).2.2.1 = (fun _ => 1#1)
    ∧ (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3)) (m ((c.tc : Thread Cert.SbRefIdeal.nD Cert.SbRefIdeal.τ).loc Cert.SbRefIdeal.main_arg4)) (m ((c.tc : Thread Cert.SbRefIdeal.nD Cert.SbRefIdeal.τ).loc Cert.SbRefIdeal.main_arg5)) (m ((c.tc : Thread Cert.SbRefIdeal.nD Cert.SbRefIdeal.τ).loc Cert.SbRefIdeal.main_arg6))).2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3))).1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3))).2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3))).1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3))).2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Nrm (m : (ℓ : Loc Cert.Nrm.nD Cert.Nrm.τ Cert.Nrm.sig) → Buf (Elt Bits) ℓ) : Prop :=
  True

def Pre_NrmIdeal (m : (ℓ : Loc Cert.NrmIdeal.nD Cert.NrmIdeal.τ Cert.NrmIdeal.sig) → Buf (Elt Ideal) ℓ) : Prop :=
  True

def Pre_NrmRefIdeal (m : (ℓ : Loc Cert.NrmRefIdeal.nD Cert.NrmRefIdeal.τ Cert.NrmRefIdeal.sig) → Buf (Elt Ideal) ℓ) : Prop :=
  True

def Pre_Gatef (m : (ℓ : Loc Cert.Gatef.nD Cert.Gatef.τ Cert.Gatef.sig) → Buf (Elt Bits) ℓ) : Prop :=
  True

def Pre_GatefIdeal (m : (ℓ : Loc Cert.GatefIdeal.nD Cert.GatefIdeal.τ Cert.GatefIdeal.sig) → Buf (Elt Ideal) ℓ) : Prop :=
  True

def Pre_GatefRefIdeal (m : (ℓ : Loc Cert.GatefRefIdeal.nD Cert.GatefRefIdeal.τ Cert.GatefRefIdeal.sig) → Buf (Elt Ideal) ℓ) : Prop :=
  True

def Pre_Mmr (m : (ℓ : Loc Cert.Mmr.nD Cert.Mmr.τ Cert.Mmr.sig) → Buf (Elt Bits) ℓ) : Prop :=
  True

def Pre_MmrIdeal (m : (ℓ : Loc Cert.MmrIdeal.nD Cert.MmrIdeal.τ Cert.MmrIdeal.sig) → Buf (Elt Ideal) ℓ) : Prop :=
  True

def Pre_MmrRefIdeal (m : (ℓ : Loc Cert.MmrRefIdeal.nD Cert.MmrRefIdeal.τ Cert.MmrRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Mmd (m : (ℓ : Loc Cert.Mmd.nD Cert.Mmd.τ Cert.Mmd.sig) → Buf (Elt Bits) ℓ) : Prop :=
  True

def Pre_MmdIdeal (m : (ℓ : Loc Cert.MmdIdeal.nD Cert.MmdIdeal.τ Cert.MmdIdeal.sig) → Buf (Elt Ideal) ℓ) : Prop :=
  True

def Pre_MmdRefIdeal (m : (ℓ : Loc Cert.MmdRefIdeal.nD Cert.MmdRefIdeal.τ Cert.MmdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4)
      ∧ r.2.mem ((c.tc : Thread Cert.Fox.nD Cert.Fox.τ).loc Cert.Fox.main_arg5) = m ((c.tc : Thread Cert.Fox.nD Cert.Fox.τ).loc Cert.Fox.main_arg5)
      ∧ r.2.mem ((c.tc : Thread Cert.Fox.nD Cert.Fox.τ).loc Cert.Fox.main_arg6) = m ((c.tc : Thread Cert.Fox.nD Cert.Fox.τ).loc Cert.Fox.main_arg6)
      ∧ r.2.mem ((c.tc : Thread Cert.Fox.nD Cert.Fox.τ).loc Cert.Fox.main_arg7) = m ((c.tc : Thread Cert.Fox.nD Cert.Fox.τ).loc Cert.Fox.main_arg7))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
      ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6)
      ∧ r.2.mem ((c.tc : Thread Cert.FoxIdeal.nD Cert.FoxIdeal.τ).loc Cert.FoxIdeal.main_arg7) = m ((c.tc : Thread Cert.FoxIdeal.nD Cert.FoxIdeal.τ).loc Cert.FoxIdeal.main_arg7))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
      ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6)
      ∧ r.2.mem ((c.tc : Thread Cert.FoxIdeal.nD Cert.FoxIdeal.τ).loc Cert.FoxIdeal.main_arg7) = m ((c.tc : Thread Cert.FoxIdeal.nD Cert.FoxIdeal.τ).loc Cert.FoxIdeal.main_arg7))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4)
      ∧ r.2.mem ((c.tc : Thread Cert.FoxRefIdeal.nD Cert.FoxRefIdeal.τ).loc Cert.FoxRefIdeal.main_arg5) = m ((c.tc : Thread Cert.FoxRefIdeal.nD Cert.FoxRefIdeal.τ).loc Cert.FoxRefIdeal.main_arg5)
      ∧ r.2.mem ((c.tc : Thread Cert.FoxRefIdeal.nD Cert.FoxRefIdeal.τ).loc Cert.FoxRefIdeal.main_arg6) = m ((c.tc : Thread Cert.FoxRefIdeal.nD Cert.FoxRefIdeal.τ).loc Cert.FoxRefIdeal.main_arg6)
      ∧ r.2.mem ((c.tc : Thread Cert.FoxRefIdeal.nD Cert.FoxRefIdeal.τ).loc Cert.FoxRefIdeal.main_arg7) = m ((c.tc : Thread Cert.FoxRefIdeal.nD Cert.FoxRefIdeal.τ).loc Cert.FoxRefIdeal.main_arg7))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4)
      ∧ r.2.mem ((c.tc : Thread Cert.FoxRefIdeal.nD Cert.FoxRefIdeal.τ).loc Cert.FoxRefIdeal.main_arg5) = m ((c.tc : Thread Cert.FoxRefIdeal.nD Cert.FoxRefIdeal.τ).loc Cert.FoxRefIdeal.main_arg5)
      ∧ r.2.mem ((c.tc : Thread Cert.FoxRefIdeal.nD Cert.FoxRefIdeal.τ).loc Cert.FoxRefIdeal.main_arg6) = m ((c.tc : Thread Cert.FoxRefIdeal.nD Cert.FoxRefIdeal.τ).loc Cert.FoxRefIdeal.main_arg6)
      ∧ r.2.mem ((c.tc : Thread Cert.FoxRefIdeal.nD Cert.FoxRefIdeal.τ).loc Cert.FoxRefIdeal.main_arg7) = m ((c.tc : Thread Cert.FoxRefIdeal.nD Cert.FoxRefIdeal.τ).loc Cert.FoxRefIdeal.main_arg7))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3)
      ∧ r.2.mem ((c.tc : Thread Cert.Sb.nD Cert.Sb.τ).loc Cert.Sb.main_arg4) = m ((c.tc : Thread Cert.Sb.nD Cert.Sb.τ).loc Cert.Sb.main_arg4)
      ∧ r.2.mem ((c.tc : Thread Cert.Sb.nD Cert.Sb.τ).loc Cert.Sb.main_arg5) = m ((c.tc : Thread Cert.Sb.nD Cert.Sb.τ).loc Cert.Sb.main_arg5)
      ∧ r.2.mem ((c.tc : Thread Cert.Sb.nD Cert.Sb.τ).loc Cert.Sb.main_arg6) = m ((c.tc : Thread Cert.Sb.nD Cert.Sb.τ).loc Cert.Sb.main_arg6))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
      ∧ r.2.mem ((c.tc : Thread Cert.SbIdeal.nD Cert.SbIdeal.τ).loc Cert.SbIdeal.main_arg4) = m ((c.tc : Thread Cert.SbIdeal.nD Cert.SbIdeal.τ).loc Cert.SbIdeal.main_arg4)
      ∧ r.2.mem ((c.tc : Thread Cert.SbIdeal.nD Cert.SbIdeal.τ).loc Cert.SbIdeal.main_arg5) = m ((c.tc : Thread Cert.SbIdeal.nD Cert.SbIdeal.τ).loc Cert.SbIdeal.main_arg5)
      ∧ r.2.mem ((c.tc : Thread Cert.SbIdeal.nD Cert.SbIdeal.τ).loc Cert.SbIdeal.main_arg6) = m ((c.tc : Thread Cert.SbIdeal.nD Cert.SbIdeal.τ).loc Cert.SbIdeal.main_arg6))
      ∧ r.2.sem = fun _ => 0)

def quiescent_SbIdeal_pre_sb_finite [hSbIdeal : Cert.SbIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_sb_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
      ∧ r.2.mem ((c.tc : Thread Cert.SbIdeal.nD Cert.SbIdeal.τ).loc Cert.SbIdeal.main_arg4) = m ((c.tc : Thread Cert.SbIdeal.nD Cert.SbIdeal.τ).loc Cert.SbIdeal.main_arg4)
      ∧ r.2.mem ((c.tc : Thread Cert.SbIdeal.nD Cert.SbIdeal.τ).loc Cert.SbIdeal.main_arg5) = m ((c.tc : Thread Cert.SbIdeal.nD Cert.SbIdeal.τ).loc Cert.SbIdeal.main_arg5)
      ∧ r.2.mem ((c.tc : Thread Cert.SbIdeal.nD Cert.SbIdeal.τ).loc Cert.SbIdeal.main_arg6) = m ((c.tc : Thread Cert.SbIdeal.nD Cert.SbIdeal.τ).loc Cert.SbIdeal.main_arg6))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3)
      ∧ r.2.mem ((c.tc : Thread Cert.SbRefIdeal.nD Cert.SbRefIdeal.τ).loc Cert.SbRefIdeal.main_arg4) = m ((c.tc : Thread Cert.SbRefIdeal.nD Cert.SbRefIdeal.τ).loc Cert.SbRefIdeal.main_arg4)
      ∧ r.2.mem ((c.tc : Thread Cert.SbRefIdeal.nD Cert.SbRefIdeal.τ).loc Cert.SbRefIdeal.main_arg5) = m ((c.tc : Thread Cert.SbRefIdeal.nD Cert.SbRefIdeal.τ).loc Cert.SbRefIdeal.main_arg5)
      ∧ r.2.mem ((c.tc : Thread Cert.SbRefIdeal.nD Cert.SbRefIdeal.τ).loc Cert.SbRefIdeal.main_arg6) = m ((c.tc : Thread Cert.SbRefIdeal.nD Cert.SbRefIdeal.τ).loc Cert.SbRefIdeal.main_arg6))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3)
      ∧ r.2.mem ((c.tc : Thread Cert.SbRefIdeal.nD Cert.SbRefIdeal.τ).loc Cert.SbRefIdeal.main_arg4) = m ((c.tc : Thread Cert.SbRefIdeal.nD Cert.SbRefIdeal.τ).loc Cert.SbRefIdeal.main_arg4)
      ∧ r.2.mem ((c.tc : Thread Cert.SbRefIdeal.nD Cert.SbRefIdeal.τ).loc Cert.SbRefIdeal.main_arg5) = m ((c.tc : Thread Cert.SbRefIdeal.nD Cert.SbRefIdeal.τ).loc Cert.SbRefIdeal.main_arg5)
      ∧ r.2.mem ((c.tc : Thread Cert.SbRefIdeal.nD Cert.SbRefIdeal.τ).loc Cert.SbRefIdeal.main_arg6) = m ((c.tc : Thread Cert.SbRefIdeal.nD Cert.SbRefIdeal.τ).loc Cert.SbRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Nrm [hNrm : Cert.Nrm.Facts] : Prop :=
  ∀ (m : (ℓ : Loc Cert.Nrm.nD Cert.Nrm.τ Cert.Nrm.sig) → Buf (Elt Bits) ℓ) (g : Dev Cert.Nrm.nD → PrngReg), Pre_Nrm m →
    θ_run (Cert.Nrm.defs (F := Bits)) (onTc (τ := Cert.Nrm.τ) (Cert.Nrm.main (F := Bits))) ⟨m, fun _ => 0, g⟩ (fun r => (∀ c : Dev Cert.Nrm.nD,
      r.2.mem ((c.tc : Thread Cert.Nrm.nD Cert.Nrm.τ).loc Cert.Nrm.main_arg0) = m ((c.tc : Thread Cert.Nrm.nD Cert.Nrm.τ).loc Cert.Nrm.main_arg0)
      ∧ r.2.mem ((c.tc : Thread Cert.Nrm.nD Cert.Nrm.τ).loc Cert.Nrm.main_arg1) = m ((c.tc : Thread Cert.Nrm.nD Cert.Nrm.τ).loc Cert.Nrm.main_arg1))
      ∧ r.2.sem = fun _ => 0)

def quiescent_NrmIdeal [hNrmIdeal : Cert.NrmIdeal.Facts] : Prop :=
  ∀ (m : (ℓ : Loc Cert.NrmIdeal.nD Cert.NrmIdeal.τ Cert.NrmIdeal.sig) → Buf (Elt Ideal) ℓ) (g : Dev Cert.NrmIdeal.nD → PrngReg), Pre_NrmIdeal m →
    θ_run (Cert.NrmIdeal.defs (F := Ideal)) (onTc (τ := Cert.NrmIdeal.τ) (Cert.NrmIdeal.main (F := Ideal))) ⟨m, fun _ => 0, g⟩ (fun r => (∀ c : Dev Cert.NrmIdeal.nD,
      r.2.mem ((c.tc : Thread Cert.NrmIdeal.nD Cert.NrmIdeal.τ).loc Cert.NrmIdeal.main_arg0) = m ((c.tc : Thread Cert.NrmIdeal.nD Cert.NrmIdeal.τ).loc Cert.NrmIdeal.main_arg0)
      ∧ r.2.mem ((c.tc : Thread Cert.NrmIdeal.nD Cert.NrmIdeal.τ).loc Cert.NrmIdeal.main_arg1) = m ((c.tc : Thread Cert.NrmIdeal.nD Cert.NrmIdeal.τ).loc Cert.NrmIdeal.main_arg1))
      ∧ r.2.sem = fun _ => 0)

def quiescent_NrmRefIdeal [hNrmRefIdeal : Cert.NrmRefIdeal.Facts] : Prop :=
  ∀ (m : (ℓ : Loc Cert.NrmRefIdeal.nD Cert.NrmRefIdeal.τ Cert.NrmRefIdeal.sig) → Buf (Elt Ideal) ℓ) (g : Dev Cert.NrmRefIdeal.nD → PrngReg), Pre_NrmRefIdeal m →
    θ_run (Cert.NrmRefIdeal.defs (F := Ideal)) (onTc (τ := Cert.NrmRefIdeal.τ) (Cert.NrmRefIdeal.main (F := Ideal))) ⟨m, fun _ => 0, g⟩ (fun r => (∀ c : Dev Cert.NrmRefIdeal.nD,
      r.2.mem ((c.tc : Thread Cert.NrmRefIdeal.nD Cert.NrmRefIdeal.τ).loc Cert.NrmRefIdeal.main_arg0) = m ((c.tc : Thread Cert.NrmRefIdeal.nD Cert.NrmRefIdeal.τ).loc Cert.NrmRefIdeal.main_arg0)
      ∧ r.2.mem ((c.tc : Thread Cert.NrmRefIdeal.nD Cert.NrmRefIdeal.τ).loc Cert.NrmRefIdeal.main_arg1) = m ((c.tc : Thread Cert.NrmRefIdeal.nD Cert.NrmRefIdeal.τ).loc Cert.NrmRefIdeal.main_arg1))
      ∧ r.2.sem = fun _ => 0)

def quiescent_Gatef [hGatef : Cert.Gatef.Facts] : Prop :=
  ∀ (m : (ℓ : Loc Cert.Gatef.nD Cert.Gatef.τ Cert.Gatef.sig) → Buf (Elt Bits) ℓ) (g : Dev Cert.Gatef.nD → PrngReg), Pre_Gatef m →
    θ_run (Cert.Gatef.defs (F := Bits)) (onTc (τ := Cert.Gatef.τ) (Cert.Gatef.main (F := Bits))) ⟨m, fun _ => 0, g⟩ (fun r => (∀ c : Dev Cert.Gatef.nD,
      r.2.mem ((c.tc : Thread Cert.Gatef.nD Cert.Gatef.τ).loc Cert.Gatef.main_arg0) = m ((c.tc : Thread Cert.Gatef.nD Cert.Gatef.τ).loc Cert.Gatef.main_arg0)
      ∧ r.2.mem ((c.tc : Thread Cert.Gatef.nD Cert.Gatef.τ).loc Cert.Gatef.main_arg1) = m ((c.tc : Thread Cert.Gatef.nD Cert.Gatef.τ).loc Cert.Gatef.main_arg1)
      ∧ r.2.mem ((c.tc : Thread Cert.Gatef.nD Cert.Gatef.τ).loc Cert.Gatef.main_arg2) = m ((c.tc : Thread Cert.Gatef.nD Cert.Gatef.τ).loc Cert.Gatef.main_arg2)
      ∧ r.2.mem ((c.tc : Thread Cert.Gatef.nD Cert.Gatef.τ).loc Cert.Gatef.main_arg3) = m ((c.tc : Thread Cert.Gatef.nD Cert.Gatef.τ).loc Cert.Gatef.main_arg3)
      ∧ r.2.mem ((c.tc : Thread Cert.Gatef.nD Cert.Gatef.τ).loc Cert.Gatef.main_arg4) = m ((c.tc : Thread Cert.Gatef.nD Cert.Gatef.τ).loc Cert.Gatef.main_arg4)
      ∧ r.2.mem ((c.tc : Thread Cert.Gatef.nD Cert.Gatef.τ).loc Cert.Gatef.main_arg5) = m ((c.tc : Thread Cert.Gatef.nD Cert.Gatef.τ).loc Cert.Gatef.main_arg5))
      ∧ r.2.sem = fun _ => 0)

def quiescent_GatefIdeal [hGatefIdeal : Cert.GatefIdeal.Facts] : Prop :=
  ∀ (m : (ℓ : Loc Cert.GatefIdeal.nD Cert.GatefIdeal.τ Cert.GatefIdeal.sig) → Buf (Elt Ideal) ℓ) (g : Dev Cert.GatefIdeal.nD → PrngReg), Pre_GatefIdeal m →
    θ_run (Cert.GatefIdeal.defs (F := Ideal)) (onTc (τ := Cert.GatefIdeal.τ) (Cert.GatefIdeal.main (F := Ideal))) ⟨m, fun _ => 0, g⟩ (fun r => (∀ c : Dev Cert.GatefIdeal.nD,
      r.2.mem ((c.tc : Thread Cert.GatefIdeal.nD Cert.GatefIdeal.τ).loc Cert.GatefIdeal.main_arg0) = m ((c.tc : Thread Cert.GatefIdeal.nD Cert.GatefIdeal.τ).loc Cert.GatefIdeal.main_arg0)
      ∧ r.2.mem ((c.tc : Thread Cert.GatefIdeal.nD Cert.GatefIdeal.τ).loc Cert.GatefIdeal.main_arg1) = m ((c.tc : Thread Cert.GatefIdeal.nD Cert.GatefIdeal.τ).loc Cert.GatefIdeal.main_arg1)
      ∧ r.2.mem ((c.tc : Thread Cert.GatefIdeal.nD Cert.GatefIdeal.τ).loc Cert.GatefIdeal.main_arg2) = m ((c.tc : Thread Cert.GatefIdeal.nD Cert.GatefIdeal.τ).loc Cert.GatefIdeal.main_arg2)
      ∧ r.2.mem ((c.tc : Thread Cert.GatefIdeal.nD Cert.GatefIdeal.τ).loc Cert.GatefIdeal.main_arg3) = m ((c.tc : Thread Cert.GatefIdeal.nD Cert.GatefIdeal.τ).loc Cert.GatefIdeal.main_arg3)
      ∧ r.2.mem ((c.tc : Thread Cert.GatefIdeal.nD Cert.GatefIdeal.τ).loc Cert.GatefIdeal.main_arg4) = m ((c.tc : Thread Cert.GatefIdeal.nD Cert.GatefIdeal.τ).loc Cert.GatefIdeal.main_arg4)
      ∧ r.2.mem ((c.tc : Thread Cert.GatefIdeal.nD Cert.GatefIdeal.τ).loc Cert.GatefIdeal.main_arg5) = m ((c.tc : Thread Cert.GatefIdeal.nD Cert.GatefIdeal.τ).loc Cert.GatefIdeal.main_arg5))
      ∧ r.2.sem = fun _ => 0)

def quiescent_GatefRefIdeal [hGatefRefIdeal : Cert.GatefRefIdeal.Facts] : Prop :=
  ∀ (m : (ℓ : Loc Cert.GatefRefIdeal.nD Cert.GatefRefIdeal.τ Cert.GatefRefIdeal.sig) → Buf (Elt Ideal) ℓ) (g : Dev Cert.GatefRefIdeal.nD → PrngReg), Pre_GatefRefIdeal m →
    θ_run (Cert.GatefRefIdeal.defs (F := Ideal)) (onTc (τ := Cert.GatefRefIdeal.τ) (Cert.GatefRefIdeal.main (F := Ideal))) ⟨m, fun _ => 0, g⟩ (fun r => (∀ c : Dev Cert.GatefRefIdeal.nD,
      r.2.mem ((c.tc : Thread Cert.GatefRefIdeal.nD Cert.GatefRefIdeal.τ).loc Cert.GatefRefIdeal.main_arg0) = m ((c.tc : Thread Cert.GatefRefIdeal.nD Cert.GatefRefIdeal.τ).loc Cert.GatefRefIdeal.main_arg0)
      ∧ r.2.mem ((c.tc : Thread Cert.GatefRefIdeal.nD Cert.GatefRefIdeal.τ).loc Cert.GatefRefIdeal.main_arg1) = m ((c.tc : Thread Cert.GatefRefIdeal.nD Cert.GatefRefIdeal.τ).loc Cert.GatefRefIdeal.main_arg1)
      ∧ r.2.mem ((c.tc : Thread Cert.GatefRefIdeal.nD Cert.GatefRefIdeal.τ).loc Cert.GatefRefIdeal.main_arg2) = m ((c.tc : Thread Cert.GatefRefIdeal.nD Cert.GatefRefIdeal.τ).loc Cert.GatefRefIdeal.main_arg2)
      ∧ r.2.mem ((c.tc : Thread Cert.GatefRefIdeal.nD Cert.GatefRefIdeal.τ).loc Cert.GatefRefIdeal.main_arg3) = m ((c.tc : Thread Cert.GatefRefIdeal.nD Cert.GatefRefIdeal.τ).loc Cert.GatefRefIdeal.main_arg3)
      ∧ r.2.mem ((c.tc : Thread Cert.GatefRefIdeal.nD Cert.GatefRefIdeal.τ).loc Cert.GatefRefIdeal.main_arg4) = m ((c.tc : Thread Cert.GatefRefIdeal.nD Cert.GatefRefIdeal.τ).loc Cert.GatefRefIdeal.main_arg4)
      ∧ r.2.mem ((c.tc : Thread Cert.GatefRefIdeal.nD Cert.GatefRefIdeal.τ).loc Cert.GatefRefIdeal.main_arg5) = m ((c.tc : Thread Cert.GatefRefIdeal.nD Cert.GatefRefIdeal.τ).loc Cert.GatefRefIdeal.main_arg5))
      ∧ r.2.sem = fun _ => 0)

def quiescent_Mmr [hMmr : Cert.Mmr.Facts] : Prop :=
  ∀ (m : (ℓ : Loc Cert.Mmr.nD Cert.Mmr.τ Cert.Mmr.sig) → Buf (Elt Bits) ℓ) (g : Dev Cert.Mmr.nD → PrngReg), Pre_Mmr m →
    θ_run (Cert.Mmr.defs (F := Bits)) (onTc (τ := Cert.Mmr.τ) (Cert.Mmr.main (F := Bits))) ⟨m, fun _ => 0, g⟩ (fun r => (∀ c : Dev Cert.Mmr.nD,
      r.2.mem ((c.tc : Thread Cert.Mmr.nD Cert.Mmr.τ).loc Cert.Mmr.main_arg0) = m ((c.tc : Thread Cert.Mmr.nD Cert.Mmr.τ).loc Cert.Mmr.main_arg0)
      ∧ r.2.mem ((c.tc : Thread Cert.Mmr.nD Cert.Mmr.τ).loc Cert.Mmr.main_arg1) = m ((c.tc : Thread Cert.Mmr.nD Cert.Mmr.τ).loc Cert.Mmr.main_arg1)
      ∧ r.2.mem ((c.tc : Thread Cert.Mmr.nD Cert.Mmr.τ).loc Cert.Mmr.main_arg2) = m ((c.tc : Thread Cert.Mmr.nD Cert.Mmr.τ).loc Cert.Mmr.main_arg2)
      ∧ r.2.mem ((c.tc : Thread Cert.Mmr.nD Cert.Mmr.τ).loc Cert.Mmr.main_arg3) = m ((c.tc : Thread Cert.Mmr.nD Cert.Mmr.τ).loc Cert.Mmr.main_arg3))
      ∧ r.2.sem = fun _ => 0)

def quiescent_MmrIdeal [hMmrIdeal : Cert.MmrIdeal.Facts] : Prop :=
  ∀ (m : (ℓ : Loc Cert.MmrIdeal.nD Cert.MmrIdeal.τ Cert.MmrIdeal.sig) → Buf (Elt Ideal) ℓ) (g : Dev Cert.MmrIdeal.nD → PrngReg), Pre_MmrIdeal m →
    θ_run (Cert.MmrIdeal.defs (F := Ideal)) (onTc (τ := Cert.MmrIdeal.τ) (Cert.MmrIdeal.main (F := Ideal))) ⟨m, fun _ => 0, g⟩ (fun r => (∀ c : Dev Cert.MmrIdeal.nD,
      r.2.mem ((c.tc : Thread Cert.MmrIdeal.nD Cert.MmrIdeal.τ).loc Cert.MmrIdeal.main_arg0) = m ((c.tc : Thread Cert.MmrIdeal.nD Cert.MmrIdeal.τ).loc Cert.MmrIdeal.main_arg0)
      ∧ r.2.mem ((c.tc : Thread Cert.MmrIdeal.nD Cert.MmrIdeal.τ).loc Cert.MmrIdeal.main_arg1) = m ((c.tc : Thread Cert.MmrIdeal.nD Cert.MmrIdeal.τ).loc Cert.MmrIdeal.main_arg1)
      ∧ r.2.mem ((c.tc : Thread Cert.MmrIdeal.nD Cert.MmrIdeal.τ).loc Cert.MmrIdeal.main_arg2) = m ((c.tc : Thread Cert.MmrIdeal.nD Cert.MmrIdeal.τ).loc Cert.MmrIdeal.main_arg2)
      ∧ r.2.mem ((c.tc : Thread Cert.MmrIdeal.nD Cert.MmrIdeal.τ).loc Cert.MmrIdeal.main_arg3) = m ((c.tc : Thread Cert.MmrIdeal.nD Cert.MmrIdeal.τ).loc Cert.MmrIdeal.main_arg3))
      ∧ r.2.sem = fun _ => 0)

def quiescent_MmrRefIdeal [hMmrRefIdeal : Cert.MmrRefIdeal.Facts] : Prop :=
  ∀ (m : (ℓ : Loc Cert.MmrRefIdeal.nD Cert.MmrRefIdeal.τ Cert.MmrRefIdeal.sig) → Buf (Elt Ideal) ℓ) (g : Dev Cert.MmrRefIdeal.nD → PrngReg), Pre_MmrRefIdeal m →
    θ_run (Cert.MmrRefIdeal.defs (F := Ideal)) (onTc (τ := Cert.MmrRefIdeal.τ) (Cert.MmrRefIdeal.main (F := Ideal))) ⟨m, fun _ => 0, g⟩ (fun r => (∀ c : Dev Cert.MmrRefIdeal.nD,
      r.2.mem ((c.tc : Thread Cert.MmrRefIdeal.nD Cert.MmrRefIdeal.τ).loc Cert.MmrRefIdeal.main_arg0) = m ((c.tc : Thread Cert.MmrRefIdeal.nD Cert.MmrRefIdeal.τ).loc Cert.MmrRefIdeal.main_arg0)
      ∧ r.2.mem ((c.tc : Thread Cert.MmrRefIdeal.nD Cert.MmrRefIdeal.τ).loc Cert.MmrRefIdeal.main_arg1) = m ((c.tc : Thread Cert.MmrRefIdeal.nD Cert.MmrRefIdeal.τ).loc Cert.MmrRefIdeal.main_arg1)
      ∧ r.2.mem ((c.tc : Thread Cert.MmrRefIdeal.nD Cert.MmrRefIdeal.τ).loc Cert.MmrRefIdeal.main_arg2) = m ((c.tc : Thread Cert.MmrRefIdeal.nD Cert.MmrRefIdeal.τ).loc Cert.MmrRefIdeal.main_arg2)
      ∧ r.2.mem ((c.tc : Thread Cert.MmrRefIdeal.nD Cert.MmrRefIdeal.τ).loc Cert.MmrRefIdeal.main_arg3) = m ((c.tc : Thread Cert.MmrRefIdeal.nD Cert.MmrRefIdeal.τ).loc Cert.MmrRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Mmd [hMmd : Cert.Mmd.Facts] : Prop :=
  ∀ (m : (ℓ : Loc Cert.Mmd.nD Cert.Mmd.τ Cert.Mmd.sig) → Buf (Elt Bits) ℓ) (g : Dev Cert.Mmd.nD → PrngReg), Pre_Mmd m →
    θ_run (Cert.Mmd.defs (F := Bits)) (onTc (τ := Cert.Mmd.τ) (Cert.Mmd.main (F := Bits))) ⟨m, fun _ => 0, g⟩ (fun r => (∀ c : Dev Cert.Mmd.nD,
      r.2.mem ((c.tc : Thread Cert.Mmd.nD Cert.Mmd.τ).loc Cert.Mmd.main_arg0) = m ((c.tc : Thread Cert.Mmd.nD Cert.Mmd.τ).loc Cert.Mmd.main_arg0)
      ∧ r.2.mem ((c.tc : Thread Cert.Mmd.nD Cert.Mmd.τ).loc Cert.Mmd.main_arg1) = m ((c.tc : Thread Cert.Mmd.nD Cert.Mmd.τ).loc Cert.Mmd.main_arg1)
      ∧ r.2.mem ((c.tc : Thread Cert.Mmd.nD Cert.Mmd.τ).loc Cert.Mmd.main_arg2) = m ((c.tc : Thread Cert.Mmd.nD Cert.Mmd.τ).loc Cert.Mmd.main_arg2)
      ∧ r.2.mem ((c.tc : Thread Cert.Mmd.nD Cert.Mmd.τ).loc Cert.Mmd.main_arg3) = m ((c.tc : Thread Cert.Mmd.nD Cert.Mmd.τ).loc Cert.Mmd.main_arg3)
      ∧ r.2.mem ((c.tc : Thread Cert.Mmd.nD Cert.Mmd.τ).loc Cert.Mmd.main_arg4) = m ((c.tc : Thread Cert.Mmd.nD Cert.Mmd.τ).loc Cert.Mmd.main_arg4))
      ∧ r.2.sem = fun _ => 0)

def quiescent_MmdIdeal [hMmdIdeal : Cert.MmdIdeal.Facts] : Prop :=
  ∀ (m : (ℓ : Loc Cert.MmdIdeal.nD Cert.MmdIdeal.τ Cert.MmdIdeal.sig) → Buf (Elt Ideal) ℓ) (g : Dev Cert.MmdIdeal.nD → PrngReg), Pre_MmdIdeal m →
    θ_run (Cert.MmdIdeal.defs (F := Ideal)) (onTc (τ := Cert.MmdIdeal.τ) (Cert.MmdIdeal.main (F := Ideal))) ⟨m, fun _ => 0, g⟩ (fun r => (∀ c : Dev Cert.MmdIdeal.nD,
      r.2.mem ((c.tc : Thread Cert.MmdIdeal.nD Cert.MmdIdeal.τ).loc Cert.MmdIdeal.main_arg0) = m ((c.tc : Thread Cert.MmdIdeal.nD Cert.MmdIdeal.τ).loc Cert.MmdIdeal.main_arg0)
      ∧ r.2.mem ((c.tc : Thread Cert.MmdIdeal.nD Cert.MmdIdeal.τ).loc Cert.MmdIdeal.main_arg1) = m ((c.tc : Thread Cert.MmdIdeal.nD Cert.MmdIdeal.τ).loc Cert.MmdIdeal.main_arg1)
      ∧ r.2.mem ((c.tc : Thread Cert.MmdIdeal.nD Cert.MmdIdeal.τ).loc Cert.MmdIdeal.main_arg2) = m ((c.tc : Thread Cert.MmdIdeal.nD Cert.MmdIdeal.τ).loc Cert.MmdIdeal.main_arg2)
      ∧ r.2.mem ((c.tc : Thread Cert.MmdIdeal.nD Cert.MmdIdeal.τ).loc Cert.MmdIdeal.main_arg3) = m ((c.tc : Thread Cert.MmdIdeal.nD Cert.MmdIdeal.τ).loc Cert.MmdIdeal.main_arg3)
      ∧ r.2.mem ((c.tc : Thread Cert.MmdIdeal.nD Cert.MmdIdeal.τ).loc Cert.MmdIdeal.main_arg4) = m ((c.tc : Thread Cert.MmdIdeal.nD Cert.MmdIdeal.τ).loc Cert.MmdIdeal.main_arg4))
      ∧ r.2.sem = fun _ => 0)

def quiescent_MmdRefIdeal [hMmdRefIdeal : Cert.MmdRefIdeal.Facts] : Prop :=
  ∀ (m : (ℓ : Loc Cert.MmdRefIdeal.nD Cert.MmdRefIdeal.τ Cert.MmdRefIdeal.sig) → Buf (Elt Ideal) ℓ) (g : Dev Cert.MmdRefIdeal.nD → PrngReg), Pre_MmdRefIdeal m →
    θ_run (Cert.MmdRefIdeal.defs (F := Ideal)) (onTc (τ := Cert.MmdRefIdeal.τ) (Cert.MmdRefIdeal.main (F := Ideal))) ⟨m, fun _ => 0, g⟩ (fun r => (∀ c : Dev Cert.MmdRefIdeal.nD,
      r.2.mem ((c.tc : Thread Cert.MmdRefIdeal.nD Cert.MmdRefIdeal.τ).loc Cert.MmdRefIdeal.main_arg0) = m ((c.tc : Thread Cert.MmdRefIdeal.nD Cert.MmdRefIdeal.τ).loc Cert.MmdRefIdeal.main_arg0)
      ∧ r.2.mem ((c.tc : Thread Cert.MmdRefIdeal.nD Cert.MmdRefIdeal.τ).loc Cert.MmdRefIdeal.main_arg1) = m ((c.tc : Thread Cert.MmdRefIdeal.nD Cert.MmdRefIdeal.τ).loc Cert.MmdRefIdeal.main_arg1)
      ∧ r.2.mem ((c.tc : Thread Cert.MmdRefIdeal.nD Cert.MmdRefIdeal.τ).loc Cert.MmdRefIdeal.main_arg2) = m ((c.tc : Thread Cert.MmdRefIdeal.nD Cert.MmdRefIdeal.τ).loc Cert.MmdRefIdeal.main_arg2)
      ∧ r.2.mem ((c.tc : Thread Cert.MmdRefIdeal.nD Cert.MmdRefIdeal.τ).loc Cert.MmdRefIdeal.main_arg3) = m ((c.tc : Thread Cert.MmdRefIdeal.nD Cert.MmdRefIdeal.τ).loc Cert.MmdRefIdeal.main_arg3)
      ∧ r.2.mem ((c.tc : Thread Cert.MmdRefIdeal.nD Cert.MmdRefIdeal.τ).loc Cert.MmdRefIdeal.main_arg4) = m ((c.tc : Thread Cert.MmdRefIdeal.nD Cert.MmdRefIdeal.τ).loc Cert.MmdRefIdeal.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)) →
    ∃ (v0 : (c : Dev Cert.GateIdeal.nD) → Buf (Elt Ideal) ((c.tc : Thread Cert.GateIdeal.nD Cert.GateIdeal.τ).loc Cert.GateIdeal.main_v20_0)) (v1 : (c : Dev Cert.GateIdeal.nD) → Buf (Elt Ideal) ((c.tc : Thread Cert.GateIdeal.nD Cert.GateIdeal.τ).loc Cert.GateIdeal.main_v20_1)) (v2 : (c : Dev Cert.GateIdeal.nD) → Buf (Elt Ideal) ((c.tc : Thread Cert.GateIdeal.nD Cert.GateIdeal.τ).loc Cert.GateIdeal.main_v20_2)) (v3 : (c : Dev Cert.GateIdeal.nD) → Buf (Elt Ideal) ((c.tc : Thread Cert.GateIdeal.nD Cert.GateIdeal.τ).loc Cert.GateIdeal.main_v20_3)) (v4 : (c : Dev Cert.GateIdeal.nD) → Buf (Elt Ideal) ((c.tc : Thread Cert.GateIdeal.nD Cert.GateIdeal.τ).loc Cert.GateIdeal.main_v20_4)) (v5 : (c : Dev Cert.GateIdeal.nD) → Buf (Elt Ideal) ((c.tc : Thread Cert.GateIdeal.nD Cert.GateIdeal.τ).loc Cert.GateIdeal.main_v20_5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v20_0) = v0 c
          ∧ r.2.mem ((c.tc : Thread Cert.GateIdeal.nD Cert.GateIdeal.τ).loc Cert.GateIdeal.main_v20_1) = v1 c
          ∧ r.2.mem ((c.tc : Thread Cert.GateIdeal.nD Cert.GateIdeal.τ).loc Cert.GateIdeal.main_v20_2) = v2 c
          ∧ r.2.mem ((c.tc : Thread Cert.GateIdeal.nD Cert.GateIdeal.τ).loc Cert.GateIdeal.main_v20_3) = v3 c
          ∧ r.2.mem ((c.tc : Thread Cert.GateIdeal.nD Cert.GateIdeal.τ).loc Cert.GateIdeal.main_v20_4) = v4 c
          ∧ r.2.mem ((c.tc : Thread Cert.GateIdeal.nD Cert.GateIdeal.τ).loc Cert.GateIdeal.main_v20_5) = v5 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v66) = v0 c
          ∧ r.2.mem ((c.tc : Thread Cert.GateRefIdeal.nD Cert.GateRefIdeal.τ).loc Cert.GateRefIdeal.main_v67) = v1 c
          ∧ r.2.mem ((c.tc : Thread Cert.GateRefIdeal.nD Cert.GateRefIdeal.τ).loc Cert.GateRefIdeal.main_v68) = v2 c
          ∧ r.2.mem ((c.tc : Thread Cert.GateRefIdeal.nD Cert.GateRefIdeal.τ).loc Cert.GateRefIdeal.main_v65) = v3 c
          ∧ r.2.mem ((c.tc : Thread Cert.GateRefIdeal.nD Cert.GateRefIdeal.τ).loc Cert.GateRefIdeal.main_v69) = v4 c
          ∧ r.2.mem ((c.tc : Thread Cert.GateRefIdeal.nD Cert.GateRefIdeal.τ).loc Cert.GateRefIdeal.main_v70) = v5 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7))

def preserves_Fox_FoxIdeal : Prop :=
  True

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)
      ∧ m' ((c.tc : Thread Cert.FoxRefIdeal.nD Cert.FoxRefIdeal.τ).loc Cert.FoxRefIdeal.main_arg5) = m ((c.tc : Thread Cert.FoxIdeal.nD Cert.FoxIdeal.τ).loc Cert.FoxIdeal.main_arg5)
      ∧ m' ((c.tc : Thread Cert.FoxRefIdeal.nD Cert.FoxRefIdeal.τ).loc Cert.FoxRefIdeal.main_arg6) = m ((c.tc : Thread Cert.FoxIdeal.nD Cert.FoxIdeal.τ).loc Cert.FoxIdeal.main_arg6)
      ∧ m' ((c.tc : Thread Cert.FoxRefIdeal.nD Cert.FoxRefIdeal.τ).loc Cert.FoxRefIdeal.main_arg7) = m ((c.tc : Thread Cert.FoxIdeal.nD Cert.FoxIdeal.τ).loc Cert.FoxIdeal.main_arg7)) →
    ∃ (v0 : (c : Dev Cert.FoxIdeal.nD) → Buf (Elt Ideal) ((c.tc : Thread Cert.FoxIdeal.nD Cert.FoxIdeal.τ).loc Cert.FoxIdeal.main_v58_0)) (v1 : (c : Dev Cert.FoxIdeal.nD) → Buf (Elt Ideal) ((c.tc : Thread Cert.FoxIdeal.nD Cert.FoxIdeal.τ).loc Cert.FoxIdeal.main_v58_1)) (v2 : (c : Dev Cert.FoxIdeal.nD) → Buf (Elt Ideal) ((c.tc : Thread Cert.FoxIdeal.nD Cert.FoxIdeal.τ).loc Cert.FoxIdeal.main_v58_2)) (v3 : (c : Dev Cert.FoxIdeal.nD) → Buf (Elt Ideal) ((c.tc : Thread Cert.FoxIdeal.nD Cert.FoxIdeal.τ).loc Cert.FoxIdeal.main_v58_3)) (v4 : (c : Dev Cert.FoxIdeal.nD) → Buf (Elt Ideal) ((c.tc : Thread Cert.FoxIdeal.nD Cert.FoxIdeal.τ).loc Cert.FoxIdeal.main_v58_4)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v58_0) = v0 c
          ∧ r.2.mem ((c.tc : Thread Cert.FoxIdeal.nD Cert.FoxIdeal.τ).loc Cert.FoxIdeal.main_v58_1) = v1 c
          ∧ r.2.mem ((c.tc : Thread Cert.FoxIdeal.nD Cert.FoxIdeal.τ).loc Cert.FoxIdeal.main_v58_2) = v2 c
          ∧ r.2.mem ((c.tc : Thread Cert.FoxIdeal.nD Cert.FoxIdeal.τ).loc Cert.FoxIdeal.main_v58_3) = v3 c
          ∧ r.2.mem ((c.tc : Thread Cert.FoxIdeal.nD Cert.FoxIdeal.τ).loc Cert.FoxIdeal.main_v58_4) = v4 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
          ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
          ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6)
          ∧ r.2.mem ((c.tc : Thread Cert.FoxIdeal.nD Cert.FoxIdeal.τ).loc Cert.FoxIdeal.main_arg7) = m ((c.tc : Thread Cert.FoxIdeal.nD Cert.FoxIdeal.τ).loc Cert.FoxIdeal.main_arg7))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v91) = v0 c
          ∧ r.2.mem ((c.tc : Thread Cert.FoxRefIdeal.nD Cert.FoxRefIdeal.τ).loc Cert.FoxRefIdeal.main_v93) = v1 c
          ∧ r.2.mem ((c.tc : Thread Cert.FoxRefIdeal.nD Cert.FoxRefIdeal.τ).loc Cert.FoxRefIdeal.main_v95) = v2 c
          ∧ r.2.mem ((c.tc : Thread Cert.FoxRefIdeal.nD Cert.FoxRefIdeal.τ).loc Cert.FoxRefIdeal.main_v100) = v3 c
          ∧ r.2.mem ((c.tc : Thread Cert.FoxRefIdeal.nD Cert.FoxRefIdeal.τ).loc Cert.FoxRefIdeal.main_v104) = v4 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4)
          ∧ r.2.mem ((c.tc : Thread Cert.FoxRefIdeal.nD Cert.FoxRefIdeal.τ).loc Cert.FoxRefIdeal.main_arg5) = m' ((c.tc : Thread Cert.FoxRefIdeal.nD Cert.FoxRefIdeal.τ).loc Cert.FoxRefIdeal.main_arg5)
          ∧ r.2.mem ((c.tc : Thread Cert.FoxRefIdeal.nD Cert.FoxRefIdeal.τ).loc Cert.FoxRefIdeal.main_arg6) = m' ((c.tc : Thread Cert.FoxRefIdeal.nD Cert.FoxRefIdeal.τ).loc Cert.FoxRefIdeal.main_arg6)
          ∧ r.2.mem ((c.tc : Thread Cert.FoxRefIdeal.nD Cert.FoxRefIdeal.τ).loc Cert.FoxRefIdeal.main_arg7) = m' ((c.tc : Thread Cert.FoxRefIdeal.nD Cert.FoxRefIdeal.τ).loc Cert.FoxRefIdeal.main_arg7))

def preserves_Sb_SbIdeal : Prop :=
  True

def algebraic_SbIdeal_SbRefIdeal_pre_sb_finite [hSbIdeal : Cert.SbIdeal.Facts] [hSbRefIdeal : Cert.SbRefIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_sb_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)
      ∧ m' ((c.tc : Thread Cert.SbRefIdeal.nD Cert.SbRefIdeal.τ).loc Cert.SbRefIdeal.main_arg3) = m ((c.tc : Thread Cert.SbIdeal.nD Cert.SbIdeal.τ).loc Cert.SbIdeal.main_arg3)
      ∧ m' ((c.tc : Thread Cert.SbRefIdeal.nD Cert.SbRefIdeal.τ).loc Cert.SbRefIdeal.main_arg4) = m ((c.tc : Thread Cert.SbIdeal.nD Cert.SbIdeal.τ).loc Cert.SbIdeal.main_arg4)
      ∧ m' ((c.tc : Thread Cert.SbRefIdeal.nD Cert.SbRefIdeal.τ).loc Cert.SbRefIdeal.main_arg5) = m ((c.tc : Thread Cert.SbIdeal.nD Cert.SbIdeal.τ).loc Cert.SbIdeal.main_arg5)
      ∧ m' ((c.tc : Thread Cert.SbRefIdeal.nD Cert.SbRefIdeal.τ).loc Cert.SbRefIdeal.main_arg6) = m ((c.tc : Thread Cert.SbIdeal.nD Cert.SbIdeal.τ).loc Cert.SbIdeal.main_arg6)) →
    ∃ (v0 : (c : Dev Cert.SbIdeal.nD) → Buf (Elt Ideal) ((c.tc : Thread Cert.SbIdeal.nD Cert.SbIdeal.τ).loc Cert.SbIdeal.main_v32_0)) (v1 : (c : Dev Cert.SbIdeal.nD) → Buf (Elt Ideal) ((c.tc : Thread Cert.SbIdeal.nD Cert.SbIdeal.τ).loc Cert.SbIdeal.main_v32_1)) (v2 : (c : Dev Cert.SbIdeal.nD) → Buf (Elt Ideal) ((c.tc : Thread Cert.SbIdeal.nD Cert.SbIdeal.τ).loc Cert.SbIdeal.main_v32_2)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v32_0) = v0 c
          ∧ r.2.mem ((c.tc : Thread Cert.SbIdeal.nD Cert.SbIdeal.τ).loc Cert.SbIdeal.main_v32_1) = v1 c
          ∧ r.2.mem ((c.tc : Thread Cert.SbIdeal.nD Cert.SbIdeal.τ).loc Cert.SbIdeal.main_v32_2) = v2 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
          ∧ r.2.mem ((c.tc : Thread Cert.SbIdeal.nD Cert.SbIdeal.τ).loc Cert.SbIdeal.main_arg4) = m ((c.tc : Thread Cert.SbIdeal.nD Cert.SbIdeal.τ).loc Cert.SbIdeal.main_arg4)
          ∧ r.2.mem ((c.tc : Thread Cert.SbIdeal.nD Cert.SbIdeal.τ).loc Cert.SbIdeal.main_arg5) = m ((c.tc : Thread Cert.SbIdeal.nD Cert.SbIdeal.τ).loc Cert.SbIdeal.main_arg5)
          ∧ r.2.mem ((c.tc : Thread Cert.SbIdeal.nD Cert.SbIdeal.τ).loc Cert.SbIdeal.main_arg6) = m ((c.tc : Thread Cert.SbIdeal.nD Cert.SbIdeal.τ).loc Cert.SbIdeal.main_arg6))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v54) = v0 c
          ∧ r.2.mem ((c.tc : Thread Cert.SbRefIdeal.nD Cert.SbRefIdeal.τ).loc Cert.SbRefIdeal.main_v56) = v1 c
          ∧ r.2.mem ((c.tc : Thread Cert.SbRefIdeal.nD Cert.SbRefIdeal.τ).loc Cert.SbRefIdeal.main_v58) = v2 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2)
          ∧ r.2.mem ((c.tc : Thread Cert.SbRefIdeal.nD Cert.SbRefIdeal.τ).loc Cert.SbRefIdeal.main_arg3) = m' ((c.tc : Thread Cert.SbRefIdeal.nD Cert.SbRefIdeal.τ).loc Cert.SbRefIdeal.main_arg3)
          ∧ r.2.mem ((c.tc : Thread Cert.SbRefIdeal.nD Cert.SbRefIdeal.τ).loc Cert.SbRefIdeal.main_arg4) = m' ((c.tc : Thread Cert.SbRefIdeal.nD Cert.SbRefIdeal.τ).loc Cert.SbRefIdeal.main_arg4)
          ∧ r.2.mem ((c.tc : Thread Cert.SbRefIdeal.nD Cert.SbRefIdeal.τ).loc Cert.SbRefIdeal.main_arg5) = m' ((c.tc : Thread Cert.SbRefIdeal.nD Cert.SbRefIdeal.τ).loc Cert.SbRefIdeal.main_arg5)
          ∧ r.2.mem ((c.tc : Thread Cert.SbRefIdeal.nD Cert.SbRefIdeal.τ).loc Cert.SbRefIdeal.main_arg6) = m' ((c.tc : Thread Cert.SbRefIdeal.nD Cert.SbRefIdeal.τ).loc Cert.SbRefIdeal.main_arg6))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v6_0)) (v1 : (c : Dev Cert.PleIdeal.nD) → Buf (Elt Ideal) ((c.tc : Thread Cert.PleIdeal.nD Cert.PleIdeal.τ).loc Cert.PleIdeal.main_v6_1)) (v2 : (c : Dev Cert.PleIdeal.nD) → Buf (Elt Ideal) ((c.tc : Thread Cert.PleIdeal.nD Cert.PleIdeal.τ).loc Cert.PleIdeal.main_v6_2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v6_0) = v0 c
          ∧ r.2.mem ((c.tc : Thread Cert.PleIdeal.nD Cert.PleIdeal.τ).loc Cert.PleIdeal.main_v6_1) = v1 c
          ∧ r.2.mem ((c.tc : Thread Cert.PleIdeal.nD Cert.PleIdeal.τ).loc Cert.PleIdeal.main_v6_2) = v2 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v44) = v0 c
          ∧ r.2.mem ((c.tc : Thread Cert.PleRefIdeal.nD Cert.PleRefIdeal.τ).loc Cert.PleRefIdeal.main_v45) = v1 c
          ∧ r.2.mem ((c.tc : Thread Cert.PleRefIdeal.nD Cert.PleRefIdeal.τ).loc Cert.PleRefIdeal.main_v29) = v2 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v8_0)) (v1 : (c : Dev Cert.MlpIdeal.nD) → Buf (Elt Ideal) ((c.tc : Thread Cert.MlpIdeal.nD Cert.MlpIdeal.τ).loc Cert.MlpIdeal.main_v8_1)) (v2 : (c : Dev Cert.MlpIdeal.nD) → Buf (Elt Ideal) ((c.tc : Thread Cert.MlpIdeal.nD Cert.MlpIdeal.τ).loc Cert.MlpIdeal.main_v8_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8_0) = v0 c
          ∧ r.2.mem ((c.tc : Thread Cert.MlpIdeal.nD Cert.MlpIdeal.τ).loc Cert.MlpIdeal.main_v8_1) = v1 c
          ∧ r.2.mem ((c.tc : Thread Cert.MlpIdeal.nD Cert.MlpIdeal.τ).loc Cert.MlpIdeal.main_v8_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v44) = v0 c
          ∧ r.2.mem ((c.tc : Thread Cert.MlpRefIdeal.nD Cert.MlpRefIdeal.τ).loc Cert.MlpRefIdeal.main_v45) = v1 c
          ∧ r.2.mem ((c.tc : Thread Cert.MlpRefIdeal.nD Cert.MlpRefIdeal.τ).loc Cert.MlpRefIdeal.main_v29) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v10)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v10) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v17) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Post_PostIdeal : Prop :=
  True

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v13_0)) (v1 : (c : Dev Cert.PostIdeal.nD) → Buf (Elt Ideal) ((c.tc : Thread Cert.PostIdeal.nD Cert.PostIdeal.τ).loc Cert.PostIdeal.main_v13_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v13_0) = v0 c
          ∧ r.2.mem ((c.tc : Thread Cert.PostIdeal.nD Cert.PostIdeal.τ).loc Cert.PostIdeal.main_v13_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v20) = v0 c
          ∧ r.2.mem ((c.tc : Thread Cert.PostRefIdeal.nD Cert.PostRefIdeal.τ).loc Cert.PostRefIdeal.main_v22) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v5_0)) (v1 : (c : Dev Cert.PrepIdeal.nD) → Buf (Elt Ideal) ((c.tc : Thread Cert.PrepIdeal.nD Cert.PrepIdeal.τ).loc Cert.PrepIdeal.main_v5_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5_0) = v0 c
          ∧ r.2.mem ((c.tc : Thread Cert.PrepIdeal.nD Cert.PrepIdeal.τ).loc Cert.PrepIdeal.main_v5_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v10) = v0 c
          ∧ r.2.mem ((c.tc : Thread Cert.PrepRefIdeal.nD Cert.PrepRefIdeal.τ).loc Cert.PrepRefIdeal.main_v11) = v1 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v26_0)) (v1 : (c : Dev Cert.HeadIdeal.nD) → Buf (Elt Ideal) ((c.tc : Thread Cert.HeadIdeal.nD Cert.HeadIdeal.τ).loc Cert.HeadIdeal.main_v26_1)) (v2 : (c : Dev Cert.HeadIdeal.nD) → Buf (Elt Ideal) ((c.tc : Thread Cert.HeadIdeal.nD Cert.HeadIdeal.τ).loc Cert.HeadIdeal.main_v26_2)) (v3 : (c : Dev Cert.HeadIdeal.nD) → Buf (Elt Ideal) ((c.tc : Thread Cert.HeadIdeal.nD Cert.HeadIdeal.τ).loc Cert.HeadIdeal.main_v26_3)) (v4 : (c : Dev Cert.HeadIdeal.nD) → Buf (Elt Ideal) ((c.tc : Thread Cert.HeadIdeal.nD Cert.HeadIdeal.τ).loc Cert.HeadIdeal.main_v26_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v26_0) = v0 c
          ∧ r.2.mem ((c.tc : Thread Cert.HeadIdeal.nD Cert.HeadIdeal.τ).loc Cert.HeadIdeal.main_v26_1) = v1 c
          ∧ r.2.mem ((c.tc : Thread Cert.HeadIdeal.nD Cert.HeadIdeal.τ).loc Cert.HeadIdeal.main_v26_2) = v2 c
          ∧ r.2.mem ((c.tc : Thread Cert.HeadIdeal.nD Cert.HeadIdeal.τ).loc Cert.HeadIdeal.main_v26_3) = v3 c
          ∧ r.2.mem ((c.tc : Thread Cert.HeadIdeal.nD Cert.HeadIdeal.τ).loc Cert.HeadIdeal.main_v26_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v82) = v0 c
          ∧ r.2.mem ((c.tc : Thread Cert.HeadRefIdeal.nD Cert.HeadRefIdeal.τ).loc Cert.HeadRefIdeal.main_v86) = v1 c
          ∧ r.2.mem ((c.tc : Thread Cert.HeadRefIdeal.nD Cert.HeadRefIdeal.τ).loc Cert.HeadRefIdeal.main_v87) = v2 c
          ∧ r.2.mem ((c.tc : Thread Cert.HeadRefIdeal.nD Cert.HeadRefIdeal.τ).loc Cert.HeadRefIdeal.main_v88) = v3 c
          ∧ r.2.mem ((c.tc : Thread Cert.HeadRefIdeal.nD Cert.HeadRefIdeal.τ).loc Cert.HeadRefIdeal.main_v89) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v21_0)) (v1 : (c : Dev Cert.MixIdeal.nD) → Buf (Elt Ideal) ((c.tc : Thread Cert.MixIdeal.nD Cert.MixIdeal.τ).loc Cert.MixIdeal.main_v21_1)) (v2 : (c : Dev Cert.MixIdeal.nD) → Buf (Elt Ideal) ((c.tc : Thread Cert.MixIdeal.nD Cert.MixIdeal.τ).loc Cert.MixIdeal.main_v21_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v21_0) = v0 c
          ∧ r.2.mem ((c.tc : Thread Cert.MixIdeal.nD Cert.MixIdeal.τ).loc Cert.MixIdeal.main_v21_1) = v1 c
          ∧ r.2.mem ((c.tc : Thread Cert.MixIdeal.nD Cert.MixIdeal.τ).loc Cert.MixIdeal.main_v21_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v49) = v0 c
          ∧ r.2.mem ((c.tc : Thread Cert.MixRefIdeal.nD Cert.MixRefIdeal.τ).loc Cert.MixRefIdeal.main_v50) = v1 c
          ∧ r.2.mem ((c.tc : Thread Cert.MixRefIdeal.nD Cert.MixRefIdeal.τ).loc Cert.MixRefIdeal.main_v34) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Nrm_NrmIdeal : Prop :=
  True

def algebraic_NrmIdeal_NrmRefIdeal [hNrmIdeal : Cert.NrmIdeal.Facts] [hNrmRefIdeal : Cert.NrmRefIdeal.Facts] : Prop :=
  ∀ (m : (ℓ : Loc Cert.NrmIdeal.nD Cert.NrmIdeal.τ Cert.NrmIdeal.sig) → Buf (Elt Ideal) ℓ) (g : Dev Cert.NrmIdeal.nD → PrngReg)
    (m' : (ℓ : Loc Cert.NrmRefIdeal.nD Cert.NrmRefIdeal.τ Cert.NrmRefIdeal.sig) → Buf (Elt Ideal) ℓ) (g' : Dev Cert.NrmRefIdeal.nD → PrngReg), Pre_NrmIdeal m →
    (∀ c : Dev Cert.NrmIdeal.nD,
      m' ((c.tc : Thread Cert.NrmRefIdeal.nD Cert.NrmRefIdeal.τ).loc Cert.NrmRefIdeal.main_arg0) = m ((c.tc : Thread Cert.NrmIdeal.nD Cert.NrmIdeal.τ).loc Cert.NrmIdeal.main_arg0)
      ∧ m' ((c.tc : Thread Cert.NrmRefIdeal.nD Cert.NrmRefIdeal.τ).loc Cert.NrmRefIdeal.main_arg1) = m ((c.tc : Thread Cert.NrmIdeal.nD Cert.NrmIdeal.τ).loc Cert.NrmIdeal.main_arg1)) →
    ∃ (v0 : (c : Dev Cert.NrmIdeal.nD) → Buf (Elt Ideal) ((c.tc : Thread Cert.NrmIdeal.nD Cert.NrmIdeal.τ).loc Cert.NrmIdeal.main_v1)),
      θ_run (Cert.NrmIdeal.defs (F := Ideal)) (onTc (τ := Cert.NrmIdeal.τ) (Cert.NrmIdeal.main (F := Ideal))) ⟨m, fun _ => 0, g⟩ (fun r => ∀ c : Dev Cert.NrmIdeal.nD,
          r.2.mem ((c.tc : Thread Cert.NrmIdeal.nD Cert.NrmIdeal.τ).loc Cert.NrmIdeal.main_v1) = v0 c
          ∧ r.2.mem ((c.tc : Thread Cert.NrmIdeal.nD Cert.NrmIdeal.τ).loc Cert.NrmIdeal.main_arg0) = m ((c.tc : Thread Cert.NrmIdeal.nD Cert.NrmIdeal.τ).loc Cert.NrmIdeal.main_arg0)
          ∧ r.2.mem ((c.tc : Thread Cert.NrmIdeal.nD Cert.NrmIdeal.τ).loc Cert.NrmIdeal.main_arg1) = m ((c.tc : Thread Cert.NrmIdeal.nD Cert.NrmIdeal.τ).loc Cert.NrmIdeal.main_arg1))
      ∧ θ_run (Cert.NrmRefIdeal.defs (F := Ideal)) (onTc (τ := Cert.NrmRefIdeal.τ) (Cert.NrmRefIdeal.main (F := Ideal))) ⟨m', fun _ => 0, g'⟩ (fun r => ∀ c : Dev Cert.NrmRefIdeal.nD,
          r.2.mem ((c.tc : Thread Cert.NrmRefIdeal.nD Cert.NrmRefIdeal.τ).loc Cert.NrmRefIdeal.main_v15) = v0 c
          ∧ r.2.mem ((c.tc : Thread Cert.NrmRefIdeal.nD Cert.NrmRefIdeal.τ).loc Cert.NrmRefIdeal.main_arg0) = m' ((c.tc : Thread Cert.NrmRefIdeal.nD Cert.NrmRefIdeal.τ).loc Cert.NrmRefIdeal.main_arg0)
          ∧ r.2.mem ((c.tc : Thread Cert.NrmRefIdeal.nD Cert.NrmRefIdeal.τ).loc Cert.NrmRefIdeal.main_arg1) = m' ((c.tc : Thread Cert.NrmRefIdeal.nD Cert.NrmRefIdeal.τ).loc Cert.NrmRefIdeal.main_arg1))

def preserves_Gatef_GatefIdeal : Prop :=
  True

def algebraic_GatefIdeal_GatefRefIdeal [hGatefIdeal : Cert.GatefIdeal.Facts] [hGatefRefIdeal : Cert.GatefRefIdeal.Facts] : Prop :=
  ∀ (m : (ℓ : Loc Cert.GatefIdeal.nD Cert.GatefIdeal.τ Cert.GatefIdeal.sig) → Buf (Elt Ideal) ℓ) (g : Dev Cert.GatefIdeal.nD → PrngReg)
    (m' : (ℓ : Loc Cert.GatefRefIdeal.nD Cert.GatefRefIdeal.τ Cert.GatefRefIdeal.sig) → Buf (Elt Ideal) ℓ) (g' : Dev Cert.GatefRefIdeal.nD → PrngReg), Pre_GatefIdeal m →
    (∀ c : Dev Cert.GatefIdeal.nD,
      m' ((c.tc : Thread Cert.GatefRefIdeal.nD Cert.GatefRefIdeal.τ).loc Cert.GatefRefIdeal.main_arg0) = m ((c.tc : Thread Cert.GatefIdeal.nD Cert.GatefIdeal.τ).loc Cert.GatefIdeal.main_arg0)
      ∧ m' ((c.tc : Thread Cert.GatefRefIdeal.nD Cert.GatefRefIdeal.τ).loc Cert.GatefRefIdeal.main_arg1) = m ((c.tc : Thread Cert.GatefIdeal.nD Cert.GatefIdeal.τ).loc Cert.GatefIdeal.main_arg1)
      ∧ m' ((c.tc : Thread Cert.GatefRefIdeal.nD Cert.GatefRefIdeal.τ).loc Cert.GatefRefIdeal.main_arg2) = m ((c.tc : Thread Cert.GatefIdeal.nD Cert.GatefIdeal.τ).loc Cert.GatefIdeal.main_arg2)
      ∧ m' ((c.tc : Thread Cert.GatefRefIdeal.nD Cert.GatefRefIdeal.τ).loc Cert.GatefRefIdeal.main_arg3) = m ((c.tc : Thread Cert.GatefIdeal.nD Cert.GatefIdeal.τ).loc Cert.GatefIdeal.main_arg3)
      ∧ m' ((c.tc : Thread Cert.GatefRefIdeal.nD Cert.GatefRefIdeal.τ).loc Cert.GatefRefIdeal.main_arg4) = m ((c.tc : Thread Cert.GatefIdeal.nD Cert.GatefIdeal.τ).loc Cert.GatefIdeal.main_arg4)
      ∧ m' ((c.tc : Thread Cert.GatefRefIdeal.nD Cert.GatefRefIdeal.τ).loc Cert.GatefRefIdeal.main_arg5) = m ((c.tc : Thread Cert.GatefIdeal.nD Cert.GatefIdeal.τ).loc Cert.GatefIdeal.main_arg5)) →
    ∃ (v0 : (c : Dev Cert.GatefIdeal.nD) → Buf (Elt Ideal) ((c.tc : Thread Cert.GatefIdeal.nD Cert.GatefIdeal.τ).loc Cert.GatefIdeal.main_v14_0)) (v1 : (c : Dev Cert.GatefIdeal.nD) → Buf (Elt Ideal) ((c.tc : Thread Cert.GatefIdeal.nD Cert.GatefIdeal.τ).loc Cert.GatefIdeal.main_v14_1)) (v2 : (c : Dev Cert.GatefIdeal.nD) → Buf (Elt Ideal) ((c.tc : Thread Cert.GatefIdeal.nD Cert.GatefIdeal.τ).loc Cert.GatefIdeal.main_v14_2)),
      θ_run (Cert.GatefIdeal.defs (F := Ideal)) (onTc (τ := Cert.GatefIdeal.τ) (Cert.GatefIdeal.main (F := Ideal))) ⟨m, fun _ => 0, g⟩ (fun r => ∀ c : Dev Cert.GatefIdeal.nD,
          r.2.mem ((c.tc : Thread Cert.GatefIdeal.nD Cert.GatefIdeal.τ).loc Cert.GatefIdeal.main_v14_0) = v0 c
          ∧ r.2.mem ((c.tc : Thread Cert.GatefIdeal.nD Cert.GatefIdeal.τ).loc Cert.GatefIdeal.main_v14_1) = v1 c
          ∧ r.2.mem ((c.tc : Thread Cert.GatefIdeal.nD Cert.GatefIdeal.τ).loc Cert.GatefIdeal.main_v14_2) = v2 c
          ∧ r.2.mem ((c.tc : Thread Cert.GatefIdeal.nD Cert.GatefIdeal.τ).loc Cert.GatefIdeal.main_arg0) = m ((c.tc : Thread Cert.GatefIdeal.nD Cert.GatefIdeal.τ).loc Cert.GatefIdeal.main_arg0)
          ∧ r.2.mem ((c.tc : Thread Cert.GatefIdeal.nD Cert.GatefIdeal.τ).loc Cert.GatefIdeal.main_arg1) = m ((c.tc : Thread Cert.GatefIdeal.nD Cert.GatefIdeal.τ).loc Cert.GatefIdeal.main_arg1)
          ∧ r.2.mem ((c.tc : Thread Cert.GatefIdeal.nD Cert.GatefIdeal.τ).loc Cert.GatefIdeal.main_arg2) = m ((c.tc : Thread Cert.GatefIdeal.nD Cert.GatefIdeal.τ).loc Cert.GatefIdeal.main_arg2)
          ∧ r.2.mem ((c.tc : Thread Cert.GatefIdeal.nD Cert.GatefIdeal.τ).loc Cert.GatefIdeal.main_arg3) = m ((c.tc : Thread Cert.GatefIdeal.nD Cert.GatefIdeal.τ).loc Cert.GatefIdeal.main_arg3)
          ∧ r.2.mem ((c.tc : Thread Cert.GatefIdeal.nD Cert.GatefIdeal.τ).loc Cert.GatefIdeal.main_arg4) = m ((c.tc : Thread Cert.GatefIdeal.nD Cert.GatefIdeal.τ).loc Cert.GatefIdeal.main_arg4)
          ∧ r.2.mem ((c.tc : Thread Cert.GatefIdeal.nD Cert.GatefIdeal.τ).loc Cert.GatefIdeal.main_arg5) = m ((c.tc : Thread Cert.GatefIdeal.nD Cert.GatefIdeal.τ).loc Cert.GatefIdeal.main_arg5))
      ∧ θ_run (Cert.GatefRefIdeal.defs (F := Ideal)) (onTc (τ := Cert.GatefRefIdeal.τ) (Cert.GatefRefIdeal.main (F := Ideal))) ⟨m', fun _ => 0, g'⟩ (fun r => ∀ c : Dev Cert.GatefRefIdeal.nD,
          r.2.mem ((c.tc : Thread Cert.GatefRefIdeal.nD Cert.GatefRefIdeal.τ).loc Cert.GatefRefIdeal.main_v34) = v0 c
          ∧ r.2.mem ((c.tc : Thread Cert.GatefRefIdeal.nD Cert.GatefRefIdeal.τ).loc Cert.GatefRefIdeal.main_v4) = v1 c
          ∧ r.2.mem ((c.tc : Thread Cert.GatefRefIdeal.nD Cert.GatefRefIdeal.τ).loc Cert.GatefRefIdeal.main_v6) = v2 c
          ∧ r.2.mem ((c.tc : Thread Cert.GatefRefIdeal.nD Cert.GatefRefIdeal.τ).loc Cert.GatefRefIdeal.main_arg0) = m' ((c.tc : Thread Cert.GatefRefIdeal.nD Cert.GatefRefIdeal.τ).loc Cert.GatefRefIdeal.main_arg0)
          ∧ r.2.mem ((c.tc : Thread Cert.GatefRefIdeal.nD Cert.GatefRefIdeal.τ).loc Cert.GatefRefIdeal.main_arg1) = m' ((c.tc : Thread Cert.GatefRefIdeal.nD Cert.GatefRefIdeal.τ).loc Cert.GatefRefIdeal.main_arg1)
          ∧ r.2.mem ((c.tc : Thread Cert.GatefRefIdeal.nD Cert.GatefRefIdeal.τ).loc Cert.GatefRefIdeal.main_arg2) = m' ((c.tc : Thread Cert.GatefRefIdeal.nD Cert.GatefRefIdeal.τ).loc Cert.GatefRefIdeal.main_arg2)
          ∧ r.2.mem ((c.tc : Thread Cert.GatefRefIdeal.nD Cert.GatefRefIdeal.τ).loc Cert.GatefRefIdeal.main_arg3) = m' ((c.tc : Thread Cert.GatefRefIdeal.nD Cert.GatefRefIdeal.τ).loc Cert.GatefRefIdeal.main_arg3)
          ∧ r.2.mem ((c.tc : Thread Cert.GatefRefIdeal.nD Cert.GatefRefIdeal.τ).loc Cert.GatefRefIdeal.main_arg4) = m' ((c.tc : Thread Cert.GatefRefIdeal.nD Cert.GatefRefIdeal.τ).loc Cert.GatefRefIdeal.main_arg4)
          ∧ r.2.mem ((c.tc : Thread Cert.GatefRefIdeal.nD Cert.GatefRefIdeal.τ).loc Cert.GatefRefIdeal.main_arg5) = m' ((c.tc : Thread Cert.GatefRefIdeal.nD Cert.GatefRefIdeal.τ).loc Cert.GatefRefIdeal.main_arg5))

def preserves_Mmr_MmrIdeal : Prop :=
  True

def algebraic_MmrIdeal_MmrRefIdeal [hMmrIdeal : Cert.MmrIdeal.Facts] [hMmrRefIdeal : Cert.MmrRefIdeal.Facts] : Prop :=
  ∀ (m : (ℓ : Loc Cert.MmrIdeal.nD Cert.MmrIdeal.τ Cert.MmrIdeal.sig) → Buf (Elt Ideal) ℓ) (g : Dev Cert.MmrIdeal.nD → PrngReg)
    (m' : (ℓ : Loc Cert.MmrRefIdeal.nD Cert.MmrRefIdeal.τ Cert.MmrRefIdeal.sig) → Buf (Elt Ideal) ℓ) (g' : Dev Cert.MmrRefIdeal.nD → PrngReg), Pre_MmrIdeal m →
    (∀ c : Dev Cert.MmrIdeal.nD,
      m' ((c.tc : Thread Cert.MmrRefIdeal.nD Cert.MmrRefIdeal.τ).loc Cert.MmrRefIdeal.main_arg0) = m ((c.tc : Thread Cert.MmrIdeal.nD Cert.MmrIdeal.τ).loc Cert.MmrIdeal.main_arg0)
      ∧ m' ((c.tc : Thread Cert.MmrRefIdeal.nD Cert.MmrRefIdeal.τ).loc Cert.MmrRefIdeal.main_arg1) = m ((c.tc : Thread Cert.MmrIdeal.nD Cert.MmrIdeal.τ).loc Cert.MmrIdeal.main_arg1)
      ∧ m' ((c.tc : Thread Cert.MmrRefIdeal.nD Cert.MmrRefIdeal.τ).loc Cert.MmrRefIdeal.main_arg2) = m ((c.tc : Thread Cert.MmrIdeal.nD Cert.MmrIdeal.τ).loc Cert.MmrIdeal.main_arg2)
      ∧ m' ((c.tc : Thread Cert.MmrRefIdeal.nD Cert.MmrRefIdeal.τ).loc Cert.MmrRefIdeal.main_arg3) = m ((c.tc : Thread Cert.MmrIdeal.nD Cert.MmrIdeal.τ).loc Cert.MmrIdeal.main_arg3)) →
    ∃ (v0 : (c : Dev Cert.MmrIdeal.nD) → Buf (Elt Ideal) ((c.tc : Thread Cert.MmrIdeal.nD Cert.MmrIdeal.τ).loc Cert.MmrIdeal.main_v5_0)) (v1 : (c : Dev Cert.MmrIdeal.nD) → Buf (Elt Ideal) ((c.tc : Thread Cert.MmrIdeal.nD Cert.MmrIdeal.τ).loc Cert.MmrIdeal.main_v5_1)),
      θ_run (Cert.MmrIdeal.defs (F := Ideal)) (onTc (τ := Cert.MmrIdeal.τ) (Cert.MmrIdeal.main (F := Ideal))) ⟨m, fun _ => 0, g⟩ (fun r => ∀ c : Dev Cert.MmrIdeal.nD,
          r.2.mem ((c.tc : Thread Cert.MmrIdeal.nD Cert.MmrIdeal.τ).loc Cert.MmrIdeal.main_v5_0) = v0 c
          ∧ r.2.mem ((c.tc : Thread Cert.MmrIdeal.nD Cert.MmrIdeal.τ).loc Cert.MmrIdeal.main_v5_1) = v1 c
          ∧ r.2.mem ((c.tc : Thread Cert.MmrIdeal.nD Cert.MmrIdeal.τ).loc Cert.MmrIdeal.main_arg0) = m ((c.tc : Thread Cert.MmrIdeal.nD Cert.MmrIdeal.τ).loc Cert.MmrIdeal.main_arg0)
          ∧ r.2.mem ((c.tc : Thread Cert.MmrIdeal.nD Cert.MmrIdeal.τ).loc Cert.MmrIdeal.main_arg1) = m ((c.tc : Thread Cert.MmrIdeal.nD Cert.MmrIdeal.τ).loc Cert.MmrIdeal.main_arg1)
          ∧ r.2.mem ((c.tc : Thread Cert.MmrIdeal.nD Cert.MmrIdeal.τ).loc Cert.MmrIdeal.main_arg2) = m ((c.tc : Thread Cert.MmrIdeal.nD Cert.MmrIdeal.τ).loc Cert.MmrIdeal.main_arg2)
          ∧ r.2.mem ((c.tc : Thread Cert.MmrIdeal.nD Cert.MmrIdeal.τ).loc Cert.MmrIdeal.main_arg3) = m ((c.tc : Thread Cert.MmrIdeal.nD Cert.MmrIdeal.τ).loc Cert.MmrIdeal.main_arg3))
      ∧ θ_run (Cert.MmrRefIdeal.defs (F := Ideal)) (onTc (τ := Cert.MmrRefIdeal.τ) (Cert.MmrRefIdeal.main (F := Ideal))) ⟨m', fun _ => 0, g'⟩ (fun r => ∀ c : Dev Cert.MmrRefIdeal.nD,
          r.2.mem ((c.tc : Thread Cert.MmrRefIdeal.nD Cert.MmrRefIdeal.τ).loc Cert.MmrRefIdeal.main_v4) = v0 c
          ∧ r.2.mem ((c.tc : Thread Cert.MmrRefIdeal.nD Cert.MmrRefIdeal.τ).loc Cert.MmrRefIdeal.main_v19) = v1 c
          ∧ r.2.mem ((c.tc : Thread Cert.MmrRefIdeal.nD Cert.MmrRefIdeal.τ).loc Cert.MmrRefIdeal.main_arg0) = m' ((c.tc : Thread Cert.MmrRefIdeal.nD Cert.MmrRefIdeal.τ).loc Cert.MmrRefIdeal.main_arg0)
          ∧ r.2.mem ((c.tc : Thread Cert.MmrRefIdeal.nD Cert.MmrRefIdeal.τ).loc Cert.MmrRefIdeal.main_arg1) = m' ((c.tc : Thread Cert.MmrRefIdeal.nD Cert.MmrRefIdeal.τ).loc Cert.MmrRefIdeal.main_arg1)
          ∧ r.2.mem ((c.tc : Thread Cert.MmrRefIdeal.nD Cert.MmrRefIdeal.τ).loc Cert.MmrRefIdeal.main_arg2) = m' ((c.tc : Thread Cert.MmrRefIdeal.nD Cert.MmrRefIdeal.τ).loc Cert.MmrRefIdeal.main_arg2)
          ∧ r.2.mem ((c.tc : Thread Cert.MmrRefIdeal.nD Cert.MmrRefIdeal.τ).loc Cert.MmrRefIdeal.main_arg3) = m' ((c.tc : Thread Cert.MmrRefIdeal.nD Cert.MmrRefIdeal.τ).loc Cert.MmrRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v6)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Mmd_MmdIdeal : Prop :=
  True

def algebraic_MmdIdeal_MmdRefIdeal [hMmdIdeal : Cert.MmdIdeal.Facts] [hMmdRefIdeal : Cert.MmdRefIdeal.Facts] : Prop :=
  ∀ (m : (ℓ : Loc Cert.MmdIdeal.nD Cert.MmdIdeal.τ Cert.MmdIdeal.sig) → Buf (Elt Ideal) ℓ) (g : Dev Cert.MmdIdeal.nD → PrngReg)
    (m' : (ℓ : Loc Cert.MmdRefIdeal.nD Cert.MmdRefIdeal.τ Cert.MmdRefIdeal.sig) → Buf (Elt Ideal) ℓ) (g' : Dev Cert.MmdRefIdeal.nD → PrngReg), Pre_MmdIdeal m →
    (∀ c : Dev Cert.MmdIdeal.nD,
      m' ((c.tc : Thread Cert.MmdRefIdeal.nD Cert.MmdRefIdeal.τ).loc Cert.MmdRefIdeal.main_arg0) = m ((c.tc : Thread Cert.MmdIdeal.nD Cert.MmdIdeal.τ).loc Cert.MmdIdeal.main_arg0)
      ∧ m' ((c.tc : Thread Cert.MmdRefIdeal.nD Cert.MmdRefIdeal.τ).loc Cert.MmdRefIdeal.main_arg1) = m ((c.tc : Thread Cert.MmdIdeal.nD Cert.MmdIdeal.τ).loc Cert.MmdIdeal.main_arg1)
      ∧ m' ((c.tc : Thread Cert.MmdRefIdeal.nD Cert.MmdRefIdeal.τ).loc Cert.MmdRefIdeal.main_arg2) = m ((c.tc : Thread Cert.MmdIdeal.nD Cert.MmdIdeal.τ).loc Cert.MmdIdeal.main_arg2)
      ∧ m' ((c.tc : Thread Cert.MmdRefIdeal.nD Cert.MmdRefIdeal.τ).loc Cert.MmdRefIdeal.main_arg3) = m ((c.tc : Thread Cert.MmdIdeal.nD Cert.MmdIdeal.τ).loc Cert.MmdIdeal.main_arg3)
      ∧ m' ((c.tc : Thread Cert.MmdRefIdeal.nD Cert.MmdRefIdeal.τ).loc Cert.MmdRefIdeal.main_arg4) = m ((c.tc : Thread Cert.MmdIdeal.nD Cert.MmdIdeal.τ).loc Cert.MmdIdeal.main_arg4)) →
    ∃ (v0 : (c : Dev Cert.MmdIdeal.nD) → Buf (Elt Ideal) ((c.tc : Thread Cert.MmdIdeal.nD Cert.MmdIdeal.τ).loc Cert.MmdIdeal.main_v9_0)) (v1 : (c : Dev Cert.MmdIdeal.nD) → Buf (Elt Ideal) ((c.tc : Thread Cert.MmdIdeal.nD Cert.MmdIdeal.τ).loc Cert.MmdIdeal.main_v9_1)),
      θ_run (Cert.MmdIdeal.defs (F := Ideal)) (onTc (τ := Cert.MmdIdeal.τ) (Cert.MmdIdeal.main (F := Ideal))) ⟨m, fun _ => 0, g⟩ (fun r => ∀ c : Dev Cert.MmdIdeal.nD,
          r.2.mem ((c.tc : Thread Cert.MmdIdeal.nD Cert.MmdIdeal.τ).loc Cert.MmdIdeal.main_v9_0) = v0 c
          ∧ r.2.mem ((c.tc : Thread Cert.MmdIdeal.nD Cert.MmdIdeal.τ).loc Cert.MmdIdeal.main_v9_1) = v1 c
          ∧ r.2.mem ((c.tc : Thread Cert.MmdIdeal.nD Cert.MmdIdeal.τ).loc Cert.MmdIdeal.main_arg0) = m ((c.tc : Thread Cert.MmdIdeal.nD Cert.MmdIdeal.τ).loc Cert.MmdIdeal.main_arg0)
          ∧ r.2.mem ((c.tc : Thread Cert.MmdIdeal.nD Cert.MmdIdeal.τ).loc Cert.MmdIdeal.main_arg1) = m ((c.tc : Thread Cert.MmdIdeal.nD Cert.MmdIdeal.τ).loc Cert.MmdIdeal.main_arg1)
          ∧ r.2.mem ((c.tc : Thread Cert.MmdIdeal.nD Cert.MmdIdeal.τ).loc Cert.MmdIdeal.main_arg2) = m ((c.tc : Thread Cert.MmdIdeal.nD Cert.MmdIdeal.τ).loc Cert.MmdIdeal.main_arg2)
          ∧ r.2.mem ((c.tc : Thread Cert.MmdIdeal.nD Cert.MmdIdeal.τ).loc Cert.MmdIdeal.main_arg3) = m ((c.tc : Thread Cert.MmdIdeal.nD Cert.MmdIdeal.τ).loc Cert.MmdIdeal.main_arg3)
          ∧ r.2.mem ((c.tc : Thread Cert.MmdIdeal.nD Cert.MmdIdeal.τ).loc Cert.MmdIdeal.main_arg4) = m ((c.tc : Thread Cert.MmdIdeal.nD Cert.MmdIdeal.τ).loc Cert.MmdIdeal.main_arg4))
      ∧ θ_run (Cert.MmdRefIdeal.defs (F := Ideal)) (onTc (τ := Cert.MmdRefIdeal.τ) (Cert.MmdRefIdeal.main (F := Ideal))) ⟨m', fun _ => 0, g'⟩ (fun r => ∀ c : Dev Cert.MmdRefIdeal.nD,
          r.2.mem ((c.tc : Thread Cert.MmdRefIdeal.nD Cert.MmdRefIdeal.τ).loc Cert.MmdRefIdeal.main_v8) = v0 c
          ∧ r.2.mem ((c.tc : Thread Cert.MmdRefIdeal.nD Cert.MmdRefIdeal.τ).loc Cert.MmdRefIdeal.main_v23) = v1 c
          ∧ r.2.mem ((c.tc : Thread Cert.MmdRefIdeal.nD Cert.MmdRefIdeal.τ).loc Cert.MmdRefIdeal.main_arg0) = m' ((c.tc : Thread Cert.MmdRefIdeal.nD Cert.MmdRefIdeal.τ).loc Cert.MmdRefIdeal.main_arg0)
          ∧ r.2.mem ((c.tc : Thread Cert.MmdRefIdeal.nD Cert.MmdRefIdeal.τ).loc Cert.MmdRefIdeal.main_arg1) = m' ((c.tc : Thread Cert.MmdRefIdeal.nD Cert.MmdRefIdeal.τ).loc Cert.MmdRefIdeal.main_arg1)
          ∧ r.2.mem ((c.tc : Thread Cert.MmdRefIdeal.nD Cert.MmdRefIdeal.τ).loc Cert.MmdRefIdeal.main_arg2) = m' ((c.tc : Thread Cert.MmdRefIdeal.nD Cert.MmdRefIdeal.τ).loc Cert.MmdRefIdeal.main_arg2)
          ∧ r.2.mem ((c.tc : Thread Cert.MmdRefIdeal.nD Cert.MmdRefIdeal.τ).loc Cert.MmdRefIdeal.main_arg3) = m' ((c.tc : Thread Cert.MmdRefIdeal.nD Cert.MmdRefIdeal.τ).loc Cert.MmdRefIdeal.main_arg3)
          ∧ r.2.mem ((c.tc : Thread Cert.MmdRefIdeal.nD Cert.MmdRefIdeal.τ).loc Cert.MmdRefIdeal.main_arg4) = m' ((c.tc : Thread Cert.MmdRefIdeal.nD Cert.MmdRefIdeal.τ).loc Cert.MmdRefIdeal.main_arg4))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hGate : Cert.Gate.Facts) (hGateIdeal : Cert.GateIdeal.Facts) (hGateRefIdeal : Cert.GateRefIdeal.Facts) (hFox : Cert.Fox.Facts) (hFoxIdeal : Cert.FoxIdeal.Facts) (hFoxRefIdeal : Cert.FoxRefIdeal.Facts) (hSb : Cert.Sb.Facts) (hSbIdeal : Cert.SbIdeal.Facts) (hSbRefIdeal : Cert.SbRefIdeal.Facts) (hPle : Cert.Ple.Facts) (hPleIdeal : Cert.PleIdeal.Facts) (hPleRefIdeal : Cert.PleRefIdeal.Facts) (hMlp : Cert.Mlp.Facts) (hMlpIdeal : Cert.MlpIdeal.Facts) (hMlpRefIdeal : Cert.MlpRefIdeal.Facts) (hAct : Cert.Act.Facts) (hActIdeal : Cert.ActIdeal.Facts) (hActRefIdeal : Cert.ActRefIdeal.Facts) (hPost : Cert.Post.Facts) (hPostIdeal : Cert.PostIdeal.Facts) (hPostRefIdeal : Cert.PostRefIdeal.Facts) (hPrep : Cert.Prep.Facts) (hPrepIdeal : Cert.PrepIdeal.Facts) (hPrepRefIdeal : Cert.PrepRefIdeal.Facts) (hHead : Cert.Head.Facts) (hHeadIdeal : Cert.HeadIdeal.Facts) (hHeadRefIdeal : Cert.HeadRefIdeal.Facts) (hMix : Cert.Mix.Facts) (hMixIdeal : Cert.MixIdeal.Facts) (hMixRefIdeal : Cert.MixRefIdeal.Facts) (hNrm : Cert.Nrm.Facts) (hNrmIdeal : Cert.NrmIdeal.Facts) (hNrmRefIdeal : Cert.NrmRefIdeal.Facts) (hGatef : Cert.Gatef.Facts) (hGatefIdeal : Cert.GatefIdeal.Facts) (hGatefRefIdeal : Cert.GatefRefIdeal.Facts) (hMmr : Cert.Mmr.Facts) (hMmrIdeal : Cert.MmrIdeal.Facts) (hMmrRefIdeal : Cert.MmrRefIdeal.Facts) (hUp : Cert.Up.Facts) (hUpIdeal : Cert.UpIdeal.Facts) (hUpRefIdeal : Cert.UpRefIdeal.Facts) (hMmd : Cert.Mmd.Facts) (hMmdIdeal : Cert.MmdIdeal.Facts) (hMmdRefIdeal : Cert.MmdRefIdeal.Facts) (hAdam : Cert.Adam.Facts) (hAdamIdeal : Cert.AdamIdeal.Facts) (hAdamRefIdeal : Cert.AdamRefIdeal.Facts) (hPre_fox_finite : Cert.Pre_fox_finite.Facts) (hPre_sb_finite : Cert.Pre_sb_finite.Facts) (hPre_post_finite : Cert.Pre_post_finite.Facts),
    quiescent_Gate (hGate := hGate)
    ∧ quiescent_GateIdeal (hGateIdeal := hGateIdeal)
    ∧ quiescent_GateRefIdeal (hGateRefIdeal := hGateRefIdeal)
    ∧ quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Sb (hSb := hSb)
    ∧ quiescent_SbIdeal (hSbIdeal := hSbIdeal)
    ∧ quiescent_SbIdeal_pre_sb_finite (hSbIdeal := hSbIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_Ple (hPle := hPle)
    ∧ quiescent_PleIdeal (hPleIdeal := hPleIdeal)
    ∧ quiescent_PleRefIdeal (hPleRefIdeal := hPleRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Act (hAct := hAct)
    ∧ quiescent_ActIdeal (hActIdeal := hActIdeal)
    ∧ quiescent_ActRefIdeal (hActRefIdeal := hActRefIdeal)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_Prep (hPrep := hPrep)
    ∧ quiescent_PrepIdeal (hPrepIdeal := hPrepIdeal)
    ∧ quiescent_PrepRefIdeal (hPrepRefIdeal := hPrepRefIdeal)
    ∧ quiescent_Head (hHead := hHead)
    ∧ quiescent_HeadIdeal (hHeadIdeal := hHeadIdeal)
    ∧ quiescent_HeadRefIdeal (hHeadRefIdeal := hHeadRefIdeal)
    ∧ quiescent_Mix (hMix := hMix)
    ∧ quiescent_MixIdeal (hMixIdeal := hMixIdeal)
    ∧ quiescent_MixRefIdeal (hMixRefIdeal := hMixRefIdeal)
    ∧ quiescent_Nrm (hNrm := hNrm)
    ∧ quiescent_NrmIdeal (hNrmIdeal := hNrmIdeal)
    ∧ quiescent_NrmRefIdeal (hNrmRefIdeal := hNrmRefIdeal)
    ∧ quiescent_Gatef (hGatef := hGatef)
    ∧ quiescent_GatefIdeal (hGatefIdeal := hGatefIdeal)
    ∧ quiescent_GatefRefIdeal (hGatefRefIdeal := hGatefRefIdeal)
    ∧ quiescent_Mmr (hMmr := hMmr)
    ∧ quiescent_MmrIdeal (hMmrIdeal := hMmrIdeal)
    ∧ quiescent_MmrRefIdeal (hMmrRefIdeal := hMmrRefIdeal)
    ∧ quiescent_Up (hUp := hUp)
    ∧ quiescent_UpIdeal (hUpIdeal := hUpIdeal)
    ∧ quiescent_UpRefIdeal (hUpRefIdeal := hUpRefIdeal)
    ∧ quiescent_Mmd (hMmd := hMmd)
    ∧ quiescent_MmdIdeal (hMmdIdeal := hMmdIdeal)
    ∧ quiescent_MmdRefIdeal (hMmdRefIdeal := hMmdRefIdeal)
    ∧ quiescent_Adam (hAdam := hAdam)
    ∧ quiescent_AdamIdeal (hAdamIdeal := hAdamIdeal)
    ∧ quiescent_AdamRefIdeal (hAdamRefIdeal := hAdamRefIdeal)
    ∧ preserves_Gate_GateIdeal
    ∧ algebraic_GateIdeal_GateRefIdeal (hGateIdeal := hGateIdeal) (hGateRefIdeal := hGateRefIdeal)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Sb_SbIdeal
    ∧ algebraic_SbIdeal_SbRefIdeal_pre_sb_finite (hSbIdeal := hSbIdeal) (hSbRefIdeal := hSbRefIdeal) (hPre_sb_finite := hPre_sb_finite)
    ∧ preserves_Ple_PleIdeal
    ∧ algebraic_PleIdeal_PleRefIdeal (hPleIdeal := hPleIdeal) (hPleRefIdeal := hPleRefIdeal)
    ∧ preserves_Mlp_MlpIdeal
    ∧ algebraic_MlpIdeal_MlpRefIdeal (hMlpIdeal := hMlpIdeal) (hMlpRefIdeal := hMlpRefIdeal)
    ∧ preserves_Act_ActIdeal
    ∧ algebraic_ActIdeal_ActRefIdeal (hActIdeal := hActIdeal) (hActRefIdeal := hActRefIdeal)
    ∧ preserves_Post_PostIdeal
    ∧ algebraic_PostIdeal_PostRefIdeal_pre_post_finite (hPostIdeal := hPostIdeal) (hPostRefIdeal := hPostRefIdeal) (hPre_post_finite := hPre_post_finite)
    ∧ preserves_Prep_PrepIdeal
    ∧ algebraic_PrepIdeal_PrepRefIdeal (hPrepIdeal := hPrepIdeal) (hPrepRefIdeal := hPrepRefIdeal)
    ∧ preserves_Head_HeadIdeal
    ∧ algebraic_HeadIdeal_HeadRefIdeal (hHeadIdeal := hHeadIdeal) (hHeadRefIdeal := hHeadRefIdeal)
    ∧ preserves_Mix_MixIdeal
    ∧ algebraic_MixIdeal_MixRefIdeal (hMixIdeal := hMixIdeal) (hMixRefIdeal := hMixRefIdeal)
    ∧ preserves_Nrm_NrmIdeal
    ∧ algebraic_NrmIdeal_NrmRefIdeal (hNrmIdeal := hNrmIdeal) (hNrmRefIdeal := hNrmRefIdeal)
    ∧ preserves_Gatef_GatefIdeal
    ∧ algebraic_GatefIdeal_GatefRefIdeal (hGatefIdeal := hGatefIdeal) (hGatefRefIdeal := hGatefRefIdeal)
    ∧ preserves_Mmr_MmrIdeal
    ∧ algebraic_MmrIdeal_MmrRefIdeal (hMmrIdeal := hMmrIdeal) (hMmrRefIdeal := hMmrRefIdeal)
    ∧ preserves_Up_UpIdeal
    ∧ algebraic_UpIdeal_UpRefIdeal (hUpIdeal := hUpIdeal) (hUpRefIdeal := hUpRefIdeal)
    ∧ preserves_Mmd_MmdIdeal
    ∧ algebraic_MmdIdeal_MmdRefIdeal (hMmdIdeal := hMmdIdeal) (hMmdRefIdeal := hMmdRefIdeal)
    ∧ preserves_Adam_AdamIdeal
    ∧ algebraic_AdamIdeal_AdamRefIdeal (hAdamIdeal := hAdamIdeal) (hAdamRefIdeal := hAdamRefIdeal)
-- ==== Pre_fox_finite.lean ====
abbrev S2x2048x512 : Shape := ⟨3, ![2, 2048, 512]⟩
abbrev S2x8x2048 : Shape := ⟨3, ![2, 8, 2048]⟩
abbrev S_ : Shape := ⟨0, ![]⟩

class Facts : Prop where
  bcast_S_S2x2048x512 : S_.BroadcastsInDim S2x2048x512 (![] : Fin 0 → Fin S2x2048x512.rank)
  bcast_S_S2x8x2048 : S_.BroadcastsInDim S2x8x2048 (![] : Fin 0 → Fin S2x8x2048.rank)

variable [Facts]

def fn {F : FTy → Type} [FloatOps F] (main_arg0 : FVec F S2x2048x512 .f32) (main_arg1 : FVec F S2x2048x512 .f32) (main_arg2 : FVec F S2x2048x512 .f32) (main_arg3 : FVec F S2x8x2048 .f32) (main_arg4 : FVec F S2x2048x512 .f32) (main_arg5 : FVec F S2x2048x512 .f32) (main_arg6 : FVec F S2x2048x512 .f32) (main_arg7 : FVec F S2x2048x512 .f32) : IVec S2x2048x512 1 × IVec S2x2048x512 1 × IVec S2x2048x512 1 × IVec S2x8x2048 1 × IVec S2x2048x512 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2x2048x512 .f32 := Host.absf main_arg1
  let main_cst_0 : FVec F S_ .f32 := constant S_ .f32 0x7F800000#32
  let main_v4 : FVec F S2x2048x512 .f32 := broadcastInDim S2x2048x512 ![] bcast_S_S2x2048x512 main_cst_0
  let main_v5 : IVec S2x2048x512 1 := cmpf .olt main_v3 main_v4
  let main_v6 : FVec F S2x2048x512 .f32 := Host.absf main_arg2
  let main_cst_1 : FVec F S_ .f32 := constant S_ .f32 0x7F800000#32
  let main_v7 : FVec F S2x2048x512 .f32 := broadcastInDim S2x2048x512 ![] bcast_S_S2x2048x512 main_cst_1
  let main_v8 : IVec S2x2048x512 1 := cmpf .olt main_v6 main_v7
  let main_v9 : FVec F S2x8x2048 .f32 := Host.absf main_arg3
  let main_cst_2 : FVec F S_ .f32 := constant S_ .f32 0x7F800000#32
  let main_v10 : FVec F S2x8x2048 .f32 := broadcastInDim S2x8x2048 ![] bcast_S_S2x8x2048 main_cst_2
  let main_v11 : IVec S2x8x2048 1 := cmpf .olt main_v9 main_v10
  let main_v12 : FVec F S2x2048x512 .f32 := Host.absf main_arg7
  let main_cst_3 : FVec F S_ .f32 := constant S_ .f32 0x7F800000#32
  let main_v13 : FVec F S2x2048x512 .f32 := broadcastInDim S2x2048x512 ![] bcast_S_S2x2048x512 main_cst_3
  let main_v14 : IVec S2x2048x512 1 := cmpf .olt main_v12 main_v13
  (main_v2, main_v5, main_v8, main_v11, main_v14)
-- ==== Pre_post_finite.lean ====
abbrev S2x2048x8 : Shape := ⟨3, ![2, 2048, 8]⟩
abbrev S1x8 : Shape := ⟨2, ![1, 8]⟩
abbrev S2x8x2048 : Shape := ⟨3, ![2, 8, 2048]⟩
abbrev S_ : Shape := ⟨0, ![]⟩

class Facts : Prop where
  bcast_S_S2x8x2048 : S_.BroadcastsInDim S2x8x2048 (![] : Fin 0 → Fin S2x8x2048.rank)

variable [Facts]

def fn {F : FTy → Type} [FloatOps F] (main_arg0 : FVec F S2x2048x8 .f32) (main_arg1 : FVec F S1x8 .f32) (main_arg2 : FVec F S2x8x2048 .f32) (main_arg3 : FVec F S2x8x2048 .f32) : IVec S2x8x2048 1 × IVec S2x8x2048 1 :=
  let main_v0 : FVec F S2x8x2048 .f32 := Host.absf main_arg2
  let main_cst : FVec F S_ .f32 := constant S_ .f32 0x7F800000#32
  let main_v1 : FVec F S2x8x2048 .f32 := broadcastInDim S2x8x2048 ![] bcast_S_S2x8x2048 main_cst
  let main_v2 : IVec S2x8x2048 1 := cmpf .olt main_v0 main_v1
  let main_v3 : FVec F S2x8x2048 .f32 := Host.absf main_arg3
  let main_cst_0 : FVec F S_ .f32 := constant S_ .f32 0x7F800000#32
  let main_v4 : FVec F S2x8x2048 .f32 := broadcastInDim S2x8x2048 ![] bcast_S_S2x8x2048 main_cst_0
  let main_v5 : IVec S2x8x2048 1 := cmpf .olt main_v3 main_v4
  (main_v2, main_v5)
-- ==== Pre_sb_finite.lean ====
abbrev S2x2048x512 : Shape := ⟨3, ![2, 2048, 512]⟩
abbrev S_ : Shape := ⟨0, ![]⟩

class Facts : Prop where
  bcast_S_S2x2048x512 : S_.BroadcastsInDim S2x2048x512 (![] : Fin 0 → Fin S2x2048x512.rank)

variable [Facts]

def fn {F : FTy → Type} [FloatOps F] (main_arg0 : FVec F S2x2048x512 .f32) (main_arg1 : FVec F S2x2048x512 .f32) (main_arg2 : FVec F S2x2048x512 .f32) (main_arg3 : FVec F S2x2048x512 .f32) (main_arg4 : FVec F S2x2048x512 .f32) (main_arg5 : FVec F S2x2048x512 .f32) (main_arg6 : FVec F S2x2048x512 .f32) : IVec S2x2048x512 1 × IVec S2x2048x512 1 × IVec S2x2048x512 1 × IVec S2x2048x512 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2x2048x512 .f32 := Host.absf main_arg1
  let main_cst_0 : FVec F S_ .f32 := constant S_ .f32 0x7F800000#32
  let main_v4 : FVec F S2x2048x512 .f32 := broadcastInDim S2x2048x512 ![] bcast_S_S2x2048x512 main_cst_0
  let main_v5 : IVec S2x2048x512 1 := cmpf .olt main_v3 main_v4
  let main_v6 : FVec F S2x2048x512 .f32 := Host.absf main_arg2
  let main_cst_1 : FVec F S_ .f32 := constant S_ .f32 0x7F800000#32
  let main_v7 : FVec F S2x2048x512 .f32 := broadcastInDim S2x2048x512 ![] bcast_S_S2x2048x512 main_cst_1
  let main_v8 : IVec S2x2048x512 1 := cmpf .olt main_v6 main_v7
  let main_v9 : FVec F S2x2048x512 .f32 := Host.absf main_arg6
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  (main_v2, main_v5, main_v8, main_v11)
-- ==== Gate.lean ====
abbrev S2x2048x2048 : Shape := ⟨3, ![2, 2048, 2048]⟩
abbrev S1x2x1024 : Shape := ⟨3, ![1, 2, 1024]⟩
abbrev S2x2048x512 : Shape := ⟨3, ![2, 2048, 512]⟩
abbrev S2x2048x1024 : Shape := ⟨3, ![2, 2048, 1024]⟩
abbrev S1x1024x1024 : Shape := ⟨3, ![1, 1024, 1024]⟩
abbrev S1x512x1024 : Shape := ⟨3, ![1, 512, 1024]⟩
abbrev S4096x2048 : Shape := ⟨2, ![4096, 2048]⟩
abbrev S4096x512 : Shape := ⟨2, ![4096, 512]⟩
abbrev S4096x1024 : Shape := ⟨2, ![4096, 1024]⟩
abbrev S512x1024 : Shape := ⟨2, ![512, 1024]⟩
abbrev S2x1024 : Shape := ⟨2, ![2, 1024]⟩
abbrev S1024x1024 : Shape := ⟨2, ![1024, 1024]⟩
abbrev S512x4x256 : Shape := ⟨3, ![512, 4, 256]⟩
abbrev S4x512x256 : Shape := ⟨3, ![4, 512, 256]⟩
abbrev S512x2048 : Shape := ⟨2, ![512, 2048]⟩
abbrev S512x512 : Shape := ⟨2, ![512, 512]⟩
abbrev S1x1024 : Shape := ⟨2, ![1, 1024]⟩
abbrev S512x256 : Shape := ⟨2, ![512, 256]⟩
abbrev S1x512x256 : Shape := ⟨3, ![1, 512, 256]⟩
abbrev S1024 : Shape := ⟨1, ![1024]⟩

abbrev nBuf : Space → Nat
  | .hbm => 34
  | .vmem => 25
  | .smem => 0
  | _ => 0

abbrev bufTy : (tb : Table) → Fin (tcTables nBuf tb) → BufTy
  | .hbm, ⟨0, _⟩ => ⟨S2x2048x2048, .f32⟩
  | .hbm, ⟨1, _⟩ => ⟨S1x2x1024, .f32⟩
  | .hbm, ⟨2, _⟩ => ⟨S2x2048x512, .f32⟩
  | .hbm, ⟨3, _⟩ => ⟨S2x2048x512, .f32⟩
  | .hbm, ⟨4, _⟩ => ⟨S2x2048x1024, .f32⟩
  | .hbm, ⟨5, _⟩ => ⟨S1x1024x1024, .f32⟩
  | .hbm, ⟨6, _⟩ => ⟨S1x512x1024, .f32⟩
  | .hbm, ⟨7, _⟩ => ⟨S1x512x1024, .f32⟩
  | .hbm, ⟨8, _⟩ => ⟨S4096x2048, .f32⟩
  | .hbm, ⟨9, _⟩ => ⟨S4096x512, .f32⟩
  | .hbm, ⟨10, _⟩ => ⟨S4096x512, .f32⟩
  | .hbm, ⟨11, _⟩ => ⟨S4096x1024, .f32⟩
  | .hbm, ⟨12, _⟩ => ⟨S512x1024, .f32⟩
  | .hbm, ⟨13, _⟩ => ⟨S4096x1024, .f32⟩
  | .hbm, ⟨14, _⟩ => ⟨S512x1024, .f32⟩
  | .hbm, ⟨15, _⟩ => ⟨S4096x1024, .f32⟩
  | .hbm, ⟨16, _⟩ => ⟨S2x1024, .f32⟩
  | .hbm, ⟨17, _⟩ => ⟨S4096x1024, .bf16⟩
  | .hbm, ⟨18, _⟩ => ⟨S1024x1024, .f32⟩
  | .hbm, ⟨19, _⟩ => ⟨S1024x1024, .bf16⟩
  | .hbm, ⟨20, _⟩ => ⟨S512x1024, .f32⟩
  | .hbm, ⟨21, _⟩ => ⟨S512x1024, .bf16⟩
  | .hbm, ⟨22, _⟩ => ⟨S512x4x256, .bf16⟩
  | .hbm, ⟨23, _⟩ => ⟨S4x512x256, .bf16⟩
  | .hbm, ⟨24, _⟩ => ⟨S512x1024, .f32⟩
  | .hbm, ⟨25, _⟩ => ⟨S512x1024, .bf16⟩
  | .hbm, ⟨26, _⟩ => ⟨S512x4x256, .bf16⟩
  | .hbm, ⟨27, _⟩ => ⟨S4x512x256, .bf16⟩
  | .hbm, ⟨28, _⟩ => ⟨S4096x1024, .bf16⟩
  | .hbm, ⟨29, _⟩ => ⟨S4096x1024, .bf16⟩
  | .hbm, ⟨30, _⟩ => ⟨S4096x2048, .bf16⟩
  | .hbm, ⟨31, _⟩ => ⟨S2x1024, .f32⟩
  | .hbm, ⟨32, _⟩ => ⟨S4096x512, .bf16⟩
  | .hbm, ⟨33, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S4x512x256, .bf16⟩
  | .local _ .vmem, ⟨13, _⟩ => ⟨S4x512x256, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S2x1024, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v20_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== GateRefIdeal.lean ====
abbrev S2x2048x2048 : Shape := ⟨3, ![2, 2048, 2048]⟩
abbrev S1x2x1024 : Shape := ⟨3, ![1, 2, 1024]⟩
abbrev S2x2048x512 : Shape := ⟨3, ![2, 2048, 512]⟩
abbrev S2x2048x1024 : Shape := ⟨3, ![2, 2048, 1024]⟩
abbrev S1x1024x1024 : Shape := ⟨3, ![1, 1024, 1024]⟩
abbrev S1x512x1024 : Shape := ⟨3, ![1, 512, 1024]⟩
abbrev S4096x2048 : Shape := ⟨2, ![4096, 2048]⟩
abbrev S4096x1024 : Shape := ⟨2, ![4096, 1024]⟩
abbrev S4096x512 : Shape := ⟨2, ![4096, 512]⟩
abbrev S512x1024 : Shape := ⟨2, ![512, 1024]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩
abbrev S1024x1024 : Shape := ⟨2, ![1024, 1024]⟩
abbrev S2x1024 : Shape := ⟨2, ![2, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S1x2x1024, .f32⟩
  | .hbm, ⟨2, _⟩ => ⟨S2x2048x512, .f32⟩
  | .hbm, ⟨3, _⟩ => ⟨S2x2048x512, .f32⟩
  | .hbm, ⟨4, _⟩ => ⟨S2x2048x1024, .f32⟩
  | .hbm, ⟨5, _⟩ => ⟨S1x1024x1024, .f32⟩
  | .hbm, ⟨6, _⟩ => ⟨S1x512x1024, .f32⟩
  | .hbm, ⟨7, _⟩ => ⟨S1x512x1024, .f32⟩
  | .hbm, ⟨8, _⟩ => ⟨S4096x2048, .f32⟩
  | .hbm, ⟨9, _⟩ => ⟨S4096x1024, .f32⟩
  | .hbm, ⟨10, _⟩ => ⟨S4096x512, .f32⟩
  | .hbm, ⟨11, _⟩ => ⟨S4096x512, .f32⟩
  | .hbm, ⟨12, _⟩ => ⟨S512x1024, .f32⟩
  | .hbm, ⟨13, _⟩ => ⟨S4096x1024, .f32⟩
  | .hbm, ⟨14, _⟩ => ⟨S512x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1x1024, .f32⟩
  | .hbm, ⟨19, _⟩ => ⟨S1024, .f32⟩
  | .hbm, ⟨20, _⟩ => ⟨S1x1x1024, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1024x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S512x1024, .f32⟩
  | .hbm, ⟨75, _⟩ => ⟨S4096x1024, .f32⟩
  | .hbm, ⟨76, _⟩ => ⟨S4096x512, .f32⟩
  | .hbm, ⟨77, _⟩ => ⟨S512x1024, .f32⟩
  | .hbm, ⟨78, _⟩ => ⟨S4096x1024, .f32⟩
  | .hbm, ⟨79, _⟩ => ⟨S4096x512, .f32⟩
  | .hbm, ⟨80, _⟩ => ⟨S4096x2048, .f32⟩
  | .hbm, ⟨81, _⟩ => ⟨S1x1024, .f32⟩
  | .hbm, ⟨82, _⟩ => ⟨S1x1024, .f32⟩
  | .hbm, ⟨83, _⟩ => ⟨S2x1024, .f32⟩
  | .hbm, ⟨84, _⟩ => ⟨S4096x1024, .bf16⟩
  | .hbm, ⟨85, _⟩ => ⟨S4096x1024, .bf16⟩
  | .hbm, ⟨86, _⟩ => ⟨S4096x2048, .bf16⟩
  | .hbm, ⟨87, _⟩ => ⟨S4096x512, .bf16⟩
  | .hbm, ⟨88, _⟩ => ⟨S4096x512, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Fox.lean ====
abbrev S2x2048x512 : Shape := ⟨3, ![2, 2048, 512]⟩
abbrev S2x8x2048 : Shape := ⟨3, ![2, 8, 2048]⟩
abbrev S2x2048x8x64 : Shape := ⟨4, ![2, 2048, 8, 64]⟩
abbrev S2x8x2048x64 : Shape := ⟨4, ![2, 8, 2048, 64]⟩
abbrev S_ : Shape := ⟨0, ![]⟩
abbrev S2x8x2048x2048 : Shape := ⟨4, ![2, 8, 2048, 2048]⟩
abbrev S2x8x2048x1 : Shape := ⟨4, ![2, 8, 2048, 1]⟩
abbrev S2x8x1x2048 : Shape := ⟨4, ![2, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4096x512 : Shape := ⟨2, ![4096, 512]⟩
abbrev S4096x3072 : Shape := ⟨2, ![4096, 3072]⟩
abbrev S2x2048x8 : Shape := ⟨3, ![2, 2048, 8]⟩
abbrev S4096x8 : Shape := ⟨2, ![4096, 8]⟩
abbrev S4096x8x64 : Shape := ⟨3, ![4096, 8, 64]⟩
abbrev S16x2048 : Shape := ⟨2, ![16, 2048]⟩
abbrev S512x128 : Shape := ⟨2, ![512, 128]⟩
abbrev S2048x128 : Shape := ⟨2, ![2048, 128]⟩
abbrev S8x2048 : Shape := ⟨2, ![8, 2048]⟩
abbrev S2048x256 : Shape := ⟨2, ![2048, 256]⟩
abbrev S1x128 : Shape := ⟨2, ![1, 128]⟩
abbrev S1024x512 : Shape := ⟨2, ![1024, 512]⟩
abbrev S1024x1 : Shape := ⟨2, ![1024, 1]⟩
abbrev S1024x128 : Shape := ⟨2, ![1024, 128]⟩
abbrev S1024x256 : Shape := ⟨2, ![1024, 256]⟩
abbrev S512x1 : Shape := ⟨2, ![512, 1]⟩
abbrev S512 : Shape := ⟨1, ![512]⟩
abbrev S1x512 : Shape := ⟨2, ![1, 512]⟩
abbrev S512x256 : Shape := ⟨2, ![512, 256]⟩
abbrev S1024 : Shape := ⟨1, ![1024]⟩

abbrev nBuf : Space → Nat
  | .hbm => 80
  | .vmem => 28
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x8x2048, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x8x64, .f32⟩
  | .hbm, ⟨9, _⟩ => ⟨S2x8x2048x64, .f32⟩
  | .hbm, ⟨10, _⟩ => ⟨S2x2048x8x64, .f32⟩
  | .hbm, ⟨11, _⟩ => ⟨S2x8x2048x64, .f32⟩
  | .hbm, ⟨12, _⟩ => ⟨S2x2048x8x64, .f32⟩
  | .hbm, ⟨13, _⟩ => ⟨S2x8x2048x64, .f32⟩
  | .hbm, ⟨14, _⟩ => ⟨S_, .f32⟩
  | .hbm, ⟨15, _⟩ => ⟨S_, .f32⟩
  | .hbm, ⟨16, _⟩ => ⟨S2x8x2048, .f32⟩
  | .hbm, ⟨17, _⟩ => ⟨S2x8x2048x2048, .f32⟩
  | .hbm, ⟨18, _⟩ => ⟨S_, .f32⟩
  | .hbm, ⟨19, _⟩ => ⟨S2x8x2048x2048, .f32⟩
  | .hbm, ⟨20, _⟩ => ⟨S2x8x2048x2048, .f32⟩
  | .hbm, ⟨21, _⟩ => ⟨S2x8x2048x1, .f32⟩
  | .hbm, ⟨22, _⟩ => ⟨S2x8x2048x2048, .f32⟩
  | .hbm, ⟨23, _⟩ => ⟨S2x8x2048x2048, .f32⟩
  | .hbm, ⟨24, _⟩ => ⟨S2x8x1x2048, .f32⟩
  | .hbm, ⟨25, _⟩ => ⟨S2x8x2048x2048, .f32⟩
  | .hbm, ⟨26, _⟩ => ⟨S2x8x2048x2048, .f32⟩
  | .hbm, ⟨27, _⟩ => ⟨S2048, .i32⟩
  | .hbm, ⟨28, _⟩ => ⟨S1x2048, .i32⟩
  | .hbm, ⟨29, _⟩ => ⟨S2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S2x8x2048x2048, .i1⟩
  | .hbm, ⟨37, _⟩ => ⟨S2x8x2048x2048, .f32⟩
  | .hbm, ⟨38, _⟩ => ⟨S2x8x2048x2048, .f32⟩
  | .hbm, ⟨39, _⟩ => ⟨S_, .f32⟩
  | .hbm, ⟨40, _⟩ => ⟨S2x8x2048, .f32⟩
  | .hbm, ⟨41, _⟩ => ⟨S2x8x2048x1, .f32⟩
  | .hbm, ⟨42, _⟩ => ⟨S2x8x2048x2048, .f32⟩
  | .hbm, ⟨43, _⟩ => ⟨S2x8x2048x2048, .f32⟩
  | .hbm, ⟨44, _⟩ => ⟨S2x8x2048x2048, .f32⟩
  | .hbm, ⟨45, _⟩ => ⟨S_, .f32⟩
  | .hbm, ⟨46, _⟩ => ⟨S2x8x2048, .f32⟩
  | .hbm, ⟨47, _⟩ => ⟨S2x8x2048, .f32⟩
  | .hbm, ⟨48, _⟩ => ⟨S2x8x2048, .f32⟩
  | .hbm, ⟨49, _⟩ => ⟨S2x8x2048x1, .f32⟩
  | .hbm, ⟨50, _⟩ => ⟨S2x8x2048x2048, .f32⟩
  | .hbm, ⟨51, _⟩ => ⟨S2x8x2048x2048, .f32⟩
  | .hbm, ⟨52, _⟩ => ⟨S2x8x2048x64, .f32⟩
  | .hbm, ⟨53, _⟩ => ⟨S2x2048x8x64, .f32⟩
  | .hbm, ⟨54, _⟩ => ⟨S4096x512, .f32⟩
  | .hbm, ⟨55, _⟩ => ⟨S4096x512, .bf16⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x3072, .f32⟩
  | .hbm, ⟨63, _⟩ => ⟨S4096x3072, .bf16⟩
  | .hbm, ⟨64, _⟩ => ⟨S2x2048x8, .f32⟩
  | .hbm, ⟨65, _⟩ => ⟨S4096x8, .f32⟩
  | .hbm, ⟨66, _⟩ => ⟨S4096x8x64, .f32⟩
  | .hbm, ⟨67, _⟩ => ⟨S4096x512, .f32⟩
  | .hbm, ⟨68, _⟩ => ⟨S16x2048, .f32⟩
  | .hbm, ⟨69, _⟩ => ⟨S4096x512, .f32⟩
  | .hbm, ⟨70, _⟩ => ⟨S4096x512, .bf16⟩
  | .hbm, ⟨71, _⟩ => ⟨S2x2048x8, .f32⟩
  | .hbm, ⟨72, _⟩ => ⟨S4096x8, .f32⟩
  | .hbm, ⟨73, _⟩ => ⟨S4096x8x64, .f32⟩
  | .hbm, ⟨74, _⟩ => ⟨S4096x512, .f32⟩
  | .hbm, ⟨75, _⟩ => ⟨S4096x512, .bf16⟩
  | .hbm, ⟨76, _⟩ => ⟨S4096x512, .bf16⟩
  | .hbm, ⟨77, _⟩ => ⟨S4096x512, .bf16⟩
  | .hbm, ⟨78, _⟩ => ⟨S4096x512, .f32⟩
  | .hbm, ⟨79, _⟩ => ⟨S4096x512, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S8x2048, .f32⟩
  | .local _ .vmem, ⟨9, _⟩ => ⟨S8x2048, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .f32⟩
  | .local _ .vmem, ⟨15, _⟩ => ⟨S512x128, .f32⟩
  | .local _ .vmem, ⟨16, _⟩ => ⟨S512x128, .bf16⟩
  | .local _ .vmem, ⟨17, _⟩ => ⟨S512x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .f32⟩
  | .local _ .vmem, ⟨23, _⟩ => ⟨S2048x128, .f32⟩
  | .local _ .vmem, ⟨24, _⟩ => ⟨S512x128, .f32⟩
  | .local _ .vmem, ⟨25, _⟩ => ⟨S512x128, .f32⟩
  | .local _ .vmem, ⟨26, _⟩ => ⟨S2048x256, .f32⟩
  | .local _ .vmem, ⟨27, _⟩ => ⟨S2048x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_call0_cst : Ref sig .tc := ⟨.hbm, 14, rfl⟩
abbrev main_call0_call0_v0 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58_0 : Ref sig .tc := ⟨.hbm, 75, rfl⟩
abbrev main_v58_1 : Ref sig .tc := ⟨.hbm, 76, rfl⟩
abbrev main_v58_2 : Ref sig .tc := ⟨.hbm, 77, rfl⟩
abbrev main_v58_3 : Ref sig .tc := ⟨.hbm, 78, rfl⟩
abbrev main_v58_4 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 4, 4], ![false, false, false]⟩

@[reducible] def k0_t1_loop (i : grid0.Coords) : Scf.Loop 32 :=
  let c0_i32_24 : BitVec 32 := 0#32
  let c1_i32 : BitVec 32 := 1#32
  let arg2 : BitVec 32 := BitVec.ofNat 32 (i 2).val
  let v87 : BitVec 32 := Scalar.muli c1_i32 arg2
  let v88 : BitVec 32 := Scalar.subi v87 c0_i32_24
  let c1_i32_25 : BitVec 32 := 1#32
  let v90 : BitVec 32 := Scalar.divsi v88 c1_i32_25
  let v91 : BitVec 32 := Scalar.muli v90 c1_i32_25
  let v92 : BitVec 32 := Scalar.addi c0_i32_24 v91
  let c1_i32_26 : BitVec 32 := 1#32
  ⟨c0_i32_24, v92, c1_i32_26⟩
def k0_mult1 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c512_i32_53 : BitVec 32 := 512#32
  let v184 : BitVec 32 := Scalar.muli arg18 c512_i32_53
  v184
def k0_off1 (i : grid0.Coords) (k0_t1 : Fin (k0_t1_loop i).trips) : Fin 2 → Nat :=
  let c0_i32_24 : BitVec 32 := 0#32
  let c1_i32_26 : BitVec 32 := 1#32
  let arg18 : BitVec 32 := Scf.iv c0_i32_24 c1_i32_26 k0_t1
  let c512_i32_53 : BitVec 32 := 512#32
  let v184 : BitVec 32 := Scalar.muli arg18 c512_i32_53
  let v185 : BitVec 32 := v184
  let v186 : Index := Scalar.indexCast v185
  let c0_54 : Index := 0#32
  ![v186.toNat, 0]
def k0_off2 (i : grid0.Coords) (k0_t1 : Fin (k0_t1_loop i).trips) : Fin 2 → Nat :=
  let c2_i32_55 : BitVec 32 := 2#32
  let arg1 : BitVec 32 := BitVec.ofNat 32 (i 1).val
  let v189 : BitVec 32 := Scalar.muli c2_i32_55 arg1
  let v190 : Index := Scalar.indexCast v189
  let c0_i32_24 : BitVec 32 := 0#32
  let c1_i32_26 : BitVec 32 := 1#32
  let arg18 : BitVec 32 := Scf.iv c0_i32_24 c1_i32_26 k0_t1
  let c512_i32_53 : BitVec 32 := 512#32
  let v184 : BitVec 32 := Scalar.muli arg18 c512_i32_53
  let v185 : BitVec 32 := v184
  let v191 : Index := Scalar.indexCast v185
  ![v190.toNat, v191.toNat]
def k0_off3 (i : grid0.Coords) (k0_t1 : Fin (k0_t1_loop i).trips) : Fin 2 → Nat :=
  let c2_i32_56 : BitVec 32 := 2#32
  let arg1 : BitVec 32 := BitVec.ofNat 32 (i 1).val
  let v194 : BitVec 32 := Scalar.muli c2_i32_56 arg1
  let c1_i32_57 : BitVec 32 := 1#32
  let v195 : BitVec 32 := Scalar.addi v194 c1_i32_57
  let v196 : Index := Scalar.indexCast v195
  let c0_i32_24 : BitVec 32 := 0#32
  let c1_i32_26 : BitVec 32 := 1#32
  let arg18 : BitVec 32 := Scf.iv c0_i32_24 c1_i32_26 k0_t1
  let c512_i32_53 : BitVec 32 := 512#32
  let v184 : BitVec 32 := Scalar.muli arg18 c512_i32_53
  let v185 : BitVec 32 := v184
  let v197 : Index := Scalar.indexCast v185
  ![v196.toNat, v197.toNat]
def k0_off4 (i : grid0.Coords) (k0_t1 : Fin (k0_t1_loop i).trips) : Fin 2 → Nat :=
  let c0_i32_24 : BitVec 32 := 0#32
  let c1_i32_26 : BitVec 32 := 1#32
  let arg18 : BitVec 32 := Scf.iv c0_i32_24 c1_i32_26 k0_t1
  let c512_i32_53 : BitVec 32 := 512#32
  let v184 : BitVec 32 := Scalar.muli arg18 c512_i32_53
  let v185 : BitVec 32 := v184
  let v222 : Index := Scalar.indexCast v185
  let c0_61 : Index := 0#32
  ![v222.toNat, 0]
@[reducible] def k0_t2_loop (i : grid0.Coords) : Scf.Loop 32 :=
  let c0_i32_24 : BitVec 32 := 0#32
  let c1_i32 : BitVec 32 := 1#32
  let arg2 : BitVec 32 := BitVec.ofNat 32 (i 2).val
  let v87 : BitVec 32 := Scalar.muli c1_i32 arg2
  let v88 : BitVec 32 := Scalar.subi v87 c0_i32_24
  let c1_i32_25 : BitVec 32 := 1#32
  let v90 : BitVec 32 := Scalar.divsi v88 c1_i32_25
  let v91 : BitVec 32 := Scalar.muli v90 c1_i32_25
  let v92 : BitVec 32 := Scalar.addi c0_i32_24 v91
  let v89 : BitVec 32 := Scalar.addi c0_i32_24 v88
  let c1_i32_27 : BitVec 32 := 1#32
  ⟨v92, v89, c1_i32_27⟩
def k0_mult2 (i : grid0.Coords) (k0_t2 : Fin (k0_t2_loop i).trips) : BitVec 32 :=
  let c0_i32_24 : BitVec 32 := 0#32
  let c1_i32 : BitVec 32 := 1#32
  let arg2 : BitVec 32 := BitVec.ofNat 32 (i 2).val
  let v87 : BitVec 32 := Scalar.muli c1_i32 arg2
  let v88 : BitVec 32 := Scalar.subi v87 c0_i32_24
  let c1_i32_25 : BitVec 32 := 1#32
  let v90 : BitVec 32 := Scalar.divsi v88 c1_i32_25
  let v91 : BitVec 32 := Scalar.muli v90 c1_i32_25
  let v92 : BitVec 32 := Scalar.addi c0_i32_24 v91
  let c1_i32_27 : BitVec 32 := 1#32
  let arg18 : BitVec 32 := Scf.iv v92 c1_i32_27 k0_t2
  let c512_i32_53 : BitVec 32 := 512#32
  let v184 : BitVec 32 := Scalar.muli arg18 c512_i32_53
  v184
def k0_off5 (i : grid0.Coords) (k0_t2 : Fin (k0_t2_loop i).trips) : Fin 2 → Nat :=
  let c0_i32_24 : BitVec 32 := 0#32
  let c1_i32 : BitVec 32 := 1#32
  let arg2 : BitVec 32 := BitVec.ofNat 32 (i 2).val
  let v87 : BitVec 32 := Scalar.muli c1_i32 arg2
  let v88 : BitVec 32 := Scalar.subi v87 c0_i32_24
  let c1_i32_25 : BitVec 32 := 1#32
  let v90 : BitVec 32 := Scalar.divsi v88 c1_i32_25
  let v91 : BitVec 32 := Scalar.muli v90 c1_i32_25
  let v92 : BitVec 32 := Scalar.addi c0_i32_24 v91
  let c1_i32_27 : BitVec 32 := 1#32
  let arg18 : BitVec 32 := Scf.iv v92 c1_i32_27 k0_t2
  let c512_i32_53 : BitVec 32 := 512#32
  let v184 : BitVec 32 := Scalar.muli arg18 c512_i32_53
  let v185 : BitVec 32 := v184
  let v186 : Index := Scalar.indexCast v185
  let c0_54 : Index := 0#32
  ![v186.toNat, 0]
def k0_off6 (i : grid0.Coords) (k0_t2 : Fin (k0_t2_loop i).trips) : Fin 2 → Nat :=
  let c2_i32_55 : BitVec 32 := 2#32
  let arg1 : BitVec 32 := BitVec.ofNat 32 (i 1).val
  let v189 : BitVec 32 := Scalar.muli c2_i32_55 arg1
  let v190 : Index := Scalar.indexCast v189
  let c0_i32_24 : BitVec 32 := 0#32
  let c1_i32 : BitVec 32 := 1#32
  let arg2 : BitVec 32 := BitVec.ofNat 32 (i 2).val
  let v87 : BitVec 32 := Scalar.muli c1_i32 arg2
  let v88 : BitVec 32 := Scalar.subi v87 c0_i32_24
  let c1_i32_25 : BitVec 32 := 1#32
  let v90 : BitVec 32 := Scalar.divsi v88 c1_i32_25
  let v91 : BitVec 32 := Scalar.muli v90 c1_i32_25
  let v92 : BitVec 32 := Scalar.addi c0_i32_24 v91
  let c1_i32_27 : BitVec 32 := 1#32
  let arg18 : BitVec 32 := Scf.iv v92 c1_i32_27 k0_t2
  let c512_i32_53 : BitVec 32 := 512#32
  let v184 : BitVec 32 := Scalar.muli arg18 c512_i32_53
  let v185 : BitVec 32 := v184
  let v191 : Index := Scalar.indexCast v185
  ![v190.toNat, v191.toNat]
def k0_off7 (i : grid0.Coords) (k0_t2 : Fin (k0_t2_loop i).trips) : Fin 2 → Nat :=
  let c2_i32_56 : BitVec 32 := 2#32
  let arg1 : BitVec 32 := BitVec.ofNat 32 (i 1).val
  let v194 : BitVec 32 := Scalar.muli c2_i32_56 arg1
  let c1_i32_57 : BitVec 32 := 1#32
  let v195 : BitVec 32 := Scalar.addi v194 c1_i32_57
  let v196 : Index := Scalar.indexCast v195
  let c0_i32_24 : BitVec 32 := 0#32
  let c1_i32 : BitVec 32 := 1#32
  let arg2 : BitVec 32 := BitVec.ofNat 32 (i 2).val
  let v87 : BitVec 32 := Scalar.muli c1_i32 arg2
  let v88 : BitVec 32 := Scalar.subi v87 c0_i32_24
  let c1_i32_25 : BitVec 32 := 1#32
  let v90 : BitVec 32 := Scalar.divsi v88 c1_i32_25
  let v91 : BitVec 32 := Scalar.muli v90 c1_i32_25
  let v92 : BitVec 32 := Scalar.addi c0_i32_24 v91
  let c1_i32_27 : BitVec 32 := 1#32
  let arg18 : BitVec 32 := Scf.iv v92 c1_i32_27 k0_t2
  let c512_i32_53 : BitVec 32 := 512#32
  let v184 : BitVec 32 := Scalar.muli arg18 c512_i32_53
  let v185 : BitVec 32 := v184
  let v197 : Index := Scalar.indexCast v185
  ![v196.toNat, v197.toNat]
def k0_off8 (i : grid0.Coords) (k0_t2 : Fin (k0_t2_loop i).trips) : Fin 2 → Nat :=
  let c0_i32_24 : BitVec 32 := 0#32
  let c1_i32 : BitVec 32 := 1#32
  let arg2 : BitVec 32 := BitVec.ofNat 32 (i 2).val
  let v87 : BitVec 32 := Scalar.muli c1_i32 arg2
  let v88 : BitVec 32 := Scalar.subi v87 c0_i32_24
  let c1_i32_25 : BitVec 32 := 1#32
  let v90 : BitVec 32 := Scalar.divsi v88 c1_i32_25
  let v91 : BitVec 32 := Scalar.muli v90 c1_i32_25
  let v92 : BitVec 32 := Scalar.addi c0_i32_24 v91
  let c1_i32_27 : BitVec 32 := 1#32
  let arg18 : BitVec 32 := Scf.iv v92 c1_i32_27 k0_t2
  let c512_i32_53 : BitVec 32 := 512#32
  let v184 : BitVec 32 := Scalar.muli arg18 c512_i32_53
  let v185 : BitVec 32 := v184
  let v222 : Index := Scalar.indexCast v185
  let c0_61 : Index := 0#32
  ![v222.toNat, 0]
def k0_mult3 (i : grid0.Coords) : BitVec 32 :=
  let c1_i32_28 : BitVec 32 := 1#32
  let arg2 : BitVec 32 := BitVec.ofNat 32 (i 2).val
  let v95 : BitVec 32 := Scalar.muli c1_i32_28 arg2
  let c0_i32_29 : BitVec 32 := 0#32
  let v96 : BitVec 32 := Scalar.addi v95 c0_i32_29
  let c512_i32_30 : BitVec 32 := 512#32
  let v97 : BitVec 32 := Scalar.muli v96 c512_i32_30
  v97
def k0_off9 (i : grid0.Coords) : Fin 2 → Nat :=
  let c1_i32_28 : BitVec 32 := 1#32
  let arg2 : BitVec 32 := BitVec.ofNat 32 (i 2).val
  let v95 : BitVec 32 := Scalar.muli c1_i32_28 arg2
  let c0_i32_29 : BitVec 32 := 0#32
  let v96 : BitVec 32 := Scalar.addi v95 c0_i32_29
  let c512_i32_30 : BitVec 32 := 512#32
  let v97 : BitVec 32 := Scalar.muli v96 c512_i32_30
  let v98 : BitVec 32 := v97
  let v99 : Index := Scalar.indexCast v98
  let c0_31 : Index := 0#32
  ![v99.toNat, 0]
def k0_off10 (i : grid0.Coords) : Fin 2 → Nat :=
  let c2_i32 : BitVec 32 := 2#32
  let arg1 : BitVec 32 := BitVec.ofNat 32 (i 1).val
  let v102 : BitVec 32 := Scalar.muli c2_i32 arg1
  let v103 : Index := Scalar.indexCast v102
  let c1_i32_28 : BitVec 32 := 1#32
  let arg2 : BitVec 32 := BitVec.ofNat 32 (i 2).val
  let v95 : BitVec 32 := Scalar.muli c1_i32_28 arg2
  let c0_i32_29 : BitVec 32 := 0#32
  let v96 : BitVec 32 := Scalar.addi v95 c0_i32_29
  let c512_i32_30 : BitVec 32 := 512#32
  let v97 : BitVec 32 := Scalar.muli v96 c512_i32_30
  let v98 : BitVec 32 := v97
  let v104 : Index := Scalar.indexCast v98
  ![v103.toNat, v104.toNat]
def k0_off11 (i : grid0.Coords) : Fin 2 → Nat :=
  let c2_i32_32 : BitVec 32 := 2#32
  let arg1 : BitVec 32 := BitVec.ofNat 32 (i 1).val
  let v107 : BitVec 32 := Scalar.muli c2_i32_32 arg1
  let c1_i32_33 : BitVec 32 := 1#32
  let v108 : BitVec 32 := Scalar.addi v107 c1_i32_33
  let v109 : Index := Scalar.indexCast v108
  let c1_i32_28 : BitVec 32 := 1#32
  let arg2 : BitVec 32 := BitVec.ofNat 32 (i 2).val
  let v95 : BitVec 32 := Scalar.muli c1_i32_28 arg2
  let c0_i32_29 : BitVec 32 := 0#32
  let v96 : BitVec 32 := Scalar.addi v95 c0_i32_29
  let c512_i32_30 : BitVec 32 := 512#32
  let v97 : BitVec 32 := Scalar.muli v96 c512_i32_30
  let v98 : BitVec 32 := v97
  let v110 : Index := Scalar.indexCast v98
  ![v109.toNat, v110.toNat]
def k0_off12 (i : grid0.Coords) : Fin 2 → Nat :=
  let c1_i32_28 : BitVec 32 := 1#32
  let arg2 : BitVec 32 := BitVec.ofNat 32 (i 2).val
  let v95 : BitVec 32 := Scalar.muli c1_i32_28 arg2
  let c0_i32_29 : BitVec 32 := 0#32
  let v96 : BitVec 32 := Scalar.addi v95 c0_i32_29
  let c512_i32_30 : BitVec 32 := 512#32
  let v97 : BitVec 32 := Scalar.muli v96 c512_i32_30
  let v98 : BitVec 32 := v97
  let v139 : Index := Scalar.indexCast v98
  let c0_39 : Index := 0#32
  ![v139.toNat, 0]
def k0_cond2 (i : grid0.Coords) : BitVec 1 :=
  let arg2 : BitVec 32 := BitVec.ofNat 32 (i 2).val
  let c3_i32 : BitVec 32 := 3#32
  let v181 : BitVec 1 := Scalar.cmpi .eq arg2 c3_i32
  let v182 : BitVec 32 := Scalar.extui v181
  let c0_i32_52 : BitVec 32 := 0#32
  let v183 : BitVec 1 := Scalar.cmpi .ne v182 c0_i32_52
  v183

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== FoxRefIdeal.lean ====
abbrev S2x2048x512 : Shape := ⟨3, ![2, 2048, 512]⟩
abbrev S2x8x2048 : Shape := ⟨3, ![2, 8, 2048]⟩
abbrev S_ : Shape := ⟨0, ![]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S2x8x2048x1 : Shape := ⟨4, ![2, 8, 2048, 1]⟩
abbrev S2x8x1x2048 : Shape := ⟨4, ![2, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x64x2048 : Shape := ⟨4, ![2, 8, 64, 2048]⟩
abbrev S4096x512 : Shape := ⟨2, ![4096, 512]⟩
abbrev S2x2048x8 : Shape := ⟨3, ![2, 2048, 8]⟩
abbrev S4096x8 : Shape := ⟨2, ![4096, 8]⟩
abbrev S4096x8x64 : Shape := ⟨3, ![4096, 8, 64]⟩

abbrev nBuf : Space → Nat
  | .hbm => 141
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S2x8x2048, .f32⟩
  | 4 => ⟨S2x2048x512, .f32⟩
  | 5 => ⟨S2x2048x512, .f32⟩
  | 6 => ⟨S2x2048x512, .f32⟩
  | 7 => ⟨S2x2048x512, .f32⟩
  | 8 => ⟨S_, .f32⟩
  | 9 => ⟨S_, .f32⟩
  | 10 => ⟨S2x8x2048, .f32⟩
  | 11 => ⟨S2x2048x8x64, .f32⟩
  | 12 => ⟨S2x8x2048x64, .f32⟩
  | 13 => ⟨S2x2048x8x64, .f32⟩
  | 14 => ⟨S2x8x2048x64, .f32⟩
  | 15 => ⟨S2x2048x8x64, .f32⟩
  | 16 => ⟨S2x8x2048x64, .f32⟩
  | 17 => ⟨S2x8x2048x2048, .f32⟩
  | 18 => ⟨S_, .f32⟩
  | 19 => ⟨S2x8x2048x2048, .f32⟩
  | 20 => ⟨S2x8x2048x2048, .f32⟩
  | 21 => ⟨S2x8x2048x1, .f32⟩
  | 22 => ⟨S2x8x2048x2048, .f32⟩
  | 23 => ⟨S2x8x2048x2048, .f32⟩
  | 24 => ⟨S2x8x1x2048, .f32⟩
  | 25 => ⟨S2x8x2048x2048, .f32⟩
  | 26 => ⟨S2x8x2048x2048, .f32⟩
  | 27 => ⟨S2048, .i32⟩
  | 28 => ⟨S1x2048, .i32⟩
  | 29 => ⟨S2048, .i32⟩
  | 30 => ⟨S2048x1, .i32⟩
  | 31 => ⟨S2048x2048, .i32⟩
  | 32 => ⟨S2048x2048, .i32⟩
  | 33 => ⟨S2048x2048, .i1⟩
  | 34 => ⟨S_, .f32⟩
  | 35 => ⟨S_, .f32⟩
  | 36 => ⟨S2x8x2048x2048, .i1⟩
  | 37 => ⟨S2x8x2048x2048, .f32⟩
  | 38 => ⟨S2x8x2048x2048, .f32⟩
  | 39 => ⟨S_, .f32⟩
  | 40 => ⟨S2x8x2048x2048, .f32⟩
  | 41 => ⟨S_, .f32⟩
  | 42 => ⟨S2x8x2048, .f32⟩
  | 43 => ⟨S2x8x2048x1, .f32⟩
  | 44 => ⟨S2x8x2048x2048, .f32⟩
  | 45 => ⟨S2x8x2048x2048, .i1⟩
  | 46 => ⟨S2x8x2048x2048, .f32⟩
  | 47 => ⟨S_, .f32⟩
  | 48 => ⟨S2x8x2048, .f32⟩
  | 49 => ⟨S_, .f32⟩
  | 50 => ⟨S2x8x2048, .f32⟩
  | 51 => ⟨S2x8x2048, .f32⟩
  | 52 => ⟨S_, .f32⟩
  | 53 => ⟨S2x8x2048, .f32⟩
  | 54 => ⟨S2x8x2048, .i1⟩
  | 55 => ⟨S_, .f32⟩
  | 56 => ⟨S2x8x2048, .f32⟩
  | 57 => ⟨S2x8x2048, .i1⟩
  | 58 => ⟨S_, .f32⟩
  | 59 => ⟨S2x8x2048, .f32⟩
  | 60 => ⟨S_, .f32⟩
  | 61 => ⟨S2x8x2048, .f32⟩
  | 62 => ⟨S_, .f32⟩
  | 63 => ⟨S2x8x2048, .f32⟩
  | 64 => ⟨S2x8x2048, .f32⟩
  | 65 => ⟨S2x8x2048, .f32⟩
  | 66 => ⟨S2x8x2048x1, .f32⟩
  | 67 => ⟨S2x8x2048x2048, .f32⟩
  | 68 => ⟨S2x8x2048x2048, .f32⟩
  | 69 => ⟨S2x8x2048x2048, .f32⟩
  | 70 => ⟨S_, .f32⟩
  | 71 => ⟨S2x8x2048, .f32⟩
  | 72 => ⟨S2x8x2048x1, .f32⟩
  | 73 => ⟨S2x8x2048x2048, .f32⟩
  | 74 => ⟨S2x8x2048x2048, .f32⟩
  | 75 => ⟨S2x8x2048x1, .f32⟩
  | 76 => ⟨S_, .f32⟩
  | 77 => ⟨S2x8x2048x1, .f32⟩
  | 78 => ⟨S2x8x2048x1, .f32⟩
  | 79 => ⟨S2x8x2048x64, .f32⟩
  | 80 => ⟨S2x2048x8x64, .f32⟩
  | 81 => ⟨S2x2048x512, .f32⟩
  | 82 => ⟨S2x2048x8x64, .f32⟩
  | 83 => ⟨S2x8x2048x64, .f32⟩
  | 84 => ⟨S2x8x64x2048, .f32⟩
  | 85 => ⟨S2x8x2048x64, .f32⟩
  | 86 => ⟨S2x8x2048x2048, .f32⟩
  | 87 => ⟨S2x8x2048x2048, .f32⟩
  | 88 => ⟨S2x8x2048x2048, .f32⟩
  | 89 => ⟨S2x8x2048x2048, .f32⟩
  | 90 => ⟨S_, .f32⟩
  | 91 => ⟨S2x8x2048, .f32⟩
  | 92 => ⟨S2x8x2048x1, .f32⟩
  | 93 => ⟨S2x8x2048x1, .f32⟩
  | 94 => ⟨S2x8x2048x2048, .f32⟩
  | 95 => ⟨S2x8x2048x2048, .f32⟩
  | 96 => ⟨S_, .f32⟩
  | 97 => ⟨S2x8x2048, .f32⟩
  | 98 => ⟨S2x8x2048x2048, .f32⟩
  | 99 => ⟨S2x8x2048x2048, .f32⟩
  | 100 => ⟨S2x8x2048x2048, .f32⟩
  | 101 => ⟨S_, .f32⟩
  | 102 => ⟨S2x8x2048x2048, .f32⟩
  | 103 => ⟨S2x8x2048x2048, .f32⟩
  | 104 => ⟨S2x8x2048x2048, .f32⟩
  | 105 => ⟨S_, .f32⟩
  | 106 => ⟨S2x8x2048, .f32⟩
  | 107 => ⟨S2x8x1x2048, .f32⟩
  | 108 => ⟨S_, .f32⟩
  | 109 => ⟨S2x8x2048, .f32⟩
  | 110 => ⟨S_, .f32⟩
  | 111 => ⟨S2x8x2048, .f32⟩
  | 112 => ⟨S2x8x2048x1, .f32⟩
  | 113 => ⟨S_, .f32⟩
  | 114 => ⟨S2x8x2048, .f32⟩
  | 115 => ⟨S_, .f32⟩
  | 116 => ⟨S2x8x2048x2048, .f32⟩
  | 117 => ⟨S2x8x2048x2048, .f32⟩
  | 118 => ⟨S2x8x2048x64, .f32⟩
  | 119 => ⟨S2x8x2048x64, .f32⟩
  | 120 => ⟨S2x2048x8x64, .f32⟩
  | 121 => ⟨S2x2048x512, .f32⟩
  | 122 => ⟨S2x2048x8x64, .f32⟩
  | 123 => ⟨S2x2048x512, .f32⟩
  | 124 => ⟨S2x2048x8x64, .f32⟩
  | 125 => ⟨S2x2048x512, .f32⟩
  | 126 => ⟨S4096x512, .f32⟩
  | 127 => ⟨S4096x512, .bf16⟩
  | _ => ⟨S2x2048x512, .f32⟩

abbrev hbmTy0_1 (i : Nat) : BufTy := match i % 128 with
  | 0 => ⟨S4096x512, .f32⟩
  | 1 => ⟨S4096x512, .bf16⟩
  | 2 => ⟨S4096x512, .f32⟩
  | 3 => ⟨S4096x512, .bf16⟩
  | 4 => ⟨S2x8x2048, .f32⟩
  | 5 => ⟨S2x2048x8, .f32⟩
  | 6 => ⟨S4096x8, .f32⟩
  | 7 => ⟨S4096x8x64, .f32⟩
  | 8 => ⟨S4096x512, .f32⟩
  | 9 => ⟨S2x2048x8, .f32⟩
  | 10 => ⟨S4096x8, .f32⟩
  | 11 => ⟨S4096x8x64, .f32⟩
  | 12 => ⟨S4096x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_call0_cst : Ref sig .tc := ⟨.hbm, 8, rfl⟩
abbrev main_call0_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_call1_v0 : Ref sig .tc := ⟨.hbm, 35, rfl⟩
abbrev main_v23_1 : Ref sig .tc := ⟨.hbm, 36, rfl⟩
abbrev main_call1_v2 : Ref sig .tc := ⟨.hbm, 37, rfl⟩
abbrev main_v23_0 : Ref sig .tc := ⟨.hbm, 38, rfl⟩
abbrev main_call1_cst : Ref sig .tc := ⟨.hbm, 39, rfl⟩
abbrev main_v23_2 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call2_cst : Ref sig .tc := ⟨.hbm, 101, rfl⟩
abbrev main_call2_v0 : Ref sig .tc := ⟨.hbm, 102, rfl⟩
abbrev main_v72 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_cst_16 : Ref sig .tc := ⟨.hbm, 113, rfl⟩
abbrev main_v79 : Ref sig .tc := ⟨.hbm, 114, rfl⟩
abbrev main_cst_17 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩

abbrev nD : Nat := 1
abbrev τ : Topo := Topo.v7x

variable {F : FTy → Type} [FloatOps F]
-- ==== Sb.lean ====
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S4096x512 : Shape := ⟨2, ![4096, 512]⟩
abbrev S4096x3072 : Shape := ⟨2, ![4096, 3072]⟩
abbrev S2x2048x8 : Shape := ⟨3, ![2, 2048, 8]⟩
abbrev S4096x8 : Shape := ⟨2, ![4096, 8]⟩
abbrev S4096x8x64 : Shape := ⟨3, ![4096, 8, 64]⟩
abbrev S512x128 : Shape := ⟨2, ![512, 128]⟩
abbrev S2048x128 : Shape := ⟨2, ![2048, 128]⟩
abbrev S1x128 : Shape := ⟨2, ![1, 128]⟩
abbrev S1024x256 : Shape := ⟨2, ![1024, 256]⟩
abbrev S256x256 : Shape := ⟨2, ![256, 256]⟩
abbrev S512x256 : Shape := ⟨2, ![512, 256]⟩
abbrev S1024x128 : Shape := ⟨2, ![1024, 128]⟩
abbrev S512x1 : Shape := ⟨2, ![512, 1]⟩
abbrev S1024x1 : Shape := ⟨2, ![1024, 1]⟩
abbrev S256x128 : Shape := ⟨2, ![256, 128]⟩
abbrev S1024 : Shape := ⟨1, ![1024]⟩
abbrev S1024x512 : Shape := ⟨2, ![1024, 512]⟩
abbrev S256x1 : Shape := ⟨2, ![256, 1]⟩
abbrev S512 : Shape := ⟨1, ![512]⟩
abbrev S512x512 : Shape := ⟨2, ![512, 512]⟩

abbrev nBuf : Space → Nat
  | .hbm => 63
  | .vmem => 18
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x8x64, .f32⟩
  | .hbm, ⟨8, _⟩ => ⟨S2x8x2048x64, .f32⟩
  | .hbm, ⟨9, _⟩ => ⟨S2x2048x8x64, .f32⟩
  | .hbm, ⟨10, _⟩ => ⟨S2x8x2048x64, .f32⟩
  | .hbm, ⟨11, _⟩ => ⟨S2x8x2048x2048, .f32⟩
  | .hbm, ⟨12, _⟩ => ⟨S_, .f32⟩
  | .hbm, ⟨13, _⟩ => ⟨S2x8x2048x2048, .f32⟩
  | .hbm, ⟨14, _⟩ => ⟨S2x8x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2x8x2048x2048, .f32⟩
  | .hbm, ⟨23, _⟩ => ⟨S2x8x2048x2048, .f32⟩
  | .hbm, ⟨24, _⟩ => ⟨S_, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S2x8x2048x2048, .f32⟩
  | .hbm, ⟨29, _⟩ => ⟨S2x8x2048x2048, .i1⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S2x8x2048x2048, .f32⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S2x8x2048x2048, .f32⟩
  | .hbm, ⟨39, _⟩ => ⟨S_, .f32⟩
  | .hbm, ⟨40, _⟩ => ⟨S_, .f32⟩
  | .hbm, ⟨41, _⟩ => ⟨S2x8x2048x2048, .i1⟩
  | .hbm, ⟨42, _⟩ => ⟨S2x8x2048x2048, .f32⟩
  | .hbm, ⟨43, _⟩ => ⟨S2x8x2048x2048, .f32⟩
  | .hbm, ⟨44, _⟩ => ⟨S_, .f32⟩
  | .hbm, ⟨45, _⟩ => ⟨S2x8x2048, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x3072, .f32⟩
  | .hbm, ⟨53, _⟩ => ⟨S4096x3072, .bf16⟩
  | .hbm, ⟨54, _⟩ => ⟨S4096x512, .f32⟩
  | .hbm, ⟨55, _⟩ => ⟨S4096x512, .bf16⟩
  | .hbm, ⟨56, _⟩ => ⟨S2x2048x8, .f32⟩
  | .hbm, ⟨57, _⟩ => ⟨S4096x8, .f32⟩
  | .hbm, ⟨58, _⟩ => ⟨S4096x8x64, .f32⟩
  | .hbm, ⟨59, _⟩ => ⟨S4096x512, .f32⟩
  | .hbm, ⟨60, _⟩ => ⟨S4096x512, .bf16⟩
  | .hbm, ⟨61, _⟩ => ⟨S4096x512, .bf16⟩
  | .hbm, ⟨62, _⟩ => ⟨S4096x512, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v15 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v16 : Ref sig .tc := ⟨.hbm, 43, rfl⟩
abbrev main_cst_1 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32_0 : Ref sig .tc := ⟨.hbm, 60, rfl⟩
abbrev main_v32_1 : Ref sig .tc := ⟨.hbm, 61, rfl⟩
abbrev main_v32_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 4, 4], ![false, false, false]⟩

@[reducible] def k0_t1_loop (i : grid0.Coords) : Scf.Loop 32 :=
  let c0_i32_14 : BitVec 32 := 0#32
  let c2_i32 : BitVec 32 := 2#32
  let arg2 : BitVec 32 := BitVec.ofNat 32 (i 2).val
  let v65 : BitVec 32 := Scalar.muli c2_i32 arg2
  let v66 : BitVec 32 := Scalar.subi v65 c0_i32_14
  let c1_i32 : BitVec 32 := 1#32
  let v68 : BitVec 32 := Scalar.divsi v66 c1_i32
  let v69 : BitVec 32 := Scalar.muli v68 c1_i32
  let v70 : BitVec 32 := Scalar.addi c0_i32_14 v69
  let c1_i32_15 : BitVec 32 := 1#32
  ⟨c0_i32_14, v70, c1_i32_15⟩
def k0_mult1 (i : grid0.Coords) (k0_t1 : Fin (k0_t1_loop i).trips) : BitVec 32 :=
  let c0_i32_14 : BitVec 32 := 0#32
  let c1_i32_15 : BitVec 32 := 1#32
  let arg13 : BitVec 32 := Scf.iv c0_i32_14 c1_i32_15 k0_t1
  let c256_i32_70 : BitVec 32 := 256#32
  let v269 : BitVec 32 := Scalar.muli arg13 c256_i32_70
  v269
def k0_off1 (i : grid0.Coords) (k0_t1 : Fin (k0_t1_loop i).trips) : Fin 2 → Nat :=
  let c0_i32_14 : BitVec 32 := 0#32
  let c1_i32_15 : BitVec 32 := 1#32
  let arg13 : BitVec 32 := Scf.iv c0_i32_14 c1_i32_15 k0_t1
  let c256_i32_70 : BitVec 32 := 256#32
  let v269 : BitVec 32 := Scalar.muli arg13 c256_i32_70
  let v270 : BitVec 32 := v269
  let v271 : Index := Scalar.indexCast v270
  let c0_71 : Index := 0#32
  ![v271.toNat, 0]
@[reducible] def k0_t2_loop (i : grid0.Coords) : Scf.Loop 32 :=
  let c0_i32_14 : BitVec 32 := 0#32
  let c2_i32 : BitVec 32 := 2#32
  let arg2 : BitVec 32 := BitVec.ofNat 32 (i 2).val
  let v65 : BitVec 32 := Scalar.muli c2_i32 arg2
  let v66 : BitVec 32 := Scalar.subi v65 c0_i32_14
  let c1_i32 : BitVec 32 := 1#32
  let v68 : BitVec 32 := Scalar.divsi v66 c1_i32
  let v69 : BitVec 32 := Scalar.muli v68 c1_i32
  let v70 : BitVec 32 := Scalar.addi c0_i32_14 v69
  let v67 : BitVec 32 := Scalar.addi c0_i32_14 v66
  let c1_i32_16 : BitVec 32 := 1#32
  ⟨v70, v67, c1_i32_16⟩
def k0_mult2 (i : grid0.Coords) (k0_t2 : Fin (k0_t2_loop i).trips) : BitVec 32 :=
  let c0_i32_14 : BitVec 32 := 0#32
  let c2_i32 : BitVec 32 := 2#32
  let arg2 : BitVec 32 := BitVec.ofNat 32 (i 2).val
  let v65 : BitVec 32 := Scalar.muli c2_i32 arg2
  let v66 : BitVec 32 := Scalar.subi v65 c0_i32_14
  let c1_i32 : BitVec 32 := 1#32
  let v68 : BitVec 32 := Scalar.divsi v66 c1_i32
  let v69 : BitVec 32 := Scalar.muli v68 c1_i32
  let v70 : BitVec 32 := Scalar.addi c0_i32_14 v69
  let c1_i32_16 : BitVec 32 := 1#32
  let arg13 : BitVec 32 := Scf.iv v70 c1_i32_16 k0_t2
  let c256_i32_70 : BitVec 32 := 256#32
  let v269 : BitVec 32 := Scalar.muli arg13 c256_i32_70
  v269
def k0_off2 (i : grid0.Coords) (k0_t2 : Fin (k0_t2_loop i).trips) : Fin 2 → Nat :=
  let c0_i32_14 : BitVec 32 := 0#32
  let c2_i32 : BitVec 32 := 2#32
  let arg2 : BitVec 32 := BitVec.ofNat 32 (i 2).val
  let v65 : BitVec 32 := Scalar.muli c2_i32 arg2
  let v66 : BitVec 32 := Scalar.subi v65 c0_i32_14
  let c1_i32 : BitVec 32 := 1#32
  let v68 : BitVec 32 := Scalar.divsi v66 c1_i32
  let v69 : BitVec 32 := Scalar.muli v68 c1_i32
  let v70 : BitVec 32 := Scalar.addi c0_i32_14 v69
  let c1_i32_16 : BitVec 32 := 1#32
  let arg13 : BitVec 32 := Scf.iv v70 c1_i32_16 k0_t2
  let c256_i32_70 : BitVec 32 := 256#32
  let v269 : BitVec 32 := Scalar.muli arg13 c256_i32_70
  let v270 : BitVec 32 := v269
  let v271 : Index := Scalar.indexCast v270
  let c0_71 : Index := 0#32
  ![v271.toNat, 0]
def k0_mult3 (i : grid0.Coords) : BitVec 32 :=
  let c2_i32_17 : BitVec 32 := 2#32
  let arg2 : BitVec 32 := BitVec.ofNat 32 (i 2).val
  let v73 : BitVec 32 := Scalar.muli c2_i32_17 arg2
  let c0_i32_18 : BitVec 32 := 0#32
  let v74 : BitVec 32 := Scalar.addi v73 c0_i32_18
  let c256_i32 : BitVec 32 := 256#32
  let v77 : BitVec 32 := Scalar.muli v74 c256_i32
  v77
def k0_off3 (i : grid0.Coords) (c0_i32_18 : BitVec 32) : Fin 2 → Nat :=
  let c2_i32_17 : BitVec 32 := 2#32
  let arg2 : BitVec 32 := BitVec.ofNat 32 (i 2).val
  let v73 : BitVec 32 := Scalar.muli c2_i32_17 arg2
  let v74 : BitVec 32 := Scalar.addi v73 c0_i32_18
  let c256_i32 : BitVec 32 := 256#32
  let v77 : BitVec 32 := Scalar.muli v74 c256_i32
  let v78 : BitVec 32 := v77
  let v79 : Index := Scalar.indexCast v78
  let c0_20 : Index := 0#32
  ![v79.toNat, 0]
def k0_mult4 (i : grid0.Coords) : BitVec 32 :=
  let c2_i32_42 : BitVec 32 := 2#32
  let arg2 : BitVec 32 := BitVec.ofNat 32 (i 2).val
  let v154 : BitVec 32 := Scalar.muli c2_i32_42 arg2
  let c1_i32_43 : BitVec 32 := 1#32
  let v155 : BitVec 32 := Scalar.addi v154 c1_i32_43
  let c256_i32_44 : BitVec 32 := 256#32
  let v176 : BitVec 32 := Scalar.muli v155 c256_i32_44
  v176
def k0_cond2 (i : grid0.Coords) : BitVec 1 :=
  let arg2 : BitVec 32 := BitVec.ofNat 32 (i 2).val
  let c3_i32 : BitVec 32 := 3#32
  let v266 : BitVec 1 := Scalar.cmpi .eq arg2 c3_i32
  let v267 : BitVec 32 := Scalar.extui v266
  let c0_i32_69 : BitVec 32 := 0#32
  let v268 : BitVec 1 := Scalar.cmpi .ne v267 c0_i32_69
  v268

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== SbRefIdeal.lean ====
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x64x2048 : Shape := ⟨4, ![2, 8, 64, 2048]⟩
abbrev S4096x512 : Shape := ⟨2, ![4096, 512]⟩

abbrev nBuf : Space → Nat
  | .hbm => 186
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S2x2048x512, .f32⟩
  | 4 => ⟨S2x2048x512, .f32⟩
  | 5 => ⟨S2x2048x512, .f32⟩
  | 6 => ⟨S2x2048x512, .f32⟩
  | 7 => ⟨S2x2048x8x64, .f32⟩
  | 8 => ⟨S2x8x2048x64, .f32⟩
  | 9 => ⟨S2x2048x8x64, .f32⟩
  | 10 => ⟨S2x8x2048x64, .f32⟩
  | 11 => ⟨S2x2048x8x64, .f32⟩
  | 12 => ⟨S2x8x2048x64, .f32⟩
  | 13 => ⟨S2x8x2048x2048, .f32⟩
  | 14 => ⟨S_, .f32⟩
  | 15 => ⟨S2x8x2048x2048, .f32⟩
  | 16 => ⟨S2x8x2048x2048, .f32⟩
  | 17 => ⟨S2048, .i32⟩
  | 18 => ⟨S1x2048, .i32⟩
  | 19 => ⟨S2048, .i32⟩
  | 20 => ⟨S2048x1, .i32⟩
  | 21 => ⟨S2048x2048, .i32⟩
  | 22 => ⟨S2048x2048, .i32⟩
  | 23 => ⟨S2048x2048, .i1⟩
  | 24 => ⟨S2x8x2048x2048, .f32⟩
  | 25 => ⟨S2x8x2048x2048, .f32⟩
  | 26 => ⟨S_, .f32⟩
  | 27 => ⟨S2x8x2048x2048, .f32⟩
  | 28 => ⟨S2x8x2048x2048, .f32⟩
  | 29 => ⟨S2x8x2048x2048, .f32⟩
  | 30 => ⟨S2x8x2048x2048, .f32⟩
  | 31 => ⟨S2x8x2048x2048, .i1⟩
  | 32 => ⟨S2x8x2048x2048, .f32⟩
  | 33 => ⟨S2x8x2048x2048, .f32⟩
  | 34 => ⟨S2x8x2048x2048, .f32⟩
  | 35 => ⟨S2x8x2048x2048, .f32⟩
  | 36 => ⟨S2x8x2048x2048, .f32⟩
  | 37 => ⟨S2x8x2048x2048, .f32⟩
  | 38 => ⟨S2x8x2048x2048, .f32⟩
  | 39 => ⟨S2x8x2048x2048, .f32⟩
  | 40 => ⟨S_, .f32⟩
  | 41 => ⟨S2x8x2048x2048, .f32⟩
  | 42 => ⟨S2x8x2048x2048, .i1⟩
  | 43 => ⟨S_, .f32⟩
  | 44 => ⟨S2x8x2048x2048, .f32⟩
  | 45 => ⟨S2x8x2048x2048, .f32⟩
  | 46 => ⟨S_, .f32⟩
  | 47 => ⟨S2x8x2048x2048, .f32⟩
  | 48 => ⟨S2x8x2048x2048, .i1⟩
  | 49 => ⟨S_, .f32⟩
  | 50 => ⟨S2x8x2048x2048, .f32⟩
  | 51 => ⟨S2x8x2048x2048, .f32⟩
  | 52 => ⟨S2x8x2048x2048, .f32⟩
  | 53 => ⟨S2x8x2048x2048, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S2x8x2048x2048, .f32⟩
  | 62 => ⟨S2x8x2048x2048, .i1⟩
  | 63 => ⟨S_, .f32⟩
  | 64 => ⟨S2x8x2048x2048, .f32⟩
  | 65 => ⟨S2x8x2048x2048, .f32⟩
  | 66 => ⟨S2x8x2048x2048, .f32⟩
  | 67 => ⟨S2x8x2048x2048, .f32⟩
  | 68 => ⟨S2x8x2048x2048, .f32⟩
  | 69 => ⟨S_, .f32⟩
  | 70 => ⟨S2x8x2048x2048, .f32⟩
  | 71 => ⟨S2x8x2048x2048, .f32⟩
  | 72 => ⟨S2x8x2048x2048, .f32⟩
  | 73 => ⟨S_, .f32⟩
  | 74 => ⟨S_, .f32⟩
  | 75 => ⟨S2x8x2048x2048, .i1⟩
  | 76 => ⟨S2x8x2048x2048, .f32⟩
  | 77 => ⟨S2x8x2048x2048, .f32⟩
  | 78 => ⟨S_, .f32⟩
  | 79 => ⟨S2x8x2048x2048, .f32⟩
  | 80 => ⟨S_, .f32⟩
  | 81 => ⟨S_, .f32⟩
  | 82 => ⟨S2x8x2048x2048, .f32⟩
  | 83 => ⟨S2x8x2048x2048, .f32⟩
  | 84 => ⟨S2x8x2048x2048, .f32⟩
  | 85 => ⟨S_, .f32⟩
  | 86 => ⟨S2x8x2048x2048, .f32⟩
  | 87 => ⟨S2x8x2048x2048, .f32⟩
  | 88 => ⟨S2x8x2048x2048, .f32⟩
  | 89 => ⟨S2x8x2048x2048, .f32⟩
  | 90 => ⟨S2x8x2048x2048, .i1⟩
  | 91 => ⟨S2x8x2048x2048, .f32⟩
  | 92 => ⟨S2x8x2048x2048, .f32⟩
  | 93 => ⟨S2x8x2048x2048, .f32⟩
  | 94 => ⟨S2x8x2048x2048, .f32⟩
  | 95 => ⟨S2x8x2048x2048, .f32⟩
  | 96 => ⟨S2x8x2048x2048, .f32⟩
  | 97 => ⟨S2x8x2048x2048, .f32⟩
  | 98 => ⟨S2x8x2048x2048, .f32⟩
  | 99 => ⟨S_, .f32⟩
  | 100 => ⟨S2x8x2048x2048, .f32⟩
  | 101 => ⟨S2x8x2048x2048, .i1⟩
  | 102 => ⟨S_, .f32⟩
  | 103 => ⟨S2x8x2048x2048, .f32⟩
  | 104 => ⟨S2x8x2048x2048, .f32⟩
  | 105 => ⟨S_, .f32⟩
  | 106 => ⟨S2x8x2048x2048, .f32⟩
  | 107 => ⟨S2x8x2048x2048, .i1⟩
  | 108 => ⟨S_, .f32⟩
  | 109 => ⟨S2x8x2048x2048, .f32⟩
  | 110 => ⟨S2x8x2048x2048, .f32⟩
  | 111 => ⟨S2x8x2048x2048, .f32⟩
  | 112 => ⟨S2x8x2048x2048, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S2x8x2048x2048, .f32⟩
  | 121 => ⟨S2x8x2048x2048, .i1⟩
  | 122 => ⟨S_, .f32⟩
  | 123 => ⟨S2x8x2048x2048, .f32⟩
  | 124 => ⟨S2x8x2048x2048, .f32⟩
  | 125 => ⟨S2x8x2048x2048, .f32⟩
  | 126 => ⟨S2x8x2048x2048, .f32⟩
  | 127 => ⟨S2x8x2048x2048, .f32⟩
  | _ => ⟨S2x2048x512, .f32⟩

abbrev hbmTy0_1 (i : Nat) : BufTy := match i % 128 with
  | 0 => ⟨S_, .f32⟩
  | 1 => ⟨S2x8x2048x2048, .f32⟩
  | 2 => ⟨S2x8x2048x2048, .f32⟩
  | 3 => ⟨S2x8x2048x2048, .f32⟩
  | 4 => ⟨S2x8x2048x2048, .f32⟩
  | 5 => ⟨S2x8x2048x2048, .f32⟩
  | 6 => ⟨S_, .f32⟩
  | 7 => ⟨S_, .f32⟩
  | 8 => ⟨S2x8x2048x2048, .i1⟩
  | 9 => ⟨S2x8x2048x2048, .f32⟩
  | 10 => ⟨S2x8x2048x2048, .f32⟩
  | 11 => ⟨S_, .f32⟩
  | 12 => ⟨S2x8x2048x2048, .f32⟩
  | 13 => ⟨S2x8x2048x64, .f32⟩
  | 14 => ⟨S2x2048x8x64, .f32⟩
  | 15 => ⟨S2x2048x512, .f32⟩
  | 16 => ⟨S2x2048x8x64, .f32⟩
  | 17 => ⟨S2x8x2048x64, .f32⟩
  | 18 => ⟨S2x8x64x2048, .f32⟩
  | 19 => ⟨S2x8x2048x64, .f32⟩
  | 20 => ⟨S2x8x2048x2048, .f32⟩
  | 21 => ⟨S_, .f32⟩
  | 22 => ⟨S2x8x2048x2048, .f32⟩
  | 23 => ⟨S2x8x2048x2048, .f32⟩
  | 24 => ⟨S2x8x2048x2048, .f32⟩
  | 25 => ⟨S2x8x2048x2048, .f32⟩
  | 26 => ⟨S2x8x2048x2048, .f32⟩
  | 27 => ⟨S2x8x2048x2048, .f32⟩
  | 28 => ⟨S2x8x2048x2048, .f32⟩
  | 29 => ⟨S_, .f32⟩
  | 30 => ⟨S_, .f32⟩
  | 31 => ⟨S2x8x2048x2048, .f32⟩
  | 32 => ⟨S2x8x2048x2048, .f32⟩
  | 33 => ⟨S_, .f32⟩
  | 34 => ⟨S2x8x2048x2048, .f32⟩
  | 35 => ⟨S2x8x2048x2048, .f32⟩
  | 36 => ⟨S2x8x2048x2048, .f32⟩
  | 37 => ⟨S2x8x2048x2048, .f32⟩
  | 38 => ⟨S2x8x2048x2048, .f32⟩
  | 39 => ⟨S2x8x2048x2048, .f32⟩
  | 40 => ⟨S2x8x2048x2048, .f32⟩
  | 41 => ⟨S_, .f32⟩
  | 42 => ⟨S2x8x2048x2048, .f32⟩
  | 43 => ⟨S2x8x2048x2048, .f32⟩
  | 44 => ⟨S2x8x2048x64, .f32⟩
  | 45 => ⟨S2x8x2048x64, .f32⟩
  | 46 => ⟨S2x2048x8x64, .f32⟩
  | 47 => ⟨S2x2048x512, .f32⟩
  | 48 => ⟨S2x2048x8x64, .f32⟩
  | 49 => ⟨S2x2048x512, .f32⟩
  | 50 => ⟨S2x2048x8x64, .f32⟩
  | 51 => ⟨S2x2048x512, .f32⟩
  | 52 => ⟨S4096x512, .f32⟩
  | 53 => ⟨S4096x512, .bf16⟩
  | 54 => ⟨S4096x512, .f32⟩
  | 55 => ⟨S4096x512, .bf16⟩
  | 56 => ⟨S4096x512, .f32⟩
  | 57 => ⟨S4096x512, .bf16⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v17_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v17_2 : Ref sig .tc := ⟨.hbm, 71, rfl⟩
abbrev main_v17_0 : Ref sig .tc := ⟨.hbm, 72, rfl⟩
abbrev main_cst_0 : Ref sig .tc := ⟨.hbm, 73, rfl⟩
abbrev main_call1_v0 : Ref sig .tc := ⟨.hbm, 74, rfl⟩
abbrev main_v18_1 : Ref sig .tc := ⟨.hbm, 75, rfl⟩
abbrev main_call1_v2 : Ref sig .tc := ⟨.hbm, 76, rfl⟩
abbrev main_v18_0 : Ref sig .tc := ⟨.hbm, 77, rfl⟩
abbrev main_call1_cst : Ref sig .tc := ⟨.hbm, 78, rfl⟩
abbrev main_v18_2 : Ref sig .tc := ⟨.hbm, 79, rfl⟩
abbrev main_call2_cst : Ref sig .tc := ⟨.hbm, 80, rfl⟩
abbrev main_call2_v0 : Ref sig .tc := ⟨.hbm, 81, rfl⟩
abbrev main_v19 : Ref sig .tc := ⟨.hbm, 82, rfl⟩
abbrev main_v20 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v21_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v21_2 : Ref sig .tc := ⟨.hbm, 130, rfl⟩
abbrev main_v21_0 : Ref sig .tc := ⟨.hbm, 131, rfl⟩
abbrev main_v22 : Ref sig .tc := ⟨.hbm, 132, rfl⟩
abbrev main_v23 : Ref sig .tc := ⟨.hbm, 133, rfl⟩
abbrev main_cst_1 : Ref sig .tc := ⟨.hbm, 134, rfl⟩
abbrev main_call4_v0 : Ref sig .tc := ⟨.hbm, 135, rfl⟩
abbrev main_v24_1 : Ref sig .tc := ⟨.hbm, 136, rfl⟩
abbrev main_call4_v2 : Ref sig .tc := ⟨.hbm, 137, rfl⟩
abbrev main_v24_0 : Ref sig .tc := ⟨.hbm, 138, rfl⟩
abbrev main_call4_cst : Ref sig .tc := ⟨.hbm, 139, rfl⟩
abbrev main_v24_2 : Ref sig .tc := ⟨.hbm, 140, rfl⟩
abbrev main_v25 : Ref sig .tc := ⟨.hbm, 141, rfl⟩
abbrev main_v26 : Ref sig .tc := ⟨.hbm, 142, rfl⟩
abbrev main_v27 : Ref sig .tc := ⟨.hbm, 143, rfl⟩
abbrev main_v28 : Ref sig .tc := ⟨.hbm, 144, rfl⟩
abbrev main_v29 : Ref sig .tc := ⟨.hbm, 145, rfl⟩
abbrev main_v30 : Ref sig .tc := ⟨.hbm, 146, rfl⟩
abbrev main_v31 : Ref sig .tc := ⟨.hbm, 147, rfl⟩
abbrev main_v32 : Ref sig .tc := ⟨.hbm, 148, rfl⟩
abbrev main_call5_cst : Ref sig .tc := ⟨.hbm, 149, rfl⟩
abbrev main_call5_v0 : Ref sig .tc := ⟨.hbm, 150, rfl⟩
abbrev main_v33 : Ref sig .tc := ⟨.hbm, 151, rfl⟩
abbrev main_v34 : Ref sig .tc := ⟨.hbm, 152, rfl⟩
abbrev main_call6_v0 : Ref sig .tc := ⟨.hbm, 153, rfl⟩
abbrev main_call6_v1 : Ref sig .tc := ⟨.hbm, 154, rfl⟩
abbrev main_v35 : Ref sig .tc := ⟨.hbm, 155, rfl⟩
abbrev main_v36 : Ref sig .tc := ⟨.hbm, 156, rfl⟩
abbrev main_call7_cst : Ref sig .tc := ⟨.hbm, 157, rfl⟩
abbrev main_call7_v0 : Ref sig .tc := ⟨.hbm, 158, rfl⟩
abbrev main_v37 : Ref sig .tc := ⟨.hbm, 159, rfl⟩
abbrev main_v38 : Ref sig .tc := ⟨.hbm, 160, rfl⟩
abbrev main_call8_cst : Ref sig .tc := ⟨.hbm, 161, rfl⟩
abbrev main_call8_v0 : Ref sig .tc := ⟨.hbm, 162, rfl⟩
abbrev main_v39 : Ref sig .tc := ⟨.hbm, 163, rfl⟩
abbrev main_call9_v0 : Ref sig .tc := ⟨.hbm, 164, rfl⟩
abbrev main_call9_v1 : Ref sig .tc := ⟨.hbm, 165, rfl⟩
abbrev main_v40 : Ref sig .tc := ⟨.hbm, 166, rfl⟩
abbrev main_v41 : Ref sig .tc := ⟨.hbm, 167, rfl⟩
abbrev main_v42 : Ref sig .tc := ⟨.hbm, 168, rfl⟩
abbrev main_cst_2 : Ref sig .tc := ⟨.hbm, 169, rfl⟩
abbrev main_v43 : Ref sig .tc := ⟨.hbm, 170, rfl⟩
abbrev main_v44 : Ref sig .tc := ⟨.hbm, 171, rfl⟩
abbrev main_v45 : Ref sig .tc := ⟨.hbm, 172, rfl⟩
abbrev main_v46 : Ref sig .tc := ⟨.hbm, 173, rfl⟩
abbrev main_v47 : Ref sig .tc := ⟨.hbm, 174, rfl⟩
abbrev main_v48 : Ref sig .tc := ⟨.hbm, 175, rfl⟩
abbrev main_v49 : Ref sig .tc := ⟨.hbm, 176, rfl⟩
abbrev main_v50 : Ref sig .tc := ⟨.hbm, 177, rfl⟩
abbrev main_v51 : Ref sig .tc := ⟨.hbm, 178, rfl⟩
abbrev main_v52 : Ref sig .tc := ⟨.hbm, 179, rfl⟩
abbrev main_v53 : Ref sig .tc := ⟨.hbm, 180, rfl⟩
abbrev main_v54 : Ref sig .tc := ⟨.hbm, 181, rfl⟩
abbrev main_v55 : Ref sig .tc := ⟨.hbm, 182, rfl⟩
abbrev main_v56 : Ref sig .tc := ⟨.hbm, 183, rfl⟩
abbrev main_v57 : Ref sig .tc := ⟨.hbm, 184, rfl⟩
abbrev main_v58 : Ref sig .tc := ⟨.hbm, 185, rfl⟩

abbrev nD : Nat := 1
abbrev τ : Topo := Topo.v7x

variable {F : FTy → Type} [FloatOps F]
-- ==== Ple.lean ====
abbrev S2x2048x1024 : Shape := ⟨3, ![2, 2048, 1024]⟩
abbrev S1x1024 : Shape := ⟨2, ![1, 1024]⟩
abbrev S1x1024x1024 : Shape := ⟨3, ![1, 1024, 1024]⟩
abbrev S4096x1024 : Shape := ⟨2, ![4096, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x1024, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1024x1024, .f32⟩
  | .hbm, ⟨10, _⟩ => ⟨S1024x1024, .bf16⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PleRefIdeal.lean ====
abbrev S2x2048x1024 : Shape := ⟨3, ![2, 2048, 1024]⟩
abbrev S1x1024 : Shape := ⟨2, ![1, 1024]⟩
abbrev S1x1024x1024 : Shape := ⟨3, ![1, 1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x1024 : Shape := ⟨2, ![1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x1024, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1024x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Mlp.lean ====
abbrev S2x2048x1024 : Shape := ⟨3, ![2, 2048, 1024]⟩
abbrev S1x1024 : Shape := ⟨2, ![1, 1024]⟩
abbrev S1x1024x4096 : Shape := ⟨3, ![1, 1024, 4096]⟩
abbrev S2x2048x4096 : Shape := ⟨3, ![2, 2048, 4096]⟩
abbrev S4096x1024 : Shape := ⟨2, ![4096, 1024]⟩
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4096, .f32⟩
  | .hbm, ⟨3, _⟩ => ⟨S2x2048x4096, .f32⟩
  | .hbm, ⟨4, _⟩ => ⟨S2x2048x1024, .f32⟩
  | .hbm, ⟨5, _⟩ => ⟨S4096x1024, .f32⟩
  | .hbm, ⟨6, _⟩ => ⟨S4096x4096, .f32⟩
  | .hbm, ⟨7, _⟩ => ⟨S4096x1024, .f32⟩
  | .hbm, ⟨8, _⟩ => ⟨S4096x4096, .bf16⟩
  | .hbm, ⟨9, _⟩ => ⟨S1024x4096, .f32⟩
  | .hbm, ⟨10, _⟩ => ⟨S1024x4096, .bf16⟩
  | .hbm, ⟨11, _⟩ => ⟨S1024x4x1024, .bf16⟩
  | .hbm, ⟨12, _⟩ => ⟨S4x1024x1024, .bf16⟩
  | .hbm, ⟨13, _⟩ => ⟨S4096x1024, .f32⟩
  | .hbm, ⟨14, _⟩ => ⟨S4096x1024, .bf16⟩
  | .hbm, ⟨15, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpRefIdeal.lean ====
abbrev S2x2048x1024 : Shape := ⟨3, ![2, 2048, 1024]⟩
abbrev S1x1024 : Shape := ⟨2, ![1, 1024]⟩
abbrev S1x1024x4096 : Shape := ⟨3, ![1, 1024, 4096]⟩
abbrev S2x2048x4096 : Shape := ⟨3, ![2, 2048, 4096]⟩
abbrev S4096x1024 : Shape := ⟨2, ![4096, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x4096 : Shape := ⟨2, ![1024, 4096]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4096, .f32⟩
  | .hbm, ⟨3, _⟩ => ⟨S2x2048x4096, .f32⟩
  | .hbm, ⟨4, _⟩ => ⟨S2x2048x1024, .f32⟩
  | .hbm, ⟨5, _⟩ => ⟨S4096x1024, .f32⟩
  | .hbm, ⟨6, _⟩ => ⟨S4096x4096, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1024x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Act.lean ====
abbrev S2x2048x1024 : Shape := ⟨3, ![2, 2048, 1024]⟩
abbrev S1x1024x4096 : Shape := ⟨3, ![1, 1024, 4096]⟩
abbrev S1x4096x1024 : Shape := ⟨3, ![1, 4096, 1024]⟩
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 16
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1x1024x4096, .f32⟩
  | .hbm, ⟨2, _⟩ => ⟨S1x4096x1024, .f32⟩
  | .hbm, ⟨3, _⟩ => ⟨S2x2048x1024, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S4096x4096, .bf16⟩
  | .hbm, ⟨15, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActRefIdeal.lean ====
abbrev S2x2048x1024 : Shape := ⟨3, ![2, 2048, 1024]⟩
abbrev S1x1024x4096 : Shape := ⟨3, ![1, 1024, 4096]⟩
abbrev S1x4096x1024 : Shape := ⟨3, ![1, 4096, 1024]⟩
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x4096, .f32⟩
  | .hbm, ⟨2, _⟩ => ⟨S1x4096x1024, .f32⟩
  | .hbm, ⟨3, _⟩ => ⟨S2x2048x1024, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Post.lean ====
abbrev S2x2048x8 : Shape := ⟨3, ![2, 2048, 8]⟩
abbrev S1x8 : Shape := ⟨2, ![1, 8]⟩
abbrev S2x8x2048 : Shape := ⟨3, ![2, 8, 2048]⟩
abbrev S4096x8 : Shape := ⟨2, ![4096, 8]⟩
abbrev S_ : Shape := ⟨0, ![]⟩
abbrev S4096x120 : Shape := ⟨2, ![4096, 120]⟩
abbrev S4096x128 : Shape := ⟨2, ![4096, 128]⟩
abbrev S1x120 : Shape := ⟨2, ![1, 120]⟩
abbrev S1x128 : Shape := ⟨2, ![1, 128]⟩
abbrev S4096x8x64 : Shape := ⟨3, ![4096, 8, 64]⟩
abbrev S4096x512 : Shape := ⟨2, ![4096, 512]⟩
abbrev S2048x512 : Shape := ⟨2, ![2048, 512]⟩
abbrev S2048x128 : Shape := ⟨2, ![2048, 128]⟩
abbrev S512x128 : Shape := ⟨2, ![512, 128]⟩
abbrev S256x256 : Shape := ⟨2, ![256, 256]⟩
abbrev S256x128 : Shape := ⟨2, ![256, 128]⟩
abbrev S256x512 : Shape := ⟨2, ![256, 512]⟩
abbrev S128 : Shape := ⟨1, ![128]⟩

abbrev nBuf : Space → Nat
  | .hbm => 21
  | .vmem => 10
  | .smem => 0
  | _ => 0

abbrev bufTy : (tb : Table) → Fin (tcTables nBuf tb) → BufTy
  | .hbm, ⟨0, _⟩ => ⟨S2x2048x8, .f32⟩
  | .hbm, ⟨1, _⟩ => ⟨S1x8, .f32⟩
  | .hbm, ⟨2, _⟩ => ⟨S2x8x2048, .f32⟩
  | .hbm, ⟨3, _⟩ => ⟨S2x8x2048, .f32⟩
  | .hbm, ⟨4, _⟩ => ⟨S4096x8, .f32⟩
  | .hbm, ⟨5, _⟩ => ⟨S_, .f32⟩
  | .hbm, ⟨6, _⟩ => ⟨S4096x120, .f32⟩
  | .hbm, ⟨7, _⟩ => ⟨S4096x128, .f32⟩
  | .hbm, ⟨8, _⟩ => ⟨S_, .f32⟩
  | .hbm, ⟨9, _⟩ => ⟨S1x120, .f32⟩
  | .hbm, ⟨10, _⟩ => ⟨S1x128, .f32⟩
  | .hbm, ⟨11, _⟩ => ⟨S2x2048x8, .f32⟩
  | .hbm, ⟨12, _⟩ => ⟨S4096x8, .f32⟩
  | .hbm, ⟨13, _⟩ => ⟨S4096x8x64, .f32⟩
  | .hbm, ⟨14, _⟩ => ⟨S4096x512, .f32⟩
  | .hbm, ⟨15, _⟩ => ⟨S2x2048x8, .f32⟩
  | .hbm, ⟨16, _⟩ => ⟨S4096x8, .f32⟩
  | .hbm, ⟨17, _⟩ => ⟨S4096x8x64, .f32⟩
  | .hbm, ⟨18, _⟩ => ⟨S4096x512, .f32⟩
  | .hbm, ⟨19, _⟩ => ⟨S4096x128, .bf16⟩
  | .hbm, ⟨20, _⟩ => ⟨S1x128, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S2048x128, .bf16⟩
  | .local _ .vmem, ⟨8, _⟩ => ⟨S2048x128, .bf16⟩
  | .local _ .vmem, ⟨9, _⟩ => ⟨S1x128, .f32⟩
  | _, _ => ⟨S2x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PostRefIdeal.lean ====
abbrev S2x2048x8 : Shape := ⟨3, ![2, 2048, 8]⟩
abbrev S1x8 : Shape := ⟨2, ![1, 8]⟩
abbrev S2x8x2048 : Shape := ⟨3, ![2, 8, 2048]⟩
abbrev S8 : Shape := ⟨1, ![8]⟩
abbrev S1x1x8 : Shape := ⟨3, ![1, 1, 8]⟩
abbrev S_ : Shape := ⟨0, ![]⟩
abbrev S4096x8 : Shape := ⟨2, ![4096, 8]⟩
abbrev S4096x120 : Shape := ⟨2, ![4096, 120]⟩
abbrev S4096x128 : Shape := ⟨2, ![4096, 128]⟩
abbrev S1x120 : Shape := ⟨2, ![1, 120]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S2x2048x8, .f32⟩
  | .hbm, ⟨1, _⟩ => ⟨S1x8, .f32⟩
  | .hbm, ⟨2, _⟩ => ⟨S2x8x2048, .f32⟩
  | .hbm, ⟨3, _⟩ => ⟨S2x8x2048, .f32⟩
  | .hbm, ⟨4, _⟩ => ⟨S8, .f32⟩
  | .hbm, ⟨5, _⟩ => ⟨S1x1x8, .f32⟩
  | .hbm, ⟨6, _⟩ => ⟨S2x2048x8, .f32⟩
  | .hbm, ⟨7, _⟩ => ⟨S2x2048x8, .f32⟩
  | .hbm, ⟨8, _⟩ => ⟨S2x2048x8, .f32⟩
  | .hbm, ⟨9, _⟩ => ⟨S_, .f32⟩
  | .hbm, ⟨10, _⟩ => ⟨S2x2048x8, .f32⟩
  | .hbm, ⟨11, _⟩ => ⟨S2x2048x8, .f32⟩
  | .hbm, ⟨12, _⟩ => ⟨S2x2048x8, .f32⟩
  | .hbm, ⟨13, _⟩ => ⟨S2x2048x8, .f32⟩
  | .hbm, ⟨14, _⟩ => ⟨S2x2048x8, .i1⟩
  | .hbm, ⟨15, _⟩ => ⟨S2x2048x8, .f32⟩
  | .hbm, ⟨16, _⟩ => ⟨S2x2048x8, .f32⟩
  | .hbm, ⟨17, _⟩ => ⟨S2x2048x8, .f32⟩
  | .hbm, ⟨18, _⟩ => ⟨S2x2048x8, .f32⟩
  | .hbm, ⟨19, _⟩ => ⟨S2x2048x8, .f32⟩
  | .hbm, ⟨20, _⟩ => ⟨S2x2048x8, .f32⟩
  | .hbm, ⟨21, _⟩ => ⟨S2x2048x8, .f32⟩
  | .hbm, ⟨22, _⟩ => ⟨S2x2048x8, .f32⟩
  | .hbm, ⟨23, _⟩ => ⟨S_, .f32⟩
  | .hbm, ⟨24, _⟩ => ⟨S2x2048x8, .f32⟩
  | .hbm, ⟨25, _⟩ => ⟨S2x2048x8, .i1⟩
  | .hbm, ⟨26, _⟩ => ⟨S_, .f32⟩
  | .hbm, ⟨27, _⟩ => ⟨S2x2048x8, .f32⟩
  | .hbm, ⟨28, _⟩ => ⟨S2x2048x8, .f32⟩
  | .hbm, ⟨29, _⟩ => ⟨S_, .f32⟩
  | .hbm, ⟨30, _⟩ => ⟨S2x2048x8, .f32⟩
  | .hbm, ⟨31, _⟩ => ⟨S2x2048x8, .i1⟩
  | .hbm, ⟨32, _⟩ => ⟨S_, .f32⟩
  | .hbm, ⟨33, _⟩ => ⟨S2x2048x8, .f32⟩
  | .hbm, ⟨34, _⟩ => ⟨S2x2048x8, .f32⟩
  | .hbm, ⟨35, _⟩ => ⟨S2x2048x8, .f32⟩
  | .hbm, ⟨36, _⟩ => ⟨S2x2048x8, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2x2048x8, .f32⟩
  | .hbm, ⟨45, _⟩ => ⟨S2x2048x8, .i1⟩
  | .hbm, ⟨46, _⟩ => ⟨S_, .f32⟩
  | .hbm, ⟨47, _⟩ => ⟨S2x2048x8, .f32⟩
  | .hbm, ⟨48, _⟩ => ⟨S2x2048x8, .f32⟩
  | .hbm, ⟨49, _⟩ => ⟨S2x2048x8, .f32⟩
  | .hbm, ⟨50, _⟩ => ⟨S2x2048x8, .f32⟩
  | .hbm, ⟨51, _⟩ => ⟨S2x2048x8, .f32⟩
  | .hbm, ⟨52, _⟩ => ⟨S_, .f32⟩
  | .hbm, ⟨53, _⟩ => ⟨S2x2048x8, .f32⟩
  | .hbm, ⟨54, _⟩ => ⟨S2x2048x8, .f32⟩
  | .hbm, ⟨55, _⟩ => ⟨S2x2048x8, .f32⟩
  | .hbm, ⟨56, _⟩ => ⟨S2x8x2048, .f32⟩
  | .hbm, ⟨57, _⟩ => ⟨S_, .f32⟩
  | .hbm, ⟨58, _⟩ => ⟨S_, .f32⟩
  | .hbm, ⟨59, _⟩ => ⟨S2x8x2048, .f32⟩
  | .hbm, ⟨60, _⟩ => ⟨S2x8x2048, .f32⟩
  | .hbm, ⟨61, _⟩ => ⟨S2x8x2048, .f32⟩
  | .hbm, ⟨62, _⟩ => ⟨S2x8x2048, .f32⟩
  | .hbm, ⟨63, _⟩ => ⟨S_, .f32⟩
  | .hbm, ⟨64, _⟩ => ⟨S_, .f32⟩
  | .hbm, ⟨65, _⟩ => ⟨S2x8x2048, .f32⟩
  | .hbm, ⟨66, _⟩ => ⟨S2x2048x8, .f32⟩
  | .hbm, ⟨67, _⟩ => ⟨S2x2048x8, .f32⟩
  | .hbm, ⟨68, _⟩ => ⟨S2x2048x8, .f32⟩
  | .hbm, ⟨69, _⟩ => ⟨S2x2048x8, .f32⟩
  | .hbm, ⟨70, _⟩ => ⟨S_, .f32⟩
  | .hbm, ⟨71, _⟩ => ⟨S8, .f32⟩
  | .hbm, ⟨72, _⟩ => ⟨S1x1x8, .f32⟩
  | .hbm, ⟨73, _⟩ => ⟨S_, .f32⟩
  | .hbm, ⟨74, _⟩ => ⟨S8, .f32⟩
  | .hbm, ⟨75, _⟩ => ⟨S1x8, .f32⟩
  | .hbm, ⟨76, _⟩ => ⟨S4096x8, .f32⟩
  | .hbm, ⟨77, _⟩ => ⟨S_, .f32⟩
  | .hbm, ⟨78, _⟩ => ⟨S4096x120, .f32⟩
  | .hbm, ⟨79, _⟩ => ⟨S4096x128, .f32⟩
  | .hbm, ⟨80, _⟩ => ⟨S4096x128, .bf16⟩
  | .hbm, ⟨81, _⟩ => ⟨S_, .f32⟩
  | .hbm, ⟨82, _⟩ => ⟨S1x120, .f32⟩
  | .hbm, ⟨83, _⟩ => ⟨S1x128, .f32⟩
  | _, _ => ⟨S2x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v4_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v4_2 : Ref sig .tc := ⟨.hbm, 54, rfl⟩
abbrev main_v4_0 : Ref sig .tc := ⟨.hbm, 55, rfl⟩
abbrev main_v5 : Ref sig .tc := ⟨.hbm, 56, rfl⟩
abbrev main_call1_call0_cst : Ref sig .tc := ⟨.hbm, 57, rfl⟩
abbrev main_call1_call0_v0 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_call2_call0_cst : Ref sig .tc := ⟨.hbm, 63, rfl⟩
abbrev main_call2_call0_v0 : Ref sig .tc := ⟨.hbm, 64, rfl⟩
abbrev main_v10 : Ref sig .tc := ⟨.hbm, 65, rfl⟩
abbrev main_v11 : Ref sig .tc := ⟨.hbm, 66, rfl⟩
abbrev main_call3_v0 : Ref sig .tc := ⟨.hbm, 67, rfl⟩
abbrev main_call3_v1 : Ref sig .tc := ⟨.hbm, 68, rfl⟩
abbrev main_v12 : Ref sig .tc := ⟨.hbm, 69, rfl⟩
abbrev main_cst : Ref sig .tc := ⟨.hbm, 70, rfl⟩
abbrev main_v13 : Ref sig .tc := ⟨.hbm, 71, rfl⟩
abbrev main_v14 : Ref sig .tc := ⟨.hbm, 72, rfl⟩
abbrev main_cst_0 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_cst_1 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_cst_2 : Ref sig .tc := ⟨.hbm, 81, rfl⟩
abbrev main_v21 : Ref sig .tc := ⟨.hbm, 82, rfl⟩
abbrev main_v22 : Ref sig .tc := ⟨.hbm, 83, rfl⟩

abbrev nD : Nat := 1
abbrev τ : Topo := Topo.v7x

variable {F : FTy → Type} [FloatOps F]
-- ==== Prep.lean ====
abbrev S2x2048x8 : Shape := ⟨3, ![2, 2048, 8]⟩
abbrev S1x8 : Shape := ⟨2, ![1, 8]⟩
abbrev S4096x8 : Shape := ⟨2, ![4096, 8]⟩
abbrev S_ : Shape := ⟨0, ![]⟩
abbrev S4096x120 : Shape := ⟨2, ![4096, 120]⟩
abbrev S4096x128 : Shape := ⟨2, ![4096, 128]⟩
abbrev S1x120 : Shape := ⟨2, ![1, 120]⟩
abbrev S1x128 : Shape := ⟨2, ![1, 128]⟩
abbrev S4096x512 : Shape := ⟨2, ![4096, 512]⟩
abbrev S16x2048 : Shape := ⟨2, ![16, 2048]⟩
abbrev S2048x128 : Shape := ⟨2, ![2048, 128]⟩
abbrev S2048x512 : Shape := ⟨2, ![2048, 512]⟩
abbrev S8x2048 : Shape := ⟨2, ![8, 2048]⟩
abbrev S256x128 : Shape := ⟨2, ![256, 128]⟩
abbrev S256x256 : Shape := ⟨2, ![256, 256]⟩
abbrev S128x512 : Shape := ⟨2, ![128, 512]⟩
abbrev S1x512 : Shape := ⟨2, ![1, 512]⟩
abbrev S128x1 : Shape := ⟨2, ![128, 1]⟩
abbrev S256x512 : Shape := ⟨2, ![256, 512]⟩
abbrev S128x256 : Shape := ⟨2, ![128, 256]⟩
abbrev S8x256 : Shape := ⟨2, ![8, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x2048x8, .f32⟩
  | .hbm, ⟨1, _⟩ => ⟨S1x8, .f32⟩
  | .hbm, ⟨2, _⟩ => ⟨S4096x8, .f32⟩
  | .hbm, ⟨3, _⟩ => ⟨S_, .f32⟩
  | .hbm, ⟨4, _⟩ => ⟨S4096x120, .f32⟩
  | .hbm, ⟨5, _⟩ => ⟨S4096x128, .f32⟩
  | .hbm, ⟨6, _⟩ => ⟨S_, .f32⟩
  | .hbm, ⟨7, _⟩ => ⟨S1x120, .f32⟩
  | .hbm, ⟨8, _⟩ => ⟨S1x128, .f32⟩
  | .hbm, ⟨9, _⟩ => ⟨S4096x512, .f32⟩
  | .hbm, ⟨10, _⟩ => ⟨S16x2048, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x512, .f32⟩
  | .local _ .vmem, ⟨4, _⟩ => ⟨S2048x512, .f32⟩
  | .local _ .vmem, ⟨5, _⟩ => ⟨S8x2048, .f32⟩
  | .local _ .vmem, ⟨6, _⟩ => ⟨S8x2048, .f32⟩
  | _, _ => ⟨S2x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrepRefIdeal.lean ====
abbrev S2x2048x8 : Shape := ⟨3, ![2, 2048, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S2x8x2048 : Shape := ⟨3, ![2, 8, 2048]⟩
abbrev S2x2048x8x1 : Shape := ⟨4, ![2, 2048, 8, 1]⟩
abbrev S2x2048x8x64 : Shape := ⟨4, ![2, 2048, 8, 64]⟩
abbrev S4096x512 : Shape := ⟨2, ![4096, 512]⟩
abbrev S16x2048 : Shape := ⟨2, ![16, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x8, .f32⟩
  | .hbm, ⟨1, _⟩ => ⟨S1x8, .f32⟩
  | .hbm, ⟨2, _⟩ => ⟨S8, .f32⟩
  | .hbm, ⟨3, _⟩ => ⟨S1x1x8, .f32⟩
  | .hbm, ⟨4, _⟩ => ⟨S2x2048x8, .f32⟩
  | .hbm, ⟨5, _⟩ => ⟨S2x2048x8, .f32⟩
  | .hbm, ⟨6, _⟩ => ⟨S2x2048x8, .f32⟩
  | .hbm, ⟨7, _⟩ => ⟨S_, .f32⟩
  | .hbm, ⟨8, _⟩ => ⟨S2x2048x8, .f32⟩
  | .hbm, ⟨9, _⟩ => ⟨S2x2048x8, .f32⟩
  | .hbm, ⟨10, _⟩ => ⟨S2x2048x8, .f32⟩
  | .hbm, ⟨11, _⟩ => ⟨S2x2048x8, .f32⟩
  | .hbm, ⟨12, _⟩ => ⟨S2x2048x8, .i1⟩
  | .hbm, ⟨13, _⟩ => ⟨S2x2048x8, .f32⟩
  | .hbm, ⟨14, _⟩ => ⟨S2x2048x8, .f32⟩
  | .hbm, ⟨15, _⟩ => ⟨S2x2048x8, .f32⟩
  | .hbm, ⟨16, _⟩ => ⟨S2x2048x8, .f32⟩
  | .hbm, ⟨17, _⟩ => ⟨S2x2048x8, .f32⟩
  | .hbm, ⟨18, _⟩ => ⟨S2x2048x8, .f32⟩
  | .hbm, ⟨19, _⟩ => ⟨S2x2048x8, .f32⟩
  | .hbm, ⟨20, _⟩ => ⟨S2x2048x8, .f32⟩
  | .hbm, ⟨21, _⟩ => ⟨S2x2048x8, .f32⟩
  | .hbm, ⟨22, _⟩ => ⟨S2x8x2048, .f32⟩
  | .hbm, ⟨23, _⟩ => ⟨S_, .f32⟩
  | .hbm, ⟨24, _⟩ => ⟨S_, .f32⟩
  | .hbm, ⟨25, _⟩ => ⟨S2x8x2048, .f32⟩
  | .hbm, ⟨26, _⟩ => ⟨S2x2048x8, .f32⟩
  | .hbm, ⟨27, _⟩ => ⟨S2x2048x8x1, .f32⟩
  | .hbm, ⟨28, _⟩ => ⟨S2x2048x8x64, .f32⟩
  | .hbm, ⟨29, _⟩ => ⟨S4096x512, .f32⟩
  | .hbm, ⟨30, _⟩ => ⟨S16x2048, .f32⟩
  | _, _ => ⟨S2x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Head.lean ====
abbrev S2x2048x1024 : Shape := ⟨3, ![2, 2048, 1024]⟩
abbrev S1x1024 : Shape := ⟨2, ![1, 1024]⟩
abbrev S1x2x2048x256 : Shape := ⟨4, ![1, 2, 2048, 256]⟩
abbrev S1x1024x1024 : Shape := ⟨3, ![1, 1024, 1024]⟩
abbrev S1x256x1024 : Shape := ⟨3, ![1, 256, 1024]⟩
abbrev S1024 : Shape := ⟨1, ![1024]⟩
abbrev S2x2048x256 : Shape := ⟨3, ![2, 2048, 256]⟩
abbrev S4096x1024 : Shape := ⟨2, ![4096, 1024]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S256x1024 : Shape := ⟨2, ![256, 1024]⟩
abbrev S256x4x256 : Shape := ⟨3, ![256, 4, 256]⟩
abbrev S4x256x256 : Shape := ⟨3, ![4, 256, 256]⟩
abbrev S1x128 : Shape := ⟨2, ![1, 128]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 41
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x2x2048x256, .f32⟩
  | .hbm, ⟨3, _⟩ => ⟨S1x1024x1024, .f32⟩
  | .hbm, ⟨4, _⟩ => ⟨S1x256x1024, .f32⟩
  | .hbm, ⟨5, _⟩ => ⟨S1024, .f32⟩
  | .hbm, ⟨6, _⟩ => ⟨S2x2048x1024, .f32⟩
  | .hbm, ⟨7, _⟩ => ⟨S2x2048x256, .f32⟩
  | .hbm, ⟨8, _⟩ => ⟨S4096x1024, .f32⟩
  | .hbm, ⟨9, _⟩ => ⟨S4096x256, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S1024x1024, .f32⟩
  | .hbm, ⟨30, _⟩ => ⟨S1024x1024, .bf16⟩
  | .hbm, ⟨31, _⟩ => ⟨S256x1024, .f32⟩
  | .hbm, ⟨32, _⟩ => ⟨S256x1024, .bf16⟩
  | .hbm, ⟨33, _⟩ => ⟨S256x4x256, .bf16⟩
  | .hbm, ⟨34, _⟩ => ⟨S4x256x256, .bf16⟩
  | .hbm, ⟨35, _⟩ => ⟨S1x1024, .f32⟩
  | .hbm, ⟨36, _⟩ => ⟨S4096x1024, .f32⟩
  | .hbm, ⟨37, _⟩ => ⟨S4096x1024, .bf16⟩
  | .hbm, ⟨38, _⟩ => ⟨S4096x1024, .bf16⟩
  | .hbm, ⟨39, _⟩ => ⟨S1x1024, .f32⟩
  | .hbm, ⟨40, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S4x256x256, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev main_v26_3 : Ref sig .tc := ⟨.hbm, 39, rfl⟩
abbrev main_v26_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== HeadRefIdeal.lean ====
abbrev S2x2048x1024 : Shape := ⟨3, ![2, 2048, 1024]⟩
abbrev S1x1024 : Shape := ⟨2, ![1, 1024]⟩
abbrev S1x2x2048x256 : Shape := ⟨4, ![1, 2, 2048, 256]⟩
abbrev S1x1024x1024 : Shape := ⟨3, ![1, 1024, 1024]⟩
abbrev S1x256x1024 : Shape := ⟨3, ![1, 256, 1024]⟩
abbrev S1024 : Shape := ⟨1, ![1024]⟩
abbrev S4096x1024 : Shape := ⟨2, ![4096, 1024]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S256x1024 : Shape := ⟨2, ![256, 1024]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x2x2048x256, .f32⟩
  | .hbm, ⟨3, _⟩ => ⟨S1x1024x1024, .f32⟩
  | .hbm, ⟨4, _⟩ => ⟨S1x256x1024, .f32⟩
  | .hbm, ⟨5, _⟩ => ⟨S1024, .f32⟩
  | .hbm, ⟨6, _⟩ => ⟨S2x2048x1024, .f32⟩
  | .hbm, ⟨7, _⟩ => ⟨S4096x1024, .f32⟩
  | .hbm, ⟨8, _⟩ => ⟨S4096x256, .f32⟩
  | .hbm, ⟨9, _⟩ => ⟨S4096x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x1024, .f32⟩
  | .hbm, ⟨28, _⟩ => ⟨S4096x1024, .f32⟩
  | .hbm, ⟨29, _⟩ => ⟨S256x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4096, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S1024, .f32⟩
  | .hbm, ⟨96, _⟩ => ⟨S4096x1024, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x1024, .f32⟩
  | .hbm, ⟨101, _⟩ => ⟨S4096x1024, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S4096, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .bf16⟩
  | .hbm, ⟨117, _⟩ => ⟨S4096x1024, .bf16⟩
  | .hbm, ⟨118, _⟩ => ⟨S1x1024, .f32⟩
  | .hbm, ⟨119, _⟩ => ⟨S1x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_cst_14 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_cst_16 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_17 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_18 : Ref sig .tc := ⟨.hbm, 94, rfl⟩
abbrev main_v68 : Ref sig .tc := ⟨.hbm, 95, rfl⟩
abbrev main_v69 : Ref sig .tc := ⟨.hbm, 96, rfl⟩
abbrev main_cst_19 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_20 : Ref sig .tc := ⟨.hbm, 103, rfl⟩
abbrev main_v75 : Ref sig .tc := ⟨.hbm, 104, rfl⟩
abbrev main_v76 : Ref sig .tc := ⟨.hbm, 105, rfl⟩
abbrev main_cst_21 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]
-- ==== Mix.lean ====
abbrev S2x2048x1024 : Shape := ⟨3, ![2, 2048, 1024]⟩
abbrev S1x1024 : Shape := ⟨2, ![1, 1024]⟩
abbrev S1x1024x5128 : Shape := ⟨3, ![1, 1024, 5128]⟩
abbrev S2x2048x3072 : Shape := ⟨3, ![2, 2048, 3072]⟩
abbrev S2x2048x2048 : Shape := ⟨3, ![2, 2048, 2048]⟩
abbrev S2x2048x8 : Shape := ⟨3, ![2, 2048, 8]⟩
abbrev S4096x1024 : Shape := ⟨2, ![4096, 1024]⟩
abbrev S4096x3072 : Shape := ⟨2, ![4096, 3072]⟩
abbrev S4096x2048 : Shape := ⟨2, ![4096, 2048]⟩
abbrev S4096x8 : Shape := ⟨2, ![4096, 8]⟩
abbrev S1024x5128 : Shape := ⟨2, ![1024, 5128]⟩
abbrev S1024x1536 : Shape := ⟨2, ![1024, 1536]⟩
abbrev S1024x3072 : Shape := ⟨2, ![1024, 3072]⟩
abbrev S3072x1024 : Shape := ⟨2, ![3072, 1024]⟩
abbrev S1024x2048 : Shape := ⟨2, ![1024, 2048]⟩
abbrev S_ : Shape := ⟨0, ![]⟩
abbrev S4096x120 : Shape := ⟨2, ![4096, 120]⟩
abbrev S4096x128 : Shape := ⟨2, ![4096, 128]⟩
abbrev S1024x8 : Shape := ⟨2, ![1024, 8]⟩
abbrev S1024x120 : Shape := ⟨2, ![1024, 120]⟩
abbrev S1024x128 : Shape := ⟨2, ![1024, 128]⟩
abbrev S512x2048 : Shape := ⟨2, ![512, 2048]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5128, .f32⟩
  | .hbm, ⟨3, _⟩ => ⟨S2x2048x3072, .f32⟩
  | .hbm, ⟨4, _⟩ => ⟨S2x2048x2048, .f32⟩
  | .hbm, ⟨5, _⟩ => ⟨S2x2048x8, .f32⟩
  | .hbm, ⟨6, _⟩ => ⟨S2x2048x1024, .f32⟩
  | .hbm, ⟨7, _⟩ => ⟨S4096x1024, .f32⟩
  | .hbm, ⟨8, _⟩ => ⟨S4096x3072, .f32⟩
  | .hbm, ⟨9, _⟩ => ⟨S4096x2048, .f32⟩
  | .hbm, ⟨10, _⟩ => ⟨S4096x8, .f32⟩
  | .hbm, ⟨11, _⟩ => ⟨S4096x1024, .f32⟩
  | .hbm, ⟨12, _⟩ => ⟨S1024x5128, .f32⟩
  | .hbm, ⟨13, _⟩ => ⟨S1024x1536, .f32⟩
  | .hbm, ⟨14, _⟩ => ⟨S1024x1536, .f32⟩
  | .hbm, ⟨15, _⟩ => ⟨S1024x3072, .f32⟩
  | .hbm, ⟨16, _⟩ => ⟨S3072x1024, .f32⟩
  | .hbm, ⟨17, _⟩ => ⟨S4096x1024, .f32⟩
  | .hbm, ⟨18, _⟩ => ⟨S4096x2048, .bf16⟩
  | .hbm, ⟨19, _⟩ => ⟨S1024x2048, .f32⟩
  | .hbm, ⟨20, _⟩ => ⟨S1024x2048, .bf16⟩
  | .hbm, ⟨21, _⟩ => ⟨S_, .f32⟩
  | .hbm, ⟨22, _⟩ => ⟨S4096x120, .f32⟩
  | .hbm, ⟨23, _⟩ => ⟨S4096x128, .f32⟩
  | .hbm, ⟨24, _⟩ => ⟨S4096x128, .bf16⟩
  | .hbm, ⟨25, _⟩ => ⟨S1024x8, .f32⟩
  | .hbm, ⟨26, _⟩ => ⟨S_, .f32⟩
  | .hbm, ⟨27, _⟩ => ⟨S1024x120, .f32⟩
  | .hbm, ⟨28, _⟩ => ⟨S1024x128, .f32⟩
  | .hbm, ⟨29, _⟩ => ⟨S1024x128, .bf16⟩
  | .hbm, ⟨30, _⟩ => ⟨S4096x1024, .f32⟩
  | .hbm, ⟨31, _⟩ => ⟨S4096x1024, .bf16⟩
  | .hbm, ⟨32, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x128, .bf16⟩
  | .local _ .vmem, ⟨4, _⟩ => ⟨S512x128, .bf16⟩
  | .local _ .vmem, ⟨5, _⟩ => ⟨S1024x128, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixRefIdeal.lean ====
abbrev S2x2048x1024 : Shape := ⟨3, ![2, 2048, 1024]⟩
abbrev S1x1024 : Shape := ⟨2, ![1, 1024]⟩
abbrev S1x1024x5128 : Shape := ⟨3, ![1, 1024, 5128]⟩
abbrev S2x2048x3072 : Shape := ⟨3, ![2, 2048, 3072]⟩
abbrev S2x2048x2048 : Shape := ⟨3, ![2, 2048, 2048]⟩
abbrev S2x2048x8 : Shape := ⟨3, ![2, 2048, 8]⟩
abbrev S4096x1024 : Shape := ⟨2, ![4096, 1024]⟩
abbrev S4096x3072 : Shape := ⟨2, ![4096, 3072]⟩
abbrev S4096x2048 : Shape := ⟨2, ![4096, 2048]⟩
abbrev S4096x8 : Shape := ⟨2, ![4096, 8]⟩
abbrev S4096x1536 : Shape := ⟨2, ![4096, 1536]⟩
abbrev S4096x5128 : Shape := ⟨2, ![4096, 5128]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x5128 : Shape := ⟨2, ![1024, 5128]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5128, .f32⟩
  | .hbm, ⟨3, _⟩ => ⟨S2x2048x3072, .f32⟩
  | .hbm, ⟨4, _⟩ => ⟨S2x2048x2048, .f32⟩
  | .hbm, ⟨5, _⟩ => ⟨S2x2048x8, .f32⟩
  | .hbm, ⟨6, _⟩ => ⟨S2x2048x1024, .f32⟩
  | .hbm, ⟨7, _⟩ => ⟨S4096x1024, .f32⟩
  | .hbm, ⟨8, _⟩ => ⟨S4096x3072, .f32⟩
  | .hbm, ⟨9, _⟩ => ⟨S4096x2048, .f32⟩
  | .hbm, ⟨10, _⟩ => ⟨S4096x8, .f32⟩
  | .hbm, ⟨11, _⟩ => ⟨S4096x1024, .f32⟩
  | .hbm, ⟨12, _⟩ => ⟨S4096x1536, .f32⟩
  | .hbm, ⟨13, _⟩ => ⟨S4096x1536, .f32⟩
  | .hbm, ⟨14, _⟩ => ⟨S4096x5128, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1024x5128, .f32⟩
  | .hbm, ⟨37, _⟩ => ⟨S4096x5128, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Nrm.lean ====
abbrev S2x2048x1024 : Shape := ⟨3, ![2, 2048, 1024]⟩
abbrev S1x1024 : Shape := ⟨2, ![1, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NrmRefIdeal.lean ====
abbrev S2x2048x1024 : Shape := ⟨3, ![2, 2048, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Gatef.lean ====
abbrev S2x2048x2048 : Shape := ⟨3, ![2, 2048, 2048]⟩
abbrev S1x2x1024 : Shape := ⟨3, ![1, 2, 1024]⟩
abbrev S2x2048x512 : Shape := ⟨3, ![2, 2048, 512]⟩
abbrev S1x512x1024 : Shape := ⟨3, ![1, 512, 1024]⟩
abbrev S4096x2048 : Shape := ⟨2, ![4096, 2048]⟩
abbrev S4096x512 : Shape := ⟨2, ![4096, 512]⟩
abbrev S2x1024 : Shape := ⟨2, ![2, 1024]⟩
abbrev S512x1024 : Shape := ⟨2, ![512, 1024]⟩
abbrev S512x4x256 : Shape := ⟨3, ![512, 4, 256]⟩
abbrev S4x512x256 : Shape := ⟨3, ![4, 512, 256]⟩
abbrev S4096x1024 : Shape := ⟨2, ![4096, 1024]⟩
abbrev S512x512 : Shape := ⟨2, ![512, 512]⟩
abbrev S1x512x256 : Shape := ⟨3, ![1, 512, 256]⟩
abbrev S512x256 : Shape := ⟨2, ![512, 256]⟩
abbrev S1x1024 : Shape := ⟨2, ![1, 1024]⟩

abbrev nBuf : Space → Nat
  | .hbm => 23
  | .vmem => 17
  | .smem => 0
  | _ => 0

abbrev bufTy : (tb : Table) → Fin (tcTables nBuf tb) → BufTy
  | .hbm, ⟨0, _⟩ => ⟨S2x2048x2048, .f32⟩
  | .hbm, ⟨1, _⟩ => ⟨S1x2x1024, .f32⟩
  | .hbm, ⟨2, _⟩ => ⟨S2x2048x512, .f32⟩
  | .hbm, ⟨3, _⟩ => ⟨S2x2048x512, .f32⟩
  | .hbm, ⟨4, _⟩ => ⟨S1x512x1024, .f32⟩
  | .hbm, ⟨5, _⟩ => ⟨S1x512x1024, .f32⟩
  | .hbm, ⟨6, _⟩ => ⟨S4096x2048, .f32⟩
  | .hbm, ⟨7, _⟩ => ⟨S4096x512, .f32⟩
  | .hbm, ⟨8, _⟩ => ⟨S4096x512, .f32⟩
  | .hbm, ⟨9, _⟩ => ⟨S2x1024, .f32⟩
  | .hbm, ⟨10, _⟩ => ⟨S4096x512, .bf16⟩
  | .hbm, ⟨11, _⟩ => ⟨S4096x512, .bf16⟩
  | .hbm, ⟨12, _⟩ => ⟨S512x1024, .f32⟩
  | .hbm, ⟨13, _⟩ => ⟨S512x1024, .bf16⟩
  | .hbm, ⟨14, _⟩ => ⟨S512x4x256, .bf16⟩
  | .hbm, ⟨15, _⟩ => ⟨S4x512x256, .bf16⟩
  | .hbm, ⟨16, _⟩ => ⟨S512x1024, .f32⟩
  | .hbm, ⟨17, _⟩ => ⟨S512x1024, .bf16⟩
  | .hbm, ⟨18, _⟩ => ⟨S512x4x256, .bf16⟩
  | .hbm, ⟨19, _⟩ => ⟨S4x512x256, .bf16⟩
  | .hbm, ⟨20, _⟩ => ⟨S4096x1024, .bf16⟩
  | .hbm, ⟨21, _⟩ => ⟨S4096x1024, .f32⟩
  | .hbm, ⟨22, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S4x512x256, .bf16⟩
  | .local _ .vmem, ⟨10, _⟩ => ⟨S4x512x256, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GatefRefIdeal.lean ====
abbrev S2x2048x2048 : Shape := ⟨3, ![2, 2048, 2048]⟩
abbrev S1x2x1024 : Shape := ⟨3, ![1, 2, 1024]⟩
abbrev S2x2048x512 : Shape := ⟨3, ![2, 2048, 512]⟩
abbrev S1x512x1024 : Shape := ⟨3, ![1, 512, 1024]⟩
abbrev S4096x2048 : Shape := ⟨2, ![4096, 2048]⟩
abbrev S4096x512 : Shape := ⟨2, ![4096, 512]⟩
abbrev S512x1024 : Shape := ⟨2, ![512, 1024]⟩
abbrev S4096x1024 : Shape := ⟨2, ![4096, 1024]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S1x2x1024, .f32⟩
  | .hbm, ⟨2, _⟩ => ⟨S2x2048x512, .f32⟩
  | .hbm, ⟨3, _⟩ => ⟨S2x2048x512, .f32⟩
  | .hbm, ⟨4, _⟩ => ⟨S1x512x1024, .f32⟩
  | .hbm, ⟨5, _⟩ => ⟨S1x512x1024, .f32⟩
  | .hbm, ⟨6, _⟩ => ⟨S4096x2048, .f32⟩
  | .hbm, ⟨7, _⟩ => ⟨S4096x512, .f32⟩
  | .hbm, ⟨8, _⟩ => ⟨S4096x512, .f32⟩
  | .hbm, ⟨9, _⟩ => ⟨S512x1024, .f32⟩
  | .hbm, ⟨10, _⟩ => ⟨S4096x1024, .f32⟩
  | .hbm, ⟨11, _⟩ => ⟨S512x1024, .f32⟩
  | .hbm, ⟨12, _⟩ => ⟨S4096x1024, .f32⟩
  | .hbm, ⟨13, _⟩ => ⟨S4096x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1x1x1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Mmr.lean ====
abbrev S2x2048x1024 : Shape := ⟨3, ![2, 2048, 1024]⟩
abbrev S1x1024x1024 : Shape := ⟨3, ![1, 1024, 1024]⟩
abbrev S1x1024 : Shape := ⟨2, ![1, 1024]⟩
abbrev S4096x1024 : Shape := ⟨2, ![4096, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1x1024x1024, .f32⟩
  | .hbm, ⟨2, _⟩ => ⟨S2x2048x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1024x1024, .f32⟩
  | .hbm, ⟨8, _⟩ => ⟨S1024x1024, .bf16⟩
  | .hbm, ⟨9, _⟩ => ⟨S4096x1024, .f32⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MmrRefIdeal.lean ====
abbrev S2x2048x1024 : Shape := ⟨3, ![2, 2048, 1024]⟩
abbrev S1x1024x1024 : Shape := ⟨3, ![1, 1024, 1024]⟩
abbrev S1x1024 : Shape := ⟨2, ![1, 1024]⟩
abbrev S4096x1024 : Shape := ⟨2, ![4096, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x1024, .f32⟩
  | .hbm, ⟨2, _⟩ => ⟨S2x2048x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Up.lean ====
abbrev S2x2048x1024 : Shape := ⟨3, ![2, 2048, 1024]⟩
abbrev S1x1024x4096 : Shape := ⟨3, ![1, 1024, 4096]⟩
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1x1024x4096, .f32⟩
  | .hbm, ⟨2, _⟩ => ⟨S4096x1024, .f32⟩
  | .hbm, ⟨3, _⟩ => ⟨S4096x1024, .bf16⟩
  | .hbm, ⟨4, _⟩ => ⟨S1024x4096, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2x2048x1024 : Shape := ⟨3, ![2, 2048, 1024]⟩
abbrev S1x1024x4096 : Shape := ⟨3, ![1, 1024, 4096]⟩
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x4096, .f32⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Mmd.lean ====
abbrev S2x2048x1024 : Shape := ⟨3, ![2, 2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1x1024x4096, .f32⟩
  | .hbm, ⟨2, _⟩ => ⟨S1x4096x1024, .f32⟩
  | .hbm, ⟨3, _⟩ => ⟨S2x2048x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MmdRefIdeal.lean ====
abbrev S2x2048x1024 : Shape := ⟨3, ![2, 2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x4096, .f32⟩
  | .hbm, ⟨2, _⟩ => ⟨S1x4096x1024, .f32⟩
  | .hbm, ⟨3, _⟩ => ⟨S2x2048x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Adam.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamRefIdeal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Common.lean ====
/- Shared facts: the token index of a flattened row, a sum over the rows block by block, a sum over columns shard by shard. -/
module

public import Idealize.ShloMosaic.Lib.Pipeline.ValueKit
public import Idealize.ShloMosaic.Lib.Pointwise
public import Idealize.ShloMosaic.Lib.StableHlo.ReadAt
public import Idealize.ShloMosaic.Lib.Tactic

@[expose] public section

noncomputable section

namespace Cert.Common

open Idealize.ShloMosaic
open scoped BigOperators

/-- An array of two axes over the extended reals. -/
abbrev M2 (a b : ℕ) : Type := (⟨2, ![a, b]⟩ : Shape).Idx → EReal
/-- An array of three axes over the extended reals. -/
abbrev M3 (a b c : ℕ) : Type := (⟨3, ![a, b, c]⟩ : Shape).Idx → EReal

/-- Token `i` of the 4096 flattened ones, in the array of 2 sequences of 2048 tokens. -/
def tok {n : ℕ} (x : M3 2 2048 n) (i : Fin 4096) (k : Fin n) : EReal :=
  x (ix3 ⟨i.val / 2048, by omega⟩ ⟨i.val % 2048, by omega⟩ k)

/-- Row `r` of block `t` of 512 rows. -/
abbrev row {N : ℕ} (hN : N = 8) (t : Fin N) (r : Fin 512) : Fin 4096 := ⟨512 * t.val + r.val, by have h : t.val < 8 := lt_of_lt_of_eq t.isLt hN; omega⟩

/-- The sum over the blocks of the sums over a block's rows is the sum over all rows. -/
theorem sum_rows {N : ℕ} (hN : N = 8) (f : Fin 4096 → EReal) : ∑ t : Fin N, ∑ r : Fin 512, f (row hN t r) = ∑ i : Fin 4096, f i := by
  subst hN
  have h := Fin.sum_points_lanes_fin (N := 8) (n := 512) (A := 1) (L := 4096) 8 (fun _ l => f l) rfl rfl
  rw [Fin.sum_univ_one] at h
  rw [← h]
  refine Finset.sum_congr rfl fun t _ => Finset.sum_congr rfl fun r _ => congrArg f (Fin.ext ?_)
  show 512 * t.val + r.val = t.val % 8 * 512 + r.val
  omega

/-- A sum over 1024 columns as the sum of four shards of 256. -/
theorem sum_shards (f : Fin 1024 → EReal) :
    ∑ k : Fin 1024, f k = (∑ k : Fin 256, f ⟨k.val, by omega⟩) + (∑ k : Fin 256, f ⟨256 + k.val, by omega⟩) + (∑ k : Fin 256, f ⟨512 + k.val, by omega⟩)
      + ∑ k : Fin 256, f ⟨768 + k.val, by omega⟩ := by
  have h := Fin.sum_points_lanes_fin (N := 4) (n := 256) (A := 1) (L := 1024) 4 (fun _ l => f l) rfl rfl
  rw [Fin.sum_univ_one] at h
  rw [← h, Fin.sum_univ_four]
  rfl

section Rows
variable {Val : EltTy → Type} {e : EltTy} [∀ e, Nonempty (Val e)] {n : ℕ}

/-- A buffer of two rows, each written whole by the last two stores: its second row is the last store's. -/
theorem canon_row1 (h1 : ∀ a, (![1, 0] : Fin 2 → ℕ) a + (![1, n] : Fin 2 → ℕ) a ≤ (⟨2, ![2, n]⟩ : Shape).size a)
    (w1 : (⟨2, ![1, n]⟩ : Shape).Idx → Val e) (L : List (View.Piece Val ⟨2, ![2, n]⟩ e)) (l : Fin n) :
    View.canon (⟨Rect.unit (s := ⟨2, ![2, n]⟩) ![1, 0] ![1, n] h1, w1⟩ :: L) (ix2 1 l) = w1 (ix2 0 l) := by
  have h : (ix2 1 l : (⟨2, ![2, n]⟩ : Shape).Idx) = (Rect.unit (s := ⟨2, ![2, n]⟩) ![1, 0] ![1, n] h1).emb (ix2 0 l) := by
    funext a; refine Fin.ext ?_; match a with | 0 => rfl | 1 => exact (by show l.val = 0 + 1 * l.val; omega)
  rw [h, View.canon_cons_emb]

/-- Its first row is the store's before. -/
theorem canon_row0 (h1 : ∀ a, (![1, 0] : Fin 2 → ℕ) a + (![1, n] : Fin 2 → ℕ) a ≤ (⟨2, ![2, n]⟩ : Shape).size a)
    (h0 : ∀ a, (![0, 0] : Fin 2 → ℕ) a + (![1, n] : Fin 2 → ℕ) a ≤ (⟨2, ![2, n]⟩ : Shape).size a)
    (w1 w0 : (⟨2, ![1, n]⟩ : Shape).Idx → Val e) (L : List (View.Piece Val ⟨2, ![2, n]⟩ e)) (l : Fin n) :
    View.canon (⟨Rect.unit (s := ⟨2, ![2, n]⟩) ![1, 0] ![1, n] h1, w1⟩ :: ⟨Rect.unit (s := ⟨2, ![2, n]⟩) ![0, 0] ![1, n] h0, w0⟩ :: L) (ix2 0 l) = w0 (ix2 0 l) := by
  have h : (ix2 0 l : (⟨2, ![2, n]⟩ : Shape).Idx) = (Rect.unit (s := ⟨2, ![2, n]⟩) ![0, 0] ![1, n] h0).emb (ix2 0 l) := by
    funext a; refine Fin.ext ?_; match a with | 0 => rfl | 1 => exact (by show l.val = 0 + 1 * l.val; omega)
  rw [View.canon_cons_of_not_mem]
  · rw [h, View.canon_cons_emb]
  · rw [Rect.mem_set_unit]; intro hh; have h : 1 ≤ 0 := (hh 0).1; omega

end Rows

end Cert.Common
end
-- ==== Proof.GateSpec.lean ====
/- The gate's gradient, written once as functions of the arguments; both programs are shown to compute them. -/
module

public import proofs.«01_k».proof.Proof.Common

@[expose] public section

noncomputable section

namespace Cert.GateSpec

open Idealize.ShloMosaic Cert.Common
open scoped BigOperators

/-- The cotangent of the mixed heads: `dx · w_outᵀ`. -/
def dm (x4 : M3 2 2048 1024) (x5 : M3 1 1024 1024) (i : Fin 4096) (j : Fin 1024) : EReal := ∑ k : Fin 1024, tok x4 i k * x5 (ix3 0 j k)

/-- A head's output projected to the model's width. -/
def proj (x2 : M3 2 2048 512) (x6 : M3 1 512 1024) (i : Fin 4096) (j : Fin 1024) : EReal := ∑ k : Fin 512, tok x2 i k * x6 (ix3 0 k j)

/-- The first gate. -/
def ga (x0 : M3 2 2048 2048) (x1 : M3 1 2 1024) (i : Fin 4096) (j : Fin 1024) : EReal :=
  Ideal.logistic (tok x0 i ⟨j.val, by omega⟩ + x1 (ix3 0 0 j))
/-- The second gate. -/
def gb (x0 : M3 2 2048 2048) (x1 : M3 1 2 1024) (i : Fin 4096) (j : Fin 1024) : EReal :=
  Ideal.logistic (tok x0 i ⟨1024 + j.val, by omega⟩ + x1 (ix3 0 1 j))

/-- A gated operand's cotangent from the mixed cotangent and its gate. -/
def dgated (d g : Fin 4096 → Fin 1024 → EReal) (i : Fin 4096) (j : Fin 1024) : EReal := d i j * g i j
/-- A gate logit's cotangent from the mixed cotangent, the gated operand and the gate. -/
def dlogit (d o g : Fin 4096 → Fin 1024 → EReal) (i : Fin 4096) (j : Fin 1024) : EReal := d i j * o i j * (g i j * (1 - g i j))

variable (x0 : M3 2 2048 2048) (x1 : M3 1 2 1024) (x2 x3 : M3 2 2048 512) (x4 : M3 2 2048 1024) (x5 : M3 1 1024 1024) (x6 x7 : M3 1 512 1024)

/-- The forget branch's cotangent at its projected output. -/
def dofE : Fin 4096 → Fin 1024 → EReal := dgated (dm x4 x5) (ga x0 x1)
/-- The other branch's. -/
def dosE : Fin 4096 → Fin 1024 → EReal := dgated (dm x4 x5) (gb x0 x1)
/-- The first gate's logits' cotangent. -/
def dglaE : Fin 4096 → Fin 1024 → EReal := dlogit (dm x4 x5) (proj x2 x6) (ga x0 x1)
/-- The second gate's. -/
def dglbE : Fin 4096 → Fin 1024 → EReal := dlogit (dm x4 x5) (proj x3 x7) (gb x0 x1)

/-- Result 1. -/
def dof : M2 4096 1024 := fun i => dofE x0 x1 x4 x5 (i 0) (i 1)
/-- Result 2. -/
def dos : M2 4096 1024 := fun i => dosE x0 x1 x4 x5 (i 0) (i 1)
/-- Result 3: both gates' logits side by side. -/
def dgl : M2 4096 2048 := fun i =>
  if h : (i 1).val < 1024 then dglaE x0 x1 x2 x4 x5 x6 (i 0) ⟨(i 1).val, h⟩
  else dglbE x0 x1 x3 x4 x5 x7 (i 0) ⟨(i 1).val - 1024, by have : (i 1).val < 2048 := (i 1).isLt; omega⟩
/-- Result 4: the biases' cotangents, one row each. -/
def db : M2 2 1024 := fun i =>
  if (i 0).val = 0 then ∑ t : Fin 4096, dglaE x0 x1 x2 x4 x5 x6 t (i 1) else ∑ t : Fin 4096, dglbE x0 x1 x3 x4 x5 x7 t (i 1)
/-- Result 5: the forget branch's cotangent through its projection. -/
def doFox : M2 4096 512 := fun i => ∑ k : Fin 1024, dofE x0 x1 x4 x5 (i 0) k * x6 (ix3 0 (i 1) k)
/-- Result 6: the other branch's. -/
def doSb : M2 4096 512 := fun i => ∑ k : Fin 1024, dosE x0 x1 x4 x5 (i 0) k * x7 (ix3 0 (i 1) k)

end Cert.GateSpec
end
-- ==== Proof.GateValue.lean ====
/- The gate's kernel: its six result arrays as the functions of `GateSpec`. -/
module

public import proofs.«01_k».proof.Proof.Gen.GateIdeal.Value
public import proofs.«01_k».proof.Proof.GateSpec
public import Idealize.ShloMosaic.Lib.Pipeline.ReadBack

@[expose] public section

set_option maxRecDepth 16384

noncomputable section

namespace Cert.GateIdeal.Blocks

open Idealize.ShloMosaic Idealize.SL.Sem Cert.GateIdeal Cert.GateIdeal.Gen Cert.Common Cert.GateSpec
open scoped BigOperators

variable (m : (ℓ : Loc nD τ sig) → Buf (Elt Ideal) ℓ) (c : Dev nD)

/-- What each window reads at a point. -/
theorem idx (t : Fin cfg0.N) : win0_0.index t = ![t.val, 0] ∧ win0_1.index t = ![t.val, 1] ∧ win0_2.index t = ![0, 0] ∧ win0_3.index t = ![t.val, 0]
    ∧ win0_4.index t = ![t.val, 0] ∧ win0_5.index t = ![t.val, 0] ∧ win0_6.index t = ![0, 0] ∧ win0_7.index t = ![0, 0, 0] ∧ win0_8.index t = ![0, 0, 0]
    ∧ win0_9.index t = ![t.val, 0] ∧ win0_10.index t = ![t.val, 0] ∧ win0_11.index t = ![t.val, 0] ∧ win0_12.index t = ![0, 0]
    ∧ win0_13.index t = ![t.val, 0] ∧ win0_14.index t = ![t.val, 0] := by
  revert t; decide +kernel

/-! The arguments, at the argument buffers' own types. -/

abbrev X0 : M3 2 2048 2048 := m (c.tc.loc main_arg0)
abbrev X1 : M3 1 2 1024 := m (c.tc.loc main_arg1)
abbrev X2 : M3 2 2048 512 := m (c.tc.loc main_arg2)
abbrev X3 : M3 2 2048 512 := m (c.tc.loc main_arg3)
abbrev X4 : M3 2 2048 1024 := m (c.tc.loc main_arg4)
abbrev X5 : M3 1 1024 1024 := m (c.tc.loc main_arg5)
abbrev X6 : M3 1 512 1024 := m (c.tc.loc main_arg6)
abbrev X7 : M3 1 512 1024 := m (c.tc.loc main_arg7)

variable (t : Fin cfg0.N)

/-! The input blocks, entry by entry, in the arguments. -/

theorem ib0 (r : Fin 512) (k : Fin 1024) : (iblk m c 0 t : FVec Ideal S512x1024 .f32) (ix2 r k) = tok (X0 m c) (row N_0 t r) ⟨k.val, by omega⟩ := by
  have h : (V m c main_v0 : FVec Ideal S4096x2048 .f32) (ix2 (row N_0 t r) ⟨k.val, by omega⟩) = tok (X0 m c) (row N_0 t r) ⟨k.val, by omega⟩ := by
    unfold V; after_reads_at; rfl
  rw [← h]; blk_ext [iblk, idx t]

theorem ib1 (r : Fin 512) (k : Fin 1024) : (iblk m c 1 t : FVec Ideal S512x1024 .f32) (ix2 r k) = tok (X0 m c) (row N_0 t r) ⟨1024 + k.val, by omega⟩ := by
  have h : (V m c main_v0 : FVec Ideal S4096x2048 .f32) (ix2 (row N_0 t r) ⟨1024 + k.val, by omega⟩) = tok (X0 m c) (row N_0 t r) ⟨1024 + k.val, by omega⟩ := by
    unfold V; after_reads_at; rfl
  rw [← h]; blk_ext [iblk, idx t]

theorem ib2 (r : Fin 2) (k : Fin 1024) : (iblk m c 2 t : FVec Ideal S2x1024 .f32) (ix2 r k) = X1 m c (ix3 0 r k) := by
  have h : (V m c main_v8 : FVec Ideal S2x1024 .f32) (ix2 r k) = X1 m c (ix3 0 r k) := by
    unfold V; after_reads_at
  rw [← h]; blk_ext [iblk, idx t]

theorem ib3 (r : Fin 512) (k : Fin 1024) : (iblk m c 3 t : FVec Ideal S512x1024 .f32) (ix2 r k) = proj (X2 m c) (X6 m c) (row N_0 t r) k := by
  have h : (V m c main_v5 : FVec Ideal S4096x1024 .f32) (ix2 (row N_0 t r) k) = proj (X2 m c) (X6 m c) (row N_0 t r) k := by
    unfold V; after_reads_at; rfl
  rw [← h]; blk_ext [iblk, idx t]

theorem ib4 (r : Fin 512) (k : Fin 1024) : (iblk m c 4 t : FVec Ideal S512x1024 .f32) (ix2 r k) = proj (X3 m c) (X7 m c) (row N_0 t r) k := by
  have h : (V m c main_v7 : FVec Ideal S4096x1024 .f32) (ix2 (row N_0 t r) k) = proj (X3 m c) (X7 m c) (row N_0 t r) k := by
    unfold V; after_reads_at; rfl
  rw [← h]; blk_ext [iblk, idx t]

theorem ib5 (r : Fin 512) (k : Fin 1024) : (iblk m c 5 t : FVec Ideal S512x1024 .bf16) (ix2 r k) = tok (X4 m c) (row N_0 t r) k := by
  have h : (V m c main_v9 : FVec Ideal S4096x1024 .bf16) (ix2 (row N_0 t r) k) = tok (X4 m c) (row N_0 t r) k := by
    unfold V; after_reads_at; rfl
  rw [← h]; blk_ext [iblk, idx t]

theorem ib6 (r k : Fin 1024) : (iblk m c 6 t : FVec Ideal S1024x1024 .bf16) (ix2 r k) = X5 m c (ix3 0 r k) := by
  have h : (V m c main_v11 : FVec Ideal S1024x1024 .bf16) (ix2 r k) = X5 m c (ix3 0 r k) := by
    unfold V; after_reads_at
  rw [← h]; blk_ext [iblk, idx t]

theorem ib7 (s : Fin 4) (r : Fin 512) (k : Fin 256) : (iblk m c 7 t : FVec Ideal S4x512x256 .bf16) (ix3 s r k) = X6 m c (ix3 0 r ⟨s.val * 256 + k.val, by omega⟩) := by
  have h : (V m c main_v15 : FVec Ideal S4x512x256 .bf16) (ix3 s r k) = X6 m c (ix3 0 r ⟨s.val * 256 + k.val, by omega⟩) := by
    unfold V; after_reads_at
  rw [← h]; blk_ext [iblk, idx t]

theorem ib8 (s : Fin 4) (r : Fin 512) (k : Fin 256) : (iblk m c 8 t : FVec Ideal S4x512x256 .bf16) (ix3 s r k) = X7 m c (ix3 0 r ⟨s.val * 256 + k.val, by omega⟩) := by
  have h : (V m c main_v19 : FVec Ideal S4x512x256 .bf16) (ix3 s r k) = X7 m c (ix3 0 r ⟨s.val * 256 + k.val, by omega⟩) := by
    unfold V; after_reads_at
  rw [← h]; blk_ext [iblk, idx t]

/-! The body's values on those blocks. -/

theorem ib2a (k : Fin 1024) : (View.ld (iblk m c 2 t) (Rect.unit (s := S2x1024) ![0, 0] S1x1024.size inb_S2x1024_S1x1024_0_0) : Vec Ideal S1x1024 .f32) (ix2 0 k) = X1 m c (ix3 0 0 k) := by
  rw [← ib2 m c t]; pointwise
theorem ib2b (k : Fin 1024) : (View.ld (iblk m c 2 t) (Rect.unit (s := S2x1024) ![1, 0] S1x1024.size inb_S2x1024_S1x1024_1_0) : Vec Ideal S1x1024 .f32) (ix2 0 k) = X1 m c (ix3 0 1 k) := by
  rw [← ib2 m c t]; pointwise

theorem pdm (r : Fin 512) (l : Fin 1024) : k0_pay2 (iblk m c 5 t) (iblk m c 6 t) (ix2 r l) = dm (X4 m c) (X5 m c) (row N_0 t r) l := by
  pointwise [k0_pay2, dm]; simp only [ib5, ib6]

theorem pga (r : Fin 512) (l : Fin 1024) : k0_pay3 (iblk m c 0 t) (View.ld (iblk m c 2 t) (Rect.unit (s := S2x1024) ![0, 0] S1x1024.size inb_S2x1024_S1x1024_0_0)) (ix2 r l)
    = ga (X0 m c) (X1 m c) (row N_0 t r) l := by
  rw [ga, ← ib2a m c t, ← ib0 m c t]; pointwise [k0_pay3]

theorem pgb (r : Fin 512) (l : Fin 1024) : k0_pay4 (iblk m c 1 t) (View.ld (iblk m c 2 t) (Rect.unit (s := S2x1024) ![1, 0] S1x1024.size inb_S2x1024_S1x1024_1_0)) (ix2 r l)
    = gb (X0 m c) (X1 m c) (row N_0 t r) l := by
  rw [gb, ← ib2b m c t, ← ib1 m c t]; pointwise [k0_pay4]

theorem pdof (r : Fin 512) (l : Fin 1024) : k0_pay5 (iblk m c 5 t) (iblk m c 6 t) (iblk m c 0 t)
    (View.ld (iblk m c 2 t) (Rect.unit (s := S2x1024) ![0, 0] S1x1024.size inb_S2x1024_S1x1024_0_0)) (ix2 r l) = dofE (X0 m c) (X1 m c) (X4 m c) (X5 m c) (row N_0 t r) l := by
  rw [dofE, dgated, ← pdm m c t, ← pga m c t]; pointwise [k0_pay5]

theorem pdos (r : Fin 512) (l : Fin 1024) : k0_pay6 (iblk m c 5 t) (iblk m c 6 t) (iblk m c 1 t)
    (View.ld (iblk m c 2 t) (Rect.unit (s := S2x1024) ![1, 0] S1x1024.size inb_S2x1024_S1x1024_1_0)) (ix2 r l) = dosE (X0 m c) (X1 m c) (X4 m c) (X5 m c) (row N_0 t r) l := by
  rw [dosE, dgated, ← pdm m c t, ← pgb m c t]; pointwise [k0_pay6]

/-! Results 1 and 2. -/

theorem emb9 (r : Fin 512) (l : Fin 1024) : ((View.whole main_v20_0).slice (win0_9.rect t)).emb (ix2 r l) = ix2 (row N_0 t r) l := by blk_ext [idx t]
theorem emb10 (r : Fin 512) (l : Fin 1024) : ((View.whole main_v20_1).slice (win0_10.rect t)).emb (ix2 r l) = ix2 (row N_0 t r) l := by blk_ext [idx t]

theorem arr9 : (dats m 0 c).arrAt 9 cfg0.N = dof (X0 m c) (X1 m c) (X4 m c) (X5 m c) := by
  refine (dats m 0 c).arrAt_eq_of_covers 9 _ (by decide +kernel) fun t hf y => ?_
  blk_simp
  rw [after0_9]
  have e : ∀ y : S512x1024.Idx, k0_pay5 (iblk m c 5 t) (iblk m c 6 t) (iblk m c 0 t) (View.ld (iblk m c 2 t) (Rect.unit (s := S2x1024) ![0, 0] S1x1024.size inb_S2x1024_S1x1024_0_0)) y
      = dof (X0 m c) (X1 m c) (X4 m c) (X5 m c) (((View.whole main_v20_0).slice (win0_9.rect t)).emb y) := by
    intro y; idx_vars y; rw [pdof]; erw [emb9]; rfl
  by_cases h : t.val % 8 = 0
  · rw [outsAt0_A m c t h]; frame_out; exact e y
  · rw [outsAt0_B m c t h]; frame_out; exact e y

theorem arr10 : (dats m 0 c).arrAt 10 cfg0.N = dos (X0 m c) (X1 m c) (X4 m c) (X5 m c) := by
  refine (dats m 0 c).arrAt_eq_of_covers 10 _ (by decide +kernel) fun t hf y => ?_
  blk_simp
  rw [after0_10]
  have e : ∀ y : S512x1024.Idx, k0_pay6 (iblk m c 5 t) (iblk m c 6 t) (iblk m c 1 t) (View.ld (iblk m c 2 t) (Rect.unit (s := S2x1024) ![1, 0] S1x1024.size inb_S2x1024_S1x1024_1_0)) y
      = dos (X0 m c) (X1 m c) (X4 m c) (X5 m c) (((View.whole main_v20_1).slice (win0_10.rect t)).emb y) := by
    intro y; idx_vars y; rw [pdos]; erw [emb10]; rfl
  by_cases h : t.val % 8 = 0
  · rw [outsAt0_A m c t h]; frame_out; exact e y
  · rw [outsAt0_B m c t h]; frame_out; exact e y

/-! Results 5 and 6: a gated cotangent's product with a projection's rows, the columns shard by shard. -/

theorem ib7a (r : Fin 512) (k : Fin 256) : (View.ld (iblk m c 7 t) (Rect.unit (s := S4x512x256) ![0, 0, 0] S1x512x256.size inb_S4x512x256_S1x512x256_0_0_0) : Vec Ideal S1x512x256 .bf16) (ix3 0 r k)
    = X6 m c (ix3 0 r ⟨k.val, by omega⟩) := by
  have h := ib7 m c t 0 r k
  refine Eq.trans ?_ (h.trans (by blk_ext))
  pointwise
theorem ib7b (r : Fin 512) (k : Fin 256) : (View.ld (iblk m c 7 t) (Rect.unit (s := S4x512x256) ![1, 0, 0] S1x512x256.size inb_S4x512x256_S1x512x256_1_0_0) : Vec Ideal S1x512x256 .bf16) (ix3 0 r k)
    = X6 m c (ix3 0 r ⟨256 + k.val, by omega⟩) := by
  have h := ib7 m c t 1 r k
  refine Eq.trans ?_ (h.trans (by blk_ext))
  pointwise
theorem ib7c (r : Fin 512) (k : Fin 256) : (View.ld (iblk m c 7 t) (Rect.unit (s := S4x512x256) ![2, 0, 0] S1x512x256.size inb_S4x512x256_S1x512x256_2_0_0) : Vec Ideal S1x512x256 .bf16) (ix3 0 r k)
    = X6 m c (ix3 0 r ⟨512 + k.val, by omega⟩) := by
  have h := ib7 m c t 2 r k
  refine Eq.trans ?_ (h.trans (by blk_ext))
  pointwise
theorem ib7d (r : Fin 512) (k : Fin 256) : (View.ld (iblk m c 7 t) (Rect.unit (s := S4x512x256) ![3, 0, 0] S1x512x256.size inb_S4x512x256_S1x512x256_3_0_0) : Vec Ideal S1x512x256 .bf16) (ix3 0 r k)
    = X6 m c (ix3 0 r ⟨768 + k.val, by omega⟩) := by
  have h := ib7 m c t 3 r k
  refine Eq.trans ?_ (h.trans (by blk_ext))
  pointwise
theorem ib8a (r : Fin 512) (k : Fin 256) : (View.ld (iblk m c 8 t) (Rect.unit (s := S4x512x256) ![0, 0, 0] S1x512x256.size inb_S4x512x256_S1x512x256_0_0_0) : Vec Ideal S1x512x256 .bf16) (ix3 0 r k)
    = X7 m c (ix3 0 r ⟨k.val, by omega⟩) := by
  have h := ib8 m c t 0 r k
  refine Eq.trans ?_ (h.trans (by blk_ext))
  pointwise
theorem ib8b (r : Fin 512) (k : Fin 256) : (View.ld (iblk m c 8 t) (Rect.unit (s := S4x512x256) ![1, 0, 0] S1x512x256.size inb_S4x512x256_S1x512x256_1_0_0) : Vec Ideal S1x512x256 .bf16) (ix3 0 r k)
    = X7 m c (ix3 0 r ⟨256 + k.val, by omega⟩) := by
  have h := ib8 m c t 1 r k
  refine Eq.trans ?_ (h.trans (by blk_ext))
  pointwise
theorem ib8c (r : Fin 512) (k : Fin 256) : (View.ld (iblk m c 8 t) (Rect.unit (s := S4x512x256) ![2, 0, 0] S1x512x256.size inb_S4x512x256_S1x512x256_2_0_0) : Vec Ideal S1x512x256 .bf16) (ix3 0 r k)
    = X7 m c (ix3 0 r ⟨512 + k.val, by omega⟩) := by
  have h := ib8 m c t 2 r k
  refine Eq.trans ?_ (h.trans (by blk_ext))
  pointwise
theorem ib8d (r : Fin 512) (k : Fin 256) : (View.ld (iblk m c 8 t) (Rect.unit (s := S4x512x256) ![3, 0, 0] S1x512x256.size inb_S4x512x256_S1x512x256_3_0_0) : Vec Ideal S1x512x256 .bf16) (ix3 0 r k)
    = X7 m c (ix3 0 r ⟨768 + k.val, by omega⟩) := by
  have h := ib8 m c t 3 r k
  refine Eq.trans ?_ (h.trans (by blk_ext))
  pointwise

theorem p9 (v0 : Vec Ideal S512x1024 .bf16) (v2 : Vec Ideal S1024x1024 .bf16) (v5 : Vec Ideal S512x1024 .f32) (v7 : Vec Ideal S1x1024 .f32) (w0 w1 w2 w3 : Vec Ideal S1x512x256 .bf16) (r l : Fin 512) :
    k0_pay9 (k0_pay5 v0 v2 v5 v7) (k0_pay7 v0 v2 v5 v7 w0) (k0_pay8 v0 v2 v5 v7) w1 w2 w3 (ix2 r l)
      = (∑ k : Fin 256, k0_pay5 v0 v2 v5 v7 (ix2 r ⟨k.val, by omega⟩) * w0 (ix3 0 l k)) + (∑ k : Fin 256, k0_pay5 v0 v2 v5 v7 (ix2 r ⟨256 + k.val, by omega⟩) * w1 (ix3 0 l k))
        + (∑ k : Fin 256, k0_pay5 v0 v2 v5 v7 (ix2 r ⟨512 + k.val, by omega⟩) * w2 (ix3 0 l k)) + ∑ k : Fin 256, k0_pay5 v0 v2 v5 v7 (ix2 r ⟨768 + k.val, by omega⟩) * w3 (ix3 0 l k) := by
  pointwise [k0_pay9, k0_pay7, k0_pay8]

theorem p12 (v : Vec Ideal S512x1024 .bf16) (w0 w1 w2 w3 : Vec Ideal S1x512x256 .bf16) (r l : Fin 512) :
    k0_pay12 (k0_pay10 v w0 w1 w2) (k0_pay11 v) w3 (ix2 r l)
      = (∑ k : Fin 256, v (ix2 r ⟨k.val, by omega⟩) * w0 (ix3 0 l k)) + (∑ k : Fin 256, v (ix2 r ⟨256 + k.val, by omega⟩) * w1 (ix3 0 l k))
        + (∑ k : Fin 256, v (ix2 r ⟨512 + k.val, by omega⟩) * w2 (ix3 0 l k)) + ∑ k : Fin 256, v (ix2 r ⟨768 + k.val, by omega⟩) * w3 (ix3 0 l k) := by
  pointwise [k0_pay12, k0_pay10, k0_pay11]

theorem emb13 (r l : Fin 512) : ((View.whole main_v20_4).slice (win0_13.rect t)).emb (ix2 r l) = ix2 (row N_0 t r) l := by blk_ext [idx t]
theorem emb14 (r l : Fin 512) : ((View.whole main_v20_5).slice (win0_14.rect t)).emb (ix2 r l) = ix2 (row N_0 t r) l := by blk_ext [idx t]

theorem arr13 : (dats m 0 c).arrAt 13 cfg0.N = doFox (X0 m c) (X1 m c) (X4 m c) (X5 m c) (X6 m c) := by
  refine (dats m 0 c).arrAt_eq_of_covers 13 _ (by decide +kernel) fun t hf y => ?_
  blk_simp
  rw [after0_13]
  have e : ∀ y : S512x512.Idx, k0_pay9 (k0_pay5 (iblk m c 5 t) (iblk m c 6 t) (iblk m c 0 t) (View.ld (iblk m c 2 t) (Rect.unit (s := S2x1024) ![0, 0] S1x1024.size inb_S2x1024_S1x1024_0_0)))
        (k0_pay7 (iblk m c 5 t) (iblk m c 6 t) (iblk m c 0 t) (View.ld (iblk m c 2 t) (Rect.unit (s := S2x1024) ![0, 0] S1x1024.size inb_S2x1024_S1x1024_0_0)) (View.ld (iblk m c 7 t) (Rect.unit (s := S4x512x256) ![0, 0, 0] S1x512x256.size inb_S4x512x256_S1x512x256_0_0_0)))
        (k0_pay8 (iblk m c 5 t) (iblk m c 6 t) (iblk m c 0 t) (View.ld (iblk m c 2 t) (Rect.unit (s := S2x1024) ![0, 0] S1x1024.size inb_S2x1024_S1x1024_0_0)))
        (View.ld (iblk m c 7 t) (Rect.unit (s := S4x512x256) ![1, 0, 0] S1x512x256.size inb_S4x512x256_S1x512x256_1_0_0)) (View.ld (iblk m c 7 t) (Rect.unit (s := S4x512x256) ![2, 0, 0] S1x512x256.size inb_S4x512x256_S1x512x256_2_0_0)) (View.ld (iblk m c 7 t) (Rect.unit (s := S4x512x256) ![3, 0, 0] S1x512x256.size inb_S4x512x256_S1x512x256_3_0_0)) y
      = doFox (X0 m c) (X1 m c) (X4 m c) (X5 m c) (X6 m c) (((View.whole main_v20_4).slice (win0_13.rect t)).emb y) := by
    intro y; idx_vars y
    rw [p9]; erw [emb13]
    refine Eq.trans ?_ (sum_shards (fun k => dofE (X0 m c) (X1 m c) (X4 m c) (X5 m c) (row N_0 t y0) k * X6 m c (ix3 0 y1 k))).symm
    exact congrArg₂ (· + ·) (congrArg₂ (· + ·) (congrArg₂ (· + ·) (Finset.sum_congr rfl fun k _ => congrArg₂ (· * ·) (pdof m c t _ _) (ib7a m c t _ _))
      (Finset.sum_congr rfl fun k _ => congrArg₂ (· * ·) (pdof m c t _ _) (ib7b m c t _ _)))
      (Finset.sum_congr rfl fun k _ => congrArg₂ (· * ·) (pdof m c t _ _) (ib7c m c t _ _)))
      (Finset.sum_congr rfl fun k _ => congrArg₂ (· * ·) (pdof m c t _ _) (ib7d m c t _ _))
  by_cases h : t.val % 8 = 0
  · rw [outsAt0_A m c t h]; frame_out; exact e y
  · rw [outsAt0_B m c t h]; frame_out; exact e y

theorem arr14 : (dats m 0 c).arrAt 14 cfg0.N = doSb (X0 m c) (X1 m c) (X4 m c) (X5 m c) (X7 m c) := by
  refine (dats m 0 c).arrAt_eq_of_covers 14 _ (by decide +kernel) fun t hf y => ?_
  blk_simp
  rw [after0_14]
  have e : ∀ y : S512x512.Idx, k0_pay12 (k0_pay10 (k0_pay6 (iblk m c 5 t) (iblk m c 6 t) (iblk m c 1 t) (View.ld (iblk m c 2 t) (Rect.unit (s := S2x1024) ![1, 0] S1x1024.size inb_S2x1024_S1x1024_1_0))) (View.ld (iblk m c 8 t) (Rect.unit (s := S4x512x256) ![0, 0, 0] S1x512x256.size inb_S4x512x256_S1x512x256_0_0_0)) (View.ld (iblk m c 8 t) (Rect.unit (s := S4x512x256) ![1, 0, 0] S1x512x256.size inb_S4x512x256_S1x512x256_1_0_0)) (View.ld (iblk m c 8 t) (Rect.unit (s := S4x512x256) ![2, 0, 0] S1x512x256.size inb_S4x512x256_S1x512x256_2_0_0)))
        (k0_pay11 (k0_pay6 (iblk m c 5 t) (iblk m c 6 t) (iblk m c 1 t) (View.ld (iblk m c 2 t) (Rect.unit (s := S2x1024) ![1, 0] S1x1024.size inb_S2x1024_S1x1024_1_0)))) (View.ld (iblk m c 8 t) (Rect.unit (s := S4x512x256) ![3, 0, 0] S1x512x256.size inb_S4x512x256_S1x512x256_3_0_0)) y
      = doSb (X0 m c) (X1 m c) (X4 m c) (X5 m c) (X7 m c) (((View.whole main_v20_5).slice (win0_14.rect t)).emb y) := by
    intro y; idx_vars y
    rw [p12]; erw [emb14]
    refine Eq.trans ?_ (sum_shards (fun k => dosE (X0 m c) (X1 m c) (X4 m c) (X5 m c) (row N_0 t y0) k * X7 m c (ix3 0 y1 k))).symm
    exact congrArg₂ (· + ·) (congrArg₂ (· + ·) (congrArg₂ (· + ·) (Finset.sum_congr rfl fun k _ => congrArg₂ (· * ·) (pdos m c t _ _) (ib8a m c t _ _))
      (Finset.sum_congr rfl fun k _ => congrArg₂ (· * ·) (pdos m c t _ _) (ib8b m c t _ _)))
      (Finset.sum_congr rfl fun k _ => congrArg₂ (· * ·) (pdos m c t _ _) (ib8c m c t _ _)))
      (Finset.sum_congr rfl fun k _ => congrArg₂ (· * ·) (pdos m c t _ _) (ib8d m c t _ _))
  by_cases h : t.val % 8 = 0
  · rw [outsAt0_A m c t h]; frame_out; exact e y
  · rw [outsAt0_B m c t h]; frame_out; exact e y

/-! Results 3 and 4: the gates' logits. -/

theorem p13 (v4 v11 v71 : FVec Ideal S512x1024 .f32) (r : Fin 512) (l : Fin 1024) :
    k0_pay13 v4 v11 v71 (ix2 r l) = v4 (ix2 r l) * v71 (ix2 r l) * (v11 (ix2 r l) * (1 - v11 (ix2 r l))) := by
  rw [← mul_assoc]; pointwise [k0_pay13]
theorem p14 (v4 v11 v71 : FVec Ideal S512x1024 .f32) (r : Fin 512) (l : Fin 1024) :
    k0_pay14 v4 v11 v71 (ix2 r l) = v4 (ix2 r l) * v71 (ix2 r l) * (v11 (ix2 r l) * (1 - v11 (ix2 r l))) := by
  rw [← mul_assoc]; pointwise [k0_pay14]
theorem p18 (v4 v11 v71 : FVec Ideal S512x1024 .f32) (v92 : Vec Ideal S1x1024 .f32) (l : Fin 1024) :
    k0_pay18 v4 v11 v71 v92 (ix2 0 l) = v92 (ix2 0 l) + ∑ r : Fin 512, k0_pay13 v4 v11 v71 (ix2 r l) := by
  pointwise [k0_pay18]
theorem p1 (v84 : FVec Ideal S512x1024 .f32) (v98 : Vec Ideal S1x1024 .f32) (l : Fin 1024) :
    k0_pay1 v84 v98 (ix2 0 l) = v98 (ix2 0 l) + ∑ r : Fin 512, v84 (ix2 r l) := by
  pointwise [k0_pay1]

/-- The first gate's logits' cotangent on a block. -/
theorem pdgla (r : Fin 512) (l : Fin 1024) : k0_pay13 (k0_pay2 (iblk m c 5 t) (iblk m c 6 t)) (k0_pay3 (iblk m c 0 t) (View.ld (iblk m c 2 t) (Rect.unit (s := S2x1024) ![0, 0] S1x1024.size inb_S2x1024_S1x1024_0_0))) (iblk m c 3 t) (ix2 r l)
    = dglaE (X0 m c) (X1 m c) (X2 m c) (X4 m c) (X5 m c) (X6 m c) (row N_0 t r) l := by
  rw [p13, pdm, pga, ib3]; rfl
/-- The second's. -/
theorem pdglb (r : Fin 512) (l : Fin 1024) : k0_pay14 (k0_pay2 (iblk m c 5 t) (iblk m c 6 t)) (k0_pay4 (iblk m c 1 t) (View.ld (iblk m c 2 t) (Rect.unit (s := S2x1024) ![1, 0] S1x1024.size inb_S2x1024_S1x1024_1_0))) (iblk m c 4 t) (ix2 r l)
    = dglbE (X0 m c) (X1 m c) (X3 m c) (X4 m c) (X5 m c) (X7 m c) (row N_0 t r) l := by
  rw [p14, pdm, pgb, ib4]; rfl

theorem emb11 (r : Fin 512) (l : Fin 2048) : ((View.whole main_v20_2).slice (win0_11.rect t)).emb (ix2 r l) = ix2 (row N_0 t r) l := by blk_ext [idx t]

theorem arr11 : (dats m 0 c).arrAt 11 cfg0.N = dgl (X0 m c) (X1 m c) (X2 m c) (X3 m c) (X4 m c) (X5 m c) (X6 m c) (X7 m c) := by
  refine (dats m 0 c).arrAt_eq_of_covers 11 _ (by decide +kernel) fun t hf y => ?_
  blk_simp
  rw [after0_11]
  have e : ∀ y : S512x2048.Idx, View.canon
      [(⟨Rect.unit ![0, 1024] S512x1024.size inb_S512x2048_S512x1024_0_1024,
          k0_pay16 (k0_pay2 (iblk m c 5 t) (iblk m c 6 t))
            (k0_pay4 (iblk m c 1 t) (View.ld (iblk m c 2 t) (Rect.unit (s := S2x1024) ![1, 0] S1x1024.size inb_S2x1024_S1x1024_1_0)))
            (iblk m c 4 t)⟩ : (r : Rect S512x2048) × Vec Ideal r.shape .bf16),
        ⟨Rect.unit ![0, 0] S512x1024.size inb_S512x2048_S512x1024_0_0,
          k0_pay15 (k0_pay2 (iblk m c 5 t) (iblk m c 6 t))
            (k0_pay3 (iblk m c 0 t) (View.ld (iblk m c 2 t) (Rect.unit (s := S2x1024) ![0, 0] S1x1024.size inb_S2x1024_S1x1024_0_0)))
            (iblk m c 3 t)⟩]
      y = dgl (X0 m c) (X1 m c) (X2 m c) (X3 m c) (X4 m c) (X5 m c) (X6 m c) (X7 m c) (((View.whole main_v20_2).slice (win0_11.rect t)).emb y) := by
    intro z
    canon_tiles z h
    · rename_i y
      idx_vars y
      idx_vars z
      erw [emb11]
      have h0 : y0.val = z0.val := h0
      have h1 : y1.val = 1024 + z1.val := h1
      refine (pdglb m c t z0 z1).trans ?_
      show _ = if h : y1.val < 1024 then _ else _
      rw [dif_neg (by omega)]
      congr 1
      · refine Fin.ext ?_; show 512 * t.val + z0.val = 512 * t.val + y0.val; omega
      · refine Fin.ext ?_; show z1.val = y1.val - 1024; omega
    · rename_i y
      idx_vars y
      idx_vars z
      erw [emb11]
      have h0 : y0.val = z0.val := h0
      have h1 : y1.val = z1.val := h1
      refine (pdgla m c t z0 z1).trans ?_
      show _ = if h : y1.val < 1024 then _ else _
      rw [dif_pos (by omega)]
      congr 1
      · refine Fin.ext ?_; show 512 * t.val + z0.val = 512 * t.val + y0.val; omega
      · refine Fin.ext ?_; exact h1.symm
  by_cases h : t.val % 8 = 0
  · rw [outsAt0_A m c t h]; frame_out; exact e y
  · rw [outsAt0_B m c t h]; frame_out; exact e y

/-- What a point adds to the biases' cotangents. -/
def term (t : Fin cfg0.N) (j : S2x1024.Idx) : EReal :=
  if (j 0).val = 0 then ∑ r : Fin 512, dglaE (X0 m c) (X1 m c) (X2 m c) (X4 m c) (X5 m c) (X6 m c) (row N_0 t r) (j 1)
  else ∑ r : Fin 512, dglbE (X0 m c) (X1 m c) (X3 m c) (X4 m c) (X5 m c) (X7 m c) (row N_0 t r) (j 1)

theorem ext2 {f g : S2x1024.Idx → EReal} (h0 : ∀ l : Fin 1024, f (ix2 0 l) = g (ix2 0 l)) (h1 : ∀ l : Fin 1024, f (ix2 1 l) = g (ix2 1 l)) (j : S2x1024.Idx) : f j = g j := by
  idx_vars j
  fin_cases j0
  · exact h0 j1
  · exact h1 j1

theorem term0 (l : Fin 1024) : term m c t (ix2 0 l) = ∑ r : Fin 512, dglaE (X0 m c) (X1 m c) (X2 m c) (X4 m c) (X5 m c) (X6 m c) (row N_0 t r) l := if_pos rfl
theorem term1 (l : Fin 1024) : term m c t (ix2 1 l) = ∑ r : Fin 512, dglbE (X0 m c) (X1 m c) (X3 m c) (X4 m c) (X5 m c) (X7 m c) (row N_0 t r) l := if_neg (by simp [ix2])

theorem acc0 (h : t.val % 8 = 0) (j : S2x1024.Idx) : (outsAt0 m c t.val t.isLt).2.2.2.1 j = 0 + term m c t j := by
  rw [outsAt0_A m c t h]; frame_out
  simp (disch := decide) only [↓ View.readCov_skip, ↓ View.readCov_cons_toLoadRect, ↓ View.readCov_fill]
  refine ext2 (g := fun j => 0 + term m c t j) (fun l => ?_) (fun l => ?_) j
  · refine (canon_row0 ..).trans ((p18 _ _ _ _ l).trans ?_)
    refine congrArg₂ (· + ·) (by pointwise [k0_pay17]) ((Finset.sum_congr rfl fun r _ => pdgla m c t r l).trans (term0 m c t l).symm)
  · refine (canon_row1 ..).trans ((p1 _ _ l).trans ?_)
    refine congrArg₂ (· + ·) (by pointwise [k0_pay17]) ((Finset.sum_congr rfl fun r _ => pdglb m c t r l).trans (term1 m c t l).symm)

theorem acc1 (h : ¬t.val % 8 = 0) (j : S2x1024.Idx) :
    (outsAt0 m c t.val t.isLt).2.2.2.1 j = (outsAt0 m c (t.val-1) (Nat.lt_of_le_of_lt (Nat.sub_le _ _) t.isLt)).2.2.2.1 j + term m c t j := by
  rw [outsAt0_B m c t h]; frame_out
  refine ext2 (g := fun j => (outsAt0 m c (t.val-1) _).2.2.2.1 j + term m c t j) (fun l => ?_) (fun l => ?_) j
  · refine (canon_row0 ..).trans ((p18 _ _ _ _ l).trans ?_)
    refine congrArg₂ (· + ·) (by pointwise) ((Finset.sum_congr rfl fun r _ => pdgla m c t r l).trans (term0 m c t l).symm)
  · refine (canon_row1 ..).trans ((p1 _ _ l).trans ?_)
    refine congrArg₂ (· + ·) (by pointwise) ((Finset.sum_congr rfl fun r _ => pdglb m c t r l).trans (term1 m c t l).symm)

theorem arr12 : (dats m 0 c).arrAt 12 cfg0.N = db (X0 m c) (X1 m c) (X2 m c) (X3 m c) (X4 m c) (X5 m c) (X6 m c) (X7 m c) := by
  refine (dats m 0 c).arrAt_eq_of_after_last 12 t0_7 (by decide +kernel) _ fun j => ?_
  blk_simp
  rw [after0_12]
  refine (Pipeline.eq_sum_fin_of_reset_step_apply_last (fun n h => (outsAt0 m c n h).2.2.2.1) 8 (fun _ => (0 : EReal)) (term m c) (acc0 m c) (acc1 m c) (le_of_eq N_0) t0_7 rfl j).trans ?_
  revert j
  refine ext2 (fun l => ?_) (fun l => ?_)
  · rw [zero_add]; exact (Finset.sum_congr rfl fun t _ => term0 m c t l).trans (sum_rows N_0 (fun i => dglaE (X0 m c) (X1 m c) (X2 m c) (X4 m c) (X5 m c) (X6 m c) i l))
  · rw [zero_add]; exact (Finset.sum_congr rfl fun t _ => term1 m c t l).trans (sum_rows N_0 (fun i => dglbE (X0 m c) (X1 m c) (X3 m c) (X4 m c) (X5 m c) (X7 m c) i l))

end Cert.GateIdeal.Blocks
end
-- ==== Proof.GateRefValue.lean ====
/- The gate's reference: its six results as the functions of `GateSpec`. -/
module

public import proofs.«01_k».proof.Proof.Gen.GateRefIdeal.Read
public import proofs.«01_k».proof.Proof.GateSpec

@[expose] public section

set_option maxRecDepth 16384

noncomputable section

namespace Cert.GateRefIdeal.Blocks

open Idealize.ShloMosaic Cert.GateRefIdeal Cert.GateRefIdeal.Read Cert.Common Cert.GateSpec
open scoped BigOperators

variable (x0 : M3 2 2048 2048) (x1 : M3 1 2 1024) (x2 x3 : M3 2 2048 512) (x4 : M3 2 2048 1024) (x5 : M3 1 1024 1024) (x6 x7 : M3 1 512 1024)

variable (i : Fin 4096)

theorem r43 (j : Fin 1024) : val_main_v43 (F := Ideal) x4 x5 (ix2 i j) = dm x4 x5 i j := by
  pointwise [val_main_v43, val_main_v41, val_main_v1]; rfl
theorem r5 (j : Fin 1024) : val_main_v5 (F := Ideal) x2 x6 (ix2 i j) = proj x2 x6 i j := by
  pointwise [val_main_v5, val_main_v2, val_main_v4]; rfl
theorem r7 (j : Fin 1024) : val_main_v7 (F := Ideal) x3 x7 (ix2 i j) = proj x3 x7 i j := by
  pointwise [val_main_v7, val_main_v3, val_main_v6]; rfl
theorem r22 (j : Fin 1024) : val_main_v22 (F := Ideal) x0 x1 (ix2 i j) = ga x0 x1 i j := by
  pointwise [val_main_v22, val_main_v21, val_main_v20, val_main_v19, val_main_v18, val_main_v17, val_main_v16, val_main_v15, val_main_v14, val_main_v11, val_main_v10, val_main_v8, val_main_v0, val_main_cst, val_main_cst_0]
  rfl
theorem r35 (j : Fin 1024) : val_main_v35 (F := Ideal) x0 x1 (ix2 i j) = gb x0 x1 i j := by
  pointwise [val_main_v35, val_main_v34, val_main_v33, val_main_v32, val_main_v31, val_main_v30, val_main_v29, val_main_v28, val_main_v27, val_main_v13, val_main_v12, val_main_v9, val_main_v0, val_main_cst_2, val_main_cst_3]
  rfl
theorem r50 (j : Fin 1024) : val_main_v50 (F := Ideal) x0 x1 x4 x5 (ix2 i j) = dofE x0 x1 x4 x5 i j := by
  rw [dofE, dgated, mul_comm, ← r43, ← r22]; pointwise [val_main_v50]
theorem r44 (j : Fin 1024) : val_main_v44 (F := Ideal) x0 x1 x4 x5 (ix2 i j) = dosE x0 x1 x4 x5 i j := by
  rw [dosE, dgated, mul_comm, ← r43, ← r35]; pointwise [val_main_v44]
theorem r52 (j : Fin 1024) : val_main_v52 (F := Ideal) x0 x1 x2 x4 x5 x6 (ix2 i j) = dglaE x0 x1 x2 x4 x5 x6 i j := by
  rw [dglaE, dlogit, ← r43, ← r22, ← r5]; pointwise [val_main_v52, val_main_v51, val_main_v25, val_main_v24, val_main_v23, val_main_cst_1]
theorem r46 (j : Fin 1024) : val_main_v46 (F := Ideal) x0 x1 x3 x4 x5 x7 (ix2 i j) = dglbE x0 x1 x3 x4 x5 x7 i j := by
  rw [dglbE, dlogit, ← r43, ← r35, ← r7]; pointwise [val_main_v46, val_main_v45, val_main_v38, val_main_v37, val_main_v36, val_main_cst_4]

theorem r66 : val_main_v66 (F := Ideal) x0 x1 x4 x5 = dof x0 x1 x4 x5 := by
  funext y; idx_vars y; exact r50 x0 x1 x4 x5 y0 y1
theorem r67 : val_main_v67 (F := Ideal) x0 x1 x4 x5 = dos x0 x1 x4 x5 := by
  funext y; idx_vars y; exact r44 x0 x1 x4 x5 y0 y1
theorem r69 : val_main_v69 (F := Ideal) x0 x1 x4 x5 x6 = doFox x0 x1 x4 x5 x6 := by
  funext y; idx_vars y
  pointwise [val_main_v69, val_main_v58, val_main_v56]
  exact Finset.sum_congr rfl fun k _ => congrArg₂ (· * ·) (r50 x0 x1 x4 x5 y0 k) rfl
theorem r70 : val_main_v70 (F := Ideal) x0 x1 x4 x5 x7 = doSb x0 x1 x4 x5 x7 := by
  funext y; idx_vars y
  pointwise [val_main_v70, val_main_v61, val_main_v59]
  exact Finset.sum_congr rfl fun k _ => congrArg₂ (· * ·) (r44 x0 x1 x4 x5 y0 k) rfl
theorem r68 : val_main_v68 (F := Ideal) x0 x1 x2 x3 x4 x5 x6 x7 = dgl x0 x1 x2 x3 x4 x5 x6 x7 := by
  funext y; idx_vars y
  pointwise [val_main_v68, val_main_v62]
  simp only [r52, r46]
  rfl
theorem r65 : val_main_v65 (F := Ideal) x0 x1 x2 x3 x4 x5 x6 x7 = db x0 x1 x2 x3 x4 x5 x6 x7 := by
  funext y; idx_vars y
  pointwise [val_main_v65, val_main_v64, val_main_v63, val_main_v55, val_main_v54, val_main_v53, val_main_v49, val_main_v48, val_main_v47, val_main_cst_5, val_main_cst_6, val_main_cst_7, val_main_cst_8]
  simp only [r52, r46]
  simp only [Fin.sum_univ_one]
  fin_cases y0 <;> rfl

end Cert.GateRefIdeal.Blocks
end
-- ==== Proof.GateClaim.lean ====
/- The five claims of the gate's gradient. -/
module

public import proofs.«01_k».proof.Defs
public import proofs.«01_k».proof.Proof.Gen.Gate.Frame
public import proofs.«01_k».proof.Proof.GateValue
public import proofs.«01_k».proof.Proof.GateRefValue

@[expose] public section

noncomputable section

namespace Cert.Proof.Gate

open Idealize.ShloMosaic Idealize.SL.Sem Cert.Common Cert.GateSpec

theorem frameP : Cert.quiescent_Gate (hGate := Cert.Gate.Gen.facts) := fun m ρ _ => Cert.Gate.Gen.frame m ρ
theorem frameI : Cert.quiescent_GateIdeal (hGateIdeal := Cert.GateIdeal.Gen.facts) := fun m ρ _ => Cert.GateIdeal.Gen.frame m ρ
theorem frameR : Cert.quiescent_GateRefIdeal (hGateRefIdeal := Cert.GateRefIdeal.Gen.facts) := fun m ρ _ =>
  (θ_run Cert.GateRefIdeal.defs _ _).mono (fun r h => ⟨fun c => (h c).2.2.2.2.2.2, sem_eq_zero_of_no_sems (by decide) r.2⟩) (Cert.GateRefIdeal.Value.run (F := Ideal) m ρ)
theorem preserves : Cert.preserves_Gate_GateIdeal := trivial

open Cert.GateIdeal.Blocks in
theorem algebraic : Cert.algebraic_GateIdeal_GateRefIdeal (hGateIdeal := Cert.GateIdeal.Gen.facts) (hGateRefIdeal := Cert.GateRefIdeal.Gen.facts) := by
  intro m ρ m' ρ' _ hag
  refine ⟨fun c => dof (X0 m c) (X1 m c) (X4 m c) (X5 m c), fun c => dos (X0 m c) (X1 m c) (X4 m c) (X5 m c),
    fun c => dgl (X0 m c) (X1 m c) (X2 m c) (X3 m c) (X4 m c) (X5 m c) (X6 m c) (X7 m c), fun c => db (X0 m c) (X1 m c) (X2 m c) (X3 m c) (X4 m c) (X5 m c) (X6 m c) (X7 m c),
    fun c => doFox (X0 m c) (X1 m c) (X4 m c) (X5 m c) (X6 m c), fun c => doSb (X0 m c) (X1 m c) (X4 m c) (X5 m c) (X7 m c), ?_, ?_⟩
  · refine (θ_run _ _ _).mono (fun r h c => ?_) (Cert.GateIdeal.Value.run_blocks m ρ)
    obtain ⟨h0, h1, h2, h3, h4, h5, hr⟩ := h c
    exact ⟨h0.trans (arr9 m c), h1.trans (arr10 m c), h2.trans (arr11 m c), h3.trans (arr12 m c), h4.trans (arr13 m c), h5.trans (arr14 m c), hr⟩
  · refine (θ_run _ _ _).mono (fun r h c => ?_) (Cert.GateRefIdeal.Value.run m' ρ')
    obtain ⟨h0, h1, h2, h3, h4, h5, hr⟩ := h c
    obtain ⟨a0, a1, a2, a3, a4, a5, a6, a7⟩ := hag c
    refine ⟨h0.trans ?_, h1.trans ?_, h2.trans ?_, h3.trans ?_, h4.trans ?_, h5.trans ?_, hr⟩
    · exact (Cert.GateRefIdeal.Read.val_main_v66_eq ..).trans ((Cert.GateRefIdeal.Blocks.r66 ..).trans (congr (congr (congr (congrArg dof a0) a1) a4) a5))
    · exact (Cert.GateRefIdeal.Read.val_main_v67_eq ..).trans ((Cert.GateRefIdeal.Blocks.r67 ..).trans (congr (congr (congr (congrArg dos a0) a1) a4) a5))
    · exact (Cert.GateRefIdeal.Read.val_main_v68_eq ..).trans ((Cert.GateRefIdeal.Blocks.r68 ..).trans (congr (congr (congr (congr (congr (congr (congr (congrArg dgl a0) a1) a2) a3) a4) a5) a6) a7))
    · exact (Cert.GateRefIdeal.Read.val_main_v65_eq ..).trans ((Cert.GateRefIdeal.Blocks.r65 ..).trans (congr (congr (congr (congr (congr (congr (congr (congrArg db a0) a1) a2) a3) a4) a5) a6) a7))
    · exact (Cert.GateRefIdeal.Read.val_main_v69_eq ..).trans ((Cert.GateRefIdeal.Blocks.r69 ..).trans (congr (congr (congr (congr (congrArg doFox a0) a1) a4) a5) a6))
    · exact (Cert.GateRefIdeal.Read.val_main_v70_eq ..).trans ((Cert.GateRefIdeal.Blocks.r70 ..).trans (congr (congr (congr (congr (congrArg doSb a0) a1) a4) a5) a7))

end Cert.Proof.Gate
end
-- ==== Proof.RealKit.lean ====
/- Real numbers inside the extended reals: sums, running sums and maxima of real entries are real; the entries a finiteness check admits are real. -/
module

public import proofs.«01_k».proof.Proof.Common
public import Idealize.ShloMosaic.PureOps.Reduce
public import Idealize.ShloMosaic.Lib.WordCmp

@[expose] public section

noncomputable section

namespace Cert.RealKit

open Idealize.ShloMosaic
open scoped BigOperators

/-- The sum of real entries is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inner product of real rows. -/
theorem coe_dot {ι : Type} (s : Finset ι) (f g : ι → ℝ) : ∑ i ∈ s, (f i : EReal) * (g i : EReal) = ((∑ i ∈ s, f i * g i : ℝ) : EReal) := by
  rw [coe_sum]; exact Finset.sum_congr rfl fun i _ => (EReal.coe_mul _ _).symm

theorem foldl_real {β : Type} (f : β → EReal) (hf : ∀ b, ∃ r : ℝ, f b = r) (l : List β) (a : EReal) (ha : ∃ r : ℝ, a = r) :
    ∃ r : ℝ, l.foldl (fun x b => x + f b) a = r := by
  induction l generalizing a with
  | nil => exact ha
  | cons b l ih =>
    obtain ⟨x, rfl⟩ := ha; obtain ⟨y, hy⟩ := hf b
    refine ih _ ⟨x + y, ?_⟩
    show (x : EReal) + f b = _
    rw [hy, EReal.coe_add]

/-- A running sum of real entries is real. -/
theorem window_real {s t u : Shape} (window strides lo hi : Fin s.rank → ℕ) (x : FVec Ideal s .f32) (init : u.Idx → EReal)
    (h : s.ReduceWindows window strides lo hi t) (hu : 0 < u.numel) (hx : ∀ i, ∃ r : ℝ, (x i : EReal) = r)
    (hi0 : init (Shape.Idx.first hu) = 0) (j : t.Idx) :
    ∃ r : ℝ, (Host.reduceWindowAdd window strides lo hi x init h hu : FVec Ideal t .f32) j = (r : EReal) := by
  refine foldl_real _ (fun n => ?_) _ _ ⟨0, ?_⟩
  · split_ifs with hin
    · exact hx _
    · exact ⟨0, hi0⟩
  · exact hi0

/-- The largest of some extended reals is real when none is `⊤` and one is real. -/
theorem fold_max_real {ι : Type} (s : Finset ι) (f : ι → EReal) (hf : ∀ i ∈ s, f i ≠ ⊤) (i : ι) (hi : i ∈ s) (hr : f i ≠ ⊥) :
    ∃ r : ℝ, s.fold max ⊥ f = (r : EReal) := by
  have h1 : s.fold max ⊥ f ≠ ⊤ := by
    have := (Finset.fold_max_lt (s := s) (f := f) (b := (⊥ : EReal)) ⊤).2 ⟨bot_lt_top, fun x hx => lt_top_iff_ne_top.2 (hf x hx)⟩
    exact this.ne
  have h2 : s.fold max ⊥ f ≠ ⊥ := by
    have : f i ≤ s.fold max ⊥ f := (Finset.le_fold_max (s := s) (f := f) (b := (⊥ : EReal)) (f i)).2 (Or.inr ⟨i, hi, le_rfl⟩)
    exact fun h => hr (le_bot_iff.1 (h ▸ this))
  exact ⟨_, (EReal.coe_toReal h1 h2).symm⟩

/-- An entry whose absolute value is below `⊤` is real. -/
theorem real_of_abs_lt (x : EReal) (h : max x (-x) < ⊤) : x = (x.toReal : EReal) := by
  refine (EReal.coe_toReal ?_ ?_).symm
  · rintro rfl; simp at h
  · rintro rfl; simp at h

theorem eq_toReal {x : EReal} {r : ℝ} (h : x = r) : x = (x.toReal : EReal) := by rw [h]; rfl

theorem ofBits_inf : Ideal.ofBits .f32 0x7F800000#32 = ⊤ := by
  simp [Ideal.ofBits, Ideal.ieee]

/-- An entry whose absolute value compares below infinity is a real number. -/
theorem real_of_lt {x : EReal} (h : (FloatOps.cmpf (F := Ideal) (φ := .f32) .olt (FloatOps.absf (F := Ideal) (φ := .f32) x) (Ideal.ofBits .f32 0x7F800000#32) : BitVec 1) = 1#1) : x = (x.toReal : EReal) := by
  refine real_of_abs_lt x ?_
  rw [ofBits_inf] at h
  by_contra hn
  have e : (FloatOps.cmpf (F := Ideal) (φ := .f32) .olt (FloatOps.absf (F := Ideal) (φ := .f32) x) (⊤ : EReal) : BitVec 1) = 0#1 :=
    congrArg BitVec.ofBool (decide_eq_false hn)
  rw [e] at h
  exact absurd h (by decide)

theorem ofBits_neg_inf : Ideal.ofBits .f32 0xFF800000#32 = ⊥ := by
  simp [Ideal.ofBits, Ideal.ieee]

theorem ofBits_eighth : Ideal.ofBits .f32 0x3E000000#32 = ((1 / 8 : ℝ) : EReal) := by
  simp [Ideal.ofBits, Ideal.ieee, -EReal.coe_mul]; norm_num

/-- The part of a sum over 2048 tokens that lies before token `n`. -/
def upto (n : ℕ) (f : Fin 2048 → ℝ) : ℝ := ∑ s, if s.val < n then f s else 0

theorem upto_zero (f : Fin 2048 → ℝ) : upto 0 f = 0 := by simp [upto]

theorem upto_all (f : Fin 2048 → ℝ) : upto 2048 f = ∑ s, f s := by simp [upto]

/-- Terms from token `n` on that vanish do not change the sum. -/
theorem upto_eq (n : ℕ) (f : Fin 2048 → ℝ) (h : ∀ s : Fin 2048, n ≤ s.val → f s = 0) : upto n f = ∑ s, f s := by
  refine Finset.sum_congr rfl fun s _ => ?_
  split_ifs with hs
  · rfl
  · exact (h s (by omega)).symm

/-- The sum before token `n + L`, where the next `L` tokens exist. -/
theorem upto_add (n L : ℕ) (hn : n + L ≤ 2048) (f : Fin 2048 → ℝ) :
    upto (n + L) f = upto n f + ∑ j : Fin L, f ⟨n + j.val, by omega⟩ := by
  induction L with
  | zero => simp
  | succ L ih =>
    have hx : upto (n + (L + 1)) f = upto (n + L) f + f ⟨n + L, by omega⟩ := by
      have e : f ⟨n + L, by omega⟩ = ∑ s : Fin 2048, if s = ⟨n + L, by omega⟩ then f s else 0 := by simp
      rw [e, upto, upto, ← Finset.sum_add_distrib]
      refine Finset.sum_congr rfl fun s _ => ?_
      by_cases h1 : s.val < n + L
      · have h2 : s.val < n + (L + 1) := by omega
        have h3 : s ≠ ⟨n + L, by omega⟩ := fun h => by rw [h] at h1; simp at h1
        simp [h1, h2, h3]
      · by_cases h2 : s.val < n + (L + 1)
        · have h3 : s = ⟨n + L, by omega⟩ := Fin.ext (by show s.val = n + L; omega)
          rw [if_pos h2, if_neg h1, if_pos h3, zero_add]
        · have h3 : s ≠ ⟨n + L, by omega⟩ := fun h => h2 (by rw [h]; show n + L < _; omega)
          simp [h1, h2, h3]
    rw [hx, ih (by omega), Fin.sum_univ_castSucc, add_assoc]
    rfl

/-- A choice by the order of two token positions. -/
theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [Idealize.ShloMosaic.WordCmp.cmpi_sle_ofNat ha hb]
  by_cases h : a ≤ b <;> simp [h, Scalar.select]

/-- The quotient of reals by a real that is not zero. -/
theorem coe_div (x y : ℝ) (h : y ≠ 0) : Ideal.div (x : EReal) (y : EReal) = ((x * (1 / y) : ℝ) : EReal) := by
  rw [Ideal.div_coe h, EReal.coe_mul]

end Cert.RealKit
end
-- ==== Proof.FoxSpec.lean ====
/- Causal softmax attention of one head with additive key and query biases, and its gradient, over the real numbers. -/
module

public import proofs.«01_k».proof.Proof.RealKit

@[expose] public section

noncomputable section

namespace Cert.FoxSpec

open Cert.RealKit
open scoped BigOperators

/-- One head of one sequence: queries, keys, values, the cotangent of the output, and the cumulated log forget gates. -/
structure Head where
  q : Fin 2048 → Fin 64 → ℝ
  k : Fin 2048 → Fin 64 → ℝ
  v : Fin 2048 → Fin 64 → ℝ
  g : Fin 2048 → Fin 64 → ℝ
  c : Fin 2048 → ℝ

namespace Head
variable (H : Head)

/-- The attention logit of query `t` and key `s`. -/
def logit (t s : Fin 2048) : ℝ := (∑ d, H.q t d * H.k s d) * (1 / 8) + H.c t - H.c s
/-- Its exponential, where the key is not after the query. -/
def wt (t s : Fin 2048) : ℝ := if s ≤ t then Real.exp (H.logit t s) else 0
/-- The softmax's denominator. -/
def tot (t : Fin 2048) : ℝ := ∑ s, H.wt t s
/-- The attention probabilities. -/
def prob (t s : Fin 2048) : ℝ := H.wt t s / H.tot t
/-- The cotangent of the probabilities. -/
def dprob (t s : Fin 2048) : ℝ := ∑ d, H.g t d * H.v s d
/-- The cotangent of the logits: the softmax's gradient. -/
def ds (t s : Fin 2048) : ℝ := H.prob t s * (H.dprob t s - ∑ s', H.prob t s' * H.dprob t s')
def dq (t : Fin 2048) (d : Fin 64) : ℝ := (∑ s, H.ds t s * H.k s d) * (1 / 8)
def dk (s : Fin 2048) (d : Fin 64) : ℝ := ∑ t, H.ds t s * (H.q t d * (1 / 8))
def dv (s : Fin 2048) (d : Fin 64) : ℝ := ∑ t, H.prob t s * H.g t d
/-- The gradient of the key bias with its sign turned, and of the query bias. -/
def dcs (s : Fin 2048) : ℝ := ∑ t, H.ds t s
def drs (t : Fin 2048) : ℝ := ∑ s, H.ds t s
/-- The attention's output. -/
def out (t : Fin 2048) (d : Fin 64) : ℝ := ∑ s, H.prob t s * H.v s d

theorem wt_nonneg (t s : Fin 2048) : 0 ≤ H.wt t s := by
  unfold wt; split_ifs
  · exact (Real.exp_pos _).le
  · exact le_rfl

theorem tot_pos (t : Fin 2048) : 0 < H.tot t := by
  refine Finset.sum_pos' (fun s _ => H.wt_nonneg t s) ⟨t, Finset.mem_univ t, ?_⟩
  rw [wt, if_pos le_rfl]; exact Real.exp_pos _

/-- The exponential of a shifted logit. -/
def sh (M : ℝ) (t s : Fin 2048) : ℝ := if s ≤ t then Real.exp (H.logit t s - M) else 0

theorem sh_eq (M : ℝ) (t s : Fin 2048) : H.sh M t s = H.wt t s * Real.exp (-M) := by
  unfold sh wt; split_ifs
  · rw [← Real.exp_add, sub_eq_add_neg]
  · simp

theorem sum_sh (M : ℝ) (t : Fin 2048) : ∑ s, H.sh M t s = H.tot t * Real.exp (-M) := by
  rw [tot, Finset.sum_mul]; exact Finset.sum_congr rfl fun s _ => H.sh_eq M t s

theorem sum_sh_pos (M : ℝ) (t : Fin 2048) : 0 < ∑ s, H.sh M t s := by
  rw [sum_sh]; exact mul_pos (H.tot_pos t) (Real.exp_pos _)

/-- The softmax does not depend on the shift. -/
theorem sh_div (M : ℝ) (t s : Fin 2048) : H.sh M t s * (1 / ∑ s', H.sh M t s') = H.prob t s := by
  rw [sum_sh, sh_eq, prob]
  have h1 := (H.tot_pos t).ne'; have h2 := (Real.exp_pos (-M)).ne'
  field_simp

/-- The shift and the logarithm of the shifted sum give the logarithm of the sum. -/
theorem lse_eq (M : ℝ) (t : Fin 2048) : M + Real.log (∑ s, H.sh M t s) = Real.log (H.tot t) := by
  rw [sum_sh, Real.log_mul (H.tot_pos t).ne' (Real.exp_pos _).ne', Real.log_exp]; ring

/-- A probability as one exponential. -/
theorem prob_eq_exp (t s : Fin 2048) (h : s ≤ t) : Real.exp (H.logit t s - Real.log (H.tot t)) = H.prob t s := by
  rw [Real.exp_sub, Real.exp_log (H.tot_pos t), prob, wt, if_pos h]

theorem prob_zero (t s : Fin 2048) (h : ¬ s ≤ t) : H.prob t s = 0 := by rw [prob, wt, if_neg h, zero_div]

theorem ds_zero (t s : Fin 2048) (h : ¬ s ≤ t) : H.ds t s = 0 := by rw [ds, prob_zero H t s h, zero_mul]

/-- The inner product of the output with its cotangent is the softmax gradient's correction. -/
theorem delta_eq (t : Fin 2048) : ∑ d, H.g t d * H.out t d = ∑ s, H.prob t s * H.dprob t s := by
  have h1 : ∀ d, H.g t d * H.out t d = ∑ s, H.g t d * (H.prob t s * H.v s d) := fun d => by rw [out, Finset.mul_sum]
  have h2 : ∀ s, H.prob t s * H.dprob t s = ∑ d, H.g t d * (H.prob t s * H.v s d) := fun s => by
    rw [dprob, Finset.mul_sum]; exact Finset.sum_congr rfl fun d _ => by ring
  rw [Finset.sum_congr (s₁ := (Finset.univ : Finset (Fin 64))) rfl fun d _ => h1 d, Finset.sum_congr (s₁ := (Finset.univ : Finset (Fin 2048))) rfl fun s _ => h2 s,
    Finset.sum_comm]

/-- The softmax's gradient through the division by the shifted sum. -/
theorem ds_eq (M : ℝ) (t s : Fin 2048) :
    (H.dprob t s * (1 / ∑ s', H.sh M t s') + -(∑ s', H.dprob t s' * (1 / ((∑ s', H.sh M t s') * ∑ s', H.sh M t s')) * H.sh M t s')) * H.sh M t s = H.ds t s := by
  have hp : ∀ s', H.prob t s' = H.sh M t s' * (1 / ∑ s', H.sh M t s') := fun s' => (H.sh_div M t s').symm
  have h0 : (∑ s', H.sh M t s') ≠ 0 := (H.sum_sh_pos M t).ne'
  rw [ds, hp s]
  generalize (∑ s', H.sh M t s') = S at hp h0 ⊢
  have h2 : ∑ s', H.dprob t s' * (1 / (S * S)) * H.sh M t s' = (1 / S) * ∑ s', H.prob t s' * H.dprob t s' := by
    rw [Finset.mul_sum]
    refine Finset.sum_congr rfl fun s' _ => ?_
    rw [hp]
    field_simp
  rw [h2]
  ring

end Head

section Arrays
open Idealize.ShloMosaic Cert.Common

/-- Lane `d` of head `h`. -/
abbrev lane (h : Fin 8) (d : Fin 64) : Fin 512 := ⟨h.val * 64 + d.val, by omega⟩

/-- The head `h` of sequence `b` of arrays over the extended reals. -/
def head (q k v g : M3 2 2048 512) (c : M3 2 8 2048) (b : Fin 2) (h : Fin 8) : Head where
  q t d := (q (ix3 b t (lane h d))).toReal
  k t d := (k (ix3 b t (lane h d))).toReal
  v t d := (v (ix3 b t (lane h d))).toReal
  g t d := (g (ix3 b t (lane h d))).toReal
  c t := (c (ix3 b h t)).toReal

theorem head_c (q k v g : M3 2 2048 512) (c : M3 2 8 2048) (b : Fin 2) (h : Fin 8) (t : Fin 2048) : (head q k v g c b h).c t = (c (ix3 b h t)).toReal := rfl

/-- Sequence, token, head and dimension of row `i` and lane `l` of a 4096 by 512 array. -/
abbrev seqOf (i : Fin 4096) : Fin 2 := ⟨i.val / 2048, by omega⟩
abbrev tokOf (i : Fin 4096) : Fin 2048 := ⟨i.val % 2048, by omega⟩
abbrev headOf (l : Fin 512) : Fin 8 := ⟨l.val / 64, by omega⟩
abbrev dimOf (l : Fin 512) : Fin 64 := ⟨l.val % 64, by omega⟩

/-- A quantity of every head, token and dimension as a 4096 by 512 array. -/
def spread (f : Fin 2 → Fin 8 → Fin 2048 → Fin 64 → ℝ) : M2 4096 512 := fun y =>
  (f (seqOf (y 0)) (headOf (y 1)) (tokOf (y 0)) (dimOf (y 1)) : EReal)

end Arrays

end Cert.FoxSpec
end
-- ==== Proof.FoxRefValue.lean ====
/- The reference's gradients of the causal softmax attention, stage by stage, as real numbers. -/
module

public import proofs.«01_k».proof.Proof.FoxSpec
public import proofs.«01_k».proof.Proof.Gen.FoxRefIdeal.Read

@[expose] public section

set_option maxRecDepth 16384

noncomputable section

namespace Cert.FoxRefValue

open Idealize.ShloMosaic Idealize.SL.Sem Cert.FoxRefIdeal Cert.FoxRefIdeal.Gen Cert.FoxRefIdeal.Read Cert.Common Cert.RealKit Cert.FoxSpec
open scoped BigOperators

/-- Every entry is a real number. -/
abbrev Real3 {a b c : ℕ} (x : M3 a b c) : Prop := ∀ i, x i = ((x i).toReal : EReal)

variable (x0 x1 x2 x7 : M3 2 2048 512) (x3 : M3 2 8 2048)

/-- The running sum of the log forget gates. -/
abbrev cum : M3 2 8 2048 := val_main_v0 (F := Ideal) x3

theorem c_real (h3 : Real3 x3) : Real3 (cum x3) := by
  intro j
  obtain ⟨r, hr⟩ := window_real ![1, 1, 2048] ![1, 1, 1] ![0, 0, 2047] ![0, 0, 0] x3 (val_main_call0_call0_v0 (F := Ideal))
    Facts₀.reduceWindows_S2x8x2048_S2x8x2048_w1s1p0_0_w1s1p0_0_w2048s1p2047_0 Facts₀.h_S_ (fun i => ⟨_, h3 i⟩)
    (by pointwise [val_main_call0_call0_v0, val_main_call0_call0_cst]) j
  have h : cum x3 j = r := hr
  rw [h]; rfl

variable (b : Fin 2) (h : Fin 8)

/-- One head of the arguments. -/
abbrev hd : Head := head x0 x1 x2 x7 (cum x3) b h

theorem r_heads (x : M3 2 2048 512) (hx : Real3 x) (t : Fin 2048) (d : Fin 64) :
    (val_main_v2 (F := Ideal) x : FVec Ideal S2x8x2048x64 .f32) (ix4 b h t d) = ((x (ix3 b t (lane h d))).toReal : EReal) := by
  refine Eq.trans ?_ (hx (ix3 b t (lane h d)))
  pointwise [val_main_v2, val_main_v1]

theorem r2 (h0 : Real3 x0) (t : Fin 2048) (d : Fin 64) :
    (val_main_v2 (F := Ideal) x0 : FVec Ideal S2x8x2048x64 .f32) (ix4 b h t d) = ((hd x0 x1 x2 x7 x3 b h).q t d : EReal) := r_heads b h x0 h0 t d

theorem r4 (h1 : Real3 x1) (t : Fin 2048) (d : Fin 64) :
    (val_main_v4 (F := Ideal) x1 : FVec Ideal S2x8x2048x64 .f32) (ix4 b h t d) = ((hd x0 x1 x2 x7 x3 b h).k t d : EReal) := r_heads b h x1 h1 t d

theorem r6 (h2 : Real3 x2) (t : Fin 2048) (d : Fin 64) :
    (val_main_v6 (F := Ideal) x2 : FVec Ideal S2x8x2048x64 .f32) (ix4 b h t d) = ((hd x0 x1 x2 x7 x3 b h).v t d : EReal) := r_heads b h x2 h2 t d

theorem r56 (h7 : Real3 x7) (t : Fin 2048) (d : Fin 64) :
    (val_main_v56 (F := Ideal) x7 : FVec Ideal S2x8x2048x64 .f32) (ix4 b h t d) = ((hd x0 x1 x2 x7 x3 b h).g t d : EReal) := by
  refine Eq.trans ?_ (h7 (ix3 b t (lane h d)))
  pointwise [val_main_v56, val_main_v55]

theorem r15 (h0 : Real3 x0) (h1 : Real3 x1) (h3 : Real3 x3) (t s : Fin 2048) :
    (val_main_v15 (F := Ideal) x0 x1 x3 : FVec Ideal S2x8x2048x2048 .f32) (ix4 b h t s) = ((hd x0 x1 x2 x7 x3 b h).logit t s : EReal) := by
  have ht : (val_main_v0 (F := Ideal) x3 : M3 2 8 2048) (ix3 b h t) = ((hd x0 x1 x2 x7 x3 b h).c t : EReal) := by
    rw [head_c]; exact c_real x3 h3 (ix3 b h t)
  have hs : (val_main_v0 (F := Ideal) x3 : M3 2 8 2048) (ix3 b h s) = ((hd x0 x1 x2 x7 x3 b h).c s : EReal) := by
    rw [head_c]; exact c_real x3 h3 (ix3 b h s)
  pointwise [val_main_v15, val_main_v14, val_main_v13, val_main_v12, val_main_v11, val_main_v10, val_main_v9, val_main_v8, val_main_v7, val_main_cst]
  simp only [r2 x0 x1 x2 x7 x3 b h h0, r4 x0 x1 x2 x7 x3 b h h1]
  rw [ht, hs, Head.logit, EReal.coe_sub, EReal.coe_add, EReal.coe_mul, ← coe_dot, ofBits_eighth]

theorem r23 (h0 : Real3 x0) (h1 : Real3 x1) (h3 : Real3 x3) (t s : Fin 2048) :
    (val_main_v23_0 (F := Ideal) x0 x1 x3 : FVec Ideal S2x8x2048x2048 .f32) (ix4 b h t s)
      = if s ≤ t then ((hd x0 x1 x2 x7 x3 b h).logit t s : EReal) else ⊥ := by
  have e := r15 x0 x1 x2 x7 x3 b h h0 h1 h3 t s
  pointwise [val_main_v23_0, val_main_v23_1, val_main_call1_v2, val_main_call1_v0, val_main_cst_0, val_main_v22, val_main_v21, val_main_v20, val_main_v19, val_main_v18, val_main_v17, val_main_v16]
  rw [select_le _ _ (by omega) (by omega), e]
  exact if_congr Iff.rfl rfl ofBits_neg_inf

/-- The largest logit of a query. -/
def top (t : Fin 2048) : ℝ := ((val_main_v24 (F := Ideal) x0 x1 x3 : FVec Ideal S2x8x2048 .f32) (ix3 b h t) : EReal).toReal

theorem r24_fold (t : Fin 2048) : (val_main_v24 (F := Ideal) x0 x1 x3 : FVec Ideal S2x8x2048 .f32) (ix3 b h t)
      = Finset.fold max (Ideal.ofBits .f32 0xFF800000#32) (fun s => (val_main_v23_0 (F := Ideal) x0 x1 x3 : FVec Ideal S2x8x2048x2048 .f32) (ix4 b h t s)) Finset.univ := by
  pointwise [val_main_v24, val_main_cst_1]

theorem r24 (h0 : Real3 x0) (h1 : Real3 x1) (h3 : Real3 x3) (t : Fin 2048) :
    (val_main_v24 (F := Ideal) x0 x1 x3 : FVec Ideal S2x8x2048 .f32) (ix3 b h t) = (top x0 x1 x3 b h t : EReal) := by
  have e := r24_fold x0 x1 x3 b h t
  have e' := fun s => r23 x0 x1 x1 x1 x3 b h h0 h1 h3 t s
  unfold top
  generalize (val_main_v24 (F := Ideal) x0 x1 x3 : FVec Ideal S2x8x2048 .f32) (ix3 b h t) = m at e ⊢
  generalize hd x0 x1 x1 x1 x3 b h = H at e'
  obtain ⟨f, hf⟩ : ∃ f : Fin 2048 → EReal, f = fun s => (val_main_v23_0 (F := Ideal) x0 x1 x3 : FVec Ideal S2x8x2048x2048 .f32) (ix4 b h t s) := ⟨_, rfl⟩
  rw [← hf] at e
  have e2 : ∀ s, f s = if s ≤ t then (H.logit t s : EReal) else ⊥ := fun s => (congrFun hf s).trans (e' s)
  obtain ⟨r, hr⟩ := fold_max_real Finset.univ f (fun s _ => by rw [e2]; split_ifs <;> simp) t (Finset.mem_univ t) (by rw [e2, if_pos le_rfl]; simp)
  rw [ofBits_neg_inf, hr] at e
  exact eq_toReal e

theorem r31 (h0 : Real3 x0) (h1 : Real3 x1) (h3 : Real3 x3) (t : Fin 2048) :
    (val_main_v31 (F := Ideal) x0 x1 x3 : FVec Ideal S2x8x2048 .f32) (ix3 b h t) = (top x0 x1 x3 b h t : EReal) := by
  have e := r24 x0 x1 x3 b h h0 h1 h3 t
  have e' : (val_main_v30 (F := Ideal) : FVec Ideal S2x8x2048 .f32) (ix3 b h t) = (⊥ : EReal) := by
    rw [val_main_v30_apply, val_main_cst_3_apply]; exact ofBits_neg_inf
  rw [val_main_v31_apply]
  generalize (val_main_v24 (F := Ideal) x0 x1 x3 : FVec Ideal S2x8x2048 .f32) (ix3 b h t) = m at e ⊢
  generalize (val_main_v30 (F := Ideal) : FVec Ideal S2x8x2048 .f32) (ix3 b h t) = m' at e' ⊢
  rw [e, e']
  exact max_eq_right bot_le

theorem r44 (h0 : Real3 x0) (h1 : Real3 x1) (h3 : Real3 x3) (t s : Fin 2048) :
    (val_main_v44 (F := Ideal) x0 x1 x3 : FVec Ideal S2x8x2048x2048 .f32) (ix4 b h t s) = ((hd x0 x1 x2 x7 x3 b h).sh (top x0 x1 x3 b h t) t s : EReal) := by
  have e := r23 x0 x1 x2 x7 x3 b h h0 h1 h3 t s
  have e' := r31 x0 x1 x3 b h h0 h1 h3 t
  pointwise [val_main_v44, val_main_v43, val_main_v42, val_main_v41]
  rw [e, e', Head.sh]
  split_ifs
  · rw [← EReal.coe_sub, Ideal.exp_coe]
  · simp

theorem r45 (h0 : Real3 x0) (h1 : Real3 x1) (h3 : Real3 x3) (t : Fin 2048) :
    (val_main_v45 (F := Ideal) x0 x1 x3 : FVec Ideal S2x8x2048 .f32) (ix3 b h t) = ((∑ s, (hd x0 x1 x2 x7 x3 b h).sh (top x0 x1 x3 b h t) t s : ℝ) : EReal) := by
  have e := r44 x0 x1 x2 x7 x3 b h h0 h1 h3 t
  pointwise [val_main_v45, val_main_cst_9]
  simp only [e]
  rw [coe_sum]

theorem r48 (h0 : Real3 x0) (h1 : Real3 x1) (h3 : Real3 x3) (t s : Fin 2048) :
    (val_main_v48 (F := Ideal) x0 x1 x3 : FVec Ideal S2x8x2048x2048 .f32) (ix4 b h t s) = ((hd x0 x1 x2 x7 x3 b h).prob t s : EReal) := by
  have e := r44 x0 x1 x2 x7 x3 b h h0 h1 h3 t s
  have e' := r45 x0 x1 x2 x7 x3 b h h0 h1 h3 t
  pointwise [val_main_v48, val_main_v47, val_main_v46]
  rw [e, e', coe_div _ _ (Head.sum_sh_pos _ _ _).ne', Head.sh_div]

theorem r58 (h0 : Real3 x0) (h1 : Real3 x1) (h3 : Real3 x3) (h7 : Real3 x7) (s : Fin 2048) (d : Fin 64) :
    (val_main_v58 (F := Ideal) x0 x1 x3 x7 : FVec Ideal S2x8x2048x64 .f32) (ix4 b h s d) = ((hd x0 x1 x2 x7 x3 b h).dv s d : EReal) := by
  have e := fun t => r48 x0 x1 x2 x7 x3 b h h0 h1 h3 t s
  have e' := fun t => r56 x0 x1 x2 x7 x3 b h h7 t d
  pointwise [val_main_v58, val_main_v57]
  simp only [e, e']
  rw [coe_dot, Head.dv]
  exact congrArg _ (Finset.sum_congr rfl fun t _ => mul_comm _ _)

theorem r59 (h2 : Real3 x2) (h7 : Real3 x7) (t s : Fin 2048) :
    (val_main_v59 (F := Ideal) x2 x7 : FVec Ideal S2x8x2048x2048 .f32) (ix4 b h t s) = ((hd x0 x1 x2 x7 x3 b h).dprob t s : EReal) := by
  pointwise [val_main_v59]
  simp only [r6 x0 x1 x2 x7 x3 b h h2, r56 x0 x1 x2 x7 x3 b h h7]
  rw [coe_dot, Head.dprob]

theorem r62 (h0 : Real3 x0) (h1 : Real3 x1) (h2 : Real3 x2) (h3 : Real3 x3) (h7 : Real3 x7) (t s : Fin 2048) :
    (val_main_v62 (F := Ideal) x0 x1 x2 x3 x7 : FVec Ideal S2x8x2048x2048 .f32) (ix4 b h t s)
      = (((hd x0 x1 x2 x7 x3 b h).dprob t s * (1 / ((∑ s, (hd x0 x1 x2 x7 x3 b h).sh (top x0 x1 x3 b h t) t s) * ∑ s, (hd x0 x1 x2 x7 x3 b h).sh (top x0 x1 x3 b h t) t s))
        * (hd x0 x1 x2 x7 x3 b h).sh (top x0 x1 x3 b h t) t s : ℝ) : EReal) := by
  have e := r44 x0 x1 x2 x7 x3 b h h0 h1 h3 t s
  have e' := r45 x0 x1 x2 x7 x3 b h h0 h1 h3 t
  have e2 := r59 x0 x1 x2 x7 x3 b h h2 h7 t s
  have hp := (hd x0 x1 x2 x7 x3 b h).sum_sh_pos (top x0 x1 x3 b h t) t
  pointwise [val_main_v62, val_main_v61, val_main_v60, val_main_v51, val_main_v50, val_main_v49, val_main_v46, val_main_cst_10]
  rw [e, e', e2]
  generalize hd x0 x1 x2 x7 x3 b h = H at hp ⊢
  generalize (∑ s, H.sh (top x0 x1 x3 b h t) t s) = S at hp ⊢
  have e1 : (1 : EReal) = ((1 : ℝ) : EReal) := rfl
  rw [e1, ← EReal.coe_mul, coe_div _ _ (mul_pos hp hp).ne', one_mul, ← EReal.coe_mul, ← EReal.coe_mul]

theorem r63 (h0 : Real3 x0) (h1 : Real3 x1) (h2 : Real3 x2) (h3 : Real3 x3) (h7 : Real3 x7) (t : Fin 2048) :
    (val_main_v63 (F := Ideal) x0 x1 x2 x3 x7 : FVec Ideal S2x8x2048 .f32) (ix3 b h t)
      = ((∑ s', (hd x0 x1 x2 x7 x3 b h).dprob t s' * (1 / ((∑ s, (hd x0 x1 x2 x7 x3 b h).sh (top x0 x1 x3 b h t) t s) * ∑ s, (hd x0 x1 x2 x7 x3 b h).sh (top x0 x1 x3 b h t) t s))
        * (hd x0 x1 x2 x7 x3 b h).sh (top x0 x1 x3 b h t) t s' : ℝ) : EReal) := by
  have e := fun s => r62 x0 x1 x2 x7 x3 b h h0 h1 h2 h3 h7 t s
  pointwise [val_main_v63, val_main_cst_11]
  simp only [e]
  rw [coe_sum]

/-- The masked cotangent of the logits. -/
theorem r72 (h0 : Real3 x0) (h1 : Real3 x1) (h2 : Real3 x2) (h3 : Real3 x3) (h7 : Real3 x7) (t s : Fin 2048) :
    (val_main_v72 (F := Ideal) x0 x1 x2 x3 x7 : FVec Ideal S2x8x2048x2048 .f32) (ix4 b h t s) = ((hd x0 x1 x2 x7 x3 b h).ds t s : EReal) := by
  have e := r44 x0 x1 x2 x7 x3 b h h0 h1 h3 t s
  have e1 := r45 x0 x1 x2 x7 x3 b h h0 h1 h3 t
  have e2 := r59 x0 x1 x2 x7 x3 b h h2 h7 t s
  have e3 := r63 x0 x1 x2 x7 x3 b h h0 h1 h2 h3 h7 t
  have hp := (hd x0 x1 x2 x7 x3 b h).sum_sh_pos (top x0 x1 x3 b h t) t
  have hds := (hd x0 x1 x2 x7 x3 b h).ds_eq (top x0 x1 x3 b h t) t s
  have hz := (hd x0 x1 x2 x7 x3 b h).ds_zero t s
  pointwise [val_main_v72, val_main_v71, val_main_v70, val_main_v69, val_main_v68, val_main_v67, val_main_v66, val_main_v65, val_main_v64, val_main_v46, val_main_cst_12, val_main_call2_v0, val_main_call2_cst,
    val_main_v23_1, val_main_v22, val_main_v21, val_main_v20, val_main_v19, val_main_v18, val_main_v17, val_main_v16]
  rw [select_le _ _ (by omega) (by omega)]
  rw [e, e1, e2, e3]
  simp only [Fin.sum_univ_one]
  split_ifs with hst
  · rw [coe_div _ _ hp.ne', ← EReal.coe_neg, ← EReal.coe_add, ← EReal.coe_mul, hds]
  · rw [hz hst, EReal.coe_zero]

theorem r83 (h0 : Real3 x0) (h1 : Real3 x1) (h2 : Real3 x2) (h3 : Real3 x3) (h7 : Real3 x7) (t : Fin 2048) (d : Fin 64) :
    (val_main_v83 (F := Ideal) x0 x1 x2 x3 x7 : FVec Ideal S2x8x2048x64 .f32) (ix4 b h t d) = ((hd x0 x1 x2 x7 x3 b h).dq t d : EReal) := by
  have e := fun s => r72 x0 x1 x2 x7 x3 b h h0 h1 h2 h3 h7 t s
  pointwise [val_main_v83, val_main_v81, val_main_v80, val_main_cst_17]
  simp only [e, r4 x0 x1 x2 x7 x3 b h h1, ofBits_eighth, ← EReal.coe_mul]
  rw [← coe_sum, Head.dq, Finset.sum_mul]
  exact congrArg _ (Finset.sum_congr rfl fun s _ => by ring)

theorem r82 (h0 : Real3 x0) (h1 : Real3 x1) (h2 : Real3 x2) (h3 : Real3 x3) (h7 : Real3 x7) (s : Fin 2048) (d : Fin 64) :
    (val_main_v82 (F := Ideal) x0 x1 x2 x3 x7 : FVec Ideal S2x8x2048x64 .f32) (ix4 b h s d) = ((hd x0 x1 x2 x7 x3 b h).dk s d : EReal) := by
  have e := fun t => r72 x0 x1 x2 x7 x3 b h h0 h1 h2 h3 h7 t s
  pointwise [val_main_v82, val_main_v81, val_main_v80, val_main_cst_17]
  simp only [e, r2 x0 x1 x2 x7 x3 b h h0, ofBits_eighth, ← EReal.coe_mul]
  rw [← coe_sum, Head.dk]
  exact congrArg _ (Finset.sum_congr rfl fun s _ => by ring)

theorem r96 (h0 : Real3 x0) (h1 : Real3 x1) (h2 : Real3 x2) (h3 : Real3 x3) (h7 : Real3 x7) (s : Fin 2048) :
    (val_main_v96 (F := Ideal) x0 x1 x2 x3 x7 : FVec Ideal S2x8x2048 .f32) (ix3 b h s) = ((hd x0 x1 x2 x7 x3 b h).dcs s : EReal) := by
  have e := fun t => r72 x0 x1 x2 x7 x3 b h h0 h1 h2 h3 h7 t s
  pointwise [val_main_v96, val_main_v76, val_main_cst_14, val_main_v75, val_main_v74, val_main_cst_13, val_main_v73]
  simp only [e, Fin.sum_univ_one]
  simp only [← EReal.coe_neg]
  rw [← coe_sum, ← EReal.coe_neg, Finset.sum_neg_distrib, neg_neg, Head.dcs]

theorem r79 (h0 : Real3 x0) (h1 : Real3 x1) (h2 : Real3 x2) (h3 : Real3 x3) (h7 : Real3 x7) (t : Fin 2048) :
    (val_main_v79 (F := Ideal) x0 x1 x2 x3 x7 : FVec Ideal S2x8x2048 .f32) (ix3 b h t) = ((hd x0 x1 x2 x7 x3 b h).drs t : EReal) := by
  have e := fun s => r72 x0 x1 x2 x7 x3 b h h0 h1 h2 h3 h7 t s
  pointwise [val_main_v79, val_main_cst_16, val_main_v78, val_main_v77, val_main_cst_15]
  simp only [e, Fin.sum_univ_one]
  rw [← coe_sum, Head.drs]

theorem r91 (h0 : Real3 x0) (h1 : Real3 x1) (h2 : Real3 x2) (h3 : Real3 x3) (h7 : Real3 x7) :
    (val_main_v91 (F := Ideal) x0 x1 x2 x3 x7 : M2 4096 512) = spread fun b h => (hd x0 x1 x2 x7 x3 b h).dq := by
  funext y
  idx_vars y
  pointwise [val_main_v91, val_main_v90, val_main_v89, val_main_v88]
  exact r83 x0 x1 x2 x7 x3 _ _ h0 h1 h2 h3 h7 _ _

theorem r93 (h0 : Real3 x0) (h1 : Real3 x1) (h2 : Real3 x2) (h3 : Real3 x3) (h7 : Real3 x7) :
    (val_main_v93 (F := Ideal) x0 x1 x2 x3 x7 : M2 4096 512) = spread fun b h => (hd x0 x1 x2 x7 x3 b h).dk := by
  funext y
  idx_vars y
  pointwise [val_main_v93, val_main_v92, val_main_v87, val_main_v86]
  exact r82 x0 x1 x2 x7 x3 _ _ h0 h1 h2 h3 h7 _ _

theorem r95 (h0 : Real3 x0) (h1 : Real3 x1) (h3 : Real3 x3) (h7 : Real3 x7) :
    (val_main_v95 (F := Ideal) x0 x1 x3 x7 : M2 4096 512) = spread fun b h => (hd x0 x1 x2 x7 x3 b h).dv := by
  funext y
  idx_vars y
  pointwise [val_main_v95, val_main_v94, val_main_v85, val_main_v84]
  exact r58 x0 x1 x2 x7 x3 _ _ h0 h1 h3 h7 _ _

theorem r100 (h0 : Real3 x0) (h1 : Real3 x1) (h2 : Real3 x2) (h3 : Real3 x3) (h7 : Real3 x7) :
    (val_main_v100 (F := Ideal) x0 x1 x2 x3 x7 : M2 4096 512) = spread fun b h s _ => (hd x0 x1 x2 x7 x3 b h).dcs s := by
  funext y
  idx_vars y
  pointwise [val_main_v100, val_main_v99, val_main_v98, val_main_v97]
  exact r96 x0 x1 x2 x7 x3 _ _ h0 h1 h2 h3 h7 _

theorem r104 (h0 : Real3 x0) (h1 : Real3 x1) (h2 : Real3 x2) (h3 : Real3 x3) (h7 : Real3 x7) :
    (val_main_v104 (F := Ideal) x0 x1 x2 x3 x7 : M2 4096 512) = spread fun b h t _ => (hd x0 x1 x2 x7 x3 b h).drs t := by
  funext y
  idx_vars y
  pointwise [val_main_v104, val_main_v103, val_main_v102, val_main_v101]
  exact r79 x0 x1 x2 x7 x3 _ _ h0 h1 h2 h3 h7 _

end Cert.FoxRefValue
end
-- ==== Proof.FoxHost.lean ====
/- What the attention gradient's kernel is handed: the projections, the cotangent, the running sum of the log forget gates, the forward pass's output and logarithm of the row sums. -/
module

public import proofs.«01_k».proof.Proof.FoxRefValue
public import proofs.«01_k».proof.Proof.Gen.FoxIdeal.Value

@[expose] public section

set_option maxRecDepth 16384

noncomputable section

namespace Cert.FoxHost

open Idealize.ShloMosaic Idealize.SL.Sem Cert.FoxIdeal Cert.FoxIdeal.Gen Cert.Common Cert.RealKit Cert.FoxSpec Cert.FoxRefValue
open scoped BigOperators

section Stages
variable (x0 x1 x2 x7 : M3 2 2048 512) (x3 : M3 2 8 2048)

/-- The exponentials of an array shifted row by row. -/
def eOf (a : FVec Ideal S2x8x2048x2048 .f32) (u : FVec Ideal S2x8x2048 .f32) : FVec Ideal S2x8x2048x2048 .f32 :=
  Host.exp (subf a (broadcastInDim S2x8x2048x2048 ![0, 1, 2, 3] Facts₀.bcast_S2x8x2048x1_S2x8x2048x2048_0_1_2_3
    (broadcastInDim S2x8x2048x1 ![0, 1, 2] Facts₀.bcast_S2x8x2048_S2x8x2048x1_0_1_2 u)))
/-- The sums over the keys. -/
def sOf (e : FVec Ideal S2x8x2048x2048 .f32) : FVec Ideal S2x8x2048 .f32 :=
  Host.reduceAdd e (constant S_ .f32 0x00000000#32) Facts₀.reducesTo_S2x8x2048x2048_S2x8x2048_d3 Facts₀.h_S_
/-- A quotient row by row. -/
def pOf (e : FVec Ideal S2x8x2048x2048 .f32) (u : FVec Ideal S2x8x2048 .f32) : FVec Ideal S2x8x2048x2048 .f32 :=
  Host.divf e (broadcastInDim S2x8x2048x2048 ![0, 1, 2, 3] Facts₀.bcast_S2x8x2048x1_S2x8x2048x2048_0_1_2_3
    (broadcastInDim S2x8x2048x1 ![0, 1, 2] Facts₀.bcast_S2x8x2048_S2x8x2048x1_0_1_2 u))
/-- The product with the values. -/
def oOf (p : FVec Ideal S2x8x2048x2048 .f32) (v : FVec Ideal S2x8x2048x64 .f32) : FVec Ideal S2x8x2048x64 .f32 :=
  Host.dotGeneral dot_S2x8x2048x2048_S2x8x2048x64_S2x8x2048x64_3_2_2_3_01_01 none p v

theorem eOf_apply (a : FVec Ideal S2x8x2048x2048 .f32) (u : FVec Ideal S2x8x2048 .f32) (b : Fin 2) (h : Fin 8) (t s : Fin 2048) :
    eOf a u (ix4 b h t s) = Ideal.exp (a (ix4 b h t s) - u (ix3 b h t)) := by pointwise [eOf]
theorem sOf_apply (e : FVec Ideal S2x8x2048x2048 .f32) (b : Fin 2) (h : Fin 8) (t : Fin 2048) :
    sOf e (ix3 b h t) = ∑ s, e (ix4 b h t s) := by pointwise [sOf]
theorem pOf_apply (e : FVec Ideal S2x8x2048x2048 .f32) (u : FVec Ideal S2x8x2048 .f32) (b : Fin 2) (h : Fin 8) (t s : Fin 2048) :
    pOf e u (ix4 b h t s) = Ideal.div (e (ix4 b h t s)) (u (ix3 b h t)) := by pointwise [pOf]
theorem oOf_apply (p : FVec Ideal S2x8x2048x2048 .f32) (v : FVec Ideal S2x8x2048x64 .f32) (b : Fin 2) (h : Fin 8) (t : Fin 2048) (d : Fin 64) :
    oOf p v (ix4 b h t d) = ∑ s, p (ix4 b h t s) * v (ix4 b h s d) := by pointwise [oOf]

/-- The shifted exponentials of the masked logits. -/
def hE : FVec Ideal S2x8x2048x2048 .f32 := eOf (Cert.FoxRefIdeal.Read.val_main_v23_0 (F := Ideal) x0 x1 x3) (Cert.FoxRefIdeal.Read.val_main_v24 (F := Ideal) x0 x1 x3)
/-- Their row sums. -/
def hS : FVec Ideal S2x8x2048 .f32 := sOf (hE x0 x1 x3)
/-- The logarithms of the row sums. -/
def hL : FVec Ideal S2x8x2048 .f32 := addf (Cert.FoxRefIdeal.Read.val_main_v24 (F := Ideal) x0 x1 x3) (Host.log (hS x0 x1 x3))
/-- The attention probabilities. -/
def hP : FVec Ideal S2x8x2048x2048 .f32 := pOf (hE x0 x1 x3) (hS x0 x1 x3)
/-- The attention's output. -/
def hO : FVec Ideal S2x8x2048x64 .f32 := oOf (hP x0 x1 x3) (Cert.FoxRefIdeal.Read.val_main_v6 (F := Ideal) x2)
/-- One number of every head and token, repeated over the head's lanes. -/
def wide (x : FVec Ideal S2x8x2048 .f32) : FVec Ideal S4096x512 .f32 :=
  shapeCast _ (broadcastInDim S4096x8x64 ![0, 1] Facts₀.bcast_S4096x8_S4096x8x64_0_1
    (shapeCast _ (transpose S2x2048x8 [0, 2, 1] x Facts₀.transposes_S2x8x2048_S2x2048x8_0_2_1) Facts₀.shapeCasts_S2x2048x8_S4096x8)) Facts₀.shapeCasts_S4096x8x64_S4096x512
/-- The heads side by side. -/
def flat (x : FVec Ideal S2x8x2048x64 .f32) : FVec Ideal S4096x512 .bf16 :=
  truncf .bf16 (shapeCast _ (transpose S2x2048x8x64 [0, 2, 1, 3] x Facts₀.transposes_S2x8x2048x64_S2x2048x8x64_0_2_1_3) Facts₀.shapeCasts_S2x2048x8x64_S4096x512 : FVec Ideal S4096x512 .f32) Facts₀.bitsLt_bf16_f32

theorem wide_apply (x : FVec Ideal S2x8x2048 .f32) (i : Fin 4096) (l : Fin 512) : wide x (ix2 i l) = x (ix3 (seqOf i) (headOf l) (tokOf i)) := by
  pointwise [wide]

theorem flat_apply (x : FVec Ideal S2x8x2048x64 .f32) (i : Fin 4096) (l : Fin 512) :
    flat x (ix2 i l) = x (ix4 (seqOf i) (headOf l) (tokOf i) (dimOf l)) := by
  pointwise [flat]

variable (b : Fin 2) (h : Fin 8)

theorem hE_real (h0 : Real3 x0) (h1 : Real3 x1) (h3 : Real3 x3) (t s : Fin 2048) :
    hE x0 x1 x3 (ix4 b h t s) = ((hd x0 x1 x2 x7 x3 b h).sh (top x0 x1 x3 b h t) t s : EReal) := by
  rw [hE, eOf_apply, r23 x0 x1 x2 x7 x3 b h h0 h1 h3 t s, r24 x0 x1 x3 b h h0 h1 h3 t, Head.sh]
  split_ifs
  · rw [← EReal.coe_sub, Ideal.exp_coe]
  · simp

theorem hS_real (h0 : Real3 x0) (h1 : Real3 x1) (h3 : Real3 x3) (t : Fin 2048) :
    hS x0 x1 x3 (ix3 b h t) = ((∑ s, (hd x0 x1 x2 x7 x3 b h).sh (top x0 x1 x3 b h t) t s : ℝ) : EReal) := by
  rw [hS, sOf_apply, coe_sum]
  exact Finset.sum_congr rfl fun s _ => hE_real x0 x1 x2 x7 x3 b h h0 h1 h3 t s

theorem hL_real (h0 : Real3 x0) (h1 : Real3 x1) (h3 : Real3 x3) (t : Fin 2048) :
    hL x0 x1 x3 (ix3 b h t) = (Real.log ((hd x0 x1 x2 x7 x3 b h).tot t) : EReal) := by
  have hp := (hd x0 x1 x2 x7 x3 b h).sum_sh_pos (top x0 x1 x3 b h t) t
  have hl := (hd x0 x1 x2 x7 x3 b h).lse_eq (top x0 x1 x3 b h t) t
  have g : ∀ (u v : FVec Ideal S2x8x2048 .f32) (i : S2x8x2048.Idx), (addf u (Host.log v) : FVec Ideal S2x8x2048 .f32) i = u i + Ideal.log (v i) := fun _ _ _ => rfl
  rw [hL, g, hS_real x0 x1 x2 x7 x3 b h h0 h1 h3 t, r24 x0 x1 x3 b h h0 h1 h3 t, Ideal.log_coe, if_neg (not_le.2 hp), ← EReal.coe_add, hl]

theorem hP_real (h0 : Real3 x0) (h1 : Real3 x1) (h3 : Real3 x3) (t s : Fin 2048) :
    hP x0 x1 x3 (ix4 b h t s) = ((hd x0 x1 x2 x7 x3 b h).prob t s : EReal) := by
  rw [hP, pOf_apply, hE_real x0 x1 x2 x7 x3 b h h0 h1 h3 t s, hS_real x0 x1 x2 x7 x3 b h h0 h1 h3 t, coe_div _ _ (Head.sum_sh_pos _ _ _).ne', Head.sh_div]

theorem hO_real (h0 : Real3 x0) (h1 : Real3 x1) (h2 : Real3 x2) (h3 : Real3 x3) (t : Fin 2048) (d : Fin 64) :
    hO x0 x1 x2 x3 (ix4 b h t d) = ((hd x0 x1 x2 x7 x3 b h).out t d : EReal) := by
  rw [hO, oOf_apply, Head.out, ← coe_dot]
  exact Finset.sum_congr rfl fun s _ => congrArg₂ (· * ·) (hP_real x0 x1 x2 x7 x3 b h h0 h1 h3 t s) (r6 x0 x1 x2 x7 x3 b h h2 s d)

end Stages

variable (m : (ℓ : Loc nD τ sig) → Buf (Elt Ideal) ℓ) (c : Dev nD)

/-! The arguments, at the argument buffers' own types. -/

abbrev X0 : M3 2 2048 512 := m (c.tc.loc main_arg0)
abbrev X1 : M3 2 2048 512 := m (c.tc.loc main_arg1)
abbrev X2 : M3 2 2048 512 := m (c.tc.loc main_arg2)
abbrev X3 : M3 2 8 2048 := m (c.tc.loc main_arg3)
abbrev X7 : M3 2 2048 512 := m (c.tc.loc main_arg7)

theorem V38 : (V m c main_v38 : FVec Ideal S4096x512 .bf16) = flat (hO (X0 m c) (X1 m c) (X2 m c) (X3 m c)) := by
  unfold V; after_reads_simp
  simp -implicitDefEqProofs only [StableHlo.TRef.toBuf, StableHlo.TRef.ofBuf, cast_cast, cast_eq]
  unfold flat hO
  refine congrArg (fun z => truncf .bf16 z Facts₀.bitsLt_bf16_f32) ?_
  refine congrArg (fun z => shapeCast _ (transpose S2x2048x8x64 [0, 2, 1, 3] z Facts₀.transposes_S2x8x2048x64_S2x2048x8x64_0_2_1_3) Facts₀.shapeCasts_S2x2048x8x64_S4096x512) ?_
  refine congrArg₂ (fun p v => Host.dotGeneral dot_S2x8x2048x2048_S2x8x2048x64_S2x8x2048x64_3_2_2_3_01_01 none p v) ?_ ?_
  · rfl
  · rfl

theorem V57 : (V m c main_v57 : FVec Ideal S4096x512 .f32) = wide (hL (X0 m c) (X1 m c) (X3 m c)) := by
  unfold V; after_reads_simp
  simp -implicitDefEqProofs only [StableHlo.TRef.toBuf, StableHlo.TRef.ofBuf, cast_cast, cast_eq]
  rfl

theorem V50 : (V m c main_v50 : FVec Ideal S4096x512 .f32) = wide (cum (X3 m c)) := by
  unfold V; after_reads_simp
  simp -implicitDefEqProofs only [StableHlo.TRef.toBuf, StableHlo.TRef.ofBuf, cast_cast, cast_eq]
  rfl

theorem V51 : (V m c main_v51 : FVec Ideal S16x2048 .f32) = shapeCast S16x2048 (cum (X3 m c)) Facts₀.shapeCasts_S2x8x2048_S16x2048 := by
  unfold V; after_reads_simp
  simp -implicitDefEqProofs only [StableHlo.TRef.toBuf, StableHlo.TRef.ofBuf, cast_cast, cast_eq]
  rfl

theorem V51_apply (i : Fin 16) (s : Fin 2048) : (V m c main_v51 : FVec Ideal S16x2048 .f32) (ix2 i s) = cum (X3 m c) (ix3 ⟨i.val / 8, by omega⟩ ⟨i.val % 8, by omega⟩ s) := by
  rw [V51]; pointwise

theorem V46_q (i : Fin 4096) (l : Fin 512) : (V m c main_v46 : FVec Ideal S4096x3072 .bf16) (ix2 i ⟨l.val, by omega⟩) = X0 m c (ix3 (seqOf i) (tokOf i) l) := by
  unfold V; after_reads_at; after_reads_at

theorem V46_k (i : Fin 4096) (l : Fin 512) : (V m c main_v46 : FVec Ideal S4096x3072 .bf16) (ix2 i ⟨512 + l.val, by omega⟩) = X1 m c (ix3 (seqOf i) (tokOf i) l) := by
  unfold V; after_reads_at; after_reads_at

theorem V46_v (i : Fin 4096) (l : Fin 512) : (V m c main_v46 : FVec Ideal S4096x3072 .bf16) (ix2 i ⟨1024 + l.val, by omega⟩) = X2 m c (ix3 (seqOf i) (tokOf i) l) := by
  unfold V; after_reads_at; after_reads_at
  rw [dif_neg (by omega), dif_neg (by omega), dif_pos (by omega)]
  exact congrArg (fun z => X2 m c (ix3 (seqOf i) (tokOf i) z)) (Fin.ext (by show 1024 + l.val - 512 - 512 = l.val; omega))

theorem V53 (i : Fin 4096) (l : Fin 512) : (V m c main_v53 : FVec Ideal S4096x512 .bf16) (ix2 i l) = X7 m c (ix3 (seqOf i) (tokOf i) l) := by
  unfold V; after_reads_at

end Cert.FoxHost
end
-- ==== Proof.FoxBlock.lean ====
/- One tile of the attention gradient's kernel, over the real numbers: what each vector expression of its body is, the two heads of a pair stacked. -/
module

public import proofs.«01_k».proof.Proof.FoxHost

@[expose] public section

set_option maxRecDepth 16384

noncomputable section

namespace Cert.FoxBlock

open Idealize.ShloMosaic Idealize.SL.Sem Cert.FoxIdeal Cert.FoxIdeal.Gen Cert.Common Cert.RealKit Cert.FoxSpec
open scoped BigOperators

/-- A sum over one of two halves. -/
theorem sum_side {N n : ℕ} (hN : N = n + n) (hn : 0 < n) (e : Fin 2) (f : Fin N → ℝ) :
    ∑ r : Fin N, (if r.val / n = e.val then f r else 0) = ∑ j : Fin n, f ⟨e.val * n + j.val, by have := e.isLt; have := j.isLt; subst hN; have : e.val * n ≤ 1 * n := Nat.mul_le_mul_right n (by omega); omega⟩ := by
  subst hN
  rw [Fin.sum_univ_add]
  have h0 : ∀ j : Fin n, (Fin.castAdd n j).val / n = 0 := fun j => Nat.div_eq_of_lt j.isLt
  have h1 : ∀ j : Fin n, (Fin.natAdd n j).val / n = 1 := fun j => by
    show (n + j.val) / n = 1
    rw [Nat.add_div_left _ hn, Nat.div_eq_of_lt j.isLt]
  simp only [h0, h1]
  match e with
  | 0 =>
    simp only [Fin.val_zero, if_true, show ¬ (1 = 0) from by decide, if_false, Finset.sum_const_zero, add_zero]
    exact Finset.sum_congr rfl fun j _ => congrArg f (Fin.ext (by show j.val = 0 * n + j.val; omega))
  | 1 =>
    simp only [Fin.val_one, if_true, show ¬ (0 = 1) from by decide, if_false, Finset.sum_const_zero, zero_add]
    exact Finset.sum_congr rfl fun j _ => congrArg f (Fin.ext (by show n + j.val = 1 * n + j.val; omega))

/-- Row `r` of block `n` of 512 positions. -/
abbrev pos (n : Fin 4) (r : Fin 512) : Fin 2048 := ⟨512 * n.val + r.val, by omega⟩
/-- The head of the pair that a stacked row belongs to, and the row in it. -/
abbrev side (r : Fin 1024) : Fin 2 := ⟨r.val / 512, by omega⟩
abbrev rq (r : Fin 1024) : Fin 512 := ⟨r.val % 512, by omega⟩
/-- The head of the pair that a lane belongs to, and its dimension. -/
abbrev half (l : Fin 128) : Fin 2 := ⟨l.val / 64, by omega⟩
abbrev dm (l : Fin 128) : Fin 64 := ⟨l.val % 64, by omega⟩

/-! The masks. -/

theorem m14 (l : Fin 128) : k0_pay14 (ix2 0 l) = if l.val < 64 then 1#1 else 0#1 := by
  pointwise [k0_pay14]; revert l; decide +kernel
theorem m15 (l : Fin 128) : k0_pay15 (ix2 0 l) = if l.val < 64 then 0#1 else 1#1 := by
  pointwise [k0_pay15]; revert l; decide +kernel
theorem m16 (r : Fin 1024) : k0_pay16 (ix2 r 0) = if r.val < 512 then 1#1 else 0#1 := by
  pointwise [k0_pay16]; revert r; decide +kernel

theorem sel1 {α : Type} (p : Prop) [Decidable p] (x y : α) : Scalar.select (if p then 1#1 else 0#1) x y = if p then x else y := by
  split_ifs <;> rfl
theorem sel0 {α : Type} (p : Prop) [Decidable p] (x y : α) : Scalar.select (if p then 0#1 else 1#1) x y = if p then y else x := by
  split_ifs <;> rfl

theorem m17 (r : Fin 1024) (j : Fin 512) : k0_pay17 (ix2 r j) = BitVec.ofNat 32 j.val - BitVec.ofNat 32 (r.val % 512) := by
  have h : ∀ r : Fin 1024, Scalar.select (IntOp.cmpi .slt (BitVec.ofNat 32 r.val) 512#32) (BitVec.ofNat 32 r.val) (IntOp.subi (BitVec.ofNat 32 r.val) 512#32) = BitVec.ofNat 32 (r.val % 512) := by
    decide +kernel
  rw [← h r]
  pointwise [k0_pay17]; rfl

theorem ahead (a b : ℕ) (ha : a < 512) (hb : b < 512) : IntOp.cmpi .sle (BitVec.ofNat 32 a - BitVec.ofNat 32 b) 0#32 = if a ≤ b then 1#1 else 0#1 := by
  have h : ∀ n : Fin 1024, IntOp.cmpi .sle (BitVec.ofNat 32 n.val - 512#32) 0#32 = if n.val ≤ 512 then 1#1 else 0#1 := by decide +kernel
  have e : (BitVec.ofNat 32 a - BitVec.ofNat 32 b : BitVec 32) = BitVec.ofNat 32 (a + (512 - b)) - 512#32 := by
    have e1 : (512#32 : BitVec 32) = BitVec.ofNat 32 (512 - b) + BitVec.ofNat 32 b := by rw [← BitVec.ofNat_add, Nat.sub_add_cancel hb.le]
    rw [e1, BitVec.ofNat_add]; generalize BitVec.ofNat 32 (512 - b) = u; generalize BitVec.ofNat 32 a = v; generalize BitVec.ofNat 32 b = w
    apply BitVec.eq_of_toNat_eq; simp; omega
  rw [e]
  exact (h ⟨a + (512 - b), by omega⟩).trans (if_congr (by show a + (512 - b) ≤ 512 ↔ a ≤ b; omega) rfl rfl)

/-! The stacked operands. -/

section Stack
variable (P : Fin 2 → Head) (qi : Fin 4)

def q2 (r : Fin 1024) (l : Fin 128) : ℝ := if l.val / 64 = r.val / 512 then (P (side r)).q (pos qi (rq r)) (dm l) * (1 / 8) else 0
def d2 (r : Fin 1024) (l : Fin 128) : ℝ := if l.val / 64 = r.val / 512 then (P (side r)).g (pos qi (rq r)) (dm l) else 0
/-- Lane `l` of the queries side by side with the ones. -/
def qo (r : Fin 1024) (l : Fin 256) : ℝ := if h : l.val < 128 then q2 P qi r ⟨l.val, h⟩ else if (l.val - 128) / 64 = r.val / 512 then 1 else 0

theorem e_bf8 : Ideal.ofBits .bf16 0x3E00#16 = ((1 / 8 : ℝ) : EReal) := by
  simp [Ideal.ofBits, Ideal.ieee, -EReal.coe_mul]; norm_num

theorem sel14 (l : Fin 128) (x y : EReal) : Scalar.select (k0_pay14 (ix2 0 l)) x y = if l.val < 64 then x else y := by rw [m14, sel1]
theorem sel15 (l : Fin 128) (x y : EReal) : Scalar.select (k0_pay15 (ix2 0 l)) x y = if l.val < 64 then y else x := by rw [m15, sel0]
theorem sel16 (r : Fin 1024) (x y : EReal) : Scalar.select (k0_pay16 (ix2 r 0)) x y = if r.val < 512 then x else y := by rw [m16, sel1]
theorem sel17 (r : Fin 1024) (j : Fin 512) (x y : EReal) : Scalar.select (IntOp.cmpi .sle (k0_pay17 (ix2 r j)) 0#32) x y = if j.val ≤ r.val % 512 then x else y := by
  rw [m17, ahead _ _ j.isLt (Nat.mod_lt _ (by decide)), sel1]

theorem low (r : Fin 1024) (h : r.val < 512) : rq r = ⟨r.val, h⟩ ∧ side r = 0 :=
  ⟨Fin.ext (Nat.mod_eq_of_lt h), Fin.ext (Nat.div_eq_of_lt h)⟩
theorem high (r : Fin 1024) (h : ¬ r.val < 512) : rq r = ⟨r.val - 512, by omega⟩ ∧ side r = 1 :=
  ⟨Fin.ext (by show r.val % 512 = r.val - 512; omega), Fin.ext (by show r.val / 512 = 1; omega)⟩
theorem lane0 (l : Fin 128) (h : l.val / 64 = 0) : half l = 0 := Fin.ext h
theorem lane1 (l : Fin 128) (h : l.val / 64 = 1) : half l = 1 := Fin.ext h

theorem b19 (Q : FVec Ideal S512x128 .bf16) (hQ : ∀ r l, Q (ix2 r l) = ((P (half l)).q (pos qi r) (dm l) : EReal)) (r : Fin 1024) (l : Fin 128) :
    (k0_pay19 Q : FVec Ideal S1024x128 .bf16) (ix2 r l) = (q2 P qi r l : EReal) := by
  pointwise [k0_pay19]
  rw [e_bf8, q2]
  have hl := l.isLt
  by_cases h : r.val < 512
  · obtain ⟨e1, e2⟩ := low r h
    rw [dif_pos h, sel14, hQ, e1, e2]
    split_ifs with a b b
    · rw [lane0 l (by omega), ← EReal.coe_mul]
    · exfalso; omega
    · exfalso; omega
    · simp
  · obtain ⟨e1, e2⟩ := high r h
    rw [dif_neg h, sel15, hQ, e1, e2]
    by_cases a : l.val < 64
    · rw [if_pos a]; refine Eq.trans ?_ (congrArg _ (if_neg (show ¬ l.val / 64 = r.val / 512 by omega)).symm); simp
    · rw [if_neg a, lane1 l (by omega), ← EReal.coe_mul]; exact congrArg _ (if_pos (show l.val / 64 = r.val / 512 by omega)).symm

theorem b21 (D : FVec Ideal S512x128 .bf16) (hD : ∀ r l, D (ix2 r l) = ((P (half l)).g (pos qi r) (dm l) : EReal)) (r : Fin 1024) (l : Fin 128) :
    (k0_pay21 k0_pay14 k0_pay15 (k0_pay18 D) k0_pay20 : FVec Ideal S1024x128 .bf16) (ix2 r l) = (d2 P qi r l : EReal) := by
  pointwise [k0_pay21, k0_pay18, k0_pay20]
  rw [d2]
  have hl := l.isLt
  by_cases h : r.val < 512
  · obtain ⟨e1, e2⟩ := low r h
    rw [dif_pos h, sel14, hD, e1, e2]
    split_ifs with a b b
    · rw [lane0 l (by omega)]
    · exfalso; omega
    · exfalso; omega
    · simp
  · obtain ⟨e1, e2⟩ := high r h
    rw [dif_neg h, sel15, hD, e1, e2]
    by_cases a : l.val < 64
    · rw [if_pos a]; refine Eq.trans ?_ (congrArg _ (if_neg (show ¬ l.val / 64 = r.val / 512 by omega)).symm); simp
    · rw [if_neg a, lane1 l (by omega)]; exact congrArg _ (if_pos (show l.val / 64 = r.val / 512 by omega)).symm

theorem b25 (D O : FVec Ideal S512x128 .bf16) (hD : ∀ r l, D (ix2 r l) = ((P (half l)).g (pos qi r) (dm l) : EReal))
    (hO : ∀ r l, O (ix2 r l) = ((P (half l)).out (pos qi r) (dm l) : EReal)) (r : Fin 1024) :
    (k0_pay25 k0_pay14 k0_pay15 (k0_pay18 D) O : FVec Ideal S1024x1 .f32) (ix2 r 0) = ((∑ d, (P (side r)).g (pos qi (rq r)) d * (P (side r)).out (pos qi (rq r)) d : ℝ) : EReal) := by
  pointwise [k0_pay25, k0_pay18]
  have key : ∀ (e : Fin 2) (q : Fin 512), ∑ x : Fin 128, (if x.val / 64 = e.val then D (ix2 q x) * O (ix2 q x) else 0)
      = ((∑ d, (P e).g (pos qi q) d * (P e).out (pos qi q) d : ℝ) : EReal) := by
    intro e q
    have he := e.isLt
    have h1 := sum_side (N := 128) (n := 64) rfl (by decide) e fun x => (P (half x)).g (pos qi q) (dm x) * (P (half x)).out (pos qi q) (dm x)
    have h2 : ∀ d : Fin 64, half ⟨e.val * 64 + d.val, by omega⟩ = e ∧ dm ⟨e.val * 64 + d.val, by omega⟩ = d := fun d =>
      ⟨Fin.ext (by show (e.val * 64 + d.val) / 64 = e.val; omega), Fin.ext (by show (e.val * 64 + d.val) % 64 = d.val; omega)⟩
    rw [← Finset.sum_congr rfl fun d _ => (by rw [(h2 d).1, (h2 d).2] :
      (P (half ⟨e.val * 64 + d.val, by omega⟩)).g (pos qi q) (dm ⟨e.val * 64 + d.val, by omega⟩) * (P (half ⟨e.val * 64 + d.val, by omega⟩)).out (pos qi q) (dm ⟨e.val * 64 + d.val, by omega⟩) = (P e).g (pos qi q) d * (P e).out (pos qi q) d), ← h1, coe_sum]
    refine Finset.sum_congr rfl fun x _ => ?_
    split_ifs
    · rw [hD, hO, EReal.coe_mul]
    · simp
  by_cases h : r.val < 512
  · obtain ⟨e1, e2⟩ := low r h
    rw [dif_pos h, e1, e2, ← key]
    refine Finset.sum_congr rfl fun x _ => (sel14 _ _ _).trans (if_congr ?_ rfl rfl)
    show x.val < 64 ↔ x.val / 64 = 0; omega
  · obtain ⟨e1, e2⟩ := high r h
    rw [dif_neg h, e1, e2, ← key]
    refine Finset.sum_congr rfl fun x _ => (sel15 _ _ _).trans ?_
    have hx := x.isLt
    rw [← ite_not]
    refine if_congr ?_ rfl rfl
    show ¬ x.val < 64 ↔ x.val / 64 = 1; omega

theorem b23 (C : FVec Ideal S512x128 .f32) (f : Fin 2 → Fin 512 → ℝ) (hC : ∀ r l, C (ix2 r l) = (f (half l) r : EReal)) (r : Fin 1024) :
    (k0_pay23 C : FVec Ideal S1024x1 .f32) (ix2 r 0) = (f (side r) (rq r) : EReal) := by
  pointwise [k0_pay23]
  by_cases h : r.val < 512
  · obtain ⟨e1, e2⟩ := low r h
    rw [dif_pos h, e1, e2]; exact hC _ 0
  · obtain ⟨e1, e2⟩ := high r h
    rw [dif_neg h, e1, e2]; exact hC _ 64

theorem b24 (C : FVec Ideal S512x128 .f32) (f : Fin 2 → Fin 512 → ℝ) (hC : ∀ r l, C (ix2 r l) = (f (half l) r : EReal)) (r : Fin 1024) :
    (k0_pay24 C : FVec Ideal S1024x1 .f32) (ix2 r 0) = (f (side r) (rq r) : EReal) := b23 C f hC r

theorem b22 (X : FVec Ideal S1024x128 .bf16) (hX : ∀ r l, X (ix2 r l) = (q2 P qi r l : EReal)) (r : Fin 1024) (l : Fin 256) :
    (k0_pay22 k0_pay14 k0_pay15 X : FVec Ideal S1024x256 .bf16) (ix2 r l) = (qo P qi r l : EReal) := by
  pointwise [k0_pay22]
  rw [qo]
  have hr := r.isLt; have hl := l.isLt
  by_cases h : l.val < 128
  · rw [dif_pos h, dif_pos h]; exact hX _ _
  · rw [dif_neg h, dif_neg h]
    by_cases h' : r.val < 512
    · rw [dif_pos h']
      refine (sel14 ⟨l.val - 128, by omega⟩ _ _).trans ?_
      dsimp only
      split_ifs <;> first | rfl | (exfalso; omega)
    · rw [dif_neg h']
      refine (sel15 ⟨l.val - 128, by omega⟩ _ _).trans ?_
      dsimp only
      split_ifs <;> first | rfl | (exfalso; omega)

/-! One key block. -/

variable (kb : Fin 4)

/-- A query position and its head from the stacked row; the lanes of a row are those of its head. -/
abbrev tq (r : Fin 1024) : Fin 2048 := pos qi (rq r)

theorem dot_q (A : FVec Ideal S1024x128 .bf16) (B : FVec Ideal S512x128 .bf16) (f : Fin 2 → Fin 64 → Fin 1024 → ℝ) (g : Fin 2 → Fin 64 → Fin 512 → ℝ)
    (hA : ∀ r l, A (ix2 r l) = ((if l.val / 64 = r.val / 512 then f (half l) (dm l) r else 0 : ℝ) : EReal)) (hB : ∀ j l, B (ix2 j l) = (g (half l) (dm l) j : EReal))
    (r : Fin 1024) (j : Fin 512) :
    ∑ x : Fin 128, A (ix2 r x) * B (ix2 j x) = ((∑ d : Fin 64, f (side r) d r * g (side r) d j : ℝ) : EReal) := by
  have hr := r.isLt
  have h1 := sum_side (N := 128) (n := 64) rfl (by decide) (side r) fun x => f (half x) (dm x) r * g (half x) (dm x) j
  have h2 : ∀ d : Fin 64, half ⟨(side r).val * 64 + d.val, by have := (side r).isLt; omega⟩ = side r ∧ dm ⟨(side r).val * 64 + d.val, by have := (side r).isLt; omega⟩ = d := fun d =>
    ⟨Fin.ext (by show (r.val / 512 * 64 + d.val) / 64 = r.val / 512; omega), Fin.ext (by show (r.val / 512 * 64 + d.val) % 64 = d.val; omega)⟩
  rw [Finset.sum_congr rfl fun d _ => (by rw [(h2 d).1, (h2 d).2] :
    f (half ⟨(side r).val * 64 + d.val, by have := (side r).isLt; omega⟩) (dm ⟨(side r).val * 64 + d.val, by have := (side r).isLt; omega⟩) r
      * g (half ⟨(side r).val * 64 + d.val, by have := (side r).isLt; omega⟩) (dm ⟨(side r).val * 64 + d.val, by have := (side r).isLt; omega⟩) j = f (side r) d r * g (side r) d j)] at h1
  rw [← h1, coe_sum]
  refine Finset.sum_congr rfl fun x _ => ?_
  rw [hA, hB]
  split_ifs with h
  · rw [EReal.coe_mul]
  · simp

theorem q2_half (r : Fin 1024) (l : Fin 128) : q2 P qi r l = if l.val / 64 = r.val / 512 then (P (half l)).q (tq qi r) (dm l) * (1 / 8) else 0 := by
  rw [q2]; split_ifs with h
  · rw [show side r = half l from Fin.ext h.symm]
  · rfl
theorem d2_half (r : Fin 1024) (l : Fin 128) : d2 P qi r l = if l.val / 64 = r.val / 512 then (P (half l)).g (tq qi r) (dm l) else 0 := by
  rw [d2]; split_ifs with h
  · rw [show side r = half l from Fin.ext h.symm]
  · rfl

section Tile
variable (v38 v46 : FVec Ideal S1024x128 .bf16) (v56 : FVec Ideal S1024x256 .bf16) (v61 v66 v84 : FVec Ideal S1024x1 .f32) (K W : FVec Ideal S512x128 .bf16) (C0 C1 : FVec Ideal S1x512 .f32)
  (h38 : ∀ r l, v38 (ix2 r l) = (q2 P qi r l : EReal)) (h46 : ∀ r l, v46 (ix2 r l) = (d2 P qi r l : EReal)) (h56 : ∀ r l, v56 (ix2 r l) = (qo P qi r l : EReal))
  (h61 : ∀ r, v61 (ix2 r 0) = ((P (side r)).c (tq qi r) : EReal)) (h66 : ∀ r, v66 (ix2 r 0) = (Real.log ((P (side r)).tot (tq qi r)) : EReal))
  (h84 : ∀ r, v84 (ix2 r 0) = ((∑ d, (P (side r)).g (tq qi r) d * (P (side r)).out (tq qi r) d : ℝ) : EReal))
  (hK : ∀ j l, K (ix2 j l) = ((P (half l)).k (pos kb j) (dm l) : EReal)) (hW : ∀ j l, W (ix2 j l) = ((P (half l)).v (pos kb j) (dm l) : EReal))
  (hC0 : ∀ j, C0 (ix2 0 j) = ((P 0).c (pos kb j) : EReal)) (hC1 : ∀ j, C1 (ix2 0 j) = ((P 1).c (pos kb j) : EReal))

include h38 h61 h66 hK hC0 hC1 in
theorem score (r : Fin 1024) (j : Fin 512) :
    (∑ x, v38 (ix2 r x) * K (ix2 j x) + v61 (ix2 r 0) - Scalar.select (k0_pay16 (ix2 r 0)) (C0 (ix2 0 j)) (C1 (ix2 0 j)) - v66 (ix2 r 0) : EReal)
      = (((P (side r)).logit (tq qi r) (pos kb j) - Real.log ((P (side r)).tot (tq qi r)) : ℝ) : EReal) := by
  have hs : Scalar.select (k0_pay16 (ix2 r 0)) (C0 (ix2 0 j)) (C1 (ix2 0 j)) = ((P (side r)).c (pos kb j) : EReal) := by
    refine (sel16 r _ _).trans ?_
    rw [hC0, hC1]
    split_ifs with h
    · rw [(low r h).2]
    · rw [(high r h).2]
  rw [dot_q v38 K (fun e d r => (P e).q (tq qi r) d * (1 / 8)) (fun e d j => (P e).k (pos kb j) d) (fun r l => (h38 r l).trans (by rw [q2_half])) hK r j,
    hs, h61, h66, ← EReal.coe_add, ← EReal.coe_sub, ← EReal.coe_sub, Head.logit]
  refine congrArg (fun z : ℝ => (z : EReal)) ?_
  rw [Finset.sum_mul, Finset.sum_congr rfl fun d _ => mul_right_comm _ _ _]

include h38 h61 h66 hK hC0 hC1 in
theorem b5 (r : Fin 1024) (j : Fin 512) (hle : pos kb j ≤ tq qi r) :
    (k0_pay5 k0_pay16 v38 v61 v66 K C0 C1 : FVec Ideal S1024x512 .f32) (ix2 r j) = ((P (side r)).prob (tq qi r) (pos kb j) : EReal) := by
  have hs := score P qi kb v38 v61 v66 K C0 C1 h38 h61 h66 hK hC0 hC1 r j
  pointwise [k0_pay5, k0_pay4]
  rw [hs, Ideal.exp_coe, Head.prob_eq_exp _ _ _ hle]

include h38 h61 h66 hK hC0 hC1 in
theorem b35 (hkb : kb = qi) (r : Fin 1024) (j : Fin 512) :
    (k0_pay35 k0_pay16 k0_pay17 v38 v61 v66 K C0 C1 : FVec Ideal S1024x512 .f32) (ix2 r j) = ((P (side r)).prob (tq qi r) (pos kb j) : EReal) := by
  have hs := score P qi kb v38 v61 v66 K C0 C1 h38 h61 h66 hK hC0 hC1 r j
  pointwise [k0_pay35, k0_pay34]
  rw [sel17, hs, Ideal.exp_coe]
  have hiff : j.val ≤ r.val % 512 ↔ pos kb j ≤ tq qi r := by
    subst hkb
    show j.val ≤ r.val % 512 ↔ 512 * kb.val + j.val ≤ 512 * kb.val + r.val % 512
    omega
  split_ifs with h
  · rw [Head.prob_eq_exp _ _ _ (hiff.1 h)]
  · rw [Head.prob_zero _ _ _ (fun h' => h (hiff.2 h'))]; rfl

include h46 h84 hW in
theorem dscore (p : EReal) (r : Fin 1024) (j : Fin 512) (hp : p = ((P (side r)).prob (tq qi r) (pos kb j) : EReal)) :
    p * (∑ x, v46 (ix2 r x) * W (ix2 j x) - v84 (ix2 r 0)) = ((P (side r)).ds (tq qi r) (pos kb j) : EReal) := by
  rw [dot_q v46 W (fun e d r => (P e).g (tq qi r) d) (fun e d j => (P e).v (pos kb j) d) (fun r l => (h46 r l).trans (by rw [d2_half])) hW r j,
    hp, h84, ← EReal.coe_sub, ← EReal.coe_mul, Head.delta_eq]
  rfl

include h38 h46 h61 h66 h84 hK hW hC0 hC1 in
theorem b6 (r : Fin 1024) (j : Fin 512) (hle : pos kb j ≤ tq qi r) :
    (k0_pay6 k0_pay16 v38 v46 v61 v66 v84 K C0 C1 W : FVec Ideal S1024x512 .bf16) (ix2 r j) = ((P (side r)).ds (tq qi r) (pos kb j) : EReal) := by
  have h := b5 P qi kb v38 v61 v66 K C0 C1 h38 h61 h66 hK hC0 hC1 r j hle
  rw [← dscore P qi kb v46 v84 W h46 h84 hW _ r j h]
  pointwise [k0_pay6]

include h46 h84 hW in
theorem b36 (v130 : FVec Ideal S1024x512 .f32) (h130 : ∀ r j, v130 (ix2 r j) = ((P (side r)).prob (tq qi r) (pos kb j) : EReal)) (r : Fin 1024) (j : Fin 512) :
    (k0_pay36 v46 v84 v130 W : FVec Ideal S1024x512 .bf16) (ix2 r j) = ((P (side r)).ds (tq qi r) (pos kb j) : EReal) := by
  rw [← dscore P qi kb v46 v84 W h46 h84 hW _ r j (h130 r j)]
  pointwise [k0_pay36]

end Tile

/-- The summands of the key gradients, lane by lane: the keys' in the first half, the key bias's in the second. -/
def DK (l : Fin 256) (t s : Fin 2048) : ℝ :=
  if h : l.val < 128 then (P (half ⟨l.val, h⟩)).ds t s * ((P (half ⟨l.val, h⟩)).q t (dm ⟨l.val, h⟩) * (1 / 8)) else (P ⟨(l.val - 128) / 64, by omega⟩).ds t s
/-- Those of the values'. -/
def DV (l : Fin 128) (t s : Fin 2048) : ℝ := (P (half l)).prob t s * (P (half l)).g t (dm l)

/-- A sum over the stacked rows of one head's. -/
theorem sum_rows2 (e : Fin 2) (F : Fin 2 → Fin 512 → ℝ) :
    ∑ r : Fin 1024, (if e.val = r.val / 512 then F (side r) (rq r) else 0) = ∑ i : Fin 512, F e i := by
  have he := e.isLt
  have h1 := sum_side (N := 1024) (n := 512) rfl (by decide) e fun r => F (side r) (rq r)
  rw [Finset.sum_congr rfl fun r _ => if_congr (eq_comm) rfl rfl, h1]
  refine Finset.sum_congr rfl fun i _ => ?_
  have hi := i.isLt
  rw [show side ⟨e.val * 512 + i.val, by omega⟩ = e from Fin.ext (by show (e.val * 512 + i.val) / 512 = e.val; omega),
    show rq ⟨e.val * 512 + i.val, by omega⟩ = i from Fin.ext (by show (e.val * 512 + i.val) % 512 = i.val; omega)]

section Update
variable (D : FVec Ideal S1024x512 .bf16) (hD : ∀ r j, D (ix2 r j) = ((P (side r)).ds (tq qi r) (pos kb j) : EReal))

include hD in
theorem upd_k (v56 : FVec Ideal S1024x256 .bf16) (h56 : ∀ r l, v56 (ix2 r l) = (qo P qi r l : EReal)) (j : Fin 512) (l : Fin 256) :
    ∑ r : Fin 1024, D (ix2 r j) * v56 (ix2 r l) = ((∑ i : Fin 512, DK P l (pos qi i) (pos kb j) : ℝ) : EReal) := by
  rw [Finset.sum_congr rfl fun r _ => congrArg₂ (· * ·) (hD r j) (h56 r l), coe_dot]
  refine congrArg (fun z : ℝ => (z : EReal)) ?_
  have hl := l.isLt
  by_cases h : l.val < 128
  · rw [← Finset.sum_congr rfl fun i _ => (by rw [DK, dif_pos h] : (P (half ⟨l.val, h⟩)).ds (pos qi i) (pos kb j) * ((P (half ⟨l.val, h⟩)).q (pos qi i) (dm ⟨l.val, h⟩) * (1 / 8)) = DK P l (pos qi i) (pos kb j)),
      ← sum_rows2 (half ⟨l.val, h⟩) fun e i => (P e).ds (pos qi i) (pos kb j) * ((P e).q (pos qi i) (dm ⟨l.val, h⟩) * (1 / 8))]
    refine Finset.sum_congr rfl fun r _ => ?_
    rw [qo, dif_pos h, q2, mul_ite, mul_zero]
  · rw [← Finset.sum_congr rfl fun i _ => (by rw [DK, dif_neg h] : (P ⟨(l.val - 128) / 64, by omega⟩).ds (pos qi i) (pos kb j) = DK P l (pos qi i) (pos kb j)),
      ← sum_rows2 ⟨(l.val - 128) / 64, by omega⟩ fun e i => (P e).ds (pos qi i) (pos kb j)]
    refine Finset.sum_congr rfl fun r _ => ?_
    rw [qo, dif_neg h, mul_ite, mul_zero, mul_one]

theorem upd_v (Y : FVec Ideal S1024x512 .f32) (hY : ∀ r j, Y (ix2 r j) = ((P (side r)).prob (tq qi r) (pos kb j) : EReal))
    (v46 : FVec Ideal S1024x128 .bf16) (h46 : ∀ r l, v46 (ix2 r l) = (d2 P qi r l : EReal)) (j : Fin 512) (l : Fin 128) :
    ∑ r : Fin 1024, Y (ix2 r j) * v46 (ix2 r l) = ((∑ i : Fin 512, DV P l (pos qi i) (pos kb j) : ℝ) : EReal) := by
  rw [Finset.sum_congr rfl fun r _ => congrArg₂ (· * ·) (hY r j) (h46 r l), coe_dot]
  refine congrArg (fun z : ℝ => (z : EReal)) ?_
  have e := sum_rows2 (half l) fun e i => (P e).prob (pos qi i) (pos kb j) * (P e).g (pos qi i) (dm l)
  refine Eq.trans ?_ e
  refine Finset.sum_congr rfl fun r _ => ?_
  rw [d2, mul_ite, mul_zero]

include hD in
theorem upd_q (K : FVec Ideal S512x128 .bf16) (hK : ∀ j l, K (ix2 j l) = ((P (half l)).k (pos kb j) (dm l) : EReal)) (r : Fin 1024) (l : Fin 128) :
    ∑ j : Fin 512, D (ix2 r j) * K (ix2 j l) = ((∑ j : Fin 512, (P (side r)).ds (tq qi r) (pos kb j) * (P (half l)).k (pos kb j) (dm l) : ℝ) : EReal) := by
  rw [Finset.sum_congr rfl fun j _ => congrArg₂ (· * ·) (hD r j) (hK j l), coe_dot]

include hD in
theorem upd_r (r : Fin 1024) : ∑ j : Fin 512, D (ix2 r j) = ((∑ j : Fin 512, (P (side r)).ds (tq qi r) (pos kb j) : ℝ) : EReal) := by
  rw [Finset.sum_congr rfl fun j _ => hD r j, coe_sum]

end Update

end Stack

end Cert.FoxBlock
end
-- ==== Proof.FoxLoop.lean ====
/- The key blocks before the diagonal one: what the loop over them leaves in the carried row sums and in the two accumulators. -/
module

public import proofs.«01_k».proof.Proof.FoxBlock
public import Idealize.ShloMosaic.Lib.Pipeline.ReadBack
public import Idealize.ShloMosaic.Lib.WritesUnit
public import Idealize.ShloMosaic.Lib.VecWindow

@[expose] public section

set_option maxRecDepth 16384

noncomputable section

namespace Cert.FoxLoop

open Idealize.ShloMosaic Idealize.SL.Sem Cert.FoxIdeal Cert.FoxIdeal.Gen Cert.Common Cert.RealKit Cert.FoxSpec Cert.FoxBlock
open scoped BigOperators

variable (P : Fin 2 → Head) (qi : Fin 4)

/-- The carried sums after the key positions below `n`. -/
def accI (n : ℕ) (a : FVec Ideal S1024x128 .f32 × FVec Ideal S1024x1 .f32) : Prop :=
  (∀ r l, a.1 (ix2 r l) = ((upto n fun s => (P (side r)).ds (tq qi r) s * (P (half l)).k s (dm l) : ℝ) : EReal))
    ∧ ∀ r, a.2 (ix2 r 0) = ((upto n fun s => (P (side r)).ds (tq qi r) s : ℝ) : EReal)
/-- The accumulators with the query block added at the key positions below `n`. -/
def dkI (n : ℕ) (x : S2048x256.Idx → EReal) : Prop :=
  ∀ s l, x (ix2 s l) = ((upto (if s.val < n then 512 * qi.val + 512 else 512 * qi.val) fun t => DK P l t s : ℝ) : EReal)
def dvI (n : ℕ) (x : S2048x128.Idx → EReal) : Prop :=
  ∀ s l, x (ix2 s l) = ((upto (if s.val < n then 512 * qi.val + 512 else 512 * qi.val) fun t => DV P l t s : ℝ) : EReal)

variable {P qi}

theorem acc_step {n : ℕ} (hn : n + 512 ≤ 2048) {a b : FVec Ideal S1024x128 .f32 × FVec Ideal S1024x1 .f32} (ha : accI P qi n a)
    (h1 : ∀ r l, b.1 (ix2 r l) = a.1 (ix2 r l) + ((∑ j : Fin 512, (P (side r)).ds (tq qi r) ⟨n + j.val, by omega⟩ * (P (half l)).k ⟨n + j.val, by omega⟩ (dm l) : ℝ) : EReal))
    (h2 : ∀ r, b.2 (ix2 r 0) = a.2 (ix2 r 0) + ((∑ j : Fin 512, (P (side r)).ds (tq qi r) ⟨n + j.val, by omega⟩ : ℝ) : EReal)) : accI P qi (n + 512) b :=
  ⟨fun r l => by rw [h1, ha.1, upto_add n 512 hn, EReal.coe_add], fun r => by rw [h2, ha.2, upto_add n 512 hn, EReal.coe_add]⟩

theorem p7 (v18 : IVec S1024x1 1) (v38 v46 : FVec Ideal S1024x128 .bf16) (v56 : FVec Ideal S1024x256 .bf16) (v61 v66 v84 : FVec Ideal S1024x1 .f32)
    (a : Vec Ideal S512x128 .bf16) (b d : Vec Ideal S1x512 .f32) (e : Vec Ideal S512x128 .bf16) (f : Vec Ideal S512x256 .f32) (j : Fin 512) (l : Fin 256) :
    (k0_pay7 v18 v38 v46 v56 v61 v66 v84 a b d e f : FVec Ideal S512x256 .f32) (ix2 j l)
      = f (ix2 j l) + ∑ r : Fin 1024, (k0_pay6 v18 v38 v46 v61 v66 v84 a b d e : FVec Ideal S1024x512 .bf16) (ix2 r j) * v56 (ix2 r l) := by
  pointwise [k0_pay7]
theorem p28 (v46 : FVec Ideal S1024x128 .bf16) (y : FVec Ideal S1024x512 .f32) (f : Vec Ideal S512x128 .f32) (j : Fin 512) (l : Fin 128) :
    (k0_pay28 v46 y f : FVec Ideal S512x128 .f32) (ix2 j l) = f (ix2 j l) + ∑ r : Fin 1024, y (ix2 r j) * v46 (ix2 r l) := by
  pointwise [k0_pay28]
theorem p29 (x : FVec Ideal S1024x128 .f32) (k : FVec Ideal S512x128 .bf16) (d : FVec Ideal S1024x512 .bf16) (r : Fin 1024) (l : Fin 128) :
    (k0_pay29 x k d : FVec Ideal S1024x128 .f32) (ix2 r l) = x (ix2 r l) + ∑ j : Fin 512, d (ix2 r j) * k (ix2 j l) := by
  pointwise [k0_pay29]
theorem p30 (x : FVec Ideal S1024x1 .f32) (d : FVec Ideal S1024x512 .bf16) (r : Fin 1024) :
    (k0_pay30 x d : FVec Ideal S1024x1 .f32) (ix2 r 0) = x (ix2 r 0) + ∑ j : Fin 512, d (ix2 r j) := by
  pointwise [k0_pay30]
theorem p4 (x : Vec Ideal S512x128 .bf16) (j : Fin 512) (l : Fin 128) : (k0_pay4 x : FVec Ideal S512x128 .bf16) (ix2 j l) = x (ix2 j l) := by
  pointwise [k0_pay4]

/-- An array read through a window, entry by entry. -/
theorem win {α : Type} {M N W C : ℕ} (x : (⟨2, ![M, N]⟩ : Shape).Idx → α) {off : Fin 2 → ℕ} (inb : ∀ a : Fin 2, off a + (![W, C] : Fin 2 → ℕ) a ≤ (![M, N] : Fin 2 → ℕ) a)
    {o1 o2 : ℕ} (h : off = ![o1, o2]) (j : Fin W) (l : Fin C) (p1 : o1 + j.val < M) (p2 : o2 + l.val < N) :
    x ((Rect.unit (s := ⟨2, ![M, N]⟩) off ![W, C] inb).emb (ix2 j l)) = x (ix2 ⟨o1 + j.val, p1⟩ ⟨o2 + l.val, p2⟩) := by
  subst h
  refine congrArg x (funext fun a => Fin.ext ?_)
  match a with
  | 0 => exact (by show o1 + 1 * j.val = o1 + j.val; omega)
  | 1 => exact (by show o2 + 1 * l.val = o2 + l.val; omega)

variable {kb : Fin 4}

/-- A store of the rows of one key block advances the accumulator past it. -/
theorem dk_put (v : View sig .tc .vmem S2048x256 .f32) (f : v.ty.Contents (Elt Ideal)) {off : Fin 2 → ℕ} (inb : ∀ a : Fin 2, off a + S512x256.size a ≤ S2048x256.size a)
    (x : S512x256.Idx → EReal) (L : List (View.Piece (Elt Ideal) S2048x256 .f32)) (hoff : off = ![512 * kb.val, 0]) (h : dkI P qi (512 * kb.val) (v.read (Elt Ideal) (v.writes (Elt Ideal) f L)))
    (hx : ∀ j l, x (ix2 j l) = ((upto (512 * qi.val + 512) fun t => DK P l t (pos kb j) : ℝ) : EReal)) :
    dkI P qi (512 * (kb.val + 1)) (v.read (Elt Ideal) (v.writes (Elt Ideal) f ((⟨Rect.unit (s := S2048x256) off S512x256.size inb, x⟩ : View.Piece (Elt Ideal) S2048x256 .f32) :: L))) := by
  intro s l
  refine (View.read_writes_cons_rows (d := ![2048, 256]) (size := S512x256.size) (o := 512 * kb.val) (W := 512) _ _ inb _ _ (ix2 s l) hoff rfl rfl).trans ?_
  by_cases hs : 512 * kb.val ≤ s.val ∧ s.val < 512 * kb.val + 512
  · refine (dif_pos hs).trans ((congrArg x (show _ = ix2 ⟨s.val - 512 * kb.val, by omega⟩ l from ?_)).trans ((hx _ l).trans ?_))
    · refine funext fun a => Fin.ext ?_
      match a with
      | 0 => rfl
      | 1 => rfl
    · rw [if_pos (by omega), show pos kb ⟨s.val - 512 * kb.val, by omega⟩ = s from Fin.ext (by show 512 * kb.val + (s.val - 512 * kb.val) = s.val; omega)]
  · exact (dif_neg hs).trans ((h s l).trans (congrArg (fun n : ℕ => ((upto n fun t => DK P l t s : ℝ) : EReal)) (if_congr (by omega) rfl rfl)))

/-- What a load of those rows finds before. -/
theorem dk_old (v : View sig .tc .vmem S2048x256 .f32) (f : v.ty.Contents (Elt Ideal)) {off : Fin 2 → ℕ} (inb : ∀ a : Fin 2, off a + S512x256.size a ≤ S2048x256.size a)
    (hoff : off = ![512 * kb.val, 0]) (h : dkI P qi (512 * kb.val) (v.read (Elt Ideal) f)) (j : Fin 512) (l : Fin 256) :
    View.readAt (Elt Ideal) v (Rect.unit (s := S2048x256) off S512x256.size inb).toLoadRect f (ix2 j l) = ((upto (512 * qi.val) fun t => DK P l t (pos kb j) : ℝ) : EReal) := by
  refine (win _ inb hoff j l (by omega) (by omega)).trans ((h _ _).trans ?_)
  simp only [Nat.zero_add]
  rw [if_neg (by omega)]

/-- A store of the rows of one key block advances the accumulator past it. -/
theorem dv_put (v : View sig .tc .vmem S2048x128 .f32) (f : v.ty.Contents (Elt Ideal)) {off : Fin 2 → ℕ} (inb : ∀ a : Fin 2, off a + S512x128.size a ≤ S2048x128.size a)
    (x : S512x128.Idx → EReal) (L : List (View.Piece (Elt Ideal) S2048x128 .f32)) (hoff : off = ![512 * kb.val, 0]) (h : dvI P qi (512 * kb.val) (v.read (Elt Ideal) (v.writes (Elt Ideal) f L)))
    (hx : ∀ j l, x (ix2 j l) = ((upto (512 * qi.val + 512) fun t => DV P l t (pos kb j) : ℝ) : EReal)) :
    dvI P qi (512 * (kb.val + 1)) (v.read (Elt Ideal) (v.writes (Elt Ideal) f ((⟨Rect.unit (s := S2048x128) off S512x128.size inb, x⟩ : View.Piece (Elt Ideal) S2048x128 .f32) :: L))) := by
  intro s l
  refine (View.read_writes_cons_rows (d := ![2048, 128]) (size := S512x128.size) (o := 512 * kb.val) (W := 512) _ _ inb _ _ (ix2 s l) hoff rfl rfl).trans ?_
  by_cases hs : 512 * kb.val ≤ s.val ∧ s.val < 512 * kb.val + 512
  · refine (dif_pos hs).trans ((congrArg x (show _ = ix2 ⟨s.val - 512 * kb.val, by omega⟩ l from ?_)).trans ((hx _ l).trans ?_))
    · refine funext fun a => Fin.ext ?_
      match a with
      | 0 => rfl
      | 1 => rfl
    · rw [if_pos (by omega), show pos kb ⟨s.val - 512 * kb.val, by omega⟩ = s from Fin.ext (by show 512 * kb.val + (s.val - 512 * kb.val) = s.val; omega)]
  · exact (dif_neg hs).trans ((h s l).trans (congrArg (fun n : ℕ => ((upto n fun t => DV P l t s : ℝ) : EReal)) (if_congr (by omega) rfl rfl)))

/-- What a load of those rows finds before. -/
theorem dv_old (v : View sig .tc .vmem S2048x128 .f32) (f : v.ty.Contents (Elt Ideal)) {off : Fin 2 → ℕ} (inb : ∀ a : Fin 2, off a + S512x128.size a ≤ S2048x128.size a)
    (hoff : off = ![512 * kb.val, 0]) (h : dvI P qi (512 * kb.val) (v.read (Elt Ideal) f)) (j : Fin 512) (l : Fin 128) :
    View.readAt (Elt Ideal) v (Rect.unit (s := S2048x128) off S512x128.size inb).toLoadRect f (ix2 j l) = ((upto (512 * qi.val) fun t => DV P l t (pos kb j) : ℝ) : EReal) := by
  refine (win _ inb hoff j l (by omega) (by omega)).trans ((h _ _).trans ?_)
  simp only [Nat.zero_add]
  rw [if_neg (by omega)]

theorem loop1 {𝒱 : Variants} {c : Dev nD} {bd : Option 𝒱.V} {i : grid0.Coords} {arg3 : Memref sig .tc .vmem S512x128 .bf16} {harg3 : arg3.IsWhole} {arg4 : Memref sig .tc .vmem S2048x128 .bf16} {harg4 : arg4.IsWhole} {arg5 : Memref sig .tc .vmem S2048x128 .bf16} {harg5 : arg5.IsWhole} {arg6 : Memref sig .tc .vmem S512x128 .f32} {harg6 : arg6.IsWhole} {arg7 : Memref sig .tc .vmem S8x2048 .f32} {harg7 : arg7.IsWhole} {arg8 : Memref sig .tc .vmem S512x128 .bf16} {harg8 : arg8.IsWhole} {arg9 : Memref sig .tc .vmem S512x128 .bf16} {harg9 : arg9.IsWhole} {arg10 : Memref sig .tc .vmem S512x128 .f32} {harg10 : arg10.IsWhole} {arg11 : Memref sig .tc .vmem S512x128 .bf16} {harg11 : arg11.IsWhole} {arg12 : Memref sig .tc .vmem S2048x128 .bf16} {harg12 : arg12.IsWhole} {arg13 : Memref sig .tc .vmem S2048x128 .bf16} {harg13 : arg13.IsWhole} {arg14 : Memref sig .tc .vmem S2048x128 .f32} {harg14 : arg14.IsWhole} {arg15 : Memref sig .tc .vmem S512x128 .f32} {harg15 : arg15.IsWhole} {arg16 : Memref sig .tc .vmem S2048x256 .f32} {harg16 : arg16.IsWhole} {arg17 : Memref sig .tc .vmem S2048x128 .f32} {harg17 : arg17.IsWhole} {arg1 : BitVec 32} {arg2 : BitVec 32} {v18 : IVec S1024x1 1} {v24 : IVec S1024x512 32} {v38 : FVec Ideal S1024x128 .bf16} {v46 : FVec Ideal S1024x128 .bf16} {v56 : FVec Ideal S1024x256 .bf16} {v61 : FVec Ideal S1024x1 .f32} {v66 : FVec Ideal S1024x1 .f32} {v84 : FVec Ideal S1024x1 .f32} {v85 : FVec Ideal S1024x128 .f32} {cst_23 : Ideal .f32} {X_arg4 : BufTy.Contents (Elt Ideal) arg4.view.ty} {X_arg5 : BufTy.Contents (Elt Ideal) arg5.view.ty} {X_arg7 : BufTy.Contents (Elt Ideal) arg7.view.ty} {G_arg16 : BufTy.Contents (Elt Ideal) arg16.view.ty} {G_arg17 : BufTy.Contents (Elt Ideal) arg17.view.ty} {init : FVec Ideal S1024x128 .f32 × FVec Ideal S1024x1 .f32}
    (htr : (k0_t1_loop i).trips = qi.val) (o2 o3 : Fin 8)
    (hoff : ∀ k : Fin (k0_t1_loop i).trips, k0_off1 i k = ![512 * k.val, 0] ∧ k0_off2 i k = ![o2.val, 512 * k.val] ∧ k0_off3 i k = ![o3.val, 512 * k.val] ∧ k0_off4 i k = ![512 * k.val, 0])
    (e18 : v18 = k0_pay16)
    (h38 : ∀ r l, v38 (ix2 r l) = (q2 P qi r l : EReal)) (h46 : ∀ r l, v46 (ix2 r l) = (d2 P qi r l : EReal)) (h56 : ∀ r l, v56 (ix2 r l) = (qo P qi r l : EReal))
    (h61 : ∀ r, v61 (ix2 r 0) = ((P (side r)).c (tq qi r) : EReal)) (h66 : ∀ r, v66 (ix2 r 0) = (Real.log ((P (side r)).tot (tq qi r)) : EReal))
    (h84 : ∀ r, v84 (ix2 r 0) = ((∑ d, (P (side r)).g (tq qi r) d * (P (side r)).out (tq qi r) d : ℝ) : EReal))
    (hk : ∀ (s : Fin 2048) (l : Fin 128), arg4.view.read (Elt Ideal) X_arg4 (ix2 s l) = ((P (half l)).k s (dm l) : EReal))
    (hv : ∀ (s : Fin 2048) (l : Fin 128), arg5.view.read (Elt Ideal) X_arg5 (ix2 s l) = ((P (half l)).v s (dm l) : EReal))
    (hc0 : ∀ s : Fin 2048, arg7.view.read (Elt Ideal) X_arg7 (ix2 o2 s) = ((P 0).c s : EReal))
    (hc1 : ∀ s : Fin 2048, arg7.view.read (Elt Ideal) X_arg7 (ix2 o3 s) = ((P 1).c s : EReal))
    (hi : accI P qi 0 init) (h16 : dkI P qi 0 (arg16.view.read (Elt Ideal) G_arg16)) (h17 : dvI P qi 0 (arg17.view.read (Elt Ideal) G_arg17)) :
    ∀ k : ℕ, k ≤ qi.val →
      accI P qi (512 * k) (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2 v18 v24 v38 v46 v56 v61 v66 v84 v85 cst_23 X_arg4 X_arg5 X_arg7 G_arg16 G_arg17 init k).1
      ∧ dkI P qi (512 * k) (arg16.view.read (Elt Ideal) (arg16.view.writes (Elt Ideal) G_arg16 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2 v18 v24 v38 v46 v56 v61 v66 v84 v85 cst_23 X_arg4 X_arg5 X_arg7 G_arg16 G_arg17 init k).2.1))
      ∧ dvI P qi (512 * k) (arg17.view.read (Elt Ideal) (arg17.view.writes (Elt Ideal) G_arg17 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2 v18 v24 v38 v46 v56 v61 v66 v84 v85 cst_23 X_arg4 X_arg5 X_arg7 G_arg16 G_arg17 init k).2.2)) := by
  subst e18
  intro k
  induction k with
  | zero => exact fun _ => ⟨hi, h16, h17⟩
  | succ k ih =>
    intro hle
    obtain ⟨ia, i16, i17⟩ := ih (by omega)
    have hk' : k < (k0_t1_loop i).trips := by omega
    have hq := qi.isLt
    obtain ⟨o1, o2', o3', o4⟩ := hoff ⟨k, hk'⟩
    have e := st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2 k0_pay16 v24 v38 v46 v56 v61 v66 v84 v85 cst_23 X_arg4 X_arg5 X_arg7 G_arg16 G_arg17 init ⟨k, hk'⟩
    have e' : st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2 k0_pay16 v24 v38 v46 v56 v61 v66 v84 v85 cst_23 X_arg4 X_arg5 X_arg7 G_arg16 G_arg17 init (k + 1) = _ := e
    rw [e']
    generalize st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2 k0_pay16 v24 v38 v46 v56 v61 v66 v84 v85 cst_23 X_arg4 X_arg5 X_arg7 G_arg16 G_arg17 init k = S at ia i16 i17 ⊢
    clear e e' ih
    unfold tripL_k0_t1 tripR_k0_t1 trip_k0_t1
    dsimp only
    let kb : Fin 4 := ⟨k, by omega⟩
    have hkb : ∀ j : Fin 512, (⟨512 * k + j.val, by omega⟩ : Fin 2048) = pos kb j := fun j => rfl
    have hle : ∀ (r : Fin 1024) (j : Fin 512), pos kb j ≤ tq qi r := fun r j => by
      show 512 * k + j.val ≤ 512 * qi.val + r.val % 512; omega
    have hK : ∀ (j : Fin 512) (l : Fin 128), View.readAt (Elt Ideal) arg4.view (Rect.unit (s := S2048x128) (k0_off1 i ⟨k, hk'⟩) S512x128.size (k0_off1_inb i ⟨k, hk'⟩)).toLoadRect X_arg4 (ix2 j l) = ((P (half l)).k (pos kb j) (dm l) : EReal) := fun j l => by
      refine (win _ _ o1 j l (by omega) (by omega)).trans ((hk _ _).trans ?_)
      simp only [Nat.zero_add]
      rfl
    have hW : ∀ (j : Fin 512) (l : Fin 128), View.readAt (Elt Ideal) arg5.view (Rect.unit (s := S2048x128) (k0_off1 i ⟨k, hk'⟩) S512x128.size (k0_off1_inb i ⟨k, hk'⟩)).toLoadRect X_arg5 (ix2 j l) = ((P (half l)).v (pos kb j) (dm l) : EReal) := fun j l => by
      refine (win _ _ o1 j l (by omega) (by omega)).trans ((hv _ _).trans ?_)
      simp only [Nat.zero_add]
      rfl
    have hC0 : ∀ (j : Fin 512), View.readAt (Elt Ideal) arg7.view (Rect.unit (s := S8x2048) (k0_off2 i ⟨k, hk'⟩) S1x512.size (k0_off2_inb i ⟨k, hk'⟩)).toLoadRect X_arg7 (ix2 0 j) = ((P 0).c (pos kb j) : EReal) := fun j => by
      refine (win _ _ o2' 0 j (by omega) (by omega)).trans (hc0 _)
    have hC1 : ∀ (j : Fin 512), View.readAt (Elt Ideal) arg7.view (Rect.unit (s := S8x2048) (k0_off3 i ⟨k, hk'⟩) S1x512.size (k0_off3_inb i ⟨k, hk'⟩)).toLoadRect X_arg7 (ix2 0 j) = ((P 1).c (pos kb j) : EReal) := fun j => by
      refine (win _ _ o3' 0 j (by omega) (by omega)).trans (hc1 _)
    have hY := fun r j => b5 P qi kb v38 v61 v66 _ _ _ h38 h61 h66 hK hC0 hC1 r j (hle r j)
    have hD := fun r j => b6 P qi kb v38 v46 v61 v66 v84 _ _ _ _ h38 h46 h61 h66 h84 hK hW hC0 hC1 r j (hle r j)
    refine ⟨?_, ?_, ?_⟩
    · rw [show 512 * (k + 1) = 512 * k + 512 from by omega]
      refine acc_step (by omega) ia (fun r l => ?_) (fun r => ?_)
      · exact (p29 _ _ _ r l).trans (congrArg (S.1.1 (ix2 r l) + ·) (upd_q P qi kb _ hD _ (fun j l => (p4 _ j l).trans (hK j l)) r l))
      · exact (p30 _ _ r).trans (congrArg (S.1.2 (ix2 r 0) + ·) (upd_r P qi kb _ hD r))
    · refine dk_put (kb := kb) _ _ (k0_off4_inb i ⟨k, hk'⟩) _ _ o4 i16 fun j l => (p7 _ _ _ _ _ _ _ _ _ _ _ _ j l).trans ?_
      rw [upto_add _ 512 (by omega), EReal.coe_add]
      exact congrArg₂ (· + ·) (dk_old (kb := kb) _ _ (k0_off4_inb i ⟨k, hk'⟩) o4 i16 j l) (upd_k P qi kb _ hD v56 h56 j l)
    · refine dv_put (kb := kb) _ _ (k0_off1_inb i ⟨k, hk'⟩) _ _ o1 i17 fun j l => (p28 _ _ _ j l).trans ?_
      rw [upto_add _ 512 (by omega), EReal.coe_add]
      exact congrArg₂ (· + ·) (dv_old (kb := kb) _ _ (k0_off1_inb i ⟨k, hk'⟩) o1 i17 j l) (upd_v P qi kb _ hY v46 h46 j l)

/-- The second loop over key blocks makes no trip. -/
theorem st2_zero {𝒱 : Variants} {c : Dev nD} {bd : Option 𝒱.V} {i : grid0.Coords} {arg3 : Memref sig .tc .vmem S512x128 .bf16} {harg3 : arg3.IsWhole} {arg4 : Memref sig .tc .vmem S2048x128 .bf16} {harg4 : arg4.IsWhole} {arg5 : Memref sig .tc .vmem S2048x128 .bf16} {harg5 : arg5.IsWhole} {arg6 : Memref sig .tc .vmem S512x128 .f32} {harg6 : arg6.IsWhole} {arg7 : Memref sig .tc .vmem S8x2048 .f32} {harg7 : arg7.IsWhole} {arg8 : Memref sig .tc .vmem S512x128 .bf16} {harg8 : arg8.IsWhole} {arg9 : Memref sig .tc .vmem S512x128 .bf16} {harg9 : arg9.IsWhole} {arg10 : Memref sig .tc .vmem S512x128 .f32} {harg10 : arg10.IsWhole} {arg11 : Memref sig .tc .vmem S512x128 .bf16} {harg11 : arg11.IsWhole} {arg12 : Memref sig .tc .vmem S2048x128 .bf16} {harg12 : arg12.IsWhole} {arg13 : Memref sig .tc .vmem S2048x128 .bf16} {harg13 : arg13.IsWhole} {arg14 : Memref sig .tc .vmem S2048x128 .f32} {harg14 : arg14.IsWhole} {arg15 : Memref sig .tc .vmem S512x128 .f32} {harg15 : arg15.IsWhole} {arg16 : Memref sig .tc .vmem S2048x256 .f32} {harg16 : arg16.IsWhole} {arg17 : Memref sig .tc .vmem S2048x128 .f32} {harg17 : arg17.IsWhole} {arg1 : BitVec 32} {arg2 : BitVec 32} {v18 : IVec S1024x1 1} {v24 : IVec S1024x512 32} {v38 : FVec Ideal S1024x128 .bf16} {v46 : FVec Ideal S1024x128 .bf16} {v56 : FVec Ideal S1024x256 .bf16} {v61 : FVec Ideal S1024x1 .f32} {v66 : FVec Ideal S1024x1 .f32} {v84 : FVec Ideal S1024x1 .f32} {v85 : FVec Ideal S1024x128 .f32} {cst_23 : Ideal .f32} {v92 : BitVec 32} {X_arg4 : BufTy.Contents (Elt Ideal) arg4.view.ty} {X_arg5 : BufTy.Contents (Elt Ideal) arg5.view.ty} {X_arg7 : BufTy.Contents (Elt Ideal) arg7.view.ty} {G_arg16 : BufTy.Contents (Elt Ideal) arg16.view.ty} {G_arg17 : BufTy.Contents (Elt Ideal) arg17.view.ty} {init : FVec Ideal S1024x128 .f32 × FVec Ideal S1024x1 .f32} {n : ℕ} (hn : n = 0) : st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2 v18 v24 v38 v46 v56 v61 v66 v84 v85 cst_23 v92 X_arg4 X_arg5 X_arg7 G_arg16 G_arg17 init n = (init, [], []) := by
  subst hn; rfl

/-- The first loop with no trip changes nothing. -/
theorem st1_zero {𝒱 : Variants} {c : Dev nD} {bd : Option 𝒱.V} {i : grid0.Coords} {arg3 : Memref sig .tc .vmem S512x128 .bf16} {harg3 : arg3.IsWhole} {arg4 : Memref sig .tc .vmem S2048x128 .bf16} {harg4 : arg4.IsWhole} {arg5 : Memref sig .tc .vmem S2048x128 .bf16} {harg5 : arg5.IsWhole} {arg6 : Memref sig .tc .vmem S512x128 .f32} {harg6 : arg6.IsWhole} {arg7 : Memref sig .tc .vmem S8x2048 .f32} {harg7 : arg7.IsWhole} {arg8 : Memref sig .tc .vmem S512x128 .bf16} {harg8 : arg8.IsWhole} {arg9 : Memref sig .tc .vmem S512x128 .bf16} {harg9 : arg9.IsWhole} {arg10 : Memref sig .tc .vmem S512x128 .f32} {harg10 : arg10.IsWhole} {arg11 : Memref sig .tc .vmem S512x128 .bf16} {harg11 : arg11.IsWhole} {arg12 : Memref sig .tc .vmem S2048x128 .bf16} {harg12 : arg12.IsWhole} {arg13 : Memref sig .tc .vmem S2048x128 .bf16} {harg13 : arg13.IsWhole} {arg14 : Memref sig .tc .vmem S2048x128 .f32} {harg14 : arg14.IsWhole} {arg15 : Memref sig .tc .vmem S512x128 .f32} {harg15 : arg15.IsWhole} {arg16 : Memref sig .tc .vmem S2048x256 .f32} {harg16 : arg16.IsWhole} {arg17 : Memref sig .tc .vmem S2048x128 .f32} {harg17 : arg17.IsWhole} {arg1 : BitVec 32} {arg2 : BitVec 32} {v18 : IVec S1024x1 1} {v24 : IVec S1024x512 32} {v38 : FVec Ideal S1024x128 .bf16} {v46 : FVec Ideal S1024x128 .bf16} {v56 : FVec Ideal S1024x256 .bf16} {v61 : FVec Ideal S1024x1 .f32} {v66 : FVec Ideal S1024x1 .f32} {v84 : FVec Ideal S1024x1 .f32} {v85 : FVec Ideal S1024x128 .f32} {cst_23 : Ideal .f32} {X_arg4 : BufTy.Contents (Elt Ideal) arg4.view.ty} {X_arg5 : BufTy.Contents (Elt Ideal) arg5.view.ty} {X_arg7 : BufTy.Contents (Elt Ideal) arg7.view.ty} {G_arg16 : BufTy.Contents (Elt Ideal) arg16.view.ty} {G_arg17 : BufTy.Contents (Elt Ideal) arg17.view.ty} {init : FVec Ideal S1024x128 .f32 × FVec Ideal S1024x1 .f32} {n : ℕ}
    (hn : n = 0) : st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2 v18 v24 v38 v46 v56 v61 v66 v84 v85 cst_23 X_arg4 X_arg5 X_arg7 G_arg16 G_arg17 init n = (init, [], []) := by
  subst hn; rfl

end Cert.FoxLoop
end
-- ==== Proof.FoxValue.lean ====
/- The attention gradient's kernel over its grid: what each point finds in its blocks, what the two accumulators hold after it, and the five result arrays. -/
module

public import proofs.«01_k».proof.Proof.FoxLoop

@[expose] public section

set_option maxRecDepth 16384

noncomputable section

namespace Cert.FoxValue

open Idealize.ShloMosaic Idealize.SL.Sem Cert.FoxIdeal Cert.FoxIdeal.Gen Cert.Common Cert.RealKit Cert.FoxSpec Cert.FoxHost Cert.FoxBlock Cert.FoxLoop Cert.FoxRefValue
open scoped BigOperators

/-- What each window reads at a point: sequence `t / 16`, pair of heads `t / 4 % 4`, query block `t % 4`. -/
theorem idx (t : Fin cfg0.N) : win0_0.index t = ![t.val / 16 * 4 + t.val % 4, t.val / 4 % 4] ∧ win0_1.index t = ![t.val / 16, 4 + t.val / 4 % 4] ∧ win0_2.index t = ![t.val / 16, 8 + t.val / 4 % 4]
    ∧ win0_3.index t = ![t.val / 16 * 4 + t.val % 4, t.val / 4 % 4] ∧ win0_4.index t = ![t.val / 16, 0] ∧ win0_5.index t = ![t.val / 16 * 4 + t.val % 4, t.val / 4 % 4]
    ∧ win0_6.index t = ![t.val / 16 * 4 + t.val % 4, t.val / 4 % 4] ∧ win0_7.index t = ![t.val / 16 * 4 + t.val % 4, t.val / 4 % 4] ∧ win0_8.index t = ![t.val / 16 * 4 + t.val % 4, t.val / 4 % 4]
    ∧ win0_9.index t = ![t.val / 16, t.val / 4 % 4] ∧ win0_10.index t = ![t.val / 16, t.val / 4 % 4] ∧ win0_11.index t = ![t.val / 16, t.val / 4 % 4]
    ∧ win0_12.index t = ![t.val / 16 * 4 + t.val % 4, t.val / 4 % 4] := by
  revert t; decide +kernel

/-- The trips of the two loops at a point, and the places of the diagonal block. -/
theorem trips : ∀ t : Fin cfg0.N, (k0_t1_loop (grid0.coords t)).trips = t.val % 4 ∧ (k0_t2_loop (grid0.coords t)).trips = 0
    ∧ k0_off9 (grid0.coords t) = ![512 * (t.val % 4), 0] ∧ k0_off12 (grid0.coords t) = ![512 * (t.val % 4), 0]
    ∧ k0_off10 (grid0.coords t) = ![2 * (t.val / 4 % 4), 512 * (t.val % 4)] ∧ k0_off11 (grid0.coords t) = ![2 * (t.val / 4 % 4) + 1, 512 * (t.val % 4)] := by
  decide +kernel

theorem offs' : ∀ (t : Fin cfg0.N) (k : Fin 4) (h : k.val < (k0_t1_loop (grid0.coords t)).trips), k0_off1 (grid0.coords t) ⟨k.val, h⟩ = ![512 * k.val, 0]
    ∧ k0_off2 (grid0.coords t) ⟨k.val, h⟩ = ![2 * (t.val / 4 % 4), 512 * k.val] ∧ k0_off3 (grid0.coords t) ⟨k.val, h⟩ = ![2 * (t.val / 4 % 4) + 1, 512 * k.val]
    ∧ k0_off4 (grid0.coords t) ⟨k.val, h⟩ = ![512 * k.val, 0] := by
  decide +kernel
theorem offs (t : Fin cfg0.N) (k : Fin (k0_t1_loop (grid0.coords t)).trips) : k0_off1 (grid0.coords t) k = ![512 * k.val, 0]
    ∧ k0_off2 (grid0.coords t) k = ![2 * (t.val / 4 % 4), 512 * k.val] ∧ k0_off3 (grid0.coords t) k = ![2 * (t.val / 4 % 4) + 1, 512 * k.val] ∧ k0_off4 (grid0.coords t) k = ![512 * k.val, 0] :=
  offs' t ⟨k.val, lt_of_lt_of_eq k.isLt (trips t).1 |>.trans (Nat.mod_lt _ (by decide))⟩ k.isLt

variable (m : (ℓ : Loc nD τ sig) → Buf (Elt Ideal) ℓ) (c : Dev nD)

/-- The pair of heads of a group of points. -/
def PP (b hp : ℕ) (hb : b < 2) (hh : hp < 4) (e : Fin 2) : Head := hd (X0 m c) (X1 m c) (X2 m c) (X7 m c) (X3 m c) ⟨b, hb⟩ ⟨2 * hp + e.val, by omega⟩

/-- The arguments' entries are real numbers. -/
structure Reals : Prop where
  h0 : Real3 (X0 m c)
  h1 : Real3 (X1 m c)
  h2 : Real3 (X2 m c)
  h3 : Real3 (X3 m c)
  h7 : Real3 (X7 m c)

variable (t : Fin cfg0.N)

theorem tlt : t.val < 32 := lt_of_lt_of_eq t.isLt N_0
abbrev PT : Fin 2 → Head := PP m c (t.val / 16) (t.val / 4 % 4) (by have := tlt t; omega) (by omega)
theorem PT_eq (e : Fin 2) : PT m c t e = hd (X0 m c) (X1 m c) (X2 m c) (X7 m c) (X3 m c) ⟨t.val / 16, by have := tlt t; omega⟩ ⟨2 * (t.val / 4 % 4) + e.val, by omega⟩ := rfl
abbrev qT : Fin 4 := ⟨t.val % 4, by omega⟩

variable (H : Reals m c)

/-- A row and a lane of a query block, and of a key block, in the whole array. -/
abbrev rowQ (r : Fin 512) : Fin 4096 := ⟨512 * (t.val / 16 * 4 + t.val % 4) + r.val, by have := tlt t; omega⟩
abbrev rowK (s : Fin 2048) : Fin 4096 := ⟨2048 * (t.val / 16) + s.val, by have := tlt t; omega⟩
abbrev laneQ (l : Fin 128) : Fin 512 := ⟨128 * (t.val / 4 % 4) + l.val, by omega⟩

theorem sQ (r : Fin 512) : seqOf (rowQ t r) = ⟨t.val / 16, by have := tlt t; omega⟩ := Fin.ext (by show (512 * (t.val / 16 * 4 + t.val % 4) + r.val) / 2048 = t.val / 16; omega)
theorem tQ (r : Fin 512) : tokOf (rowQ t r) = pos (qT t) r := Fin.ext (by show (512 * (t.val / 16 * 4 + t.val % 4) + r.val) % 2048 = 512 * (t.val % 4) + r.val; omega)
theorem sK (s : Fin 2048) : seqOf (rowK t s) = ⟨t.val / 16, by have := tlt t; omega⟩ := Fin.ext (by show (2048 * (t.val / 16) + s.val) / 2048 = t.val / 16; omega)
theorem tK (s : Fin 2048) : tokOf (rowK t s) = s := Fin.ext (by show (2048 * (t.val / 16) + s.val) % 2048 = s.val; omega)
theorem hQ (l : Fin 128) : headOf (laneQ t l) = ⟨2 * (t.val / 4 % 4) + (half l).val, by omega⟩ := Fin.ext (by show (128 * (t.val / 4 % 4) + l.val) / 64 = 2 * (t.val / 4 % 4) + l.val / 64; omega)
theorem dQ (l : Fin 128) : dimOf (laneQ t l) = dm l := Fin.ext (by show (128 * (t.val / 4 % 4) + l.val) % 64 = l.val % 64; omega)
theorem lQ (l : Fin 128) : laneQ t l = lane ⟨2 * (t.val / 4 % 4) + (half l).val, by omega⟩ (dm l) :=
  Fin.ext (by show 128 * (t.val / 4 % 4) + l.val = (2 * (t.val / 4 % 4) + l.val / 64) * 64 + l.val % 64; omega)

/-! The input blocks, entry by entry. -/

include H in
theorem ib0 (r : Fin 512) (l : Fin 128) : (iblk m c 0 t : FVec Ideal S512x128 .bf16) (ix2 r l) = ((PT m c t (half l)).q (pos (qT t) r) (dm l) : EReal) := by
  refine Eq.trans ?_ ((V46_q m c (rowQ t r) (laneQ t l)).trans (by rw [sQ, tQ, lQ, H.h0 _]; rfl))
  blk_ext [iblk, idx t]
include H in
theorem ib1 (s : Fin 2048) (l : Fin 128) : (iblk m c 1 t : FVec Ideal S2048x128 .bf16) (ix2 s l) = ((PT m c t (half l)).k s (dm l) : EReal) := by
  refine Eq.trans ?_ ((V46_k m c (rowK t s) (laneQ t l)).trans (by rw [sK, tK, lQ, H.h1 _]; rfl))
  blk_ext [iblk, idx t]
include H in
theorem ib2 (s : Fin 2048) (l : Fin 128) : (iblk m c 2 t : FVec Ideal S2048x128 .bf16) (ix2 s l) = ((PT m c t (half l)).v s (dm l) : EReal) := by
  refine Eq.trans ?_ ((V46_v m c (rowK t s) (laneQ t l)).trans (by rw [sK, tK, lQ, H.h2 _]; rfl))
  blk_ext [iblk, idx t]
include H in
theorem ib6 (r : Fin 512) (l : Fin 128) : (iblk m c 6 t : FVec Ideal S512x128 .bf16) (ix2 r l) = ((PT m c t (half l)).g (pos (qT t) r) (dm l) : EReal) := by
  refine Eq.trans ?_ ((V53 m c (rowQ t r) (laneQ t l)).trans (by rw [sQ, tQ, lQ, H.h7 _]; rfl))
  blk_ext [iblk, idx t]
include H in
theorem hb3 (r : Fin 512) (l : Fin 128) : (V m c main_v50 : FVec Ideal S4096x512 .f32) (ix2 (rowQ t r) (laneQ t l)) = ((PT m c t (half l)).c (pos (qT t) r) : EReal) := by
  rw [V50, wide_apply, sQ, tQ, hQ, c_real (X3 m c) H.h3 _, PT_eq, head_c]
theorem rd3 (A : FVec Ideal S4096x512 .f32) (r : Fin 512) (l : Fin 128) : (((cfg0.win 3).blk t).view.read (Elt Ideal) A : FVec Ideal S512x128 .f32) (ix2 r l) = A (ix2 (rowQ t r) (laneQ t l)) := by
  blk_ext [idx t]
include H in
theorem ib3 (r : Fin 512) (l : Fin 128) : (iblk m c 3 t : FVec Ideal S512x128 .f32) (ix2 r l) = ((PT m c t (half l)).c (pos (qT t) r) : EReal) :=
  (rd3 t (V m c main_v50) r l).trans (hb3 m c t H r l)
include H in
theorem hb4 (e : Fin 2) (s : Fin 2048) : (V m c main_v51 : FVec Ideal S16x2048 .f32) (ix2 ⟨8 * (t.val / 16) + (2 * (t.val / 4 % 4) + e.val), by have := tlt t; omega⟩ s) = ((PT m c t e).c s : EReal) := by
  rw [V51_apply, c_real (X3 m c) H.h3 _, PT_eq, head_c]
  refine congrArg (fun z : EReal => ((z.toReal : ℝ) : EReal)) (congrArg₂ (fun (a : Fin 2) (b : Fin 8) => cum (X3 m c) (ix3 a b s)) (Fin.ext ?_) (Fin.ext ?_))
  · show (8 * (t.val / 16) + (2 * (t.val / 4 % 4) + e.val)) / 8 = t.val / 16; omega
  · show (8 * (t.val / 16) + (2 * (t.val / 4 % 4) + e.val)) % 8 = 2 * (t.val / 4 % 4) + e.val; omega
theorem rd4 (A : FVec Ideal S16x2048 .f32) (e : Fin 2) (s : Fin 2048) : (((cfg0.win 4).blk t).view.read (Elt Ideal) A : FVec Ideal S8x2048 .f32) (ix2 ⟨2 * (t.val / 4 % 4) + e.val, by omega⟩ s) = A (ix2 ⟨8 * (t.val / 16) + (2 * (t.val / 4 % 4) + e.val), by have := tlt t; omega⟩ s) := by
  blk_ext [idx t]
include H in
theorem ib4 (e : Fin 2) (s : Fin 2048) : (iblk m c 4 t : FVec Ideal S8x2048 .f32) (ix2 ⟨2 * (t.val / 4 % 4) + e.val, by omega⟩ s) = ((PT m c t e).c s : EReal) :=
  (rd4 t (V m c main_v51) e s).trans (hb4 m c t H e s)
include H in
theorem hb5 (r : Fin 512) (l : Fin 128) : (V m c main_v38 : FVec Ideal S4096x512 .bf16) (ix2 (rowQ t r) (laneQ t l)) = ((PT m c t (half l)).out (pos (qT t) r) (dm l) : EReal) := by
  rw [V38, flat_apply, sQ, tQ, hQ, dQ, hO_real (X0 m c) (X1 m c) (X2 m c) (X7 m c) (X3 m c) _ _ H.h0 H.h1 H.h2 H.h3, PT_eq]
theorem rd5 (A : FVec Ideal S4096x512 .bf16) (r : Fin 512) (l : Fin 128) : (((cfg0.win 5).blk t).view.read (Elt Ideal) A : FVec Ideal S512x128 .bf16) (ix2 r l) = A (ix2 (rowQ t r) (laneQ t l)) := by
  blk_ext [idx t]
include H in
theorem ib5 (r : Fin 512) (l : Fin 128) : (iblk m c 5 t : FVec Ideal S512x128 .bf16) (ix2 r l) = ((PT m c t (half l)).out (pos (qT t) r) (dm l) : EReal) :=
  (rd5 t (V m c main_v38) r l).trans (hb5 m c t H r l)
include H in
theorem hb7 (r : Fin 512) (l : Fin 128) : (V m c main_v57 : FVec Ideal S4096x512 .f32) (ix2 (rowQ t r) (laneQ t l)) = (Real.log ((PT m c t (half l)).tot (pos (qT t) r)) : EReal) := by
  rw [V57, wide_apply, sQ, tQ, hQ, hL_real (X0 m c) (X1 m c) (X2 m c) (X7 m c) (X3 m c) _ _ H.h0 H.h1 H.h3, PT_eq]
theorem rd7 (A : FVec Ideal S4096x512 .f32) (r : Fin 512) (l : Fin 128) : (((cfg0.win 7).blk t).view.read (Elt Ideal) A : FVec Ideal S512x128 .f32) (ix2 r l) = A (ix2 (rowQ t r) (laneQ t l)) := by
  blk_ext [idx t]
include H in
theorem ib7 (r : Fin 512) (l : Fin 128) : (iblk m c 7 t : FVec Ideal S512x128 .f32) (ix2 r l) = (Real.log ((PT m c t (half l)).tot (pos (qT t) r)) : EReal) :=
  (rd7 t (V m c main_v57) r l).trans (hb7 m c t H r l)

/-! The body's vectors at a point. -/

abbrev w38 : FVec Ideal S1024x128 .bf16 := k0_pay19 (iblk m c 0 t)
abbrev w46 : FVec Ideal S1024x128 .bf16 := k0_pay21 k0_pay14 k0_pay15 (k0_pay18 (iblk m c 6 t)) k0_pay20
abbrev w56 : FVec Ideal S1024x256 .bf16 := k0_pay22 k0_pay14 k0_pay15 (k0_pay19 (iblk m c 0 t))
abbrev w61 : FVec Ideal S1024x1 .f32 := k0_pay23 (iblk m c 3 t)
abbrev w66 : FVec Ideal S1024x1 .f32 := k0_pay24 (iblk m c 7 t)
abbrev w84 : FVec Ideal S1024x1 .f32 := k0_pay25 k0_pay14 k0_pay15 (k0_pay18 (iblk m c 6 t)) (iblk m c 5 t)

include H in
theorem f38 (r : Fin 1024) (l : Fin 128) : w38 m c t (ix2 r l) = (q2 (PT m c t) (qT t) r l : EReal) := b19 _ _ _ (ib0 m c t H) r l
include H in
theorem f46 (r : Fin 1024) (l : Fin 128) : w46 m c t (ix2 r l) = (d2 (PT m c t) (qT t) r l : EReal) := b21 _ _ _ (ib6 m c t H) r l
include H in
theorem f56 (r : Fin 1024) (l : Fin 256) : w56 m c t (ix2 r l) = (qo (PT m c t) (qT t) r l : EReal) := b22 _ _ _ (f38 m c t H) r l
include H in
theorem f61 (r : Fin 1024) : w61 m c t (ix2 r 0) = ((PT m c t (side r)).c (tq (qT t) r) : EReal) := b23 _ (fun e r => (PT m c t e).c (pos (qT t) r)) (ib3 m c t H) r
include H in
theorem f66 (r : Fin 1024) : w66 m c t (ix2 r 0) = (Real.log ((PT m c t (side r)).tot (tq (qT t) r)) : EReal) := b24 _ (fun e r => Real.log ((PT m c t e).tot (pos (qT t) r))) (ib7 m c t H) r
include H in
theorem f84 (r : Fin 1024) : w84 m c t (ix2 r 0) = ((∑ d, (PT m c t (side r)).g (tq (qT t) r) d * (PT m c t (side r)).out (tq (qT t) r) d : ℝ) : EReal) :=
  b25 _ _ _ _ (ib6 m c t H) (ib5 m c t H) r

abbrev wK : FVec Ideal S512x128 .bf16 := View.ld (iblk m c 1 t) (Rect.unit (s := S2048x128) (k0_off9 (grid0.coords t)) S512x128.size (k0_off9_inb (grid0.coords t)))
abbrev wV : FVec Ideal S512x128 .bf16 := View.ld (iblk m c 2 t) (Rect.unit (s := S2048x128) (k0_off9 (grid0.coords t)) S512x128.size (k0_off9_inb (grid0.coords t)))
abbrev wC0 : FVec Ideal S1x512 .f32 := View.ld (iblk m c 4 t) (Rect.unit (s := S8x2048) (k0_off10 (grid0.coords t)) S1x512.size (k0_off10_inb (grid0.coords t)))
abbrev wC1 : FVec Ideal S1x512 .f32 := View.ld (iblk m c 4 t) (Rect.unit (s := S8x2048) (k0_off11 (grid0.coords t)) S1x512.size (k0_off11_inb (grid0.coords t)))

include H in
theorem fK (j : Fin 512) (l : Fin 128) : wK m c t (ix2 j l) = ((PT m c t (half l)).k (pos (qT t) j) (dm l) : EReal) := by
  refine (win _ _ (trips t).2.2.1 j l (by omega) (by omega)).trans ((ib1 m c t H _ _).trans ?_)
  simp only [Nat.zero_add]
include H in
theorem fV (j : Fin 512) (l : Fin 128) : wV m c t (ix2 j l) = ((PT m c t (half l)).v (pos (qT t) j) (dm l) : EReal) := by
  refine (win _ _ (trips t).2.2.1 j l (by omega) (by omega)).trans ((ib2 m c t H _ _).trans ?_)
  simp only [Nat.zero_add]
include H in
theorem fC0 (j : Fin 512) : wC0 m c t (ix2 0 j) = ((PT m c t 0).c (pos (qT t) j) : EReal) :=
  (win _ _ (trips t).2.2.2.2.1 0 j (by omega) (by omega)).trans (ib4 m c t H 0 _)
include H in
theorem fC1 (j : Fin 512) : wC1 m c t (ix2 0 j) = ((PT m c t 1).c (pos (qT t) j) : EReal) :=
  (win _ _ (trips t).2.2.2.2.2 0 j (by omega) (by omega)).trans (ib4 m c t H 1 _)

abbrev wY : FVec Ideal S1024x512 .f32 := k0_pay35 k0_pay16 k0_pay17 (w38 m c t) (w61 m c t) (w66 m c t) (wK m c t) (wC0 m c t) (wC1 m c t)
include H in
theorem fY (r : Fin 1024) (j : Fin 512) : wY m c t (ix2 r j) = ((PT m c t (side r)).prob (tq (qT t) r) (pos (qT t) j) : EReal) :=
  b35 (PT m c t) (qT t) (qT t) _ _ _ _ _ _ (f38 m c t H) (f61 m c t H) (f66 m c t H) (fK m c t H) (fC0 m c t H) (fC1 m c t H) rfl r j
include H in
theorem fD (r : Fin 1024) (j : Fin 512) : (k0_pay36 (w46 m c t) (w84 m c t) (wY m c t) (wV m c t) : FVec Ideal S1024x512 .bf16) (ix2 r j) = ((PT m c t (side r)).ds (tq (qT t) r) (pos (qT t) j) : EReal) :=
  b36 (PT m c t) (qT t) (qT t) _ _ _ (f46 m c t H) (f84 m c t H) (fV m c t H) _ (fY m c t H) r j

end Cert.FoxValue
end
-- ==== Proof.FoxDiag.lean ====
/- One point of the attention gradient's grid after its loop: the diagonal block's terms added, the accumulators and the stored blocks. -/
module

public import proofs.«01_k».proof.Proof.FoxValue

@[expose] public section

set_option maxRecDepth 16384

noncomputable section

namespace Cert.FoxValue

open Idealize.ShloMosaic Idealize.SL.Sem Cert.FoxIdeal Cert.FoxIdeal.Gen Cert.Common Cert.RealKit Cert.FoxSpec Cert.FoxHost Cert.FoxBlock Cert.FoxLoop Cert.FoxRefValue
open scoped BigOperators

theorem p37 (v46 : FVec Ideal S1024x128 .bf16) (v56 : FVec Ideal S1024x256 .bf16) (v84 : FVec Ideal S1024x1 .f32) (y : FVec Ideal S1024x512 .f32) (w : Vec Ideal S512x128 .bf16)
    (f : Vec Ideal S512x256 .f32) (j : Fin 512) (l : Fin 256) :
    (k0_pay37 v46 v56 v84 y w f : FVec Ideal S512x256 .f32) (ix2 j l) = f (ix2 j l) + ∑ r : Fin 1024, (k0_pay36 v46 v84 y w : FVec Ideal S1024x512 .bf16) (ix2 r j) * v56 (ix2 r l) := by
  pointwise [k0_pay37]
theorem p38 (v46 : FVec Ideal S1024x128 .bf16) (y : FVec Ideal S1024x512 .f32) (f : Vec Ideal S512x128 .f32) (j : Fin 512) (l : Fin 128) :
    (k0_pay38 v46 y f : FVec Ideal S512x128 .f32) (ix2 j l) = f (ix2 j l) + ∑ r : Fin 1024, y (ix2 r j) * v46 (ix2 r l) := by
  pointwise [k0_pay38]
theorem p39 (v46 : FVec Ideal S1024x128 .bf16) (v84 x : FVec Ideal S1024x1 .f32) (y : FVec Ideal S1024x512 .f32) (w : Vec Ideal S512x128 .bf16) (r : Fin 1024) :
    (k0_pay39 v46 v84 x y w : FVec Ideal S1024x1 .f32) (ix2 r 0) = x (ix2 r 0) + ∑ j : Fin 512, (k0_pay36 v46 v84 y w : FVec Ideal S1024x512 .bf16) (ix2 r j) := by
  pointwise [k0_pay39]
theorem p40 (v46 : FVec Ideal S1024x128 .bf16) (v84 : FVec Ideal S1024x1 .f32) (x : FVec Ideal S1024x128 .f32) (k : FVec Ideal S512x128 .bf16) (y : FVec Ideal S1024x512 .f32)
    (w : Vec Ideal S512x128 .bf16) (r : Fin 512) (l : Fin 128) (s : Fin 1024) (hs : s.val = 512 * (l.val / 64) + r.val) :
    (k0_pay40 k0_pay14 v46 v84 x k y w : FVec Ideal S512x128 .bf16) (ix2 r l)
      = (x (ix2 s l) + ∑ j : Fin 512, (k0_pay36 v46 v84 y w : FVec Ideal S1024x512 .bf16) (ix2 s j) * k (ix2 j l)) * ((1 / 8 : ℝ) : EReal) := by
  have hl := l.isLt
  generalize hD : (k0_pay36 v46 v84 y w : FVec Ideal S1024x512 .bf16) = D
  pointwise [k0_pay40]
  rw [hD, sel14, ofBits_eighth]
  by_cases h : l.val < 64
  · rw [show s = ⟨r.val, by omega⟩ from Fin.ext (by show s.val = r.val; omega)]
    exact congrArg (· * ((1 / 8 : ℝ) : EReal)) (if_pos h)
  · rw [show s = ⟨512 + r.val, by omega⟩ from Fin.ext (by show s.val = 512 + r.val; omega)]
    exact congrArg (· * ((1 / 8 : ℝ) : EReal)) (if_neg h)
theorem p1 (v46 : FVec Ideal S1024x128 .bf16) (v84 x : FVec Ideal S1024x1 .f32) (y : FVec Ideal S1024x512 .f32)
    (w : Vec Ideal S512x128 .bf16) (r : Fin 512) (l : Fin 128) (s : Fin 1024) (hs : s.val = 512 * (l.val / 64) + r.val) :
    (k0_pay1 (k0_pay41 v46 v84 x y w) (k0_pay42 v46 v84 x y w) (k0_pay43 k0_pay14) : FVec Ideal S512x128 .f32) (ix2 r l)
      = x (ix2 s 0) + ∑ j : Fin 512, (k0_pay36 v46 v84 y w : FVec Ideal S1024x512 .bf16) (ix2 s j) := by
  have hl := l.isLt
  rw [← p39]
  generalize hD : (k0_pay39 v46 v84 x y w : FVec Ideal S1024x1 .f32) = D
  pointwise [k0_pay1, k0_pay41, k0_pay42, k0_pay43]
  rw [hD, sel14]
  by_cases h : l.val < 64
  · rw [show s = ⟨r.val, by omega⟩ from Fin.ext (by show s.val = r.val; omega)]
    exact if_pos h
  · rw [show s = ⟨512 + r.val, by omega⟩ from Fin.ext (by show s.val = 512 + r.val; omega)]
    exact if_neg h

/-- Key positions after the query's add nothing. -/
theorem DK_zero (P : Fin 2 → Head) (l : Fin 256) (t s : Fin 2048) (h : ¬ s ≤ t) : DK P l t s = 0 := by
  unfold DK
  split_ifs with hl
  · rw [Head.ds_zero _ _ _ h, zero_mul]
  · exact Head.ds_zero _ _ _ h
theorem DV_zero (P : Fin 2 → Head) (l : Fin 128) (t s : Fin 2048) (h : ¬ s ≤ t) : DV P l t s = 0 := by
  unfold DV; rw [Head.prob_zero _ _ _ h, zero_mul]

/-- A whole accumulator with the query blocks up to `n` added. -/
def full0 (P : Fin 2 → Head) (n : ℕ) (x : S2048x256.Idx → EReal) : Prop := ∀ s l, x (ix2 s l) = ((upto n fun t => DK P l t s : ℝ) : EReal)
def full1 (P : Fin 2 → Head) (n : ℕ) (x : S2048x128.Idx → EReal) : Prop := ∀ s l, x (ix2 s l) = ((upto n fun t => DV P l t s : ℝ) : EReal)

theorem skip (n : ℕ) (hn : n + 512 ≤ 2048) (f : Fin 2048 → ℝ) (h : ∀ t : Fin 2048, t.val < n + 512 → f t = 0) : upto (n + 512) f = upto n f := by
  rw [upto_add n 512 hn, Finset.sum_eq_zero (fun j _ => h _ (by show n + j.val < n + 512; omega)), add_zero]

variable {P : Fin 2 → Head} {qi : Fin 4}

theorem full0_of {x : S2048x256.Idx → EReal} (h : dkI P qi (512 * (qi.val + 1)) x) : full0 P (512 * (qi.val + 1)) x := fun s l => by
  have hq := qi.isLt
  rw [h s l, Nat.mul_succ]
  split_ifs with hs
  · rfl
  · rw [skip _ (by omega)]
    exact fun t ht => DK_zero P l t s (by intro (hh : s.val ≤ t.val); omega)
theorem full1_of {x : S2048x128.Idx → EReal} (h : dvI P qi (512 * (qi.val + 1)) x) : full1 P (512 * (qi.val + 1)) x := fun s l => by
  have hq := qi.isLt
  rw [h s l, Nat.mul_succ]
  split_ifs with hs
  · rfl
  · rw [skip _ (by omega)]
    exact fun t ht => DV_zero P l t s (by intro (hh : s.val ≤ t.val); omega)
theorem start0 {x : S2048x256.Idx → EReal} (h : full0 P (512 * qi.val) x) : dkI P qi 0 x := fun s l => (h s l).trans (by rw [if_neg (by omega)])
theorem start1 {x : S2048x128.Idx → EReal} (h : full1 P (512 * qi.val) x) : dvI P qi 0 x := fun s l => (h s l).trans (by rw [if_neg (by omega)])

variable (m : (ℓ : Loc nD τ sig) → Buf (Elt Ideal) ℓ) (c : Dev nD) (t : Fin cfg0.N) (H : Reals m c)

include H in
theorem put37 (f : Vec Ideal S512x256 .f32) (hf : ∀ j l, f (ix2 j l) = ((upto (512 * (qT t).val) fun s => DK (PT m c t) l s (pos (qT t) j) : ℝ) : EReal)) (j : Fin 512) (l : Fin 256) :
    (k0_pay37 (w46 m c t) (w56 m c t) (w84 m c t) (wY m c t) (wV m c t) f : FVec Ideal S512x256 .f32) (ix2 j l) = ((upto (512 * (qT t).val + 512) fun s => DK (PT m c t) l s (pos (qT t) j) : ℝ) : EReal) := by
  have hq := (qT t).isLt
  rw [p37, hf, upd_k (PT m c t) (qT t) (qT t) _ (fD m c t H) _ (f56 m c t H), upto_add _ 512 (by omega), EReal.coe_add]
include H in
theorem put38 (f : Vec Ideal S512x128 .f32) (hf : ∀ j l, f (ix2 j l) = ((upto (512 * (qT t).val) fun s => DV (PT m c t) l s (pos (qT t) j) : ℝ) : EReal)) (j : Fin 512) (l : Fin 128) :
    (k0_pay38 (w46 m c t) (wY m c t) f : FVec Ideal S512x128 .f32) (ix2 j l) = ((upto (512 * (qT t).val + 512) fun s => DV (PT m c t) l s (pos (qT t) j) : ℝ) : EReal) := by
  have hq := (qT t).isLt
  rw [p38, hf, upd_v (PT m c t) (qT t) (qT t) _ (fY m c t H) _ (f46 m c t H), upto_add _ 512 (by omega), EReal.coe_add]

include H in
/-- The diagonal block's store completes the point's accumulators. -/
theorem diag0 (v : View sig .tc .vmem S2048x256 .f32) (f : v.ty.Contents (Elt Ideal)) (L : List (View.Piece (Elt Ideal) S2048x256 .f32))
    (h : dkI (PT m c t) (qT t) (512 * (qT t).val) (v.read (Elt Ideal) (v.writes (Elt Ideal) f L))) :
    full0 (PT m c t) (512 * ((qT t).val + 1)) (v.read (Elt Ideal) (v.writes (Elt Ideal) f ((⟨Rect.unit (s := S2048x256) (k0_off12 (grid0.coords t)) S512x256.size (k0_off12_inb (grid0.coords t)),
      k0_pay37 (w46 m c t) (w56 m c t) (w84 m c t) (wY m c t) (wV m c t) (View.ld (v.read (Elt Ideal) (v.writes (Elt Ideal) f L)) (Rect.unit (s := S2048x256) (k0_off12 (grid0.coords t)) S512x256.size (k0_off12_inb (grid0.coords t))))⟩ : View.Piece (Elt Ideal) S2048x256 .f32) :: L))) :=
  full0_of (dk_put v f _ _ L (trips t).2.2.2.1 h (put37 m c t H _ fun j l => dk_old v _ _ (trips t).2.2.2.1 h j l))
include H in
theorem diag1 (v : View sig .tc .vmem S2048x128 .f32) (f : v.ty.Contents (Elt Ideal)) (L : List (View.Piece (Elt Ideal) S2048x128 .f32))
    (h : dvI (PT m c t) (qT t) (512 * (qT t).val) (v.read (Elt Ideal) (v.writes (Elt Ideal) f L))) :
    full1 (PT m c t) (512 * ((qT t).val + 1)) (v.read (Elt Ideal) (v.writes (Elt Ideal) f ((⟨Rect.unit (s := S2048x128) (k0_off9 (grid0.coords t)) S512x128.size (k0_off9_inb (grid0.coords t)),
      k0_pay38 (w46 m c t) (wY m c t) (View.ld (v.read (Elt Ideal) (v.writes (Elt Ideal) f L)) (Rect.unit (s := S2048x128) (k0_off9 (grid0.coords t)) S512x128.size (k0_off9_inb (grid0.coords t))))⟩ : View.Piece (Elt Ideal) S2048x128 .f32) :: L))) :=
  full1_of (dv_put v f _ _ L (trips t).2.2.1 h (put38 m c t H _ fun j l => dv_old v _ _ (trips t).2.2.1 h j l))

/-- A buffer filled and then stored to in its first rows. -/
theorem canon_fill {M N W : ℕ} (hW : W ≤ M) {off : Fin 2 → ℕ} (hoff : off = ![0, 0]) (inb : ∀ a : Fin 2, off a + (![W, N] : Fin 2 → ℕ) a ≤ (![M, N] : Fin 2 → ℕ) a)
    (inb0 : ∀ a : Fin 2, (![0, 0] : Fin 2 → ℕ) a + (![M, N] : Fin 2 → ℕ) a ≤ (![M, N] : Fin 2 → ℕ) a) (x : (⟨2, ![W, N]⟩ : Shape).Idx → EReal) (z : (⟨2, ![M, N]⟩ : Shape).Idx → EReal) (s : Fin M) (l : Fin N) :
    View.canon (Val := Elt Ideal) (e := .f32) (⟨Rect.unit (s := ⟨2, ![M, N]⟩) off ![W, N] inb, x⟩ :: [⟨Rect.unit (s := ⟨2, ![M, N]⟩) ![0, 0] ![M, N] inb0, z⟩]) (ix2 s l)
      = if h : s.val < W then x (ix2 ⟨s.val, h⟩ l) else z (ix2 s l) := by
  subst hoff
  by_cases h : s.val < W
  · rw [dif_pos h]
    have e : (ix2 s l : (⟨2, ![M, N]⟩ : Shape).Idx) = (Rect.unit (s := ⟨2, ![M, N]⟩) ![0, 0] ![W, N] inb).emb (ix2 ⟨s.val, h⟩ l) := by
      funext a; refine Fin.ext ?_
      match a with
      | 0 => exact (by show s.val = 0 + 1 * s.val; omega)
      | 1 => exact (by show l.val = 0 + 1 * l.val; omega)
    rw [e, View.canon_cons_emb]
  · rw [dif_neg h]
    have e : (ix2 s l : (⟨2, ![M, N]⟩ : Shape).Idx) = (Rect.unit (s := ⟨2, ![M, N]⟩) ![0, 0] ![M, N] inb0).emb (ix2 s l) := by
      funext a; refine Fin.ext ?_
      match a with
      | 0 => exact (by show s.val = 0 + 1 * s.val; omega)
      | 1 => exact (by show l.val = 0 + 1 * l.val; omega)
    rw [View.canon_cons_of_not_mem]
    · exact (congrArg _ e).trans (View.canon_cons_emb ..)
    · rw [Rect.mem_set_unit]; intro hh; have h' : s.val < 0 + W := (hh 0).2; omega

theorem canon_zero {M N : ℕ} (inb0 : ∀ a : Fin 2, (![0, 0] : Fin 2 → ℕ) a + (![M, N] : Fin 2 → ℕ) a ≤ (![M, N] : Fin 2 → ℕ) a) (z : (⟨2, ![M, N]⟩ : Shape).Idx → EReal) (hz : ∀ s l, z (ix2 s l) = 0) (i : (⟨2, ![M, N]⟩ : Shape).Idx) :
    View.canon (Val := Elt Ideal) (e := .f32) [⟨Rect.unit (s := ⟨2, ![M, N]⟩) ![0, 0] ![M, N] inb0, z⟩] i = 0 := by
  have e : i = (Rect.unit (s := ⟨2, ![M, N]⟩) ![0, 0] ![M, N] inb0).emb i := by
    funext a; refine Fin.ext ?_
    match a with
    | 0 => exact (by show (i 0).val = 0 + 1 * (i 0).val; omega)
    | 1 => exact (by show (i 1).val = 0 + 1 * (i 1).val; omega)
  rw [e, View.canon_cons_emb]
  exact (congrArg z (show i = ix2 (i 0) (i 1) from by funext a; match a with | 0 => rfl | 1 => rfl)).trans (hz _ _)

theorem z12 (s : Fin 2048) (l : Fin 256) : (k0_pay12 : FVec Ideal S2048x256 .f32) (ix2 s l) = 0 := by pointwise [k0_pay12]
theorem z13 (s : Fin 2048) (l : Fin 128) : (k0_pay13 : FVec Ideal S2048x128 .f32) (ix2 s l) = 0 := by pointwise [k0_pay13]
theorem z26 : accI P qi 0 ((k0_pay26 : FVec Ideal S1024x128 .f32), (k0_pay27 (FloatOps.ofBits .f32 0#32) : FVec Ideal S1024x1 .f32)) :=
  ⟨fun r l => by rw [upto_zero]; pointwise [k0_pay26]; rfl, fun r => by rw [upto_zero]; pointwise [k0_pay27]; rfl⟩

include H in
theorem first0 (h0 : t.val % 4 = 0) : full0 (PT m c t) (512 * ((qT t).val + 1)) (View.canon ((⟨Rect.unit (s := S2048x256) (k0_off12 (grid0.coords t)) S512x256.size (k0_off12_inb (grid0.coords t)),
      k0_pay37 (w46 m c t) (w56 m c t) (w84 m c t) (wY m c t) (wV m c t) (View.ld (View.canon [⟨Rect.unit (s := S2048x256) ![0, 0] S2048x256.size inb_S2048x256_S2048x256_0_0, k0_pay12 (F := Ideal)⟩]) (Rect.unit (s := S2048x256) (k0_off12 (grid0.coords t)) S512x256.size (k0_off12_inb (grid0.coords t))))⟩ : View.Piece (Elt Ideal) S2048x256 .f32)
      :: [⟨Rect.unit (s := S2048x256) ![0, 0] S2048x256.size inb_S2048x256_S2048x256_0_0, k0_pay12 (F := Ideal)⟩])) := by
  have hz : (qT t).val = 0 := h0
  refine full0_of fun s l => ?_
  refine (canon_fill (by decide) ((trips t).2.2.2.1.trans (by rw [h0])) _ _ _ _ s l).trans ?_
  by_cases h : s.val < 512
  · rw [dif_pos h, if_pos (by omega)]
    refine (put37 m c t H _ (fun j l => ?_) _ _).trans ?_
    · rw [hz, upto_zero]; exact canon_zero _ _ z12 _
    · rw [show pos (qT t) ⟨s.val, h⟩ = s from Fin.ext (by show 512 * (qT t).val + s.val = s.val; omega)]
  · rw [dif_neg h, if_neg (by omega), z12, hz, upto_zero]; rfl
include H in
theorem first1 (h0 : t.val % 4 = 0) : full1 (PT m c t) (512 * ((qT t).val + 1)) (View.canon ((⟨Rect.unit (s := S2048x128) (k0_off9 (grid0.coords t)) S512x128.size (k0_off9_inb (grid0.coords t)),
      k0_pay38 (w46 m c t) (wY m c t) (View.ld (View.canon [⟨Rect.unit (s := S2048x128) ![0, 0] S2048x128.size inb_S2048x128_S2048x128_0_0, k0_pay13 (F := Ideal)⟩]) (Rect.unit (s := S2048x128) (k0_off9 (grid0.coords t)) S512x128.size (k0_off9_inb (grid0.coords t))))⟩ : View.Piece (Elt Ideal) S2048x128 .f32)
      :: [⟨Rect.unit (s := S2048x128) ![0, 0] S2048x128.size inb_S2048x128_S2048x128_0_0, k0_pay13 (F := Ideal)⟩])) := by
  have hz : (qT t).val = 0 := h0
  refine full1_of fun s l => ?_
  refine (canon_fill (by decide) ((trips t).2.2.1.trans (by rw [h0])) _ _ _ _ s l).trans ?_
  by_cases h : s.val < 512
  · rw [dif_pos h, if_pos (by omega)]
    refine (put38 m c t H _ (fun j l => ?_) _ _).trans ?_
    · rw [hz, upto_zero]; exact canon_zero _ _ z13 _
    · rw [show pos (qT t) ⟨s.val, h⟩ = s from Fin.ext (by show 512 * (qT t).val + s.val = s.val; omega)]
  · rw [dif_neg h, if_neg (by omega), z13, hz, upto_zero]; rfl

include H in
/-- The stored gradient of the queries and of their biases. -/
theorem out40 (a : FVec Ideal S1024x128 .f32 × FVec Ideal S1024x1 .f32) (ha : accI (PT m c t) (qT t) (512 * (qT t).val) a) (r : Fin 512) (l : Fin 128) :
    (k0_pay40 k0_pay14 (w46 m c t) (w84 m c t) a.1 (k0_pay34 (wK m c t)) (wY m c t) (wV m c t) : FVec Ideal S512x128 .bf16) (ix2 r l) = ((PT m c t (half l)).dq (pos (qT t) r) (dm l) : EReal) := by
  have hl := l.isLt
  have hq := (qT t).isLt
  let s : Fin 1024 := ⟨512 * (l.val / 64) + r.val, by omega⟩
  have es : side s = half l := Fin.ext (by show (512 * (l.val / 64) + r.val) / 512 = l.val / 64; omega)
  have er : rq s = r := Fin.ext (by show (512 * (l.val / 64) + r.val) % 512 = r.val; omega)
  have hK : ∀ j l, (k0_pay34 (wK m c t) : FVec Ideal S512x128 .bf16) (ix2 j l) = ((PT m c t (half l)).k (pos (qT t) j) (dm l) : EReal) := fun j l => by
    rw [← fK m c t H]; pointwise [k0_pay34]
  rw [p40 _ _ _ _ _ _ r l s rfl, ha.1, upd_q (PT m c t) (qT t) (qT t) _ (fD m c t H) _ hK, es, tq, er, ← EReal.coe_add, ← EReal.coe_mul, Head.dq]
  refine congrArg (fun z : ℝ => ((z * (1 / 8) : ℝ) : EReal)) ?_
  refine (upto_add (512 * (qT t).val) 512 (by omega) fun s => (PT m c t (half l)).ds (pos (qT t) r) s * (PT m c t (half l)).k s (dm l)).symm.trans (upto_eq _ _ fun s hs => ?_)
  rw [Head.ds_zero _ _ _ (by intro (hh : s.val ≤ 512 * (qT t).val + r.val); omega), zero_mul]
include H in
theorem out1 (a : FVec Ideal S1024x128 .f32 × FVec Ideal S1024x1 .f32) (ha : accI (PT m c t) (qT t) (512 * (qT t).val) a) (r : Fin 512) (l : Fin 128) :
    (k0_pay1 (k0_pay41 (w46 m c t) (w84 m c t) a.2 (wY m c t) (wV m c t)) (k0_pay42 (w46 m c t) (w84 m c t) a.2 (wY m c t) (wV m c t)) (k0_pay43 k0_pay14) : FVec Ideal S512x128 .f32) (ix2 r l)
      = ((PT m c t (half l)).drs (pos (qT t) r) : EReal) := by
  have hl := l.isLt
  have hq := (qT t).isLt
  let s : Fin 1024 := ⟨512 * (l.val / 64) + r.val, by omega⟩
  have es : side s = half l := Fin.ext (by show (512 * (l.val / 64) + r.val) / 512 = l.val / 64; omega)
  have er : rq s = r := Fin.ext (by show (512 * (l.val / 64) + r.val) % 512 = r.val; omega)
  rw [p1 _ _ _ _ _ r l s rfl, ha.2, upd_r (PT m c t) (qT t) (qT t) _ (fD m c t H), es, tq, er, ← EReal.coe_add, Head.drs]
  refine congrArg (fun z : ℝ => (z : EReal)) ?_
  refine (upto_add (512 * (qT t).val) 512 (by omega) fun s => (PT m c t (half l)).ds (pos (qT t) r) s).symm.trans (upto_eq _ _ fun s hs => ?_)
  exact Head.ds_zero _ _ _ (by intro (hh : s.val ≤ 512 * (qT t).val + r.val); omega)

end Cert.FoxValue
end
-- ==== Proof.FoxGrid.lean ====
/- The attention gradient's grid point by point: the accumulators after each, and the five result arrays. -/
module

public import proofs.«01_k».proof.Proof.FoxDiag

@[expose] public section

set_option maxRecDepth 16384

noncomputable section

namespace Cert.FoxValue

open Idealize.ShloMosaic Idealize.SL.Sem Cert.FoxIdeal Cert.FoxIdeal.Gen Cert.Common Cert.RealKit Cert.FoxSpec Cert.FoxHost Cert.FoxBlock Cert.FoxLoop Cert.FoxRefValue
open scoped BigOperators

variable (m : (ℓ : Loc nD τ sig) → Buf (Elt Ideal) ℓ) (c : Dev nD) (t : Fin cfg0.N) (H : Reals m c)

theorem p2 (x : Vec Ideal S2048x128 .f32) : (k0_pay2 x : FVec Ideal S2048x128 .bf16) = x := rfl
theorem p3 (x : Vec Ideal S2048x128 .f32) : (k0_pay3 x : FVec Ideal S2048x128 .bf16) = x := rfl
theorem DK_low (h1 : t.val % 4 = 3) (s : Fin 2048) (l : Fin 128) :
    ((upto (512 * ((qT t).val + 1)) fun i => DK (PT m c t) ⟨0 + l.val, by omega⟩ i ⟨0 + s.val, by omega⟩ : ℝ) : EReal) = ((PT m c t (half l)).dk s (dm l) : EReal) := by
  have hz : (qT t).val = 3 := h1
  rw [hz, show 512 * (3 + 1) = 2048 from rfl, upto_all, Head.dk]
  refine congrArg (fun z : ℝ => (z : EReal)) (Finset.sum_congr rfl fun i _ => ?_)
  unfold DK
  rw [dif_pos (by show 0 + l.val < 128; omega)]
  simp only [Nat.zero_add]
theorem DK_high (h1 : t.val % 4 = 3) (s : Fin 2048) (l : Fin 128) :
    ((upto (512 * ((qT t).val + 1)) fun i => DK (PT m c t) ⟨128 + l.val, by omega⟩ i ⟨0 + s.val, by omega⟩ : ℝ) : EReal) = ((PT m c t (half l)).dcs s : EReal) := by
  have hz : (qT t).val = 3 := h1
  rw [hz, show 512 * (3 + 1) = 2048 from rfl, upto_all, Head.dcs]
  refine congrArg (fun z : ℝ => (z : EReal)) (Finset.sum_congr rfl fun i _ => ?_)
  unfold DK
  rw [dif_neg (by show ¬ 128 + l.val < 128; omega)]
  simp only [Nat.zero_add, Nat.add_sub_cancel_left]
theorem DV_all (h1 : t.val % 4 = 3) (s : Fin 2048) (l : Fin 128) :
    ((upto (512 * ((qT t).val + 1)) fun i => DV (PT m c t) l i s : ℝ) : EReal) = ((PT m c t (half l)).dv s (dm l) : EReal) := by
  have hz : (qT t).val = 3 := h1
  rw [hz, show 512 * (3 + 1) = 2048 from rfl, upto_all, Head.dv]
  rfl

include H in
theorem sc0B (h0 : ¬ t.val % 4 = 0) (h1 : ¬ t.val % 4 = 3)
    (e0 : full0 (PT m c t) (512 * (qT t).val) (outsAt0 m c (t.val - 1) (Nat.lt_of_le_of_lt (Nat.sub_le _ _) t.isLt)).2.2.2.2.2.1) (e1 : full1 (PT m c t) (512 * (qT t).val) (outsAt0 m c (t.val - 1) (Nat.lt_of_le_of_lt (Nat.sub_le _ _) t.isLt)).2.2.2.2.2.2) : ∀ s l, (outsAt0 m c t.val t.isLt).2.2.2.2.2.1 (ix2 s l) = ((upto (512 * ((qT t).val + 1)) fun i => DK (PT m c t) l i s : ℝ) : EReal) := by
  intro s l
  rw [outsAt0_B m c t h0 h1]
  generalize (outsAt0 m c (t.val - 1) _).2.2.2.2.2.1 = g0 at e0 ⊢
  generalize (outsAt0 m c (t.val - 1) _).2.2.2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ _ _ _ _ _ _ _ _ _ _ _ _ _ _ = S
  have L : accI (PT m c t) (qT t) (512 * (k0_t1_loop (grid0.coords t)).trips) S.1
      ∧ dkI (PT m c t) (qT t) (512 * (k0_t1_loop (grid0.coords t)).trips) ((View.whole cc0_scratch0).read (Elt Ideal) ((View.whole cc0_scratch0).writes (Elt Ideal) (Memref.IsWhole.unread (Memref.isWhole_whole _) g0) S.2.1))
      ∧ dvI (PT m c t) (qT t) (512 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 ⟨2 * (t.val / 4 % 4), by omega⟩ ⟨2 * (t.val / 4 % 4) + 1, by omega⟩ (offs t) rfl (f38 m c t H) (f46 m c t H) (f56 m c t H) (f61 m c t H) (f66 m c t H) (f84 m c t H)
      (fun s l => (congrFun (Memref.IsWhole.read_unread _ _) _).trans (ib1 m c t H s l)) (fun s l => (congrFun (Memref.IsWhole.read_unread _ _) _).trans (ib2 m c t H s l))
      (fun s => (congrFun (Memref.IsWhole.read_unread _ _) _).trans (ib4 m c t H 0 s)) (fun s => (congrFun (Memref.IsWhole.read_unread _ _) _).trans (ib4 m c t H 1 s)) z26
      (by rw [Memref.IsWhole.read_unread]; exact start0 e0) (by rw [Memref.IsWhole.read_unread]; exact start1 e1) _ (le_of_eq (trips t).1)
  rw [(trips t).1] at L
  clear hS
  exact diag0 m c t H (View.whole cc0_scratch0) _ _ L.2.1 s l
include H in
theorem sc1B (h0 : ¬ t.val % 4 = 0) (h1 : ¬ t.val % 4 = 3)
    (e0 : full0 (PT m c t) (512 * (qT t).val) (outsAt0 m c (t.val - 1) (Nat.lt_of_le_of_lt (Nat.sub_le _ _) t.isLt)).2.2.2.2.2.1) (e1 : full1 (PT m c t) (512 * (qT t).val) (outsAt0 m c (t.val - 1) (Nat.lt_of_le_of_lt (Nat.sub_le _ _) t.isLt)).2.2.2.2.2.2) : ∀ s l, (outsAt0 m c t.val t.isLt).2.2.2.2.2.2 (ix2 s l) = ((upto (512 * ((qT t).val + 1)) fun i => DV (PT m c t) l i s : ℝ) : EReal) := by
  intro s l
  rw [outsAt0_B m c t h0 h1]
  generalize (outsAt0 m c (t.val - 1) _).2.2.2.2.2.1 = g0 at e0 ⊢
  generalize (outsAt0 m c (t.val - 1) _).2.2.2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ _ _ _ _ _ _ _ _ _ _ _ _ _ _ = S
  have L : accI (PT m c t) (qT t) (512 * (k0_t1_loop (grid0.coords t)).trips) S.1
      ∧ dkI (PT m c t) (qT t) (512 * (k0_t1_loop (grid0.coords t)).trips) ((View.whole cc0_scratch0).read (Elt Ideal) ((View.whole cc0_scratch0).writes (Elt Ideal) (Memref.IsWhole.unread (Memref.isWhole_whole _) g0) S.2.1))
      ∧ dvI (PT m c t) (qT t) (512 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 ⟨2 * (t.val / 4 % 4), by omega⟩ ⟨2 * (t.val / 4 % 4) + 1, by omega⟩ (offs t) rfl (f38 m c t H) (f46 m c t H) (f56 m c t H) (f61 m c t H) (f66 m c t H) (f84 m c t H)
      (fun s l => (congrFun (Memref.IsWhole.read_unread _ _) _).trans (ib1 m c t H s l)) (fun s l => (congrFun (Memref.IsWhole.read_unread _ _) _).trans (ib2 m c t H s l))
      (fun s => (congrFun (Memref.IsWhole.read_unread _ _) _).trans (ib4 m c t H 0 s)) (fun s => (congrFun (Memref.IsWhole.read_unread _ _) _).trans (ib4 m c t H 1 s)) z26
      (by rw [Memref.IsWhole.read_unread]; exact start0 e0) (by rw [Memref.IsWhole.read_unread]; exact start1 e1) _ (le_of_eq (trips t).1)
  rw [(trips t).1] at L
  clear hS
  exact diag1 m c t H (View.whole cc0_scratch1) _ _ L.2.2 s l
include H in
theorem dqB (h0 : ¬ t.val % 4 = 0) (h1 : ¬ t.val % 4 = 3)
    (e0 : full0 (PT m c t) (512 * (qT t).val) (outsAt0 m c (t.val - 1) (Nat.lt_of_le_of_lt (Nat.sub_le _ _) t.isLt)).2.2.2.2.2.1) (e1 : full1 (PT m c t) (512 * (qT t).val) (outsAt0 m c (t.val - 1) (Nat.lt_of_le_of_lt (Nat.sub_le _ _) t.isLt)).2.2.2.2.2.2) : ∀ r l, (outsAt0 m c t.val t.isLt).1 (ix2 r l) = ((PT m c t (half l)).dq (pos (qT t) r) (dm l) : EReal) := by
  intro r l
  rw [outsAt0_B m c t h0 h1]
  generalize (outsAt0 m c (t.val - 1) _).2.2.2.2.2.1 = g0 at e0 ⊢
  generalize (outsAt0 m c (t.val - 1) _).2.2.2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ _ _ _ _ _ _ _ _ _ _ _ _ _ _ = S
  have L : accI (PT m c t) (qT t) (512 * (k0_t1_loop (grid0.coords t)).trips) S.1
      ∧ dkI (PT m c t) (qT t) (512 * (k0_t1_loop (grid0.coords t)).trips) ((View.whole cc0_scratch0).read (Elt Ideal) ((View.whole cc0_scratch0).writes (Elt Ideal) (Memref.IsWhole.unread (Memref.isWhole_whole _) g0) S.2.1))
      ∧ dvI (PT m c t) (qT t) (512 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 ⟨2 * (t.val / 4 % 4), by omega⟩ ⟨2 * (t.val / 4 % 4) + 1, by omega⟩ (offs t) rfl (f38 m c t H) (f46 m c t H) (f56 m c t H) (f61 m c t H) (f66 m c t H) (f84 m c t H)
      (fun s l => (congrFun (Memref.IsWhole.read_unread _ _) _).trans (ib1 m c t H s l)) (fun s l => (congrFun (Memref.IsWhole.read_unread _ _) _).trans (ib2 m c t H s l))
      (fun s => (congrFun (Memref.IsWhole.read_unread _ _) _).trans (ib4 m c t H 0 s)) (fun s => (congrFun (Memref.IsWhole.read_unread _ _) _).trans (ib4 m c t H 1 s)) z26
      (by rw [Memref.IsWhole.read_unread]; exact start0 e0) (by rw [Memref.IsWhole.read_unread]; exact start1 e1) _ (le_of_eq (trips t).1)
  rw [(trips t).1] at L
  clear hS
  exact out40 m c t H S.1 L.1 r l
include H in
theorem drsB (h0 : ¬ t.val % 4 = 0) (h1 : ¬ t.val % 4 = 3)
    (e0 : full0 (PT m c t) (512 * (qT t).val) (outsAt0 m c (t.val - 1) (Nat.lt_of_le_of_lt (Nat.sub_le _ _) t.isLt)).2.2.2.2.2.1) (e1 : full1 (PT m c t) (512 * (qT t).val) (outsAt0 m c (t.val - 1) (Nat.lt_of_le_of_lt (Nat.sub_le _ _) t.isLt)).2.2.2.2.2.2) : ∀ r l, (outsAt0 m c t.val t.isLt).2.2.2.2.1 (ix2 r l) = ((PT m c t (half l)).drs (pos (qT t) r) : EReal) := by
  intro r l
  rw [outsAt0_B m c t h0 h1]
  generalize (outsAt0 m c (t.val - 1) _).2.2.2.2.2.1 = g0 at e0 ⊢
  generalize (outsAt0 m c (t.val - 1) _).2.2.2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ _ _ _ _ _ _ _ _ _ _ _ _ _ _ = S
  have L : accI (PT m c t) (qT t) (512 * (k0_t1_loop (grid0.coords t)).trips) S.1
      ∧ dkI (PT m c t) (qT t) (512 * (k0_t1_loop (grid0.coords t)).trips) ((View.whole cc0_scratch0).read (Elt Ideal) ((View.whole cc0_scratch0).writes (Elt Ideal) (Memref.IsWhole.unread (Memref.isWhole_whole _) g0) S.2.1))
      ∧ dvI (PT m c t) (qT t) (512 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 ⟨2 * (t.val / 4 % 4), by omega⟩ ⟨2 * (t.val / 4 % 4) + 1, by omega⟩ (offs t) rfl (f38 m c t H) (f46 m c t H) (f56 m c t H) (f61 m c t H) (f66 m c t H) (f84 m c t H)
      (fun s l => (congrFun (Memref.IsWhole.read_unread _ _) _).trans (ib1 m c t H s l)) (fun s l => (congrFun (Memref.IsWhole.read_unread _ _) _).trans (ib2 m c t H s l))
      (fun s => (congrFun (Memref.IsWhole.read_unread _ _) _).trans (ib4 m c t H 0 s)) (fun s => (congrFun (Memref.IsWhole.read_unread _ _) _).trans (ib4 m c t H 1 s)) z26
      (by rw [Memref.IsWhole.read_unread]; exact start0 e0) (by rw [Memref.IsWhole.read_unread]; exact start1 e1) _ (le_of_eq (trips t).1)
  rw [(trips t).1] at L
  clear hS
  exact out1 m c t H S.1 L.1 r l
include H in
theorem sc0C (h0 : ¬ t.val % 4 = 0) (h1 : t.val % 4 = 3)
    (e0 : full0 (PT m c t) (512 * (qT t).val) (outsAt0 m c (t.val - 1) (Nat.lt_of_le_of_lt (Nat.sub_le _ _) t.isLt)).2.2.2.2.2.1) (e1 : full1 (PT m c t) (512 * (qT t).val) (outsAt0 m c (t.val - 1) (Nat.lt_of_le_of_lt (Nat.sub_le _ _) t.isLt)).2.2.2.2.2.2) : ∀ s l, (outsAt0 m c t.val t.isLt).2.2.2.2.2.1 (ix2 s l) = ((upto (512 * ((qT t).val + 1)) fun i => DK (PT m c t) l i s : ℝ) : EReal) := by
  intro s l
  rw [outsAt0_C m c t h0 h1]
  generalize (outsAt0 m c (t.val - 1) _).2.2.2.2.2.1 = g0 at e0 ⊢
  generalize (outsAt0 m c (t.val - 1) _).2.2.2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ _ _ _ _ _ _ _ _ _ _ _ _ _ _ = S
  have L : accI (PT m c t) (qT t) (512 * (k0_t1_loop (grid0.coords t)).trips) S.1
      ∧ dkI (PT m c t) (qT t) (512 * (k0_t1_loop (grid0.coords t)).trips) ((View.whole cc0_scratch0).read (Elt Ideal) ((View.whole cc0_scratch0).writes (Elt Ideal) (Memref.IsWhole.unread (Memref.isWhole_whole _) g0) S.2.1))
      ∧ dvI (PT m c t) (qT t) (512 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 ⟨2 * (t.val / 4 % 4), by omega⟩ ⟨2 * (t.val / 4 % 4) + 1, by omega⟩ (offs t) rfl (f38 m c t H) (f46 m c t H) (f56 m c t H) (f61 m c t H) (f66 m c t H) (f84 m c t H)
      (fun s l => (congrFun (Memref.IsWhole.read_unread _ _) _).trans (ib1 m c t H s l)) (fun s l => (congrFun (Memref.IsWhole.read_unread _ _) _).trans (ib2 m c t H s l))
      (fun s => (congrFun (Memref.IsWhole.read_unread _ _) _).trans (ib4 m c t H 0 s)) (fun s => (congrFun (Memref.IsWhole.read_unread _ _) _).trans (ib4 m c t H 1 s)) z26
      (by rw [Memref.IsWhole.read_unread]; exact start0 e0) (by rw [Memref.IsWhole.read_unread]; exact start1 e1) _ (le_of_eq (trips t).1)
  rw [(trips t).1] at L
  clear hS
  exact diag0 m c t H (View.whole cc0_scratch0) _ _ L.2.1 s l
include H in
theorem sc1C (h0 : ¬ t.val % 4 = 0) (h1 : t.val % 4 = 3)
    (e0 : full0 (PT m c t) (512 * (qT t).val) (outsAt0 m c (t.val - 1) (Nat.lt_of_le_of_lt (Nat.sub_le _ _) t.isLt)).2.2.2.2.2.1) (e1 : full1 (PT m c t) (512 * (qT t).val) (outsAt0 m c (t.val - 1) (Nat.lt_of_le_of_lt (Nat.sub_le _ _) t.isLt)).2.2.2.2.2.2) : ∀ s l, (outsAt0 m c t.val t.isLt).2.2.2.2.2.2 (ix2 s l) = ((upto (512 * ((qT t).val + 1)) fun i => DV (PT m c t) l i s : ℝ) : EReal) := by
  intro s l
  rw [outsAt0_C m c t h0 h1]
  generalize (outsAt0 m c (t.val - 1) _).2.2.2.2.2.1 = g0 at e0 ⊢
  generalize (outsAt0 m c (t.val - 1) _).2.2.2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ _ _ _ _ _ _ _ _ _ _ _ _ _ _ = S
  have L : accI (PT m c t) (qT t) (512 * (k0_t1_loop (grid0.coords t)).trips) S.1
      ∧ dkI (PT m c t) (qT t) (512 * (k0_t1_loop (grid0.coords t)).trips) ((View.whole cc0_scratch0).read (Elt Ideal) ((View.whole cc0_scratch0).writes (Elt Ideal) (Memref.IsWhole.unread (Memref.isWhole_whole _) g0) S.2.1))
      ∧ dvI (PT m c t) (qT t) (512 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 ⟨2 * (t.val / 4 % 4), by omega⟩ ⟨2 * (t.val / 4 % 4) + 1, by omega⟩ (offs t) rfl (f38 m c t H) (f46 m c t H) (f56 m c t H) (f61 m c t H) (f66 m c t H) (f84 m c t H)
      (fun s l => (congrFun (Memref.IsWhole.read_unread _ _) _).trans (ib1 m c t H s l)) (fun s l => (congrFun (Memref.IsWhole.read_unread _ _) _).trans (ib2 m c t H s l))
      (fun s => (congrFun (Memref.IsWhole.read_unread _ _) _).trans (ib4 m c t H 0 s)) (fun s => (congrFun (Memref.IsWhole.read_unread _ _) _).trans (ib4 m c t H 1 s)) z26
      (by rw [Memref.IsWhole.read_unread]; exact start0 e0) (by rw [Memref.IsWhole.read_unread]; exact start1 e1) _ (le_of_eq (trips t).1)
  rw [(trips t).1] at L
  clear hS
  exact diag1 m c t H (View.whole cc0_scratch1) _ _ L.2.2 s l
include H in
theorem dqC (h0 : ¬ t.val % 4 = 0) (h1 : t.val % 4 = 3)
    (e0 : full0 (PT m c t) (512 * (qT t).val) (outsAt0 m c (t.val - 1) (Nat.lt_of_le_of_lt (Nat.sub_le _ _) t.isLt)).2.2.2.2.2.1) (e1 : full1 (PT m c t) (512 * (qT t).val) (outsAt0 m c (t.val - 1) (Nat.lt_of_le_of_lt (Nat.sub_le _ _) t.isLt)).2.2.2.2.2.2) : ∀ r l, (outsAt0 m c t.val t.isLt).1 (ix2 r l) = ((PT m c t (half l)).dq (pos (qT t) r) (dm l) : EReal) := by
  intro r l
  rw [outsAt0_C m c t h0 h1]
  generalize (outsAt0 m c (t.val - 1) _).2.2.2.2.2.1 = g0 at e0 ⊢
  generalize (outsAt0 m c (t.val - 1) _).2.2.2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ _ _ _ _ _ _ _ _ _ _ _ _ _ _ = S
  have L : accI (PT m c t) (qT t) (512 * (k0_t1_loop (grid0.coords t)).trips) S.1
      ∧ dkI (PT m c t) (qT t) (512 * (k0_t1_loop (grid0.coords t)).trips) ((View.whole cc0_scratch0).read (Elt Ideal) ((View.whole cc0_scratch0).writes (Elt Ideal) (Memref.IsWhole.unread (Memref.isWhole_whole _) g0) S.2.1))
      ∧ dvI (PT m c t) (qT t) (512 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 ⟨2 * (t.val / 4 % 4), by omega⟩ ⟨2 * (t.val / 4 % 4) + 1, by omega⟩ (offs t) rfl (f38 m c t H) (f46 m c t H) (f56 m c t H) (f61 m c t H) (f66 m c t H) (f84 m c t H)
      (fun s l => (congrFun (Memref.IsWhole.read_unread _ _) _).trans (ib1 m c t H s l)) (fun s l => (congrFun (Memref.IsWhole.read_unread _ _) _).trans (ib2 m c t H s l))
      (fun s => (congrFun (Memref.IsWhole.read_unread _ _) _).trans (ib4 m c t H 0 s)) (fun s => (congrFun (Memref.IsWhole.read_unread _ _) _).trans (ib4 m c t H 1 s)) z26
      (by rw [Memref.IsWhole.read_unread]; exact start0 e0) (by rw [Memref.IsWhole.read_unread]; exact start1 e1) _ (le_of_eq (trips t).1)
  rw [(trips t).1] at L
  clear hS
  exact out40 m c t H S.1 L.1 r l
include H in
theorem drsC (h0 : ¬ t.val % 4 = 0) (h1 : t.val % 4 = 3)
    (e0 : full0 (PT m c t) (512 * (qT t).val) (outsAt0 m c (t.val - 1) (Nat.lt_of_le_of_lt (Nat.sub_le _ _) t.isLt)).2.2.2.2.2.1) (e1 : full1 (PT m c t) (512 * (qT t).val) (outsAt0 m c (t.val - 1) (Nat.lt_of_le_of_lt (Nat.sub_le _ _) t.isLt)).2.2.2.2.2.2) : ∀ r l, (outsAt0 m c t.val t.isLt).2.2.2.2.1 (ix2 r l) = ((PT m c t (half l)).drs (pos (qT t) r) : EReal) := by
  intro r l
  rw [outsAt0_C m c t h0 h1]
  generalize (outsAt0 m c (t.val - 1) _).2.2.2.2.2.1 = g0 at e0 ⊢
  generalize (outsAt0 m c (t.val - 1) _).2.2.2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ _ _ _ _ _ _ _ _ _ _ _ _ _ _ = S
  have L : accI (PT m c t) (qT t) (512 * (k0_t1_loop (grid0.coords t)).trips) S.1
      ∧ dkI (PT m c t) (qT t) (512 * (k0_t1_loop (grid0.coords t)).trips) ((View.whole cc0_scratch0).read (Elt Ideal) ((View.whole cc0_scratch0).writes (Elt Ideal) (Memref.IsWhole.unread (Memref.isWhole_whole _) g0) S.2.1))
      ∧ dvI (PT m c t) (qT t) (512 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 ⟨2 * (t.val / 4 % 4), by omega⟩ ⟨2 * (t.val / 4 % 4) + 1, by omega⟩ (offs t) rfl (f38 m c t H) (f46 m c t H) (f56 m c t H) (f61 m c t H) (f66 m c t H) (f84 m c t H)
      (fun s l => (congrFun (Memref.IsWhole.read_unread _ _) _).trans (ib1 m c t H s l)) (fun s l => (congrFun (Memref.IsWhole.read_unread _ _) _).trans (ib2 m c t H s l))
      (fun s => (congrFun (Memref.IsWhole.read_unread _ _) _).trans (ib4 m c t H 0 s)) (fun s => (congrFun (Memref.IsWhole.read_unread _ _) _).trans (ib4 m c t H 1 s)) z26
      (by rw [Memref.IsWhole.read_unread]; exact start0 e0) (by rw [Memref.IsWhole.read_unread]; exact start1 e1) _ (le_of_eq (trips t).1)
  rw [(trips t).1] at L
  clear hS
  exact out1 m c t H S.1 L.1 r l
include H in
theorem dkC (h0 : ¬ t.val % 4 = 0) (h1 : t.val % 4 = 3)
    (e0 : full0 (PT m c t) (512 * (qT t).val) (outsAt0 m c (t.val - 1) (Nat.lt_of_le_of_lt (Nat.sub_le _ _) t.isLt)).2.2.2.2.2.1) (e1 : full1 (PT m c t) (512 * (qT t).val) (outsAt0 m c (t.val - 1) (Nat.lt_of_le_of_lt (Nat.sub_le _ _) t.isLt)).2.2.2.2.2.2) : ∀ s l, (outsAt0 m c t.val t.isLt).2.1 (ix2 s l) = ((PT m c t (half l)).dk s (dm l) : EReal) := by
  intro s l
  rw [outsAt0_C m c t h0 h1]
  generalize (outsAt0 m c (t.val - 1) _).2.2.2.2.2.1 = g0 at e0 ⊢
  generalize (outsAt0 m c (t.val - 1) _).2.2.2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ _ _ _ _ _ _ _ _ _ _ _ _ _ _ = S
  have L : accI (PT m c t) (qT t) (512 * (k0_t1_loop (grid0.coords t)).trips) S.1
      ∧ dkI (PT m c t) (qT t) (512 * (k0_t1_loop (grid0.coords t)).trips) ((View.whole cc0_scratch0).read (Elt Ideal) ((View.whole cc0_scratch0).writes (Elt Ideal) (Memref.IsWhole.unread (Memref.isWhole_whole _) g0) S.2.1))
      ∧ dvI (PT m c t) (qT t) (512 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 ⟨2 * (t.val / 4 % 4), by omega⟩ ⟨2 * (t.val / 4 % 4) + 1, by omega⟩ (offs t) rfl (f38 m c t H) (f46 m c t H) (f56 m c t H) (f61 m c t H) (f66 m c t H) (f84 m c t H)
      (fun s l => (congrFun (Memref.IsWhole.read_unread _ _) _).trans (ib1 m c t H s l)) (fun s l => (congrFun (Memref.IsWhole.read_unread _ _) _).trans (ib2 m c t H s l))
      (fun s => (congrFun (Memref.IsWhole.read_unread _ _) _).trans (ib4 m c t H 0 s)) (fun s => (congrFun (Memref.IsWhole.read_unread _ _) _).trans (ib4 m c t H 1 s)) z26
      (by rw [Memref.IsWhole.read_unread]; exact start0 e0) (by rw [Memref.IsWhole.read_unread]; exact start1 e1) _ (le_of_eq (trips t).1)
  rw [(trips t).1] at L
  clear hS
  refine (congrFun (p2 _) _).trans ((win (o1 := 0) (o2 := 0) _ _ rfl s l (by omega) (by omega)).trans ((diag0 m c t H (View.whole cc0_scratch0) _ _ L.2.1 _ _).trans ?_))
  exact DK_low m c t h1 s l
include H in
theorem dcsC (h0 : ¬ t.val % 4 = 0) (h1 : t.val % 4 = 3)
    (e0 : full0 (PT m c t) (512 * (qT t).val) (outsAt0 m c (t.val - 1) (Nat.lt_of_le_of_lt (Nat.sub_le _ _) t.isLt)).2.2.2.2.2.1) (e1 : full1 (PT m c t) (512 * (qT t).val) (outsAt0 m c (t.val - 1) (Nat.lt_of_le_of_lt (Nat.sub_le _ _) t.isLt)).2.2.2.2.2.2) : ∀ s l, (outsAt0 m c t.val t.isLt).2.2.2.1 (ix2 s l) = ((PT m c t (half l)).dcs s : EReal) := by
  intro s l
  rw [outsAt0_C m c t h0 h1]
  generalize (outsAt0 m c (t.val - 1) _).2.2.2.2.2.1 = g0 at e0 ⊢
  generalize (outsAt0 m c (t.val - 1) _).2.2.2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ _ _ _ _ _ _ _ _ _ _ _ _ _ _ = S
  have L : accI (PT m c t) (qT t) (512 * (k0_t1_loop (grid0.coords t)).trips) S.1
      ∧ dkI (PT m c t) (qT t) (512 * (k0_t1_loop (grid0.coords t)).trips) ((View.whole cc0_scratch0).read (Elt Ideal) ((View.whole cc0_scratch0).writes (Elt Ideal) (Memref.IsWhole.unread (Memref.isWhole_whole _) g0) S.2.1))
      ∧ dvI (PT m c t) (qT t) (512 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 ⟨2 * (t.val / 4 % 4), by omega⟩ ⟨2 * (t.val / 4 % 4) + 1, by omega⟩ (offs t) rfl (f38 m c t H) (f46 m c t H) (f56 m c t H) (f61 m c t H) (f66 m c t H) (f84 m c t H)
      (fun s l => (congrFun (Memref.IsWhole.read_unread _ _) _).trans (ib1 m c t H s l)) (fun s l => (congrFun (Memref.IsWhole.read_unread _ _) _).trans (ib2 m c t H s l))
      (fun s => (congrFun (Memref.IsWhole.read_unread _ _) _).trans (ib4 m c t H 0 s)) (fun s => (congrFun (Memref.IsWhole.read_unread _ _) _).trans (ib4 m c t H 1 s)) z26
      (by rw [Memref.IsWhole.read_unread]; exact start0 e0) (by rw [Memref.IsWhole.read_unread]; exact start1 e1) _ (le_of_eq (trips t).1)
  rw [(trips t).1] at L
  clear hS
  refine ((win (o1 := 0) (o2 := 128) _ _ rfl s l (by omega) (by omega)).trans ((diag0 m c t H (View.whole cc0_scratch0) _ _ L.2.1 _ _).trans ?_))
  exact DK_high m c t h1 s l
include H in
theorem dvC (h0 : ¬ t.val % 4 = 0) (h1 : t.val % 4 = 3)
    (e0 : full0 (PT m c t) (512 * (qT t).val) (outsAt0 m c (t.val - 1) (Nat.lt_of_le_of_lt (Nat.sub_le _ _) t.isLt)).2.2.2.2.2.1) (e1 : full1 (PT m c t) (512 * (qT t).val) (outsAt0 m c (t.val - 1) (Nat.lt_of_le_of_lt (Nat.sub_le _ _) t.isLt)).2.2.2.2.2.2) : ∀ s l, (outsAt0 m c t.val t.isLt).2.2.1 (ix2 s l) = ((PT m c t (half l)).dv s (dm l) : EReal) := by
  intro s l
  rw [outsAt0_C m c t h0 h1]
  generalize (outsAt0 m c (t.val - 1) _).2.2.2.2.2.1 = g0 at e0 ⊢
  generalize (outsAt0 m c (t.val - 1) _).2.2.2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ _ _ _ _ _ _ _ _ _ _ _ _ _ _ = S
  have L : accI (PT m c t) (qT t) (512 * (k0_t1_loop (grid0.coords t)).trips) S.1
      ∧ dkI (PT m c t) (qT t) (512 * (k0_t1_loop (grid0.coords t)).trips) ((View.whole cc0_scratch0).read (Elt Ideal) ((View.whole cc0_scratch0).writes (Elt Ideal) (Memref.IsWhole.unread (Memref.isWhole_whole _) g0) S.2.1))
      ∧ dvI (PT m c t) (qT t) (512 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 ⟨2 * (t.val / 4 % 4), by omega⟩ ⟨2 * (t.val / 4 % 4) + 1, by omega⟩ (offs t) rfl (f38 m c t H) (f46 m c t H) (f56 m c t H) (f61 m c t H) (f66 m c t H) (f84 m c t H)
      (fun s l => (congrFun (Memref.IsWhole.read_unread _ _) _).trans (ib1 m c t H s l)) (fun s l => (congrFun (Memref.IsWhole.read_unread _ _) _).trans (ib2 m c t H s l))
      (fun s => (congrFun (Memref.IsWhole.read_unread _ _) _).trans (ib4 m c t H 0 s)) (fun s => (congrFun (Memref.IsWhole.read_unread _ _) _).trans (ib4 m c t H 1 s)) z26
      (by rw [Memref.IsWhole.read_unread]; exact start0 e0) (by rw [Memref.IsWhole.read_unread]; exact start1 e1) _ (le_of_eq (trips t).1)
  rw [(trips t).1] at L
  clear hS
  refine (congrFun (p3 _) _).trans ((diag1 m c t H (View.whole cc0_scratch1) _ _ L.2.2 _ _).trans ?_)
  exact DV_all m c t h1 s l
theorem zA (h0 : t.val % 4 = 0) {P : Fin 2 → Head} : accI P (qT t) (512 * (qT t).val) ((k0_pay26 : FVec Ideal S1024x128 .f32), (k0_pay27 (FloatOps.ofBits .f32 0#32) : FVec Ideal S1024x1 .f32)) := by
  rw [show (qT t).val = 0 from h0]; exact z26

include H in
theorem sc0A (h0 : t.val % 4 = 0) (h1 : ¬ t.val % 4 = 3) : ∀ s l, (outsAt0 m c t.val t.isLt).2.2.2.2.2.1 (ix2 s l) = ((upto (512 * ((qT t).val + 1)) fun i => DK (PT m c t) l i s : ℝ) : EReal) := by
  intro s l
  rw [outsAt0_A m c t h0 h1]; frame_out
  rw [st2_zero (trips t).2.1, st1_zero ((trips t).1.trans h0)]
  exact first0 m c t H h0 s l
include H in
theorem sc1A (h0 : t.val % 4 = 0) (h1 : ¬ t.val % 4 = 3) : ∀ s l, (outsAt0 m c t.val t.isLt).2.2.2.2.2.2 (ix2 s l) = ((upto (512 * ((qT t).val + 1)) fun i => DV (PT m c t) l i s : ℝ) : EReal) := by
  intro s l
  rw [outsAt0_A m c t h0 h1]; frame_out
  rw [st2_zero (trips t).2.1, st1_zero ((trips t).1.trans h0)]
  exact first1 m c t H h0 s l
include H in
theorem dqA (h0 : t.val % 4 = 0) (h1 : ¬ t.val % 4 = 3) : ∀ r l, (outsAt0 m c t.val t.isLt).1 (ix2 r l) = ((PT m c t (half l)).dq (pos (qT t) r) (dm l) : EReal) := by
  intro r l
  rw [outsAt0_A m c t h0 h1]; frame_out
  rw [st2_zero (trips t).2.1, st1_zero ((trips t).1.trans h0)]
  exact out40 m c t H (_, _) (zA t h0) r l
include H in
theorem drsA (h0 : t.val % 4 = 0) (h1 : ¬ t.val % 4 = 3) : ∀ r l, (outsAt0 m c t.val t.isLt).2.2.2.2.1 (ix2 r l) = ((PT m c t (half l)).drs (pos (qT t) r) : EReal) := by
  intro r l
  rw [outsAt0_A m c t h0 h1]; frame_out
  rw [st2_zero (trips t).2.1, st1_zero ((trips t).1.trans h0)]
  exact out1 m c t H (_, _) (zA t h0) r l

end Cert.FoxValue
end
-- ==== Proof.FoxOut.lean ====
/- The attention gradient's kernel: the accumulators over the whole grid, and its five result arrays. -/
module

public import proofs.«01_k».proof.Proof.FoxGrid

@[expose] public section

set_option maxRecDepth 16384

noncomputable section

namespace Cert.FoxValue

open Idealize.ShloMosaic Idealize.SL.Sem Cert.FoxIdeal Cert.FoxIdeal.Gen Cert.Common Cert.RealKit Cert.FoxSpec Cert.FoxHost Cert.FoxBlock Cert.FoxLoop Cert.FoxRefValue
open scoped BigOperators

variable (m : (ℓ : Loc nD τ sig) → Buf (Elt Ideal) ℓ) (c : Dev nD) (t : Fin cfg0.N) (H : Reals m c)

theorem PP_congr {b b' hp hp' : ℕ} (e : b = b') (f : hp = hp') (h1 : b < 2) (h2 : hp < 4) (h1' : b' < 2) (h2' : hp' < 4) : PP m c b hp h1 h2 = PP m c b' hp' h1' h2' := by
  subst e; subst f; rfl

include H in
/-- The accumulators after each point. -/
theorem scratch : ∀ (n : ℕ) (h : n < cfg0.N), full0 (PT m c ⟨n, h⟩) (512 * ((qT ⟨n, h⟩).val + 1)) (outsAt0 m c n h).2.2.2.2.2.1
    ∧ full1 (PT m c ⟨n, h⟩) (512 * ((qT ⟨n, h⟩).val + 1)) (outsAt0 m c n h).2.2.2.2.2.2 := by
  intro n
  induction n using Nat.strong_induction_on with
  | _ n ih =>
    intro h
    have hN : n < 32 := lt_of_lt_of_eq h N_0
    by_cases h0 : n % 4 = 0
    · exact ⟨sc0A m c ⟨n, h⟩ H h0 (by show ¬ n % 4 = 3; omega), sc1A m c ⟨n, h⟩ H h0 (by show ¬ n % 4 = 3; omega)⟩
    · obtain ⟨i0, i1⟩ := ih (n - 1) (by omega) (Nat.lt_of_le_of_lt (Nat.sub_le _ _) h)
      have eP : PT m c ⟨n - 1, Nat.lt_of_le_of_lt (Nat.sub_le _ _) h⟩ = PT m c ⟨n, h⟩ :=
        PP_congr m c (by show (n - 1) / 16 = n / 16; omega) (by show (n - 1) / 4 % 4 = n / 4 % 4; omega) _ _ _ _
      have eq : (qT (⟨n - 1, Nat.lt_of_le_of_lt (Nat.sub_le _ _) h⟩ : Fin cfg0.N)).val + 1 = (qT (⟨n, h⟩ : Fin cfg0.N)).val := by
        show (n - 1) % 4 + 1 = n % 4; omega
      rw [eP, eq] at i0 i1
      by_cases h1 : n % 4 = 3
      · exact ⟨sc0C m c ⟨n, h⟩ H h0 h1 i0 i1, sc1C m c ⟨n, h⟩ H h0 h1 i0 i1⟩
      · exact ⟨sc0B m c ⟨n, h⟩ H h0 h1 i0 i1, sc1B m c ⟨n, h⟩ H h0 h1 i0 i1⟩

include H in
theorem before (h0 : ¬ t.val % 4 = 0) : full0 (PT m c t) (512 * (qT t).val) (outsAt0 m c (t.val - 1) (Nat.lt_of_le_of_lt (Nat.sub_le _ _) t.isLt)).2.2.2.2.2.1
    ∧ full1 (PT m c t) (512 * (qT t).val) (outsAt0 m c (t.val - 1) (Nat.lt_of_le_of_lt (Nat.sub_le _ _) t.isLt)).2.2.2.2.2.2 := by
  obtain ⟨i0, i1⟩ := scratch m c H (t.val - 1) (Nat.lt_of_le_of_lt (Nat.sub_le _ _) t.isLt)
  have ht := tlt t
  have eP : PT m c ⟨t.val - 1, Nat.lt_of_le_of_lt (Nat.sub_le _ _) t.isLt⟩ = PT m c t :=
    PP_congr m c (by show (t.val - 1) / 16 = t.val / 16; omega) (by show (t.val - 1) / 4 % 4 = t.val / 4 % 4; omega) _ _ _ _
  have eq : (qT (⟨t.val - 1, Nat.lt_of_le_of_lt (Nat.sub_le _ _) t.isLt⟩ : Fin cfg0.N)).val + 1 = (qT t).val := by
    show (t.val - 1) % 4 + 1 = t.val % 4; omega
  rw [eP, eq] at i0 i1
  exact ⟨i0, i1⟩

theorem emb8 (r : Fin 512) (l : Fin 128) : ((View.whole main_v58_0).slice (win0_8.rect t)).emb (ix2 r l) = ix2 (rowQ t r) (laneQ t l) := by blk_ext [idx t]
theorem emb9 (r : Fin 2048) (l : Fin 128) : ((View.whole main_v58_1).slice (win0_9.rect t)).emb (ix2 r l) = ix2 (rowK t r) (laneQ t l) := by blk_ext [idx t]
theorem emb10 (r : Fin 2048) (l : Fin 128) : ((View.whole main_v58_2).slice (win0_10.rect t)).emb (ix2 r l) = ix2 (rowK t r) (laneQ t l) := by blk_ext [idx t]
theorem emb11 (r : Fin 2048) (l : Fin 128) : ((View.whole main_v58_3).slice (win0_11.rect t)).emb (ix2 r l) = ix2 (rowK t r) (laneQ t l) := by blk_ext [idx t]
theorem emb12 (r : Fin 512) (l : Fin 128) : ((View.whole main_v58_4).slice (win0_12.rect t)).emb (ix2 r l) = ix2 (rowQ t r) (laneQ t l) := by blk_ext [idx t]

/-- The heads of a sequence. -/
abbrev HD (b : Fin 2) (h : Fin 8) : Head := hd (X0 m c) (X1 m c) (X2 m c) (X7 m c) (X3 m c) b h

theorem sp8 (y0 : Fin 512) (y1 : Fin 128) : ((PT m c t (half y1)).dq (pos (qT t) y0) (dm y1) : EReal) = spread (fun b h => (HD m c b h).dq) (ix2 (rowQ t y0) (laneQ t y1)) := by
  refine Eq.trans ?_ (show (((HD m c (seqOf (rowQ t y0)) (headOf (laneQ t y1))).dq (tokOf (rowQ t y0)) (dimOf (laneQ t y1)) : ℝ) : EReal) = _ from rfl)
  rw [sQ, tQ, hQ, dQ]
  rfl
include H in
theorem arr8 : (dats m 0 c).arrAt 8 cfg0.N = spread (fun b h => (HD m c b h).dq) := by
  refine (dats m 0 c).arrAt_eq_of_covers 8 _ (by decide +kernel) fun t hf y => ?_
  blk_simp
  rw [after0_8]
  have e : ∀ y : S512x128.Idx, (outsAt0 m c t.val t.isLt).1 y = spread (fun b h => (HD m c b h).dq) (((View.whole main_v58_0).slice (win0_8.rect t)).emb y) := by
    intro y
    idx_vars y
    erw [emb8]
    refine Eq.trans ?_ (sp8 m c t y0 y1)
    by_cases h0 : t.val % 4 = 0
    · exact dqA m c t H h0 (by omega) y0 y1
    · obtain ⟨i0, i1⟩ := before m c t H h0
      by_cases h1 : t.val % 4 = 3
      · exact dqC m c t H h0 h1 i0 i1 y0 y1
      · exact dqB m c t H h0 h1 i0 i1 y0 y1
  exact e y

theorem sp9 (y0 : Fin 2048) (y1 : Fin 128) : ((PT m c t (half y1)).dk y0 (dm y1) : EReal) = spread (fun b h => (HD m c b h).dk) (ix2 (rowK t y0) (laneQ t y1)) := by
  refine Eq.trans ?_ (show (((HD m c (seqOf (rowK t y0)) (headOf (laneQ t y1))).dk (tokOf (rowK t y0)) (dimOf (laneQ t y1)) : ℝ) : EReal) = _ from rfl)
  rw [sK, tK, hQ, dQ]
  rfl
include H in
theorem arr9 : (dats m 0 c).arrAt 9 cfg0.N = spread (fun b h => (HD m c b h).dk) := by
  refine (dats m 0 c).arrAt_eq_of_covers 9 _ (by decide +kernel) fun t hf y => ?_
  blk_simp
  rw [after0_9]
  have e : ∀ y : S2048x128.Idx, (outsAt0 m c t.val t.isLt).2.1 y = spread (fun b h => (HD m c b h).dk) (((View.whole main_v58_1).slice (win0_9.rect t)).emb y) := by
    intro y
    idx_vars y
    erw [emb9]
    refine Eq.trans ?_ (sp9 m c t y0 y1)
    have h1 := (flush0_9 t).mp hf
    obtain ⟨i0, i1⟩ := before m c t H (by omega)
    exact dkC m c t H (by omega) h1 i0 i1 y0 y1
  exact e y

theorem sp10 (y0 : Fin 2048) (y1 : Fin 128) : ((PT m c t (half y1)).dv y0 (dm y1) : EReal) = spread (fun b h => (HD m c b h).dv) (ix2 (rowK t y0) (laneQ t y1)) := by
  refine Eq.trans ?_ (show (((HD m c (seqOf (rowK t y0)) (headOf (laneQ t y1))).dv (tokOf (rowK t y0)) (dimOf (laneQ t y1)) : ℝ) : EReal) = _ from rfl)
  rw [sK, tK, hQ, dQ]
  rfl
include H in
theorem arr10 : (dats m 0 c).arrAt 10 cfg0.N = spread (fun b h => (HD m c b h).dv) := by
  refine (dats m 0 c).arrAt_eq_of_covers 10 _ (by decide +kernel) fun t hf y => ?_
  blk_simp
  rw [after0_10]
  have e : ∀ y : S2048x128.Idx, (outsAt0 m c t.val t.isLt).2.2.1 y = spread (fun b h => (HD m c b h).dv) (((View.whole main_v58_2).slice (win0_10.rect t)).emb y) := by
    intro y
    idx_vars y
    erw [emb10]
    refine Eq.trans ?_ (sp10 m c t y0 y1)
    have h1 := (flush0_10 t).mp hf
    obtain ⟨i0, i1⟩ := before m c t H (by omega)
    exact dvC m c t H (by omega) h1 i0 i1 y0 y1
  exact e y

theorem sp11 (y0 : Fin 2048) (y1 : Fin 128) : ((PT m c t (half y1)).dcs y0 : EReal) = spread (fun b h s _ => (HD m c b h).dcs s) (ix2 (rowK t y0) (laneQ t y1)) := by
  refine Eq.trans ?_ (show (((HD m c (seqOf (rowK t y0)) (headOf (laneQ t y1))).dcs (tokOf (rowK t y0)) : ℝ) : EReal) = _ from rfl)
  rw [sK, tK, hQ]
  rfl
include H in
theorem arr11 : (dats m 0 c).arrAt 11 cfg0.N = spread (fun b h s _ => (HD m c b h).dcs s) := by
  refine (dats m 0 c).arrAt_eq_of_covers 11 _ (by decide +kernel) fun t hf y => ?_
  blk_simp
  rw [after0_11]
  have e : ∀ y : S2048x128.Idx, (outsAt0 m c t.val t.isLt).2.2.2.1 y = spread (fun b h s _ => (HD m c b h).dcs s) (((View.whole main_v58_3).slice (win0_11.rect t)).emb y) := by
    intro y
    idx_vars y
    erw [emb11]
    refine Eq.trans ?_ (sp11 m c t y0 y1)
    have h1 := (flush0_11 t).mp hf
    obtain ⟨i0, i1⟩ := before m c t H (by omega)
    exact dcsC m c t H (by omega) h1 i0 i1 y0 y1
  exact e y

theorem sp12 (y0 : Fin 512) (y1 : Fin 128) : ((PT m c t (half y1)).drs (pos (qT t) y0) : EReal) = spread (fun b h t _ => (HD m c b h).drs t) (ix2 (rowQ t y0) (laneQ t y1)) := by
  refine Eq.trans ?_ (show (((HD m c (seqOf (rowQ t y0)) (headOf (laneQ t y1))).drs (tokOf (rowQ t y0)) : ℝ) : EReal) = _ from rfl)
  rw [sQ, tQ, hQ]
  rfl
include H in
theorem arr12 : (dats m 0 c).arrAt 12 cfg0.N = spread (fun b h t _ => (HD m c b h).drs t) := by
  refine (dats m 0 c).arrAt_eq_of_covers 12 _ (by decide +kernel) fun t hf y => ?_
  blk_simp
  rw [after0_12]
  have e : ∀ y : S512x128.Idx, (outsAt0 m c t.val t.isLt).2.2.2.2.1 y = spread (fun b h t _ => (HD m c b h).drs t) (((View.whole main_v58_4).slice (win0_12.rect t)).emb y) := by
    intro y
    idx_vars y
    erw [emb12]
    refine Eq.trans ?_ (sp12 m c t y0 y1)
    by_cases h0 : t.val % 4 = 0
    · exact drsA m c t H h0 (by omega) y0 y1
    · obtain ⟨i0, i1⟩ := before m c t H h0
      by_cases h1 : t.val % 4 = 3
      · exact drsC m c t H h0 h1 i0 i1 y0 y1
      · exact drsB m c t H h0 h1 i0 i1 y0 y1
  exact e y

end Cert.FoxValue
end
-- ==== Proof.FoxClaim.lean ====
/- The five claims of the attention gradient. -/
module

public import proofs.«01_k».proof.Defs
public import proofs.«01_k».proof.Proof.Gen.Fox.Frame
public import proofs.«01_k».proof.Proof.FoxOut

@[expose] public section

noncomputable section

namespace Cert.Proof.Fox

open Idealize.ShloMosaic Idealize.SL.Sem Cert.Common Cert.RealKit Cert.FoxSpec Cert.FoxHost Cert.FoxRefValue Cert.FoxValue

theorem preFacts : Cert.Pre_fox_finite.Facts := by constructor <;> decide

theorem frameP : Cert.quiescent_Fox (hFox := Cert.Fox.Gen.facts) := fun m ρ _ => Cert.Fox.Gen.frame m ρ
theorem frameI : Cert.quiescent_FoxIdeal (hFoxIdeal := Cert.FoxIdeal.Gen.facts) := fun m ρ _ => Cert.FoxIdeal.Gen.frame m ρ
theorem frameI' : Cert.quiescent_FoxIdeal_pre_fox_finite (hFoxIdeal := Cert.FoxIdeal.Gen.facts) (hPre_fox_finite := preFacts) := fun m ρ _ => Cert.FoxIdeal.Gen.frame m ρ
theorem frameR : Cert.quiescent_FoxRefIdeal (hFoxRefIdeal := Cert.FoxRefIdeal.Gen.facts) := fun m ρ _ =>
  (θ_run Cert.FoxRefIdeal.defs _ _).mono (fun r h => ⟨fun c => (h c).2.2.2.2.2, sem_eq_zero_of_no_sems (by decide) r.2⟩) (Cert.FoxRefIdeal.Value.run (F := Ideal) m ρ)
theorem frameR' : Cert.quiescent_FoxRefIdeal_pre_fox_finite (hFoxRefIdeal := Cert.FoxRefIdeal.Gen.facts) (hPre_fox_finite := preFacts) := fun m ρ _ =>
  (θ_run Cert.FoxRefIdeal.defs _ _).mono (fun r h => ⟨fun c => (h c).2.2.2.2.2, sem_eq_zero_of_no_sems (by decide) r.2⟩) (Cert.FoxRefIdeal.Value.run (F := Ideal) m ρ)
theorem preserves : Cert.preserves_Fox_FoxIdeal := trivial

/-- The precondition says that the arguments' entries are real numbers. -/
theorem reals (m : (ℓ : Loc Cert.FoxIdeal.nD Cert.FoxIdeal.τ Cert.FoxIdeal.sig) → Buf (Elt Ideal) ℓ) (h : Cert.Pre_FoxIdeal_fox_finite (hPre_fox_finite := preFacts) m) (c : Dev Cert.FoxIdeal.nD) : Reals m c := by
  obtain ⟨h0, h1, h2, h3, h7⟩ := h c
  exact ⟨fun i => real_of_lt (congrFun h0 i), fun i => real_of_lt (congrFun h1 i), fun i => real_of_lt (congrFun h2 i),
    fun i => real_of_lt (congrFun h3 i), fun i => real_of_lt (congrFun h7 i)⟩

theorem algebraic : Cert.algebraic_FoxIdeal_FoxRefIdeal_pre_fox_finite (hFoxIdeal := Cert.FoxIdeal.Gen.facts) (hFoxRefIdeal := Cert.FoxRefIdeal.Gen.facts) (hPre_fox_finite := preFacts) := by
  intro m ρ m' ρ' hp hag
  have H := reals m hp
  refine ⟨fun c => spread (fun b h => (HD m c b h).dq), fun c => spread (fun b h => (HD m c b h).dk), fun c => spread (fun b h => (HD m c b h).dv),
    fun c => spread (fun b h s _ => (HD m c b h).dcs s), fun c => spread (fun b h t _ => (HD m c b h).drs t), ?_, ?_⟩
  · refine (θ_run _ _ _).mono (fun r h c => ?_) (Cert.FoxIdeal.Value.run_blocks m ρ)
    obtain ⟨h0, h1, h2, h3, h4, hr⟩ := h c
    exact ⟨h0.trans (arr8 m c (H c)), h1.trans (arr9 m c (H c)), h2.trans (arr10 m c (H c)), h3.trans (arr11 m c (H c)), h4.trans (arr12 m c (H c)), hr⟩
  · refine (θ_run _ _ _).mono (fun r h c => ?_) (Cert.FoxRefIdeal.Value.run m' ρ')
    obtain ⟨h0, h1, h2, h3, h4, hr⟩ := h c
    obtain ⟨a0, a1, a2, a3, a4, a5, a6, a7⟩ := hag c
    obtain ⟨H0, H1, H2, H3, H7⟩ := H c
    have e0 : (m' ((c.tc : Thread Cert.FoxRefIdeal.nD Cert.FoxRefIdeal.τ).loc Cert.FoxRefIdeal.main_arg0) : M3 2 2048 512) = X0 m c := a0
    have e1 : (m' ((c.tc : Thread Cert.FoxRefIdeal.nD Cert.FoxRefIdeal.τ).loc Cert.FoxRefIdeal.main_arg1) : M3 2 2048 512) = X1 m c := a1
    have e2 : (m' ((c.tc : Thread Cert.FoxRefIdeal.nD Cert.FoxRefIdeal.τ).loc Cert.FoxRefIdeal.main_arg2) : M3 2 2048 512) = X2 m c := a2
    have e3 : (m' ((c.tc : Thread Cert.FoxRefIdeal.nD Cert.FoxRefIdeal.τ).loc Cert.FoxRefIdeal.main_arg3) : M3 2 8 2048) = X3 m c := a3
    have e7 : (m' ((c.tc : Thread Cert.FoxRefIdeal.nD Cert.FoxRefIdeal.τ).loc Cert.FoxRefIdeal.main_arg7) : M3 2 2048 512) = X7 m c := a7
    refine ⟨h0.trans ?_, h1.trans ?_, h2.trans ?_, h3.trans ?_, h4.trans ?_, hr⟩
    · refine (Cert.FoxRefIdeal.Read.val_main_v91_eq ..).trans ?_
      rw [e0, e1, e2, e3, e7]; exact r91 _ _ _ _ _ H0 H1 H2 H3 H7
    · refine (Cert.FoxRefIdeal.Read.val_main_v93_eq ..).trans ?_
      rw [e0, e1, e2, e3, e7]; exact r93 _ _ _ _ _ H0 H1 H2 H3 H7
    · refine (Cert.FoxRefIdeal.Read.val_main_v95_eq ..).trans ?_
      rw [e0, e1, e3, e7]; exact r95 _ _ (X2 m c) _ _ H0 H1 H3 H7
    · refine (Cert.FoxRefIdeal.Read.val_main_v100_eq ..).trans ?_
      rw [e0, e1, e2, e3, e7]; exact r100 _ _ _ _ _ H0 H1 H2 H3 H7
    · refine (Cert.FoxRefIdeal.Read.val_main_v104_eq ..).trans ?_
      rw [e0, e1, e2, e3, e7]; exact r104 _ _ _ _ _ H0 H1 H2 H3 H7

end Cert.Proof.Fox
end
-- ==== Proof.SbSpec.lean ====
/- Strictly causal stick-breaking attention of one head and its gradient, over the real numbers. -/
module

public import proofs.«01_k».proof.Proof.FoxSpec

@[expose] public section

noncomputable section

namespace Cert.SbSpec

open Cert.RealKit
open scoped BigOperators

/-- The logarithm of the logistic function at `-z`, and at `z`. -/
def nl (z : ℝ) : ℝ := min (-z) 0 - Real.log (1 + Real.exp (-|z|))
def pl (z : ℝ) : ℝ := nl z + z

/-- One head of one sequence: queries, keys, values and the cotangent of the output. -/
structure Head where
  q : Fin 2048 → Fin 64 → ℝ
  k : Fin 2048 → Fin 64 → ℝ
  v : Fin 2048 → Fin 64 → ℝ
  g : Fin 2048 → Fin 64 → ℝ

namespace Head
variable (H : Head)

/-- The logit of query `t` and key `s`. -/
def z (t s : Fin 2048) : ℝ := (∑ d, H.q t d * H.k s d) * (1 / 8)
/-- The logarithm of what a key before the query leaves of the stick. -/
def ln (t s : Fin 2048) : ℝ := if s < t then nl (H.z t s) else 0
/-- What the keys after `s` leave of it. -/
def tail (t s : Fin 2048) : ℝ := ∑ j, if s < j then H.ln t j else 0
/-- The attention weight. -/
def w (t s : Fin 2048) : ℝ := if s < t then Real.exp (pl (H.z t s) + H.tail t s) else 0
/-- The cotangent of the weights, and its product with them. -/
def dw (t s : Fin 2048) : ℝ := ∑ d, H.g t d * H.v s d
def e (t s : Fin 2048) : ℝ := H.w t s * H.dw t s
/-- Its sum over the keys before `s`: the cotangent of what key `s` leaves. -/
def pre (t s : Fin 2048) : ℝ := ∑ j, if j < s then H.e t j else 0
/-- The cotangent of the logits. -/
def dz (t s : Fin 2048) : ℝ := if s < t then H.e t s * Real.exp (nl (H.z t s)) - Real.exp (pl (H.z t s)) * H.pre t s else 0
def dq (t : Fin 2048) (d : Fin 64) : ℝ := (∑ s, H.dz t s * H.k s d) * (1 / 8)
def dk (s : Fin 2048) (d : Fin 64) : ℝ := ∑ t, H.dz t s * (H.q t d * (1 / 8))
def dv (s : Fin 2048) (d : Fin 64) : ℝ := ∑ t, H.w t s * H.g t d

theorem ln_zero {t s : Fin 2048} (h : ¬ s < t) : H.ln t s = 0 := if_neg h
theorem w_zero {t s : Fin 2048} (h : ¬ s < t) : H.w t s = 0 := if_neg h
theorem e_zero {t s : Fin 2048} (h : ¬ s < t) : H.e t s = 0 := by rw [e, w_zero H h, zero_mul]
theorem dz_zero {t s : Fin 2048} (h : ¬ s < t) : H.dz t s = 0 := if_neg h

end Head

/-- The sum after position `n + l` from the whole sum, the sum before `n`, and the block of 256 at `n`. -/
theorem after_block (n : ℕ) (hn : n + 256 ≤ 2048) (f : Fin 2048 → ℝ) (l : Fin 256) :
    (∑ j, if (⟨n + l.val, by omega⟩ : Fin 2048) < j then f j else 0)
      = (∑ j : Fin 256, f ⟨n + j.val, by omega⟩ * (if l.val < j.val then 1 else 0)) + ((∑ j, f j) - upto n f - ∑ j : Fin 256, f ⟨n + j.val, by omega⟩) := by
  have hl := l.isLt
  have h1 := upto_add n 256 hn f
  have h2 := upto_add n 256 hn fun j => if n + l.val < j.val then f j else 0
  have h3 : upto n (fun j => if n + l.val < j.val then f j else 0) = 0 :=
    Finset.sum_eq_zero fun s _ => by dsimp only; split_ifs <;> first | rfl | omega
  have h4 : (∑ j, f j) = upto (n + 256) f + ∑ j : Fin 2048, if n + 256 ≤ j.val then f j else 0 := by
    rw [upto, ← Finset.sum_add_distrib]
    refine Finset.sum_congr rfl fun s _ => ?_
    split_ifs <;> first | omega | simp
  have h5 : (∑ j, if (⟨n + l.val, by omega⟩ : Fin 2048) < j then f j else 0)
      = upto (n + 256) (fun j => if n + l.val < j.val then f j else 0) + ∑ j : Fin 2048, if n + 256 ≤ j.val then f j else 0 := by
    rw [upto, ← Finset.sum_add_distrib]
    refine Finset.sum_congr rfl fun s _ => ?_
    simp only [Fin.lt_def]
    split_ifs <;> first | omega | simp
  have h6 : (∑ j : Fin 256, if n + l.val < (⟨n + j.val, by omega⟩ : Fin 2048).val then f ⟨n + j.val, by omega⟩ else 0)
      = ∑ j : Fin 256, f ⟨n + j.val, by omega⟩ * (if l.val < j.val then 1 else 0) := by
    refine Finset.sum_congr rfl fun j _ => ?_
    dsimp only
    split_ifs <;> first | omega | simp
  rw [h5, h2, h3, h6, h4, h1]; ring

/-- The sum before position `n + l` from the sum before `n` and the block of 256 at `n`. -/
theorem before_block (n : ℕ) (hn : n + 256 ≤ 2048) (f : Fin 2048 → ℝ) (l : Fin 256) :
    (∑ j, if j < (⟨n + l.val, by omega⟩ : Fin 2048) then f j else 0) = (∑ j : Fin 256, f ⟨n + j.val, by omega⟩ * (if j.val < l.val then 1 else 0)) + upto n f := by
  have hl := l.isLt
  have h2 := upto_add n 256 hn fun j => if j.val < n + l.val then f j else 0
  have h3 : upto n (fun j => if j.val < n + l.val then f j else 0) = upto n f :=
    Finset.sum_congr rfl fun s _ => by dsimp only; split_ifs <;> first | rfl | omega
  have h5 : (∑ j, if j < (⟨n + l.val, by omega⟩ : Fin 2048) then f j else 0) = upto (n + 256) (fun j => if j.val < n + l.val then f j else 0) := by
    rw [upto]
    refine Finset.sum_congr rfl fun s _ => ?_
    simp only [Fin.lt_def]
    split_ifs <;> first | omega | rfl
  have h6 : (∑ j : Fin 256, if (⟨n + j.val, by omega⟩ : Fin 2048).val < n + l.val then f ⟨n + j.val, by omega⟩ else 0)
      = ∑ j : Fin 256, f ⟨n + j.val, by omega⟩ * (if j.val < l.val then 1 else 0) := by
    refine Finset.sum_congr rfl fun j _ => ?_
    dsimp only
    split_ifs <;> first | omega | simp
  rw [h5, h2, h3, h6, add_comm]

section Arrays
open Idealize.ShloMosaic Cert.Common Cert.FoxSpec

/-- The head `h` of sequence `b` of arrays over the extended reals. -/
def head (q k v g : M3 2 2048 512) (b : Fin 2) (h : Fin 8) : Head where
  q t d := (q (ix3 b t (lane h d))).toReal
  k t d := (k (ix3 b t (lane h d))).toReal
  v t d := (v (ix3 b t (lane h d))).toReal
  g t d := (g (ix3 b t (lane h d))).toReal

end Arrays

end Cert.SbSpec
end
-- ==== Proof.Window.lean ====
/- Running sums along the last axis of a four-dimensional array: a window sum that is padded on one side. -/
module

public import proofs.«01_k».proof.Proof.RealKit

@[expose] public section

noncomputable section

namespace Cert.Window

open Idealize.ShloMosaic Cert.Common Cert.RealKit
open scoped BigOperators

theorem foldl_sum {ι : Type} (l : List ι) (f : ι → EReal) (a : EReal) : l.foldl (fun r n => r + f n) a = a + (l.map f).sum := by
  induction l generalizing a with
  | nil => simp
  | cons n l ih => rw [List.foldl_cons, ih, List.map_cons, List.sum_cons, add_assoc]

variable {A B C N : ℕ}

/-- The position of a window that is one wide on the first three axes. -/
def at3 (N : ℕ) (l : Fin N) : (⟨4, ![1, 1, 1, N]⟩ : Shape).Idx := fun a => match a with
  | ⟨0, _⟩ => (⟨0, Nat.one_pos⟩ : Fin 1)
  | ⟨1, _⟩ => (⟨0, Nat.one_pos⟩ : Fin 1)
  | ⟨2, _⟩ => (⟨0, Nat.one_pos⟩ : Fin 1)
  | ⟨3, _⟩ => l

theorem at3_bij : Function.Bijective fun l : Fin N => (⟨4, ![1, 1, 1, N]⟩ : Shape).rowMajor (at3 N l) := by
  refine ⟨fun l l' h => ?_, fun n => ⟨(⟨4, ![1, 1, 1, N]⟩ : Shape).rowMajor.symm n 3, ?_⟩⟩
  · have := congrFun ((⟨4, ![1, 1, 1, N]⟩ : Shape).rowMajor.injective h) 3
    exact this
  · rw [← Equiv.eq_symm_apply]
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A window sum along the last axis, as a sum over the window's positions. -/
theorem window_sum {u : Shape} (lo hi : Fin 4 → ℕ) (x : FVec Ideal ⟨4, ![A, B, C, N]⟩ .f32) (init : u.Idx → EReal)
    (h : (⟨4, ![A, B, C, N]⟩ : Shape).ReduceWindows ![1, 1, 1, N] ![1, 1, 1, 1] lo hi ⟨4, ![A, B, C, N]⟩) (hu : 0 < u.numel)
    (hi0 : init (Shape.Idx.first hu) = 0) (j : (⟨4, ![A, B, C, N]⟩ : Shape).Idx) :
    (Host.reduceWindowAdd (![1, 1, 1, N] : Fin 4 → ℕ) ![1, 1, 1, 1] lo hi x init h hu : FVec Ideal ⟨4, ![A, B, C, N]⟩ .f32) j
      = ∑ l : Fin N, if hin : ∀ a : Fin 4, lo a ≤ (j a).val * ((![1, 1, 1, 1] : Fin 4 → ℕ) a) + (at3 N l a).val
          ∧ (j a).val * ((![1, 1, 1, 1] : Fin 4 → ℕ) a) + (at3 N l a).val - lo a < (![A, B, C, N] : Fin 4 → ℕ) a
        then (x (fun a => ⟨(j a).val * ((![1, 1, 1, 1] : Fin 4 → ℕ) a) + (at3 N l a).val - lo a, (hin a).2⟩) : EReal) else 0 := by
  refine (foldl_sum _ _ _).trans ?_
  rw [hi0, zero_add, ← List.ofFn_eq_map, List.sum_ofFn]
  refine (Function.Bijective.sum_comp at3_bij _).symm.trans ?_
  refine Finset.sum_congr rfl fun l _ => ?_
  dsimp only
  simp only [Equiv.symm_apply_apply]
  rfl

theorem sum_back (f : Fin N → EReal) (s : Fin N) :
    (∑ l : Fin N, if h : s.val + l.val < N then f ⟨s.val + l.val, h⟩ else 0) = ∑ j : Fin N, if s ≤ j then f j else 0 := by
  have hs := s.isLt
  rw [← Finset.sum_filter]
  refine Finset.sum_bij_ne_zero (fun l _ h => ⟨s.val + l.val, by by_contra hc; exact h (dif_neg hc)⟩) (fun l _ h => ?_) (fun l _ h l' _ h' e => ?_) (fun j hj h => ?_) (fun l _ h => ?_)
  · exact Finset.mem_filter.2 ⟨Finset.mem_univ _, Nat.le_add_right _ _⟩
  · have := congrArg Fin.val e; dsimp only at this; exact Fin.ext (by omega)
  · have hj' : s.val ≤ j.val := (Finset.mem_filter.1 hj).2
    have hjl := j.isLt
    have e : (⟨s.val + (j.val - s.val), by omega⟩ : Fin N) = j := Fin.ext (by show s.val + (j.val - s.val) = j.val; omega)
    have e' : s.val + (j.val - s.val) < N := by omega
    refine ⟨⟨j.val - s.val, by omega⟩, Finset.mem_univ _, ?_, e⟩
    dsimp only
    rw [dif_pos e', e]; exact h
  · exact dif_pos _

theorem sum_front (f : Fin N → EReal) (s : Fin N) :
    (∑ l : Fin N, if h : N - 1 ≤ s.val + l.val then f ⟨s.val + l.val - (N - 1), by omega⟩ else 0) = ∑ j : Fin N, if j ≤ s then f j else 0 := by
  have hs := s.isLt
  rw [← Finset.sum_filter]
  refine Finset.sum_bij_ne_zero (fun l _ h => ⟨s.val + l.val - (N - 1), by omega⟩) (fun l _ h => ?_) (fun l _ h l' _ h' e => ?_) (fun j hj h => ?_) (fun l _ h => ?_)
  · have := l.isLt
    exact Finset.mem_filter.2 ⟨Finset.mem_univ _, show s.val + l.val - (N - 1) ≤ s.val by omega⟩
  · have := congrArg Fin.val e; dsimp only at this
    have h1 : N - 1 ≤ s.val + l.val := by by_contra hc; exact h (dif_neg hc)
    have h2 : N - 1 ≤ s.val + l'.val := by by_contra hc; exact h' (dif_neg hc)
    exact Fin.ext (by omega)
  · have hj' : j.val ≤ s.val := (Finset.mem_filter.1 hj).2
    have e : (⟨s.val + (N - 1 + j.val - s.val) - (N - 1), by omega⟩ : Fin N) = j := Fin.ext (by show s.val + (N - 1 + j.val - s.val) - (N - 1) = j.val; omega)
    have e' : N - 1 ≤ s.val + (N - 1 + j.val - s.val) := by omega
    refine ⟨⟨N - 1 + j.val - s.val, by omega⟩, Finset.mem_univ _, ?_, e⟩
    dsimp only
    rw [dif_pos e', e]; exact h
  · exact dif_pos (by by_contra hc; exact h (dif_neg hc))

/-- The running sum from the end. -/
theorem from_end {u : Shape} (x : FVec Ideal ⟨4, ![A, B, C, N]⟩ .f32) (init : u.Idx → EReal) (m : ℕ)
    (h : (⟨4, ![A, B, C, N]⟩ : Shape).ReduceWindows ![1, 1, 1, N] ![1, 1, 1, 1] ![0, 0, 0, 0] ![0, 0, 0, m] ⟨4, ![A, B, C, N]⟩) (hu : 0 < u.numel)
    (hi0 : init (Shape.Idx.first hu) = 0) (a : Fin A) (b : Fin B) (c : Fin C) (s : Fin N) :
    (Host.reduceWindowAdd (![1, 1, 1, N] : Fin 4 → ℕ) ![1, 1, 1, 1] ![0, 0, 0, 0] ![0, 0, 0, m] x init h hu : FVec Ideal ⟨4, ![A, B, C, N]⟩ .f32) (ix4 a b c s)
      = ∑ j : Fin N, if s ≤ j then (x (ix4 a b c j) : EReal) else 0 := by
  refine (window_sum _ _ x init h hu hi0 _).trans ((Finset.sum_congr rfl fun l _ => ?_).trans (sum_back (fun j => (x (ix4 a b c j) : EReal)) s))
  have h0 := a.isLt
  have h1 := b.isLt
  have h2 := c.isLt
  by_cases hl : s.val + l.val < N
  · rw [dif_pos hl, dif_pos]
    · refine congrArg x (funext fun i => Fin.ext ?_)
      match i with
      | ⟨0, _⟩ => show a.val * 1 + 0 - 0 = a.val; omega
      | ⟨1, _⟩ => show b.val * 1 + 0 - 0 = b.val; omega
      | ⟨2, _⟩ => show c.val * 1 + 0 - 0 = c.val; omega
      | ⟨3, _⟩ => show s.val * 1 + l.val - 0 = s.val + l.val; omega
    · intro i
      match i with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show 0 ≤ c.val * 1 + 0 ∧ c.val * 1 + 0 - 0 < C; omega
      | ⟨3, _⟩ => show 0 ≤ s.val * 1 + l.val ∧ s.val * 1 + l.val - 0 < N; omega
  · rw [dif_neg hl, dif_neg]
    intro hc
    have := (hc 3).2
    change s.val * 1 + l.val - 0 < N at this
    omega

/-- The running sum from the beginning. -/
theorem from_start {u : Shape} (x : FVec Ideal ⟨4, ![A, B, C, N]⟩ .f32) (init : u.Idx → EReal) (m : ℕ) (hm : m = N - 1)
    (h : (⟨4, ![A, B, C, N]⟩ : Shape).ReduceWindows ![1, 1, 1, N] ![1, 1, 1, 1] ![0, 0, 0, m] ![0, 0, 0, 0] ⟨4, ![A, B, C, N]⟩) (hu : 0 < u.numel)
    (hi0 : init (Shape.Idx.first hu) = 0) (a : Fin A) (b : Fin B) (c : Fin C) (s : Fin N) :
    (Host.reduceWindowAdd (![1, 1, 1, N] : Fin 4 → ℕ) ![1, 1, 1, 1] ![0, 0, 0, m] ![0, 0, 0, 0] x init h hu : FVec Ideal ⟨4, ![A, B, C, N]⟩ .f32) (ix4 a b c s)
      = ∑ j : Fin N, if j ≤ s then (x (ix4 a b c j) : EReal) else 0 := by
  subst hm
  refine (window_sum _ _ x init h hu hi0 _).trans ((Finset.sum_congr rfl fun l _ => ?_).trans (sum_front (fun j => (x (ix4 a b c j) : EReal)) s))
  have h0 := a.isLt
  have h1 := b.isLt
  have h2 := c.isLt
  have h3 := s.isLt
  have h4 := l.isLt
  by_cases hl : N - 1 ≤ s.val + l.val
  · rw [dif_pos hl, dif_pos]
    · refine congrArg x (funext fun i => Fin.ext ?_)
      match i with
      | ⟨0, _⟩ => show a.val * 1 + 0 - 0 = a.val; omega
      | ⟨1, _⟩ => show b.val * 1 + 0 - 0 = b.val; omega
      | ⟨2, _⟩ => show c.val * 1 + 0 - 0 = c.val; omega
      | ⟨3, _⟩ => show s.val * 1 + l.val - (N - 1) = s.val + l.val - (N - 1); omega
    · intro i
      match i with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show 0 ≤ c.val * 1 + 0 ∧ c.val * 1 + 0 - 0 < C; omega
      | ⟨3, _⟩ => show N - 1 ≤ s.val * 1 + l.val ∧ s.val * 1 + l.val - (N - 1) < N; omega
  · rw [dif_neg hl, dif_neg]
    intro hc
    have := (hc 3).1
    change N - 1 ≤ s.val * 1 + l.val at this
    omega

end Cert.Window
end
-- ==== Proof.SbRefValue.lean ====
/- The reference's gradients of the stick-breaking attention, stage by stage, as real numbers. -/
module

public import proofs.«01_k».proof.Proof.SbSpec
public import proofs.«01_k».proof.Proof.Window
public import proofs.«01_k».proof.Proof.Gen.SbRefIdeal.Read

@[expose] public section

set_option maxRecDepth 16384

noncomputable section

namespace Cert.SbRefValue

open Idealize.ShloMosaic Idealize.SL.Sem Cert.SbRefIdeal Cert.SbRefIdeal.Gen Cert.SbRefIdeal.Read Cert.Common Cert.RealKit Cert.SbSpec
open Cert.FoxSpec (lane seqOf tokOf headOf dimOf spread)
open scoped BigOperators

/-- Every entry is a real number. -/
abbrev Real3 {a b c : ℕ} (x : M3 a b c) : Prop := ∀ i, x i = ((x i).toReal : EReal)

variable (x0 x1 x2 x6 : M3 2 2048 512) (b : Fin 2) (h : Fin 8)

/-- One head of the arguments. -/
abbrev hd : Head := head x0 x1 x2 x6 b h

theorem r_heads (x : M3 2 2048 512) (hx : Real3 x) (t : Fin 2048) (d : Fin 64) :
    (val_main_v1 (F := Ideal) x : FVec Ideal S2x8x2048x64 .f32) (ix4 b h t d) = ((x (ix3 b t (lane h d))).toReal : EReal) := by
  refine Eq.trans ?_ (hx (ix3 b t (lane h d)))
  pointwise [val_main_v1, val_main_v0]

theorem r1 (h0 : Real3 x0) (t : Fin 2048) (d : Fin 64) :
    (val_main_v1 (F := Ideal) x0 : FVec Ideal S2x8x2048x64 .f32) (ix4 b h t d) = ((hd x0 x1 x2 x6 b h).q t d : EReal) := r_heads b h x0 h0 t d

theorem r3 (h1 : Real3 x1) (t : Fin 2048) (d : Fin 64) :
    (val_main_v3 (F := Ideal) x1 : FVec Ideal S2x8x2048x64 .f32) (ix4 b h t d) = ((hd x0 x1 x2 x6 b h).k t d : EReal) := r_heads b h x1 h1 t d

theorem r5 (h2 : Real3 x2) (t : Fin 2048) (d : Fin 64) :
    (val_main_v5 (F := Ideal) x2 : FVec Ideal S2x8x2048x64 .f32) (ix4 b h t d) = ((hd x0 x1 x2 x6 b h).v t d : EReal) := r_heads b h x2 h2 t d

theorem r29 (h6 : Real3 x6) (t : Fin 2048) (d : Fin 64) :
    (val_main_v29 (F := Ideal) x6 : FVec Ideal S2x8x2048x64 .f32) (ix4 b h t d) = ((hd x0 x1 x2 x6 b h).g t d : EReal) := r_heads b h x6 h6 t d

theorem r8 (h0 : Real3 x0) (h1 : Real3 x1) (t s : Fin 2048) :
    (val_main_v8 (F := Ideal) x0 x1 : FVec Ideal S2x8x2048x2048 .f32) (ix4 b h t s) = ((hd x0 x1 x2 x6 b h).z t s : EReal) := by
  pointwise [val_main_v8, val_main_v7, val_main_v6, val_main_cst]
  simp only [r1 x0 x1 x2 x6 b h h0, r3 x0 x1 x2 x6 b h h1]
  rw [Head.z, EReal.coe_mul, ← coe_dot, ofBits_eighth]

theorem coe_max (x y : ℝ) : ((max x y : ℝ) : EReal) = max (x : EReal) (y : EReal) := EReal.coe_strictMono.monotone.map_max

/-- The softened maximum with zero, as the library computes it. -/
theorem soft (y : ℝ) : (if (y : EReal) ≠ y then (y : EReal) else max (y : EReal) 0 + Ideal.log1p (Ideal.exp (-FloatOps.absf (F := Ideal) (φ := .f32) (y : EReal))))
    = ((max y 0 + Real.log (1 + Real.exp (-|y|)) : ℝ) : EReal) := by
  rw [if_neg (by simp)]
  have e : (FloatOps.absf (F := Ideal) (φ := .f32) (y : EReal) : EReal) = ((|y| : ℝ) : EReal) := by
    show max (y : EReal) (-(y : EReal)) = _
    rw [← EReal.coe_neg, ← coe_max, abs_eq_max_neg]
  rw [e, ← EReal.coe_neg, Ideal.exp_coe]
  have e1 : Ideal.log1p ((Real.exp (-|y|) : ℝ) : EReal) = ((Real.log (1 + Real.exp (-|y|)) : ℝ) : EReal) := by
    show Ideal.log (1 + ((Real.exp (-|y|) : ℝ) : EReal)) = _
    rw [← EReal.coe_one, ← EReal.coe_add, Ideal.log_coe, if_neg (not_le.2 (by positivity))]
  rw [e1, ← EReal.coe_zero, ← coe_max, ← EReal.coe_add]

theorem soft_nl (z : ℝ) : max z 0 + Real.log (1 + Real.exp (-|z|)) = - nl z := by
  have : min (-z) 0 = - max z 0 := by rw [← neg_zero, min_neg_neg, neg_zero]
  rw [nl, this]; ring

theorem soft_pl (z : ℝ) : max (-z) 0 + Real.log (1 + Real.exp (-|(-z)|)) = - pl z := by
  have : max (-z) 0 = max z 0 - z := by
    rcases le_total z 0 with hz | hz
    · rw [max_eq_left (by linarith), max_eq_right hz]; ring
    · rw [max_eq_right (by linarith), max_eq_left hz]; ring
  have e := soft_nl z
  rw [pl, abs_neg, this]
  linarith

theorem r_s1 (h0 : Real3 x0) (h1 : Real3 x1) (t s : Fin 2048) :
    (val_main_call0_v1_0 (F := Ideal) x0 x1 : FVec Ideal S2x8x2048x2048 .f32) (ix4 b h t s) = ((-nl ((hd x0 x1 x2 x6 b h).z t s) : ℝ) : EReal) := by
  have e := r8 x0 x1 x2 x6 b h h0 h1 t s
  pointwise [val_main_call0_v1_0, val_main_call0_call0_v4, val_main_call0_call0_v3, val_main_call0_call0_v6, val_main_call0_call0_v5, val_main_call0_call0_v11, val_main_call0_call0_v10,
    val_main_call0_call0_v9, val_main_call0_call0_v8, val_main_call0_call0_v7, val_main_call0_call0_v1, val_main_call0_call0_v0, val_main_call0_call0_v2, val_main_call0_call0_cst, val_main_call0_v0, val_main_v16]
  rw [e, neg_neg, soft, soft_nl]

theorem r_s2 (h0 : Real3 x0) (h1 : Real3 x1) (t s : Fin 2048) :
    (val_main_call3_v1_0 (F := Ideal) x0 x1 : FVec Ideal S2x8x2048x2048 .f32) (ix4 b h t s) = ((-pl ((hd x0 x1 x2 x6 b h).z t s) : ℝ) : EReal) := by
  have e := r8 x0 x1 x2 x6 b h h0 h1 t s
  pointwise [val_main_call3_v1_0, val_main_call3_call0_v4, val_main_call3_call0_v3, val_main_call3_call0_v6, val_main_call3_call0_v5, val_main_call3_call0_v11, val_main_call3_call0_v10,
    val_main_call3_call0_v9, val_main_call3_call0_v8, val_main_call3_call0_v7, val_main_call3_call0_v1, val_main_call3_call0_v0, val_main_call3_call0_v2, val_main_call3_call0_cst, val_main_call3_v0]
  rw [e, ← EReal.coe_neg, soft, soft_pl]

/-- A real number is not the infinity it is compared with. -/
theorem sel_inf (y : ℝ) : (if (y : EReal) = Ideal.ofBits .f32 0x7F800000#32 then (0 : EReal) else y) = y :=
  if_neg (by rw [ofBits_inf]; exact EReal.coe_ne_top _)

theorem r17_1 (h0 : Real3 x0) (h1 : Real3 x1) (t s : Fin 2048) :
    (val_main_v17_1 (F := Ideal) x0 x1 : FVec Ideal S2x8x2048x2048 .f32) (ix4 b h t s) = ((Real.exp (pl ((hd x0 x1 x2 x6 b h).z t s)) : ℝ) : EReal) := by
  have e := r8 x0 x1 x2 x6 b h h0 h1 t s
  have e' := r_s1 x0 x1 x2 x6 b h h0 h1 t s
  pointwise [val_main_v17_1, val_main_call0_call0_v21, val_main_call0_call0_v20, val_main_call0_call0_v19, val_main_call0_call0_v18, val_main_call0_call0_v17, val_main_call0_call0_v16,
    val_main_call0_call0_v15, val_main_call0_call0_v14, val_main_call0_call0_v13, val_main_call0_call0_cst_0, val_main_call0_call0_cst_1, val_main_call0_call0_cst_2, val_main_call0_call0_cst_3, val_main_call0_v0, val_main_v16]
  rw [e, e', neg_neg, sel_inf, sel_inf, ← EReal.coe_sub, Ideal.exp_coe, pl]
  congr 2; ring

theorem r21_1 (h0 : Real3 x0) (h1 : Real3 x1) (t s : Fin 2048) :
    (val_main_v21_1 (F := Ideal) x0 x1 : FVec Ideal S2x8x2048x2048 .f32) (ix4 b h t s) = ((Real.exp (nl ((hd x0 x1 x2 x6 b h).z t s)) : ℝ) : EReal) := by
  have e := r8 x0 x1 x2 x6 b h h0 h1 t s
  have e' := r_s2 x0 x1 x2 x6 b h h0 h1 t s
  pointwise [val_main_v21_1, val_main_call3_call0_v21, val_main_call3_call0_v20, val_main_call3_call0_v19, val_main_call3_call0_v18, val_main_call3_call0_v17, val_main_call3_call0_v16,
    val_main_call3_call0_v15, val_main_call3_call0_v14, val_main_call3_call0_v13, val_main_call3_call0_cst_0, val_main_call3_call0_cst_1, val_main_call3_call0_cst_2, val_main_call3_call0_cst_3, val_main_call3_v0]
  rw [e, e', ← EReal.coe_neg, sel_inf, sel_inf, ← EReal.coe_sub, Ideal.exp_coe, pl]
  congr 2; ring

/-- A choice by the strict order of two token positions. -/
theorem select_lt {α : Type} (a b : ℕ) (ha : a < 2 ^ 31) (hb : b < 2 ^ 31) (x y : α) :
    Scalar.select (IntOp.cmpi .slt (BitVec.ofNat 32 a) (BitVec.ofNat 32 b)) x y = if a < b then x else y := by
  rw [Idealize.ShloMosaic.WordCmp.cmpi_slt_ofNat ha hb]
  by_cases h : a < b <;> simp [h, Scalar.select]

theorem r18 (h0 : Real3 x0) (h1 : Real3 x1) (t s : Fin 2048) :
    (val_main_v18_0 (F := Ideal) x0 x1 : FVec Ideal S2x8x2048x2048 .f32) (ix4 b h t s) = ((hd x0 x1 x2 x6 b h).ln t s : EReal) := by
  have e := r_s1 x0 x1 x2 x6 b h h0 h1 t s
  pointwise [val_main_v18_0, val_main_v18_1, val_main_v15, val_main_v14, val_main_v13, val_main_v12, val_main_v11, val_main_v10, val_main_v9, val_main_v17_0, val_main_call1_v2, val_main_call1_v0, val_main_cst_0]
  rw [select_lt _ _ (by omega) (by omega), e]
  show (if s.val < t.val then -((-nl ((hd x0 x1 x2 x6 b h).z t s) : ℝ) : EReal) else Ideal.ofBits .f32 0#32) = _
  rw [Head.ln, Ideal.ofBits_zero_f32]
  by_cases hst : s < t
  · rw [if_pos (Fin.lt_def.1 hst), if_pos hst, ← EReal.coe_neg, neg_neg]
  · rw [if_neg (fun hc => hst (Fin.lt_def.2 hc)), if_neg hst, EReal.coe_zero]

theorem r19 (h0 : Real3 x0) (h1 : Real3 x1) (t s : Fin 2048) :
    (val_main_v19 (F := Ideal) x0 x1 : FVec Ideal S2x8x2048x2048 .f32) (ix4 b h t s) = ((∑ j, if s ≤ j then (hd x0 x1 x2 x6 b h).ln t j else 0 : ℝ) : EReal) := by
  refine (Window.from_end (val_main_v18_0 (F := Ideal) x0 x1) (val_main_call2_v0 (F := Ideal)) 2047 _ _ (by pointwise [val_main_call2_v0, val_main_call2_cst]) b h t s).trans ?_
  rw [coe_sum]
  refine Finset.sum_congr rfl fun j _ => ?_
  rw [r18 x0 x1 x2 x6 b h h0 h1]
  by_cases hj : s ≤ j
  · rw [if_pos hj, if_pos hj]
  · rw [if_neg hj, if_neg hj, EReal.coe_zero]

theorem sum_le (f : Fin 2048 → ℝ) (s : Fin 2048) : (∑ j, if s ≤ j then f j else 0) - f s = ∑ j, if s < j then f j else 0 := by
  have e : (∑ j, if s ≤ j then f j else 0) = (∑ j, if s < j then f j else 0) + ∑ j, if s = j then f j else 0 := by
    rw [← Finset.sum_add_distrib]
    refine Finset.sum_congr rfl fun j _ => ?_
    rcases lt_trichotomy s j with hj | hj | hj
    · rw [if_pos hj.le, if_pos hj, if_neg hj.ne, add_zero]
    · rw [if_pos hj.le, if_neg (not_lt.2 hj.ge), if_pos hj, zero_add]
    · rw [if_neg hj.not_ge, if_neg (not_lt.2 hj.le), if_neg hj.ne', add_zero]
  rw [e, Finset.sum_ite_eq, if_pos (Finset.mem_univ _)]; ring

theorem sum_ge (f : Fin 2048 → ℝ) (s : Fin 2048) : -f s + (∑ j, if j ≤ s then f j else 0) = ∑ j, if j < s then f j else 0 := by
  have e : (∑ j, if j ≤ s then f j else 0) = (∑ j, if j < s then f j else 0) + ∑ j, if s = j then f j else 0 := by
    rw [← Finset.sum_add_distrib]
    refine Finset.sum_congr rfl fun j _ => ?_
    rcases lt_trichotomy j s with hj | hj | hj
    · rw [if_pos hj.le, if_pos hj, if_neg hj.ne', add_zero]
    · rw [if_pos hj.le, if_neg (not_lt.2 hj.ge), if_pos hj.symm, zero_add]
    · rw [if_neg hj.not_ge, if_neg (not_lt.2 hj.le), if_neg hj.ne, add_zero]
  rw [e, Finset.sum_ite_eq, if_pos (Finset.mem_univ _)]; ring

/-- The weight before the mask. -/
theorem r23 (h0 : Real3 x0) (h1 : Real3 x1) (t s : Fin 2048) :
    (val_main_v23 (F := Ideal) x0 x1 : FVec Ideal S2x8x2048x2048 .f32) (ix4 b h t s)
      = ((Real.exp (pl ((hd x0 x1 x2 x6 b h).z t s) + (hd x0 x1 x2 x6 b h).tail t s) : ℝ) : EReal) := by
  have e := r_s2 x0 x1 x2 x6 b h h0 h1 t s
  have e1 := r19 x0 x1 x2 x6 b h h0 h1 t s
  have e2 := r18 x0 x1 x2 x6 b h h0 h1 t s
  pointwise [val_main_v23, val_main_v22, val_main_v21_0, val_main_v20]
  rw [e, e1, e2, ← EReal.coe_neg, neg_neg, ← EReal.coe_sub, ← EReal.coe_add, Ideal.exp_coe, sum_le, Head.tail]

theorem r24 (h0 : Real3 x0) (h1 : Real3 x1) (t s : Fin 2048) :
    (val_main_v24_0 (F := Ideal) x0 x1 : FVec Ideal S2x8x2048x2048 .f32) (ix4 b h t s) = ((hd x0 x1 x2 x6 b h).w t s : EReal) := by
  have e := r23 x0 x1 x2 x6 b h h0 h1 t s
  pointwise [val_main_v24_0, val_main_v24_1, val_main_v15, val_main_v14, val_main_v13, val_main_v12, val_main_v11, val_main_v10, val_main_v9, val_main_call4_v2, val_main_call4_v0, val_main_cst_1]
  rw [select_lt _ _ (by omega) (by omega), e]
  show (if s.val < t.val then _ else Ideal.ofBits .f32 0#32) = _
  rw [Head.w, Ideal.ofBits_zero_f32]
  by_cases hst : s < t
  · rw [if_pos (Fin.lt_def.1 hst), if_pos hst]
  · rw [if_neg (fun hc => hst (Fin.lt_def.2 hc)), if_neg hst, EReal.coe_zero]

theorem r31 (h0 : Real3 x0) (h1 : Real3 x1) (h6 : Real3 x6) (s : Fin 2048) (d : Fin 64) :
    (val_main_v31 (F := Ideal) x0 x1 x6 : FVec Ideal S2x8x2048x64 .f32) (ix4 b h s d) = ((hd x0 x1 x2 x6 b h).dv s d : EReal) := by
  have e := fun t => r24 x0 x1 x2 x6 b h h0 h1 t s
  have e' := fun t => r29 x0 x1 x2 x6 b h h6 t d
  pointwise [val_main_v31, val_main_v30]
  simp only [e, e']
  rw [coe_dot, Head.dv]
  exact congrArg _ (Finset.sum_congr rfl fun t _ => mul_comm _ _)

theorem r32 (h2 : Real3 x2) (h6 : Real3 x6) (t s : Fin 2048) :
    (val_main_v32 (F := Ideal) x2 x6 : FVec Ideal S2x8x2048x2048 .f32) (ix4 b h t s) = ((hd x0 x1 x2 x6 b h).dw t s : EReal) := by
  pointwise [val_main_v32]
  simp only [r5 x0 x1 x2 x6 b h h2, r29 x0 x1 x2 x6 b h h6]
  rw [coe_dot, Head.dw]

theorem r34 (h0 : Real3 x0) (h1 : Real3 x1) (h2 : Real3 x2) (h6 : Real3 x6) (t s : Fin 2048) :
    (val_main_v34 (F := Ideal) x0 x1 x2 x6 : FVec Ideal S2x8x2048x2048 .f32) (ix4 b h t s) = ((hd x0 x1 x2 x6 b h).e t s : EReal) := by
  have e := r23 x0 x1 x2 x6 b h h0 h1 t s
  have e' := r32 x0 x1 x2 x6 b h h2 h6 t s
  pointwise [val_main_v34, val_main_v33, val_main_v24_1, val_main_v15, val_main_v14, val_main_v13, val_main_v12, val_main_v11, val_main_v10, val_main_v9, val_main_call5_v0, val_main_call5_cst]
  rw [select_lt _ _ (by omega) (by omega), e, e', Head.e, Head.w]
  by_cases hst : s < t
  · rw [if_pos hst, if_pos (Fin.lt_def.1 hst), ← EReal.coe_mul, mul_comm]
  · rw [if_neg hst, if_neg (fun hc => hst (Fin.lt_def.2 hc)), zero_mul]; simp

theorem r37 (h0 : Real3 x0) (h1 : Real3 x1) (h2 : Real3 x2) (h6 : Real3 x6) (t s : Fin 2048) :
    (val_main_v37 (F := Ideal) x0 x1 x2 x6 : FVec Ideal S2x8x2048x2048 .f32) (ix4 b h t s) = ((∑ j, if j ≤ s then (hd x0 x1 x2 x6 b h).e t j else 0 : ℝ) : EReal) := by
  refine (Window.from_start (val_main_v34 (F := Ideal) x0 x1 x2 x6) (val_main_call7_v0 (F := Ideal)) 2047 rfl _ _ (by pointwise [val_main_call7_v0, val_main_call7_cst]) b h t s).trans ?_
  rw [coe_sum]
  refine Finset.sum_congr rfl fun j _ => ?_
  rw [r34 x0 x1 x2 x6 b h h0 h1 h2 h6]
  by_cases hj : j ≤ s
  · rw [if_pos hj, if_pos hj]
  · rw [if_neg hj, if_neg hj, EReal.coe_zero]

/-- The cotangent of the logits. -/
theorem r42 (h0 : Real3 x0) (h1 : Real3 x1) (h2 : Real3 x2) (h6 : Real3 x6) (t s : Fin 2048) :
    (val_main_v42 (F := Ideal) x0 x1 x2 x6 : FVec Ideal S2x8x2048x2048 .f32) (ix4 b h t s) = ((hd x0 x1 x2 x6 b h).dz t s : EReal) := by
  have e := r34 x0 x1 x2 x6 b h h0 h1 h2 h6 t s
  have e1 := r37 x0 x1 x2 x6 b h h0 h1 h2 h6 t s
  have e2 := r21_1 x0 x1 x2 x6 b h h0 h1 t s
  have e3 := r17_1 x0 x1 x2 x6 b h h0 h1 t s
  pointwise [val_main_v42, val_main_v41, val_main_v40, val_main_call9_v1, val_main_call9_v0, val_main_v39, val_main_v38, val_main_v36, val_main_v35, val_main_call6_v1, val_main_call6_v0,
    val_main_v18_1, val_main_v15, val_main_v14, val_main_v13, val_main_v12, val_main_v11, val_main_v10, val_main_v9, val_main_call8_v0, val_main_call8_cst]
  rw [select_lt _ _ (by omega) (by omega), e, e1, e2, e3, Head.dz]
  by_cases hst : s < t
  · rw [if_pos hst, if_pos (Fin.lt_def.1 hst), ← EReal.coe_neg, ← EReal.coe_add, sum_ge, ← EReal.coe_neg, ← EReal.coe_mul, ← EReal.coe_mul, ← EReal.coe_neg, ← EReal.coe_neg, ← EReal.coe_neg, ← EReal.coe_add, Head.pre]
    refine congrArg _ ?_
    generalize (∑ j, if j < s then (hd x0 x1 x2 x6 b h).e t j else 0) = u
    ring
  · rw [if_neg hst, if_neg (fun hc => hst (Fin.lt_def.2 hc)), Head.e_zero _ hst]; simp

theorem r46 (h0 : Real3 x0) (h1 : Real3 x1) (h2 : Real3 x2) (h6 : Real3 x6) (t : Fin 2048) (d : Fin 64) :
    (val_main_v46 (F := Ideal) x0 x1 x2 x6 : FVec Ideal S2x8x2048x64 .f32) (ix4 b h t d) = ((hd x0 x1 x2 x6 b h).dq t d : EReal) := by
  have e := fun s => r42 x0 x1 x2 x6 b h h0 h1 h2 h6 t s
  pointwise [val_main_v46, val_main_v44, val_main_v43, val_main_cst_2]
  simp only [e, r3 x0 x1 x2 x6 b h h1, ofBits_eighth, ← EReal.coe_mul]
  rw [← coe_sum, Head.dq, Finset.sum_mul]
  exact congrArg _ (Finset.sum_congr rfl fun s _ => by ring)

theorem r45 (h0 : Real3 x0) (h1 : Real3 x1) (h2 : Real3 x2) (h6 : Real3 x6) (s : Fin 2048) (d : Fin 64) :
    (val_main_v45 (F := Ideal) x0 x1 x2 x6 : FVec Ideal S2x8x2048x64 .f32) (ix4 b h s d) = ((hd x0 x1 x2 x6 b h).dk s d : EReal) := by
  have e := fun t => r42 x0 x1 x2 x6 b h h0 h1 h2 h6 t s
  pointwise [val_main_v45, val_main_v44, val_main_v43, val_main_cst_2]
  simp only [e, r1 x0 x1 x2 x6 b h h0, ofBits_eighth, ← EReal.coe_mul]
  rw [← coe_sum, Head.dk]
  exact congrArg _ (Finset.sum_congr rfl fun s _ => by ring)

theorem r54 (h0 : Real3 x0) (h1 : Real3 x1) (h2 : Real3 x2) (h6 : Real3 x6) :
    (val_main_v54 (F := Ideal) x0 x1 x2 x6 : M2 4096 512) = spread fun b h => (hd x0 x1 x2 x6 b h).dq := by
  funext y
  idx_vars y
  pointwise [val_main_v54, val_main_v53, val_main_v52, val_main_v51]
  exact r46 x0 x1 x2 x6 _ _ h0 h1 h2 h6 _ _

theorem r56 (h0 : Real3 x0) (h1 : Real3 x1) (h2 : Real3 x2) (h6 : Real3 x6) :
    (val_main_v56 (F := Ideal) x0 x1 x2 x6 : M2 4096 512) = spread fun b h => (hd x0 x1 x2 x6 b h).dk := by
  funext y
  idx_vars y
  pointwise [val_main_v56, val_main_v55, val_main_v50, val_main_v49]
  exact r45 x0 x1 x2 x6 _ _ h0 h1 h2 h6 _ _

theorem r58 (h0 : Real3 x0) (h1 : Real3 x1) (h6 : Real3 x6) :
    (val_main_v58 (F := Ideal) x0 x1 x6 : M2 4096 512) = spread fun b h => (hd x0 x1 x2 x6 b h).dv := by
  funext y
  idx_vars y
  pointwise [val_main_v58, val_main_v57, val_main_v48, val_main_v47]
  exact r31 x0 x1 x2 x6 _ _ h0 h1 h6 _ _

end Cert.SbRefValue
end
-- ==== Proof.SbHost.lean ====
/- What the stick-breaking gradient's kernel is handed: the projections, the cotangent and each row's sum of the logarithms. -/
module

public import proofs.«01_k».proof.Proof.SbRefValue
public import proofs.«01_k».proof.Proof.Gen.SbIdeal.Value

@[expose] public section

set_option maxRecDepth 16384

noncomputable section

namespace Cert.SbHost

open Idealize.ShloMosaic Idealize.SL.Sem Cert.SbIdeal Cert.SbIdeal.Gen Cert.Common Cert.RealKit Cert.SbSpec Cert.SbRefValue
open Cert.FoxSpec (lane seqOf tokOf headOf dimOf spread)
open scoped BigOperators

section Stages
variable (x0 x1 x2 x6 : M3 2 2048 512)

/-- The sums over the keys. -/
def rowSum (e : FVec Ideal S2x8x2048x2048 .f32) : FVec Ideal S2x8x2048 .f32 :=
  Host.reduceAdd e (constant S_ .f32 0x00000000#32) Facts₀.reducesTo_S2x8x2048x2048_S2x8x2048_d3 Facts₀.h_S_
theorem rowSum_apply (e : FVec Ideal S2x8x2048x2048 .f32) (b : Fin 2) (h : Fin 8) (t : Fin 2048) :
    rowSum e (ix3 b h t) = ∑ s, e (ix4 b h t s) := by pointwise [rowSum]

/-- One number of every head and token, repeated over the head's lanes. -/
def wide (x : FVec Ideal S2x8x2048 .f32) : FVec Ideal S4096x512 .f32 :=
  shapeCast _ (broadcastInDim S4096x8x64 ![0, 1] Facts₀.bcast_S4096x8_S4096x8x64_0_1
    (shapeCast _ (transpose S2x2048x8 [0, 2, 1] x Facts₀.transposes_S2x8x2048_S2x2048x8_0_2_1) Facts₀.shapeCasts_S2x2048x8_S4096x8)) Facts₀.shapeCasts_S4096x8x64_S4096x512
theorem wide_apply (x : FVec Ideal S2x8x2048 .f32) (i : Fin 4096) (l : Fin 512) : wide x (ix2 i l) = x (ix3 (seqOf i) (headOf l) (tokOf i)) := by
  pointwise [wide]

/-- Each row's sum of the logarithms. -/
def rt : FVec Ideal S2x8x2048 .f32 := rowSum (Cert.SbRefIdeal.Read.val_main_v18_0 (F := Ideal) x0 x1)

theorem rt_real (b : Fin 2) (h : Fin 8) (h0 : Real3 x0) (h1 : Real3 x1) (t : Fin 2048) :
    rt x0 x1 (ix3 b h t) = ((∑ s, (hd x0 x1 x2 x6 b h).ln t s : ℝ) : EReal) := by
  rw [rt, rowSum_apply, coe_sum]
  exact Finset.sum_congr rfl fun s _ => r18 x0 x1 x2 x6 b h h0 h1 t s

end Stages

variable (m : (ℓ : Loc nD τ sig) → Buf (Elt Ideal) ℓ) (c : Dev nD)

/-! The arguments, at the argument buffers' own types. -/

abbrev X0 : M3 2 2048 512 := m (c.tc.loc main_arg0)
abbrev X1 : M3 2 2048 512 := m (c.tc.loc main_arg1)
abbrev X2 : M3 2 2048 512 := m (c.tc.loc main_arg2)
abbrev X6 : M3 2 2048 512 := m (c.tc.loc main_arg6)

theorem V31 : (V m c main_v31 : FVec Ideal S4096x512 .f32) = wide (rt (X0 m c) (X1 m c)) := by
  unfold V; after_reads_simp
  simp -implicitDefEqProofs only [StableHlo.TRef.toBuf, StableHlo.TRef.ofBuf, cast_cast, cast_eq]
  rfl

theorem V25_q (i : Fin 4096) (l : Fin 512) : (V m c main_v25 : FVec Ideal S4096x3072 .bf16) (ix2 i ⟨1536 + l.val, by omega⟩) = X0 m c (ix3 (seqOf i) (tokOf i) l) := by
  unfold V; after_reads_at; after_reads_at
  rw [dif_neg (by omega), dif_neg (by omega), dif_neg (by omega), dif_pos (by omega)]
  exact congrArg (fun z => X0 m c (ix3 (seqOf i) (tokOf i) z)) (Fin.ext (by show 1536 + l.val - 512 - 512 - 512 = l.val; omega))

theorem V25_k (i : Fin 4096) (l : Fin 512) : (V m c main_v25 : FVec Ideal S4096x3072 .bf16) (ix2 i ⟨2048 + l.val, by omega⟩) = X1 m c (ix3 (seqOf i) (tokOf i) l) := by
  unfold V; after_reads_at; after_reads_at
  rw [dif_neg (by omega), dif_neg (by omega), dif_neg (by omega), dif_neg (by omega), dif_pos (by omega)]
  exact congrArg (fun z => X1 m c (ix3 (seqOf i) (tokOf i) z)) (Fin.ext (by show 2048 + l.val - 512 - 512 - 512 - 512 = l.val; omega))

theorem V25_v (i : Fin 4096) (l : Fin 512) : (V m c main_v25 : FVec Ideal S4096x3072 .bf16) (ix2 i ⟨2560 + l.val, by omega⟩) = X2 m c (ix3 (seqOf i) (tokOf i) l) := by
  unfold V; after_reads_at; after_reads_at
  rw [dif_neg (by omega), dif_neg (by omega), dif_neg (by omega), dif_neg (by omega), dif_neg (by omega)]
  have e : (⟨2560 + l.val - 512 - 512 - 512 - 512 - 512, by omega⟩ : Fin 512) = l := Fin.ext (by show 2560 + l.val - 512 - 512 - 512 - 512 - 512 = l.val; omega)
  exact congrArg (fun z => X2 m c (ix3 (seqOf i) (tokOf i) z)) e

theorem V27 (i : Fin 4096) (l : Fin 512) : (V m c main_v27 : FVec Ideal S4096x512 .bf16) (ix2 i l) = X6 m c (ix3 (seqOf i) (tokOf i) l) := by
  unfold V; after_reads_at

end Cert.SbHost
end
-- ==== Proof.SbBlock.lean ====
/- One tile of the stick-breaking gradient's kernel, over the real numbers: what each vector expression of its body is, the two heads of a pair stacked. -/
module

public import proofs.«01_k».proof.Proof.SbHost
public import proofs.«01_k».proof.Proof.FoxBlock

@[expose] public section

set_option maxRecDepth 16384

noncomputable section

namespace Cert.SbBlock

open Idealize.ShloMosaic Idealize.SL.Sem Cert.SbIdeal Cert.SbIdeal.Gen Cert.Common Cert.RealKit Cert.SbSpec
open Cert.FoxBlock (sum_side pos side rq half dm tq low high lane0 lane1 sel1 sel0 e_bf8 sum_rows2)
open Cert.SbRefValue (coe_max select_lt)
open scoped BigOperators

/-- Key position `l` of the block of 256 that starts at `n`. -/
abbrev kp (n : ℕ) (hn : n + 256 ≤ 2048) (l : Fin 256) : Fin 2048 := ⟨n + l.val, by omega⟩
/-- The rows of the lower halves of a query block, stacked: the head of the pair, the row in it, the query position. -/
abbrev sideb (r : Fin 512) : Fin 2 := ⟨r.val / 256, by omega⟩
abbrev rb (r : Fin 512) : Fin 256 := ⟨r.val % 256, by omega⟩
abbrev up (i : Fin 256) : Fin 512 := ⟨256 + i.val, by omega⟩
abbrev tb (qi : Fin 4) (r : Fin 512) : Fin 2048 := pos qi (up (rb r))
/-- The stacked row of all rows that a stacked row of the lower halves is. -/
abbrev wr (r : Fin 512) : Fin 1024 := ⟨512 * (r.val / 256) + 256 + r.val % 256, by omega⟩

theorem wr_side (r : Fin 512) : side (wr r) = sideb r := Fin.ext (by show (512 * (r.val / 256) + 256 + r.val % 256) / 512 = r.val / 256; omega)
theorem wr_rq (r : Fin 512) : rq (wr r) = up (rb r) := Fin.ext (by show (512 * (r.val / 256) + 256 + r.val % 256) % 512 = 256 + r.val % 256; omega)
theorem wr_low (r : Fin 512) (h : r.val < 256) : wr r = ⟨256 + r.val, by omega⟩ := Fin.ext (by show 512 * (r.val / 256) + 256 + r.val % 256 = 256 + r.val; omega)
theorem wr_high (r : Fin 512) (h : ¬ r.val < 256) : wr r = ⟨768 + (r.val - 256), by omega⟩ := Fin.ext (by show 512 * (r.val / 256) + 256 + r.val % 256 = 768 + (r.val - 256); omega)

/-! The masks. -/

theorem m19 (l : Fin 128) : k0_pay19 (ix2 0 l) = if l.val < 64 then 1#1 else 0#1 := by
  pointwise [k0_pay19]; revert l; decide +kernel
theorem m20 (l : Fin 128) : k0_pay20 (ix2 0 l) = if l.val < 64 then 0#1 else 1#1 := by
  pointwise [k0_pay20]; revert l; decide +kernel
theorem sel19 (l : Fin 128) (x y : EReal) : Scalar.select (k0_pay19 (ix2 0 l)) x y = if l.val < 64 then x else y := by rw [m19, sel1]
theorem sel20 (l : Fin 128) (x y : EReal) : Scalar.select (k0_pay20 (ix2 0 l)) x y = if l.val < 64 then y else x := by rw [m20, sel0]

theorem m21 (r : Fin 1024) (j : Fin 256) : k0_pay21 (ix2 r j) = BitVec.ofNat 32 j.val - BitVec.ofNat 32 (r.val % 512) := by
  have h : ∀ r : Fin 1024, Scalar.select (IntOp.cmpi .slt (BitVec.ofNat 32 r.val) 512#32) (BitVec.ofNat 32 r.val) (IntOp.subi (BitVec.ofNat 32 r.val) 512#32) = BitVec.ofNat 32 (r.val % 512) := by
    decide +kernel
  rw [← h r]
  pointwise [k0_pay21]; rfl

theorem below (a b : ℕ) (ha : a < 512) (hb : b < 512) : IntOp.cmpi .slt (BitVec.ofNat 32 a - BitVec.ofNat 32 b) 0#32 = if a < b then 1#1 else 0#1 := by
  have h : ∀ n : Fin 1024, IntOp.cmpi .slt (BitVec.ofNat 32 n.val - 512#32) 0#32 = if n.val < 512 then 1#1 else 0#1 := by decide +kernel
  have e : (BitVec.ofNat 32 a - BitVec.ofNat 32 b : BitVec 32) = BitVec.ofNat 32 (a + (512 - b)) - 512#32 := by
    have e1 : (512#32 : BitVec 32) = BitVec.ofNat 32 (512 - b) + BitVec.ofNat 32 b := by rw [← BitVec.ofNat_add, Nat.sub_add_cancel hb.le]
    rw [e1, BitVec.ofNat_add]; generalize BitVec.ofNat 32 (512 - b) = u; generalize BitVec.ofNat 32 a = v; generalize BitVec.ofNat 32 b = w
    apply BitVec.eq_of_toNat_eq; simp; omega
  rw [e]
  exact (h ⟨a + (512 - b), by omega⟩).trans (if_congr (by show a + (512 - b) < 512 ↔ a < b; omega) rfl rfl)

theorem below' (a b : ℕ) (ha : a < 256) (hb : b < 256) : IntOp.cmpi .slt (BitVec.ofNat 32 a - BitVec.ofNat 32 (256 + b)) 4294967040#32 = if a < b then 1#1 else 0#1 := by
  have h : ∀ n : Fin 512, IntOp.cmpi .slt (BitVec.ofNat 32 n.val - 512#32) 4294967040#32 = if n.val < 256 then 1#1 else 0#1 := by decide +kernel
  have e : (BitVec.ofNat 32 a - BitVec.ofNat 32 (256 + b) : BitVec 32) = BitVec.ofNat 32 (a + (256 - b)) - 512#32 := by
    have e1 : (512#32 : BitVec 32) = BitVec.ofNat 32 (256 - b) + BitVec.ofNat 32 (256 + b) := by rw [← BitVec.ofNat_add, show 256 - b + (256 + b) = 512 from by omega]
    rw [e1, BitVec.ofNat_add a (256 - b)]; generalize BitVec.ofNat 32 (256 - b) = u; generalize BitVec.ofNat 32 a = v; generalize BitVec.ofNat 32 (256 + b) = w
    apply BitVec.eq_of_toNat_eq; simp; omega
  rw [e]
  exact (h ⟨a + (256 - b), by omega⟩).trans (if_congr (by show a + (256 - b) < 256 ↔ a < b; omega) rfl rfl)

/-- The diagonal mask of the first key block, and of the second. -/
theorem m43 (r : Fin 1024) (j : Fin 256) : k0_pay43 k0_pay21 (ix2 r j) = if j.val < r.val % 512 then 1#1 else 0#1 := by
  pointwise [k0_pay43]
  rw [m21, below _ _ (by omega) (by omega)]
theorem m62 (r : Fin 512) (j : Fin 256) : k0_pay62 k0_pay21 (ix2 r j) = if j.val < r.val % 256 then 1#1 else 0#1 := by
  have e : k0_pay62 k0_pay21 (ix2 r j) = IntOp.cmpi .slt (k0_pay21 (ix2 (wr r) j)) 4294967040#32 := by
    pointwise [k0_pay62]
    by_cases h : r.val < 256
    · rw [wr_low r h, dif_pos h]
    · rw [wr_high r h, dif_neg h]
  rw [e, m21, ← below' _ _ j.isLt (show r.val % 256 < 256 by omega)]
  rw [show (wr r).val % 512 = 256 + r.val % 256 from congrArg Fin.val (wr_rq r)]

theorem bit_f (p : Prop) [Decidable p] : (FloatOps.sitofp (F := Ideal) FTy.f32 (BitVec.setWidth 32 (BitVec.ofBool (decide p))) : EReal) = if p then 1 else 0 := by
  by_cases h : p
  · simp only [h, decide_true, if_true]
    show ((((1#32 : BitVec 32).toInt : ℤ) : ℝ) : EReal) = 1
    simp
  · simp only [h, decide_false, if_false]
    show ((((0#32 : BitVec 32).toInt : ℤ) : ℝ) : EReal) = 0
    simp

theorem m22 (x : Fin 512) (l : Fin 256) : (k0_pay22 : FVec Ideal S512x256 .bf16) (ix2 x l) = if l.val < x.val % 256 then (1 : EReal) else 0 := by
  pointwise [k0_pay22]
  rw [Idealize.ShloMosaic.WordCmp.cmpi_sgt_ofNat (by omega) (by omega), Idealize.ShloMosaic.WordCmp.cmpi_sgt_ofNat (by omega) (by omega), bit_f, bit_f]
  split_ifs <;> first | rfl | (exfalso; omega)
theorem m23 (x l : Fin 256) : (k0_pay23 : FVec Ideal S256x256 .bf16) (ix2 x l) = if x.val < l.val then (1 : EReal) else 0 := by
  pointwise [k0_pay23]
  rw [Idealize.ShloMosaic.WordCmp.cmpi_slt_ofNat (by omega) (by omega), bit_f]

end Cert.SbBlock
end
-- ==== Proof.SbTile.lean ====
/- The stacked operands of the stick-breaking gradient's kernel, and its three kinds of tile: before the diagonal, and the two on it. -/
module

public import proofs.«01_k».proof.Proof.SbBlock

@[expose] public section

set_option maxRecDepth 16384

noncomputable section

namespace Cert.SbTile

open Idealize.ShloMosaic Idealize.SL.Sem Cert.SbIdeal Cert.SbIdeal.Gen Cert.Common Cert.RealKit Cert.SbSpec Cert.SbBlock
open Cert.FoxBlock (sum_side pos side rq half dm tq low high lane0 lane1 sel1 sel0 e_bf8 sum_rows2)
open Cert.SbRefValue (coe_max select_lt)
open scoped BigOperators

section Stack
variable (P : Fin 2 → Head) (qi : Fin 4)

/-- The stacked rows: each holds its own head's lanes and zero in the other's. -/
def qs (r : Fin 1024) (l : Fin 128) : ℝ := if l.val / 64 = r.val / 512 then (P (half l)).q (tq qi r) (dm l) else 0
def q2 (r : Fin 1024) (l : Fin 128) : ℝ := if l.val / 64 = r.val / 512 then (P (half l)).q (tq qi r) (dm l) * (1 / 8) else 0
def d2 (r : Fin 1024) (l : Fin 128) : ℝ := if l.val / 64 = r.val / 512 then (P (half l)).g (tq qi r) (dm l) else 0

theorem stack (f : Fin 2 → Fin 512 → Fin 64 → ℝ) (D : FVec Ideal S512x128 .bf16) (hD : ∀ r l, D (ix2 r l) = (f (half l) r (dm l) : EReal)) (r : Fin 1024) (l : Fin 128) :
    (k0_pay26 k0_pay19 k0_pay20 D : FVec Ideal S1024x128 .bf16) (ix2 r l) = ((if l.val / 64 = r.val / 512 then f (half l) (rq r) (dm l) else 0 : ℝ) : EReal) := by
  pointwise [k0_pay26]
  have hl := l.isLt
  by_cases h : r.val < 512
  · obtain ⟨e1, e2⟩ := low r h
    rw [dif_pos h, sel19, hD, e1]
    split_ifs with a b b
    · rfl
    · exfalso; omega
    · exfalso; omega
    · simp
  · obtain ⟨e1, e2⟩ := high r h
    rw [dif_neg h, sel20, hD, e1]
    by_cases a : l.val < 64
    · rw [if_pos a]; refine Eq.trans ?_ (congrArg _ (if_neg (show ¬ l.val / 64 = r.val / 512 by omega)).symm); simp
    · rw [if_neg a]; exact congrArg _ (if_pos (show l.val / 64 = r.val / 512 by omega)).symm

theorem b26 (D : FVec Ideal S512x128 .bf16) (hD : ∀ r l, D (ix2 r l) = ((P (half l)).g (pos qi r) (dm l) : EReal)) (r : Fin 1024) (l : Fin 128) :
    (k0_pay26 k0_pay19 k0_pay20 D : FVec Ideal S1024x128 .bf16) (ix2 r l) = (d2 P qi r l : EReal) :=
  stack (fun e r d => (P e).g (pos qi r) d) D hD r l
theorem b24 (D : FVec Ideal S512x128 .bf16) (hD : ∀ r l, D (ix2 r l) = ((P (half l)).q (pos qi r) (dm l) : EReal)) (r : Fin 1024) (l : Fin 128) :
    (k0_pay24 D : FVec Ideal S1024x128 .bf16) (ix2 r l) = (qs P qi r l : EReal) :=
  stack (fun e r d => (P e).q (pos qi r) d) D hD r l
theorem b25 (X : FVec Ideal S1024x128 .bf16) (hX : ∀ r l, X (ix2 r l) = (qs P qi r l : EReal)) (r : Fin 1024) (l : Fin 128) :
    (k0_pay25 X : FVec Ideal S1024x128 .bf16) (ix2 r l) = (q2 P qi r l : EReal) := by
  pointwise [k0_pay25]
  rw [e_bf8, hX, ← EReal.coe_mul, qs, q2, ite_mul, zero_mul]
theorem b27 (C : FVec Ideal S512x128 .f32) (f : Fin 2 → Fin 512 → ℝ) (hC : ∀ r l, C (ix2 r l) = (f (half l) r : EReal)) (r : Fin 1024) :
    (k0_pay27 C : FVec Ideal S1024x1 .f32) (ix2 r 0) = (f (side r) (rq r) : EReal) := by
  pointwise [k0_pay27]
  by_cases h : r.val < 512
  · obtain ⟨e1, e2⟩ := low r h
    rw [dif_pos h, e1, e2]; exact hC _ 0
  · obtain ⟨e1, e2⟩ := high r h
    rw [dif_neg h, e1, e2]; exact hC _ 64

/-- The lower halves of the two stacks. -/
theorem b60 (X : FVec Ideal S1024x128 .bf16) (r : Fin 512) (l : Fin 128) : (k0_pay60 X : FVec Ideal S512x128 .bf16) (ix2 r l) = X (ix2 (wr r) l) := by
  pointwise [k0_pay60]
  by_cases h : r.val < 256
  · rw [wr_low r h, dif_pos h]
  · rw [wr_high r h, dif_neg h]
theorem b61 (X : FVec Ideal S1024x128 .bf16) (r : Fin 512) (l : Fin 128) : (k0_pay61 X : FVec Ideal S512x128 .bf16) (ix2 r l) = X (ix2 (wr r) l) := b60 X r l

end Stack

/-- A product over the lanes of a row that is zero outside one head's. -/
theorem dot_row (e : Fin 2) (A B : Fin 128 → EReal) (f g : Fin 2 → Fin 64 → ℝ) (hA : ∀ x, A x = ((if x.val / 64 = e.val then f (half x) (dm x) else 0 : ℝ) : EReal))
    (hB : ∀ x, B x = (g (half x) (dm x) : EReal)) : ∑ x, A x * B x = ((∑ d, f e d * g e d : ℝ) : EReal) := by
  have he := e.isLt
  have h1 := sum_side (N := 128) (n := 64) rfl (by decide) e fun x => f (half x) (dm x) * g (half x) (dm x)
  have h2 : ∀ d : Fin 64, half ⟨e.val * 64 + d.val, by omega⟩ = e ∧ dm ⟨e.val * 64 + d.val, by omega⟩ = d := fun d =>
    ⟨Fin.ext (by show (e.val * 64 + d.val) / 64 = e.val; omega), Fin.ext (by show (e.val * 64 + d.val) % 64 = d.val; omega)⟩
  rw [Finset.sum_congr rfl fun d _ => (by rw [(h2 d).1, (h2 d).2] :
    f (half ⟨e.val * 64 + d.val, by omega⟩) (dm ⟨e.val * 64 + d.val, by omega⟩) * g (half ⟨e.val * 64 + d.val, by omega⟩) (dm ⟨e.val * 64 + d.val, by omega⟩) = f e d * g e d)] at h1
  rw [← h1, coe_sum]
  refine Finset.sum_congr rfl fun x _ => ?_
  rw [hA, hB]
  split_ifs
  · rw [EReal.coe_mul]
  · simp

/-- The logarithm of the logistic function as the kernel computes it. -/
theorem nl_coe (z : ℝ) : (min (0 - (z : EReal)) 0 - Ideal.log (1 + Ideal.exp (0 - FloatOps.absf (F := Ideal) (φ := .f32) (z : EReal))) : EReal) = (nl z : EReal) := by
  have e : (FloatOps.absf (F := Ideal) (φ := .f32) (z : EReal) : EReal) = ((|z| : ℝ) : EReal) := by
    show max (z : EReal) (-(z : EReal)) = _
    rw [← EReal.coe_neg, ← coe_max, abs_eq_max_neg]
  have hp : (0 : ℝ) < 1 + Real.exp (-|z|) := by positivity
  have e1 : (0 - (z : EReal)) = ((-z : ℝ) : EReal) := by rw [zero_sub, EReal.coe_neg]
  have e2 : (0 - ((|z| : ℝ) : EReal)) = ((-|z| : ℝ) : EReal) := by rw [zero_sub, EReal.coe_neg]
  have e3 : min (((-z : ℝ) : EReal)) 0 = ((min (-z) 0 : ℝ) : EReal) := (EReal.coe_strictMono.monotone.map_min (a := -z) (b := 0)).symm
  rw [e, e1, e2, e3, Ideal.exp_coe, ← EReal.coe_one, ← EReal.coe_add, Ideal.log_coe, if_neg (not_le.2 hp), ← EReal.coe_sub, nl]

/-- The sum after each key of a block, from the two halves of the split operand. -/
theorem later (A B : Fin 512 → EReal) (f : Fin 256 → ℝ) (l : Fin 256)
    (hA : ∀ x : Fin 512, A x = if h : x.val < 256 then (f ⟨x.val, h⟩ : EReal) else (f ⟨x.val - 256, by omega⟩ : EReal) - (f ⟨x.val - 256, by omega⟩ : EReal))
    (hB : ∀ x : Fin 512, B x = if l.val < x.val % 256 then (1 : EReal) else 0) :
    ∑ x, A x * B x = ((∑ j : Fin 256, f j * (if l.val < j.val then 1 else 0) : ℝ) : EReal) := by
  have h := Fin.sum_univ_add (a := 256) (b := 256) fun x : Fin (256 + 256) => A x * B x
  refine Eq.trans h ?_
  rw [coe_sum]
  have h2 : ∀ j : Fin 256, A (Fin.natAdd 256 j) * B (Fin.natAdd 256 j) = 0 := fun j => by
    have e : A (Fin.natAdd 256 j) = 0 := by
      rw [hA, dif_neg (by show ¬ 256 + j.val < 256; omega), ← EReal.coe_sub, sub_self, EReal.coe_zero]
    rw [e, zero_mul]
  rw [Finset.sum_congr rfl fun j _ => h2 j, Finset.sum_const_zero, add_zero]
  refine Finset.sum_congr rfl fun j _ => ?_
  have e1 : A (Fin.castAdd 256 j) = (f j : EReal) := by rw [hA]; exact dif_pos j.isLt
  have e2 : B (Fin.castAdd 256 j) = ((if l.val < j.val then 1 else 0 : ℝ) : EReal) := by
    rw [hB]
    have : (Fin.castAdd 256 j).val % 256 = j.val := Nat.mod_eq_of_lt j.isLt
    rw [this]; split_ifs <;> simp
  rw [e1, e2, ← EReal.coe_mul]

/-- The sum before each key of a block. -/
theorem sooner (A B : Fin 256 → EReal) (f : Fin 256 → ℝ) (l : Fin 256) (hA : ∀ x, A x = (f x : EReal)) (hB : ∀ x : Fin 256, B x = if x.val < l.val then (1 : EReal) else 0) :
    ∑ x, A x * B x = ((∑ j : Fin 256, f j * (if j.val < l.val then 1 else 0) : ℝ) : EReal) := by
  rw [← coe_dot]
  refine Finset.sum_congr rfl fun j _ => ?_
  rw [hA, hB]
  split_ifs <;> simp

section At
variable (H : Head) (t : Fin 2048) (n : ℕ) (hn : n + 256 ≤ 2048) (l : Fin 256)

theorem w_at {p zl tot pr bs : EReal} (hp : p = (pl (H.z t (kp n hn l)) : EReal)) (hs : zl = ((∑ j : Fin 256, H.ln t (kp n hn j) * (if l.val < j.val then 1 else 0) : ℝ) : EReal))
    (ht : tot = ((∑ s, H.ln t s : ℝ) : EReal)) (hpr : pr = (upto n (H.ln t) : EReal)) (hb : bs = ((∑ j : Fin 256, H.ln t (kp n hn j) : ℝ) : EReal)) :
    Ideal.exp (p + zl + (tot - pr - bs)) = (Real.exp (pl (H.z t (kp n hn l)) + H.tail t (kp n hn l)) : EReal) := by
  have e := after_block n hn (H.ln t) l
  rw [hp, hs, ht, hpr, hb, ← EReal.coe_sub, ← EReal.coe_sub, ← EReal.coe_add, ← EReal.coe_add, Ideal.exp_coe, Head.tail, e]
  generalize (∑ j : Fin 256, H.ln t (kp n hn j) * (if l.val < j.val then 1 else 0) : ℝ) = a
  generalize (∑ s, H.ln t s : ℝ) - upto n (H.ln t) - (∑ j : Fin 256, H.ln t (kp n hn j) : ℝ) = b
  rw [add_assoc]

theorem dz_at {e nle ple bf ep : EReal} (he : e = (H.e t (kp n hn l) : EReal)) (h1 : nle = (nl (H.z t (kp n hn l)) : EReal)) (h2 : ple = (pl (H.z t (kp n hn l)) : EReal))
    (hb : bf = ((∑ j : Fin 256, H.e t (kp n hn j) * (if j.val < l.val then 1 else 0) : ℝ) : EReal)) (hep : ep = (upto n (H.e t) : EReal)) :
    e * Ideal.exp nle - Ideal.exp ple * (bf + ep)
      = ((H.e t (kp n hn l) * Real.exp (nl (H.z t (kp n hn l))) - Real.exp (pl (H.z t (kp n hn l))) * H.pre t (kp n hn l) : ℝ) : EReal) := by
  have e' := before_block n hn (H.e t) l
  rw [he, h1, h2, hb, hep, Ideal.exp_coe, Ideal.exp_coe, ← EReal.coe_add, ← EReal.coe_mul, ← EReal.coe_mul, ← EReal.coe_sub, Head.pre, e']

theorem w_pos (h : kp n hn l < t) : H.w t (kp n hn l) = Real.exp (pl (H.z t (kp n hn l)) + H.tail t (kp n hn l)) := if_pos h
theorem dz_pos (h : kp n hn l < t) : H.dz t (kp n hn l) = H.e t (kp n hn l) * Real.exp (nl (H.z t (kp n hn l))) - Real.exp (pl (H.z t (kp n hn l))) * H.pre t (kp n hn l) := if_pos h
theorem ln_pos (h : kp n hn l < t) : H.ln t (kp n hn l) = nl (H.z t (kp n hn l)) := if_pos h

end At

section Tile
variable (P : Fin 2 → Head) (qi : Fin 4) (n : ℕ) (hn : n + 256 ≤ 2048)

section Past
variable (v46 v56 : FVec Ideal S1024x128 .bf16) (v61 pr ep : FVec Ideal S1024x1 .f32) (K W : FVec Ideal S256x128 .bf16)
  (h46 : ∀ r l, v46 (ix2 r l) = (q2 P qi r l : EReal)) (h56 : ∀ r l, v56 (ix2 r l) = (d2 P qi r l : EReal))
  (h61 : ∀ r, v61 (ix2 r 0) = ((∑ s, (P (side r)).ln (tq qi r) s : ℝ) : EReal))
  (hpr : ∀ r, pr (ix2 r 0) = (upto n ((P (side r)).ln (tq qi r)) : EReal)) (hep : ∀ r, ep (ix2 r 0) = (upto n ((P (side r)).e (tq qi r)) : EReal))
  (hK : ∀ j l, K (ix2 j l) = ((P (half l)).k (kp n hn j) (dm l) : EReal)) (hW : ∀ j l, W (ix2 j l) = ((P (half l)).v (kp n hn j) (dm l) : EReal))
  (hlt : ∀ (r : Fin 1024) (j : Fin 256), kp n hn j < tq qi r)

include h46 hK in
theorem zdot (r : Fin 1024) (j : Fin 256) : ∑ x, v46 (ix2 r x) * K (ix2 j x) = ((P (side r)).z (tq qi r) (kp n hn j) : EReal) := by
  rw [dot_row (side r) (fun x => v46 (ix2 r x)) (fun x => K (ix2 j x)) (fun e d => (P e).q (tq qi r) d * (1 / 8)) (fun e d => (P e).k (kp n hn j) d) (fun x => h46 r x) (fun x => hK j x)]
  rw [Head.z, Finset.sum_mul, Finset.sum_congr rfl fun d _ => mul_right_comm _ _ _]
include h56 hW in
theorem gdot (r : Fin 1024) (j : Fin 256) : ∑ x, v56 (ix2 r x) * W (ix2 j x) = ((P (side r)).dw (tq qi r) (kp n hn j) : EReal) :=
  dot_row (side r) (fun x => v56 (ix2 r x)) (fun x => W (ix2 j x)) (fun e d => (P e).g (tq qi r) d) (fun e d => (P e).v (kp n hn j) d) (fun x => h56 r x) (fun x => hW j x)

include h46 hK in
theorem b2 (r : Fin 1024) (j : Fin 256) : (k0_pay2 v46 K : FVec Ideal S1024x256 .f32) (ix2 r j) = ((P (side r)).z (tq qi r) (kp n hn j) : EReal) := by
  pointwise [k0_pay2, k0_pay1]
  exact zdot P qi n hn v46 K h46 hK r j
include h46 hK in
theorem b3 (r : Fin 1024) (j : Fin 256) : (k0_pay3 v46 K : FVec Ideal S1024x256 .f32) (ix2 r j) = (nl ((P (side r)).z (tq qi r) (kp n hn j)) : EReal) := by
  have e := b2 P qi n hn v46 K h46 hK r j
  generalize hZ : k0_pay2 (F := Ideal) v46 K = Z at e
  rw [← nl_coe, ← e]
  unfold k0_pay3; rw [hZ]
  pointwise
include h46 hK in
theorem b4 (r : Fin 1024) (j : Fin 256) : (k0_pay4 v46 K : FVec Ideal S1024x256 .f32) (ix2 r j) = (pl ((P (side r)).z (tq qi r) (kp n hn j)) : EReal) := by
  have e := b2 P qi n hn v46 K h46 hK r j
  have e' := b3 P qi n hn v46 K h46 hK r j
  rw [pl, EReal.coe_add, ← e, ← e']; rfl
include h46 hK hlt in
theorem b5 (r : Fin 1024) : (k0_pay5 v46 K : FVec Ideal S1024x1 .f32) (ix2 r 0) = ((∑ j : Fin 256, (P (side r)).ln (tq qi r) (kp n hn j) : ℝ) : EReal) := by
  have e := fun j => (b3 P qi n hn v46 K h46 hK r j).trans (congrArg _ (ln_pos _ _ n hn j (hlt r j)).symm)
  rw [coe_sum, ← Finset.sum_congr rfl fun j _ => e j]
  generalize hZ : k0_pay3 (F := Ideal) v46 K = Z
  unfold k0_pay5; rw [hZ]
  pointwise

include h46 h61 hpr hK hlt in
theorem b6 (r : Fin 1024) (j : Fin 256) : (k0_pay6 k0_pay22 v46 v61 pr K : FVec Ideal S1024x256 .f32) (ix2 r j) = ((P (side r)).w (tq qi r) (kp n hn j) : EReal) := by
  have e3 := fun j => (b3 P qi n hn v46 K h46 hK r j).trans (congrArg _ (ln_pos _ _ n hn j (hlt r j)).symm)
  have e4 := b4 P qi n hn v46 K h46 hK r j
  have e5 := b5 P qi n hn v46 K h46 hK hlt r
  rw [w_pos _ _ n hn j (hlt r j), ← w_at (P (side r)) (tq qi r) n hn j e4 rfl (h61 r) (hpr r) e5]
  generalize hA : k0_pay3 (F := Ideal) v46 K = A at e3
  generalize hB : k0_pay4 (F := Ideal) v46 K = B at e4
  generalize hC : k0_pay5 (F := Ideal) v46 K = C at e5
  unfold k0_pay6; rw [hA, hB, hC]
  rw [← later (fun x : Fin 512 => if h : x.val < 256 then A (ix2 r ⟨x.val, h⟩) else A (ix2 r ⟨x.val - 256, by omega⟩) - A (ix2 r ⟨x.val - 256, by omega⟩))
    (fun x => (k0_pay22 : FVec Ideal S512x256 .bf16) (ix2 x j)) _ j (fun x => ?_) (fun x => m22 x j)]
  · pointwise
  · split_ifs
    · exact e3 _
    · rw [e3]

include h46 h56 h61 hpr hK hW hlt in
theorem b7 (r : Fin 1024) (j : Fin 256) : (k0_pay7 k0_pay22 v46 v56 v61 pr K W : FVec Ideal S1024x256 .f32) (ix2 r j) = ((P (side r)).e (tq qi r) (kp n hn j) : EReal) := by
  have e6 := b6 P qi n hn v46 v61 pr K h46 h61 hpr hK hlt r j
  have e7 := gdot P qi n hn v56 W h56 hW r j
  rw [Head.e, EReal.coe_mul, ← e6, ← e7]
  generalize hA : k0_pay6 (F := Ideal) k0_pay22 v46 v61 pr K = A
  unfold k0_pay7; rw [hA]
  pointwise

include h46 h56 h61 hpr hep hK hW hlt in
theorem b8 (r : Fin 1024) (j : Fin 256) : (k0_pay8 k0_pay22 k0_pay23 v46 v56 v61 pr ep K W : FVec Ideal S1024x256 .f32) (ix2 r j) = ((P (side r)).dz (tq qi r) (kp n hn j) : EReal) := by
  have e3 := b3 P qi n hn v46 K h46 hK r j
  have e4 := b4 P qi n hn v46 K h46 hK r j
  have e7 := fun j => b7 P qi n hn v46 v56 v61 pr K W h46 h56 h61 hpr hK hW hlt r j
  rw [dz_pos _ _ n hn j (hlt r j), ← dz_at (P (side r)) (tq qi r) n hn j (e7 j) e3 e4 rfl (hep r)]
  rw [← sooner _ (fun x => (k0_pay23 : FVec Ideal S256x256 .bf16) (ix2 x j)) _ j e7 (fun x => m23 x j)]
  generalize hA : k0_pay3 (F := Ideal) v46 K = A
  generalize hB : k0_pay4 (F := Ideal) v46 K = B
  generalize hC : k0_pay7 (F := Ideal) k0_pay22 v46 v56 v61 pr K W = C
  unfold k0_pay8; rw [hA, hB, hC]
  pointwise

end Past

/-! The first key block of the diagonal, with all the rows. -/

section First
variable (v56 : FVec Ideal S1024x128 .bf16) (v61 pr ep : FVec Ideal S1024x1 .f32) (mk : IVec S1024x256 1) (Z : FVec Ideal S1024x256 .f32) (W : FVec Ideal S256x128 .bf16)
  (hZ : ∀ r j, Z (ix2 r j) = ((P (side r)).z (tq qi r) (kp n hn j) : EReal)) (h56 : ∀ r l, v56 (ix2 r l) = (d2 P qi r l : EReal))
  (h61 : ∀ r, v61 (ix2 r 0) = ((∑ s, (P (side r)).ln (tq qi r) s : ℝ) : EReal))
  (hpr : ∀ r, pr (ix2 r 0) = (upto n ((P (side r)).ln (tq qi r)) : EReal)) (hep : ∀ r, ep (ix2 r 0) = (upto n ((P (side r)).e (tq qi r)) : EReal))
  (hW : ∀ j l, W (ix2 j l) = ((P (half l)).v (kp n hn j) (dm l) : EReal))
  (hm : ∀ r j, mk (ix2 r j) = if kp n hn j < tq qi r then 1#1 else 0#1)

include hZ in
theorem b47 (r : Fin 1024) (j : Fin 256) : (k0_pay47 Z k0_pay46 : FVec Ideal S1024x256 .f32) (ix2 r j) = (nl ((P (side r)).z (tq qi r) (kp n hn j)) : EReal) := by
  rw [← nl_coe, ← hZ]
  pointwise [k0_pay47, k0_pay46]
include hZ in
theorem b48 (r : Fin 1024) (j : Fin 256) : (k0_pay48 Z k0_pay46 : FVec Ideal S1024x256 .f32) (ix2 r j) = (pl ((P (side r)).z (tq qi r) (kp n hn j)) : EReal) := by
  rw [pl, EReal.coe_add, ← hZ, ← b47 P qi n hn Z hZ r j]; rfl
include hZ hm in
theorem b49 (r : Fin 1024) (j : Fin 256) : (k0_pay49 mk Z k0_pay46 : FVec Ideal S1024x256 .f32) (ix2 r j) = ((P (side r)).ln (tq qi r) (kp n hn j) : EReal) := by
  have e := b47 P qi n hn Z hZ r j
  generalize hA : k0_pay47 (F := Ideal) Z k0_pay46 = A at e
  unfold k0_pay49; rw [hA]
  pointwise
  rw [hm, sel1, e, Head.ln]
  split_ifs
  · rfl
  · simp
include hZ hm in
theorem b50 (r : Fin 1024) : (k0_pay50 mk Z k0_pay46 : FVec Ideal S1024x1 .f32) (ix2 r 0) = ((∑ j : Fin 256, (P (side r)).ln (tq qi r) (kp n hn j) : ℝ) : EReal) := by
  rw [coe_sum, ← Finset.sum_congr rfl fun j _ => b49 P qi n hn mk Z hZ hm r j]
  generalize hA : k0_pay49 (F := Ideal) mk Z k0_pay46 = A
  unfold k0_pay50; rw [hA]
  pointwise

include hZ h61 hpr hm in
theorem b51 (r : Fin 1024) (j : Fin 256) : (k0_pay51 k0_pay22 v61 pr mk Z k0_pay46 : FVec Ideal S1024x256 .f32) (ix2 r j) = ((P (side r)).w (tq qi r) (kp n hn j) : EReal) := by
  have e3 := fun j => b49 P qi n hn mk Z hZ hm r j
  have e4 := b48 P qi n hn Z hZ r j
  have e5 := b50 P qi n hn mk Z hZ hm r
  have ew := w_at (P (side r)) (tq qi r) n hn j e4 rfl (h61 r) (hpr r) e5
  generalize hA : k0_pay49 (F := Ideal) mk Z k0_pay46 = A at e3
  generalize hB : k0_pay48 (F := Ideal) Z k0_pay46 = B at e4 ew
  generalize hC : k0_pay50 (F := Ideal) mk Z k0_pay46 = C at e5 ew
  rw [← later (fun x : Fin 512 => if h : x.val < 256 then A (ix2 r ⟨x.val, h⟩) else A (ix2 r ⟨x.val - 256, by omega⟩) - A (ix2 r ⟨x.val - 256, by omega⟩))
    (fun x => (k0_pay22 : FVec Ideal S512x256 .bf16) (ix2 x j)) _ j (fun x => ?_) (fun x => m22 x j)] at ew
  · rw [Head.w, apply_ite ((↑·) : ℝ → EReal), ← ew]
    unfold k0_pay51; rw [hA, hB, hC]
    pointwise
    rw [hm, sel1]
    simp
  · split_ifs
    · exact e3 _
    · rw [e3]

include hZ h56 h61 hpr hW hm in
theorem b52 (r : Fin 1024) (j : Fin 256) : (k0_pay52 k0_pay22 v56 v61 pr mk Z k0_pay46 W : FVec Ideal S1024x256 .f32) (ix2 r j) = ((P (side r)).e (tq qi r) (kp n hn j) : EReal) := by
  have e6 := b51 P qi n hn v61 pr mk Z hZ h61 hpr hm r j
  have e7 := gdot P qi n hn v56 W h56 hW r j
  rw [Head.e, EReal.coe_mul, ← e6, ← e7]
  generalize hA : k0_pay51 (F := Ideal) k0_pay22 v61 pr mk Z k0_pay46 = A
  unfold k0_pay52; rw [hA]
  pointwise

include hZ h56 h61 hpr hep hW hm in
theorem b53 (r : Fin 1024) (j : Fin 256) : (k0_pay53 k0_pay22 k0_pay23 v56 v61 pr ep mk Z k0_pay46 W : FVec Ideal S1024x256 .bf16) (ix2 r j) = ((P (side r)).dz (tq qi r) (kp n hn j) : EReal) := by
  have e3 := b47 P qi n hn Z hZ r j
  have e4 := b48 P qi n hn Z hZ r j
  have e7 := fun j => b52 P qi n hn v56 v61 pr mk Z W hZ h56 h61 hpr hW hm r j
  have ed := dz_at (P (side r)) (tq qi r) n hn j (e7 j) e3 e4 rfl (hep r)
  rw [← sooner _ (fun x => (k0_pay23 : FVec Ideal S256x256 .bf16) (ix2 x j)) _ j e7 (fun x => m23 x j)] at ed
  generalize hA : k0_pay47 (F := Ideal) Z k0_pay46 = A at ed
  generalize hB : k0_pay48 (F := Ideal) Z k0_pay46 = B at ed
  generalize hC : k0_pay52 (F := Ideal) k0_pay22 v56 v61 pr mk Z k0_pay46 W = C at ed
  rw [Head.dz, apply_ite ((↑·) : ℝ → EReal), ← ed]
  unfold k0_pay53; rw [hA, hB, hC]
  pointwise
  rw [hm, sel1]
  simp

end First

/-! The second key block of the diagonal, with the rows of the lower halves. -/

section Second
variable (v61 : FVec Ideal S1024x1 .f32) (x46 x56 : FVec Ideal S512x128 .bf16) (pr ep : FVec Ideal S512x1 .f32) (mk : IVec S512x256 1) (K W : FVec Ideal S256x128 .bf16)
  (h46 : ∀ r l, x46 (ix2 r l) = (q2 P qi (wr r) l : EReal)) (h56 : ∀ r l, x56 (ix2 r l) = (d2 P qi (wr r) l : EReal))
  (h61 : ∀ r, v61 (ix2 r 0) = ((∑ s, (P (side r)).ln (tq qi r) s : ℝ) : EReal))
  (hpr : ∀ r, pr (ix2 r 0) = (upto n ((P (side (wr r))).ln (tq qi (wr r))) : EReal)) (hep : ∀ r, ep (ix2 r 0) = (upto n ((P (side (wr r))).e (tq qi (wr r))) : EReal))
  (hK : ∀ j l, K (ix2 j l) = ((P (half l)).k (kp n hn j) (dm l) : EReal)) (hW : ∀ j l, W (ix2 j l) = ((P (half l)).v (kp n hn j) (dm l) : EReal))
  (hm : ∀ r j, mk (ix2 r j) = if kp n hn j < tq qi (wr r) then 1#1 else 0#1)

include h46 hK in
theorem b64 (r : Fin 512) (j : Fin 256) : (k0_pay64 x46 K : FVec Ideal S512x256 .f32) (ix2 r j) = ((P (side (wr r))).z (tq qi (wr r)) (kp n hn j) : EReal) := by
  pointwise [k0_pay64, k0_pay63]
  rw [dot_row (side (wr r)) (fun x => x46 (ix2 r x)) (fun x => K (ix2 j x)) (fun e d => (P e).q (tq qi (wr r)) d * (1 / 8)) (fun e d => (P e).k (kp n hn j) d) (fun x => h46 r x) (fun x => hK j x)]
  rw [Head.z, Finset.sum_mul, Finset.sum_congr rfl fun d _ => mul_right_comm _ _ _]
include h46 hK in
theorem b65 (r : Fin 512) (j : Fin 256) : (k0_pay65 x46 K : FVec Ideal S512x256 .f32) (ix2 r j) = (nl ((P (side (wr r))).z (tq qi (wr r)) (kp n hn j)) : EReal) := by
  have e := b64 P qi n hn x46 K h46 hK r j
  generalize hZ : k0_pay64 (F := Ideal) x46 K = Z at e
  rw [← nl_coe, ← e]
  unfold k0_pay65; rw [hZ]
  pointwise
include h46 hK in
theorem b66 (r : Fin 512) (j : Fin 256) : (k0_pay66 x46 K : FVec Ideal S512x256 .f32) (ix2 r j) = (pl ((P (side (wr r))).z (tq qi (wr r)) (kp n hn j)) : EReal) := by
  have e := b64 P qi n hn x46 K h46 hK r j
  have e' := b65 P qi n hn x46 K h46 hK r j
  rw [pl, EReal.coe_add, ← e, ← e']; rfl

include h46 h61 hpr hK hm in
theorem b67 (r : Fin 512) (j : Fin 256) : (k0_pay67 k0_pay22 v61 pr x46 mk K : FVec Ideal S512x256 .f32) (ix2 r j) = ((P (side (wr r))).w (tq qi (wr r)) (kp n hn j) : EReal) := by
  have e4 := b66 P qi n hn x46 K h46 hK r j
  have e65 := fun j => b65 P qi n hn x46 K h46 hK r j
  generalize hB : k0_pay66 (F := Ideal) x46 K = B at e4
  generalize hA : k0_pay65 (F := Ideal) x46 K = A at e65
  have e3 : ∀ j, Scalar.select (mk (ix2 r j)) (A (ix2 r j)) 0 = ((P (side (wr r))).ln (tq qi (wr r)) (kp n hn j) : EReal) := fun j => by
    rw [hm, sel1, e65, Head.ln]
    split_ifs
    · rfl
    · simp
  have e5 : ∑ j, Scalar.select (mk (ix2 r j)) (A (ix2 r j)) 0 = ((∑ j : Fin 256, (P (side (wr r))).ln (tq qi (wr r)) (kp n hn j) : ℝ) : EReal) := by
    rw [coe_sum]; exact Finset.sum_congr rfl fun j _ => e3 j
  have ew := w_at (P (side (wr r))) (tq qi (wr r)) n hn j e4 rfl (h61 (wr r)) (hpr r) e5
  rw [← later (fun x : Fin 512 => if h : x.val < 256 then Scalar.select (mk (ix2 r ⟨x.val, h⟩)) (A (ix2 r ⟨x.val, h⟩)) 0
        else Scalar.select (mk (ix2 r ⟨x.val - 256, by omega⟩)) (A (ix2 r ⟨x.val - 256, by omega⟩)) 0 - Scalar.select (mk (ix2 r ⟨x.val - 256, by omega⟩)) (A (ix2 r ⟨x.val - 256, by omega⟩)) 0)
    (fun x => (k0_pay22 : FVec Ideal S512x256 .bf16) (ix2 x j)) _ j (fun x => ?_) (fun x => m22 x j)] at ew
  · rw [Head.w, apply_ite ((↑·) : ℝ → EReal), ← ew]
    unfold k0_pay67; rw [hA, hB]
    pointwise
    rw [hm, sel1]
    by_cases h : r.val < 256
    · rw [wr_low r h]; simp [h]
    · rw [wr_high r h]; simp [h]
  · split_ifs
    · exact e3 _
    · rw [e3]

include h46 h56 h61 hpr hK hW hm in
theorem b68 (r : Fin 512) (j : Fin 256) : (k0_pay68 k0_pay22 v61 pr x46 x56 mk K W : FVec Ideal S512x256 .f32) (ix2 r j) = ((P (side (wr r))).e (tq qi (wr r)) (kp n hn j) : EReal) := by
  have e6 := b67 P qi n hn v61 x46 pr mk K h46 h61 hpr hK hm r j
  have e7 := dot_row (side (wr r)) (fun x => x56 (ix2 r x)) (fun x => W (ix2 j x)) (fun e d => (P e).g (tq qi (wr r)) d) (fun e d => (P e).v (kp n hn j) d) (fun x => h56 r x) (fun x => hW j x)
  rw [Head.e, EReal.coe_mul, ← e6, Head.dw, ← e7]
  generalize hA : k0_pay67 (F := Ideal) k0_pay22 v61 pr x46 mk K = A
  unfold k0_pay68; rw [hA]
  pointwise

include h46 h56 h61 hpr hep hK hW hm in
theorem b71 (r : Fin 512) (j : Fin 256) : (k0_pay71 mk (k0_pay66 x46 K) (k0_pay68 k0_pay22 v61 pr x46 x56 mk K W) (k0_pay69 k0_pay22 k0_pay23 v61 pr ep x46 x56 mk K W) (k0_pay70 x46 K) : FVec Ideal S512x256 .bf16) (ix2 r j)
    = ((P (side (wr r))).dz (tq qi (wr r)) (kp n hn j) : EReal) := by
  have e3 := b65 P qi n hn x46 K h46 hK r j
  have e4 := b66 P qi n hn x46 K h46 hK r j
  have e7 := fun j => b68 P qi n hn v61 x46 x56 pr mk K W h46 h56 h61 hpr hK hW hm r j
  have ed := dz_at (P (side (wr r))) (tq qi (wr r)) n hn j (e7 j) e3 e4 rfl (hep r)
  rw [← sooner _ (fun x => (k0_pay23 : FVec Ideal S256x256 .bf16) (ix2 x j)) _ j e7 (fun x => m23 x j)] at ed
  unfold k0_pay69 k0_pay70
  generalize hA : k0_pay65 (F := Ideal) x46 K = A at ed
  generalize hB : k0_pay66 (F := Ideal) x46 K = B at ed
  generalize hC : k0_pay68 (F := Ideal) k0_pay22 v61 pr x46 x56 mk K W = C at ed
  rw [Head.dz, apply_ite ((↑·) : ℝ → EReal), ← ed]
  pointwise [k0_pay71]
  rw [hm, sel1]
  simp

end Second

end Tile

/-! What a tile adds. -/

variable (P : Fin 2 → Head) (qi : Fin 4)

/-- The summands of the key gradients and of the values', lane by lane. -/
def DK (l : Fin 128) (t s : Fin 2048) : ℝ := (P (half l)).dz t s * ((P (half l)).q t (dm l) * (1 / 8))
def DV (l : Fin 128) (t s : Fin 2048) : ℝ := (P (half l)).w t s * (P (half l)).g t (dm l)

theorem rows_all (e : Fin 2) (D V : Fin 1024 → EReal) (a : Fin 2 → Fin 512 → ℝ) (b : Fin 512 → ℝ) (hD : ∀ r, D r = (a (side r) (rq r) : EReal))
    (hV : ∀ r : Fin 1024, V r = ((if e.val = r.val / 512 then b (rq r) else 0 : ℝ) : EReal)) : ∑ r, D r * V r = ((∑ i, a e i * b i : ℝ) : EReal) := by
  rw [Finset.sum_congr rfl fun r _ => congrArg₂ (· * ·) (hD r) (hV r), coe_dot]
  refine congrArg (fun z : ℝ => (z : EReal)) ?_
  rw [← sum_rows2 e fun e i => a e i * b i]
  exact Finset.sum_congr rfl fun r _ => by rw [mul_ite, mul_zero]

theorem rows_low (e : Fin 2) (D V : Fin 512 → EReal) (a : Fin 2 → Fin 256 → ℝ) (b : Fin 256 → ℝ) (hD : ∀ r, D r = (a (sideb r) (rb r) : EReal))
    (hV : ∀ r : Fin 512, V r = ((if e.val = r.val / 256 then b (rb r) else 0 : ℝ) : EReal)) : ∑ r, D r * V r = ((∑ i, a e i * b i : ℝ) : EReal) := by
  have he := e.isLt
  rw [Finset.sum_congr rfl fun r _ => congrArg₂ (· * ·) (hD r) (hV r), coe_dot]
  refine congrArg (fun z : ℝ => (z : EReal)) ?_
  have h1 := sum_side (N := 512) (n := 256) rfl (by decide) e fun r => a (sideb r) (rb r) * b (rb r)
  refine Eq.trans (Finset.sum_congr rfl fun r _ => ?_) (h1.trans (Finset.sum_congr rfl fun i _ => ?_))
  · rw [mul_ite, mul_zero]; exact if_congr eq_comm rfl rfl
  · have hi := i.isLt
    rw [show sideb ⟨e.val * 256 + i.val, by omega⟩ = e from Fin.ext (by show (e.val * 256 + i.val) / 256 = e.val; omega),
      show rb ⟨e.val * 256 + i.val, by omega⟩ = i from Fin.ext (by show (e.val * 256 + i.val) % 256 = i.val; omega)]

section Update
variable (s : Fin 2048)

theorem upd_k (D : Fin 1024 → EReal) (hD : ∀ r, D r = ((P (side r)).dz (tq qi r) s : EReal)) (v46 : FVec Ideal S1024x128 .bf16) (h46 : ∀ r l, v46 (ix2 r l) = (q2 P qi r l : EReal)) (l : Fin 128) :
    ∑ r, D r * v46 (ix2 r l) = ((∑ i : Fin 512, DK P l (pos qi i) s : ℝ) : EReal) :=
  rows_all (half l) D _ (fun e i => (P e).dz (pos qi i) s) (fun i => (P (half l)).q (pos qi i) (dm l) * (1 / 8)) hD fun r => h46 r l
theorem upd_v (D : Fin 1024 → EReal) (hD : ∀ r, D r = ((P (side r)).w (tq qi r) s : EReal)) (v56 : FVec Ideal S1024x128 .bf16) (h56 : ∀ r l, v56 (ix2 r l) = (d2 P qi r l : EReal)) (l : Fin 128) :
    ∑ r, D r * v56 (ix2 r l) = ((∑ i : Fin 512, DV P l (pos qi i) s : ℝ) : EReal) :=
  rows_all (half l) D _ (fun e i => (P e).w (pos qi i) s) (fun i => (P (half l)).g (pos qi i) (dm l)) hD fun r => h56 r l

theorem wr_tq (r : Fin 512) : tq qi (wr r) = pos qi (up (rb r)) := congrArg (pos qi) (wr_rq r)

/-- The rows of the upper halves see no key of the lower ones. -/
theorem low_only (f : Fin 2048 → ℝ) (hs : 512 * qi.val + 256 ≤ s.val) (hf : ∀ t, ¬ s < t → f t = 0) : ∑ i : Fin 256, f (pos qi (up i)) = ∑ i : Fin 512, f (pos qi i) := by
  have h := Fin.sum_univ_add (a := 256) (b := 256) fun i : Fin (256 + 256) => f (pos qi i)
  refine Eq.trans ?_ h.symm
  rw [Finset.sum_eq_zero (s := Finset.univ) fun (i : Fin 256) _ => hf (pos qi (Fin.castAdd 256 i)) (fun hc => ?_), zero_add]
  · rfl
  · have := Fin.lt_def.1 hc
    have hi := i.isLt
    have : s.val < 512 * qi.val + i.val := this
    omega

theorem upd_kb (hs : 512 * qi.val + 256 ≤ s.val) (D : Fin 512 → EReal) (hD : ∀ r, D r = ((P (side (wr r))).dz (tq qi (wr r)) s : EReal)) (x46 : FVec Ideal S512x128 .bf16)
    (h46 : ∀ r l, x46 (ix2 r l) = (q2 P qi (wr r) l : EReal)) (l : Fin 128) : ∑ r, D r * x46 (ix2 r l) = ((∑ i : Fin 512, DK P l (pos qi i) s : ℝ) : EReal) := by
  rw [← low_only qi s (fun t => DK P l t s) hs fun t h => by rw [DK, Head.dz_zero _ h, zero_mul]]
  refine rows_low (half l) D _ (fun e i => (P e).dz (pos qi (up i)) s) (fun i => (P (half l)).q (pos qi (up i)) (dm l) * (1 / 8)) (fun r => ?_) fun r => ?_
  · rw [hD, wr_side, wr_tq]
  · rw [h46, q2, wr_tq]
    exact congrArg _ (if_congr (by rw [show (wr r).val / 512 = r.val / 256 from congrArg Fin.val (wr_side r)]) rfl rfl)
theorem upd_vb (hs : 512 * qi.val + 256 ≤ s.val) (D : Fin 512 → EReal) (hD : ∀ r, D r = ((P (side (wr r))).w (tq qi (wr r)) s : EReal)) (x56 : FVec Ideal S512x128 .bf16)
    (h56 : ∀ r l, x56 (ix2 r l) = (d2 P qi (wr r) l : EReal)) (l : Fin 128) : ∑ r, D r * x56 (ix2 r l) = ((∑ i : Fin 512, DV P l (pos qi i) s : ℝ) : EReal) := by
  rw [← low_only qi s (fun t => DV P l t s) hs fun t h => by rw [DV, Head.w_zero _ h, zero_mul]]
  refine rows_low (half l) D _ (fun e i => (P e).w (pos qi (up i)) s) (fun i => (P (half l)).g (pos qi (up i)) (dm l)) (fun r => ?_) fun r => ?_
  · rw [hD, wr_side, wr_tq]
  · rw [h56, d2, wr_tq]
    exact congrArg _ (if_congr (by rw [show (wr r).val / 512 = r.val / 256 from congrArg Fin.val (wr_side r)]) rfl rfl)

end Update

end Cert.SbTile
end
-- ==== Proof.SbLoop.lean ====
/- The key blocks before the diagonal ones: what the loop over them leaves in the carried row sums and in the two accumulators. -/
module

public import proofs.«01_k».proof.Proof.SbTile
public import proofs.«01_k».proof.Proof.FoxLoop

@[expose] public section

set_option maxRecDepth 16384

noncomputable section

namespace Cert.SbLoop

open Idealize.ShloMosaic Idealize.SL.Sem Cert.SbIdeal Cert.SbIdeal.Gen Cert.Common Cert.RealKit Cert.SbSpec Cert.SbBlock Cert.SbTile
open Cert.FoxBlock (pos side rq half dm tq)
open Cert.FoxLoop (win)
open scoped BigOperators

variable (P : Fin 2 → Head) (qi : Fin 4)

/-- The sums a row carries over the key positions below `n`: of the logarithms, of the cotangent products, of the query gradient. -/
def accI (n : ℕ) (a : FVec Ideal S1024x1 .f32 × FVec Ideal S1024x1 .f32 × FVec Ideal S1024x128 .f32) : Prop :=
  (∀ r, a.1 (ix2 r 0) = (upto n ((P (side r)).ln (tq qi r)) : EReal)) ∧ (∀ r, a.2.1 (ix2 r 0) = (upto n ((P (side r)).e (tq qi r)) : EReal))
    ∧ ∀ r l, a.2.2 (ix2 r l) = ((upto n fun s => (P (side r)).dz (tq qi r) s * (P (half l)).k s (dm l) : ℝ) : EReal)
/-- An accumulator with the query block added at the key positions below `n`. -/
def tokI (G : Fin 128 → Fin 2048 → Fin 2048 → ℝ) (n : ℕ) (x : S2048x128.Idx → EReal) : Prop :=
  ∀ s l, x (ix2 s l) = ((upto (if s.val < n then 512 * qi.val + 512 else 512 * qi.val) fun t => G l t s : ℝ) : EReal)

variable {P qi}

theorem p32 (v44 : FVec Ideal S1024x128 .bf16) (y : FVec Ideal S1024x256 .f32) (f : Vec Ideal S256x128 .f32) (j : Fin 256) (l : Fin 128) :
    (k0_pay32 v44 y f : FVec Ideal S256x128 .f32) (ix2 j l) = f (ix2 j l) + ∑ r : Fin 1024, y (ix2 r j) * (k0_pay25 v44 : FVec Ideal S1024x128 .bf16) (ix2 r l) := by
  pointwise [k0_pay32, k0_pay31]
theorem p33 (v8 v13 : IVec S1x128 1) (v47 : Vec Ideal S512x128 .bf16) (y : FVec Ideal S1024x256 .f32) (f : Vec Ideal S256x128 .f32) (j : Fin 256) (l : Fin 128) :
    (k0_pay33 v8 v13 v47 y f : FVec Ideal S256x128 .f32) (ix2 j l) = f (ix2 j l) + ∑ r : Fin 1024, y (ix2 r j) * (k0_pay26 v8 v13 v47 : FVec Ideal S1024x128 .bf16) (ix2 r l) := by
  pointwise [k0_pay33]
theorem p34 (a x : FVec Ideal S1024x1 .f32) (r : Fin 1024) : (k0_pay34 a x : FVec Ideal S1024x1 .f32) (ix2 r 0) = a (ix2 r 0) + x (ix2 r 0) := by
  pointwise [k0_pay34]
theorem p35 (a : FVec Ideal S1024x1 .f32) (y : FVec Ideal S1024x256 .f32) (r : Fin 1024) : (k0_pay35 a y : FVec Ideal S1024x1 .f32) (ix2 r 0) = a (ix2 r 0) + ∑ j : Fin 256, y (ix2 r j) := by
  pointwise [k0_pay35]
theorem p36 (a : FVec Ideal S1024x128 .f32) (k : FVec Ideal S256x128 .bf16) (y : FVec Ideal S1024x256 .f32) (r : Fin 1024) (l : Fin 128) :
    (k0_pay36 a k y : FVec Ideal S1024x128 .f32) (ix2 r l) = a (ix2 r l) + ∑ j : Fin 256, y (ix2 r j) * k (ix2 j l) := by
  pointwise [k0_pay36, k0_pay31]
theorem p1 (x : Vec Ideal S256x128 .bf16) (j : Fin 256) (l : Fin 128) : (k0_pay1 x : FVec Ideal S256x128 .bf16) (ix2 j l) = x (ix2 j l) := by
  pointwise [k0_pay1]

theorem upd_q (D : Fin 256 → EReal) (d : Fin 2048 → ℝ) (n : ℕ) (hn : n + 256 ≤ 2048) (hD : ∀ j, D j = (d (kp n hn j) : EReal)) (K : FVec Ideal S256x128 .bf16)
    (hK : ∀ j l, K (ix2 j l) = ((P (half l)).k (kp n hn j) (dm l) : EReal)) (l : Fin 128) :
    ∑ j : Fin 256, D j * K (ix2 j l) = ((∑ j : Fin 256, d (kp n hn j) * (P (half l)).k (kp n hn j) (dm l) : ℝ) : EReal) := by
  rw [Finset.sum_congr rfl fun j _ => congrArg₂ (· * ·) (hD j) (hK j l), coe_dot]

variable {G : Fin 128 → Fin 2048 → Fin 2048 → ℝ} {n : ℕ} {hn : n + 256 ≤ 2048}

/-- A store of the rows of one key block advances an accumulator past it. -/
theorem tok_put (v : View sig .tc .vmem S2048x128 .f32) (f : v.ty.Contents (Elt Ideal)) {off : Fin 2 → ℕ} (inb : ∀ a : Fin 2, off a + S256x128.size a ≤ S2048x128.size a)
    (x : S256x128.Idx → EReal) (L : List (View.Piece (Elt Ideal) S2048x128 .f32)) (hoff : off = ![n, 0]) (h : tokI qi G n (v.read (Elt Ideal) (v.writes (Elt Ideal) f L)))
    (hx : ∀ j l, x (ix2 j l) = ((upto (512 * qi.val + 512) fun t => G l t (kp n hn j) : ℝ) : EReal)) :
    tokI qi G (n + 256) (v.read (Elt Ideal) (v.writes (Elt Ideal) f ((⟨Rect.unit (s := S2048x128) off S256x128.size inb, x⟩ : View.Piece (Elt Ideal) S2048x128 .f32) :: L))) := by
  intro s l
  refine (View.read_writes_cons_rows (d := ![2048, 128]) (size := S256x128.size) (o := n) (W := 256) _ _ inb _ _ (ix2 s l) hoff rfl rfl).trans ?_
  by_cases hs : n ≤ s.val ∧ s.val < n + 256
  · refine (dif_pos hs).trans ((congrArg x (show _ = ix2 ⟨s.val - n, by omega⟩ l from ?_)).trans ((hx _ l).trans ?_))
    · refine funext fun a => Fin.ext ?_
      match a with
      | 0 => rfl
      | 1 => rfl
    · rw [if_pos (by omega), show kp n hn ⟨s.val - n, by omega⟩ = s from Fin.ext (by show n + (s.val - n) = s.val; omega)]
  · exact (dif_neg hs).trans ((h s l).trans (congrArg (fun n : ℕ => ((upto n fun t => G l t s : ℝ) : EReal)) (if_congr (by omega) rfl rfl)))

/-- What a load of those rows finds before. -/
theorem tok_old (v : View sig .tc .vmem S2048x128 .f32) (f : v.ty.Contents (Elt Ideal)) {off : Fin 2 → ℕ} (inb : ∀ a : Fin 2, off a + S256x128.size a ≤ S2048x128.size a)
    (hoff : off = ![n, 0]) (h : tokI qi G n (v.read (Elt Ideal) f)) (j : Fin 256) (l : Fin 128) :
    View.readAt (Elt Ideal) v (Rect.unit (s := S2048x128) off S256x128.size inb).toLoadRect f (ix2 j l) = ((upto (512 * qi.val) fun t => G l t (kp n hn j) : ℝ) : EReal) := by
  refine (win _ inb hoff j l (by omega) (by omega)).trans ((h _ _).trans ?_)
  simp only [Nat.zero_add]
  rw [if_neg (by omega)]

theorem loop1 {𝒱 : Variants} {c : Dev nD} {bd : Option 𝒱.V} {i : grid0.Coords} {arg3 : Memref sig .tc .vmem S512x128 .bf16} {harg3 : arg3.IsWhole} {arg4 : Memref sig .tc .vmem S2048x128 .bf16} {harg4 : arg4.IsWhole} {arg5 : Memref sig .tc .vmem S2048x128 .bf16} {harg5 : arg5.IsWhole} {arg6 : Memref sig .tc .vmem S512x128 .bf16} {harg6 : arg6.IsWhole} {arg7 : Memref sig .tc .vmem S512x128 .f32} {harg7 : arg7.IsWhole} {arg8 : Memref sig .tc .vmem S512x128 .bf16} {harg8 : arg8.IsWhole} {arg9 : Memref sig .tc .vmem S2048x128 .bf16} {harg9 : arg9.IsWhole} {arg10 : Memref sig .tc .vmem S2048x128 .bf16} {harg10 : arg10.IsWhole} {arg11 : Memref sig .tc .vmem S2048x128 .f32} {harg11 : arg11.IsWhole} {arg12 : Memref sig .tc .vmem S2048x128 .f32} {harg12 : arg12.IsWhole} {arg2 : BitVec 32} {v8 : IVec S1x128 1} {v13 : IVec S1x128 1} {v21 : IVec S1024x256 32} {v28 : FVec Ideal S512x256 .bf16} {v34 : FVec Ideal S256x256 .bf16} {v44 : FVec Ideal S1024x128 .bf16} {v47 : Vec Ideal S512x128 .bf16} {v57 : Vec Ideal S512x128 .f32} {X_arg4 : BufTy.Contents (Elt Ideal) arg4.view.ty} {X_arg5 : BufTy.Contents (Elt Ideal) arg5.view.ty} {G_arg11 : BufTy.Contents (Elt Ideal) arg11.view.ty} {G_arg12 : BufTy.Contents (Elt Ideal) arg12.view.ty} {init : FVec Ideal S1024x1 .f32 × FVec Ideal S1024x1 .f32 × FVec Ideal S1024x128 .f32}
    (htr : (k0_t1_loop i).trips = 2 * qi.val)
    (hoff : ∀ k : Fin (k0_t1_loop i).trips, k0_off1 i k = ![256 * k.val, 0])
    (e8 : v8 = k0_pay19) (e13 : v13 = k0_pay20) (e28 : v28 = k0_pay22) (e34 : v34 = k0_pay23)
    (h46 : ∀ r l, (k0_pay25 v44 : FVec Ideal S1024x128 .bf16) (ix2 r l) = (q2 P qi r l : EReal)) (h56 : ∀ r l, (k0_pay26 k0_pay19 k0_pay20 v47 : FVec Ideal S1024x128 .bf16) (ix2 r l) = (d2 P qi r l : EReal))
    (h61 : ∀ r, (k0_pay27 v57 : FVec Ideal S1024x1 .f32) (ix2 r 0) = ((∑ s, (P (side r)).ln (tq qi r) s : ℝ) : EReal))
    (hk : ∀ (s : Fin 2048) (l : Fin 128), arg4.view.read (Elt Ideal) X_arg4 (ix2 s l) = ((P (half l)).k s (dm l) : EReal))
    (hv : ∀ (s : Fin 2048) (l : Fin 128), arg5.view.read (Elt Ideal) X_arg5 (ix2 s l) = ((P (half l)).v s (dm l) : EReal))
    (hi : accI P qi 0 init) (h11 : tokI qi (DK P) 0 (arg11.view.read (Elt Ideal) G_arg11)) (h12 : tokI qi (DV P) 0 (arg12.view.read (Elt Ideal) G_arg12)) :
    ∀ k : ℕ, k ≤ 2 * qi.val →
      accI P qi (256 * k) (st_k0_t1 (F := Ideal) 𝒱 c bd i arg3 harg3 arg4 harg4 arg5 harg5 arg6 harg6 arg7 harg7 arg8 harg8 arg9 harg9 arg10 harg10 arg11 harg11 arg12 harg12 arg2 v8 v13 v21 v28 v34 v44 v47 v57 X_arg4 X_arg5 G_arg11 G_arg12 init k).1
      ∧ tokI qi (DK P) (256 * k) (arg11.view.read (Elt Ideal) (arg11.view.writes (Elt Ideal) G_arg11 (st_k0_t1 (F := Ideal) 𝒱 c bd i arg3 harg3 arg4 harg4 arg5 harg5 arg6 harg6 arg7 harg7 arg8 harg8 arg9 harg9 arg10 harg10 arg11 harg11 arg12 harg12 arg2 v8 v13 v21 v28 v34 v44 v47 v57 X_arg4 X_arg5 G_arg11 G_arg12 init k).2.1))
      ∧ tokI qi (DV P) (256 * k) (arg12.view.read (Elt Ideal) (arg12.view.writes (Elt Ideal) G_arg12 (st_k0_t1 (F := Ideal) 𝒱 c bd i arg3 harg3 arg4 harg4 arg5 harg5 arg6 harg6 arg7 harg7 arg8 harg8 arg9 harg9 arg10 harg10 arg11 harg11 arg12 harg12 arg2 v8 v13 v21 v28 v34 v44 v47 v57 X_arg4 X_arg5 G_arg11 G_arg12 init k).2.2)) := by
  subst e8 e13 e28 e34
  intro k
  induction k with
  | zero => exact fun _ => ⟨hi, h11, h12⟩
  | succ k ih =>
    intro hle
    obtain ⟨ia, i11, i12⟩ := ih (by omega)
    have hk' : k < (k0_t1_loop i).trips := by omega
    have hq := qi.isLt
    have o1 := hoff ⟨k, hk'⟩
    have hn : 256 * k + 256 ≤ 2048 := by omega
    have e := st_k0_t1_succ (F := Ideal) 𝒱 c bd i arg3 harg3 arg4 harg4 arg5 harg5 arg6 harg6 arg7 harg7 arg8 harg8 arg9 harg9 arg10 harg10 arg11 harg11 arg12 harg12 arg2 k0_pay19 k0_pay20 v21 k0_pay22 k0_pay23 v44 v47 v57 X_arg4 X_arg5 G_arg11 G_arg12 init ⟨k, hk'⟩
    have e' : st_k0_t1 (F := Ideal) 𝒱 c bd i arg3 harg3 arg4 harg4 arg5 harg5 arg6 harg6 arg7 harg7 arg8 harg8 arg9 harg9 arg10 harg10 arg11 harg11 arg12 harg12 arg2 k0_pay19 k0_pay20 v21 k0_pay22 k0_pay23 v44 v47 v57 X_arg4 X_arg5 G_arg11 G_arg12 init (k + 1) = _ := e
    rw [e']
    generalize st_k0_t1 (F := Ideal) 𝒱 c bd i arg3 harg3 arg4 harg4 arg5 harg5 arg6 harg6 arg7 harg7 arg8 harg8 arg9 harg9 arg10 harg10 arg11 harg11 arg12 harg12 arg2 k0_pay19 k0_pay20 v21 k0_pay22 k0_pay23 v44 v47 v57 X_arg4 X_arg5 G_arg11 G_arg12 init k = S at ia i11 i12 ⊢
    clear e e' ih
    unfold tripL_k0_t1 tripR_k0_t1 trip_k0_t1
    dsimp only
    have hlt : ∀ (r : Fin 1024) (j : Fin 256), kp (256 * k) hn j < tq qi r := fun r j => by
      show 256 * k + j.val < 512 * qi.val + r.val % 512; omega
    have hK : ∀ (j : Fin 256) (l : Fin 128), View.readAt (Elt Ideal) arg4.view (Rect.unit (s := S2048x128) (k0_off1 i ⟨k, hk'⟩) S256x128.size (k0_off1_inb i ⟨k, hk'⟩)).toLoadRect X_arg4 (ix2 j l) = ((P (half l)).k (kp (256 * k) hn j) (dm l) : EReal) := fun j l => by
      refine (win _ _ o1 j l (by omega) (by omega)).trans ((hk _ _).trans ?_)
      simp only [Nat.zero_add]
    have hW : ∀ (j : Fin 256) (l : Fin 128), View.readAt (Elt Ideal) arg5.view (Rect.unit (s := S2048x128) (k0_off1 i ⟨k, hk'⟩) S256x128.size (k0_off1_inb i ⟨k, hk'⟩)).toLoadRect X_arg5 (ix2 j l) = ((P (half l)).v (kp (256 * k) hn j) (dm l) : EReal) := fun j l => by
      refine (win _ _ o1 j l (by omega) (by omega)).trans ((hv _ _).trans ?_)
      simp only [Nat.zero_add]
    obtain ⟨a1, a2, a3⟩ := ia
    have hL := b5 P qi (256 * k) hn _ _ h46 hK hlt
    have hY := b6 P qi (256 * k) hn _ _ _ _ h46 h61 a1 hK hlt
    have hE := b7 P qi (256 * k) hn _ _ _ _ _ _ h46 h56 h61 a1 hK hW hlt
    have hD := b8 P qi (256 * k) hn _ _ _ _ _ _ _ h46 h56 h61 a1 a2 hK hW hlt
    rw [show 256 * (k + 1) = 256 * k + 256 from by omega]
    refine ⟨⟨fun r => ?_, fun r => ?_, fun r l => ?_⟩, ?_, ?_⟩
    · rw [upto_add (256 * k) 256 hn, EReal.coe_add]
      exact (p34 _ _ r).trans (congrArg₂ (· + ·) (a1 r) (hL r))
    · rw [upto_add (256 * k) 256 hn, EReal.coe_add, coe_sum]
      exact (p35 _ _ r).trans (congrArg₂ (· + ·) (a2 r) (Finset.sum_congr rfl fun j _ => hE r j))
    · rw [upto_add (256 * k) 256 hn, EReal.coe_add]
      exact (p36 _ _ _ r l).trans (congrArg₂ (· + ·) (a3 r l) (upd_q _ ((P (side r)).dz (tq qi r)) (256 * k) hn (fun j => hD r j) _ (fun j l => (p1 _ j l).trans (hK j l)) l))
    · refine tok_put (hn := hn) _ _ (k0_off1_inb i ⟨k, hk'⟩) _ _ o1 i11 fun j l => (p32 _ _ _ j l).trans ?_
      rw [upto_add _ 512 (by omega), EReal.coe_add]
      exact congrArg₂ (· + ·) (tok_old (hn := hn) _ _ (k0_off1_inb i ⟨k, hk'⟩) o1 i11 j l) (upd_k P qi (kp (256 * k) hn j) _ (fun r => hD r j) _ h46 l)
    · refine tok_put (hn := hn) _ _ (k0_off1_inb i ⟨k, hk'⟩) _ _ o1 i12 fun j l => (p33 _ _ _ _ _ j l).trans ?_
      rw [upto_add _ 512 (by omega), EReal.coe_add]
      exact congrArg₂ (· + ·) (tok_old (hn := hn) _ _ (k0_off1_inb i ⟨k, hk'⟩) o1 i12 j l) (upd_v P qi (kp (256 * k) hn j) _ (fun r => hY r j) _ h56 l)

/-- The second loop over key blocks makes no trip. -/
theorem st2_zero {𝒱 : Variants} {c : Dev nD} {bd : Option 𝒱.V} {i : grid0.Coords} {arg3 : Memref sig .tc .vmem S512x128 .bf16} {harg3 : arg3.IsWhole} {arg4 : Memref sig .tc .vmem S2048x128 .bf16} {harg4 : arg4.IsWhole} {arg5 : Memref sig .tc .vmem S2048x128 .bf16} {harg5 : arg5.IsWhole} {arg6 : Memref sig .tc .vmem S512x128 .bf16} {harg6 : arg6.IsWhole} {arg7 : Memref sig .tc .vmem S512x128 .f32} {harg7 : arg7.IsWhole} {arg8 : Memref sig .tc .vmem S512x128 .bf16} {harg8 : arg8.IsWhole} {arg9 : Memref sig .tc .vmem S2048x128 .bf16} {harg9 : arg9.IsWhole} {arg10 : Memref sig .tc .vmem S2048x128 .bf16} {harg10 : arg10.IsWhole} {arg11 : Memref sig .tc .vmem S2048x128 .f32} {harg11 : arg11.IsWhole} {arg12 : Memref sig .tc .vmem S2048x128 .f32} {harg12 : arg12.IsWhole} {arg2 : BitVec 32} {v8 : IVec S1x128 1} {v13 : IVec S1x128 1} {v21 : IVec S1024x256 32} {v28 : FVec Ideal S512x256 .bf16} {v34 : FVec Ideal S256x256 .bf16} {v44 : FVec Ideal S1024x128 .bf16} {v47 : Vec Ideal S512x128 .bf16} {v57 : Vec Ideal S512x128 .f32} {v70 : BitVec 32} {X_arg4 : BufTy.Contents (Elt Ideal) arg4.view.ty} {X_arg5 : BufTy.Contents (Elt Ideal) arg5.view.ty} {G_arg11 : BufTy.Contents (Elt Ideal) arg11.view.ty} {G_arg12 : BufTy.Contents (Elt Ideal) arg12.view.ty} {init : FVec Ideal S1024x1 .f32 × FVec Ideal S1024x1 .f32 × FVec Ideal S1024x128 .f32} {n : ℕ}
    (hn : n = 0) : st_k0_t2 (F := Ideal) 𝒱 c bd i arg3 harg3 arg4 harg4 arg5 harg5 arg6 harg6 arg7 harg7 arg8 harg8 arg9 harg9 arg10 harg10 arg11 harg11 arg12 harg12 arg2 v8 v13 v21 v28 v34 v44 v47 v57 v70 X_arg4 X_arg5 G_arg11 G_arg12 init n = (init, [], []) := by
  subst hn; rfl

/-- The first loop with no trip changes nothing. -/
theorem st1_zero {𝒱 : Variants} {c : Dev nD} {bd : Option 𝒱.V} {i : grid0.Coords} {arg3 : Memref sig .tc .vmem S512x128 .bf16} {harg3 : arg3.IsWhole} {arg4 : Memref sig .tc .vmem S2048x128 .bf16} {harg4 : arg4.IsWhole} {arg5 : Memref sig .tc .vmem S2048x128 .bf16} {harg5 : arg5.IsWhole} {arg6 : Memref sig .tc .vmem S512x128 .bf16} {harg6 : arg6.IsWhole} {arg7 : Memref sig .tc .vmem S512x128 .f32} {harg7 : arg7.IsWhole} {arg8 : Memref sig .tc .vmem S512x128 .bf16} {harg8 : arg8.IsWhole} {arg9 : Memref sig .tc .vmem S2048x128 .bf16} {harg9 : arg9.IsWhole} {arg10 : Memref sig .tc .vmem S2048x128 .bf16} {harg10 : arg10.IsWhole} {arg11 : Memref sig .tc .vmem S2048x128 .f32} {harg11 : arg11.IsWhole} {arg12 : Memref sig .tc .vmem S2048x128 .f32} {harg12 : arg12.IsWhole} {arg2 : BitVec 32} {v8 : IVec S1x128 1} {v13 : IVec S1x128 1} {v21 : IVec S1024x256 32} {v28 : FVec Ideal S512x256 .bf16} {v34 : FVec Ideal S256x256 .bf16} {v44 : FVec Ideal S1024x128 .bf16} {v47 : Vec Ideal S512x128 .bf16} {v57 : Vec Ideal S512x128 .f32} {X_arg4 : BufTy.Contents (Elt Ideal) arg4.view.ty} {X_arg5 : BufTy.Contents (Elt Ideal) arg5.view.ty} {G_arg11 : BufTy.Contents (Elt Ideal) arg11.view.ty} {G_arg12 : BufTy.Contents (Elt Ideal) arg12.view.ty} {init : FVec Ideal S1024x1 .f32 × FVec Ideal S1024x1 .f32 × FVec Ideal S1024x128 .f32} {n : ℕ}
    (hn : n = 0) : st_k0_t1 (F := Ideal) 𝒱 c bd i arg3 harg3 arg4 harg4 arg5 harg5 arg6 harg6 arg7 harg7 arg8 harg8 arg9 harg9 arg10 harg10 arg11 harg11 arg12 harg12 arg2 v8 v13 v21 v28 v34 v44 v47 v57 X_arg4 X_arg5 G_arg11 G_arg12 init n = (init, [], []) := by
  subst hn; rfl

end Cert.SbLoop
end
-- ==== Proof.SbValue.lean ====
/- The stick-breaking gradient's kernel over its grid: what each point finds in its blocks, and its vectors on the two key blocks of the diagonal. -/
module

public import proofs.«01_k».proof.Proof.SbLoop

@[expose] public section

set_option maxRecDepth 16384

noncomputable section

namespace Cert.SbValue

open Idealize.ShloMosaic Idealize.SL.Sem Cert.SbIdeal Cert.SbIdeal.Gen Cert.Common Cert.RealKit Cert.SbSpec Cert.SbHost Cert.SbBlock Cert.SbTile Cert.SbLoop Cert.SbRefValue
open Cert.FoxBlock (pos side rq half dm tq)
open Cert.FoxLoop (win)
open Cert.FoxSpec (seqOf tokOf headOf dimOf lane spread)
open scoped BigOperators

/-- What each window reads at a point: sequence `t / 16`, pair of heads `t / 4 % 4`, query block `t % 4`. -/
theorem idx (t : Fin cfg0.N) : win0_0.index t = ![t.val / 16 * 4 + t.val % 4, 12 + t.val / 4 % 4] ∧ win0_1.index t = ![t.val / 16, 16 + t.val / 4 % 4] ∧ win0_2.index t = ![t.val / 16, 20 + t.val / 4 % 4]
    ∧ win0_3.index t = ![t.val / 16 * 4 + t.val % 4, t.val / 4 % 4] ∧ win0_4.index t = ![t.val / 16 * 4 + t.val % 4, t.val / 4 % 4] ∧ win0_5.index t = ![t.val / 16 * 4 + t.val % 4, t.val / 4 % 4]
    ∧ win0_6.index t = ![t.val / 16, t.val / 4 % 4] ∧ win0_7.index t = ![t.val / 16, t.val / 4 % 4] := by
  revert t; decide +kernel

/-- The trips of the two loops at a point, and the places of the diagonal's two key blocks. -/
theorem trips : ∀ t : Fin cfg0.N, (k0_t1_loop (grid0.coords t)).trips = 2 * (t.val % 4) ∧ (k0_t2_loop (grid0.coords t)).trips = 0
    ∧ k0_off3 (grid0.coords t) 0#32 = ![512 * (t.val % 4), 0] ∧ k0_off3 (grid0.coords t) 1#32 = ![512 * (t.val % 4) + 256, 0] := by
  decide +kernel

theorem offs' : ∀ (t : Fin cfg0.N) (k : Fin 8) (h : k.val < (k0_t1_loop (grid0.coords t)).trips), k0_off1 (grid0.coords t) ⟨k.val, h⟩ = ![256 * k.val, 0] := by
  decide +kernel
theorem offs (t : Fin cfg0.N) (k : Fin (k0_t1_loop (grid0.coords t)).trips) : k0_off1 (grid0.coords t) k = ![256 * k.val, 0] :=
  offs' t ⟨k.val, lt_of_lt_of_eq k.isLt (trips t).1 |>.trans (by omega)⟩ k.isLt

variable (m : (ℓ : Loc nD τ sig) → Buf (Elt Ideal) ℓ) (c : Dev nD)

/-- The pair of heads of a group of points. -/
def PP (b hp : ℕ) (hb : b < 2) (hh : hp < 4) (e : Fin 2) : Head := hd (X0 m c) (X1 m c) (X2 m c) (X6 m c) ⟨b, hb⟩ ⟨2 * hp + e.val, by omega⟩

/-- The arguments' entries are real numbers. -/
structure Reals : Prop where
  h0 : Real3 (X0 m c)
  h1 : Real3 (X1 m c)
  h2 : Real3 (X2 m c)
  h6 : Real3 (X6 m c)

variable (t : Fin cfg0.N)

theorem tlt : t.val < 32 := lt_of_lt_of_eq t.isLt N_0
abbrev PT : Fin 2 → Head := PP m c (t.val / 16) (t.val / 4 % 4) (by have := tlt t; omega) (by omega)
theorem PT_eq (e : Fin 2) : PT m c t e = hd (X0 m c) (X1 m c) (X2 m c) (X6 m c) ⟨t.val / 16, by have := tlt t; omega⟩ ⟨2 * (t.val / 4 % 4) + e.val, by omega⟩ := rfl
abbrev qT : Fin 4 := ⟨t.val % 4, by omega⟩

variable (H : Reals m c)

/-- A row and a lane of a query block, and of a key block, in the whole array. -/
abbrev rowQ (r : Fin 512) : Fin 4096 := ⟨512 * (t.val / 16 * 4 + t.val % 4) + r.val, by have := tlt t; omega⟩
abbrev rowK (s : Fin 2048) : Fin 4096 := ⟨2048 * (t.val / 16) + s.val, by have := tlt t; omega⟩
abbrev laneQ (l : Fin 128) : Fin 512 := ⟨128 * (t.val / 4 % 4) + l.val, by omega⟩

theorem sQ (r : Fin 512) : seqOf (rowQ t r) = ⟨t.val / 16, by have := tlt t; omega⟩ := Fin.ext (by show (512 * (t.val / 16 * 4 + t.val % 4) + r.val) / 2048 = t.val / 16; omega)
theorem tQ (r : Fin 512) : tokOf (rowQ t r) = pos (qT t) r := Fin.ext (by show (512 * (t.val / 16 * 4 + t.val % 4) + r.val) % 2048 = 512 * (t.val % 4) + r.val; omega)
theorem sK (s : Fin 2048) : seqOf (rowK t s) = ⟨t.val / 16, by have := tlt t; omega⟩ := Fin.ext (by show (2048 * (t.val / 16) + s.val) / 2048 = t.val / 16; omega)
theorem tK (s : Fin 2048) : tokOf (rowK t s) = s := Fin.ext (by show (2048 * (t.val / 16) + s.val) % 2048 = s.val; omega)
theorem hQ (l : Fin 128) : headOf (laneQ t l) = ⟨2 * (t.val / 4 % 4) + (half l).val, by omega⟩ := Fin.ext (by show (128 * (t.val / 4 % 4) + l.val) / 64 = 2 * (t.val / 4 % 4) + l.val / 64; omega)
theorem dQ (l : Fin 128) : dimOf (laneQ t l) = dm l := Fin.ext (by show (128 * (t.val / 4 % 4) + l.val) % 64 = l.val % 64; omega)
theorem lQ (l : Fin 128) : laneQ t l = lane ⟨2 * (t.val / 4 % 4) + (half l).val, by omega⟩ (dm l) :=
  Fin.ext (by show 128 * (t.val / 4 % 4) + l.val = (2 * (t.val / 4 % 4) + l.val / 64) * 64 + l.val % 64; omega)

/-! The input blocks, entry by entry. -/

include H in
theorem ib0 (r : Fin 512) (l : Fin 128) : (iblk m c 0 t : FVec Ideal S512x128 .bf16) (ix2 r l) = ((PT m c t (half l)).q (pos (qT t) r) (dm l) : EReal) := by
  refine Eq.trans ?_ ((V25_q m c (rowQ t r) (laneQ t l)).trans (by rw [sQ, tQ, lQ, H.h0 _]; rfl))
  blk_ext [iblk, idx t]
include H in
theorem ib1 (s : Fin 2048) (l : Fin 128) : (iblk m c 1 t : FVec Ideal S2048x128 .bf16) (ix2 s l) = ((PT m c t (half l)).k s (dm l) : EReal) := by
  refine Eq.trans ?_ ((V25_k m c (rowK t s) (laneQ t l)).trans (by rw [sK, tK, lQ, H.h1 _]; rfl))
  blk_ext [iblk, idx t]
include H in
theorem ib2 (s : Fin 2048) (l : Fin 128) : (iblk m c 2 t : FVec Ideal S2048x128 .bf16) (ix2 s l) = ((PT m c t (half l)).v s (dm l) : EReal) := by
  refine Eq.trans ?_ ((V25_v m c (rowK t s) (laneQ t l)).trans (by rw [sK, tK, lQ, H.h2 _]; rfl))
  blk_ext [iblk, idx t]
include H in
theorem ib3 (r : Fin 512) (l : Fin 128) : (iblk m c 3 t : FVec Ideal S512x128 .bf16) (ix2 r l) = ((PT m c t (half l)).g (pos (qT t) r) (dm l) : EReal) := by
  refine Eq.trans ?_ ((V27 m c (rowQ t r) (laneQ t l)).trans (by rw [sQ, tQ, lQ, H.h6 _]; rfl))
  blk_ext [iblk, idx t]
include H in
theorem hb4 (r : Fin 512) (l : Fin 128) : (V m c main_v31 : FVec Ideal S4096x512 .f32) (ix2 (rowQ t r) (laneQ t l)) = ((∑ s, (PT m c t (half l)).ln (pos (qT t) r) s : ℝ) : EReal) := by
  rw [V31, wide_apply, sQ, tQ, hQ, rt_real (X0 m c) (X1 m c) (X2 m c) (X6 m c) _ _ H.h0 H.h1, PT_eq]
theorem rd4 (A : FVec Ideal S4096x512 .f32) (r : Fin 512) (l : Fin 128) : (((cfg0.win 4).blk t).view.read (Elt Ideal) A : FVec Ideal S512x128 .f32) (ix2 r l) = A (ix2 (rowQ t r) (laneQ t l)) := by
  blk_ext [idx t]
include H in
theorem ib4 (r : Fin 512) (l : Fin 128) : (iblk m c 4 t : FVec Ideal S512x128 .f32) (ix2 r l) = ((∑ s, (PT m c t (half l)).ln (pos (qT t) r) s : ℝ) : EReal) :=
  (rd4 t (V m c main_v31) r l).trans (hb4 m c t H r l)

/-! The body's vectors at a point. -/

abbrev w44 : FVec Ideal S1024x128 .bf16 := k0_pay24 (iblk m c 0 t)
abbrev w46 : FVec Ideal S1024x128 .bf16 := k0_pay25 (w44 m c t)
abbrev w56 : FVec Ideal S1024x128 .bf16 := k0_pay26 k0_pay19 k0_pay20 (iblk m c 3 t)
abbrev w61 : FVec Ideal S1024x1 .f32 := k0_pay27 (iblk m c 4 t)

include H in
theorem f46 (r : Fin 1024) (l : Fin 128) : w46 m c t (ix2 r l) = (q2 (PT m c t) (qT t) r l : EReal) := b25 _ _ _ (b24 _ _ _ (ib0 m c t H)) r l
include H in
theorem f56 (r : Fin 1024) (l : Fin 128) : w56 m c t (ix2 r l) = (d2 (PT m c t) (qT t) r l : EReal) := b26 _ _ _ (ib3 m c t H) r l
include H in
theorem f61 (r : Fin 1024) : w61 m c t (ix2 r 0) = ((∑ s, (PT m c t (side r)).ln (tq (qT t) r) s : ℝ) : EReal) := b27 _ (fun e r => ∑ s, (PT m c t e).ln (pos (qT t) r) s) (ib4 m c t H) r

abbrev wK0 : FVec Ideal S256x128 .bf16 := View.ld (iblk m c 1 t) (Rect.unit (s := S2048x128) (k0_off3 (grid0.coords t) 0#32) S256x128.size (k0_off3_inb (grid0.coords t) 0))
abbrev wV0 : FVec Ideal S256x128 .bf16 := View.ld (iblk m c 2 t) (Rect.unit (s := S2048x128) (k0_off3 (grid0.coords t) 0#32) S256x128.size (k0_off3_inb (grid0.coords t) 0))
abbrev wK1 : FVec Ideal S256x128 .bf16 := View.ld (iblk m c 1 t) (Rect.unit (s := S2048x128) (k0_off3 (grid0.coords t) 1#32) S256x128.size (k0_off3_inb (grid0.coords t) 1))
abbrev wV1 : FVec Ideal S256x128 .bf16 := View.ld (iblk m c 2 t) (Rect.unit (s := S2048x128) (k0_off3 (grid0.coords t) 1#32) S256x128.size (k0_off3_inb (grid0.coords t) 1))

theorem n0 : 512 * (qT t).val + 256 ≤ 2048 := by have := (qT t).isLt; omega
theorem n1 : 512 * (qT t).val + 256 + 256 ≤ 2048 := by have := (qT t).isLt; omega

include H in
theorem fK0 (j : Fin 256) (l : Fin 128) : wK0 m c t (ix2 j l) = ((PT m c t (half l)).k (kp _ (n0 t) j) (dm l) : EReal) := by
  refine (win _ _ (trips t).2.2.1 j l (by omega) (by omega)).trans ((ib1 m c t H _ _).trans ?_)
  simp only [Nat.zero_add]
include H in
theorem fV0 (j : Fin 256) (l : Fin 128) : wV0 m c t (ix2 j l) = ((PT m c t (half l)).v (kp _ (n0 t) j) (dm l) : EReal) := by
  refine (win _ _ (trips t).2.2.1 j l (by omega) (by omega)).trans ((ib2 m c t H _ _).trans ?_)
  simp only [Nat.zero_add]
include H in
theorem fK1 (j : Fin 256) (l : Fin 128) : wK1 m c t (ix2 j l) = ((PT m c t (half l)).k (kp _ (n1 t) j) (dm l) : EReal) := by
  refine (win _ _ (trips t).2.2.2 j l (by omega) (by omega)).trans ((ib1 m c t H _ _).trans ?_)
  simp only [Nat.zero_add]
include H in
theorem fV1 (j : Fin 256) (l : Fin 128) : wV1 m c t (ix2 j l) = ((PT m c t (half l)).v (kp _ (n1 t) j) (dm l) : EReal) := by
  refine (win _ _ (trips t).2.2.2 j l (by omega) (by omega)).trans ((ib2 m c t H _ _).trans ?_)
  simp only [Nat.zero_add]

abbrev mk0 : IVec S1024x256 1 := k0_pay43 k0_pay21
abbrev mk1 : IVec S512x256 1 := k0_pay62 k0_pay21
theorem fm0 (r : Fin 1024) (j : Fin 256) : mk0 (ix2 r j) = if kp _ (n0 t) j < tq (qT t) r then 1#1 else 0#1 :=
  (m43 r j).trans (if_congr (by show _ ↔ 512 * (t.val % 4) + j.val < 512 * (t.val % 4) + r.val % 512; omega) rfl rfl)
theorem fm1 (r : Fin 512) (j : Fin 256) : mk1 (ix2 r j) = if kp _ (n1 t) j < tq (qT t) (wr r) then 1#1 else 0#1 :=
  (m62 r j).trans (if_congr (by show _ ↔ 512 * (t.val % 4) + 256 + j.val < 512 * (t.val % 4) + (512 * (r.val / 256) + 256 + r.val % 256) % 512; omega) rfl rfl)

/-- The scores of the diagonal's first key block. -/
abbrev wZ : FVec Ideal S1024x256 .f32 := k0_pay45 (w44 m c t) (wK0 m c t)
theorem p45 (X : FVec Ideal S1024x128 .bf16) (K : Vec Ideal S256x128 .bf16) (r : Fin 1024) (j : Fin 256) :
    (k0_pay45 X K : FVec Ideal S1024x256 .f32) (ix2 r j) = ∑ x, (k0_pay25 X : FVec Ideal S1024x128 .bf16) (ix2 r x) * K (ix2 j x) := by
  pointwise [k0_pay45, k0_pay44]
include H in
theorem fZ (r : Fin 1024) (j : Fin 256) : wZ m c t (ix2 r j) = ((PT m c t (side r)).z (tq (qT t) r) (kp _ (n0 t) j) : EReal) := by
  exact (p45 _ _ r j).trans (zdot (PT m c t) (qT t) _ (n0 t) (w46 m c t) (wK0 m c t) (f46 m c t H) (fK0 m c t H) r j)

/-! The diagonal's first key block, over the sums `a` carried to it. -/

variable (a : FVec Ideal S1024x1 .f32 × FVec Ideal S1024x1 .f32 × FVec Ideal S1024x128 .f32)

abbrev wY0 : FVec Ideal S1024x256 .f32 := k0_pay51 k0_pay22 (w61 m c t) a.1 mk0 (wZ m c t) k0_pay46
abbrev wE0 : FVec Ideal S1024x256 .f32 := k0_pay52 k0_pay22 (w56 m c t) (w61 m c t) a.1 mk0 (wZ m c t) k0_pay46 (wV0 m c t)
abbrev wD0 : FVec Ideal S1024x256 .bf16 := k0_pay53 k0_pay22 k0_pay23 (w56 m c t) (w61 m c t) a.1 a.2.1 mk0 (wZ m c t) k0_pay46 (wV0 m c t)
abbrev wL0 : FVec Ideal S1024x1 .f32 := k0_pay50 mk0 (wZ m c t) k0_pay46

section Carried
variable (ha : accI (PT m c t) (qT t) (512 * (qT t).val) a)
include H in
theorem fL0 (r : Fin 1024) : wL0 m c t (ix2 r 0) = ((∑ j : Fin 256, (PT m c t (side r)).ln (tq (qT t) r) (kp _ (n0 t) j) : ℝ) : EReal) :=
  b50 (PT m c t) (qT t) _ (n0 t) mk0 _ (fZ m c t H) (fm0 t) r
include H ha in
theorem fY0 (r : Fin 1024) (j : Fin 256) : wY0 m c t a (ix2 r j) = ((PT m c t (side r)).w (tq (qT t) r) (kp _ (n0 t) j) : EReal) :=
  b51 (PT m c t) (qT t) _ (n0 t) _ _ mk0 _ (fZ m c t H) (f61 m c t H) ha.1 (fm0 t) r j
include H ha in
theorem fE0 (r : Fin 1024) (j : Fin 256) : wE0 m c t a (ix2 r j) = ((PT m c t (side r)).e (tq (qT t) r) (kp _ (n0 t) j) : EReal) :=
  b52 (PT m c t) (qT t) _ (n0 t) _ _ _ mk0 _ _ (fZ m c t H) (f56 m c t H) (f61 m c t H) ha.1 (fV0 m c t H) (fm0 t) r j
include H ha in
theorem fD0 (r : Fin 1024) (j : Fin 256) : wD0 m c t a (ix2 r j) = ((PT m c t (side r)).dz (tq (qT t) r) (kp _ (n0 t) j) : EReal) :=
  b53 (PT m c t) (qT t) _ (n0 t) _ _ _ _ mk0 _ _ (fZ m c t H) (f56 m c t H) (f61 m c t H) ha.1 ha.2.1 (fV0 m c t H) (fm0 t) r j

/-! The rows of the lower halves on the diagonal's second key block. -/

abbrev x46 : FVec Ideal S512x128 .bf16 := k0_pay60 (w46 m c t)
abbrev x56 : FVec Ideal S512x128 .bf16 := k0_pay61 (w56 m c t)
abbrev wP1 : FVec Ideal S512x1 .f32 := k0_pay57 a.1 (wL0 m c t)
abbrev wQ1 : FVec Ideal S512x1 .f32 := k0_pay58 a.2.1 (wE0 m c t a)
include H in
theorem g46 (r : Fin 512) (l : Fin 128) : x46 m c t (ix2 r l) = (q2 (PT m c t) (qT t) (wr r) l : EReal) := (b60 _ r l).trans (f46 m c t H _ l)
include H in
theorem g56 (r : Fin 512) (l : Fin 128) : x56 m c t (ix2 r l) = (d2 (PT m c t) (qT t) (wr r) l : EReal) := (b61 _ r l).trans (f56 m c t H _ l)

theorem p57 (x y : FVec Ideal S1024x1 .f32) (r : Fin 512) : (k0_pay57 x y : FVec Ideal S512x1 .f32) (ix2 r 0) = x (ix2 (wr r) 0) + y (ix2 (wr r) 0) := by
  by_cases h : r.val < 256
  · rw [wr_low r h]
    pointwise [k0_pay57]
    rw [dif_pos h]
  · rw [wr_high r h]
    pointwise [k0_pay57]
    rw [dif_neg h]
theorem p58 (x : FVec Ideal S1024x1 .f32) (y : FVec Ideal S1024x256 .f32) (r : Fin 512) : (k0_pay58 x y : FVec Ideal S512x1 .f32) (ix2 r 0) = x (ix2 (wr r) 0) + ∑ j : Fin 256, y (ix2 (wr r) j) := by
  by_cases h : r.val < 256
  · rw [wr_low r h]
    pointwise [k0_pay58]
    rw [dif_pos h]
  · rw [wr_high r h]
    pointwise [k0_pay58]
    rw [dif_neg h]

include H ha in
theorem fP1 (r : Fin 512) : wP1 m c t a (ix2 r 0) = (upto (512 * (qT t).val + 256) ((PT m c t (side (wr r))).ln (tq (qT t) (wr r))) : EReal) := by
  refine (p57 _ _ r).trans ((congrArg₂ (· + ·) (ha.1 _) (fL0 m c t H _)).trans ?_)
  rw [upto_add _ 256 (n0 t), EReal.coe_add]
include H ha in
theorem fQ1 (r : Fin 512) : wQ1 m c t a (ix2 r 0) = (upto (512 * (qT t).val + 256) ((PT m c t (side (wr r))).e (tq (qT t) (wr r))) : EReal) := by
  refine (p58 _ _ r).trans ((congrArg₂ (· + ·) (ha.2.1 _) (Finset.sum_congr rfl fun j _ => fE0 m c t H a ha (wr r) j)).trans ?_)
  rw [upto_add _ 256 (n0 t), EReal.coe_add, coe_sum]

abbrev wY1 : FVec Ideal S512x256 .f32 := k0_pay67 k0_pay22 (w61 m c t) (wP1 m c t a) (x46 m c t) mk1 (wK1 m c t)
abbrev w66 : FVec Ideal S512x256 .f32 := k0_pay66 (x46 m c t) (wK1 m c t)
abbrev w68 : FVec Ideal S512x256 .f32 := k0_pay68 k0_pay22 (w61 m c t) (wP1 m c t a) (x46 m c t) (x56 m c t) mk1 (wK1 m c t) (wV1 m c t)
abbrev w69 : FVec Ideal S512x256 .f32 := k0_pay69 k0_pay22 k0_pay23 (w61 m c t) (wP1 m c t a) (wQ1 m c t a) (x46 m c t) (x56 m c t) mk1 (wK1 m c t) (wV1 m c t)
abbrev w70 : FVec Ideal S512x256 .f32 := k0_pay70 (x46 m c t) (wK1 m c t)
abbrev wD1 : FVec Ideal S512x256 .bf16 := k0_pay71 mk1 (w66 m c t) (w68 m c t a) (w69 m c t a) (w70 m c t)
include H ha in
theorem fY1 (r : Fin 512) (j : Fin 256) : wY1 m c t a (ix2 r j) = ((PT m c t (side (wr r))).w (tq (qT t) (wr r)) (kp _ (n1 t) j) : EReal) :=
  b67 (PT m c t) (qT t) _ (n1 t) _ _ _ mk1 _ (g46 m c t H) (f61 m c t H) (fP1 m c t H a ha) (fK1 m c t H) (fm1 t) r j
include H ha in
theorem fD1 (r : Fin 512) (j : Fin 256) : wD1 m c t a (ix2 r j) = ((PT m c t (side (wr r))).dz (tq (qT t) (wr r)) (kp _ (n1 t) j) : EReal) :=
  b71 (PT m c t) (qT t) _ (n1 t) _ _ _ _ _ mk1 _ _ (g46 m c t H) (g56 m c t H) (f61 m c t H) (fP1 m c t H a ha) (fQ1 m c t H a ha) (fK1 m c t H) (fV1 m c t H) (fm1 t) r j

end Carried

end Cert.SbValue
end
-- ==== Proof.SbDiag.lean ====
/- One point of the stick-breaking gradient's grid after its loop: the diagonal's two key blocks added, the accumulators and the stored blocks. -/
module

public import proofs.«01_k».proof.Proof.SbValue

@[expose] public section

set_option maxRecDepth 16384

noncomputable section

namespace Cert.SbValue

open Idealize.ShloMosaic Idealize.SL.Sem Cert.SbIdeal Cert.SbIdeal.Gen Cert.Common Cert.RealKit Cert.SbSpec Cert.SbHost Cert.SbBlock Cert.SbTile Cert.SbLoop Cert.SbRefValue
open Cert.FoxBlock (pos side rq half dm tq)
open Cert.FoxLoop (win)
open scoped BigOperators

theorem p54 (v46 : FVec Ideal S1024x128 .bf16) (y : FVec Ideal S1024x256 .bf16) (f : Vec Ideal S256x128 .f32) (j : Fin 256) (l : Fin 128) :
    (k0_pay54 v46 y f : FVec Ideal S256x128 .f32) (ix2 j l) = f (ix2 j l) + ∑ r : Fin 1024, y (ix2 r j) * v46 (ix2 r l) := by
  pointwise [k0_pay54]
theorem p55 (v56 : FVec Ideal S1024x128 .bf16) (y : FVec Ideal S1024x256 .f32) (f : Vec Ideal S256x128 .f32) (j : Fin 256) (l : Fin 128) :
    (k0_pay55 v56 y f : FVec Ideal S256x128 .f32) (ix2 j l) = f (ix2 j l) + ∑ r : Fin 1024, y (ix2 r j) * v56 (ix2 r l) := by
  pointwise [k0_pay55]
theorem p56 (x : FVec Ideal S1024x128 .f32) (k : FVec Ideal S256x128 .bf16) (y : FVec Ideal S1024x256 .bf16) (r : Fin 1024) (l : Fin 128) :
    (k0_pay56 x k y : FVec Ideal S1024x128 .f32) (ix2 r l) = x (ix2 r l) + ∑ j : Fin 256, y (ix2 r j) * k (ix2 j l) := by
  pointwise [k0_pay56]
theorem p59 (x : FVec Ideal S1024x128 .f32) (k : FVec Ideal S256x128 .bf16) (y : FVec Ideal S1024x256 .bf16) (r : Fin 512) (l : Fin 128) :
    (k0_pay59 x k y : FVec Ideal S512x128 .f32) (ix2 r l) = (k0_pay56 x k y : FVec Ideal S1024x128 .f32) (ix2 (wr r) l) :=
  b60 (k0_pay56 x k y : FVec Ideal S1024x128 .f32) r l
theorem p44 (x : Vec Ideal S256x128 .bf16) : (k0_pay44 x : FVec Ideal S256x128 .bf16) = x := by
  funext y; idx_vars y; pointwise [k0_pay44]
theorem p63 (x : Vec Ideal S256x128 .bf16) : (k0_pay63 x : FVec Ideal S256x128 .bf16) = x := by
  funext y; idx_vars y; pointwise [k0_pay63]

section Low
variable (mk : IVec S512x256 1) (a b d e : FVec Ideal S512x256 .f32)
theorem p72 (x : FVec Ideal S512x128 .bf16) (f : Vec Ideal S256x128 .f32) (j : Fin 256) (l : Fin 128) :
    (k0_pay72 x mk a b d e f : FVec Ideal S256x128 .f32) (ix2 j l) = f (ix2 j l) + ∑ r : Fin 512, (k0_pay71 mk a b d e : FVec Ideal S512x256 .bf16) (ix2 r j) * x (ix2 r l) := by
  pointwise [k0_pay72]
theorem p73 (x : FVec Ideal S512x128 .bf16) (y : FVec Ideal S512x256 .f32) (f : Vec Ideal S256x128 .f32) (j : Fin 256) (l : Fin 128) :
    (k0_pay73 x y f : FVec Ideal S256x128 .f32) (ix2 j l) = f (ix2 j l) + ∑ r : Fin 512, y (ix2 r j) * x (ix2 r l) := by
  pointwise [k0_pay73]

/-- The stored rows of the query gradient: those of the upper halves, which meet one key block of the diagonal, and those of the lower ones, which meet both. -/
theorem p74_up (v : FVec Ideal S1024x128 .f32) (u : FVec Ideal S512x128 .f32) (K : FVec Ideal S256x128 .bf16) (r : Fin 512) (l : Fin 128) (hr : r.val < 256) (s : Fin 1024) (hs : s.val = 512 * (l.val / 64) + r.val) :
    (k0_pay74 k0_pay19 v u mk K a b d e : FVec Ideal S512x128 .bf16) (ix2 r l) = v (ix2 s l) * ((1 / 8 : ℝ) : EReal) := by
  have hl := l.isLt
  generalize hD : k0_pay71 (F := Ideal) mk a b d e = D
  unfold k0_pay74
  rw [hD]
  pointwise
  rw [sel19, ofBits_eighth]
  by_cases h : l.val < 64
  · rw [show s = ⟨r.val, by omega⟩ from Fin.ext (by show s.val = r.val; omega)]
    refine congrArg (· * ((1 / 8 : ℝ) : EReal)) ((if_pos h).trans ?_)
    rw [dif_pos hr]
  · rw [show s = ⟨512 + r.val, by omega⟩ from Fin.ext (by show s.val = 512 + r.val; omega)]
    refine congrArg (· * ((1 / 8 : ℝ) : EReal)) ((if_neg h).trans ?_)
    rw [dif_neg (by omega), dif_neg (by omega), dif_pos (by omega)]
    refine congrArg (fun z : Fin 1024 => v (ix2 z l)) (Fin.ext ?_)
    show 512 + (512 + r.val - 256 - 256) = 512 + r.val
    omega
theorem p74_low (v : FVec Ideal S1024x128 .f32) (u : FVec Ideal S512x128 .f32) (K : FVec Ideal S256x128 .bf16) (r : Fin 512) (l : Fin 128) (hr : ¬ r.val < 256) (s : Fin 512) (hs : s.val = 256 * (l.val / 64) + (r.val - 256)) :
    (k0_pay74 k0_pay19 v u mk K a b d e : FVec Ideal S512x128 .bf16) (ix2 r l)
      = (u (ix2 s l) + ∑ j : Fin 256, (k0_pay71 mk a b d e : FVec Ideal S512x256 .bf16) (ix2 s j) * K (ix2 j l)) * ((1 / 8 : ℝ) : EReal) := by
  have hl := l.isLt
  generalize hD : k0_pay71 (F := Ideal) mk a b d e = D
  unfold k0_pay74
  rw [hD]
  pointwise
  rw [sel19, ofBits_eighth]
  by_cases h : l.val < 64
  · rw [show s = ⟨r.val - 256, by omega⟩ from Fin.ext (by show s.val = r.val - 256; omega)]
    refine congrArg (· * ((1 / 8 : ℝ) : EReal)) ((if_pos h).trans ?_)
    rw [dif_neg hr, dif_pos (by omega)]
  · rw [show s = ⟨256 + (r.val - 256), by omega⟩ from Fin.ext (by show s.val = 256 + (r.val - 256); omega)]
    refine congrArg (· * ((1 / 8 : ℝ) : EReal)) ((if_neg h).trans ?_)
    rw [dif_neg (by omega), dif_neg (by omega), dif_neg (by omega)]
    have e : (⟨256 + (512 + r.val - 256 - 256 - 256), by omega⟩ : Fin 512) = ⟨256 + (r.val - 256), by omega⟩ := Fin.ext (by show 256 + (512 + r.val - 256 - 256 - 256) = 256 + (r.val - 256); omega)
    exact congrArg (fun z : Fin 512 => u (ix2 z l) + ∑ j : Fin 256, D (ix2 z j) * K (ix2 j l)) e
end Low

/-- A whole accumulator with the query blocks up to `n` added. -/
def full (G : Fin 128 → Fin 2048 → Fin 2048 → ℝ) (n : ℕ) (x : S2048x128.Idx → EReal) : Prop := ∀ s l, x (ix2 s l) = ((upto n fun t => G l t s : ℝ) : EReal)
/-- A term that keys not before the query do not have. -/
def Causal (G : Fin 128 → Fin 2048 → Fin 2048 → ℝ) : Prop := ∀ l t s, ¬ s < t → G l t s = 0
theorem DK_causal (P : Fin 2 → Head) : Causal (DK P) := fun l t s h => by rw [DK, Head.dz_zero _ h, zero_mul]
theorem DV_causal (P : Fin 2 → Head) : Causal (DV P) := fun l t s h => by rw [DV, Head.w_zero _ h, zero_mul]

section Acc
variable {P : Fin 2 → Head} {qi : Fin 4} {G : Fin 128 → Fin 2048 → Fin 2048 → ℝ}

theorem full_of (hG : Causal G) {x : S2048x128.Idx → EReal} (h : tokI qi G (512 * qi.val + 256 + 256) x) : full G (512 * (qi.val + 1)) x := fun s l => by
  have hq := qi.isLt
  rw [h s l, Nat.mul_succ]
  split_ifs with hs
  · rfl
  · rw [upto_add _ 512 (by omega), Finset.sum_eq_zero (fun j _ => hG l _ s (by intro (hh : s.val < 512 * qi.val + j.val); omega)), add_zero]
theorem start {x : S2048x128.Idx → EReal} (h : full G (512 * qi.val) x) : tokI qi G 0 x := fun s l => (h s l).trans (by rw [if_neg (by omega)])

variable {n : ℕ} {hn : n + 256 ≤ 2048}

theorem canon_put {off : Fin 2 → ℕ} (inb : ∀ a : Fin 2, off a + S256x128.size a ≤ S2048x128.size a)
    (x : S256x128.Idx → EReal) (L : List (View.Piece (Elt Ideal) S2048x128 .f32)) (hoff : off = ![n, 0]) (h : tokI qi G n (View.canon L))
    (hx : ∀ j l, x (ix2 j l) = ((upto (512 * qi.val + 512) fun t => G l t (kp n hn j) : ℝ) : EReal)) :
    tokI qi G (n + 256) (View.canon ((⟨Rect.unit (s := S2048x128) off S256x128.size inb, x⟩ : View.Piece (Elt Ideal) S2048x128 .f32) :: L)) := by
  subst hoff
  intro s l
  by_cases hs : n ≤ s.val ∧ s.val < n + 256
  · have e : (ix2 s l : S2048x128.Idx) = (Rect.unit (s := S2048x128) ![n, 0] S256x128.size inb).emb (ix2 ⟨s.val - n, by omega⟩ l) := by
      funext a; refine Fin.ext ?_
      match a with
      | 0 => exact (by show s.val = n + 1 * (s.val - n); omega)
      | 1 => exact (by show l.val = 0 + 1 * l.val; omega)
    refine ((congrArg _ e).trans (View.canon_cons_emb ..)).trans ((hx _ l).trans ?_)
    rw [if_pos (by omega), show kp n hn ⟨s.val - n, by omega⟩ = s from Fin.ext (by show n + (s.val - n) = s.val; omega)]
  · rw [View.canon_cons_of_not_mem]
    · exact (h s l).trans (congrArg (fun n : ℕ => ((upto n fun t => G l t s : ℝ) : EReal)) (if_congr (by omega) rfl rfl))
    · rw [Rect.mem_set_unit]; intro hh
      have h' : n ≤ s.val ∧ s.val < n + 256 := hh 0
      exact hs h'

theorem ld_old (x : S2048x128.Idx → EReal) {off : Fin 2 → ℕ} (inb : ∀ a : Fin 2, off a + S256x128.size a ≤ S2048x128.size a)
    (hoff : off = ![n, 0]) (h : tokI qi G n x) (j : Fin 256) (l : Fin 128) :
    x ((Rect.unit (s := S2048x128) off S256x128.size inb).emb (ix2 j l)) = ((upto (512 * qi.val) fun t => G l t (kp n hn j) : ℝ) : EReal) := by
  refine (win _ inb hoff j l (by omega) (by omega)).trans ((h _ _).trans ?_)
  simp only [Nat.zero_add]
  rw [if_neg (by omega)]

theorem canon_zero (hz : qi.val = 0) (z : S2048x128.Idx → EReal) (h0 : ∀ s l, z (ix2 s l) = 0) :
    tokI qi G (512 * qi.val) (View.canon (Val := Elt Ideal) (e := .f32) [⟨Rect.unit (s := S2048x128) ![0, 0] S2048x128.size inb_S2048x128_S2048x128_0_0, z⟩]) := by
  intro s l
  have e : (ix2 s l : S2048x128.Idx) = (Rect.unit (s := S2048x128) ![0, 0] S2048x128.size inb_S2048x128_S2048x128_0_0).emb (ix2 s l) := by
    funext a; refine Fin.ext ?_
    match a with
    | 0 => exact (by show s.val = 0 + 1 * s.val; omega)
    | 1 => exact (by show l.val = 0 + 1 * l.val; omega)
  refine ((congrArg _ e).trans (View.canon_cons_emb ..)).trans ((h0 s l).trans ?_)
  rw [if_neg (by omega), hz, upto_zero]; rfl

theorem z17 (s : Fin 2048) (l : Fin 128) : (k0_pay17 : FVec Ideal S2048x128 .f32) (ix2 s l) = 0 := by pointwise [k0_pay17]
theorem z18 (s : Fin 2048) (l : Fin 128) : (k0_pay18 : FVec Ideal S2048x128 .f32) (ix2 s l) = 0 := by pointwise [k0_pay18]
theorem z28 : accI P qi 0 ((k0_pay28 : FVec Ideal S1024x1 .f32), (k0_pay29 : FVec Ideal S1024x1 .f32), (k0_pay30 : FVec Ideal S1024x128 .f32)) :=
  ⟨fun r => by rw [upto_zero]; pointwise [k0_pay28]; rfl, fun r => by rw [upto_zero]; pointwise [k0_pay29]; rfl, fun r l => by rw [upto_zero]; pointwise [k0_pay30]; rfl⟩
end Acc

variable (m : (ℓ : Loc nD τ sig) → Buf (Elt Ideal) ℓ) (c : Dev nD) (t : Fin cfg0.N) (H : Reals m c)
  (a : FVec Ideal S1024x1 .f32 × FVec Ideal S1024x1 .f32 × FVec Ideal S1024x128 .f32) (ha : accI (PT m c t) (qT t) (512 * (qT t).val) a)

section Put
variable (f : Vec Ideal S256x128 .f32)
include H ha in
theorem put54 (hf : ∀ j l, f (ix2 j l) = ((upto (512 * (qT t).val) fun s => DK (PT m c t) l s (kp _ (n0 t) j) : ℝ) : EReal)) (j : Fin 256) (l : Fin 128) :
    (k0_pay54 (w46 m c t) (wD0 m c t a) f : FVec Ideal S256x128 .f32) (ix2 j l) = ((upto (512 * (qT t).val + 512) fun s => DK (PT m c t) l s (kp _ (n0 t) j) : ℝ) : EReal) := by
  have hq := (qT t).isLt
  refine (p54 _ _ _ j l).trans ((congrArg₂ (· + ·) (hf j l) (upd_k (PT m c t) (qT t) _ _ (fun r => fD0 m c t H a ha r j) _ (f46 m c t H) l)).trans ?_)
  rw [upto_add _ 512 (by omega), EReal.coe_add]
include H ha in
theorem put55 (hf : ∀ j l, f (ix2 j l) = ((upto (512 * (qT t).val) fun s => DV (PT m c t) l s (kp _ (n0 t) j) : ℝ) : EReal)) (j : Fin 256) (l : Fin 128) :
    (k0_pay55 (w56 m c t) (wY0 m c t a) f : FVec Ideal S256x128 .f32) (ix2 j l) = ((upto (512 * (qT t).val + 512) fun s => DV (PT m c t) l s (kp _ (n0 t) j) : ℝ) : EReal) := by
  have hq := (qT t).isLt
  refine (p55 _ _ _ j l).trans ((congrArg₂ (· + ·) (hf j l) (upd_v (PT m c t) (qT t) _ _ (fun r => fY0 m c t H a ha r j) _ (f56 m c t H) l)).trans ?_)
  rw [upto_add _ 512 (by omega), EReal.coe_add]
include H ha in
theorem put72 (hf : ∀ j l, f (ix2 j l) = ((upto (512 * (qT t).val) fun s => DK (PT m c t) l s (kp _ (n1 t) j) : ℝ) : EReal)) (j : Fin 256) (l : Fin 128) :
    (k0_pay72 (x46 m c t) mk1 (w66 m c t) (w68 m c t a) (w69 m c t a) (w70 m c t) f : FVec Ideal S256x128 .f32) (ix2 j l) = ((upto (512 * (qT t).val + 512) fun s => DK (PT m c t) l s (kp _ (n1 t) j) : ℝ) : EReal) := by
  have hq := (qT t).isLt
  refine (p72 _ _ _ _ _ _ _ j l).trans ((congrArg₂ (· + ·) (hf j l) (upd_kb (PT m c t) (qT t) _ (by show _ ≤ 512 * (qT t).val + 256 + j.val; omega) _ (fun r => fD1 m c t H a ha r j) _ (g46 m c t H) l)).trans ?_)
  rw [upto_add _ 512 (by omega), EReal.coe_add]
include H ha in
theorem put73 (hf : ∀ j l, f (ix2 j l) = ((upto (512 * (qT t).val) fun s => DV (PT m c t) l s (kp _ (n1 t) j) : ℝ) : EReal)) (j : Fin 256) (l : Fin 128) :
    (k0_pay73 (x56 m c t) (wY1 m c t a) f : FVec Ideal S256x128 .f32) (ix2 j l) = ((upto (512 * (qT t).val + 512) fun s => DV (PT m c t) l s (kp _ (n1 t) j) : ℝ) : EReal) := by
  have hq := (qT t).isLt
  refine (p73 _ _ _ j l).trans ((congrArg₂ (· + ·) (hf j l) (upd_vb (PT m c t) (qT t) _ (by show _ ≤ 512 * (qT t).val + 256 + j.val; omega) _ (fun r => fY1 m c t H a ha r j) _ (g56 m c t H) l)).trans ?_)
  rw [upto_add _ 512 (by omega), EReal.coe_add]
end Put

include H ha in
/-- The stored gradient of the queries. -/
theorem out74 (r : Fin 512) (l : Fin 128) :
    (k0_pay74 k0_pay19 (k0_pay56 a.2.2 (k0_pay44 (wK0 m c t)) (wD0 m c t a)) (k0_pay59 a.2.2 (k0_pay44 (wK0 m c t)) (wD0 m c t a)) mk1 (k0_pay63 (wK1 m c t)) (w66 m c t) (w68 m c t a) (w69 m c t a) (w70 m c t) : FVec Ideal S512x128 .bf16) (ix2 r l)
      = ((PT m c t (half l)).dq (pos (qT t) r) (dm l) : EReal) := by
  have hl := l.isLt
  have hr := r.isLt
  have hq := (qT t).isLt
  have h56 : ∀ (s : Fin 1024) (l : Fin 128), (k0_pay56 a.2.2 (k0_pay44 (wK0 m c t)) (wD0 m c t a) : FVec Ideal S1024x128 .f32) (ix2 s l)
      = ((upto (512 * (qT t).val + 256) fun i => (PT m c t (side s)).dz (tq (qT t) s) i * (PT m c t (half l)).k i (dm l) : ℝ) : EReal) := fun s l => by
    rw [p44]
    refine (p56 _ _ _ s l).trans ((congrArg₂ (· + ·) (ha.2.2 s l) (upd_q _ ((PT m c t (side s)).dz (tq (qT t) s)) _ (n0 t) (fun j => fD0 m c t H a ha s j) _ (fK0 m c t H) l)).trans ?_)
    rw [upto_add _ 256 (n0 t), EReal.coe_add]
  by_cases h : r.val < 256
  · let s : Fin 1024 := ⟨512 * (l.val / 64) + r.val, by omega⟩
    have es : side s = half l := Fin.ext (by show (512 * (l.val / 64) + r.val) / 512 = l.val / 64; omega)
    have er : rq s = r := Fin.ext (by show (512 * (l.val / 64) + r.val) % 512 = r.val; omega)
    refine (p74_up _ _ _ _ _ _ _ _ r l h s rfl).trans ((congrArg (· * ((1 / 8 : ℝ) : EReal)) (h56 s l)).trans ?_)
    rw [es, tq, er, ← EReal.coe_mul, Head.dq]
    refine congrArg (fun z : ℝ => ((z * (1 / 8) : ℝ) : EReal)) (upto_eq _ _ fun i hi => ?_)
    rw [Head.dz_zero _ (by intro (hh : i.val < 512 * (qT t).val + r.val); omega), zero_mul]
  · let s : Fin 512 := ⟨256 * (l.val / 64) + (r.val - 256), by omega⟩
    have es : side (wr s) = half l := (wr_side s).trans (Fin.ext (by show (256 * (l.val / 64) + (r.val - 256)) / 256 = l.val / 64; omega))
    have er : rq (wr s) = r := (wr_rq s).trans (Fin.ext (by show 256 + (256 * (l.val / 64) + (r.val - 256)) % 256 = r.val; omega))
    refine (p74_low _ _ _ _ _ _ _ _ r l h s rfl).trans ((congrArg (· * ((1 / 8 : ℝ) : EReal)) (congrArg₂ (· + ·) ((p59 _ _ _ s l).trans (h56 _ l))
      (upd_q _ ((PT m c t (side (wr s))).dz (tq (qT t) (wr s))) _ (n1 t) (fun j => fD1 m c t H a ha s j) _ (by rw [p63]; exact fK1 m c t H) l))).trans ?_)
    rw [es, tq, er, ← EReal.coe_add, ← EReal.coe_mul, Head.dq, ← upto_add (512 * (qT t).val + 256) 256 (n1 t) fun i => (PT m c t (half l)).dz (pos (qT t) r) i * (PT m c t (half l)).k i (dm l)]
    refine congrArg (fun z : ℝ => ((z * (1 / 8) : ℝ) : EReal)) (upto_eq _ _ fun i hi => ?_)
    rw [Head.dz_zero _ (by intro (hh : i.val < 512 * (qT t).val + r.val); omega), zero_mul]

end Cert.SbValue
end
-- ==== Proof.SbGrid.lean ====
/- The stick-breaking gradient's grid point by point: the accumulators after each, and the stored blocks. -/
module

public import proofs.«01_k».proof.Proof.SbDiag

@[expose] public section

set_option maxRecDepth 16384

noncomputable section

namespace Cert.SbValue

open Idealize.ShloMosaic Idealize.SL.Sem Cert.SbIdeal Cert.SbIdeal.Gen Cert.Common Cert.RealKit Cert.SbSpec Cert.SbHost Cert.SbBlock Cert.SbTile Cert.SbLoop Cert.SbRefValue
open Cert.FoxBlock (pos side rq half dm tq)
open scoped BigOperators

variable (m : (ℓ : Loc nD τ sig) → Buf (Elt Ideal) ℓ) (c : Dev nD) (t : Fin cfg0.N) (H : Reals m c)
  (a : FVec Ideal S1024x1 .f32 × FVec Ideal S1024x1 .f32 × FVec Ideal S1024x128 .f32) (ha : accI (PT m c t) (qT t) (512 * (qT t).val) a)

/-- The diagonal's two stores to the accumulator of the key gradient, over what it held, and to the one of the value gradient. -/
abbrev sK0 (x : S2048x128.Idx → EReal) : View.Piece (Elt Ideal) S2048x128 .f32 := ⟨Rect.unit (s := S2048x128) (k0_off3 (grid0.coords t) 0#32) S256x128.size (k0_off3_inb (grid0.coords t) 0),
  k0_pay54 (w46 m c t) (wD0 m c t a) (View.ld x (Rect.unit (s := S2048x128) (k0_off3 (grid0.coords t) 0#32) S256x128.size (k0_off3_inb (grid0.coords t) 0)))⟩
abbrev sK1 (x : S2048x128.Idx → EReal) : View.Piece (Elt Ideal) S2048x128 .f32 := ⟨Rect.unit (s := S2048x128) (k0_off3 (grid0.coords t) 1#32) S256x128.size (k0_off3_inb (grid0.coords t) 1),
  k0_pay72 (x46 m c t) mk1 (w66 m c t) (w68 m c t a) (w69 m c t a) (w70 m c t) (View.ld x (Rect.unit (s := S2048x128) (k0_off3 (grid0.coords t) 1#32) S256x128.size (k0_off3_inb (grid0.coords t) 1)))⟩
abbrev sV0 (x : S2048x128.Idx → EReal) : View.Piece (Elt Ideal) S2048x128 .f32 := ⟨Rect.unit (s := S2048x128) (k0_off3 (grid0.coords t) 0#32) S256x128.size (k0_off3_inb (grid0.coords t) 0),
  k0_pay55 (w56 m c t) (wY0 m c t a) (View.ld x (Rect.unit (s := S2048x128) (k0_off3 (grid0.coords t) 0#32) S256x128.size (k0_off3_inb (grid0.coords t) 0)))⟩
abbrev sV1 (x : S2048x128.Idx → EReal) : View.Piece (Elt Ideal) S2048x128 .f32 := ⟨Rect.unit (s := S2048x128) (k0_off3 (grid0.coords t) 1#32) S256x128.size (k0_off3_inb (grid0.coords t) 1),
  k0_pay73 (x56 m c t) (wY1 m c t a) (View.ld x (Rect.unit (s := S2048x128) (k0_off3 (grid0.coords t) 1#32) S256x128.size (k0_off3_inb (grid0.coords t) 1)))⟩

include H ha in
theorem diagK (v : View sig .tc .vmem S2048x128 .f32) (f : v.ty.Contents (Elt Ideal)) (L : List (View.Piece (Elt Ideal) S2048x128 .f32))
    (h : tokI (qT t) (DK (PT m c t)) (512 * (qT t).val) (v.read (Elt Ideal) (v.writes (Elt Ideal) f L))) :
    full (DK (PT m c t)) (512 * ((qT t).val + 1)) (v.read (Elt Ideal) (v.writes (Elt Ideal) f
      (sK1 m c t a (v.read (Elt Ideal) (v.writes (Elt Ideal) f (sK0 m c t a (v.read (Elt Ideal) (v.writes (Elt Ideal) f L)) :: L))) :: sK0 m c t a (v.read (Elt Ideal) (v.writes (Elt Ideal) f L)) :: L))) := by
  have i1 := tok_put (hn := n0 t) v f (k0_off3_inb (grid0.coords t) 0) _ L (trips t).2.2.1 h (put54 m c t H a ha (View.ld (v.read (Elt Ideal) (v.writes (Elt Ideal) f L)) (Rect.unit (s := S2048x128) (k0_off3 (grid0.coords t) 0#32) S256x128.size (k0_off3_inb (grid0.coords t) 0))) fun j l => ld_old (hn := n0 t) _ _ (trips t).2.2.1 h j l)
  exact full_of (DK_causal _) (tok_put (hn := n1 t) v f (k0_off3_inb (grid0.coords t) 1) _ _ (trips t).2.2.2 i1 (put72 m c t H a ha _ fun j l => ld_old (hn := n1 t) _ _ (trips t).2.2.2 i1 j l))
include H ha in
theorem firstK (L : List (View.Piece (Elt Ideal) S2048x128 .f32)) (h : tokI (qT t) (DK (PT m c t)) (512 * (qT t).val) (View.canon L)) :
    full (DK (PT m c t)) (512 * ((qT t).val + 1)) (View.canon (sK1 m c t a (View.canon (sK0 m c t a (View.canon L) :: L)) :: sK0 m c t a (View.canon L) :: L)) := by
  have i1 := canon_put (hn := n0 t) (k0_off3_inb (grid0.coords t) 0) _ L (trips t).2.2.1 h (put54 m c t H a ha (View.ld (View.canon L) (Rect.unit (s := S2048x128) (k0_off3 (grid0.coords t) 0#32) S256x128.size (k0_off3_inb (grid0.coords t) 0))) fun j l => ld_old (hn := n0 t) _ _ (trips t).2.2.1 h j l)
  exact full_of (DK_causal _) (canon_put (hn := n1 t) (k0_off3_inb (grid0.coords t) 1) _ _ (trips t).2.2.2 i1 (put72 m c t H a ha _ fun j l => ld_old (hn := n1 t) _ _ (trips t).2.2.2 i1 j l))

include H ha in
theorem diagV (v : View sig .tc .vmem S2048x128 .f32) (f : v.ty.Contents (Elt Ideal)) (L : List (View.Piece (Elt Ideal) S2048x128 .f32))
    (h : tokI (qT t) (DV (PT m c t)) (512 * (qT t).val) (v.read (Elt Ideal) (v.writes (Elt Ideal) f L))) :
    full (DV (PT m c t)) (512 * ((qT t).val + 1)) (v.read (Elt Ideal) (v.writes (Elt Ideal) f
      (sV1 m c t a (v.read (Elt Ideal) (v.writes (Elt Ideal) f (sV0 m c t a (v.read (Elt Ideal) (v.writes (Elt Ideal) f L)) :: L))) :: sV0 m c t a (v.read (Elt Ideal) (v.writes (Elt Ideal) f L)) :: L))) := by
  have i1 := tok_put (hn := n0 t) v f (k0_off3_inb (grid0.coords t) 0) _ L (trips t).2.2.1 h (put55 m c t H a ha (View.ld (v.read (Elt Ideal) (v.writes (Elt Ideal) f L)) (Rect.unit (s := S2048x128) (k0_off3 (grid0.coords t) 0#32) S256x128.size (k0_off3_inb (grid0.coords t) 0))) fun j l => ld_old (hn := n0 t) _ _ (trips t).2.2.1 h j l)
  exact full_of (DV_causal _) (tok_put (hn := n1 t) v f (k0_off3_inb (grid0.coords t) 1) _ _ (trips t).2.2.2 i1 (put73 m c t H a ha _ fun j l => ld_old (hn := n1 t) _ _ (trips t).2.2.2 i1 j l))
include H ha in
theorem firstV (L : List (View.Piece (Elt Ideal) S2048x128 .f32)) (h : tokI (qT t) (DV (PT m c t)) (512 * (qT t).val) (View.canon L)) :
    full (DV (PT m c t)) (512 * ((qT t).val + 1)) (View.canon (sV1 m c t a (View.canon (sV0 m c t a (View.canon L) :: L)) :: sV0 m c t a (View.canon L) :: L)) := by
  have i1 := canon_put (hn := n0 t) (k0_off3_inb (grid0.coords t) 0) _ L (trips t).2.2.1 h (put55 m c t H a ha (View.ld (View.canon L) (Rect.unit (s := S2048x128) (k0_off3 (grid0.coords t) 0#32) S256x128.size (k0_off3_inb (grid0.coords t) 0))) fun j l => ld_old (hn := n0 t) _ _ (trips t).2.2.1 h j l)
  exact full_of (DV_causal _) (canon_put (hn := n1 t) (k0_off3_inb (grid0.coords t) 1) _ _ (trips t).2.2.2 i1 (put73 m c t H a ha _ fun j l => ld_old (hn := n1 t) _ _ (trips t).2.2.2 i1 j l))

theorem p75 (x : Vec Ideal S2048x128 .f32) : (k0_pay75 x : FVec Ideal S2048x128 .bf16) = x := rfl
theorem p76 (x : Vec Ideal S2048x128 .f32) : (k0_pay76 x : FVec Ideal S2048x128 .bf16) = x := rfl
theorem DK_all (h1 : t.val % 4 = 3) (s : Fin 2048) (l : Fin 128) :
    ((upto (512 * ((qT t).val + 1)) fun i => DK (PT m c t) l i s : ℝ) : EReal) = ((PT m c t (half l)).dk s (dm l) : EReal) := by
  have hz : (qT t).val = 3 := h1
  rw [hz, show 512 * (3 + 1) = 2048 from rfl, upto_all, Head.dk]
  rfl
theorem DV_all (h1 : t.val % 4 = 3) (s : Fin 2048) (l : Fin 128) :
    ((upto (512 * ((qT t).val + 1)) fun i => DV (PT m c t) l i s : ℝ) : EReal) = ((PT m c t (half l)).dv s (dm l) : EReal) := by
  have hz : (qT t).val = 3 := h1
  rw [hz, show 512 * (3 + 1) = 2048 from rfl, upto_all, Head.dv]
  rfl

include H in
theorem sc0B (h0 : ¬ t.val % 4 = 0) (h1 : ¬ t.val % 4 = 3)
    (e0 : full (DK (PT m c t)) (512 * (qT t).val) (outsAt0 m c (t.val - 1) (Nat.lt_of_le_of_lt (Nat.sub_le _ _) t.isLt)).2.2.2.1) (e1 : full (DV (PT m c t)) (512 * (qT t).val) (outsAt0 m c (t.val - 1) (Nat.lt_of_le_of_lt (Nat.sub_le _ _) t.isLt)).2.2.2.2) : ∀ s l, (outsAt0 m c t.val t.isLt).2.2.2.1 (ix2 s l) = ((upto (512 * ((qT t).val + 1)) fun i => DK (PT m c t) l i s : ℝ) : EReal) := by
  intro s l
  rw [outsAt0_B m c t h0 h1]
  generalize (outsAt0 m c (t.val - 1) _).2.2.2.1 = g0 at e0 ⊢
  generalize (outsAt0 m c (t.val - 1) _).2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ = S
  have L : accI (PT m c t) (qT t) (256 * (k0_t1_loop (grid0.coords t)).trips) S.1
      ∧ tokI (qT t) (DK (PT m c t)) (256 * (k0_t1_loop (grid0.coords t)).trips) ((View.whole cc0_scratch0).read (Elt Ideal) ((View.whole cc0_scratch0).writes (Elt Ideal) (Memref.IsWhole.unread (Memref.isWhole_whole _) g0) S.2.1))
      ∧ tokI (qT t) (DV (PT m c t)) (256 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 (offs t) rfl rfl rfl rfl (f46 m c t H) (f56 m c t H) (f61 m c t H)
      (fun s l => (congrFun (Memref.IsWhole.read_unread _ _) _).trans (ib1 m c t H s l)) (fun s l => (congrFun (Memref.IsWhole.read_unread _ _) _).trans (ib2 m c t H s l)) z28
      (by rw [Memref.IsWhole.read_unread]; exact start e0) (by rw [Memref.IsWhole.read_unread]; exact start e1) _ (le_of_eq (trips t).1)
  rw [(trips t).1, show 256 * (2 * (t.val % 4)) = 512 * (qT t).val from by show 256 * (2 * (t.val % 4)) = 512 * (t.val % 4); omega] at L
  clear hS
  exact diagK m c t H S.1 L.1 (View.whole cc0_scratch0) _ S.2.1 L.2.1 s l
include H in
theorem sc1B (h0 : ¬ t.val % 4 = 0) (h1 : ¬ t.val % 4 = 3)
    (e0 : full (DK (PT m c t)) (512 * (qT t).val) (outsAt0 m c (t.val - 1) (Nat.lt_of_le_of_lt (Nat.sub_le _ _) t.isLt)).2.2.2.1) (e1 : full (DV (PT m c t)) (512 * (qT t).val) (outsAt0 m c (t.val - 1) (Nat.lt_of_le_of_lt (Nat.sub_le _ _) t.isLt)).2.2.2.2) : ∀ s l, (outsAt0 m c t.val t.isLt).2.2.2.2 (ix2 s l) = ((upto (512 * ((qT t).val + 1)) fun i => DV (PT m c t) l i s : ℝ) : EReal) := by
  intro s l
  rw [outsAt0_B m c t h0 h1]
  generalize (outsAt0 m c (t.val - 1) _).2.2.2.1 = g0 at e0 ⊢
  generalize (outsAt0 m c (t.val - 1) _).2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ = S
  have L : accI (PT m c t) (qT t) (256 * (k0_t1_loop (grid0.coords t)).trips) S.1
      ∧ tokI (qT t) (DK (PT m c t)) (256 * (k0_t1_loop (grid0.coords t)).trips) ((View.whole cc0_scratch0).read (Elt Ideal) ((View.whole cc0_scratch0).writes (Elt Ideal) (Memref.IsWhole.unread (Memref.isWhole_whole _) g0) S.2.1))
      ∧ tokI (qT t) (DV (PT m c t)) (256 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 (offs t) rfl rfl rfl rfl (f46 m c t H) (f56 m c t H) (f61 m c t H)
      (fun s l => (congrFun (Memref.IsWhole.read_unread _ _) _).trans (ib1 m c t H s l)) (fun s l => (congrFun (Memref.IsWhole.read_unread _ _) _).trans (ib2 m c t H s l)) z28
      (by rw [Memref.IsWhole.read_unread]; exact start e0) (by rw [Memref.IsWhole.read_unread]; exact start e1) _ (le_of_eq (trips t).1)
  rw [(trips t).1, show 256 * (2 * (t.val % 4)) = 512 * (qT t).val from by show 256 * (2 * (t.val % 4)) = 512 * (t.val % 4); omega] at L
  clear hS
  exact diagV m c t H S.1 L.1 (View.whole cc0_scratch1) _ S.2.2 L.2.2 s l
include H in
theorem dqB (h0 : ¬ t.val % 4 = 0) (h1 : ¬ t.val % 4 = 3)
    (e0 : full (DK (PT m c t)) (512 * (qT t).val) (outsAt0 m c (t.val - 1) (Nat.lt_of_le_of_lt (Nat.sub_le _ _) t.isLt)).2.2.2.1) (e1 : full (DV (PT m c t)) (512 * (qT t).val) (outsAt0 m c (t.val - 1) (Nat.lt_of_le_of_lt (Nat.sub_le _ _) t.isLt)).2.2.2.2) : ∀ r l, (outsAt0 m c t.val t.isLt).1 (ix2 r l) = ((PT m c t (half l)).dq (pos (qT t) r) (dm l) : EReal) := by
  intro r l
  rw [outsAt0_B m c t h0 h1]
  generalize (outsAt0 m c (t.val - 1) _).2.2.2.1 = g0 at e0 ⊢
  generalize (outsAt0 m c (t.val - 1) _).2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ = S
  have L : accI (PT m c t) (qT t) (256 * (k0_t1_loop (grid0.coords t)).trips) S.1
      ∧ tokI (qT t) (DK (PT m c t)) (256 * (k0_t1_loop (grid0.coords t)).trips) ((View.whole cc0_scratch0).read (Elt Ideal) ((View.whole cc0_scratch0).writes (Elt Ideal) (Memref.IsWhole.unread (Memref.isWhole_whole _) g0) S.2.1))
      ∧ tokI (qT t) (DV (PT m c t)) (256 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 (offs t) rfl rfl rfl rfl (f46 m c t H) (f56 m c t H) (f61 m c t H)
      (fun s l => (congrFun (Memref.IsWhole.read_unread _ _) _).trans (ib1 m c t H s l)) (fun s l => (congrFun (Memref.IsWhole.read_unread _ _) _).trans (ib2 m c t H s l)) z28
      (by rw [Memref.IsWhole.read_unread]; exact start e0) (by rw [Memref.IsWhole.read_unread]; exact start e1) _ (le_of_eq (trips t).1)
  rw [(trips t).1, show 256 * (2 * (t.val % 4)) = 512 * (qT t).val from by show 256 * (2 * (t.val % 4)) = 512 * (t.val % 4); omega] at L
  clear hS
  exact out74 m c t H S.1 L.1 r l
include H in
theorem sc0C (h0 : ¬ t.val % 4 = 0) (h1 : t.val % 4 = 3)
    (e0 : full (DK (PT m c t)) (512 * (qT t).val) (outsAt0 m c (t.val - 1) (Nat.lt_of_le_of_lt (Nat.sub_le _ _) t.isLt)).2.2.2.1) (e1 : full (DV (PT m c t)) (512 * (qT t).val) (outsAt0 m c (t.val - 1) (Nat.lt_of_le_of_lt (Nat.sub_le _ _) t.isLt)).2.2.2.2) : ∀ s l, (outsAt0 m c t.val t.isLt).2.2.2.1 (ix2 s l) = ((upto (512 * ((qT t).val + 1)) fun i => DK (PT m c t) l i s : ℝ) : EReal) := by
  intro s l
  rw [outsAt0_C m c t h0 h1]
  generalize (outsAt0 m c (t.val - 1) _).2.2.2.1 = g0 at e0 ⊢
  generalize (outsAt0 m c (t.val - 1) _).2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ = S
  have L : accI (PT m c t) (qT t) (256 * (k0_t1_loop (grid0.coords t)).trips) S.1
      ∧ tokI (qT t) (DK (PT m c t)) (256 * (k0_t1_loop (grid0.coords t)).trips) ((View.whole cc0_scratch0).read (Elt Ideal) ((View.whole cc0_scratch0).writes (Elt Ideal) (Memref.IsWhole.unread (Memref.isWhole_whole _) g0) S.2.1))
      ∧ tokI (qT t) (DV (PT m c t)) (256 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 (offs t) rfl rfl rfl rfl (f46 m c t H) (f56 m c t H) (f61 m c t H)
      (fun s l => (congrFun (Memref.IsWhole.read_unread _ _) _).trans (ib1 m c t H s l)) (fun s l => (congrFun (Memref.IsWhole.read_unread _ _) _).trans (ib2 m c t H s l)) z28
      (by rw [Memref.IsWhole.read_unread]; exact start e0) (by rw [Memref.IsWhole.read_unread]; exact start e1) _ (le_of_eq (trips t).1)
  rw [(trips t).1, show 256 * (2 * (t.val % 4)) = 512 * (qT t).val from by show 256 * (2 * (t.val % 4)) = 512 * (t.val % 4); omega] at L
  clear hS
  exact diagK m c t H S.1 L.1 (View.whole cc0_scratch0) _ S.2.1 L.2.1 s l
include H in
theorem sc1C (h0 : ¬ t.val % 4 = 0) (h1 : t.val % 4 = 3)
    (e0 : full (DK (PT m c t)) (512 * (qT t).val) (outsAt0 m c (t.val - 1) (Nat.lt_of_le_of_lt (Nat.sub_le _ _) t.isLt)).2.2.2.1) (e1 : full (DV (PT m c t)) (512 * (qT t).val) (outsAt0 m c (t.val - 1) (Nat.lt_of_le_of_lt (Nat.sub_le _ _) t.isLt)).2.2.2.2) : ∀ s l, (outsAt0 m c t.val t.isLt).2.2.2.2 (ix2 s l) = ((upto (512 * ((qT t).val + 1)) fun i => DV (PT m c t) l i s : ℝ) : EReal) := by
  intro s l
  rw [outsAt0_C m c t h0 h1]
  generalize (outsAt0 m c (t.val - 1) _).2.2.2.1 = g0 at e0 ⊢
  generalize (outsAt0 m c (t.val - 1) _).2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ = S
  have L : accI (PT m c t) (qT t) (256 * (k0_t1_loop (grid0.coords t)).trips) S.1
      ∧ tokI (qT t) (DK (PT m c t)) (256 * (k0_t1_loop (grid0.coords t)).trips) ((View.whole cc0_scratch0).read (Elt Ideal) ((View.whole cc0_scratch0).writes (Elt Ideal) (Memref.IsWhole.unread (Memref.isWhole_whole _) g0) S.2.1))
      ∧ tokI (qT t) (DV (PT m c t)) (256 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 (offs t) rfl rfl rfl rfl (f46 m c t H) (f56 m c t H) (f61 m c t H)
      (fun s l => (congrFun (Memref.IsWhole.read_unread _ _) _).trans (ib1 m c t H s l)) (fun s l => (congrFun (Memref.IsWhole.read_unread _ _) _).trans (ib2 m c t H s l)) z28
      (by rw [Memref.IsWhole.read_unread]; exact start e0) (by rw [Memref.IsWhole.read_unread]; exact start e1) _ (le_of_eq (trips t).1)
  rw [(trips t).1, show 256 * (2 * (t.val % 4)) = 512 * (qT t).val from by show 256 * (2 * (t.val % 4)) = 512 * (t.val % 4); omega] at L
  clear hS
  exact diagV m c t H S.1 L.1 (View.whole cc0_scratch1) _ S.2.2 L.2.2 s l
include H in
theorem dqC (h0 : ¬ t.val % 4 = 0) (h1 : t.val % 4 = 3)
    (e0 : full (DK (PT m c t)) (512 * (qT t).val) (outsAt0 m c (t.val - 1) (Nat.lt_of_le_of_lt (Nat.sub_le _ _) t.isLt)).2.2.2.1) (e1 : full (DV (PT m c t)) (512 * (qT t).val) (outsAt0 m c (t.val - 1) (Nat.lt_of_le_of_lt (Nat.sub_le _ _) t.isLt)).2.2.2.2) : ∀ r l, (outsAt0 m c t.val t.isLt).1 (ix2 r l) = ((PT m c t (half l)).dq (pos (qT t) r) (dm l) : EReal) := by
  intro r l
  rw [outsAt0_C m c t h0 h1]
  generalize (outsAt0 m c (t.val - 1) _).2.2.2.1 = g0 at e0 ⊢
  generalize (outsAt0 m c (t.val - 1) _).2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ = S
  have L : accI (PT m c t) (qT t) (256 * (k0_t1_loop (grid0.coords t)).trips) S.1
      ∧ tokI (qT t) (DK (PT m c t)) (256 * (k0_t1_loop (grid0.coords t)).trips) ((View.whole cc0_scratch0).read (Elt Ideal) ((View.whole cc0_scratch0).writes (Elt Ideal) (Memref.IsWhole.unread (Memref.isWhole_whole _) g0) S.2.1))
      ∧ tokI (qT t) (DV (PT m c t)) (256 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 (offs t) rfl rfl rfl rfl (f46 m c t H) (f56 m c t H) (f61 m c t H)
      (fun s l => (congrFun (Memref.IsWhole.read_unread _ _) _).trans (ib1 m c t H s l)) (fun s l => (congrFun (Memref.IsWhole.read_unread _ _) _).trans (ib2 m c t H s l)) z28
      (by rw [Memref.IsWhole.read_unread]; exact start e0) (by rw [Memref.IsWhole.read_unread]; exact start e1) _ (le_of_eq (trips t).1)
  rw [(trips t).1, show 256 * (2 * (t.val % 4)) = 512 * (qT t).val from by show 256 * (2 * (t.val % 4)) = 512 * (t.val % 4); omega] at L
  clear hS
  exact out74 m c t H S.1 L.1 r l
include H in
theorem dkC (h0 : ¬ t.val % 4 = 0) (h1 : t.val % 4 = 3)
    (e0 : full (DK (PT m c t)) (512 * (qT t).val) (outsAt0 m c (t.val - 1) (Nat.lt_of_le_of_lt (Nat.sub_le _ _) t.isLt)).2.2.2.1) (e1 : full (DV (PT m c t)) (512 * (qT t).val) (outsAt0 m c (t.val - 1) (Nat.lt_of_le_of_lt (Nat.sub_le _ _) t.isLt)).2.2.2.2) : ∀ s l, (outsAt0 m c t.val t.isLt).2.1 (ix2 s l) = ((PT m c t (half l)).dk s (dm l) : EReal) := by
  intro s l
  rw [outsAt0_C m c t h0 h1]
  generalize (outsAt0 m c (t.val - 1) _).2.2.2.1 = g0 at e0 ⊢
  generalize (outsAt0 m c (t.val - 1) _).2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ = S
  have L : accI (PT m c t) (qT t) (256 * (k0_t1_loop (grid0.coords t)).trips) S.1
      ∧ tokI (qT t) (DK (PT m c t)) (256 * (k0_t1_loop (grid0.coords t)).trips) ((View.whole cc0_scratch0).read (Elt Ideal) ((View.whole cc0_scratch0).writes (Elt Ideal) (Memref.IsWhole.unread (Memref.isWhole_whole _) g0) S.2.1))
      ∧ tokI (qT t) (DV (PT m c t)) (256 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 (offs t) rfl rfl rfl rfl (f46 m c t H) (f56 m c t H) (f61 m c t H)
      (fun s l => (congrFun (Memref.IsWhole.read_unread _ _) _).trans (ib1 m c t H s l)) (fun s l => (congrFun (Memref.IsWhole.read_unread _ _) _).trans (ib2 m c t H s l)) z28
      (by rw [Memref.IsWhole.read_unread]; exact start e0) (by rw [Memref.IsWhole.read_unread]; exact start e1) _ (le_of_eq (trips t).1)
  rw [(trips t).1, show 256 * (2 * (t.val % 4)) = 512 * (qT t).val from by show 256 * (2 * (t.val % 4)) = 512 * (t.val % 4); omega] at L
  clear hS
  refine (congrFun (p75 _) _).trans ((diagK m c t H S.1 L.1 (View.whole cc0_scratch0) _ S.2.1 L.2.1 _ _).trans ?_)
  exact DK_all m c t h1 s l
include H in
theorem dvC (h0 : ¬ t.val % 4 = 0) (h1 : t.val % 4 = 3)
    (e0 : full (DK (PT m c t)) (512 * (qT t).val) (outsAt0 m c (t.val - 1) (Nat.lt_of_le_of_lt (Nat.sub_le _ _) t.isLt)).2.2.2.1) (e1 : full (DV (PT m c t)) (512 * (qT t).val) (outsAt0 m c (t.val - 1) (Nat.lt_of_le_of_lt (Nat.sub_le _ _) t.isLt)).2.2.2.2) : ∀ s l, (outsAt0 m c t.val t.isLt).2.2.1 (ix2 s l) = ((PT m c t (half l)).dv s (dm l) : EReal) := by
  intro s l
  rw [outsAt0_C m c t h0 h1]
  generalize (outsAt0 m c (t.val - 1) _).2.2.2.1 = g0 at e0 ⊢
  generalize (outsAt0 m c (t.val - 1) _).2.2.2.2 = g1 at e1 ⊢
  frame_out
  rw [st2_zero (trips t).2.1]
  generalize hS : st_k0_t1 (F := Ideal) _ _ _ _ _ _ _ _ _ _ _ _ _ _ _ _ _ _ _ _ _ _ _ _ _ _ _ _ _ _ _ _ _ _ _ _ _ _ _ = S
  have L : accI (PT m c t) (qT t) (256 * (k0_t1_loop (grid0.coords t)).trips) S.1
      ∧ tokI (qT t) (DK (PT m c t)) (256 * (k0_t1_loop (grid0.coords t)).trips) ((View.whole cc0_scratch0).read (Elt Ideal) ((View.whole cc0_scratch0).writes (Elt Ideal) (Memref.IsWhole.unread (Memref.isWhole_whole _) g0) S.2.1))
      ∧ tokI (qT t) (DV (PT m c t)) (256 * (k0_t1_loop (grid0.coords t)).trips) ((View.whole cc0_scratch1).read (Elt Ideal) ((View.whole cc0_scratch1).writes (Elt Ideal) (Memref.IsWhole.unread (Memref.isWhole_whole _) g1) S.2.2)) := by
    rw [← hS]
    exact loop1 (P := PT m c t) (qi := qT t) (trips t).1 (offs t) rfl rfl rfl rfl (f46 m c t H) (f56 m c t H) (f61 m c t H)
      (fun s l => (congrFun (Memref.IsWhole.read_unread _ _) _).trans (ib1 m c t H s l)) (fun s l => (congrFun (Memref.IsWhole.read_unread _ _) _).trans (ib2 m c t H s l)) z28
      (by rw [Memref.IsWhole.read_unread]; exact start e0) (by rw [Memref.IsWhole.read_unread]; exact start e1) _ (le_of_eq (trips t).1)
  rw [(trips t).1, show 256 * (2 * (t.val % 4)) = 512 * (qT t).val from by show 256 * (2 * (t.val % 4)) = 512 * (t.val % 4); omega] at L
  clear hS
  refine (congrFun (p76 _) _).trans ((diagV m c t H S.1 L.1 (View.whole cc0_scratch1) _ S.2.2 L.2.2 _ _).trans ?_)
  exact DV_all m c t h1 s l
theorem zA (h0 : t.val % 4 = 0) {P : Fin 2 → Head} : accI P (qT t) (512 * (qT t).val) ((k0_pay28 : FVec Ideal S1024x1 .f32), (k0_pay29 : FVec Ideal S1024x1 .f32), (k0_pay30 : FVec Ideal S1024x128 .f32)) := by
  rw [show (qT t).val = 0 from h0]; exact z28

include H in
theorem sc0A (h0 : t.val % 4 = 0) (h1 : ¬ t.val % 4 = 3) : ∀ s l, (outsAt0 m c t.val t.isLt).2.2.2.1 (ix2 s l) = ((upto (512 * ((qT t).val + 1)) fun i => DK (PT m c t) l i s : ℝ) : EReal) := by
  intro s l
  rw [outsAt0_A m c t h0 h1]; frame_out
  rw [st2_zero (trips t).2.1, st1_zero ((trips t).1.trans (by rw [h0]))]
  exact firstK m c t H _ (zA t h0) _ (canon_zero h0 (k0_pay17 (F := Ideal)) z17) s l
include H in
theorem sc1A (h0 : t.val % 4 = 0) (h1 : ¬ t.val % 4 = 3) : ∀ s l, (outsAt0 m c t.val t.isLt).2.2.2.2 (ix2 s l) = ((upto (512 * ((qT t).val + 1)) fun i => DV (PT m c t) l i s : ℝ) : EReal) := by
  intro s l
  rw [outsAt0_A m c t h0 h1]; frame_out
  rw [st2_zero (trips t).2.1, st1_zero ((trips t).1.trans (by rw [h0]))]
  exact firstV m c t H _ (zA t h0) _ (canon_zero h0 (k0_pay18 (F := Ideal)) z18) s l
include H in
theorem dqA (h0 : t.val % 4 = 0) (h1 : ¬ t.val % 4 = 3) : ∀ r l, (outsAt0 m c t.val t.isLt).1 (ix2 r l) = ((PT m c t (half l)).dq (pos (qT t) r) (dm l) : EReal) := by
  intro r l
  rw [outsAt0_A m c t h0 h1]; frame_out
  rw [st2_zero (trips t).2.1, st1_zero ((trips t).1.trans (by rw [h0]))]
  exact out74 m c t H _ (zA t h0) r l

end Cert.SbValue
end
-- ==== Proof.SbOut.lean ====
/- The stick-breaking gradient's kernel: the accumulators over the whole grid, and its three result arrays. -/
module

public import proofs.«01_k».proof.Proof.SbGrid

@[expose] public section

set_option maxRecDepth 16384

noncomputable section

namespace Cert.SbValue

open Idealize.ShloMosaic Idealize.SL.Sem Cert.SbIdeal Cert.SbIdeal.Gen Cert.Common Cert.RealKit Cert.SbSpec Cert.SbHost Cert.SbBlock Cert.SbTile Cert.SbLoop Cert.SbRefValue
open Cert.FoxBlock (pos side rq half dm tq)
open Cert.FoxSpec (seqOf tokOf headOf dimOf lane spread)
open scoped BigOperators

variable (m : (ℓ : Loc nD τ sig) → Buf (Elt Ideal) ℓ) (c : Dev nD) (t : Fin cfg0.N) (H : Reals m c)

theorem PP_congr {b b' hp hp' : ℕ} (e : b = b') (f : hp = hp') (h1 : b < 2) (h2 : hp < 4) (h1' : b' < 2) (h2' : hp' < 4) : PP m c b hp h1 h2 = PP m c b' hp' h1' h2' := by
  subst e; subst f; rfl

include H in
/-- The accumulators after each point. -/
theorem scratch : ∀ (n : ℕ) (h : n < cfg0.N), full (DK (PT m c ⟨n, h⟩)) (512 * ((qT ⟨n, h⟩).val + 1)) (outsAt0 m c n h).2.2.2.1
    ∧ full (DV (PT m c ⟨n, h⟩)) (512 * ((qT ⟨n, h⟩).val + 1)) (outsAt0 m c n h).2.2.2.2 := by
  intro n
  induction n using Nat.strong_induction_on with
  | _ n ih =>
    intro h
    have hN : n < 32 := lt_of_lt_of_eq h N_0
    by_cases h0 : n % 4 = 0
    · exact ⟨sc0A m c ⟨n, h⟩ H h0 (by show ¬ n % 4 = 3; omega), sc1A m c ⟨n, h⟩ H h0 (by show ¬ n % 4 = 3; omega)⟩
    · obtain ⟨i0, i1⟩ := ih (n - 1) (by omega) (Nat.lt_of_le_of_lt (Nat.sub_le _ _) h)
      have eP : PT m c ⟨n - 1, Nat.lt_of_le_of_lt (Nat.sub_le _ _) h⟩ = PT m c ⟨n, h⟩ :=
        PP_congr m c (by show (n - 1) / 16 = n / 16; omega) (by show (n - 1) / 4 % 4 = n / 4 % 4; omega) _ _ _ _
      have eq : (qT (⟨n - 1, Nat.lt_of_le_of_lt (Nat.sub_le _ _) h⟩ : Fin cfg0.N)).val + 1 = (qT (⟨n, h⟩ : Fin cfg0.N)).val := by
        show (n - 1) % 4 + 1 = n % 4; omega
      rw [eP, eq] at i0 i1
      by_cases h1 : n % 4 = 3
      · exact ⟨sc0C m c ⟨n, h⟩ H h0 h1 i0 i1, sc1C m c ⟨n, h⟩ H h0 h1 i0 i1⟩
      · exact ⟨sc0B m c ⟨n, h⟩ H h0 h1 i0 i1, sc1B m c ⟨n, h⟩ H h0 h1 i0 i1⟩

include H in
theorem before (h0 : ¬ t.val % 4 = 0) : full (DK (PT m c t)) (512 * (qT t).val) (outsAt0 m c (t.val - 1) (Nat.lt_of_le_of_lt (Nat.sub_le _ _) t.isLt)).2.2.2.1
    ∧ full (DV (PT m c t)) (512 * (qT t).val) (outsAt0 m c (t.val - 1) (Nat.lt_of_le_of_lt (Nat.sub_le _ _) t.isLt)).2.2.2.2 := by
  obtain ⟨i0, i1⟩ := scratch m c H (t.val - 1) (Nat.lt_of_le_of_lt (Nat.sub_le _ _) t.isLt)
  have ht := tlt t
  have eP : PT m c ⟨t.val - 1, Nat.lt_of_le_of_lt (Nat.sub_le _ _) t.isLt⟩ = PT m c t :=
    PP_congr m c (by show (t.val - 1) / 16 = t.val / 16; omega) (by show (t.val - 1) / 4 % 4 = t.val / 4 % 4; omega) _ _ _ _
  have eq : (qT (⟨t.val - 1, Nat.lt_of_le_of_lt (Nat.sub_le _ _) t.isLt⟩ : Fin cfg0.N)).val + 1 = (qT t).val := by
    show (t.val - 1) % 4 + 1 = t.val % 4; omega
  rw [eP, eq] at i0 i1
  exact ⟨i0, i1⟩

theorem emb5 (r : Fin 512) (l : Fin 128) : ((View.whole main_v32_0).slice (win0_5.rect t)).emb (ix2 r l) = ix2 (rowQ t r) (laneQ t l) := by blk_ext [idx t]
theorem emb6 (r : Fin 2048) (l : Fin 128) : ((View.whole main_v32_1).slice (win0_6.rect t)).emb (ix2 r l) = ix2 (rowK t r) (laneQ t l) := by blk_ext [idx t]
theorem emb7 (r : Fin 2048) (l : Fin 128) : ((View.whole main_v32_2).slice (win0_7.rect t)).emb (ix2 r l) = ix2 (rowK t r) (laneQ t l) := by blk_ext [idx t]

/-- The heads of a sequence. -/
abbrev HD (b : Fin 2) (h : Fin 8) : Head := hd (X0 m c) (X1 m c) (X2 m c) (X6 m c) b h

theorem sp5 (y0 : Fin 512) (y1 : Fin 128) : ((PT m c t (half y1)).dq (pos (qT t) y0) (dm y1) : EReal) = spread (fun b h => (HD m c b h).dq) (ix2 (rowQ t y0) (laneQ t y1)) := by
  refine Eq.trans ?_ (show (((HD m c (seqOf (rowQ t y0)) (headOf (laneQ t y1))).dq (tokOf (rowQ t y0)) (dimOf (laneQ t y1)) : ℝ) : EReal) = _ from rfl)
  rw [sQ, tQ, hQ, dQ]
  rfl
include H in
theorem arr5 : (dats m 0 c).arrAt 5 cfg0.N = spread (fun b h => (HD m c b h).dq) := by
  refine (dats m 0 c).arrAt_eq_of_covers 5 _ (by decide +kernel) fun t hf y => ?_
  blk_simp
  rw [after0_5]
  have e : ∀ y : S512x128.Idx, (outsAt0 m c t.val t.isLt).1 y = spread (fun b h => (HD m c b h).dq) (((View.whole main_v32_0).slice (win0_5.rect t)).emb y) := by
    intro y
    idx_vars y
    erw [emb5]
    refine Eq.trans ?_ (sp5 m c t y0 y1)
    by_cases h0 : t.val % 4 = 0
    · exact dqA m c t H h0 (by omega) y0 y1
    · obtain ⟨i0, i1⟩ := before m c t H h0
      by_cases h1 : t.val % 4 = 3
      · exact dqC m c t H h0 h1 i0 i1 y0 y1
      · exact dqB m c t H h0 h1 i0 i1 y0 y1
  exact e y

theorem sp6 (y0 : Fin 2048) (y1 : Fin 128) : ((PT m c t (half y1)).dk y0 (dm y1) : EReal) = spread (fun b h => (HD m c b h).dk) (ix2 (rowK t y0) (laneQ t y1)) := by
  refine Eq.trans ?_ (show (((HD m c (seqOf (rowK t y0)) (headOf (laneQ t y1))).dk (tokOf (rowK t y0)) (dimOf (laneQ t y1)) : ℝ) : EReal) = _ from rfl)
  rw [sK, tK, hQ, dQ]
  rfl
include H in
theorem arr6 : (dats m 0 c).arrAt 6 cfg0.N = spread (fun b h => (HD m c b h).dk) := by
  refine (dats m 0 c).arrAt_eq_of_covers 6 _ (by decide +kernel) fun t hf y => ?_
  blk_simp
  rw [after0_6]
  have e : ∀ y : S2048x128.Idx, (outsAt0 m c t.val t.isLt).2.1 y = spread (fun b h => (HD m c b h).dk) (((View.whole main_v32_1).slice (win0_6.rect t)).emb y) := by
    intro y
    idx_vars y
    erw [emb6]
    refine Eq.trans ?_ (sp6 m c t y0 y1)
    have h1 := (flush0_6 t).mp hf
    obtain ⟨i0, i1⟩ := before m c t H (by omega)
    exact dkC m c t H (by omega) h1 i0 i1 y0 y1
  exact e y

theorem sp7 (y0 : Fin 2048) (y1 : Fin 128) : ((PT m c t (half y1)).dv y0 (dm y1) : EReal) = spread (fun b h => (HD m c b h).dv) (ix2 (rowK t y0) (laneQ t y1)) := by
  refine Eq.trans ?_ (show (((HD m c (seqOf (rowK t y0)) (headOf (laneQ t y1))).dv (tokOf (rowK t y0)) (dimOf (laneQ t y1)) : ℝ) : EReal) = _ from rfl)
  rw [sK, tK, hQ, dQ]
  rfl
include H in
theorem arr7 : (dats m 0 c).arrAt 7 cfg0.N = spread (fun b h => (HD m c b h).dv) := by
  refine (dats m 0 c).arrAt_eq_of_covers 7 _ (by decide +kernel) fun t hf y => ?_
  blk_simp
  rw [after0_7]
  have e : ∀ y : S2048x128.Idx, (outsAt0 m c t.val t.isLt).2.2.1 y = spread (fun b h => (HD m c b h).dv) (((View.whole main_v32_2).slice (win0_7.rect t)).emb y) := by
    intro y
    idx_vars y
    erw [emb7]
    refine Eq.trans ?_ (sp7 m c t y0 y1)
    have h1 := (flush0_7 t).mp hf
    obtain ⟨i0, i1⟩ := before m c t H (by omega)
    exact dvC m c t H (by omega) h1 i0 i1 y0 y1
  exact e y

end Cert.SbValue
end
-- ==== Proof.SbClaim.lean ====
/- The five claims of the stick-breaking attention gradient. -/
module

public import proofs.«01_k».proof.Defs
public import proofs.«01_k».proof.Proof.Gen.Sb.Frame
public import proofs.«01_k».proof.Proof.SbOut

@[expose] public section

noncomputable section

namespace Cert.Proof.Sb

open Idealize.ShloMosaic Idealize.SL.Sem Cert.Common Cert.RealKit Cert.SbSpec Cert.SbHost Cert.SbRefValue Cert.SbValue
open Cert.FoxSpec (spread)

theorem preFacts : Cert.Pre_sb_finite.Facts := by constructor <;> decide

theorem frameP : Cert.quiescent_Sb (hSb := Cert.Sb.Gen.facts) := fun m ρ _ => Cert.Sb.Gen.frame m ρ
theorem frameI : Cert.quiescent_SbIdeal (hSbIdeal := Cert.SbIdeal.Gen.facts) := fun m ρ _ => Cert.SbIdeal.Gen.frame m ρ
theorem frameI' : Cert.quiescent_SbIdeal_pre_sb_finite (hSbIdeal := Cert.SbIdeal.Gen.facts) (hPre_sb_finite := preFacts) := fun m ρ _ => Cert.SbIdeal.Gen.frame m ρ
theorem frameR : Cert.quiescent_SbRefIdeal (hSbRefIdeal := Cert.SbRefIdeal.Gen.facts) := fun m ρ _ =>
  (θ_run Cert.SbRefIdeal.defs _ _).mono (fun r h => ⟨fun c => (h c).2.2.2, sem_eq_zero_of_no_sems (by decide) r.2⟩) (Cert.SbRefIdeal.Value.run (F := Ideal) m ρ)
theorem frameR' : Cert.quiescent_SbRefIdeal_pre_sb_finite (hSbRefIdeal := Cert.SbRefIdeal.Gen.facts) (hPre_sb_finite := preFacts) := fun m ρ _ =>
  (θ_run Cert.SbRefIdeal.defs _ _).mono (fun r h => ⟨fun c => (h c).2.2.2, sem_eq_zero_of_no_sems (by decide) r.2⟩) (Cert.SbRefIdeal.Value.run (F := Ideal) m ρ)
theorem preserves : Cert.preserves_Sb_SbIdeal := trivial

/-- The precondition says that the arguments' entries are real numbers. -/
theorem reals (m : (ℓ : Loc Cert.SbIdeal.nD Cert.SbIdeal.τ Cert.SbIdeal.sig) → Buf (Elt Ideal) ℓ) (h : Cert.Pre_SbIdeal_sb_finite (hPre_sb_finite := preFacts) m) (c : Dev Cert.SbIdeal.nD) : Reals m c := by
  obtain ⟨h0, h1, h2, h6⟩ := h c
  exact ⟨fun i => real_of_lt (congrFun h0 i), fun i => real_of_lt (congrFun h1 i), fun i => real_of_lt (congrFun h2 i), fun i => real_of_lt (congrFun h6 i)⟩

theorem algebraic : Cert.algebraic_SbIdeal_SbRefIdeal_pre_sb_finite (hSbIdeal := Cert.SbIdeal.Gen.facts) (hSbRefIdeal := Cert.SbRefIdeal.Gen.facts) (hPre_sb_finite := preFacts) := by
  intro m ρ m' ρ' hp hag
  have H := reals m hp
  refine ⟨fun c => spread (fun b h => (HD m c b h).dq), fun c => spread (fun b h => (HD m c b h).dk), fun c => spread (fun b h => (HD m c b h).dv), ?_, ?_⟩
  · refine (θ_run _ _ _).mono (fun r h c => ?_) (Cert.SbIdeal.Value.run_blocks m ρ)
    obtain ⟨h0, h1, h2, hr⟩ := h c
    exact ⟨h0.trans (arr5 m c (H c)), h1.trans (arr6 m c (H c)), h2.trans (arr7 m c (H c)), hr⟩
  · refine (θ_run _ _ _).mono (fun r h c => ?_) (Cert.SbRefIdeal.Value.run m' ρ')
    obtain ⟨h0, h1, h2, hr⟩ := h c
    obtain ⟨a0, a1, a2, a3, a4, a5, a6⟩ := hag c
    obtain ⟨H0, H1, H2, H6⟩ := H c
    have e0 : (m' ((c.tc : Thread Cert.SbRefIdeal.nD Cert.SbRefIdeal.τ).loc Cert.SbRefIdeal.main_arg0) : M3 2 2048 512) = X0 m c := a0
    have e1 : (m' ((c.tc : Thread Cert.SbRefIdeal.nD Cert.SbRefIdeal.τ).loc Cert.SbRefIdeal.main_arg1) : M3 2 2048 512) = X1 m c := a1
    have e2 : (m' ((c.tc : Thread Cert.SbRefIdeal.nD Cert.SbRefIdeal.τ).loc Cert.SbRefIdeal.main_arg2) : M3 2 2048 512) = X2 m c := a2
    have e6 : (m' ((c.tc : Thread Cert.SbRefIdeal.nD Cert.SbRefIdeal.τ).loc Cert.SbRefIdeal.main_arg6) : M3 2 2048 512) = X6 m c := a6
    refine ⟨h0.trans ?_, h1.trans ?_, h2.trans ?_, hr⟩
    · refine (Cert.SbRefIdeal.Read.val_main_v54_eq ..).trans ?_
      rw [e0, e1, e2, e6]; exact r54 _ _ _ _ H0 H1 H2 H6
    · refine (Cert.SbRefIdeal.Read.val_main_v56_eq ..).trans ?_
      rw [e0, e1, e2, e6]; exact r56 _ _ _ _ H0 H1 H2 H6
    · refine (Cert.SbRefIdeal.Read.val_main_v58_eq ..).trans ?_
      rw [e0, e1, e6]; exact r58 _ _ (X2 m c) _ H0 H1 H6

end Cert.Proof.Sb
end
-- ==== Proof.NormSpec.lean ====
/- The gradient of an RMS norm, row by row: the form the kernels compute and the form the derivative of the forward lines takes, and that they agree. -/
module

public import proofs.«01_k».proof.Proof.RealKit

@[expose] public section

noncomputable section

namespace Cert.NormSpec

open Idealize.ShloMosaic Cert.Common Cert.RealKit
open scoped BigOperators

/-- The width of a row. -/
abbrev wid : EReal := Ideal.ofBits .f32 0x44800000#32
/-- What is added to the mean square. -/
abbrev eps : EReal := Ideal.ofBits .f32 0x358637BD#32
/-- Minus one half. -/
abbrev mhalf : EReal := Ideal.ofBits .f32 0xBF000000#32

theorem wid_eq : wid = ((1024 : ℝ) : EReal) := by
  simp [wid, Ideal.ofBits, Ideal.ieee, -EReal.coe_mul]; norm_num
theorem mhalf_eq : mhalf = ((-(1 / 2) : ℝ) : EReal) := by
  simp [mhalf, Ideal.ofBits, Ideal.ieee, -EReal.coe_mul]; norm_num
theorem eps_eq : ∃ e : ℝ, 0 < e ∧ eps = (e : EReal) := by
  refine ⟨8796093 * 2 ^ (-43 : ℤ), by positivity, ?_⟩
  simp [eps, Ideal.ofBits, Ideal.ieee, -EReal.coe_mul]

/-- The mean square of a row, moved off zero. -/
def msq (x : Fin 1024 → EReal) : EReal := Ideal.div (∑ k, x k * x k) wid + eps
/-- The factor that normalises a row. -/
def inv (x : Fin 1024 → EReal) : EReal := Ideal.rsqrt (msq x)
/-- The normalised row. -/
def unit (x : Fin 1024 → EReal) (j : Fin 1024) : EReal := x j * inv x
/-- The cotangent of a row from the cotangent of the scaled normalised row. -/
def back (x dh g : Fin 1024 → EReal) (j : Fin 1024) : EReal :=
  inv x * (dh j * g j - unit x j * Ideal.div (∑ k, dh k * g k * unit x k) wid)
/-- The cotangent that reaches a row through the normalising factor, as the derivative of the forward lines gives it. -/
def through (x dh g : Fin 1024 → EReal) : EReal := Ideal.div ((∑ k, x k * (dh k * g k)) * (mhalf * Ideal.div (inv x) (msq x))) wid

theorem msq_real (x : Fin 1024 → ℝ) : ∃ v : ℝ, 0 < v ∧ msq (fun k => x k) = (v : EReal) := by
  obtain ⟨e, he, hE⟩ := eps_eq
  refine ⟨(∑ k, x k * x k) * (1 / 1024) + e, ?_, ?_⟩
  · have : 0 ≤ ∑ k, x k * x k := Finset.sum_nonneg fun k _ => mul_self_nonneg _
    positivity
  · rw [msq, hE, wid_eq, coe_dot, coe_div _ _ (by norm_num), EReal.coe_add]

theorem inv_real (x : Fin 1024 → ℝ) : ∃ v : ℝ, 0 < v ∧ msq (fun k => x k) = (v : EReal) ∧ inv (fun k => x k) = (((Real.sqrt v)⁻¹ : ℝ) : EReal) := by
  obtain ⟨v, hv, h⟩ := msq_real x
  refine ⟨v, hv, h, ?_⟩
  rw [inv, h, Ideal.rsqrt_coe, if_neg (not_lt.2 hv.le), if_neg hv.ne']

/-- A row with an infinite entry is normalised to zeros. -/
theorem msq_top (x : Fin 1024 → EReal) (h : ∃ k, x k = ⊤ ∨ x k = ⊥) : msq x = ⊤ := by
  obtain ⟨k, hk⟩ := h
  have hn : ∀ k ∈ (Finset.univ : Finset (Fin 1024)), 0 ≤ x k * x k := fun k _ => by
    rcases le_total 0 (x k) with h | h
    · exact mul_nonneg h h
    · rw [← neg_mul_neg]; exact mul_nonneg (EReal.neg_nonneg.2 h) (EReal.neg_nonneg.2 h)
  have hs : ∑ k, x k * x k = ⊤ := top_le_iff.1 (by
    refine le_trans (le_of_eq ?_) (Finset.single_le_sum hn (Finset.mem_univ k))
    rcases hk with h | h <;> rw [h] <;> rfl)
  obtain ⟨e, he, hE⟩ := eps_eq
  rw [msq, hs, wid_eq, Ideal.div_coe (by norm_num), EReal.top_mul_coe_of_pos (by norm_num), hE]
  rfl

/-- A nonnegative real factor goes into a sum. -/
theorem sum_mul_coe {ι : Type} (s : Finset ι) (f : ι → EReal) (r : ℝ) (hr : 0 ≤ r) : ∑ k ∈ s, f k * (r : EReal) = (∑ k ∈ s, f k) * (r : EReal) := by
  classical
  induction s using Finset.induction_on with
  | empty => simp
  | insert a s h ih =>
    rw [Finset.sum_insert h, Finset.sum_insert h, ih, EReal.right_distrib_of_nonneg_of_ne_top (EReal.coe_nonneg.2 hr) (EReal.coe_ne_top r)]

theorem twice (a : EReal) : a + a = a * ((2 : ℝ) : EReal) := by
  have h := EReal.left_distrib_of_nonneg (a := 1) (b := 1) (c := a) zero_le_one zero_le_one
  rw [mul_one] at h
  rw [← h]
  exact congrArg (a * ·) ((EReal.coe_add 1 1).symm.trans (congrArg _ (by norm_num)))

/-- The two forms agree on every row. -/
theorem agree (x dh g : Fin 1024 → EReal) (res : EReal) (j : Fin 1024) :
    res + dh j * g j * inv x + x j * through x dh g + through x dh g * x j = back x dh g j + res := by
  by_cases hx : ∃ k, x k = ⊤ ∨ x k = ⊥
  · have hi : inv x = 0 := by rw [inv, msq_top x hx]; rfl
    have ht : through x dh g = 0 := by
      have h0 : Ideal.div (0 : EReal) ⊤ = 0 := by simp [Ideal.div]
      rw [through, hi, msq_top x hx, h0, mul_zero, mul_zero, wid_eq, Ideal.div_coe (by norm_num), zero_mul]
    rw [ht, back, hi, mul_zero, mul_zero, zero_mul, zero_mul, add_zero, add_zero, add_zero, zero_add]
  · have hr : ∀ k, ((x k).toReal : EReal) = x k := fun k => EReal.coe_toReal (fun h => hx ⟨k, .inl h⟩) (fun h => hx ⟨k, .inr h⟩)
    obtain ⟨v, hv, hm, hi⟩ := inv_real fun k => (x k).toReal
    simp only [hr] at hm hi
    have hs : 0 < Real.sqrt v := Real.sqrt_pos.2 hv
    have hv2 : v = Real.sqrt v * Real.sqrt v := (Real.mul_self_sqrt hv.le).symm
    generalize Real.sqrt v = s at hs hv2 hi
    have e : ∑ k, dh k * g k * unit x k = (∑ k, x k * (dh k * g k)) * ((s⁻¹ : ℝ) : EReal) := by
      rw [← sum_mul_coe _ _ _ (inv_pos.2 hs).le]
      refine Finset.sum_congr rfl fun k _ => ?_
      rw [unit, hi]; ac_rfl
    rw [back, e, through, hm, unit, hi, mhalf_eq, wid_eq, ← hr j]
    generalize (∑ k, x k * (dh k * g k)) = S
    generalize (x j).toReal = y
    generalize dh j * g j = E
    simp only [Ideal.div_coe (show (1024 : ℝ) ≠ 0 by norm_num), Ideal.div_coe hv.ne']
    rw [sub_eq_add_neg, EReal.left_distrib_of_nonneg_of_ne_top (EReal.coe_nonneg.2 (inv_pos.2 hs).le) (EReal.coe_ne_top _), mul_comm (y : EReal) (S * _ * _),
      add_assoc, twice, add_comm res, add_assoc, add_comm res, ← add_assoc]
    refine congrArg (· + res) (congrArg₂ (· + ·) (mul_comm _ _) ?_)
    rw [← neg_mul, ← EReal.coe_mul y, ← EReal.coe_neg]
    have e1 : S * (((-(1 / 2) : ℝ) : EReal) * (((s⁻¹ : ℝ) : EReal) * ((1 / v : ℝ) : EReal))) * ((1 / 1024 : ℝ) : EReal) * (y : EReal) * ((2 : ℝ) : EReal)
        = S * ((-(1 / 2) * (s⁻¹ * (1 / v)) * (1 / 1024) * y * 2 : ℝ) : EReal) := by
      simp only [EReal.coe_mul, mul_assoc]
    have e2 : ((s⁻¹ : ℝ) : EReal) * (((-(y * s⁻¹) : ℝ) : EReal) * (S * ((s⁻¹ : ℝ) : EReal) * ((1 / 1024 : ℝ) : EReal))) = S * ((s⁻¹ * -(y * s⁻¹) * s⁻¹ * (1 / 1024) : ℝ) : EReal) := by
      simp only [EReal.coe_mul]; ac_rfl
    rw [e1, e2]
    subst hv2
    refine congrArg (fun r : ℝ => S * (r : EReal)) ?_
    field_simp

/-! The results of a call: a cotangent `dh` of the scaled normalised rows `x`, the scale `g`, and what is added to the rows' cotangent. -/

/-- The rows' cotangent, entry by entry. -/
def dxE (x : M3 2 2048 1024) (g : M2 1 1024) (res : M3 2 2048 1024) (dh : Fin 4096 → Fin 1024 → EReal) (i : Fin 4096) (j : Fin 1024) : EReal :=
  back (tok x i) (dh i) (fun k => g (ix2 0 k)) j + tok res i j
/-- The first two results. -/
def dx (x : M3 2 2048 1024) (g : M2 1 1024) (res : M3 2 2048 1024) (dh : Fin 4096 → Fin 1024 → EReal) : M2 4096 1024 := fun y => dxE x g res dh (y 0) (y 1)
/-- The scale's cotangent. -/
def dg (x : M3 2 2048 1024) (dh : Fin 4096 → Fin 1024 → EReal) : M2 1 1024 := fun y => ∑ i : Fin 4096, dh i (y 1) * unit (tok x i) (y 1)

/-- The derivative's form of the rows' cotangent. -/
theorem dxE_eq (x : M3 2 2048 1024) (g : M2 1 1024) (res : M3 2 2048 1024) (dh : Fin 4096 → Fin 1024 → EReal) (i : Fin 4096) (j : Fin 1024) :
    tok res i j + dh i j * g (ix2 0 j) * inv (tok x i) + tok x i j * through (tok x i) (dh i) (fun k => g (ix2 0 k)) + through (tok x i) (dh i) (fun k => g (ix2 0 k)) * tok x i j
      = dxE x g res dh i j :=
  agree (tok x i) (dh i) (fun k => g (ix2 0 k)) (tok res i j) j

end Cert.NormSpec
end
-- ==== Proof.PleValue.lean ====
/- The per-layer gate's product and norm gradient: the kernel's three results. -/
module

public import proofs.«01_k».proof.Proof.Gen.PleIdeal.Value
public import proofs.«01_k».proof.Proof.NormSpec
public import Idealize.ShloMosaic.Lib.Pipeline.ReadBack

@[expose] public section

set_option maxRecDepth 16384

noncomputable section

namespace Cert.PleIdeal.Blocks

open Idealize.ShloMosaic Idealize.SL.Sem Cert.PleIdeal Cert.PleIdeal.Gen Cert.Common Cert.NormSpec
open scoped BigOperators

/-- The cotangent of the normalised rows: a product with the gate's weights. -/
def dh (w : M3 1 1024 1024) (d : M3 2 2048 1024) (i : Fin 4096) (j : Fin 1024) : EReal := ∑ k : Fin 1024, tok d i k * w (ix3 0 j k)

/-! The body's values over blocks. -/

theorem p4 (v0 : Vec Ideal S512x1024 .bf16) (v2 : Vec Ideal S1024x1024 .bf16) (r : Fin 512) (l : Fin 1024) :
    k0_pay4 v0 v2 (ix2 r l) = ∑ k : Fin 1024, v0 (ix2 r k) * v2 (ix2 l k) := by
  pointwise [k0_pay4]
theorem p6 (v7 : Vec Ideal S512x1024 .f32) (r : Fin 512) : k0_pay6 v7 (ix2 r 0) = inv (fun k => v7 (ix2 r k)) := by
  pointwise [k0_pay6, k0_pay5]; rfl
theorem p7 (v7 : Vec Ideal S512x1024 .f32) (r : Fin 512) (l : Fin 1024) : k0_pay7 v7 (ix2 r l) = unit (fun k => v7 (ix2 r k)) l := by
  rw [unit, ← p6]; pointwise [k0_pay7, k0_pay5]
theorem p8 (v0 : Vec Ideal S512x1024 .bf16) (v2 : Vec Ideal S1024x1024 .bf16) (v7 : Vec Ideal S512x1024 .f32) (l : Fin 1024) :
    k0_pay8 v0 v2 v7 (ix2 0 l) = ∑ r : Fin 512, k0_pay4 v0 v2 (ix2 r l) * unit (fun k => v7 (ix2 r k)) l := by
  pointwise [k0_pay8]; exact Finset.sum_congr rfl fun r _ => congrArg₂ (· * ·) rfl (p7 v7 r l)
theorem p9 (v0 : Vec Ideal S512x1024 .bf16) (v2 : Vec Ideal S1024x1024 .bf16) (v7 : Vec Ideal S512x1024 .f32) (v9 : Vec Ideal S1x1024 .f32) (v35 : Vec Ideal S512x1024 .f32) (r : Fin 512) (l : Fin 1024) :
    k0_pay9 v0 v2 v7 v9 v35 (ix2 r l) = back (fun k => v7 (ix2 r k)) (fun k => k0_pay4 v0 v2 (ix2 r k)) (fun k => v9 (ix2 0 k)) l + v35 (ix2 r l) := by
  have e : ∀ k, unit (fun k => v7 (ix2 r k)) k = k0_pay7 v7 (ix2 r k) := fun k => (p7 v7 r k).symm
  rw [back, ← p6]; simp only [e]
  pointwise [k0_pay9]

variable (m : (ℓ : Loc nD τ sig) → Buf (Elt Ideal) ℓ) (c : Dev nD)

/-- What each window reads at a point. -/
theorem idx (t : Fin cfg0.N) : win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] := by
  revert t; decide +kernel

/-! The arguments, at the argument buffers' own types. -/

abbrev X0 : M3 2 2048 1024 := m (c.tc.loc main_arg0)
abbrev X1 : M2 1 1024 := m (c.tc.loc main_arg1)
abbrev X2 : M3 1 1024 1024 := m (c.tc.loc main_arg2)
abbrev X3 : M3 2 2048 1024 := m (c.tc.loc main_arg3)
abbrev X4 : M3 2 2048 1024 := m (c.tc.loc main_arg4)

variable (t : Fin cfg0.N)

/-! The input blocks, entry by entry, in the arguments. -/

theorem ib0 (r : Fin 512) (k : Fin 1024) : (iblk m c 0 t : FVec Ideal S512x1024 .bf16) (ix2 r k) = tok (X3 m c) (row N_0 t r) k := by
  have h : (V m c main_v3 : FVec Ideal S4096x1024 .bf16) (ix2 (row N_0 t r) k) = tok (X3 m c) (row N_0 t r) k := by
    unfold V; after_reads_at; rfl
  rw [← h]; blk_ext [iblk, idx t]
theorem ib1 (r k : Fin 1024) : (iblk m c 1 t : FVec Ideal S1024x1024 .bf16) (ix2 r k) = X2 m c (ix3 0 r k) := by
  have h : (V m c main_v5 : FVec Ideal S1024x1024 .bf16) (ix2 r k) = X2 m c (ix3 0 r k) := by
    unfold V; after_reads_at
  rw [← h]; blk_ext [iblk, idx t]
theorem ib2 (r : Fin 512) (k : Fin 1024) : (iblk m c 2 t : FVec Ideal S512x1024 .f32) (ix2 r k) = tok (X0 m c) (row N_0 t r) k := by
  have h : (V m c main_v0 : FVec Ideal S4096x1024 .f32) (ix2 (row N_0 t r) k) = tok (X0 m c) (row N_0 t r) k := by
    unfold V; after_reads_at; rfl
  rw [← h]; blk_ext [iblk, idx t]
theorem ib3 (k : Fin 1024) : (iblk m c 3 t : FVec Ideal S1x1024 .f32) (ix2 0 k) = X1 m c (ix2 0 k) := by
  have h : (V m c main_arg1 : FVec Ideal S1x1024 .f32) (ix2 0 k) = X1 m c (ix2 0 k) := by
    unfold V; after_reads_at
  rw [← h]; blk_ext [iblk, idx t]
theorem ib4 (r : Fin 512) (k : Fin 1024) : (iblk m c 4 t : FVec Ideal S512x1024 .f32) (ix2 r k) = tok (X4 m c) (row N_0 t r) k := by
  have h : (V m c main_v2 : FVec Ideal S4096x1024 .f32) (ix2 (row N_0 t r) k) = tok (X4 m c) (row N_0 t r) k := by
    unfold V; after_reads_at; rfl
  rw [← h]; blk_ext [iblk, idx t]

/-- The cotangent of the normalised rows, in the arguments. -/
abbrev D : Fin 4096 → Fin 1024 → EReal := dh (X2 m c) (X3 m c)

theorem pdh (r : Fin 512) (l : Fin 1024) : k0_pay4 (iblk m c 0 t) (iblk m c 1 t) (ix2 r l) = D m c (row N_0 t r) l :=
  (p4 _ _ r l).trans (Finset.sum_congr rfl fun k _ => congrArg₂ (· * ·) (ib0 m c t r k) (ib1 m c t l k))

theorem pdx (r : Fin 512) (l : Fin 1024) : k0_pay9 (iblk m c 0 t) (iblk m c 1 t) (iblk m c 2 t) (iblk m c 3 t) (iblk m c 4 t) (ix2 r l)
    = dxE (X0 m c) (X1 m c) (X4 m c) (D m c) (row N_0 t r) l := by
  refine (p9 _ _ _ _ _ r l).trans (congrArg₂ (· + ·) ?_ (ib4 m c t r l))
  exact congr (congr (congr (congrArg back (funext fun k => ib2 m c t r k)) (funext fun k => pdh m c t r k)) (funext fun k => ib3 m c t k)) rfl

theorem pdg (l : Fin 1024) : k0_pay8 (iblk m c 0 t) (iblk m c 1 t) (iblk m c 2 t) (ix2 0 l)
    = ∑ r : Fin 512, D m c (row N_0 t r) l * unit (tok (X0 m c) (row N_0 t r)) l :=
  (p8 _ _ _ l).trans (Finset.sum_congr rfl fun r _ => congrArg₂ (· * ·) (pdh m c t r l) (congr (congrArg unit (funext fun k => ib2 m c t r k)) rfl))

/-! The three results. -/

theorem emb5 (r : Fin 512) (l : Fin 1024) : ((View.whole main_v6_0).slice (win0_5.rect t)).emb (ix2 r l) = ix2 (row N_0 t r) l := by blk_ext [idx t]
theorem emb6 (r : Fin 512) (l : Fin 1024) : ((View.whole main_v6_1).slice (win0_6.rect t)).emb (ix2 r l) = ix2 (row N_0 t r) l := by blk_ext [idx t]

theorem arr5 : (dats m 0 c).arrAt 5 cfg0.N = dx (X0 m c) (X1 m c) (X4 m c) (D m c) := by
  refine (dats m 0 c).arrAt_eq_of_covers 5 _ (by decide +kernel) fun t hf y => ?_
  blk_simp
  rw [after0_5]
  have e : ∀ y : S512x1024.Idx, k0_pay9 (iblk m c 0 t) (iblk m c 1 t) (iblk m c 2 t) (iblk m c 3 t) (iblk m c 4 t) y
      = dx (X0 m c) (X1 m c) (X4 m c) (D m c) (((View.whole main_v6_0).slice (win0_5.rect t)).emb y) := by
    intro y; idx_vars y; rw [pdx]; erw [emb5]; rfl
  by_cases h : t.val % 8 = 0
  · rw [outsAt0_A m c t h]; frame_out; exact e y
  · rw [outsAt0_B m c t h]; frame_out; exact e y

theorem arr6 : (dats m 0 c).arrAt 6 cfg0.N = dx (X0 m c) (X1 m c) (X4 m c) (D m c) := by
  refine (dats m 0 c).arrAt_eq_of_covers 6 _ (by decide +kernel) fun t hf y => ?_
  blk_simp
  rw [after0_6]
  have e : ∀ y : S512x1024.Idx, k0_pay1 (k0_pay9 (iblk m c 0 t) (iblk m c 1 t) (iblk m c 2 t) (iblk m c 3 t) (iblk m c 4 t)) y
      = dx (X0 m c) (X1 m c) (X4 m c) (D m c) (((View.whole main_v6_1).slice (win0_6.rect t)).emb y) := by
    intro y; idx_vars y; refine Eq.trans (b := k0_pay9 (iblk m c 0 t) (iblk m c 1 t) (iblk m c 2 t) (iblk m c 3 t) (iblk m c 4 t) (ix2 y0 y1)) (by pointwise [k0_pay1]) ?_
    rw [pdx]; erw [emb6]; rfl
  by_cases h : t.val % 8 = 0
  · rw [outsAt0_A m c t h]; frame_out; exact e y
  · rw [outsAt0_B m c t h]; frame_out; exact e y

/-- What a point adds to the scale's cotangent. -/
def term (t : Fin cfg0.N) (j : S1x1024.Idx) : EReal := ∑ r : Fin 512, D m c (row N_0 t r) (j 1) * unit (tok (X0 m c) (row N_0 t r)) (j 1)

theorem p3 (v34 : FVec Ideal S1x1024 .f32) (v44 : Vec Ideal S1x1024 .f32) (l : Fin 1024) : k0_pay3 v34 v44 (ix2 0 l) = v44 (ix2 0 l) + v34 (ix2 0 l) := by
  pointwise [k0_pay3]

theorem acc0 (h : t.val % 8 = 0) (j : S1x1024.Idx) : (outsAt0 m c t.val t.isLt).2.2 j = 0 + term m c t j := by
  rw [outsAt0_A m c t h]; frame_out
  idx_vars j
  obtain rfl : j0 = 0 := Subsingleton.elim _ _
  exact (p3 _ _ j1).trans (congrArg₂ (· + ·) (by pointwise [k0_pay2]) (pdg m c t j1))

theorem acc1 (h : ¬t.val % 8 = 0) (j : S1x1024.Idx) :
    (outsAt0 m c t.val t.isLt).2.2 j = (outsAt0 m c (t.val-1) (Nat.lt_of_le_of_lt (Nat.sub_le _ _) t.isLt)).2.2 j + term m c t j := by
  rw [outsAt0_B m c t h]; frame_out
  idx_vars j
  obtain rfl : j0 = 0 := Subsingleton.elim _ _
  exact (p3 _ _ j1).trans (congrArg₂ (· + ·) rfl (pdg m c t j1))

theorem arr7 : (dats m 0 c).arrAt 7 cfg0.N = dg (X0 m c) (D m c) := by
  refine (dats m 0 c).arrAt_eq_of_after_last 7 t0_7 (by decide +kernel) _ fun j => ?_
  blk_simp
  rw [after0_7]
  refine (Pipeline.eq_sum_fin_of_reset_step_apply_last (fun n h => (outsAt0 m c n h).2.2) 8 (fun _ => (0 : EReal)) (term m c) (acc0 m c) (acc1 m c) (le_of_eq N_0) t0_7 rfl j).trans ?_
  rw [zero_add]
  exact sum_rows N_0 (fun i => D m c i (j 1) * unit (tok (X0 m c) i) (j 1))

end Cert.PleIdeal.Blocks
end
-- ==== Proof.PleRefValue.lean ====
/- The per-layer gate's product and norm gradient: the derivative of the forward lines, as the functions of `NormSpec`. -/
module

public import proofs.«01_k».proof.Proof.Gen.PleRefIdeal.Read
public import proofs.«01_k».proof.Proof.PleValue

@[expose] public section

set_option maxRecDepth 16384

noncomputable section

namespace Cert.PleRefIdeal.Blocks

open Idealize.ShloMosaic Cert.PleRefIdeal Cert.PleRefIdeal.Read Cert.Common Cert.NormSpec Cert.PleIdeal.Blocks
open scoped BigOperators

variable (x0 : M3 2 2048 1024) (x1 : M2 1 1024) (x2 : M3 1 1024 1024) (x3 x4 : M3 2 2048 1024) (i : Fin 4096)

theorem r9 : val_main_v9 (F := Ideal) x0 (ix2 i 0) = msq (tok x0 i) := by
  pointwise [val_main_v9, val_main_v8, val_main_cst_1, val_main_v7, val_main_v6, val_main_cst_0, val_main_v5, val_main_v4, val_main_cst, val_main_v3, val_main_v0]; rfl
theorem r10 : val_main_v10 (F := Ideal) x0 (ix2 i 0) = inv (tok x0 i) := by
  show _ = Ideal.rsqrt (msq (tok x0 i)); rw [← r9]; pointwise [val_main_v10]
theorem r13 : val_main_v13 (F := Ideal) x0 (ix2 i 0) = mhalf * Ideal.div (inv (tok x0 i)) (msq (tok x0 i)) := by
  rw [← r9, ← r10]; pointwise [val_main_v13, val_main_v12, val_main_cst_2, val_main_v11]
theorem r15 (j : Fin 1024) : val_main_v15 (F := Ideal) x0 (ix2 i j) = unit (tok x0 i) j := by
  rw [unit, ← r10]; pointwise [val_main_v15, val_main_v14, val_main_v0]; rfl
theorem r22 (j : Fin 1024) : val_main_v22 (F := Ideal) x2 x3 (ix2 i j) = dh x2 x3 i j := by
  pointwise [val_main_v22, val_main_v20, val_main_v1]; rfl
theorem r27 (j : Fin 1024) : val_main_v27 (F := Ideal) x1 x2 x3 (ix2 i j) = dh x2 x3 i j * x1 (ix2 0 j) := by
  rw [← r22]; pointwise [val_main_v27, val_main_v26, val_main_v17, val_main_v16]
theorem r40 (j : Fin 1024) : val_main_v40 (F := Ideal) x0 x1 x2 x3 (ix2 i j) = through (tok x0 i) (dh x2 x3 i) (fun k => x1 (ix2 0 k)) := by
  have e : ∀ k, dh x2 x3 i k * x1 (ix2 0 k) = val_main_v27 (F := Ideal) x1 x2 x3 (ix2 i k) := fun k => (r27 x1 x2 x3 i k).symm
  rw [through, ← r13]; simp only [e]
  pointwise [val_main_v40, val_main_v39, val_main_v38, val_main_v37, val_main_cst_6, val_main_cst_7, val_main_v36, val_main_v32, val_main_v31, val_main_v30, val_main_v0, val_main_cst_5]
  simp only [Fin.sum_univ_one]; rfl

theorem r44 : val_main_v44 (F := Ideal) x0 x1 x2 x3 x4 = dx x0 x1 x4 (dh x2 x3) := by
  funext y; idx_vars y
  refine Eq.trans ?_ (dxE_eq x0 x1 x4 (dh x2 x3) y0 y1)
  rw [← r27, ← r10, ← r40 x0 x1 x2 x3 y0 y1]
  pointwise [val_main_v44, val_main_v43, val_main_v42, val_main_v41, val_main_v35, val_main_v34, val_main_v33, val_main_v2, val_main_v0]
  rfl

theorem r45 : val_main_v45 (F := Ideal) x0 x1 x2 x3 x4 = dx x0 x1 x4 (dh x2 x3) := by
  rw [← r44 x0 x1 x2 x3 x4]; rfl

theorem r29 : val_main_v29 (F := Ideal) x0 x2 x3 = dg x0 (dh x2 x3) := by
  funext y; idx_vars y
  pointwise [val_main_v29, val_main_v28, val_main_cst_4, val_main_v25, val_main_v24, val_main_cst_3, val_main_v23]
  simp only [Fin.sum_univ_one]
  refine Finset.sum_congr rfl fun k _ => ?_
  rw [mul_comm]
  exact congrArg₂ (· * ·) (r22 x2 x3 k y1) (r15 x0 k y1)

end Cert.PleRefIdeal.Blocks
end
-- ==== Proof.PleClaim.lean ====
/- The per-layer gate's product and norm gradient: the frames and the value claim. -/
module

public import proofs.«01_k».proof.Defs
public import proofs.«01_k».proof.Proof.Gen.Ple.Frame
public import proofs.«01_k».proof.Proof.Gen.PleRefIdeal
public import proofs.«01_k».proof.Proof.Gen.PleRefIdeal.Run
public import proofs.«01_k».proof.Proof.PleRefValue

@[expose] public section

noncomputable section

namespace Cert.Proof.Ple

open Idealize.ShloMosaic Idealize.SL.Sem Cert.Common Cert.NormSpec Cert.PleIdeal.Blocks Cert.PleRefIdeal.Blocks

theorem frameP : Cert.quiescent_Ple (hPle := Cert.Ple.Gen.facts) := fun m ρ _ => Cert.Ple.Gen.frame m ρ
theorem frameI : Cert.quiescent_PleIdeal (hPleIdeal := Cert.PleIdeal.Gen.facts) := fun m ρ _ => Cert.PleIdeal.Gen.frame m ρ
theorem frameR : Cert.quiescent_PleRefIdeal (hPleRefIdeal := Cert.PleRefIdeal.Gen.facts) := fun m ρ _ =>
  (θ_run Cert.PleRefIdeal.defs _ _).mono (fun r h => ⟨fun c => (h c).2.2.2, sem_eq_zero_of_no_sems (by decide) r.2⟩) (Cert.PleRefIdeal.Value.run (F := Ideal) m ρ)
theorem preserves : Cert.preserves_Ple_PleIdeal := trivial

theorem algebraic : Cert.algebraic_PleIdeal_PleRefIdeal (hPleIdeal := Cert.PleIdeal.Gen.facts) (hPleRefIdeal := Cert.PleRefIdeal.Gen.facts) := by
  intro m ρ m' ρ' _ hag
  refine ⟨fun c => dx (X0 m c) (X1 m c) (X4 m c) (D m c), fun c => dx (X0 m c) (X1 m c) (X4 m c) (D m c), fun c => dg (X0 m c) (D m c), ?_, ?_⟩
  · refine (θ_run _ _ _).mono (fun r h c => ?_) (Cert.PleIdeal.Value.run_blocks m ρ)
    obtain ⟨h0, h1, h2, hr⟩ := h c
    exact ⟨h0.trans (arr5 m c), h1.trans (arr6 m c), h2.trans (arr7 m c), hr⟩
  · refine (θ_run _ _ _).mono (fun r h c => ?_) (Cert.PleRefIdeal.Value.run m' ρ')
    obtain ⟨h0, h1, h2, hr⟩ := h c
    obtain ⟨a0, a1, a2, a3, a4⟩ := hag c
    have e0 : (m' ((c.tc : Thread Cert.PleRefIdeal.nD Cert.PleRefIdeal.τ).loc Cert.PleRefIdeal.main_arg0) : M3 2 2048 1024) = X0 m c := a0
    have e1 : (m' ((c.tc : Thread Cert.PleRefIdeal.nD Cert.PleRefIdeal.τ).loc Cert.PleRefIdeal.main_arg1) : M2 1 1024) = X1 m c := a1
    have e2 : (m' ((c.tc : Thread Cert.PleRefIdeal.nD Cert.PleRefIdeal.τ).loc Cert.PleRefIdeal.main_arg2) : M3 1 1024 1024) = X2 m c := a2
    have e3 : (m' ((c.tc : Thread Cert.PleRefIdeal.nD Cert.PleRefIdeal.τ).loc Cert.PleRefIdeal.main_arg3) : M3 2 2048 1024) = X3 m c := a3
    have e4 : (m' ((c.tc : Thread Cert.PleRefIdeal.nD Cert.PleRefIdeal.τ).loc Cert.PleRefIdeal.main_arg4) : M3 2 2048 1024) = X4 m c := a4
    refine ⟨h0.trans ?_, h1.trans ?_, h2.trans ?_, hr⟩
    · refine (Cert.PleRefIdeal.Read.val_main_v44_eq ..).trans ?_
      rw [e0, e1, e2, e3, e4]; exact r44 _ _ _ _ _
    · refine (Cert.PleRefIdeal.Read.val_main_v45_eq ..).trans ?_
      rw [e0, e1, e2, e3, e4]; exact r45 _ _ _ _ _
    · refine (Cert.PleRefIdeal.Read.val_main_v29_eq ..).trans ?_
      rw [e0, e2, e3]; exact r29 _ _ _

end Cert.Proof.Ple
end
-- ==== Proof.MlpValue.lean ====
/- The multilayer perceptron's first product and norm gradient: the kernel's three results. -/
module

public import proofs.«01_k».proof.Proof.Gen.MlpIdeal.Value
public import proofs.«01_k».proof.Proof.NormSpec
public import Idealize.ShloMosaic.Lib.Pipeline.ReadBack

@[expose] public section

set_option maxRecDepth 16384

noncomputable section

namespace Cert.MlpIdeal.Blocks

open Idealize.ShloMosaic Idealize.SL.Sem Cert.MlpIdeal Cert.MlpIdeal.Gen Cert.Common Cert.NormSpec
open scoped BigOperators

/-- The cotangent of the normalised rows: a product with the first layer's weights. -/
def dh (w : M3 1 1024 4096) (d : M3 2 2048 4096) (i : Fin 4096) (j : Fin 1024) : EReal := ∑ k : Fin 4096, tok d i k * w (ix3 0 j k)

theorem sum_quarters (f : Fin 4096 → EReal) :
    ∑ k : Fin 4096, f k = (∑ k : Fin 1024, f ⟨0 + k.val, by omega⟩) + (∑ k : Fin 1024, f ⟨1024 + k.val, by omega⟩) + (∑ k : Fin 1024, f ⟨2048 + k.val, by omega⟩)
      + ∑ k : Fin 1024, f ⟨3072 + k.val, by omega⟩ := by
  have h := Fin.sum_points_lanes_fin (N := 4) (n := 1024) (A := 1) (L := 4096) 4 (fun _ l => f l) rfl rfl
  rw [Fin.sum_univ_one] at h
  rw [← h, Fin.sum_univ_four]
  rfl

/-! The body's values over blocks. -/

/-- A block's product with the transpose of another. -/
def nt (v : Vec Ideal S512x1024 .bf16) (w : Vec Ideal S1x1024x1024 .bf16) (r : Fin 512) (l : Fin 1024) : EReal := ∑ k : Fin 1024, v (ix2 r k) * w (ix3 0 l k)

theorem p4 (v0 v7 v13 v19 : Vec Ideal S512x1024 .bf16) (v2 v9 v15 v21 : Vec Ideal S1x1024x1024 .bf16) (r : Fin 512) (l : Fin 1024) :
    k0_pay7 v0 v2 v7 v9 v13 v15 v19 v21 (ix2 r l) = nt v0 v2 r l + nt v7 v9 r l + nt v13 v15 r l + nt v19 v21 r l := by
  pointwise [k0_pay7]; rfl
theorem p6 (v7 : Vec Ideal S512x1024 .f32) (r : Fin 512) : k0_pay1 (k0_pay9 v7) (ix2 r 0) = inv (fun k => v7 (ix2 r k)) := by
  pointwise [k0_pay1, k0_pay9, k0_pay8]; rfl
theorem p7 (v7 : Vec Ideal S512x1024 .f32) (r : Fin 512) (l : Fin 1024) : k0_pay2 (k0_pay8 v7) (k0_pay9 v7) (ix2 r l) = unit (fun k => v7 (ix2 r k)) l := by
  rw [unit, ← p6]; pointwise [k0_pay2, k0_pay8]
theorem p8 (v24 : FVec Ideal S512x1024 .f32) (v7 : Vec Ideal S512x1024 .f32) (v44 : Vec Ideal S1x1024 .f32) (l : Fin 1024) :
    k0_pay6 v24 (k0_pay8 v7) (k0_pay9 v7) v44 (ix2 0 l) = v44 (ix2 0 l) + ∑ r : Fin 512, v24 (ix2 r l) * unit (fun k => v7 (ix2 r k)) l := by
  pointwise [k0_pay6]; exact congrArg _ (Finset.sum_congr rfl fun r _ => congrArg₂ (· * ·) rfl (p7 v7 r l))
theorem p9 (v24 : FVec Ideal S512x1024 .f32) (v7 : Vec Ideal S512x1024 .f32) (v9 : Vec Ideal S1x1024 .f32) (v35 : Vec Ideal S512x1024 .f32) (r : Fin 512) (l : Fin 1024) :
    k0_pay3 v24 (k0_pay8 v7) v9 (k0_pay9 v7) v35 (ix2 r l) = back (fun k => v7 (ix2 r k)) (fun k => v24 (ix2 r k)) (fun k => v9 (ix2 0 k)) l + v35 (ix2 r l) := by
  have e : ∀ k, unit (fun k => v7 (ix2 r k)) k = k0_pay2 (k0_pay8 v7) (k0_pay9 v7) (ix2 r k) := fun k => (p7 v7 r k).symm
  rw [back, ← p6]; simp only [e]
  pointwise [k0_pay3]

variable (m : (ℓ : Loc nD τ sig) → Buf (Elt Ideal) ℓ) (c : Dev nD)

/-- What each window reads at a point. -/
theorem idx (t : Fin cfg0.N) : win0_0.index t = ![t.val, 0]
    ∧ win0_1.index t = ![0, 0, 0]
    ∧ win0_2.index t = ![t.val, 1]
    ∧ win0_3.index t = ![1, 0, 0]
    ∧ win0_4.index t = ![t.val, 2]
    ∧ win0_5.index t = ![2, 0, 0]
    ∧ win0_6.index t = ![t.val, 3]
    ∧ win0_7.index t = ![3, 0, 0]
    ∧ win0_8.index t = ![t.val, 0]
    ∧ win0_9.index t = ![0, 0]
    ∧ win0_10.index t = ![t.val, 0]
    ∧ win0_11.index t = ![t.val, 0]
    ∧ win0_12.index t = ![t.val, 0]
    ∧ win0_13.index t = ![0, 0] := by
  revert t; decide +kernel

/-! The arguments, at the argument buffers' own types. -/

abbrev X0 : M3 2 2048 1024 := m (c.tc.loc main_arg0)
abbrev X1 : M2 1 1024 := m (c.tc.loc main_arg1)
abbrev X2 : M3 1 1024 4096 := m (c.tc.loc main_arg2)
abbrev X3 : M3 2 2048 4096 := m (c.tc.loc main_arg3)
abbrev X4 : M3 2 2048 1024 := m (c.tc.loc main_arg4)

variable (t : Fin cfg0.N)

/-! The input blocks, entry by entry, in the arguments. -/

/-- A block of the cotangent, at its columns. -/
theorem hA (i k : Fin 4096) : (V m c main_v3 : FVec Ideal S4096x4096 .bf16) (ix2 i k) = tok (X3 m c) i k := by
  unfold V; after_reads_at; rfl
theorem hB (q : Fin 4) (r k : Fin 1024) : (V m c main_v7 : FVec Ideal S4x1024x1024 .bf16) (ix3 q r k) = X2 m c (ix3 0 r ⟨1024 * q.val + k.val, by omega⟩) := by
  unfold V; after_reads_at
  exact congrArg (X2 m c) (by idx_ext)
theorem ibA0 (r : Fin 512) (k : Fin 1024) : (iblk m c 0 t : FVec Ideal S512x1024 .bf16) (ix2 r k) = tok (X3 m c) (row N_0 t r) ⟨0 + k.val, by omega⟩ := by
  rw [← hA]; blk_ext [iblk, idx t]
theorem ibB0 (r k : Fin 1024) : (iblk m c 1 t : FVec Ideal S1x1024x1024 .bf16) (ix3 0 r k) = X2 m c (ix3 0 r ⟨0 + k.val, by omega⟩) := by
  refine Eq.trans ?_ (hB m c 0 r k); blk_ext [iblk, idx t]
theorem ibA1 (r : Fin 512) (k : Fin 1024) : (iblk m c 2 t : FVec Ideal S512x1024 .bf16) (ix2 r k) = tok (X3 m c) (row N_0 t r) ⟨1024 + k.val, by omega⟩ := by
  rw [← hA]; blk_ext [iblk, idx t]
theorem ibB1 (r k : Fin 1024) : (iblk m c 3 t : FVec Ideal S1x1024x1024 .bf16) (ix3 0 r k) = X2 m c (ix3 0 r ⟨1024 + k.val, by omega⟩) := by
  refine Eq.trans ?_ (hB m c 1 r k); blk_ext [iblk, idx t]
theorem ibA2 (r : Fin 512) (k : Fin 1024) : (iblk m c 4 t : FVec Ideal S512x1024 .bf16) (ix2 r k) = tok (X3 m c) (row N_0 t r) ⟨2048 + k.val, by omega⟩ := by
  rw [← hA]; blk_ext [iblk, idx t]
theorem ibB2 (r k : Fin 1024) : (iblk m c 5 t : FVec Ideal S1x1024x1024 .bf16) (ix3 0 r k) = X2 m c (ix3 0 r ⟨2048 + k.val, by omega⟩) := by
  refine Eq.trans ?_ (hB m c 2 r k); blk_ext [iblk, idx t]
theorem ibA3 (r : Fin 512) (k : Fin 1024) : (iblk m c 6 t : FVec Ideal S512x1024 .bf16) (ix2 r k) = tok (X3 m c) (row N_0 t r) ⟨3072 + k.val, by omega⟩ := by
  rw [← hA]; blk_ext [iblk, idx t]
theorem ibB3 (r k : Fin 1024) : (iblk m c 7 t : FVec Ideal S1x1024x1024 .bf16) (ix3 0 r k) = X2 m c (ix3 0 r ⟨3072 + k.val, by omega⟩) := by
  refine Eq.trans ?_ (hB m c 3 r k); blk_ext [iblk, idx t]
theorem ib2 (r : Fin 512) (k : Fin 1024) : (iblk m c 8 t : FVec Ideal S512x1024 .f32) (ix2 r k) = tok (X0 m c) (row N_0 t r) k := by
  have h : (V m c main_v0 : FVec Ideal S4096x1024 .f32) (ix2 (row N_0 t r) k) = tok (X0 m c) (row N_0 t r) k := by
    unfold V; after_reads_at; rfl
  rw [← h]; blk_ext [iblk, idx t]
theorem ib4 (r : Fin 512) (k : Fin 1024) : (iblk m c 10 t : FVec Ideal S512x1024 .f32) (ix2 r k) = tok (X4 m c) (row N_0 t r) k := by
  have h : (V m c main_v2 : FVec Ideal S4096x1024 .f32) (ix2 (row N_0 t r) k) = tok (X4 m c) (row N_0 t r) k := by
    unfold V; after_reads_at; rfl
  rw [← h]; blk_ext [iblk, idx t]
theorem ib3 (k : Fin 1024) : (iblk m c 9 t : FVec Ideal S1x1024 .f32) (ix2 0 k) = X1 m c (ix2 0 k) := by
  have h : (V m c main_arg1 : FVec Ideal S1x1024 .f32) (ix2 0 k) = X1 m c (ix2 0 k) := by
    unfold V; after_reads_at
  rw [← h]; blk_ext [iblk, idx t]

/-- The cotangent of the normalised rows, in the arguments. -/
abbrev D : Fin 4096 → Fin 1024 → EReal := dh (X2 m c) (X3 m c)

/-- The four products' sum at a point. -/
abbrev prod : FVec Ideal S512x1024 .f32 := k0_pay7 (iblk m c 0 t) (iblk m c 1 t) (iblk m c 2 t) (iblk m c 3 t) (iblk m c 4 t) (iblk m c 5 t) (iblk m c 6 t) (iblk m c 7 t)

theorem pdh (r : Fin 512) (l : Fin 1024) : prod m c t (ix2 r l) = D m c (row N_0 t r) l := by
  refine (p4 _ _ _ _ _ _ _ _ r l).trans (Eq.trans ?_ (sum_quarters _).symm)
  exact congrArg₂ (· + ·) (congrArg₂ (· + ·) (congrArg₂ (· + ·)
    (Finset.sum_congr rfl fun k _ => congrArg₂ (· * ·) (ibA0 m c t r k) (ibB0 m c t l k))
    (Finset.sum_congr rfl fun k _ => congrArg₂ (· * ·) (ibA1 m c t r k) (ibB1 m c t l k)))
    (Finset.sum_congr rfl fun k _ => congrArg₂ (· * ·) (ibA2 m c t r k) (ibB2 m c t l k)))
    (Finset.sum_congr rfl fun k _ => congrArg₂ (· * ·) (ibA3 m c t r k) (ibB3 m c t l k))

/-- The input's gradient at a point, as the body computes it. -/
abbrev out : FVec Ideal S512x1024 .f32 := k0_pay3 (prod m c t) (k0_pay8 (iblk m c 8 t)) (iblk m c 9 t) (k0_pay9 (iblk m c 8 t)) (iblk m c 10 t)

theorem pdx (r : Fin 512) (l : Fin 1024) : out m c t (ix2 r l) = dxE (X0 m c) (X1 m c) (X4 m c) (D m c) (row N_0 t r) l := by
  refine (p9 _ _ _ _ r l).trans (congrArg₂ (· + ·) ?_ (ib4 m c t r l))
  exact congr (congr (congr (congrArg back (funext fun k => ib2 m c t r k)) (funext fun k => pdh m c t r k)) (funext fun k => ib3 m c t k)) rfl

theorem pdg (v44 : Vec Ideal S1x1024 .f32) (l : Fin 1024) : k0_pay6 (prod m c t) (k0_pay8 (iblk m c 8 t)) (k0_pay9 (iblk m c 8 t)) v44 (ix2 0 l)
    = v44 (ix2 0 l) + ∑ r : Fin 512, D m c (row N_0 t r) l * unit (tok (X0 m c) (row N_0 t r)) l :=
  (p8 _ _ _ l).trans (congrArg _ (Finset.sum_congr rfl fun r _ => congrArg₂ (· * ·) (pdh m c t r l) (congr (congrArg unit (funext fun k => ib2 m c t r k)) rfl)))

/-! The three results. -/

theorem emb11 (r : Fin 512) (l : Fin 1024) : ((View.whole main_v8_0).slice (win0_11.rect t)).emb (ix2 r l) = ix2 (row N_0 t r) l := by blk_ext [idx t]
theorem emb12 (r : Fin 512) (l : Fin 1024) : ((View.whole main_v8_1).slice (win0_12.rect t)).emb (ix2 r l) = ix2 (row N_0 t r) l := by blk_ext [idx t]

theorem arr11 : (dats m 0 c).arrAt 11 cfg0.N = dx (X0 m c) (X1 m c) (X4 m c) (D m c) := by
  refine (dats m 0 c).arrAt_eq_of_covers 11 _ (by decide +kernel) fun t hf y => ?_
  blk_simp
  rw [after0_11]
  have e : ∀ y : S512x1024.Idx, out m c t y
      = dx (X0 m c) (X1 m c) (X4 m c) (D m c) (((View.whole main_v8_0).slice (win0_11.rect t)).emb y) := by
    intro y; idx_vars y; rw [pdx]; erw [emb11]; rfl
  by_cases h : t.val % 8 = 0
  · rw [outsAt0_A m c t h]; frame_out; exact e y
  · rw [outsAt0_B m c t h]; frame_out; exact e y

theorem arr12 : (dats m 0 c).arrAt 12 cfg0.N = dx (X0 m c) (X1 m c) (X4 m c) (D m c) := by
  refine (dats m 0 c).arrAt_eq_of_covers 12 _ (by decide +kernel) fun t hf y => ?_
  blk_simp
  rw [after0_12]
  have e : ∀ y : S512x1024.Idx, k0_pay4 (prod m c t) (k0_pay8 (iblk m c 8 t)) (iblk m c 9 t) (k0_pay9 (iblk m c 8 t)) (iblk m c 10 t) y
      = dx (X0 m c) (X1 m c) (X4 m c) (D m c) (((View.whole main_v8_1).slice (win0_12.rect t)).emb y) := by
    intro y; idx_vars y; refine Eq.trans (b := out m c t (ix2 y0 y1)) (by pointwise [k0_pay4]) ?_
    rw [pdx]; erw [emb12]; rfl
  by_cases h : t.val % 8 = 0
  · rw [outsAt0_A m c t h]; frame_out; exact e y
  · rw [outsAt0_B m c t h]; frame_out; exact e y

/-- What a point adds to the scale's cotangent. -/
def term (t : Fin cfg0.N) (j : S1x1024.Idx) : EReal := ∑ r : Fin 512, D m c (row N_0 t r) (j 1) * unit (tok (X0 m c) (row N_0 t r)) (j 1)

theorem acc0 (h : t.val % 8 = 0) (j : S1x1024.Idx) : (outsAt0 m c t.val t.isLt).2.2 j = 0 + term m c t j := by
  rw [outsAt0_A m c t h]; frame_out
  idx_vars j
  obtain rfl : j0 = 0 := Subsingleton.elim _ _
  exact (pdg m c t _ j1).trans (congrArg₂ (· + ·) (by pointwise [k0_pay5]) rfl)

theorem acc1 (h : ¬t.val % 8 = 0) (j : S1x1024.Idx) :
    (outsAt0 m c t.val t.isLt).2.2 j = (outsAt0 m c (t.val-1) (Nat.lt_of_le_of_lt (Nat.sub_le _ _) t.isLt)).2.2 j + term m c t j := by
  rw [outsAt0_B m c t h]; frame_out
  idx_vars j
  obtain rfl : j0 = 0 := Subsingleton.elim _ _
  exact pdg m c t _ j1

theorem arr13 : (dats m 0 c).arrAt 13 cfg0.N = dg (X0 m c) (D m c) := by
  refine (dats m 0 c).arrAt_eq_of_after_last 13 t0_7 (by decide +kernel) _ fun j => ?_
  blk_simp
  rw [after0_13]
  refine (Pipeline.eq_sum_fin_of_reset_step_apply_last (fun n h => (outsAt0 m c n h).2.2) 8 (fun _ => (0 : EReal)) (term m c) (acc0 m c) (acc1 m c) (le_of_eq N_0) t0_7 rfl j).trans ?_
  rw [zero_add]
  exact sum_rows N_0 (fun i => D m c i (j 1) * unit (tok (X0 m c) i) (j 1))

end Cert.MlpIdeal.Blocks
end
-- ==== Proof.MlpRefValue.lean ====
/- The multilayer perceptron's first product and norm gradient: the derivative of the forward lines, as the functions of `NormSpec`. -/
module

public import proofs.«01_k».proof.Proof.Gen.MlpRefIdeal.Read
public import proofs.«01_k».proof.Proof.MlpValue

@[expose] public section

set_option maxRecDepth 16384

noncomputable section

namespace Cert.MlpRefIdeal.Blocks

open Idealize.ShloMosaic Cert.MlpRefIdeal Cert.MlpRefIdeal.Read Cert.Common Cert.NormSpec Cert.MlpIdeal.Blocks
open scoped BigOperators

variable (x0 : M3 2 2048 1024) (x1 : M2 1 1024) (x2 : M3 1 1024 4096) (x3 : M3 2 2048 4096) (x4 : M3 2 2048 1024) (i : Fin 4096)

theorem r9 : val_main_v9 (F := Ideal) x0 (ix2 i 0) = msq (tok x0 i) := by
  pointwise [val_main_v9, val_main_v8, val_main_cst_1, val_main_v7, val_main_v6, val_main_cst_0, val_main_v5, val_main_v4, val_main_cst, val_main_v3, val_main_v0]; rfl
theorem r10 : val_main_v10 (F := Ideal) x0 (ix2 i 0) = inv (tok x0 i) := by
  show _ = Ideal.rsqrt (msq (tok x0 i)); rw [← r9]; pointwise [val_main_v10]
theorem r13 : val_main_v13 (F := Ideal) x0 (ix2 i 0) = mhalf * Ideal.div (inv (tok x0 i)) (msq (tok x0 i)) := by
  rw [← r9, ← r10]; pointwise [val_main_v13, val_main_v12, val_main_cst_2, val_main_v11]
theorem r15 (j : Fin 1024) : val_main_v15 (F := Ideal) x0 (ix2 i j) = unit (tok x0 i) j := by
  rw [unit, ← r10]; pointwise [val_main_v15, val_main_v14, val_main_v0]; rfl
theorem r22 (j : Fin 1024) : val_main_v22 (F := Ideal) x2 x3 (ix2 i j) = dh x2 x3 i j := by
  pointwise [val_main_v22, val_main_v20, val_main_v1]; rfl
theorem r27 (j : Fin 1024) : val_main_v27 (F := Ideal) x1 x2 x3 (ix2 i j) = dh x2 x3 i j * x1 (ix2 0 j) := by
  rw [← r22]; pointwise [val_main_v27, val_main_v26, val_main_v17, val_main_v16]
theorem r40 (j : Fin 1024) : val_main_v40 (F := Ideal) x0 x1 x2 x3 (ix2 i j) = through (tok x0 i) (dh x2 x3 i) (fun k => x1 (ix2 0 k)) := by
  have e : ∀ k, dh x2 x3 i k * x1 (ix2 0 k) = val_main_v27 (F := Ideal) x1 x2 x3 (ix2 i k) := fun k => (r27 x1 x2 x3 i k).symm
  rw [through, ← r13]; simp only [e]
  pointwise [val_main_v40, val_main_v39, val_main_v38, val_main_v37, val_main_cst_6, val_main_cst_7, val_main_v36, val_main_v32, val_main_v31, val_main_v30, val_main_v0, val_main_cst_5]
  simp only [Fin.sum_univ_one]; rfl

theorem r44 : val_main_v44 (F := Ideal) x0 x1 x2 x3 x4 = dx x0 x1 x4 (dh x2 x3) := by
  funext y; idx_vars y
  refine Eq.trans ?_ (dxE_eq x0 x1 x4 (dh x2 x3) y0 y1)
  rw [← r27, ← r10, ← r40 x0 x1 x2 x3 y0 y1]
  pointwise [val_main_v44, val_main_v43, val_main_v42, val_main_v41, val_main_v35, val_main_v34, val_main_v33, val_main_v2, val_main_v0]
  rfl

theorem r45 : val_main_v45 (F := Ideal) x0 x1 x2 x3 x4 = dx x0 x1 x4 (dh x2 x3) := by
  rw [← r44 x0 x1 x2 x3 x4]; rfl

theorem r29 : val_main_v29 (F := Ideal) x0 x2 x3 = dg x0 (dh x2 x3) := by
  funext y; idx_vars y
  pointwise [val_main_v29, val_main_v28, val_main_cst_4, val_main_v25, val_main_v24, val_main_cst_3, val_main_v23]
  simp only [Fin.sum_univ_one]
  refine Finset.sum_congr rfl fun k _ => ?_
  rw [mul_comm]
  exact congrArg₂ (· * ·) (r22 x2 x3 k y1) (r15 x0 k y1)

end Cert.MlpRefIdeal.Blocks
end
-- ==== Proof.MlpClaim.lean ====
/- The multilayer perceptron's first product and norm gradient: the frames and the value claim. -/
module

public import proofs.«01_k».proof.Defs
public import proofs.«01_k».proof.Proof.Gen.Mlp.Frame
public import proofs.«01_k».proof.Proof.Gen.MlpRefIdeal
public import proofs.«01_k».proof.Proof.Gen.MlpRefIdeal.Run
public import proofs.«01_k».proof.Proof.MlpRefValue

@[expose] public section

noncomputable section

namespace Cert.Proof.Mlp

open Idealize.ShloMosaic Idealize.SL.Sem Cert.Common Cert.NormSpec Cert.MlpIdeal.Blocks Cert.MlpRefIdeal.Blocks

theorem frameP : Cert.quiescent_Mlp (hMlp := Cert.Mlp.Gen.facts) := fun m ρ _ => Cert.Mlp.Gen.frame m ρ
theorem frameI : Cert.quiescent_MlpIdeal (hMlpIdeal := Cert.MlpIdeal.Gen.facts) := fun m ρ _ => Cert.MlpIdeal.Gen.frame m ρ
theorem frameR : Cert.quiescent_MlpRefIdeal (hMlpRefIdeal := Cert.MlpRefIdeal.Gen.facts) := fun m ρ _ =>
  (θ_run Cert.MlpRefIdeal.defs _ _).mono (fun r h => ⟨fun c => (h c).2.2.2, sem_eq_zero_of_no_sems (by decide) r.2⟩) (Cert.MlpRefIdeal.Value.run (F := Ideal) m ρ)
theorem preserves : Cert.preserves_Mlp_MlpIdeal := trivial

theorem algebraic : Cert.algebraic_MlpIdeal_MlpRefIdeal (hMlpIdeal := Cert.MlpIdeal.Gen.facts) (hMlpRefIdeal := Cert.MlpRefIdeal.Gen.facts) := by
  intro m ρ m' ρ' _ hag
  refine ⟨fun c => dx (X0 m c) (X1 m c) (X4 m c) (D m c), fun c => dx (X0 m c) (X1 m c) (X4 m c) (D m c), fun c => dg (X0 m c) (D m c), ?_, ?_⟩
  · refine (θ_run _ _ _).mono (fun r h c => ?_) (Cert.MlpIdeal.Value.run_blocks m ρ)
    obtain ⟨h0, h1, h2, hr⟩ := h c
    exact ⟨h0.trans (arr11 m c), h1.trans (arr12 m c), h2.trans (arr13 m c), hr⟩
  · refine (θ_run _ _ _).mono (fun r h c => ?_) (Cert.MlpRefIdeal.Value.run m' ρ')
    obtain ⟨h0, h1, h2, hr⟩ := h c
    obtain ⟨a0, a1, a2, a3, a4⟩ := hag c
    have e0 : (m' ((c.tc : Thread Cert.MlpRefIdeal.nD Cert.MlpRefIdeal.τ).loc Cert.MlpRefIdeal.main_arg0) : M3 2 2048 1024) = X0 m c := a0
    have e1 : (m' ((c.tc : Thread Cert.MlpRefIdeal.nD Cert.MlpRefIdeal.τ).loc Cert.MlpRefIdeal.main_arg1) : M2 1 1024) = X1 m c := a1
    have e2 : (m' ((c.tc : Thread Cert.MlpRefIdeal.nD Cert.MlpRefIdeal.τ).loc Cert.MlpRefIdeal.main_arg2) : M3 1 1024 4096) = X2 m c := a2
    have e3 : (m' ((c.tc : Thread Cert.MlpRefIdeal.nD Cert.MlpRefIdeal.τ).loc Cert.MlpRefIdeal.main_arg3) : M3 2 2048 4096) = X3 m c := a3
    have e4 : (m' ((c.tc : Thread Cert.MlpRefIdeal.nD Cert.MlpRefIdeal.τ).loc Cert.MlpRefIdeal.main_arg4) : M3 2 2048 1024) = X4 m c := a4
    refine ⟨h0.trans ?_, h1.trans ?_, h2.trans ?_, hr⟩
    · refine (Cert.MlpRefIdeal.Read.val_main_v44_eq ..).trans ?_
      rw [e0, e1, e2, e3, e4]; exact r44 _ _ _ _ _
    · refine (Cert.MlpRefIdeal.Read.val_main_v45_eq ..).trans ?_
      rw [e0, e1, e2, e3, e4]; exact r45 _ _ _ _ _
    · refine (Cert.MlpRefIdeal.Read.val_main_v29_eq ..).trans ?_
      rw [e0, e2, e3]; exact r29 _ _ _

end Cert.Proof.Mlp
end
-- ==== Proof.ActValue.lean ====
/- The gradient through the squared rectifier: the kernel's result and the reference's. -/
module

public import proofs.«01_k».proof.Proof.Gen.ActIdeal.Value
public import proofs.«01_k».proof.Proof.Gen.ActRefIdeal.Read
public import proofs.«01_k».proof.Proof.Common
public import Idealize.ShloMosaic.Lib.Pipeline.ReadBack

@[expose] public section

set_option maxRecDepth 16384

noncomputable section

namespace Cert.ActIdeal.Blocks

open Idealize.ShloMosaic Idealize.SL.Sem Cert.ActIdeal Cert.ActIdeal.Gen Cert.Common
open scoped BigOperators

/-- The literal of the square's derivative. -/
def two : EReal := Ideal.ofBits .f32 0x40000000#32

/-- The hidden layer before its activation. -/
def pre (h : M3 2 2048 1024) (w : M3 1 1024 4096) (i j : Fin 4096) : EReal := ∑ k : Fin 1024, tok h i k * w (ix3 0 k j)
/-- The gradient of the activation. -/
def da (w : M3 1 4096 1024) (d : M3 2 2048 1024) (i j : Fin 4096) : EReal := ∑ k : Fin 1024, tok d i k * w (ix3 0 j k)
def gradE (h : M3 2 2048 1024) (wu : M3 1 1024 4096) (wd : M3 1 4096 1024) (d : M3 2 2048 1024) (i j : Fin 4096) : EReal :=
  da wd d i j * (two * max (pre h wu i j) 0)
/-- The gradient of the hidden layer. -/
def grad (h : M3 2 2048 1024) (wu : M3 1 1024 4096) (wd : M3 1 4096 1024) (d : M3 2 2048 1024) : M2 4096 4096 := fun y => gradE h wu wd d (y 0) (y 1)

theorem p1 (v0 v2 v5 : Vec Ideal S1024x1024 .bf16) (r l : Fin 1024) :
    (k0_pay1 v0 v2 v5 : FVec Ideal S1024x1024 .bf16) (ix2 r l) = ((∑ k : Fin 1024, v0 (ix2 r k) * v2 (ix2 l k) : EReal) * (two * v5 (ix2 r l)) : EReal) := by
  pointwise [k0_pay1]; rfl

variable (m : (ℓ : Loc nD τ sig) → Buf (Elt Ideal) ℓ) (c : Dev nD)

/-- What each window reads at a point. -/
theorem idx (t : Fin cfg0.N) : win0_0.index t = ![t.val / 4, 0] ∧ win0_1.index t = ![t.val % 4, 0] ∧ win0_2.index t = ![t.val / 4, t.val % 4]
    ∧ win0_3.index t = ![t.val / 4, t.val % 4] := by
  revert t; decide +kernel

abbrev X0 : M3 2 2048 1024 := m (c.tc.loc main_arg0)
abbrev X1 : M3 1 1024 4096 := m (c.tc.loc main_arg1)
abbrev X2 : M3 1 4096 1024 := m (c.tc.loc main_arg2)
abbrev X3 : M3 2 2048 1024 := m (c.tc.loc main_arg3)

variable (t : Fin cfg0.N)

theorem lt16 : t.val < 16 := lt_of_lt_of_eq t.isLt N_0
/-- The row and the column of the whole array at an entry of a point's block. -/
def gr (r : Fin 1024) : Fin 4096 := ⟨t.val / 4 * 1024 + r.val, by have := lt16 t; omega⟩
def gc (r : Fin 1024) : Fin 4096 := ⟨t.val % 4 * 1024 + r.val, by omega⟩

theorem ib0 (r k : Fin 1024) : (iblk m c 0 t : FVec Ideal S1024x1024 .bf16) (ix2 r k) = tok (X3 m c) (gr t r) k := by
  have h : (V m c main_v6 : FVec Ideal S4096x1024 .bf16) (ix2 (gr t r) k) = tok (X3 m c) (gr t r) k := by
    unfold V; after_reads_at; rfl
  rw [← h]; blk_ext [iblk, idx t, gr]
theorem ib1 (r k : Fin 1024) : (iblk m c 1 t : FVec Ideal S1024x1024 .bf16) (ix2 r k) = X2 m c (ix3 0 (gc t r) k) := by
  have h : (V m c main_v8 : FVec Ideal S4096x1024 .bf16) (ix2 (gc t r) k) = X2 m c (ix3 0 (gc t r) k) := by
    unfold V; after_reads_at
  rw [← h]; blk_ext [iblk, idx t, gc]
theorem ib2 (r k : Fin 1024) : (iblk m c 2 t : FVec Ideal S1024x1024 .bf16) (ix2 r k) = max (pre (X0 m c) (X1 m c) (gr t r) (gc t k)) 0 := by
  have h : (V m c main_v9 : FVec Ideal S4096x4096 .bf16) (ix2 (gr t r) (gc t k)) = max (pre (X0 m c) (X1 m c) (gr t r) (gc t k)) 0 := by
    unfold V; after_reads_at; rfl
  rw [← h]; blk_ext [iblk, idx t, gr, gc]

theorem pout (r l : Fin 1024) : (k0_pay1 (iblk m c 0 t) (iblk m c 1 t) (iblk m c 2 t) : FVec Ideal S1024x1024 .bf16) (ix2 r l) = gradE (X0 m c) (X1 m c) (X2 m c) (X3 m c) (gr t r) (gc t l) := by
  refine (p1 _ _ _ r l).trans (congrArg₂ (fun a b : EReal => a * b) (Finset.sum_congr rfl fun k _ => congrArg₂ (fun a b : EReal => a * b) (ib0 m c t r k) (ib1 m c t l k)) (congrArg (fun a : EReal => two * a) (ib2 m c t r l)))

theorem emb3 (r l : Fin 1024) : ((View.whole main_v10).slice (win0_3.rect t)).emb (ix2 r l) = ix2 (gr t r) (gc t l) := by blk_ext [idx t, gr, gc]

theorem arr3 : (dats m 0 c).arrAt 3 cfg0.N = grad (X0 m c) (X1 m c) (X2 m c) (X3 m c) := by
  refine (dats m 0 c).arrAt_eq_of_covers 3 _ (by decide +kernel) fun t hf y => ?_
  blk_simp
  rw [after0_3]
  have e : ∀ y : S1024x1024.Idx, k0_pay1 (iblk m c 0 t) (iblk m c 1 t) (iblk m c 2 t) y
      = grad (X0 m c) (X1 m c) (X2 m c) (X3 m c) (((View.whole main_v10).slice (win0_3.rect t)).emb y) := by
    intro y; idx_vars y; refine (pout m c t y0 y1).trans ?_; erw [emb3]; rfl
  frame_out; exact e y

end Cert.ActIdeal.Blocks

namespace Cert.ActRefIdeal.Blocks

open Idealize.ShloMosaic Cert.ActRefIdeal Cert.ActRefIdeal.Read Cert.Common Cert.ActIdeal.Blocks
open scoped BigOperators

variable (x0 : M3 2 2048 1024) (x1 : M3 1 1024 4096) (x2 : M3 1 4096 1024) (x3 : M3 2 2048 1024)

theorem r3 (i j : Fin 4096) : val_main_v3 (F := Ideal) x0 x1 (ix2 i j) = pre x0 x1 i j := by
  pointwise [val_main_v3, val_main_v2, val_main_v0]; rfl
theorem r13 (i j : Fin 4096) : val_main_v13 (F := Ideal) x2 x3 (ix2 i j) = da x2 x3 i j := by
  pointwise [val_main_v13, val_main_v11, val_main_v1]; rfl

theorem r17 : val_main_v17 (F := Ideal) x0 x1 x2 x3 = grad x0 x1 x2 x3 := by
  funext y; idx_vars y
  show _ = da x2 x3 y0 y1 * (two * max (pre x0 x1 y0 y1) 0)
  rw [← r3, ← r13]
  pointwise [val_main_v17, val_main_v16, val_main_v6, val_main_v5, val_main_cst, val_main_v15, val_main_cst_2, val_main_v14, val_main_v10, val_main_v9, val_main_cst_1, val_main_v4, val_main_call0_v0, val_main_call0_cst]
  by_cases h : 0 < val_main_v3 (F := Ideal) x0 x1 (ix2 y0 y1)
  · exact if_pos h
  · rw [if_neg h, max_eq_right (not_lt.1 h), mul_zero, mul_zero]

end Cert.ActRefIdeal.Blocks
end
-- ==== Proof.ActClaim.lean ====
/- The five claims of the gradient through the squared rectifier. -/
module

public import proofs.«01_k».proof.Defs
public import proofs.«01_k».proof.Proof.Gen.Act.Frame
public import proofs.«01_k».proof.Proof.Gen.ActRefIdeal
public import proofs.«01_k».proof.Proof.Gen.ActRefIdeal.Run
public import proofs.«01_k».proof.Proof.ActValue

@[expose] public section

noncomputable section

namespace Cert.Proof.Act

open Idealize.ShloMosaic Idealize.SL.Sem Cert.Common Cert.ActIdeal.Blocks

theorem frameP : Cert.quiescent_Act (hAct := Cert.Act.Gen.facts) := fun m ρ _ => Cert.Act.Gen.frame m ρ
theorem frameI : Cert.quiescent_ActIdeal (hActIdeal := Cert.ActIdeal.Gen.facts) := fun m ρ _ => Cert.ActIdeal.Gen.frame m ρ
theorem frameR : Cert.quiescent_ActRefIdeal (hActRefIdeal := Cert.ActRefIdeal.Gen.facts) := fun m ρ _ =>
  (θ_run Cert.ActRefIdeal.defs _ _).mono (fun r h => ⟨fun c => (h c).2, sem_eq_zero_of_no_sems (by decide) r.2⟩) (Cert.ActRefIdeal.Value.run (F := Ideal) m ρ)
theorem preserves : Cert.preserves_Act_ActIdeal := trivial

theorem algebraic : Cert.algebraic_ActIdeal_ActRefIdeal (hActIdeal := Cert.ActIdeal.Gen.facts) (hActRefIdeal := Cert.ActRefIdeal.Gen.facts) := by
  intro m ρ m' ρ' _ hag
  refine ⟨fun c => grad (X0 m c) (X1 m c) (X2 m c) (X3 m c), ?_, ?_⟩
  · refine (θ_run _ _ _).mono (fun r h c => ?_) (Cert.ActIdeal.Value.run_blocks m ρ)
    obtain ⟨h0, hr⟩ := h c
    exact ⟨h0.trans (arr3 m c), hr⟩
  · refine (θ_run _ _ _).mono (fun r h c => ?_) (Cert.ActRefIdeal.Value.run m' ρ')
    obtain ⟨h0, hr⟩ := h c
    obtain ⟨a0, a1, a2, a3⟩ := hag c
    exact ⟨h0.trans ((Cert.ActRefIdeal.Read.val_main_v17_eq ..).trans ((Cert.ActRefIdeal.Blocks.r17 ..).trans (congr (congr (congr (congrArg grad a0) a1) a2) a3))), hr⟩

end Cert.Proof.Act
end
-- ==== Proof.PostSpec.lean ====
/- The forget gates' gradient: a reversed running sum of real cotangents along each sequence, times the slope of the logarithm of the sigmoid. -/
module

public import proofs.«01_k».proof.Proof.RealKit

@[expose] public section

noncomputable section

namespace Cert.PostSpec

open Idealize.ShloMosaic Cert.Common Cert.RealKit
open scoped BigOperators

/-- The cotangent of the running sums at a token: rows minus columns; zero past the end. -/
def d (dcs drs : M3 2 8 2048) (b : Fin 2) (h : Fin 8) (s : ℕ) : ℝ :=
  if hs : s < 2048 then (drs (ix3 b h ⟨s, hs⟩)).toReal - (dcs (ix3 b h ⟨s, hs⟩)).toReal else 0

/-- The sum of a sequence's entries from position `n` on. -/
def tail (e : ℕ → ℝ) (n : ℕ) : ℝ := ∑ s ∈ Finset.Ico n 2048, e s

theorem tail_end (e : ℕ → ℝ) (n : ℕ) (hn : 2048 ≤ n) : tail e n = 0 := by rw [tail, Finset.Ico_eq_empty (by omega), Finset.sum_empty]

/-- From a row of a block on: the rows of the block from there, then everything after the block. -/
theorem tail_block (e : ℕ → ℝ) (o r : ℕ) (hr : r < 256) (ho : o + 256 ≤ 2048) :
    tail e (o + r) = tail e (o + 256) + ∑ c : Fin 256, if r ≤ c.val then e (o + c.val) else 0 := by
  rw [tail, tail, ← Finset.sum_Ico_consecutive e (show o + r ≤ o + 256 by omega) ho, add_comm]
  congr 1
  rw [Fin.sum_univ_eq_sum_range (fun c => if r ≤ c then e (o + c) else 0) 256, ← Finset.sum_filter,
    show (Finset.range 256).filter (fun c => r ≤ c) = Finset.Ico r 256 from by ext c; simp; omega,
    Finset.sum_Ico_add e r 256 o, add_comm r o, add_comm 256 o]

/-- The sum from a position on, over the positions of the sequence. -/
theorem tail_fin (e : ℕ → ℝ) (n : ℕ) : tail e n = ∑ s : Fin 2048, if n ≤ s.val then e s.val else 0 := by
  rw [Fin.sum_univ_eq_sum_range (fun c => if n ≤ c then e c else 0) 2048, ← Finset.sum_filter,
    show (Finset.range 2048).filter (fun c => n ≤ c) = Finset.Ico n 2048 from by ext c; simp; omega, tail]

/-- One gate's cotangent before the mask on the lanes: the slope is the sigmoid of the negated gate. -/
def dfl (f : M3 2 2048 8) (g : M2 1 8) (dcs drs : M3 2 8 2048) (b : Fin 2) (s : Fin 2048) (h : Fin 8) : EReal :=
  (tail (d dcs drs b h) s.val : EReal) * Ideal.logistic (0 - (f (ix3 b s h) + g (ix2 0 h)))

/-- The gates' cotangents: eight lanes of the 128, the rest zero. -/
def wide (f : M3 2 2048 8) (g : M2 1 8) (dcs drs : M3 2 8 2048) (b : Fin 2) (s : Fin 2048) (l : Fin 128) : EReal :=
  if h : l.val < 8 then dfl f g dcs drs b s ⟨l.val, h⟩ else 0

/-- The first result. -/
def out0 (f : M3 2 2048 8) (g : M2 1 8) (dcs drs : M3 2 8 2048) : M2 4096 128 :=
  fun y => wide f g dcs drs ⟨(y 0).val / 2048, by have : (y 0).val < 4096 := (y 0).isLt; omega⟩ ⟨(y 0).val % 2048, by omega⟩ (y 1)

/-- The second result: the bias's cotangent. -/
def out1 (f : M3 2 2048 8) (g : M2 1 8) (dcs drs : M3 2 8 2048) : M2 1 128 :=
  fun y => ∑ b : Fin 2, ∑ s : Fin 2048, wide f g dcs drs b s (y 1)

end Cert.PostSpec
end
-- ==== Proof.PostBlock.lean ====
/- One block of 256 tokens in the forget gates' gradient kernel: the running sum from the block's end, and the gate's slope. -/
module

public import proofs.«01_k».proof.Proof.Gen.PostIdeal.Value
public import proofs.«01_k».proof.Proof.PostSpec

@[expose] public section

set_option maxRecDepth 16384

noncomputable section

namespace Cert.PostIdeal.Blocks

open Idealize.ShloMosaic Idealize.SL.Sem Cert.PostIdeal Cert.PostIdeal.Gen Cert.Common Cert.RealKit Cert.PostSpec
open scoped BigOperators

/-- A comparison's bit, as a number. -/
theorem bit (p : Prop) [Decidable p] : (FloatOps.sitofp (F := Ideal) FTy.f32 (BitVec.setWidth 32 (BitVec.ofBool (decide p))) : EReal) = if p then 1 else 0 := by
  by_cases h : p
  · simp only [h, decide_true, if_true]
    show ((((1#32 : BitVec 32).toInt : ℤ) : ℝ) : EReal) = 1
    simp
  · simp only [h, decide_false, if_false]
    show ((((0#32 : BitVec 32).toInt : ℤ) : ℝ) : EReal) = 0
    simp

/-- The matrix that picks each head's first lane. -/
theorem pick (k : Fin 512) (h : Fin 128) : (k0_pay1 : FVec Ideal S512x128 .bf16) (ix2 k h) = if k.val = h.val * 64 then (1 : EReal) else 0 := by
  pointwise [k0_pay1]
  rw [show IntOp.muli (BitVec.ofNat 32 h.val) 64#32 = BitVec.ofNat 32 (h.val * 64) from (BitVec.ofNat_mul ..).symm, Idealize.ShloMosaic.WordCmp.cmpi_eq_ofNat (by omega) (by omega), bit]
/-- The matrix of ones from the diagonal on. -/
theorem upper (r c : Fin 256) : (k0_pay2 : FVec Ideal S256x256 .bf16) (ix2 r c) = if r.val ≤ c.val then (1 : EReal) else 0 := by
  pointwise [k0_pay2]
  rw [Idealize.ShloMosaic.WordCmp.cmpi_sle_ofNat (by omega) (by omega), bit]

/-- A product whose left side is split in three parts: itself, what is left, and what is left of that. -/
def nar3 (P e : Fin 512 → EReal) : EReal := ∑ k, e k * P k + ∑ k, (e k - e k) * P k + ∑ k, (e k - e k - (e k - e k)) * P k
/-- The same split on the right side, above the carried row. -/
def aft3 (U n : Fin 256 → EReal) (x : EReal) : EReal := x + ∑ k, U k * n k + ∑ k, U k * (n k - n k) + ∑ k, U k * (n k - n k - (n k - n k))

theorem nar3_coe (P : Fin 512 → EReal) (e : Fin 512 → ℝ) : nar3 P (fun k => (e k : EReal)) = ∑ k, (e k : EReal) * P k := by
  simp only [nar3, ← EReal.coe_sub, sub_self, EReal.coe_zero, sub_zero, zero_mul, Finset.sum_const_zero, add_zero]
theorem aft3_coe (U : Fin 256 → EReal) (n : Fin 256 → ℝ) (x : EReal) : aft3 U (fun k => (n k : EReal)) x = x + ∑ k, U k * (n k : EReal) := by
  simp only [aft3, ← EReal.coe_sub, sub_self, EReal.coe_zero, sub_zero, mul_zero, Finset.sum_const_zero, add_zero]

/-- What one block of 256 rows adds up to, above the carried row. -/
abbrev A (car : FVec Ideal S1x128 .f32) (a b : FVec Ideal S256x512 .f32) : FVec Ideal S256x128 .f32 := k0_pay44 k0_pay1 k0_pay2 car a b
/-- The row carried to the block before. -/
abbrev R (car : FVec Ideal S1x128 .f32) (a b : FVec Ideal S256x512 .f32) : FVec Ideal S1x128 .f32 := k0_pay45 k0_pay1 k0_pay2 car a b
/-- The lane's number. -/
abbrev lane : IVec S256x128 32 := iota Kind.tc S256x128 32 [1] iota_S256x128_d1_w32

variable (car : FVec Ideal S1x128 .f32) (a b : FVec Ideal S256x512 .f32) (f : FVec Ideal S256x128 .f32) (g p : FVec Ideal S1x128 .f32)

theorem A_split (r : Fin 256) (h : Fin 128) : A car a b (ix2 r h)
    = aft3 (fun c => (k0_pay2 : FVec Ideal S256x256 .bf16) (ix2 r c)) (fun c => nar3 (fun k => (k0_pay1 : FVec Ideal S512x128 .bf16) (ix2 k h)) (fun k => a (ix2 c k) - b (ix2 c k))) (car (ix2 0 h)) := by
  unfold aft3 nar3
  pointwise [A, k0_pay44]

theorem R_row (h : Fin 128) : R car a b (ix2 0 h) = A car a b (ix2 0 h) := by pointwise [R, k0_pay45]

/-- One block's rows, for real differences and a real carried row. -/
theorem A_real (α β : Fin 256 → Fin 512 → ℝ) (x : ℝ) (h : Fin 8) (ha : ∀ c k, a (ix2 c k) = (α c k : EReal)) (hb : ∀ c k, b (ix2 c k) = (β c k : EReal))
    (hx : car (ix2 0 ⟨h.val, by omega⟩) = (x : EReal)) (r : Fin 256) :
    A car a b (ix2 r ⟨h.val, by omega⟩) = ((x + ∑ c : Fin 256, (if r.val ≤ c.val then α c ⟨h.val * 64, by omega⟩ - β c ⟨h.val * 64, by omega⟩ else 0) : ℝ) : EReal) := by
  have n : ∀ c : Fin 256, nar3 (fun k => (k0_pay1 : FVec Ideal S512x128 .bf16) (ix2 k ⟨h.val, by omega⟩)) (fun k => a (ix2 c k) - b (ix2 c k))
      = ((α c ⟨h.val * 64, by omega⟩ - β c ⟨h.val * 64, by omega⟩ : ℝ) : EReal) := fun c => by
    simp only [ha, hb, ← EReal.coe_sub, pick]
    rw [nar3_coe]
    rw [Finset.sum_eq_single ⟨h.val * 64, by omega⟩ (fun k _ hk => by rw [if_neg (fun e => hk (Fin.ext e)), mul_zero]) (fun hk => absurd (Finset.mem_univ _) hk), if_pos rfl, mul_one]
  rw [A_split, hx]
  simp only [n]
  rw [aft3_coe, EReal.coe_add, coe_sum]
  congr 1
  refine Finset.sum_congr rfl fun c _ => ?_
  rw [upper]
  split_ifs
  · rw [one_mul]
  · rw [zero_mul, EReal.coe_zero]

/-- The gate's slope, on the first eight lanes. -/
theorem slope (v : FVec Ideal S256x128 .f32) (r : Fin 256) (l : Fin 128) : k0_pay46 lane v f g (ix2 r l)
    = if l.val < 8 then v (ix2 r l) * Ideal.logistic (0 - (f (ix2 r l) + g (ix2 0 l))) else 0 := by
  pointwise [lane, k0_pay46]
  rw [Idealize.ShloMosaic.WordCmp.cmpi_slt_ofNat (by omega) (by omega)]
  by_cases h : l.val < 8 <;> simp [h, Scalar.select, logistic]

theorem stored (v : FVec Ideal S256x128 .f32) (r : Fin 256) (l : Fin 128) : k0_pay47 lane v f g (ix2 r l) = k0_pay46 lane v f g (ix2 r l) := by
  pointwise [k0_pay47]

theorem summed (v : FVec Ideal S256x128 .f32) (l : Fin 128) : k0_pay48 lane v f g p (ix2 0 l) = p (ix2 0 l) + ∑ r : Fin 256, k0_pay46 lane v f g (ix2 r l) := by
  pointwise [k0_pay48]

end Cert.PostIdeal.Blocks
end
-- ==== Proof.PostValue.lean ====
/- The forget gates' gradient: the kernel's two results. -/
module

public import proofs.«01_k».proof.Proof.PostBlock
public import Idealize.ShloMosaic.Lib.Pipeline.ReadBack

@[expose] public section

set_option maxRecDepth 16384

noncomputable section

namespace Cert.PostIdeal.Blocks

open Idealize.ShloMosaic Idealize.SL.Sem Cert.PostIdeal Cert.PostIdeal.Gen Cert.Common Cert.RealKit Cert.PostSpec
open scoped BigOperators

variable (m : (ℓ : Loc nD τ sig) → Buf (Elt Ideal) ℓ) (c : Dev nD)

/-! The arguments, at the argument buffers' own types. -/

abbrev X0 : M3 2 2048 8 := m (c.tc.loc main_arg0)
abbrev X1 : M2 1 8 := m (c.tc.loc main_arg1)
abbrev X2 : M3 2 8 2048 := m (c.tc.loc main_arg2)
abbrev X3 : M3 2 8 2048 := m (c.tc.loc main_arg3)

/-- What each window reads at a point. -/
theorem idx (t : Fin cfg0.N) : win0_0.index t = ![t.val, 0] ∧ win0_1.index t = ![t.val, 0] ∧ win0_2.index t = ![t.val, 0] ∧ win0_3.index t = ![0, 0]
    ∧ win0_4.index t = ![t.val, 0] ∧ win0_5.index t = ![0, 0] := by
  revert t; decide +kernel

variable (t : Fin cfg0.N)

/-- The sequence a point works on. -/
def bt : Fin 2 := ⟨t.val, lt_of_lt_of_eq t.isLt N_0⟩
/-- A token of the point's sequence, among all tokens. -/
def tk (s : Fin 2048) : Fin 4096 := ⟨2048 * t.val + s.val, by have : t.val < 2 := lt_of_lt_of_eq t.isLt N_0; omega⟩

theorem tk_div (s : Fin 2048) (h : (tk t s).val / 2048 < 2) : (⟨(tk t s).val / 2048, h⟩ : Fin 2) = bt t := Fin.ext (by show (2048 * t.val + s.val) / 2048 = t.val; omega)
theorem tk_mod (s : Fin 2048) (h : (tk t s).val % 2048 < 2048) : (⟨(tk t s).val % 2048, h⟩ : Fin 2048) = s := Fin.ext (by show (2048 * t.val + s.val) % 2048 = s.val; omega)

theorem hostd (s : Fin 2048) (k : Fin 512) : (V m c main_v8 : FVec Ideal S4096x512 .f32) (ix2 (tk t s) k) = X2 m c (ix3 (bt t) ⟨k.val / 64, by omega⟩ s) := by
  unfold V; after_reads_at; exact congrArg₂ (fun b s => X2 m c (ix3 b ⟨k.val / 64, by omega⟩ s)) (tk_div t s _) (tk_mod t s _)
theorem hostr (s : Fin 2048) (k : Fin 512) : (V m c main_v12 : FVec Ideal S4096x512 .f32) (ix2 (tk t s) k) = X3 m c (ix3 (bt t) ⟨k.val / 64, by omega⟩ s) := by
  unfold V; after_reads_at; exact congrArg₂ (fun b s => X3 m c (ix3 b ⟨k.val / 64, by omega⟩ s)) (tk_div t s _) (tk_mod t s _)
theorem hostf (s : Fin 2048) (h : Fin 8) : (V m c main_v2 : FVec Ideal S4096x128 .f32) (ix2 (tk t s) ⟨h.val, by omega⟩) = X0 m c (ix3 (bt t) s h) := by
  unfold V; after_reads_at; exact congrArg₂ (fun b s => X0 m c (ix3 b s h)) (tk_div t s _) (tk_mod t s _)
theorem hostb (h : Fin 8) : (V m c main_v4 : FVec Ideal S1x128 .f32) (ix2 0 ⟨h.val, by omega⟩) = X1 m c (ix2 0 h) := by
  unfold V; after_reads_at

theorem ib0 (s : Fin 2048) (k : Fin 512) : (iblk m c 0 t : FVec Ideal S2048x512 .f32) (ix2 s k) = X2 m c (ix3 (bt t) ⟨k.val / 64, by omega⟩ s) := by
  rw [← hostd]; blk_ext [iblk, idx t, tk]
theorem ib1 (s : Fin 2048) (k : Fin 512) : (iblk m c 1 t : FVec Ideal S2048x512 .f32) (ix2 s k) = X3 m c (ix3 (bt t) ⟨k.val / 64, by omega⟩ s) := by
  rw [← hostr]; blk_ext [iblk, idx t, tk]
theorem ib2 (s : Fin 2048) (h : Fin 8) : (iblk m c 2 t : FVec Ideal S2048x128 .f32) (ix2 s ⟨h.val, by omega⟩) = X0 m c (ix3 (bt t) s h) := by
  rw [← hostf]; blk_ext [iblk, idx t, tk]
theorem ib3 (h : Fin 8) : (iblk m c 3 t : FVec Ideal S1x128 .f32) (ix2 0 ⟨h.val, by omega⟩) = X1 m c (ix2 0 h) := by
  rw [← hostb m c]; blk_ext [iblk, idx t]

/-! The blocks of a point's loads. -/

abbrev aW (o : ℕ) (inb : ∀ a : Fin 2, (![o, 0] : Fin 2 → ℕ) a + (![256, 512] : Fin 2 → ℕ) a ≤ S2048x512.size a) : FVec Ideal S256x512 .f32 :=
  View.ld (iblk m c 1 t) (Rect.unit (s := S2048x512) ![o, 0] ![256, 512] inb)
abbrev bW (o : ℕ) (inb : ∀ a : Fin 2, (![o, 0] : Fin 2 → ℕ) a + (![256, 512] : Fin 2 → ℕ) a ≤ S2048x512.size a) : FVec Ideal S256x512 .f32 :=
  View.ld (iblk m c 0 t) (Rect.unit (s := S2048x512) ![o, 0] ![256, 512] inb)
abbrev fW (o : ℕ) (inb : ∀ a : Fin 2, (![o, 0] : Fin 2 → ℕ) a + (![256, 128] : Fin 2 → ℕ) a ≤ S2048x128.size a) : FVec Ideal S256x128 .f32 :=
  View.ld (iblk m c 2 t) (Rect.unit (s := S2048x128) ![o, 0] ![256, 128] inb)

theorem ld_rows {M N W : ℕ} (x : M2 M N) (o : ℕ) (inb : ∀ a : Fin 2, (![o, 0] : Fin 2 → ℕ) a + (![W, N] : Fin 2 → ℕ) a ≤ (⟨2, ![M, N]⟩ : Shape).size a) (r : Fin W) (k : Fin N) (ho : o + r.val < M) :
    View.ld (Val := Elt Ideal) (e' := .f32) x (Rect.unit (s := ⟨2, ![M, N]⟩) ![o, 0] ![W, N] inb) (ix2 r k) = x (ix2 ⟨o + r.val, ho⟩ k) := by
  refine congrArg x (funext fun a => Fin.ext ?_)
  fin_cases a
  · show o + 1 * r.val = o + r.val; omega
  · show 0 + 1 * k.val = k.val; omega

variable (h2 : ∀ i, X2 m c i = ((X2 m c i).toReal : EReal)) (h3 : ∀ i, X3 m c i = ((X3 m c i).toReal : EReal))

/-- The cotangents along a point's sequence. -/
abbrev e (h : Fin 8) : ℕ → ℝ := d (X2 m c) (X3 m c) (bt t) h

include h2 h3 in
theorem step (o : ℕ) (ho : o + 256 ≤ 2048) (inb inb') (car : FVec Ideal S1x128 .f32) (h : Fin 8) (hx : car (ix2 0 ⟨h.val, by omega⟩) = (tail (e m c t h) (o + 256) : EReal)) (r : Fin 256) :
    A car (aW m c t o inb) (bW m c t o inb') (ix2 r ⟨h.val, by omega⟩) = (tail (e m c t h) (o + r.val) : EReal) := by
  have q := A_real car (aW m c t o inb) (bW m c t o inb') (fun r k => (X3 m c (ix3 (bt t) ⟨k.val / 64, by omega⟩ ⟨o + r.val, by omega⟩)).toReal) (fun r k => (X2 m c (ix3 (bt t) ⟨k.val / 64, by omega⟩ ⟨o + r.val, by omega⟩)).toReal) _ h
    (fun r k => (ld_rows _ _ inb r k (by omega)).trans ((ib1 m c t _ k).trans (h3 _)))
    (fun r k => (ld_rows _ _ inb' r k (by omega)).trans ((ib0 m c t _ k).trans (h2 _))) hx r
  rw [q, tail_block _ _ _ r.isLt ho]
  congr 2
  refine Finset.sum_congr rfl fun q _ => ?_
  rw [e, d, dif_pos (show o + q.val < 2048 by omega)]
  simp only [show h.val * 64 / 64 = h.val by omega]

include h2 h3 in
theorem stepR (o : ℕ) (ho : o + 256 ≤ 2048) (inb inb') (car : FVec Ideal S1x128 .f32) (h : Fin 8) (hx : car (ix2 0 ⟨h.val, by omega⟩) = (tail (e m c t h) (o + 256) : EReal)) :
    R car (aW m c t o inb) (bW m c t o inb') (ix2 0 ⟨h.val, by omega⟩) = (tail (e m c t h) o : EReal) :=
  (R_row _ _ _ _).trans (step m c t h2 h3 o ho inb inb' car h hx 0)

abbrev K7 : FVec Ideal S1x128 .f32 := k0_pay3
abbrev K6 : FVec Ideal S1x128 .f32 := R K7 (aW m c t 1792 inb_S2048x512_S256x512_1792_0) (bW m c t 1792 inb_S2048x512_S256x512_1792_0)
abbrev K5 : FVec Ideal S1x128 .f32 := R (K6 m c t) (aW m c t 1536 inb_S2048x512_S256x512_1536_0) (bW m c t 1536 inb_S2048x512_S256x512_1536_0)
abbrev K4 : FVec Ideal S1x128 .f32 := R (K5 m c t) (aW m c t 1280 inb_S2048x512_S256x512_1280_0) (bW m c t 1280 inb_S2048x512_S256x512_1280_0)
abbrev K3 : FVec Ideal S1x128 .f32 := R (K4 m c t) (aW m c t 1024 inb_S2048x512_S256x512_1024_0) (bW m c t 1024 inb_S2048x512_S256x512_1024_0)
abbrev K2 : FVec Ideal S1x128 .f32 := R (K3 m c t) (aW m c t 768 inb_S2048x512_S256x512_768_0) (bW m c t 768 inb_S2048x512_S256x512_768_0)
abbrev K1 : FVec Ideal S1x128 .f32 := R (K2 m c t) (aW m c t 512 inb_S2048x512_S256x512_512_0) (bW m c t 512 inb_S2048x512_S256x512_512_0)
abbrev K0 : FVec Ideal S1x128 .f32 := R (K1 m c t) (aW m c t 256 inb_S2048x512_S256x512_256_0) (bW m c t 256 inb_S2048x512_S256x512_256_0)

abbrev A7 : FVec Ideal S256x128 .f32 := A K7 (aW m c t 1792 inb_S2048x512_S256x512_1792_0) (bW m c t 1792 inb_S2048x512_S256x512_1792_0)
abbrev A6 : FVec Ideal S256x128 .f32 := A (K6 m c t) (aW m c t 1536 inb_S2048x512_S256x512_1536_0) (bW m c t 1536 inb_S2048x512_S256x512_1536_0)
abbrev A5 : FVec Ideal S256x128 .f32 := A (K5 m c t) (aW m c t 1280 inb_S2048x512_S256x512_1280_0) (bW m c t 1280 inb_S2048x512_S256x512_1280_0)
abbrev A4 : FVec Ideal S256x128 .f32 := A (K4 m c t) (aW m c t 1024 inb_S2048x512_S256x512_1024_0) (bW m c t 1024 inb_S2048x512_S256x512_1024_0)
abbrev A3 : FVec Ideal S256x128 .f32 := A (K3 m c t) (aW m c t 768 inb_S2048x512_S256x512_768_0) (bW m c t 768 inb_S2048x512_S256x512_768_0)
abbrev A2 : FVec Ideal S256x128 .f32 := A (K2 m c t) (aW m c t 512 inb_S2048x512_S256x512_512_0) (bW m c t 512 inb_S2048x512_S256x512_512_0)
abbrev A1 : FVec Ideal S256x128 .f32 := A (K1 m c t) (aW m c t 256 inb_S2048x512_S256x512_256_0) (bW m c t 256 inb_S2048x512_S256x512_256_0)
abbrev A0 : FVec Ideal S256x128 .f32 := A (K0 m c t) (aW m c t 0 inb_S2048x512_S256x512_0_0) (bW m c t 0 inb_S2048x512_S256x512_0_0)

section chain
variable (h : Fin 8)
include h2 h3

theorem k7 : K7 (ix2 0 ⟨h.val, by omega⟩) = (tail (e m c t h) 2048 : EReal) := by
  rw [tail_end _ _ le_rfl, EReal.coe_zero]; pointwise [K7, k0_pay3]
theorem k6 : K6 m c t (ix2 0 ⟨h.val, by omega⟩) = (tail (e m c t h) 1792 : EReal) := stepR m c t h2 h3 1792 (by decide) _ _ _ h (k7 m c t h2 h3 h)
theorem k5 : K5 m c t (ix2 0 ⟨h.val, by omega⟩) = (tail (e m c t h) 1536 : EReal) := stepR m c t h2 h3 1536 (by decide) _ _ _ h (k6 m c t h2 h3 h)
theorem k4 : K4 m c t (ix2 0 ⟨h.val, by omega⟩) = (tail (e m c t h) 1280 : EReal) := stepR m c t h2 h3 1280 (by decide) _ _ _ h (k5 m c t h2 h3 h)
theorem k3 : K3 m c t (ix2 0 ⟨h.val, by omega⟩) = (tail (e m c t h) 1024 : EReal) := stepR m c t h2 h3 1024 (by decide) _ _ _ h (k4 m c t h2 h3 h)
theorem k2 : K2 m c t (ix2 0 ⟨h.val, by omega⟩) = (tail (e m c t h) 768 : EReal) := stepR m c t h2 h3 768 (by decide) _ _ _ h (k3 m c t h2 h3 h)
theorem k1 : K1 m c t (ix2 0 ⟨h.val, by omega⟩) = (tail (e m c t h) 512 : EReal) := stepR m c t h2 h3 512 (by decide) _ _ _ h (k2 m c t h2 h3 h)
theorem k0 : K0 m c t (ix2 0 ⟨h.val, by omega⟩) = (tail (e m c t h) 256 : EReal) := stepR m c t h2 h3 256 (by decide) _ _ _ h (k1 m c t h2 h3 h)
end chain

/-- One block's gradients. -/
theorem blk (o : ℕ) (ho : o + 256 ≤ 2048) (inb) (v : FVec Ideal S256x128 .f32) (hv : ∀ (h : Fin 8) (r : Fin 256), v (ix2 r ⟨h.val, by omega⟩) = (tail (e m c t h) (o + r.val) : EReal)) (r : Fin 256) (l : Fin 128) :
    k0_pay46 lane v (fW m c t o inb) (iblk m c 3 t) (ix2 r l) = wide (X0 m c) (X1 m c) (X2 m c) (X3 m c) (bt t) ⟨o + r.val, by omega⟩ l := by
  rw [slope, wide]
  split_ifs with hl
  · have e1 := hv ⟨l.val, hl⟩ r
    have e2 := (ld_rows _ _ inb r l (by omega)).trans (ib2 m c t ⟨o + r.val, by omega⟩ ⟨l.val, hl⟩)
    have e3 := ib3 m c t ⟨l.val, hl⟩
    rw [dfl]
    exact (congrArg₂ (fun x y : EReal => x * y) e1 (congrArg₂ (fun x y : EReal => Ideal.logistic (0 - (x + y))) e2 e3)).trans rfl
  · rfl

/-- The gradients along a point's sequence. -/
abbrev G : Fin 2048 → Fin 128 → EReal := wide (X0 m c) (X1 m c) (X2 m c) (X3 m c) (bt t)

section blocks
include h2 h3
variable (r : Fin 256) (l : Fin 128)

theorem g7 : k0_pay46 lane (A7 m c t) (fW m c t 1792 inb_S2048x128_S256x128_1792_0) (iblk m c 3 t) (ix2 r l) = G m c t ⟨1792 + r.val, by omega⟩ l :=
  blk m c t 1792 (by decide) _ _ (fun h r => step m c t h2 h3 1792 (by decide) _ _ _ h (k7 m c t h2 h3 h) r) r l
theorem g6 : k0_pay46 lane (A6 m c t) (fW m c t 1536 inb_S2048x128_S256x128_1536_0) (iblk m c 3 t) (ix2 r l) = G m c t ⟨1536 + r.val, by omega⟩ l :=
  blk m c t 1536 (by decide) _ _ (fun h r => step m c t h2 h3 1536 (by decide) _ _ _ h (k6 m c t h2 h3 h) r) r l
theorem g5 : k0_pay46 lane (A5 m c t) (fW m c t 1280 inb_S2048x128_S256x128_1280_0) (iblk m c 3 t) (ix2 r l) = G m c t ⟨1280 + r.val, by omega⟩ l :=
  blk m c t 1280 (by decide) _ _ (fun h r => step m c t h2 h3 1280 (by decide) _ _ _ h (k5 m c t h2 h3 h) r) r l
theorem g4 : k0_pay46 lane (A4 m c t) (fW m c t 1024 inb_S2048x128_S256x128_1024_0) (iblk m c 3 t) (ix2 r l) = G m c t ⟨1024 + r.val, by omega⟩ l :=
  blk m c t 1024 (by decide) _ _ (fun h r => step m c t h2 h3 1024 (by decide) _ _ _ h (k4 m c t h2 h3 h) r) r l
theorem g3 : k0_pay46 lane (A3 m c t) (fW m c t 768 inb_S2048x128_S256x128_768_0) (iblk m c 3 t) (ix2 r l) = G m c t ⟨768 + r.val, by omega⟩ l :=
  blk m c t 768 (by decide) _ _ (fun h r => step m c t h2 h3 768 (by decide) _ _ _ h (k3 m c t h2 h3 h) r) r l
theorem g2 : k0_pay46 lane (A2 m c t) (fW m c t 512 inb_S2048x128_S256x128_512_0) (iblk m c 3 t) (ix2 r l) = G m c t ⟨512 + r.val, by omega⟩ l :=
  blk m c t 512 (by decide) _ _ (fun h r => step m c t h2 h3 512 (by decide) _ _ _ h (k2 m c t h2 h3 h) r) r l
theorem g1 : k0_pay46 lane (A1 m c t) (fW m c t 256 inb_S2048x128_S256x128_256_0) (iblk m c 3 t) (ix2 r l) = G m c t ⟨256 + r.val, by omega⟩ l :=
  blk m c t 256 (by decide) _ _ (fun h r => step m c t h2 h3 256 (by decide) _ _ _ h (k1 m c t h2 h3 h) r) r l
theorem g0 : k0_pay46 lane (A0 m c t) (fW m c t 0 inb_S2048x128_S256x128_0_0) (iblk m c 3 t) (ix2 r l) = G m c t ⟨0 + r.val, by omega⟩ l :=
  blk m c t 0 (by decide) _ _ (fun h r => step m c t h2 h3 0 (by decide) _ _ _ h (k0 m c t h2 h3 h) r) r l
end blocks

include h2 h3 in
theorem piece (v : FVec Ideal S256x128 .f32) (o : ℕ) (inb) (hg : ∀ r l, k0_pay46 lane v (fW m c t o inb) (iblk m c 3 t) (ix2 r l) = G m c t ⟨o + r.val, by have := inb 0; have e : o + 256 ≤ 2048 := this; omega⟩ l)
    (j : S2048x128.Idx) (x : S256x128.Idx) (h0 : (j 0).val = o + (x 0).val) (h1 : (j 1).val = (x 1).val) :
    k0_pay47 lane v (fW m c t o inb) (iblk m c 3 t) x = G m c t (j 0) (j 1) := by
  idx_vars x
  rw [stored, hg]
  exact congrArg₂ (G m c t) (Fin.ext h0.symm) (Fin.ext h1.symm)

include h2 h3 in
/-- What a point leaves in the first result's block. -/
theorem left0 (j : S2048x128.Idx) : View.canon (Val := Elt Ideal) (s := S2048x128) (e := .bf16) [⟨Rect.unit ![0, 0] ![256, 128] inb_S2048x128_S256x128_0_0, k0_pay47 lane (A0 m c t) (fW m c t 0 inb_S2048x128_S256x128_0_0) (iblk m c 3 t)⟩,
    ⟨Rect.unit ![256, 0] ![256, 128] inb_S2048x128_S256x128_256_0, k0_pay47 lane (A1 m c t) (fW m c t 256 inb_S2048x128_S256x128_256_0) (iblk m c 3 t)⟩,
    ⟨Rect.unit ![512, 0] ![256, 128] inb_S2048x128_S256x128_512_0, k0_pay47 lane (A2 m c t) (fW m c t 512 inb_S2048x128_S256x128_512_0) (iblk m c 3 t)⟩,
    ⟨Rect.unit ![768, 0] ![256, 128] inb_S2048x128_S256x128_768_0, k0_pay47 lane (A3 m c t) (fW m c t 768 inb_S2048x128_S256x128_768_0) (iblk m c 3 t)⟩,
    ⟨Rect.unit ![1024, 0] ![256, 128] inb_S2048x128_S256x128_1024_0, k0_pay47 lane (A4 m c t) (fW m c t 1024 inb_S2048x128_S256x128_1024_0) (iblk m c 3 t)⟩,
    ⟨Rect.unit ![1280, 0] ![256, 128] inb_S2048x128_S256x128_1280_0, k0_pay47 lane (A5 m c t) (fW m c t 1280 inb_S2048x128_S256x128_1280_0) (iblk m c 3 t)⟩,
    ⟨Rect.unit ![1536, 0] ![256, 128] inb_S2048x128_S256x128_1536_0, k0_pay47 lane (A6 m c t) (fW m c t 1536 inb_S2048x128_S256x128_1536_0) (iblk m c 3 t)⟩,
    ⟨Rect.unit ![1792, 0] ![256, 128] inb_S2048x128_S256x128_1792_0, k0_pay47 lane (A7 m c t) (fW m c t 1792 inb_S2048x128_S256x128_1792_0) (iblk m c 3 t)⟩] j = G m c t (j 0) (j 1) := by
  canon_tiles x h
  · exact piece m c t h2 h3 _ _ _ (g0 m c t h2 h3) j x (by omega) (by omega)
  · exact piece m c t h2 h3 _ _ _ (g1 m c t h2 h3) j x (by omega) (by omega)
  · exact piece m c t h2 h3 _ _ _ (g2 m c t h2 h3) j x (by omega) (by omega)
  · exact piece m c t h2 h3 _ _ _ (g3 m c t h2 h3) j x (by omega) (by omega)
  · exact piece m c t h2 h3 _ _ _ (g4 m c t h2 h3) j x (by omega) (by omega)
  · exact piece m c t h2 h3 _ _ _ (g5 m c t h2 h3) j x (by omega) (by omega)
  · exact piece m c t h2 h3 _ _ _ (g6 m c t h2 h3) j x (by omega) (by omega)
  · exact piece m c t h2 h3 _ _ _ (g7 m c t h2 h3) j x (by omega) (by omega)

/-- What a point adds to the bias's cotangent. -/
def term (t : Fin cfg0.N) (j : S1x128.Idx) : EReal := ∑ s : Fin 2048, G m c t s (j 1)

/-- A sum over a sequence, block by block. -/
theorem sum_blocks (F : Fin 2048 → EReal) : ∑ s, F s = ∑ i : Fin 8, ∑ r : Fin 256, F ⟨256 * i.val + r.val, by omega⟩ := by
  have h := Fin.sum_points_lanes_fin (N := 8) (n := 256) (A := 1) (L := 2048) 8 (fun _ l => F l) rfl rfl
  rw [Fin.sum_univ_one] at h
  rw [← h]
  refine Finset.sum_congr rfl fun i _ => Finset.sum_congr rfl fun r _ => congrArg F (Fin.ext ?_)
  show i.val % 8 * 256 + r.val = 256 * i.val + r.val
  omega

include h2 h3 in
/-- What a point leaves in the second result's row, from what was there. -/
theorem left1 (p : FVec Ideal S1x128 .f32) (l : Fin 128) :
    k0_pay48 lane (A0 m c t) (fW m c t 0 inb_S2048x128_S256x128_0_0) (iblk m c 3 t) (k0_pay48 lane (A1 m c t) (fW m c t 256 inb_S2048x128_S256x128_256_0) (iblk m c 3 t) (k0_pay48 lane (A2 m c t) (fW m c t 512 inb_S2048x128_S256x128_512_0) (iblk m c 3 t) (k0_pay48 lane (A3 m c t) (fW m c t 768 inb_S2048x128_S256x128_768_0) (iblk m c 3 t) (k0_pay48 lane (A4 m c t) (fW m c t 1024 inb_S2048x128_S256x128_1024_0) (iblk m c 3 t) (k0_pay48 lane (A5 m c t) (fW m c t 1280 inb_S2048x128_S256x128_1280_0) (iblk m c 3 t) (k0_pay48 lane (A6 m c t) (fW m c t 1536 inb_S2048x128_S256x128_1536_0) (iblk m c 3 t) (k0_pay48 lane (A7 m c t) (fW m c t 1792 inb_S2048x128_S256x128_1792_0) (iblk m c 3 t) p))))))) (ix2 0 l) = p (ix2 0 l) + term m c t (ix2 0 l) := by
  rw [term, sum_blocks, Fin.sum_univ_eight]
  simp only [summed]
  have e : ∀ (o : ℕ) (ho : o + 256 ≤ 2048) (inb) (v : FVec Ideal S256x128 .f32), (∀ r l, k0_pay46 lane v (fW m c t o inb) (iblk m c 3 t) (ix2 r l) = G m c t ⟨o + r.val, by omega⟩ l) →
      ∑ r : Fin 256, k0_pay46 lane v (fW m c t o inb) (iblk m c 3 t) (ix2 r l) = ∑ r : Fin 256, G m c t ⟨o + r.val, by omega⟩ l := fun o ho inb v h => Finset.sum_congr rfl fun r _ => h r l
  rw [e 1792 (by decide) _ _ (g7 m c t h2 h3), e 1536 (by decide) _ _ (g6 m c t h2 h3), e 1280 (by decide) _ _ (g5 m c t h2 h3), e 1024 (by decide) _ _ (g4 m c t h2 h3), e 768 (by decide) _ _ (g3 m c t h2 h3), e 512 (by decide) _ _ (g2 m c t h2 h3), e 256 (by decide) _ _ (g1 m c t h2 h3), e 0 (by decide) _ _ (g0 m c t h2 h3)]
  show _ = _ + ((((((( ∑ r : Fin 256, G m c t ⟨0 + r.val, _⟩ l + ∑ r : Fin 256, G m c t ⟨256 + r.val, _⟩ l) + ∑ r : Fin 256, G m c t ⟨512 + r.val, _⟩ l) + ∑ r : Fin 256, G m c t ⟨768 + r.val, _⟩ l) + ∑ r : Fin 256, G m c t ⟨1024 + r.val, _⟩ l) + ∑ r : Fin 256, G m c t ⟨1280 + r.val, _⟩ l) + ∑ r : Fin 256, G m c t ⟨1536 + r.val, _⟩ l) + ∑ r : Fin 256, G m c t ⟨1792 + r.val, _⟩ l)
  abel

theorem emb4 (r : Fin 2048) (l : Fin 128) : ((View.whole main_v13_0).slice (win0_4.rect t)).emb (ix2 r l) = ix2 (tk t r) l := by blk_ext [idx t, tk]

include h2 h3 in
theorem arr4 : (dats m 0 c).arrAt 4 cfg0.N = out0 (X0 m c) (X1 m c) (X2 m c) (X3 m c) := by
  refine (dats m 0 c).arrAt_eq_of_covers 4 _ (by decide +kernel) fun t hf y => ?_
  blk_simp
  rw [after0_4]
  have e : ∀ y : S2048x128.Idx, G m c t (y 0) (y 1) = out0 (X0 m c) (X1 m c) (X2 m c) (X3 m c) (((View.whole main_v13_0).slice (win0_4.rect t)).emb y) := by
    intro y; idx_vars y; erw [emb4]
    exact (congrArg₂ (fun b s => wide (X0 m c) (X1 m c) (X2 m c) (X3 m c) b s y1) (tk_div t y0 _) (tk_mod t y0 _)).symm
  by_cases h : t.val % 2 = 0
  · rw [outsAt0_A m c t h]; frame_out; exact (left0 m c t h2 h3 y).trans (e y)
  · rw [outsAt0_B m c t h]; frame_out; exact (left0 m c t h2 h3 y).trans (e y)

include h2 h3 in
theorem acc0 (t : Fin cfg0.N) (h : t.val % 2 = 0) (j : S1x128.Idx) : (outsAt0 m c t.val t.isLt).2 j = 0 + term m c t j := by
  rw [outsAt0_A m c t h]; frame_out
  idx_vars j
  obtain rfl : j0 = 0 := Subsingleton.elim _ _
  refine (left1 m c t h2 h3 k0_pay3 j1).trans (congrArg₂ (fun x y : EReal => x + y) (by pointwise [k0_pay3]) rfl)

include h2 h3 in
theorem acc1 (t : Fin cfg0.N) (h : ¬t.val % 2 = 0) (j : S1x128.Idx) :
    (outsAt0 m c t.val t.isLt).2 j = (outsAt0 m c (t.val-1) (Nat.lt_of_le_of_lt (Nat.sub_le _ _) t.isLt)).2 j + term m c t j := by
  rw [outsAt0_B m c t h]; frame_out
  idx_vars j
  obtain rfl : j0 = 0 := Subsingleton.elim _ _
  exact left1 m c t h2 h3 _ j1

include h2 h3 in
theorem arr5 : (dats m 0 c).arrAt 5 cfg0.N = out1 (X0 m c) (X1 m c) (X2 m c) (X3 m c) := by
  refine (dats m 0 c).arrAt_eq_of_after_last 5 t0_1 (by decide +kernel) _ fun j => ?_
  blk_simp
  rw [after0_5]
  refine (Pipeline.eq_sum_fin_of_reset_step_apply_last (fun n h => (outsAt0 m c n h).2) 2 (fun _ => (0 : EReal)) (term m c) (acc0 m c h2 h3) (acc1 m c h2 h3) (le_of_eq N_0) t0_1 rfl j).trans ?_
  rw [zero_add]
  exact Fintype.sum_equiv (finCongr N_0) _ _ fun t => rfl

end Cert.PostIdeal.Blocks
end
-- ==== Proof.PostRefValue.lean ====
/- The reference's gradient of the forget gates: the reversed running sums and the slope, at every entry. -/
module

public import proofs.«01_k».proof.Proof.PostSpec
public import proofs.«01_k».proof.Proof.SbRefValue
public import proofs.«01_k».proof.Proof.Gen.PostRefIdeal.Read

@[expose] public section

set_option maxRecDepth 16384

noncomputable section

namespace Cert.PostRefValue

open Idealize.ShloMosaic Idealize.SL.Sem Cert.PostRefIdeal Cert.PostRefIdeal.Gen Cert.PostRefIdeal.Read Cert.Common Cert.RealKit Cert.PostSpec
open Cert.Window (foldl_sum sum_back)
open scoped BigOperators

section window
variable {A B N : ℕ}

/-- The position of a window that is one wide on the first two axes. -/
def at2 (N : ℕ) (l : Fin N) : (⟨3, ![1, 1, N]⟩ : Shape).Idx := fun a => match a with
  | ⟨0, _⟩ => (⟨0, Nat.one_pos⟩ : Fin 1)
  | ⟨1, _⟩ => (⟨0, Nat.one_pos⟩ : Fin 1)
  | ⟨2, _⟩ => l

theorem at2_bij : Function.Bijective fun l : Fin N => (⟨3, ![1, 1, N]⟩ : Shape).rowMajor (at2 N l) := by
  refine ⟨fun l l' h => congrFun ((⟨3, ![1, 1, N]⟩ : Shape).rowMajor.injective h) 2, fun n => ⟨(⟨3, ![1, 1, N]⟩ : Shape).rowMajor.symm n 2, ?_⟩⟩
  rw [← Equiv.eq_symm_apply]
  funext a
  match a with
  | ⟨0, _⟩ => exact Subsingleton.elim (α := Fin 1) _ _
  | ⟨1, _⟩ => exact Subsingleton.elim (α := Fin 1) _ _
  | ⟨2, _⟩ => rfl

/-- The running sum from the end, along the last of three axes. -/
theorem from_end3 {u : Shape} (x : FVec Ideal ⟨3, ![A, B, N]⟩ .f32) (init : u.Idx → EReal) (m : ℕ)
    (h : (⟨3, ![A, B, N]⟩ : Shape).ReduceWindows ![1, 1, N] ![1, 1, 1] ![0, 0, 0] ![0, 0, m] ⟨3, ![A, B, N]⟩) (hu : 0 < u.numel)
    (hi0 : init (Shape.Idx.first hu) = 0) (a : Fin A) (b : Fin B) (s : Fin N) :
    (Host.reduceWindowAdd (![1, 1, N] : Fin 3 → ℕ) ![1, 1, 1] ![0, 0, 0] ![0, 0, m] x init h hu : FVec Ideal ⟨3, ![A, B, N]⟩ .f32) (ix3 a b s)
      = ∑ j : Fin N, if s ≤ j then (x (ix3 a b j) : EReal) else 0 := by
  refine (foldl_sum _ _ _).trans ?_
  rw [hi0, zero_add, ← List.ofFn_eq_map, List.sum_ofFn]
  refine (Function.Bijective.sum_comp at2_bij _).symm.trans ((Finset.sum_congr rfl fun l _ => ?_).trans (sum_back (fun j => (x (ix3 a b j) : EReal)) s))
  dsimp only
  simp only [Equiv.symm_apply_apply]
  have h0 := a.isLt
  have h1 := b.isLt
  by_cases hl : s.val + l.val < N
  · rw [dif_pos hl]
    refine (dif_pos fun i => ?_).trans (congrArg x (funext fun i => Fin.ext ?_))
    · match i with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show 0 ≤ s.val * 1 + l.val ∧ s.val * 1 + l.val - 0 < N; omega
    · match i with
      | ⟨0, _⟩ => show a.val * 1 + 0 - 0 = a.val; omega
      | ⟨1, _⟩ => show b.val * 1 + 0 - 0 = b.val; omega
      | ⟨2, _⟩ => show s.val * 1 + l.val - 0 = s.val + l.val; omega
  · rw [dif_neg hl]
    refine dif_neg fun hc => ?_
    have := (hc 2).2
    change s.val * 1 + l.val - 0 < N at this
    omega
end window

variable (x0 : M3 2 2048 8) (x1 : M2 1 8) (x2 x3 : M3 2 8 2048)

theorem r10 (h2 : ∀ i, x2 i = ((x2 i).toReal : EReal)) (h3 : ∀ i, x3 i = ((x3 i).toReal : EReal)) (b : Fin 2) (h : Fin 8) (s : Fin 2048) :
    (val_main_v10 (F := Ideal) x2 x3 : FVec Ideal S2x8x2048 .f32) (ix3 b h s) = (tail (d x2 x3 b h) s.val : EReal) := by
  unfold val_main_v10
  refine (from_end3 _ _ 2047 _ _ (by pointwise [val_main_call2_call0_v0, val_main_call2_call0_cst]) b h s).trans ?_
  rw [tail_fin, coe_sum]
  refine Finset.sum_congr rfl fun j _ => ?_
  have e : (val_main_v9 (F := Ideal) x2 x3 : FVec Ideal S2x8x2048 .f32) (ix3 b h j) = ((d x2 x3 b h j.val : ℝ) : EReal) := by
    pointwise [val_main_v9, val_main_v8]
    rw [h2, h3, d, dif_pos j.isLt, ← EReal.coe_neg, ← EReal.coe_add, sub_eq_add_neg]
  rw [e]
  by_cases hs : s ≤ j
  · rw [if_pos hs, if_pos (Fin.le_def.1 hs)]
  · rw [if_neg hs, if_neg (fun q => hs (Fin.le_def.2 q)), EReal.coe_zero]

/-- The softened maximum with zero, as the library computes it, at the infinities. -/
theorem soft_top : (if (⊤ : EReal) ≠ ⊤ then (⊤ : EReal) else max ⊤ 0 + Ideal.log1p (Ideal.exp (-FloatOps.absf (F := Ideal) (φ := .f32) (⊤ : EReal)))) = ⊤ := by
  rw [if_neg (by simp)]
  have e : (FloatOps.absf (F := Ideal) (φ := .f32) (⊤ : EReal) : EReal) = ⊤ := max_eq_left (by simp)
  have e1 : Ideal.log1p (0 : EReal) = 0 := by
    show Ideal.log (1 + 0) = 0
    rw [add_zero, ← EReal.coe_one, Ideal.log_coe, if_neg (by norm_num), Real.log_one, EReal.coe_zero]
  rw [e, EReal.neg_top, Ideal.exp_bot, e1, add_zero]; simp
theorem soft_bot : (if (⊥ : EReal) ≠ ⊥ then (⊥ : EReal) else max ⊥ 0 + Ideal.log1p (Ideal.exp (-FloatOps.absf (F := Ideal) (φ := .f32) (⊥ : EReal)))) = 0 := by
  rw [if_neg (by simp)]
  have e : (FloatOps.absf (F := Ideal) (φ := .f32) (⊥ : EReal) : EReal) = ⊤ := max_eq_right (by simp)
  have e1 : Ideal.log1p (0 : EReal) = 0 := by
    show Ideal.log (1 + 0) = 0
    rw [add_zero, ← EReal.coe_one, Ideal.log_coe, if_neg (by norm_num), Real.log_one, EReal.coe_zero]
  rw [e, EReal.neg_top, Ideal.exp_bot, e1, add_zero]; simp

theorem slope_real (y : ℝ) : Real.exp (y - (max y 0 + Real.log (1 + Real.exp (-|y|)))) = 1 / (1 + Real.exp (-y)) := by
  have e : Real.exp (max y 0 + Real.log (1 + Real.exp (-|y|))) = 1 + Real.exp y := by
    rw [Real.exp_add, Real.exp_log (by positivity)]
    rcases le_total y 0 with h | h
    · rw [max_eq_right h, abs_of_nonpos h, Real.exp_zero, one_mul, neg_neg]
    · rw [max_eq_left h, abs_of_nonneg h, mul_add, mul_one, ← Real.exp_add, add_neg_cancel, Real.exp_zero, add_comm]
  rw [Real.exp_sub, e, Real.exp_neg]
  have := Real.exp_pos y
  field_simp
  ring

/-- The derivative of the softened maximum, as the library computes it, is the sigmoid. -/
theorem slope (y : EReal) :
    Ideal.exp ((if y = Ideal.ofBits .f32 0x7F800000#32 then 0 else y)
      - (if (if y ≠ y then y else max y 0 + Ideal.log1p (Ideal.exp (-FloatOps.absf (F := Ideal) (φ := .f32) y))) = Ideal.ofBits .f32 0x7F800000#32 then 0
         else (if y ≠ y then y else max y 0 + Ideal.log1p (Ideal.exp (-FloatOps.absf (F := Ideal) (φ := .f32) y))))) = Ideal.logistic y := by
  induction y using EReal.rec with
  | bot =>
    rw [soft_bot, ofBits_inf, if_neg (by simp), if_neg (by simp), sub_zero, Ideal.exp_bot, Ideal.logistic_bot]
  | top =>
    rw [soft_top, ofBits_inf, if_pos rfl, sub_zero, ← EReal.coe_zero, Ideal.exp_coe, Real.exp_zero, EReal.coe_one, Ideal.logistic_top]
  | coe y =>
    rw [Cert.SbRefValue.soft, Cert.SbRefValue.sel_inf, Cert.SbRefValue.sel_inf, ← EReal.coe_sub, Ideal.exp_coe, slope_real, Ideal.logistic_coe, one_div]

theorem r4 (b : Fin 2) (s : Fin 2048) (h : Fin 8) :
    (val_main_v4_1 (F := Ideal) x0 x1 : FVec Ideal S2x2048x8 .f32) (ix3 b s h) = Ideal.logistic (0 - (x0 (ix3 b s h) + x1 (ix2 0 h))) := by
  pointwise [val_main_v4_1, val_main_call0_call0_v21, val_main_call0_call0_v20, val_main_call0_call0_v19, val_main_call0_call0_v18, val_main_call0_call0_v17, val_main_call0_call0_v16,
    val_main_call0_call0_v15, val_main_call0_call0_v14, val_main_call0_call0_v13, val_main_call0_call0_cst_0, val_main_call0_call0_cst_1, val_main_call0_call0_cst_2, val_main_call0_call0_cst_3,
    val_main_call0_v1_0, val_main_call0_call0_v4, val_main_call0_call0_v3, val_main_call0_call0_v6, val_main_call0_call0_v5, val_main_call0_call0_v11, val_main_call0_call0_v10,
    val_main_call0_call0_v9, val_main_call0_call0_v8, val_main_call0_call0_v7, val_main_call0_call0_v1, val_main_call0_call0_v0, val_main_call0_call0_v2, val_main_call0_call0_cst, val_main_call0_v0,
    val_main_v3, val_main_v2, val_main_v1, val_main_v0]
  rw [zero_sub]
  exact slope _

theorem r12 (b : Fin 2) (s : Fin 2048) (h : Fin 8) :
    (val_main_v12 (F := Ideal) x0 x1 x2 x3 : FVec Ideal S2x2048x8 .f32) (ix3 b s h)
      = - (- (val_main_v10 (F := Ideal) x2 x3 : FVec Ideal S2x8x2048 .f32) (ix3 b h s) * (val_main_v4_1 (F := Ideal) x0 x1 : FVec Ideal S2x2048x8 .f32) (ix3 b s h)) := by
  pointwise [val_main_v12, val_main_call3_v1, val_main_call3_v0, val_main_v11]

theorem rd (h2 : ∀ i, x2 i = ((x2 i).toReal : EReal)) (h3 : ∀ i, x3 i = ((x3 i).toReal : EReal)) (b : Fin 2) (s : Fin 2048) (h : Fin 8) :
    (val_main_v12 (F := Ideal) x0 x1 x2 x3 : FVec Ideal S2x2048x8 .f32) (ix3 b s h) = dfl x0 x1 x2 x3 b s h := by
  rw [r12, r10 x2 x3 h2 h3, r4, neg_mul, neg_neg, dfl]

theorem res0 (h2 : ∀ i, x2 i = ((x2 i).toReal : EReal)) (h3 : ∀ i, x3 i = ((x3 i).toReal : EReal)) :
    (val_main_v20 (F := Ideal) x0 x1 x2 x3 : M2 4096 128) = out0 x0 x1 x2 x3 := by
  funext y
  idx_vars y
  have e := fun (b : Fin 2) (s : Fin 2048) (h : Fin 8) => rd x0 x1 x2 x3 h2 h3 b s h
  pointwise [val_main_v20, val_main_v19, val_main_v18, val_main_cst_1, val_main_v17]
  exact dite_congr rfl (fun h => e _ _ _) fun h => rfl

/-- A sum over the first two of three axes. -/
theorem sum01 {A B N : ℕ} (h : (⟨3, ![A, B, N]⟩ : Shape).ReducesTo [0, 1] ⟨1, ![N]⟩) (x : M3 A B N) (c : EReal) (j : Fin N) :
    Ideal.hostReduceAdd h x c (ix1 j) = c + ∑ a : Fin A, ∑ b : Fin B, x (ix3 a b j) := by
  show c + ∑ i ∈ Finset.univ.filter (fun i => h.drop i = ix1 j), x i = _
  rw [← Fintype.sum_prod_type' (f := fun (a : Fin A) (b : Fin B) => x (ix3 a b j))]
  congr 1
  refine Finset.sum_filter_eq_sum_of_fiber _ (fun k : Fin A × Fin B => ix3 k.1 k.2 j) (fun _ _ e => Prod.ext (congrFun e 0) (congrFun e 1)) (fun i => ?_) x
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem r13 (h2 : ∀ i, x2 i = ((x2 i).toReal : EReal)) (h3 : ∀ i, x3 i = ((x3 i).toReal : EReal)) (h : Fin 8) :
    (val_main_v13 (F := Ideal) x0 x1 x2 x3 : FVec Ideal S8 .f32) (ix1 h) = ∑ b : Fin 2, ∑ s : Fin 2048, dfl x0 x1 x2 x3 b s h := by
  refine (sum01 reducesTo_S2x2048x8_S8_d0_1 (val_main_v12 (F := Ideal) x0 x1 x2 x3) (Ideal.ofBits .f32 0x00000000#32) h).trans ?_
  rw [Ideal.ofBits_zero_f32, zero_add]
  exact Finset.sum_congr rfl fun b _ => Finset.sum_congr rfl fun s _ => rd x0 x1 x2 x3 h2 h3 b s h

theorem r15 (h : Fin 8) :
    (val_main_v15 (F := Ideal) x0 x1 x2 x3 : FVec Ideal S8 .f32) (ix1 h) = (val_main_v13 (F := Ideal) x0 x1 x2 x3 : FVec Ideal S8 .f32) (ix1 h) := by
  refine (sum01 reducesTo_S1x1x8_S8_d0_1 (val_main_v14 (F := Ideal) x0 x1 x2 x3) (Ideal.ofBits .f32 0x00000000#32) h).trans ?_
  rw [Ideal.ofBits_zero_f32, zero_add, Fin.sum_univ_one, Fin.sum_univ_one]
  pointwise [val_main_v14]

theorem res1 (h2 : ∀ i, x2 i = ((x2 i).toReal : EReal)) (h3 : ∀ i, x3 i = ((x3 i).toReal : EReal)) :
    (val_main_v22 (F := Ideal) x0 x1 x2 x3 : M2 1 128) = out1 x0 x1 x2 x3 := by
  funext y
  idx_vars y
  have e := fun h : Fin 8 => (r15 x0 x1 x2 x3 h).trans (r13 x0 x1 x2 x3 h2 h3 h)
  pointwise [val_main_v22, val_main_v21, val_main_cst_2, val_main_v16]
  show _ = ∑ b : Fin 2, ∑ s : Fin 2048, wide x0 x1 x2 x3 b s y1
  simp only [wide]
  by_cases h : y1.val < 8
  · simp only [dif_pos h]; exact e _
  · simp only [dif_neg h, Finset.sum_const_zero]

end Cert.PostRefValue
end
-- ==== Proof.PostClaim.lean ====
/- The five claims of the forget gates' gradient. -/
module

public import proofs.«01_k».proof.Defs
public import proofs.«01_k».proof.Proof.Gen.Post.Frame
public import proofs.«01_k».proof.Proof.Gen.PostRefIdeal.Run
public import proofs.«01_k».proof.Proof.PostValue
public import proofs.«01_k».proof.Proof.PostRefValue

@[expose] public section

noncomputable section

namespace Cert.Proof.Post

open Idealize.ShloMosaic Idealize.SL.Sem Cert.Common Cert.RealKit Cert.PostSpec Cert.PostRefValue Cert.PostIdeal.Blocks

theorem preFacts : Cert.Pre_post_finite.Facts := by constructor <;> decide

theorem frameP : Cert.quiescent_Post (hPost := Cert.Post.Gen.facts) := fun m ρ _ => Cert.Post.Gen.frame m ρ
theorem frameI : Cert.quiescent_PostIdeal (hPostIdeal := Cert.PostIdeal.Gen.facts) := fun m ρ _ => Cert.PostIdeal.Gen.frame m ρ
theorem frameI' : Cert.quiescent_PostIdeal_pre_post_finite (hPostIdeal := Cert.PostIdeal.Gen.facts) (hPre_post_finite := preFacts) := fun m ρ _ => Cert.PostIdeal.Gen.frame m ρ
theorem frameR : Cert.quiescent_PostRefIdeal (hPostRefIdeal := Cert.PostRefIdeal.Gen.facts) := fun m ρ _ =>
  (θ_run Cert.PostRefIdeal.defs _ _).mono (fun r h => ⟨fun c => (h c).2.2, sem_eq_zero_of_no_sems (by decide) r.2⟩) (Cert.PostRefIdeal.Value.run (F := Ideal) m ρ)
theorem frameR' : Cert.quiescent_PostRefIdeal_pre_post_finite (hPostRefIdeal := Cert.PostRefIdeal.Gen.facts) (hPre_post_finite := preFacts) := fun m ρ _ =>
  (θ_run Cert.PostRefIdeal.defs _ _).mono (fun r h => ⟨fun c => (h c).2.2, sem_eq_zero_of_no_sems (by decide) r.2⟩) (Cert.PostRefIdeal.Value.run (F := Ideal) m ρ)
theorem preserves : Cert.preserves_Post_PostIdeal := trivial

theorem algebraic : Cert.algebraic_PostIdeal_PostRefIdeal_pre_post_finite (hPostIdeal := Cert.PostIdeal.Gen.facts) (hPostRefIdeal := Cert.PostRefIdeal.Gen.facts) (hPre_post_finite := preFacts) := by
  intro m ρ m' ρ' hp hag
  have H2 : ∀ c i, X2 m c i = ((X2 m c i).toReal : EReal) := fun c i => real_of_lt (congrFun (hp c).1 i)
  have H3 : ∀ c i, X3 m c i = ((X3 m c i).toReal : EReal) := fun c i => real_of_lt (congrFun (hp c).2 i)
  refine ⟨fun c => out0 (X0 m c) (X1 m c) (X2 m c) (X3 m c), fun c => out1 (X0 m c) (X1 m c) (X2 m c) (X3 m c), ?_, ?_⟩
  · refine (θ_run _ _ _).mono (fun r h c => ?_) (Cert.PostIdeal.Value.run_blocks m ρ)
    obtain ⟨h0, h1, hr⟩ := h c
    exact ⟨h0.trans (arr4 m c (H2 c) (H3 c)), h1.trans (arr5 m c (H2 c) (H3 c)), hr⟩
  · refine (θ_run _ _ _).mono (fun r h c => ?_) (Cert.PostRefIdeal.Value.run m' ρ')
    obtain ⟨h0, h1, hr⟩ := h c
    obtain ⟨a0, a1, a2, a3⟩ := hag c
    have e0 : (m' ((c.tc : Thread Cert.PostRefIdeal.nD Cert.PostRefIdeal.τ).loc Cert.PostRefIdeal.main_arg0) : M3 2 2048 8) = X0 m c := a0
    have e1 : (m' ((c.tc : Thread Cert.PostRefIdeal.nD Cert.PostRefIdeal.τ).loc Cert.PostRefIdeal.main_arg1) : M2 1 8) = X1 m c := a1
    have e2 : (m' ((c.tc : Thread Cert.PostRefIdeal.nD Cert.PostRefIdeal.τ).loc Cert.PostRefIdeal.main_arg2) : M3 2 8 2048) = X2 m c := a2
    have e3 : (m' ((c.tc : Thread Cert.PostRefIdeal.nD Cert.PostRefIdeal.τ).loc Cert.PostRefIdeal.main_arg3) : M3 2 8 2048) = X3 m c := a3
    refine ⟨h0.trans ?_, h1.trans ?_, hr⟩
    · refine (Cert.PostRefIdeal.Read.val_main_v20_eq ..).trans ?_
      rw [e0, e1, e2, e3]; exact res0 _ _ _ _ (H2 c) (H3 c)
    · refine (Cert.PostRefIdeal.Read.val_main_v22_eq ..).trans ?_
      rw [e0, e1, e2, e3]; exact res1 _ _ _ _ (H2 c) (H3 c)

end Cert.Proof.Post
end
-- ==== Proof.PrepSpec.lean ====
/- The running sums of the forget gates: the logarithm of the sigmoid, added up along each sequence. -/
module

public import proofs.«01_k».proof.Proof.RealKit

@[expose] public section

noncomputable section

namespace Cert.PrepSpec

open Idealize.ShloMosaic Cert.Common Cert.RealKit
open scoped BigOperators

/-- The logarithm of the sigmoid. -/
def ls (y : EReal) : EReal := - (max (-y) 0 + Ideal.log (1 + Ideal.exp (-FloatOps.absf (F := Ideal) (φ := .f32) y)))

theorem log_one : Ideal.log (1 + 0 : EReal) = 0 := by
  rw [add_zero, ← EReal.coe_one, Ideal.log_coe, if_neg (by norm_num), Real.log_one, EReal.coe_zero]

theorem ls_coe (y : ℝ) : ∃ x : ℝ, ls y = x := by
  have e : (FloatOps.absf (F := Ideal) (φ := .f32) (y : EReal) : EReal) = ((max y (-y) : ℝ) : EReal) := by
    show max (y : EReal) (-(y : EReal)) = _
    rw [← EReal.coe_neg]; exact (EReal.coe_strictMono.monotone.map_max).symm
  have h : (0 : ℝ) < 1 + Real.exp (-max y (-y)) := by positivity
  refine ⟨-(max (-y) 0 + Real.log (1 + Real.exp (-max y (-y)))), ?_⟩
  rw [ls, e, ← EReal.coe_neg, ← EReal.coe_neg, Ideal.exp_coe, ← EReal.coe_one, ← EReal.coe_add, Ideal.log_coe, if_neg (not_le.2 h), ← EReal.coe_zero,
    ← EReal.coe_strictMono.monotone.map_max, ← EReal.coe_add, ← EReal.coe_neg]

theorem ls_top : ls ⊤ = 0 := by
  have e : (FloatOps.absf (F := Ideal) (φ := .f32) (⊤ : EReal) : EReal) = ⊤ := max_eq_left (by simp)
  rw [ls, e, EReal.neg_top, Ideal.exp_bot, log_one, add_zero]; simp
theorem ls_bot : ls ⊥ = ⊥ := by
  have e : (FloatOps.absf (F := Ideal) (φ := .f32) (⊥ : EReal) : EReal) = ⊤ := max_eq_right (by simp)
  rw [ls, e, EReal.neg_top, Ideal.exp_bot, log_one, add_zero]; simp

/-- A logarithm of a sigmoid plus the two rests of splitting it is itself, also where it is −∞. -/
theorem split3 (y : EReal) : ls y + (ls y - ls y) + (ls y - ls y - (ls y - ls y)) = ls y := by
  induction y using EReal.rec with
  | bot => rw [ls_bot, add_assoc, EReal.bot_add]
  | top => rw [ls_top]; simp
  | coe y => obtain ⟨x, h⟩ := ls_coe y; rw [h, ← EReal.coe_sub, sub_self]; simp

/-- The logarithm of a gate at a token; zero past the end. -/
def lf (f : M3 2 2048 8) (g : M2 1 8) (b : Fin 2) (h : Fin 8) (s : ℕ) : EReal :=
  if hs : s < 2048 then ls (f (ix3 b ⟨s, hs⟩ h) + g (ix2 0 h)) else 0

/-- The sum of a sequence's entries before position `n`. -/
def upto (e : ℕ → EReal) (n : ℕ) : EReal := ∑ s ∈ Finset.range n, e s

/-- Through a row of a block: everything before the block, then the block's rows up to there. -/
theorem upto_block (e : ℕ → EReal) (o r : ℕ) (hr : r < 256) :
    upto e (o + r + 1) = upto e o + ∑ c : Fin 256, if c.val ≤ r then e (o + c.val) else 0 := by
  rw [upto, upto, add_assoc, Finset.sum_range_add]
  congr 1
  rw [Fin.sum_univ_eq_sum_range (fun c => if c ≤ r then e (o + c) else 0) 256, ← Finset.sum_filter,
    show (Finset.range 256).filter (fun c => c ≤ r) = Finset.range (r + 1) from by ext c; simp; omega]

/-- The sum through a position, over the positions of the sequence. -/
theorem upto_fin (e : ℕ → EReal) (n : ℕ) (hn : n < 2048) : upto e (n + 1) = ∑ s : Fin 2048, if s.val ≤ n then e s.val else 0 := by
  rw [Fin.sum_univ_eq_sum_range (fun c => if c ≤ n then e c else 0) 2048, ← Finset.sum_filter,
    show (Finset.range 2048).filter (fun c => c ≤ n) = Finset.range (n + 1) from by ext c; simp; omega, upto]

/-- The running sum of one head's gates at a token. -/
def cum (f : M3 2 2048 8) (g : M2 1 8) (b : Fin 2) (h : Fin 8) (s : Fin 2048) : EReal := upto (lf f g b h) (s.val + 1)

/-- The first result: one row per token, each head's sum on its 64 lanes. -/
def out0 (f : M3 2 2048 8) (g : M2 1 8) : M2 4096 512 :=
  fun y => cum f g ⟨(y 0).val / 2048, by have : (y 0).val < 4096 := (y 0).isLt; omega⟩ ⟨(y 1).val / 64, by have : (y 1).val < 512 := (y 1).isLt; omega⟩ ⟨(y 0).val % 2048, by omega⟩

/-- The second result: one row per sequence and head. -/
def out1 (f : M3 2 2048 8) (g : M2 1 8) : M2 16 2048 :=
  fun y => cum f g ⟨(y 0).val / 8, by have : (y 0).val < 16 := (y 0).isLt; omega⟩ ⟨(y 0).val % 8, by omega⟩ (y 1)

end Cert.PrepSpec
end
-- ==== Proof.PrepBlock.lean ====
/- One block of 256 tokens in the kernel of the forget gates' running sums: both layouts of the sums. -/
module

public import proofs.«01_k».proof.Proof.Gen.PrepIdeal.Value
public import proofs.«01_k».proof.Proof.PrepSpec

@[expose] public section

set_option maxRecDepth 16384

noncomputable section

namespace Cert.PrepIdeal.Blocks

open Idealize.ShloMosaic Idealize.SL.Sem Cert.PrepIdeal Cert.PrepIdeal.Gen Cert.Common Cert.RealKit Cert.PrepSpec
open scoped BigOperators

/-- A comparison's bit, as a number. -/
theorem bit (p : Prop) [Decidable p] : (FloatOps.sitofp (F := Ideal) FTy.f32 (BitVec.setWidth 32 (BitVec.ofBool (decide p))) : EReal) = if p then 1 else 0 := by
  by_cases h : p
  · simp only [h, decide_true, if_true]
    show ((((1#32 : BitVec 32).toInt : ℤ) : ℝ) : EReal) = 1
    simp
  · simp only [h, decide_false, if_false]
    show ((((0#32 : BitVec 32).toInt : ℤ) : ℝ) : EReal) = 0
    simp

/-- The matrix of ones up to the diagonal. -/
theorem lower (r c : Fin 256) : (k0_pay4 : FVec Ideal S256x256 .bf16) (ix2 r c) = if c.val ≤ r.val then (1 : EReal) else 0 := by
  pointwise [k0_pay4]
  rw [Idealize.ShloMosaic.WordCmp.cmpi_sle_ofNat (by omega) (by omega), bit]
/-- The matrix of ones from the diagonal on. -/
theorem upper (r c : Fin 256) : (k0_pay5 : FVec Ideal S256x256 .bf16) (ix2 r c) = if r.val ≤ c.val then (1 : EReal) else 0 := by
  pointwise [k0_pay5]
  rw [Idealize.ShloMosaic.WordCmp.cmpi_sle_ofNat (by omega) (by omega), bit]
/-- A lane's head, as the integer operations compute the rounded-down quotient. -/
theorem lanes : ∀ w : Fin 512, Scalar.select
    (IntOp.andi
      (IntOp.cmpi CmpIPredicate.ne
        (IntOp.subi (BitVec.setWidth 32 (IntOp.cmpi CmpIPredicate.sgt (BitVec.ofNat 32 w.val) 0#32)) (BitVec.setWidth 32 (IntOp.cmpi CmpIPredicate.slt (BitVec.ofNat 32 w.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 w.val) 64#32) 0#32))
    (IntOp.subi (IntOp.divsi ArithUnit.vector (BitVec.ofNat 32 w.val) 64#32) 1#32)
    (IntOp.divsi ArithUnit.vector (BitVec.ofNat 32 w.val) 64#32) = BitVec.ofNat 32 (w.val / 64) := by
  decide +kernel
/-- The matrix that spreads each head over its 64 lanes. -/
theorem spread (k : Fin 128) (w : Fin 512) : (k0_pay6 : FVec Ideal S128x512 .bf16) (ix2 k w) = if w.val / 64 = k.val then (1 : EReal) else 0 := by
  have e := lanes w
  pointwise [k0_pay6]
  rw [e, Idealize.ShloMosaic.WordCmp.cmpi_eq_ofNat (by omega) (by omega), bit]

/-- The lane's number. -/
abbrev lane : IVec S256x128 32 := iota Kind.tc S256x128 32 [1] iota_S256x128_d1_w32

variable (f : FVec Ideal S256x128 .f32) (g : FVec Ideal S1x128 .f32) (cw : FVec Ideal S1x512 .f32) (cr : FVec Ideal S128x1 .f32) (L : FVec Ideal S256x128 .f32)

/-- The gates' logarithms, on the first eight lanes. -/
theorem gates (r : Fin 256) (l : Fin 128) : (k0_pay22 lane f g : FVec Ideal S256x128 .f32) (ix2 r l) = if l.val < 8 then ls (f (ix2 r l) + g (ix2 0 l)) else 0 := by
  pointwise [lane, k0_pay22]
  rw [Idealize.ShloMosaic.WordCmp.cmpi_slt_ofNat (by omega) (by omega)]
  by_cases h : l.val < 8 <;> simp [h, Scalar.select, ls]

/-- What one block adds up to in the wide layout, above the carried row. -/
abbrev CW : FVec Ideal S256x512 .f32 := k0_pay28 k0_pay4 k0_pay6 cw L k0_pay23
/-- What one block adds up to in the row layout, beside the carried column. -/
abbrev CR : FVec Ideal S128x256 .f32 := k0_pay29 k0_pay5 cr L

theorem CW_split (r : Fin 256) (w : Fin 512) : CW cw L (ix2 r w)
    = cw (ix2 0 w) + ∑ c, (k0_pay4 : FVec Ideal S256x256 .bf16) (ix2 r c) * ∑ k, L (ix2 c k) * (k0_pay6 : FVec Ideal S128x512 .bf16) (ix2 k w)
      + ∑ c, (k0_pay4 : FVec Ideal S256x256 .bf16) (ix2 r c) * ∑ k, (L (ix2 c k) - L (ix2 c k)) * (k0_pay6 : FVec Ideal S128x512 .bf16) (ix2 k w)
      + ∑ c, (k0_pay4 : FVec Ideal S256x256 .bf16) (ix2 r c) * ∑ k, (L (ix2 c k) - L (ix2 c k) - (L (ix2 c k) - L (ix2 c k))) * (k0_pay6 : FVec Ideal S128x512 .bf16) (ix2 k w) := by
  pointwise [CW, k0_pay28, k0_pay23, k0_pay24, k0_pay25, k0_pay26, k0_pay27]

theorem CR_split (h : Fin 128) (r : Fin 256) : CR cr L (ix2 h r)
    = cr (ix2 h 0) + ∑ c, L (ix2 c h) * (k0_pay5 : FVec Ideal S256x256 .bf16) (ix2 c r)
      + ∑ c, (L (ix2 c h) - L (ix2 c h)) * (k0_pay5 : FVec Ideal S256x256 .bf16) (ix2 c r)
      + ∑ c, (L (ix2 c h) - L (ix2 c h) - (L (ix2 c h) - L (ix2 c h))) * (k0_pay5 : FVec Ideal S256x256 .bf16) (ix2 c r) := by
  pointwise [CR, k0_pay29, k0_pay24, k0_pay25, k0_pay26, k0_pay27]

/-- One head's column of the spread product. -/
theorem one_head (e : Fin 128 → EReal) (w : Fin 512) : ∑ k, e k * (k0_pay6 : FVec Ideal S128x512 .bf16) (ix2 k w) = e ⟨w.val / 64, by omega⟩ := by
  simp only [spread]
  rw [Finset.sum_eq_single ⟨w.val / 64, by omega⟩ (fun k _ hk => by rw [if_neg (fun e => hk (Fin.ext e.symm)), mul_zero]) (fun hk => absurd (Finset.mem_univ _) hk), if_pos rfl, mul_one]

/-- The three parts of a block's sum, together. -/
theorem parts (y : Fin 256 → EReal) (x : EReal) (r : ℕ) :
    x + (∑ c : Fin 256, if c.val ≤ r then ls (y c) else 0) + (∑ c : Fin 256, if c.val ≤ r then ls (y c) - ls (y c) else 0)
      + (∑ c : Fin 256, if c.val ≤ r then ls (y c) - ls (y c) - (ls (y c) - ls (y c)) else 0) = x + ∑ c : Fin 256, if c.val ≤ r then ls (y c) else 0 := by
  rw [add_assoc, add_assoc, ← add_assoc (∑ c : Fin 256, if c.val ≤ r then ls (y c) else 0), ← Finset.sum_add_distrib, ← Finset.sum_add_distrib]
  congr 1
  refine Finset.sum_congr rfl fun c _ => ?_
  split_ifs
  · exact split3 _
  · simp

theorem CW_sum (y : Fin 256 → EReal) (w : Fin 512) (hL : ∀ c, L (ix2 c ⟨w.val / 64, by omega⟩) = ls (y c)) (r : Fin 256) :
    CW cw L (ix2 r w) = cw (ix2 0 w) + ∑ c : Fin 256, if c.val ≤ r.val then ls (y c) else 0 := by
  have d : ∀ e : Fin 256 → EReal, ∑ c, (k0_pay4 : FVec Ideal S256x256 .bf16) (ix2 r c) * e c = ∑ c : Fin 256, if c.val ≤ r.val then e c else 0 := fun e =>
    Finset.sum_congr rfl fun c _ => by rw [lower]; split_ifs <;> simp
  rw [CW_split]
  simp only [one_head (fun k => L (ix2 _ k)), one_head (fun k => L (ix2 _ k) - L (ix2 _ k)), one_head (fun k => L (ix2 _ k) - L (ix2 _ k) - (L (ix2 _ k) - L (ix2 _ k))), d, hL]
  exact parts y _ _

theorem CR_sum (y : Fin 256 → EReal) (h : Fin 128) (hL : ∀ c, L (ix2 c h) = ls (y c)) (r : Fin 256) :
    CR cr L (ix2 h r) = cr (ix2 h 0) + ∑ c : Fin 256, if c.val ≤ r.val then ls (y c) else 0 := by
  have d : ∀ e : Fin 256 → EReal, ∑ c, e c * (k0_pay5 : FVec Ideal S256x256 .bf16) (ix2 c r) = ∑ c : Fin 256, if c.val ≤ r.val then e c else 0 := fun e =>
    Finset.sum_congr rfl fun c _ => by rw [upper]; split_ifs <;> simp
  rw [CR_split]
  simp only [hL, d]
  exact parts y _ _

end Cert.PrepIdeal.Blocks
end
-- ==== Proof.PrepValue.lean ====
/- The forget gates' running sums: the kernel's two results. -/
module

public import proofs.«01_k».proof.Proof.PrepBlock
public import Idealize.ShloMosaic.Lib.Pipeline.ReadBack

@[expose] public section

set_option maxRecDepth 16384

noncomputable section

namespace Cert.PrepIdeal.Blocks

open Idealize.ShloMosaic Idealize.SL.Sem Cert.PrepIdeal Cert.PrepIdeal.Gen Cert.Common Cert.RealKit Cert.PrepSpec
open scoped BigOperators

variable (m : (ℓ : Loc nD τ sig) → Buf (Elt Ideal) ℓ) (c : Dev nD)

/-! The arguments, at the argument buffers' own types. -/

abbrev X0 : M3 2 2048 8 := m (c.tc.loc main_arg0)
abbrev X1 : M2 1 8 := m (c.tc.loc main_arg1)

/-- What each window reads at a point. -/
theorem idx (t : Fin cfg0.N) : win0_0.index t = ![t.val, 0] ∧ win0_1.index t = ![0, 0] ∧ win0_2.index t = ![t.val, 0] ∧ win0_3.index t = ![t.val, 0] := by
  revert t; decide +kernel

variable (t : Fin cfg0.N)

/-- The sequence a point works on. -/
def bt : Fin 2 := ⟨t.val, lt_of_lt_of_eq t.isLt N_0⟩
/-- A token of the point's sequence, among all tokens. -/
def tk (s : Fin 2048) : Fin 4096 := ⟨2048 * t.val + s.val, by have : t.val < 2 := lt_of_lt_of_eq t.isLt N_0; omega⟩
/-- A head of the point's sequence, among all rows. -/
def hr (h : Fin 8) : Fin 16 := ⟨8 * t.val + h.val, by have : t.val < 2 := lt_of_lt_of_eq t.isLt N_0; omega⟩

theorem tk_div (s : Fin 2048) (h : (tk t s).val / 2048 < 2) : (⟨(tk t s).val / 2048, h⟩ : Fin 2) = bt t := Fin.ext (by show (2048 * t.val + s.val) / 2048 = t.val; omega)
theorem tk_mod (s : Fin 2048) (h : (tk t s).val % 2048 < 2048) : (⟨(tk t s).val % 2048, h⟩ : Fin 2048) = s := Fin.ext (by show (2048 * t.val + s.val) % 2048 = s.val; omega)
theorem hr_div (s : Fin 8) (h : (hr t s).val / 8 < 2) : (⟨(hr t s).val / 8, h⟩ : Fin 2) = bt t := Fin.ext (by show (8 * t.val + s.val) / 8 = t.val; omega)
theorem hr_mod (s : Fin 8) (h : (hr t s).val % 8 < 8) : (⟨(hr t s).val % 8, h⟩ : Fin 8) = s := Fin.ext (by show (8 * t.val + s.val) % 8 = s.val; omega)

theorem hostf (s : Fin 2048) (h : Fin 8) : (V m c main_v2 : FVec Ideal S4096x128 .f32) (ix2 (tk t s) ⟨h.val, by omega⟩) = X0 m c (ix3 (bt t) s h) := by
  unfold V; after_reads_at; exact congrArg₂ (fun b s => X0 m c (ix3 b s h)) (tk_div t s _) (tk_mod t s _)
theorem hostb (h : Fin 8) : (V m c main_v4 : FVec Ideal S1x128 .f32) (ix2 0 ⟨h.val, by omega⟩) = X1 m c (ix2 0 h) := by
  unfold V; after_reads_at

theorem ib0 (s : Fin 2048) (h : Fin 8) : (iblk m c 0 t : FVec Ideal S2048x128 .f32) (ix2 s ⟨h.val, by omega⟩) = X0 m c (ix3 (bt t) s h) := by
  rw [← hostf]; blk_ext [iblk, idx t, tk]
theorem ib1 (h : Fin 8) : (iblk m c 1 t : FVec Ideal S1x128 .f32) (ix2 0 ⟨h.val, by omega⟩) = X1 m c (ix2 0 h) := by
  rw [← hostb m c]; blk_ext [iblk, idx t]

theorem ld_rows {M N W : ℕ} (x : M2 M N) (o : ℕ) (inb : ∀ a : Fin 2, (![o, 0] : Fin 2 → ℕ) a + (![W, N] : Fin 2 → ℕ) a ≤ (⟨2, ![M, N]⟩ : Shape).size a) (r : Fin W) (k : Fin N) (ho : o + r.val < M) :
    View.ld (Val := Elt Ideal) (e' := .f32) x (Rect.unit (s := ⟨2, ![M, N]⟩) ![o, 0] ![W, N] inb) (ix2 r k) = x (ix2 ⟨o + r.val, ho⟩ k) := by
  refine congrArg x (funext fun a => Fin.ext ?_)
  fin_cases a
  · show o + 1 * r.val = o + r.val; omega
  · show 0 + 1 * k.val = k.val; omega

/-- The gates' logarithms in one block. -/
abbrev L (o : ℕ) (inb : ∀ a : Fin 2, (![o, 0] : Fin 2 → ℕ) a + (![256, 128] : Fin 2 → ℕ) a ≤ S2048x128.size a) : FVec Ideal S256x128 .f32 :=
  k0_pay22 lane (View.ld (iblk m c 0 t : FVec Ideal S2048x128 .f32) (Rect.unit (s := S2048x128) ![o, 0] ![256, 128] inb)) (View.ld (iblk m c 1 t : FVec Ideal S1x128 .f32) r0_1)

theorem L_eq (o : ℕ) (ho : o + 256 ≤ 2048) (inb) (h : Fin 8) (r : Fin 256) :
    L m c t o inb (ix2 r ⟨h.val, by omega⟩) = ls (X0 m c (ix3 (bt t) ⟨o + r.val, by omega⟩ h) + X1 m c (ix2 0 h)) := by
  refine (gates _ _ r ⟨h.val, by omega⟩).trans ?_
  rw [if_pos h.isLt]
  exact congrArg ls (congrArg₂ (fun x y : EReal => x + y) ((ld_rows _ _ inb r _ (by omega)).trans (ib0 m c t _ h)) ((ld_rows (iblk m c 1 t : FVec Ideal S1x128 .f32) 0 _ 0 _ (by decide)).trans (ib1 m c t h)))

/-- The gates' logarithms along a point's sequence. -/
abbrev e (h : Fin 8) : ℕ → EReal := lf (X0 m c) (X1 m c) (bt t) h

theorem e_blk (o : ℕ) (ho : o + 256 ≤ 2048) (h : Fin 8) (r : Fin 256) : upto (e m c t h) o + (∑ q : Fin 256, if q.val ≤ r.val then ls (X0 m c (ix3 (bt t) ⟨o + q.val, by omega⟩ h) + X1 m c (ix2 0 h)) else 0)
    = upto (e m c t h) (o + r.val + 1) := by
  rw [upto_block _ _ _ r.isLt]
  congr 1
  refine Finset.sum_congr rfl fun q _ => ?_
  rw [e, lf, dif_pos (show o + q.val < 2048 by omega)]

theorem stepW (o : ℕ) (ho : o + 256 ≤ 2048) (inb) (car : FVec Ideal S1x512 .f32) (w : Fin 512) (hx : car (ix2 0 w) = upto (e m c t ⟨w.val / 64, by omega⟩) o) (r : Fin 256) :
    CW car (L m c t o inb) (ix2 r w) = upto (e m c t ⟨w.val / 64, by omega⟩) (o + r.val + 1) := by
  refine (CW_sum _ _ _ w (fun q => L_eq m c t o ho inb ⟨w.val / 64, by omega⟩ q) r).trans ?_
  rw [hx]; exact e_blk m c t o ho _ r

theorem stepR (o : ℕ) (ho : o + 256 ≤ 2048) (inb) (car : FVec Ideal S128x1 .f32) (h : Fin 8) (hx : car (ix2 ⟨h.val, by omega⟩ 0) = upto (e m c t h) o) (r : Fin 256) :
    CR car (L m c t o inb) (ix2 ⟨h.val, by omega⟩ r) = upto (e m c t h) (o + r.val + 1) := by
  refine (CR_sum _ _ _ _ (fun q => L_eq m c t o ho inb h q) r).trans ?_
  rw [hx]; exact e_blk m c t o ho _ r

/-- The row carried to the next block. -/
abbrev RW (car : FVec Ideal S1x512 .f32) (x : FVec Ideal S256x128 .f32) : FVec Ideal S1x512 .f32 := k0_pay31 k0_pay4 k0_pay6 car x k0_pay23
/-- The column carried to the next block. -/
abbrev RR (car : FVec Ideal S128x1 .f32) (x : FVec Ideal S256x128 .f32) : FVec Ideal S128x1 .f32 := k0_pay32 k0_pay5 car x
/-- The eight stored rows. -/
abbrev CE (car : FVec Ideal S128x1 .f32) (x : FVec Ideal S256x128 .f32) : FVec Ideal S8x256 .f32 := k0_pay30 k0_pay5 car x

theorem RW_eq (car x w) : RW car x (ix2 0 w) = CW car x (ix2 ⟨255, by decide⟩ w) := by pointwise [RW, k0_pay31]
theorem RR_eq (car x) (h : Fin 128) : RR car x (ix2 h 0) = CR car x (ix2 h ⟨255, by decide⟩) := by pointwise [RR, k0_pay32]
theorem CE_eq (car x) (h : Fin 8) (r : Fin 256) : CE car x (ix2 h r) = CR car x (ix2 ⟨h.val, by omega⟩ r) := by pointwise [CE, k0_pay30]

abbrev W0 : FVec Ideal S1x512 .f32 := k0_pay7
abbrev W1 : FVec Ideal S1x512 .f32 := RW W0 (L m c t 0 inb_S2048x128_S256x128_0_0)
abbrev W2 : FVec Ideal S1x512 .f32 := RW (W1 m c t) (L m c t 256 inb_S2048x128_S256x128_256_0)
abbrev W3 : FVec Ideal S1x512 .f32 := RW (W2 m c t) (L m c t 512 inb_S2048x128_S256x128_512_0)
abbrev W4 : FVec Ideal S1x512 .f32 := RW (W3 m c t) (L m c t 768 inb_S2048x128_S256x128_768_0)
abbrev W5 : FVec Ideal S1x512 .f32 := RW (W4 m c t) (L m c t 1024 inb_S2048x128_S256x128_1024_0)
abbrev W6 : FVec Ideal S1x512 .f32 := RW (W5 m c t) (L m c t 1280 inb_S2048x128_S256x128_1280_0)
abbrev W7 : FVec Ideal S1x512 .f32 := RW (W6 m c t) (L m c t 1536 inb_S2048x128_S256x128_1536_0)
abbrev C0 : FVec Ideal S128x1 .f32 := k0_pay8
abbrev C1 : FVec Ideal S128x1 .f32 := RR C0 (L m c t 0 inb_S2048x128_S256x128_0_0)
abbrev C2 : FVec Ideal S128x1 .f32 := RR (C1 m c t) (L m c t 256 inb_S2048x128_S256x128_256_0)
abbrev C3 : FVec Ideal S128x1 .f32 := RR (C2 m c t) (L m c t 512 inb_S2048x128_S256x128_512_0)
abbrev C4 : FVec Ideal S128x1 .f32 := RR (C3 m c t) (L m c t 768 inb_S2048x128_S256x128_768_0)
abbrev C5 : FVec Ideal S128x1 .f32 := RR (C4 m c t) (L m c t 1024 inb_S2048x128_S256x128_1024_0)
abbrev C6 : FVec Ideal S128x1 .f32 := RR (C5 m c t) (L m c t 1280 inb_S2048x128_S256x128_1280_0)
abbrev C7 : FVec Ideal S128x1 .f32 := RR (C6 m c t) (L m c t 1536 inb_S2048x128_S256x128_1536_0)

theorem w0 (w : Fin 512) : W0 (ix2 0 w) = upto (e m c t ⟨w.val / 64, by omega⟩) 0 := by
  rw [PrepSpec.upto, Finset.range_zero, Finset.sum_empty]; pointwise [W0, k0_pay7]
theorem c0 (h : Fin 8) : C0 (ix2 ⟨h.val, by omega⟩ 0) = upto (e m c t h) 0 := by
  rw [PrepSpec.upto, Finset.range_zero, Finset.sum_empty]; pointwise [C0, k0_pay8]
theorem w1 (w : Fin 512) : W1 m c t (ix2 0 w) = upto (e m c t ⟨w.val / 64, by omega⟩) 256 :=
  (RW_eq _ _ w).trans (stepW m c t 0 (by decide) _ _ w (w0 m c t w) _)
theorem w2 (w : Fin 512) : W2 m c t (ix2 0 w) = upto (e m c t ⟨w.val / 64, by omega⟩) 512 :=
  (RW_eq _ _ w).trans (stepW m c t 256 (by decide) _ _ w (w1 m c t w) _)
theorem w3 (w : Fin 512) : W3 m c t (ix2 0 w) = upto (e m c t ⟨w.val / 64, by omega⟩) 768 :=
  (RW_eq _ _ w).trans (stepW m c t 512 (by decide) _ _ w (w2 m c t w) _)
theorem w4 (w : Fin 512) : W4 m c t (ix2 0 w) = upto (e m c t ⟨w.val / 64, by omega⟩) 1024 :=
  (RW_eq _ _ w).trans (stepW m c t 768 (by decide) _ _ w (w3 m c t w) _)
theorem w5 (w : Fin 512) : W5 m c t (ix2 0 w) = upto (e m c t ⟨w.val / 64, by omega⟩) 1280 :=
  (RW_eq _ _ w).trans (stepW m c t 1024 (by decide) _ _ w (w4 m c t w) _)
theorem w6 (w : Fin 512) : W6 m c t (ix2 0 w) = upto (e m c t ⟨w.val / 64, by omega⟩) 1536 :=
  (RW_eq _ _ w).trans (stepW m c t 1280 (by decide) _ _ w (w5 m c t w) _)
theorem w7 (w : Fin 512) : W7 m c t (ix2 0 w) = upto (e m c t ⟨w.val / 64, by omega⟩) 1792 :=
  (RW_eq _ _ w).trans (stepW m c t 1536 (by decide) _ _ w (w6 m c t w) _)
theorem c1 (h : Fin 8) : C1 m c t (ix2 ⟨h.val, by omega⟩ 0) = upto (e m c t h) 256 :=
  (RR_eq _ _ _).trans (stepR m c t 0 (by decide) _ _ h (c0 m c t h) _)
theorem c2 (h : Fin 8) : C2 m c t (ix2 ⟨h.val, by omega⟩ 0) = upto (e m c t h) 512 :=
  (RR_eq _ _ _).trans (stepR m c t 256 (by decide) _ _ h (c1 m c t h) _)
theorem c3 (h : Fin 8) : C3 m c t (ix2 ⟨h.val, by omega⟩ 0) = upto (e m c t h) 768 :=
  (RR_eq _ _ _).trans (stepR m c t 512 (by decide) _ _ h (c2 m c t h) _)
theorem c4 (h : Fin 8) : C4 m c t (ix2 ⟨h.val, by omega⟩ 0) = upto (e m c t h) 1024 :=
  (RR_eq _ _ _).trans (stepR m c t 768 (by decide) _ _ h (c3 m c t h) _)
theorem c5 (h : Fin 8) : C5 m c t (ix2 ⟨h.val, by omega⟩ 0) = upto (e m c t h) 1280 :=
  (RR_eq _ _ _).trans (stepR m c t 1024 (by decide) _ _ h (c4 m c t h) _)
theorem c6 (h : Fin 8) : C6 m c t (ix2 ⟨h.val, by omega⟩ 0) = upto (e m c t h) 1536 :=
  (RR_eq _ _ _).trans (stepR m c t 1280 (by decide) _ _ h (c5 m c t h) _)
theorem c7 (h : Fin 8) : C7 m c t (ix2 ⟨h.val, by omega⟩ 0) = upto (e m c t h) 1792 :=
  (RR_eq _ _ _).trans (stepR m c t 1536 (by decide) _ _ h (c6 m c t h) _)

/-- The running sums along a point's sequence. -/
abbrev G (h : Fin 8) : Fin 2048 → EReal := cum (X0 m c) (X1 m c) (bt t) h

theorem pieceW (o : ℕ) (ho : o + 256 ≤ 2048) (inb) (car : FVec Ideal S1x512 .f32) (hx : ∀ w : Fin 512, car (ix2 0 w) = upto (e m c t ⟨w.val / 64, by omega⟩) o)
    (j : S2048x512.Idx) (x : S256x512.Idx) (h0 : (j 0).val = o + (x 0).val) (h1 : (j 1).val = (x 1).val) :
    CW car (L m c t o inb) x = G m c t ⟨(j 1).val / 64, by have : (j 1).val < 512 := (j 1).isLt; omega⟩ (j 0) := by
  idx_vars x
  refine (stepW m c t o ho inb car x1 (hx x1) x0).trans ?_
  have a : x1 = j 1 := Fin.ext h1.symm
  subst a
  exact congrArg (fun n => upto (e m c t _) (n + 1)) h0.symm

theorem pieceR (o : ℕ) (ho : o + 256 ≤ 2048) (inb) (car : FVec Ideal S128x1 .f32) (hx : ∀ h : Fin 8, car (ix2 ⟨h.val, by omega⟩ 0) = upto (e m c t h) o)
    (j : S8x2048.Idx) (x : S8x256.Idx) (h0 : (j 0).val = (x 0).val) (h1 : (j 1).val = o + (x 1).val) :
    CE car (L m c t o inb) x = G m c t (j 0) (j 1) := by
  idx_vars x
  refine (CE_eq _ _ _ _).trans ((stepR m c t o ho inb car x0 (hx x0) x1).trans ?_)
  have a : x0 = j 0 := Fin.ext h0.symm
  subst a
  exact congrArg (fun n => upto (e m c t _) (n + 1)) h1.symm

theorem leftW (j : S2048x512.Idx) : View.canon (Val := Elt Ideal) (s := S2048x512) (e := .f32) [⟨Rect.unit ![1792, 0] ![256, 512] inb_S2048x512_S256x512_1792_0, CW (W7 m c t) (L m c t 1792 inb_S2048x128_S256x128_1792_0)⟩,
    ⟨Rect.unit ![1536, 0] ![256, 512] inb_S2048x512_S256x512_1536_0, CW (W6 m c t) (L m c t 1536 inb_S2048x128_S256x128_1536_0)⟩,
    ⟨Rect.unit ![1280, 0] ![256, 512] inb_S2048x512_S256x512_1280_0, CW (W5 m c t) (L m c t 1280 inb_S2048x128_S256x128_1280_0)⟩,
    ⟨Rect.unit ![1024, 0] ![256, 512] inb_S2048x512_S256x512_1024_0, CW (W4 m c t) (L m c t 1024 inb_S2048x128_S256x128_1024_0)⟩,
    ⟨Rect.unit ![768, 0] ![256, 512] inb_S2048x512_S256x512_768_0, CW (W3 m c t) (L m c t 768 inb_S2048x128_S256x128_768_0)⟩,
    ⟨Rect.unit ![512, 0] ![256, 512] inb_S2048x512_S256x512_512_0, CW (W2 m c t) (L m c t 512 inb_S2048x128_S256x128_512_0)⟩,
    ⟨Rect.unit ![256, 0] ![256, 512] inb_S2048x512_S256x512_256_0, CW (W1 m c t) (L m c t 256 inb_S2048x128_S256x128_256_0)⟩,
    ⟨Rect.unit ![0, 0] ![256, 512] inb_S2048x512_S256x512_0_0, CW W0 (L m c t 0 inb_S2048x128_S256x128_0_0)⟩] j
    = G m c t ⟨(j 1).val / 64, by have : (j 1).val < 512 := (j 1).isLt; omega⟩ (j 0) := by
  canon_tiles x h
  · exact pieceW m c t 1792 (by decide) _ _ (w7 m c t) j x (by omega) (by omega)
  · exact pieceW m c t 1536 (by decide) _ _ (w6 m c t) j x (by omega) (by omega)
  · exact pieceW m c t 1280 (by decide) _ _ (w5 m c t) j x (by omega) (by omega)
  · exact pieceW m c t 1024 (by decide) _ _ (w4 m c t) j x (by omega) (by omega)
  · exact pieceW m c t 768 (by decide) _ _ (w3 m c t) j x (by omega) (by omega)
  · exact pieceW m c t 512 (by decide) _ _ (w2 m c t) j x (by omega) (by omega)
  · exact pieceW m c t 256 (by decide) _ _ (w1 m c t) j x (by omega) (by omega)
  · exact pieceW m c t 0 (by decide) _ _ (w0 m c t) j x (by omega) (by omega)

theorem leftR (j : S8x2048.Idx) : View.canon (Val := Elt Ideal) (s := S8x2048) (e := .f32) [⟨Rect.unit ![0, 1792] ![8, 256] inb_S8x2048_S8x256_0_1792, CE (C7 m c t) (L m c t 1792 inb_S2048x128_S256x128_1792_0)⟩,
    ⟨Rect.unit ![0, 1536] ![8, 256] inb_S8x2048_S8x256_0_1536, CE (C6 m c t) (L m c t 1536 inb_S2048x128_S256x128_1536_0)⟩,
    ⟨Rect.unit ![0, 1280] ![8, 256] inb_S8x2048_S8x256_0_1280, CE (C5 m c t) (L m c t 1280 inb_S2048x128_S256x128_1280_0)⟩,
    ⟨Rect.unit ![0, 1024] ![8, 256] inb_S8x2048_S8x256_0_1024, CE (C4 m c t) (L m c t 1024 inb_S2048x128_S256x128_1024_0)⟩,
    ⟨Rect.unit ![0, 768] ![8, 256] inb_S8x2048_S8x256_0_768, CE (C3 m c t) (L m c t 768 inb_S2048x128_S256x128_768_0)⟩,
    ⟨Rect.unit ![0, 512] ![8, 256] inb_S8x2048_S8x256_0_512, CE (C2 m c t) (L m c t 512 inb_S2048x128_S256x128_512_0)⟩,
    ⟨Rect.unit ![0, 256] ![8, 256] inb_S8x2048_S8x256_0_256, CE (C1 m c t) (L m c t 256 inb_S2048x128_S256x128_256_0)⟩,
    ⟨Rect.unit ![0, 0] ![8, 256] inb_S8x2048_S8x256_0_0, CE C0 (L m c t 0 inb_S2048x128_S256x128_0_0)⟩] j = G m c t (j 0) (j 1) := by
  canon_tiles x h
  · exact pieceR m c t 1792 (by decide) _ _ (c7 m c t) j x (by omega) (by omega)
  · exact pieceR m c t 1536 (by decide) _ _ (c6 m c t) j x (by omega) (by omega)
  · exact pieceR m c t 1280 (by decide) _ _ (c5 m c t) j x (by omega) (by omega)
  · exact pieceR m c t 1024 (by decide) _ _ (c4 m c t) j x (by omega) (by omega)
  · exact pieceR m c t 768 (by decide) _ _ (c3 m c t) j x (by omega) (by omega)
  · exact pieceR m c t 512 (by decide) _ _ (c2 m c t) j x (by omega) (by omega)
  · exact pieceR m c t 256 (by decide) _ _ (c1 m c t) j x (by omega) (by omega)
  · exact pieceR m c t 0 (by decide) _ _ (c0 m c t) j x (by omega) (by omega)

theorem emb2 (r : Fin 2048) (l : Fin 512) : ((View.whole main_v5_0).slice (win0_2.rect t)).emb (ix2 r l) = ix2 (tk t r) l := by blk_ext [idx t, tk]
theorem emb3 (h : Fin 8) (l : Fin 2048) : ((View.whole main_v5_1).slice (win0_3.rect t)).emb (ix2 h l) = ix2 (hr t h) l := by blk_ext [idx t, hr]

theorem arr2 : (dats m 0 c).arrAt 2 cfg0.N = out0 (X0 m c) (X1 m c) := by
  refine (dats m 0 c).arrAt_eq_of_covers 2 _ (by decide +kernel) fun t hf y => ?_
  blk_simp
  rw [after0_2]
  refine (leftW m c t y).trans ?_
  idx_vars y; erw [emb2]
  exact (congrArg₂ (fun b s => cum (X0 m c) (X1 m c) b _ s) (tk_div t y0 _) (tk_mod t y0 _)).symm

theorem arr3 : (dats m 0 c).arrAt 3 cfg0.N = out1 (X0 m c) (X1 m c) := by
  refine (dats m 0 c).arrAt_eq_of_covers 3 _ (by decide +kernel) fun t hf y => ?_
  blk_simp
  rw [after0_3]
  refine (leftR m c t y).trans ?_
  idx_vars y; erw [emb3]
  exact (congrArg₂ (fun b h => cum (X0 m c) (X1 m c) b h y1) (hr_div t y0 _) (hr_mod t y0 _)).symm

end Cert.PrepIdeal.Blocks
end
-- ==== Proof.PrepRefValue.lean ====
/- The reference's running sums of the forget gates, at every entry. -/
module

public import proofs.«01_k».proof.Proof.PrepSpec
public import proofs.«01_k».proof.Proof.PostRefValue
public import proofs.«01_k».proof.Proof.Gen.PrepRefIdeal.Read

@[expose] public section

set_option maxRecDepth 16384

noncomputable section

namespace Cert.PrepRefValue

open Idealize.ShloMosaic Idealize.SL.Sem Cert.PrepRefIdeal Cert.PrepRefIdeal.Gen Cert.PrepRefIdeal.Read Cert.Common Cert.RealKit Cert.PrepSpec
open Cert.Window (foldl_sum sum_front)
open Cert.PostRefValue (at2 at2_bij)
open scoped BigOperators

/-- The running sum from the beginning, along the last of three axes. -/
theorem from_start3 {A B N : ℕ} {u : Shape} (x : FVec Ideal ⟨3, ![A, B, N]⟩ .f32) (init : u.Idx → EReal) (m : ℕ) (hm : m = N - 1)
    (h : (⟨3, ![A, B, N]⟩ : Shape).ReduceWindows ![1, 1, N] ![1, 1, 1] ![0, 0, m] ![0, 0, 0] ⟨3, ![A, B, N]⟩) (hu : 0 < u.numel)
    (hi0 : init (Shape.Idx.first hu) = 0) (a : Fin A) (b : Fin B) (s : Fin N) :
    (Host.reduceWindowAdd (![1, 1, N] : Fin 3 → ℕ) ![1, 1, 1] ![0, 0, m] ![0, 0, 0] x init h hu : FVec Ideal ⟨3, ![A, B, N]⟩ .f32) (ix3 a b s)
      = ∑ j : Fin N, if j ≤ s then (x (ix3 a b j) : EReal) else 0 := by
  subst hm
  refine (foldl_sum _ _ _).trans ?_
  rw [hi0, zero_add, ← List.ofFn_eq_map, List.sum_ofFn]
  refine (Function.Bijective.sum_comp at2_bij _).symm.trans ((Finset.sum_congr rfl fun l _ => ?_).trans (sum_front (fun j => (x (ix3 a b j) : EReal)) s))
  dsimp only
  simp only [Equiv.symm_apply_apply]
  have h0 := a.isLt
  have h1 := b.isLt
  have h2 := s.isLt
  have h3 := l.isLt
  by_cases hl : N - 1 ≤ s.val + l.val
  · rw [dif_pos hl]
    refine (dif_pos fun i => ?_).trans (congrArg x (funext fun i => Fin.ext ?_))
    · match i with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show N - 1 ≤ s.val * 1 + l.val ∧ s.val * 1 + l.val - (N - 1) < N; omega
    · match i with
      | ⟨0, _⟩ => show a.val * 1 + 0 - 0 = a.val; omega
      | ⟨1, _⟩ => show b.val * 1 + 0 - 0 = b.val; omega
      | ⟨2, _⟩ => show s.val * 1 + l.val - (N - 1) = s.val + l.val - (N - 1); omega
  · rw [dif_neg hl]
    refine dif_neg fun hc => ?_
    have := (hc 2).1
    change N - 1 ≤ s.val * 1 + l.val at this
    omega

variable (x0 : M3 2 2048 8) (x1 : M2 1 8)

/-- The logarithm of the sigmoid, as the library computes it. -/
theorem soft (y : EReal) : -(if -y ≠ -y then -y else max (-y) 0 + Ideal.log1p (Ideal.exp (-FloatOps.absf (F := Ideal) (φ := .f32) (-y)))) = ls y := by
  have e : (FloatOps.absf (F := Ideal) (φ := .f32) (-y) : EReal) = FloatOps.absf (F := Ideal) (φ := .f32) y := by
    show max (-y) (- -y) = max y (-y)
    rw [neg_neg, max_comm]
  rw [if_neg (by simp), e]; rfl

theorem r5 (b : Fin 2) (h : Fin 8) (s : Fin 2048) :
    (val_main_v5 (F := Ideal) x0 x1 : FVec Ideal S2x8x2048 .f32) (ix3 b h s) = lf x0 x1 b h s.val := by
  pointwise [val_main_v5, val_main_v4, val_main_call0_v1, val_main_call0_call0_v4, val_main_call0_call0_v3, val_main_call0_call0_v6, val_main_call0_call0_v5, val_main_call0_call0_v11, val_main_call0_call0_v10,
    val_main_call0_call0_v9, val_main_call0_call0_v8, val_main_call0_call0_v7, val_main_call0_call0_v1, val_main_call0_call0_v0, val_main_call0_call0_v2, val_main_call0_call0_cst, val_main_call0_v0,
    val_main_v3, val_main_v2, val_main_v1, val_main_v0]
  rw [lf, dif_pos s.isLt]
  exact soft _

theorem r6 (b : Fin 2) (h : Fin 8) (s : Fin 2048) :
    (val_main_v6 (F := Ideal) x0 x1 : FVec Ideal S2x8x2048 .f32) (ix3 b h s) = cum x0 x1 b h s := by
  unfold val_main_v6
  refine (from_start3 _ _ 2047 rfl _ _ (by pointwise [val_main_call1_call0_v0, val_main_call1_call0_cst]) b h s).trans ?_
  rw [cum, upto_fin _ _ s.isLt]
  refine Finset.sum_congr rfl fun j _ => ?_
  rw [r5]
  by_cases hs : j ≤ s
  · rw [if_pos hs, if_pos (Fin.le_def.1 hs)]
  · rw [if_neg hs, if_neg (fun q => hs (Fin.le_def.2 q))]

theorem res0 : (val_main_v10 (F := Ideal) x0 x1 : M2 4096 512) = out0 x0 x1 := by
  funext y
  idx_vars y
  have e := fun (b : Fin 2) (h : Fin 8) (s : Fin 2048) => r6 x0 x1 b h s
  pointwise [val_main_v10, val_main_v9, val_main_v8, val_main_v7]
  exact (e _ _ _).trans rfl

theorem res1 : (val_main_v11 (F := Ideal) x0 x1 : M2 16 2048) = out1 x0 x1 := by
  funext y
  idx_vars y
  have e := fun (b : Fin 2) (h : Fin 8) (s : Fin 2048) => r6 x0 x1 b h s
  pointwise [val_main_v11]
  exact (e _ _ _).trans rfl

end Cert.PrepRefValue
end
-- ==== Proof.PrepClaim.lean ====
/- The five claims of the forget gates' running sums. -/
module

public import proofs.«01_k».proof.Defs
public import proofs.«01_k».proof.Proof.Gen.Prep.Frame
public import proofs.«01_k».proof.Proof.Gen.PrepRefIdeal.Run
public import proofs.«01_k».proof.Proof.PrepValue
public import proofs.«01_k».proof.Proof.PrepRefValue

@[expose] public section

noncomputable section

namespace Cert.Proof.Prep

open Idealize.ShloMosaic Idealize.SL.Sem Cert.Common Cert.PrepSpec Cert.PrepRefValue Cert.PrepIdeal.Blocks

theorem frameP : Cert.quiescent_Prep (hPrep := Cert.Prep.Gen.facts) := fun m ρ _ => Cert.Prep.Gen.frame m ρ
theorem frameI : Cert.quiescent_PrepIdeal (hPrepIdeal := Cert.PrepIdeal.Gen.facts) := fun m ρ _ => Cert.PrepIdeal.Gen.frame m ρ
theorem frameR : Cert.quiescent_PrepRefIdeal (hPrepRefIdeal := Cert.PrepRefIdeal.Gen.facts) := fun m ρ _ =>
  (θ_run Cert.PrepRefIdeal.defs _ _).mono (fun r h => ⟨fun c => (h c).2.2, sem_eq_zero_of_no_sems (by decide) r.2⟩) (Cert.PrepRefIdeal.Value.run (F := Ideal) m ρ)
theorem preserves : Cert.preserves_Prep_PrepIdeal := trivial

theorem algebraic : Cert.algebraic_PrepIdeal_PrepRefIdeal (hPrepIdeal := Cert.PrepIdeal.Gen.facts) (hPrepRefIdeal := Cert.PrepRefIdeal.Gen.facts) := by
  intro m ρ m' ρ' _ hag
  refine ⟨fun c => out0 (X0 m c) (X1 m c), fun c => out1 (X0 m c) (X1 m c), ?_, ?_⟩
  · refine (θ_run _ _ _).mono (fun r h c => ?_) (Cert.PrepIdeal.Value.run_blocks m ρ)
    obtain ⟨h0, h1, hr⟩ := h c
    exact ⟨h0.trans (arr2 m c), h1.trans (arr3 m c), hr⟩
  · refine (θ_run _ _ _).mono (fun r h c => ?_) (Cert.PrepRefIdeal.Value.run m' ρ')
    obtain ⟨h0, h1, hr⟩ := h c
    obtain ⟨a0, a1⟩ := hag c
    have e0 : (m' ((c.tc : Thread Cert.PrepRefIdeal.nD Cert.PrepRefIdeal.τ).loc Cert.PrepRefIdeal.main_arg0) : M3 2 2048 8) = X0 m c := a0
    have e1 : (m' ((c.tc : Thread Cert.PrepRefIdeal.nD Cert.PrepRefIdeal.τ).loc Cert.PrepRefIdeal.main_arg1) : M2 1 8) = X1 m c := a1
    refine ⟨h0.trans ?_, h1.trans ?_, hr⟩
    · refine (Cert.PrepRefIdeal.Read.val_main_v10_eq ..).trans ?_
      rw [e0, e1]; exact res0 _ _
    · refine (Cert.PrepRefIdeal.Read.val_main_v11_eq ..).trans ?_
      rw [e0, e1]; exact res1 _ _

end Cert.Proof.Prep
end
-- ==== Proof.HeadSpec.lean ====
/- The loss and its gradient through the final norm and the per-layer embedding gate: the values. -/
module

public import proofs.«01_k».proof.Proof.NormSpec

@[expose] public section

noncomputable section

namespace Cert.HeadSpec

open Idealize.ShloMosaic Cert.Common Cert.NormSpec
open scoped BigOperators

/-- An array of four axes over the extended reals. -/
abbrev M4 (a b c d : ℕ) : Type := (⟨4, ![a, b, c, d]⟩ : Shape).Idx → EReal
/-- An array of one axis over the extended reals. -/
abbrev M1 (a : ℕ) : Type := (⟨1, ![a]⟩ : Shape).Idx → EReal
/-- One half. -/
abbrev half : EReal := Ideal.ofBits .f32 0x3F000000#32
/-- One over the width of a row. -/
abbrev iwid : EReal := Ideal.ofBits .f32 0x3A800000#32

theorem half_eq : half = ((1 / 2 : ℝ) : EReal) := by
  simp [half, Ideal.ofBits, Ideal.ieee, -EReal.coe_mul]; norm_num
theorem iwid_eq : iwid = ((1 / 1024 : ℝ) : EReal) := by
  simp [iwid, Ideal.ofBits, Ideal.ieee, -EReal.coe_mul]; norm_num
theorem two_eq : Ideal.ofBits .f32 0x40000000#32 = ((2 : ℝ) : EReal) := by
  simp [Ideal.ofBits, Ideal.ieee, -EReal.coe_mul]; norm_num

variable (x0 : M3 2 2048 1024) (x1 : M2 1 1024) (x2 : M4 1 2 2048 256) (x3 : M3 1 1024 1024) (x4 : M3 1 256 1024) (x5 : M1 1024) (x6 : M3 2 2048 1024) (i : Fin 4096) (j : Fin 1024)

/-- A token's per-layer embedding. -/
def emb (k : Fin 256) : EReal := x2 (ix4 0 ⟨i.val / 2048, by omega⟩ ⟨i.val % 2048, by omega⟩ k)
/-- The gate. -/
def gp : EReal := Ideal.logistic (∑ k : Fin 1024, unit (tok x0 i) k * x1 (ix2 0 k) * x3 (ix3 0 k j))
/-- The embedding's projection. -/
def pe : EReal := ∑ k : Fin 256, emb x2 i k * x4 (ix3 0 k j)
/-- The final norm's input. -/
def xf : EReal := tok x0 i j + gp x0 x1 x3 i j * pe x2 x4 i j
/-- A row of it. -/
abbrev xr : Fin 1024 → EReal := fun k => xf x0 x1 x2 x3 x4 i k
/-- The scaled normalised row less the target. -/
def err : EReal := unit (xr x0 x1 x2 x3 x4 i) j * x5 (ix1 j) - tok x6 i j
/-- The loss's cotangent of the scaled normalised row. -/
def dy : EReal := err x0 x1 x2 x3 x4 x5 x6 i j * iwid
/-- The final norm's input's cotangent. -/
def dx3E : EReal := back (xr x0 x1 x2 x3 x4 i) (fun k => dy x0 x1 x2 x3 x4 x5 x6 i k) (fun k => x5 (ix1 k)) j
/-- The gate's pre-activation's cotangent. -/
def dpreE : EReal := dx3E x0 x1 x2 x3 x4 x5 x6 i j * pe x2 x4 i j * gp x0 x1 x3 i j * (1 - gp x0 x1 x3 i j)
/-- The projection's cotangent. -/
def dpeE : EReal := dx3E x0 x1 x2 x3 x4 x5 x6 i j * gp x0 x1 x3 i j
/-- A token's mean square error. -/
def mse : EReal := Ideal.div (∑ k : Fin 1024, err x0 x1 x2 x3 x4 x5 x6 i k * err x0 x1 x2 x3 x4 x5 x6 i k) wid

/-! The five results. -/

def dx3 : M2 4096 1024 := fun y => dx3E x0 x1 x2 x3 x4 x5 x6 (y 0) (y 1)
def dpre : M2 4096 1024 := fun y => dpreE x0 x1 x2 x3 x4 x5 x6 (y 0) (y 1)
def dpe : M2 4096 1024 := fun y => dpeE x0 x1 x2 x3 x4 x5 x6 (y 0) (y 1)
def dg : M2 1 1024 := fun y => ∑ i : Fin 4096, dy x0 x1 x2 x3 x4 x5 x6 i (y 1) * unit (xr x0 x1 x2 x3 x4 i) (y 1)
def loss : M2 1 128 := fun _ => half * ∑ i : Fin 4096, mse x0 x1 x2 x3 x4 x5 x6 i

end Cert.HeadSpec
end
-- ==== Proof.HeadValue.lean ====
/- The loss and its gradient: the kernel's five results. -/
module

public import proofs.«01_k».proof.Proof.Gen.HeadIdeal.Value
public import proofs.«01_k».proof.Proof.HeadSpec
public import Idealize.ShloMosaic.Lib.Pipeline.ReadBack

@[expose] public section

set_option maxRecDepth 16384

noncomputable section

namespace Cert.HeadIdeal.Blocks

open Idealize.ShloMosaic Idealize.SL.Sem Cert.HeadIdeal Cert.HeadIdeal.Gen Cert.Common Cert.NormSpec Cert.HeadSpec
open scoped BigOperators

/-! The body's values over blocks. -/

theorem p7 (v0 : Vec Ideal S512x1024 .bf16) (v2 : Vec Ideal S1024x1024 .bf16) (r : Fin 512) (l : Fin 1024) :
    k0_pay7 v0 v2 (ix2 r l) = Ideal.logistic (∑ k : Fin 1024, v0 (ix2 r k) * v2 (ix2 k l)) := by
  pointwise [k0_pay7]

theorem p8 (v6 : Vec Ideal S512x256 .f32) (w0 w1 w2 w3 : Vec Ideal S1x256x256 .bf16) (B : Fin 256 → Fin 1024 → EReal)
    (h0 : ∀ k l : Fin 256, w0 (ix3 0 k l) = B k ⟨l.val, by omega⟩) (h1 : ∀ k l : Fin 256, w1 (ix3 0 k l) = B k ⟨256 + l.val, by omega⟩)
    (h2 : ∀ k l : Fin 256, w2 (ix3 0 k l) = B k ⟨512 + l.val, by omega⟩) (h3 : ∀ k l : Fin 256, w3 (ix3 0 k l) = B k ⟨768 + l.val, by omega⟩)
    (r : Fin 512) (l : Fin 1024) : k0_pay8 v6 w0 w1 w2 w3 (ix2 r l) = ∑ k : Fin 256, v6 (ix2 r k) * B k l := by
  pointwise [k0_pay8]
  by_cases a1 : l.val < 256
  · refine (dif_pos a1).trans ?_
    exact Finset.sum_congr rfl fun k _ => congrArg (fun b : EReal => v6 (ix2 r k) * b) (h0 k ⟨l.val, a1⟩)
  refine (dif_neg a1).trans ?_
  by_cases a2 : l.val - 256 < 256
  · refine (dif_pos a2).trans ?_
    exact Finset.sum_congr rfl fun k _ => congrArg (fun b : EReal => v6 (ix2 r k) * b) ((h1 k ⟨l.val - 256, a2⟩).trans (congrArg (B k) (Fin.ext (show 256 + (l.val - 256) = l.val by omega))))
  refine (dif_neg a2).trans ?_
  by_cases a3 : l.val - 256 - 256 < 256
  · refine (dif_pos a3).trans ?_
    exact Finset.sum_congr rfl fun k _ => congrArg (fun b : EReal => v6 (ix2 r k) * b) ((h2 k ⟨l.val - 256 - 256, a3⟩).trans (congrArg (B k) (Fin.ext (show 512 + (l.val - 256 - 256) = l.val by omega))))
  refine (dif_neg a3).trans ?_
  exact Finset.sum_congr rfl fun k _ => congrArg (fun b : EReal => v6 (ix2 r k) * b) ((h3 k ⟨l.val - 256 - 256 - 256, by omega⟩).trans (congrArg (B k) (Fin.ext (show 768 + (l.val - 256 - 256 - 256) = l.val by omega))))

theorem p9 (v0 : Vec Ideal S512x1024 .bf16) (v2 : Vec Ideal S1024x1024 .bf16) (v6 : Vec Ideal S512x256 .f32) (w0 w1 w2 w3 : Vec Ideal S1x256x256 .bf16) (v22 : Vec Ideal S512x1024 .f32) (r : Fin 512) (l : Fin 1024) :
    k0_pay9 v0 v2 v6 w0 w1 w2 w3 v22 (ix2 r l) = v22 (ix2 r l) + k0_pay7 v0 v2 (ix2 r l) * k0_pay8 v6 w0 w1 w2 w3 (ix2 r l) := by
  pointwise [k0_pay9]
theorem p10 (v26 : Vec Ideal S1x1024 .f32) (l : Fin 1024) : k0_pay10 v26 (ix2 0 l) = v26 (ix2 0 l) := by
  pointwise [k0_pay10]
theorem p11 (v0 : Vec Ideal S512x1024 .bf16) (v2 : Vec Ideal S1024x1024 .bf16) (v6 : Vec Ideal S512x256 .f32) (w0 w1 w2 w3 : Vec Ideal S1x256x256 .bf16) (v22 : Vec Ideal S512x1024 .f32) (r : Fin 512) :
    k0_pay11 v0 v2 v6 w0 w1 w2 w3 v22 (ix2 r 0) = ∑ k : Fin 1024, k0_pay9 v0 v2 v6 w0 w1 w2 w3 v22 (ix2 r k) * k0_pay9 v0 v2 v6 w0 w1 w2 w3 v22 (ix2 r k) := by
  pointwise [k0_pay11]
theorem p12 (v25 : FVec Ideal S512x1024 .f32) (v27 : FVec Ideal S1x1024 .f32) (v30 : FVec Ideal S512x1 .f32) (v40 : Vec Ideal S512x1024 .f32) (r : Fin 512) (l : Fin 1024)
    (h : v30 (ix2 r 0) = ∑ k : Fin 1024, v25 (ix2 r k) * v25 (ix2 r k)) :
    k0_pay12 v25 v27 v30 v40 (ix2 r l) = unit (fun k => v25 (ix2 r k)) l * v27 (ix2 0 l) - v40 (ix2 r l) := by
  show _ = v25 (ix2 r l) * Ideal.rsqrt (Ideal.div (∑ k : Fin 1024, v25 (ix2 r k) * v25 (ix2 r k)) wid + eps) * v27 (ix2 0 l) - v40 (ix2 r l)
  rw [← h]; pointwise [k0_pay12]
theorem p13 (v25 : FVec Ideal S512x1024 .f32) (v27 : FVec Ideal S1x1024 .f32) (v30 : FVec Ideal S512x1 .f32) (v40 : Vec Ideal S512x1024 .f32) (r : Fin 512) (l : Fin 1024) :
    k0_pay13 v25 v27 v30 v40 (ix2 r l) = k0_pay12 v25 v27 v30 v40 (ix2 r l) * iwid := by
  pointwise [k0_pay13]
theorem p14 (v25 : FVec Ideal S512x1024 .f32) (r : Fin 512) : k0_pay14 v25 (ix2 r 0) = inv (fun k => v25 (ix2 r k)) := by
  pointwise [k0_pay14]; rfl
theorem p15 (v25 : FVec Ideal S512x1024 .f32) (r : Fin 512) (l : Fin 1024) : k0_pay15 v25 (ix2 r l) = unit (fun k => v25 (ix2 r k)) l := by
  rw [unit, ← p14]; pointwise [k0_pay15]
theorem p16 (v25 : FVec Ideal S512x1024 .f32) (v27 : FVec Ideal S1x1024 .f32) (v30 : FVec Ideal S512x1 .f32) (v40 : Vec Ideal S512x1024 .f32) (r : Fin 512) (l : Fin 1024) :
    k0_pay16 v25 v27 v30 v40 (ix2 r l) = back (fun k => v25 (ix2 r k)) (fun k => k0_pay13 v25 v27 v30 v40 (ix2 r k)) (fun k => v27 (ix2 0 k)) l := by
  have e : ∀ k, unit (fun k => v25 (ix2 r k)) k = k0_pay15 v25 (ix2 r k) := fun k => (p15 v25 r k).symm
  rw [back, ← p14]; simp only [e]
  pointwise [k0_pay16]
theorem p17 (v25 : FVec Ideal S512x1024 .f32) (v27 : FVec Ideal S1x1024 .f32) (v30 : FVec Ideal S512x1 .f32) (v40 : Vec Ideal S512x1024 .f32) (l : Fin 1024) :
    k0_pay17 v25 v27 v30 v40 (ix2 0 l) = ∑ r : Fin 512, k0_pay13 v25 v27 v30 v40 (ix2 r l) * unit (fun k => v25 (ix2 r k)) l := by
  pointwise [k0_pay17]; exact Finset.sum_congr rfl fun r _ => congrArg₂ (fun a b : EReal => a * b) rfl (p15 v25 r l)
theorem p1 (v5 v21 v25 : FVec Ideal S512x1024 .f32) (v27 : FVec Ideal S1x1024 .f32) (v30 : FVec Ideal S512x1 .f32) (v40 : Vec Ideal S512x1024 .f32) (r : Fin 512) (l : Fin 1024) :
    k0_pay1 (k0_pay18 v5 v21 v25 v27 v30 v40) (ix2 r l) = k0_pay16 v25 v27 v30 v40 (ix2 r l) * v21 (ix2 r l) * v5 (ix2 r l) * (1 - v5 (ix2 r l)) := by
  pointwise [k0_pay1, k0_pay18]
theorem p2 (v5 v66 : FVec Ideal S512x1024 .f32) (r : Fin 512) (l : Fin 1024) : k0_pay2 v5 v66 (ix2 r l) = v66 (ix2 r l) * v5 (ix2 r l) := by
  pointwise [k0_pay2]
theorem p5 (v69 : FVec Ideal S1x1024 .f32) (v84 : Vec Ideal S1x1024 .f32) (l : Fin 1024) : k0_pay5 v69 v84 (ix2 0 l) = v84 (ix2 0 l) + v69 (ix2 0 l) := by
  pointwise [k0_pay5]
theorem p6 (v42 : FVec Ideal S512x1024 .f32) (v88 : Vec Ideal S1x128 .f32) (l : Fin 128) :
    k0_pay6 v42 v88 (ix2 0 l) = v88 (ix2 0 l) + half * ∑ r : Fin 512, Ideal.div (∑ k : Fin 1024, v42 (ix2 r k) * v42 (ix2 r k)) wid := by
  pointwise [k0_pay6]

variable (m : (ℓ : Loc nD τ sig) → Buf (Elt Ideal) ℓ) (c : Dev nD)

/-- What each window reads at a point. -/
theorem idx (t : Fin cfg0.N) : win0_0.index t = ![t.val, 0] ∧ win0_1.index t = ![t.val, 0] ∧ win0_2.index t = ![t.val, 0] ∧ win0_3.index t = ![0, 0]
    ∧ win0_4.index t = ![0, 0, 0] ∧ win0_5.index t = ![0, 0] ∧ win0_6.index t = ![t.val, 0] ∧ win0_7.index t = ![t.val, 0] ∧ win0_8.index t = ![t.val, 0]
    ∧ win0_9.index t = ![t.val, 0] ∧ win0_10.index t = ![0, 0] ∧ win0_11.index t = ![0, 0] := by
  revert t; decide +kernel

/-! The arguments, at the argument buffers' own types. -/

abbrev X0 : M3 2 2048 1024 := m (c.tc.loc main_arg0)
abbrev X1 : M2 1 1024 := m (c.tc.loc main_arg1)
abbrev X2 : M4 1 2 2048 256 := m (c.tc.loc main_arg2)
abbrev X3 : M3 1 1024 1024 := m (c.tc.loc main_arg3)
abbrev X4 : M3 1 256 1024 := m (c.tc.loc main_arg4)
abbrev X5 : M1 1024 := m (c.tc.loc main_arg5)
abbrev X6 : M3 2 2048 1024 := m (c.tc.loc main_arg6)

variable (t : Fin cfg0.N)

/-! The input blocks, entry by entry, in the arguments. -/

theorem ib0 (r : Fin 512) (k : Fin 1024) : (iblk m c 0 t : FVec Ideal S512x1024 .f32) (ix2 r k) = tok (X0 m c) (row N_0 t r) k := by
  have h : (V m c main_v1 : FVec Ideal S4096x1024 .f32) (ix2 (row N_0 t r) k) = tok (X0 m c) (row N_0 t r) k := by
    unfold V; after_reads_at; rfl
  rw [← h]; blk_ext [iblk, idx t]
theorem sq (i : Fin 4096) : (V m c main_v11 : FVec Ideal S4096x1 .f32) (ix2 i 0) = inv (tok (X0 m c) i) := by
  unfold V; after_reads_at; rfl
theorem ib1 (r : Fin 512) (k : Fin 1024) : (iblk m c 1 t : FVec Ideal S512x1024 .bf16) (ix2 r k) = unit (tok (X0 m c) (row N_0 t r)) k * X1 m c (ix2 0 k) := by
  have h : (V m c main_v18 : FVec Ideal S4096x1024 .bf16) (ix2 (row N_0 t r) k) = unit (tok (X0 m c) (row N_0 t r)) k * X1 m c (ix2 0 k) := by
    unfold V; after_reads_at; rfl
  rw [← h]; blk_ext [iblk, idx t]
theorem ib2 (r : Fin 512) (k : Fin 256) : (iblk m c 2 t : FVec Ideal S512x256 .f32) (ix2 r k) = emb (X2 m c) (row N_0 t r) k := by
  have h : (V m c main_v2 : FVec Ideal S4096x256 .f32) (ix2 (row N_0 t r) k) = emb (X2 m c) (row N_0 t r) k := by
    unfold V; after_reads_at; rfl
  rw [← h]; blk_ext [iblk, idx t]
theorem ib3 (r k : Fin 1024) : (iblk m c 3 t : FVec Ideal S1024x1024 .bf16) (ix2 r k) = X3 m c (ix3 0 r k) := by
  have h : (V m c main_v20 : FVec Ideal S1024x1024 .bf16) (ix2 r k) = X3 m c (ix3 0 r k) := by
    unfold V; after_reads_at
  rw [← h]; blk_ext [iblk, idx t]
theorem ib4 (s : Fin 4) (r k : Fin 256) : (iblk m c 4 t : FVec Ideal S4x256x256 .bf16) (ix3 s r k) = X4 m c (ix3 0 r ⟨s.val * 256 + k.val, by omega⟩) := by
  have h : (V m c main_v24 : FVec Ideal S4x256x256 .bf16) (ix3 s r k) = X4 m c (ix3 0 r ⟨s.val * 256 + k.val, by omega⟩) := by
    unfold V; after_reads_at
  rw [← h]; blk_ext [iblk, idx t]
theorem ib5 (k : Fin 1024) : (iblk m c 5 t : FVec Ideal S1x1024 .f32) (ix2 0 k) = X5 m c (ix1 k) := by
  have h : (V m c main_v25 : FVec Ideal S1x1024 .f32) (ix2 0 k) = X5 m c (ix1 k) := by
    unfold V; after_reads_at
  rw [← h]; blk_ext [iblk, idx t]
theorem ib6 (r : Fin 512) (k : Fin 1024) : (iblk m c 6 t : FVec Ideal S512x1024 .f32) (ix2 r k) = tok (X6 m c) (row N_0 t r) k := by
  have h : (V m c main_v3 : FVec Ideal S4096x1024 .f32) (ix2 (row N_0 t r) k) = tok (X6 m c) (row N_0 t r) k := by
    unfold V; after_reads_at; rfl
  rw [← h]; blk_ext [iblk, idx t]

/-! The weights of the embedding's projection, shard by shard. -/

abbrev W0 : Vec Ideal S1x256x256 .bf16 := View.ld (iblk m c 4 t) (Rect.unit (s := S4x256x256) ![0, 0, 0] S1x256x256.size inb_S4x256x256_S1x256x256_0_0_0)
abbrev W1 : Vec Ideal S1x256x256 .bf16 := View.ld (iblk m c 4 t) (Rect.unit (s := S4x256x256) ![1, 0, 0] S1x256x256.size inb_S4x256x256_S1x256x256_1_0_0)
abbrev W2 : Vec Ideal S1x256x256 .bf16 := View.ld (iblk m c 4 t) (Rect.unit (s := S4x256x256) ![2, 0, 0] S1x256x256.size inb_S4x256x256_S1x256x256_2_0_0)
abbrev W3 : Vec Ideal S1x256x256 .bf16 := View.ld (iblk m c 4 t) (Rect.unit (s := S4x256x256) ![3, 0, 0] S1x256x256.size inb_S4x256x256_S1x256x256_3_0_0)

theorem w0 (k l : Fin 256) : W0 m c t (ix3 0 k l) = X4 m c (ix3 0 k ⟨l.val, by omega⟩) := by
  refine Eq.trans ?_ ((ib4 m c t 0 k l).trans (by blk_ext))
  pointwise [W0]
theorem w1 (k l : Fin 256) : W1 m c t (ix3 0 k l) = X4 m c (ix3 0 k ⟨256 + l.val, by omega⟩) := by
  refine Eq.trans ?_ ((ib4 m c t 1 k l).trans (by blk_ext))
  pointwise [W1]
theorem w2 (k l : Fin 256) : W2 m c t (ix3 0 k l) = X4 m c (ix3 0 k ⟨512 + l.val, by omega⟩) := by
  refine Eq.trans ?_ ((ib4 m c t 2 k l).trans (by blk_ext))
  pointwise [W2]
theorem w3 (k l : Fin 256) : W3 m c t (ix3 0 k l) = X4 m c (ix3 0 k ⟨768 + l.val, by omega⟩) := by
  refine Eq.trans ?_ ((ib4 m c t 3 k l).trans (by blk_ext))
  pointwise [W3]

/-! The body's values at a point. -/

abbrev GP : FVec Ideal S512x1024 .f32 := k0_pay7 (iblk m c 1 t) (iblk m c 3 t)
abbrev PE : FVec Ideal S512x1024 .f32 := k0_pay8 (iblk m c 2 t) (W0 m c t) (W1 m c t) (W2 m c t) (W3 m c t)
abbrev XF : FVec Ideal S512x1024 .f32 := k0_pay9 (iblk m c 1 t) (iblk m c 3 t) (iblk m c 2 t) (W0 m c t) (W1 m c t) (W2 m c t) (W3 m c t) (iblk m c 0 t)
abbrev GF : FVec Ideal S1x1024 .f32 := k0_pay10 (iblk m c 5 t)
abbrev SS : FVec Ideal S512x1 .f32 := k0_pay11 (iblk m c 1 t) (iblk m c 3 t) (iblk m c 2 t) (W0 m c t) (W1 m c t) (W2 m c t) (W3 m c t) (iblk m c 0 t)
abbrev ER : FVec Ideal S512x1024 .f32 := k0_pay12 (XF m c t) (GF m c t) (SS m c t) (iblk m c 6 t)
abbrev DY : FVec Ideal S512x1024 .f32 := k0_pay13 (XF m c t) (GF m c t) (SS m c t) (iblk m c 6 t)
abbrev DX : FVec Ideal S512x1024 .f32 := k0_pay16 (XF m c t) (GF m c t) (SS m c t) (iblk m c 6 t)
abbrev DG : FVec Ideal S1x1024 .f32 := k0_pay17 (XF m c t) (GF m c t) (SS m c t) (iblk m c 6 t)

variable (r : Fin 512) (l : Fin 1024)

theorem pgp : GP m c t (ix2 r l) = gp (X0 m c) (X1 m c) (X3 m c) (row N_0 t r) l :=
  (p7 _ _ r l).trans (congrArg Ideal.logistic (Finset.sum_congr rfl fun k _ => congrArg₂ (fun a b : EReal => a * b) (ib1 m c t r k) (ib3 m c t k l)))
theorem ppe : PE m c t (ix2 r l) = pe (X2 m c) (X4 m c) (row N_0 t r) l :=
  (p8 _ _ _ _ _ (fun k l => X4 m c (ix3 0 k l)) (w0 m c t) (w1 m c t) (w2 m c t) (w3 m c t) r l).trans
    (Finset.sum_congr rfl fun k _ => congrArg (fun a : EReal => a * X4 m c (ix3 0 k l)) (ib2 m c t r k))
theorem pxf : XF m c t (ix2 r l) = xf (X0 m c) (X1 m c) (X2 m c) (X3 m c) (X4 m c) (row N_0 t r) l :=
  (p9 _ _ _ _ _ _ _ _ r l).trans (congrArg₂ (fun a b : EReal => a + b) (ib0 m c t r l) (congrArg₂ (fun a b : EReal => a * b) (pgp m c t r l) (ppe m c t r l)))
theorem pxr : (fun k => XF m c t (ix2 r k)) = xr (X0 m c) (X1 m c) (X2 m c) (X3 m c) (X4 m c) (row N_0 t r) := funext fun k => pxf m c t r k
theorem pgf : GF m c t (ix2 0 l) = X5 m c (ix1 l) := (p10 _ l).trans (ib5 m c t l)
theorem per : ER m c t (ix2 r l) = err (X0 m c) (X1 m c) (X2 m c) (X3 m c) (X4 m c) (X5 m c) (X6 m c) (row N_0 t r) l := by
  refine (p12 _ _ _ _ r l (p11 _ _ _ _ _ _ _ _ r)).trans ?_
  rw [err, ← pxr, ← pgf m c t, ← ib6 m c t]
theorem pdy : DY m c t (ix2 r l) = dy (X0 m c) (X1 m c) (X2 m c) (X3 m c) (X4 m c) (X5 m c) (X6 m c) (row N_0 t r) l :=
  (p13 _ _ _ _ r l).trans (congrArg (fun a : EReal => a * iwid) (per m c t r l))
theorem pdx : DX m c t (ix2 r l) = dx3E (X0 m c) (X1 m c) (X2 m c) (X3 m c) (X4 m c) (X5 m c) (X6 m c) (row N_0 t r) l :=
  (p16 _ _ _ _ r l).trans (congr (congr (congr (congrArg back (pxr m c t r)) (funext fun k => pdy m c t r k)) (funext fun k => pgf m c t k)) rfl)
theorem pdg : DG m c t (ix2 0 l) = ∑ r : Fin 512, dy (X0 m c) (X1 m c) (X2 m c) (X3 m c) (X4 m c) (X5 m c) (X6 m c) (row N_0 t r) l * unit (xr (X0 m c) (X1 m c) (X2 m c) (X3 m c) (X4 m c) (row N_0 t r)) l :=
  (p17 _ _ _ _ l).trans (Finset.sum_congr rfl fun r _ => congrArg₂ (fun a b : EReal => a * b) (pdy m c t r l) (congrFun (congrArg unit (pxr m c t r)) l))
theorem pdpre : k0_pay1 (k0_pay18 (GP m c t) (PE m c t) (XF m c t) (GF m c t) (SS m c t) (iblk m c 6 t)) (ix2 r l)
    = dpreE (X0 m c) (X1 m c) (X2 m c) (X3 m c) (X4 m c) (X5 m c) (X6 m c) (row N_0 t r) l := by
  refine (p1 _ _ _ _ _ _ r l).trans ?_
  rw [dpreE, ← pdx, ← ppe, ← pgp]
theorem pdpe : k0_pay2 (GP m c t) (DX m c t) (ix2 r l) = dpeE (X0 m c) (X1 m c) (X2 m c) (X3 m c) (X4 m c) (X5 m c) (X6 m c) (row N_0 t r) l := by
  refine (p2 _ _ r l).trans ?_
  rw [dpeE, ← pdx, ← pgp]

/-! The five results. -/

theorem emb7 : ((View.whole main_v26_0).slice (win0_7.rect t)).emb (ix2 r l) = ix2 (row N_0 t r) l := by blk_ext [idx t]
theorem emb8 : ((View.whole main_v26_1).slice (win0_8.rect t)).emb (ix2 r l) = ix2 (row N_0 t r) l := by blk_ext [idx t]
theorem emb9 : ((View.whole main_v26_2).slice (win0_9.rect t)).emb (ix2 r l) = ix2 (row N_0 t r) l := by blk_ext [idx t]

theorem arr7 : (dats m 0 c).arrAt 7 cfg0.N = dx3 (X0 m c) (X1 m c) (X2 m c) (X3 m c) (X4 m c) (X5 m c) (X6 m c) := by
  refine (dats m 0 c).arrAt_eq_of_covers 7 _ (by decide +kernel) fun t hf y => ?_
  blk_simp
  rw [after0_7]
  have e : ∀ y : S512x1024.Idx, DX m c t y = dx3 (X0 m c) (X1 m c) (X2 m c) (X3 m c) (X4 m c) (X5 m c) (X6 m c) (((View.whole main_v26_0).slice (win0_7.rect t)).emb y) := by
    intro y; idx_vars y; rw [pdx]; erw [emb7]; rfl
  by_cases h : t.val % 8 = 0
  · rw [outsAt0_A m c t h]; frame_out; exact e y
  · rw [outsAt0_B m c t h]; frame_out; exact e y

theorem arr8 : (dats m 0 c).arrAt 8 cfg0.N = dpre (X0 m c) (X1 m c) (X2 m c) (X3 m c) (X4 m c) (X5 m c) (X6 m c) := by
  refine (dats m 0 c).arrAt_eq_of_covers 8 _ (by decide +kernel) fun t hf y => ?_
  blk_simp
  rw [after0_8]
  have e : ∀ y : S512x1024.Idx, k0_pay1 (k0_pay18 (GP m c t) (PE m c t) (XF m c t) (GF m c t) (SS m c t) (iblk m c 6 t)) y
      = dpre (X0 m c) (X1 m c) (X2 m c) (X3 m c) (X4 m c) (X5 m c) (X6 m c) (((View.whole main_v26_1).slice (win0_8.rect t)).emb y) := by
    intro y; idx_vars y; rw [pdpre]; erw [emb8]; rfl
  by_cases h : t.val % 8 = 0
  · rw [outsAt0_A m c t h]; frame_out; exact e y
  · rw [outsAt0_B m c t h]; frame_out; exact e y

theorem arr9 : (dats m 0 c).arrAt 9 cfg0.N = dpe (X0 m c) (X1 m c) (X2 m c) (X3 m c) (X4 m c) (X5 m c) (X6 m c) := by
  refine (dats m 0 c).arrAt_eq_of_covers 9 _ (by decide +kernel) fun t hf y => ?_
  blk_simp
  rw [after0_9]
  have e : ∀ y : S512x1024.Idx, k0_pay2 (GP m c t) (DX m c t) y
      = dpe (X0 m c) (X1 m c) (X2 m c) (X3 m c) (X4 m c) (X5 m c) (X6 m c) (((View.whole main_v26_2).slice (win0_9.rect t)).emb y) := by
    intro y; idx_vars y; rw [pdpe]; erw [emb9]; rfl
  by_cases h : t.val % 8 = 0
  · rw [outsAt0_A m c t h]; frame_out; exact e y
  · rw [outsAt0_B m c t h]; frame_out; exact e y

/-- What a point adds to the scale's cotangent. -/
def term (t : Fin cfg0.N) (j : S1x1024.Idx) : EReal :=
  ∑ r : Fin 512, dy (X0 m c) (X1 m c) (X2 m c) (X3 m c) (X4 m c) (X5 m c) (X6 m c) (row N_0 t r) (j 1) * unit (xr (X0 m c) (X1 m c) (X2 m c) (X3 m c) (X4 m c) (row N_0 t r)) (j 1)

theorem acc0 (h : t.val % 8 = 0) (j : S1x1024.Idx) : (outsAt0 m c t.val t.isLt).2.2.2.1 j = 0 + term m c t j := by
  rw [outsAt0_A m c t h]; frame_out
  idx_vars j
  obtain rfl : j0 = 0 := Subsingleton.elim _ _
  exact (p5 _ _ j1).trans (congrArg₂ (fun a b : EReal => a + b) (by pointwise [k0_pay3]) (pdg m c t j1))

theorem acc1 (h : ¬t.val % 8 = 0) (j : S1x1024.Idx) :
    (outsAt0 m c t.val t.isLt).2.2.2.1 j = (outsAt0 m c (t.val-1) (Nat.lt_of_le_of_lt (Nat.sub_le _ _) t.isLt)).2.2.2.1 j + term m c t j := by
  rw [outsAt0_B m c t h]; frame_out
  idx_vars j
  obtain rfl : j0 = 0 := Subsingleton.elim _ _
  exact (p5 _ _ j1).trans (congrArg₂ (fun a b : EReal => a + b) rfl (pdg m c t j1))

theorem arr10 : (dats m 0 c).arrAt 10 cfg0.N = dg (X0 m c) (X1 m c) (X2 m c) (X3 m c) (X4 m c) (X5 m c) (X6 m c) := by
  refine (dats m 0 c).arrAt_eq_of_after_last 10 t0_7 (by decide +kernel) _ fun j => ?_
  blk_simp
  rw [after0_10]
  refine (Pipeline.eq_sum_fin_of_reset_step_apply_last (fun n h => (outsAt0 m c n h).2.2.2.1) 8 (fun _ => (0 : EReal)) (term m c) (acc0 m c) (acc1 m c) (le_of_eq N_0) t0_7 rfl j).trans ?_
  rw [zero_add]
  exact sum_rows N_0 (fun i => dy (X0 m c) (X1 m c) (X2 m c) (X3 m c) (X4 m c) (X5 m c) (X6 m c) i (j 1) * unit (xr (X0 m c) (X1 m c) (X2 m c) (X3 m c) (X4 m c) i) (j 1))

/-- What a point adds to the loss. -/
def part (t : Fin cfg0.N) (_ : S1x128.Idx) : EReal := half * ∑ r : Fin 512, mse (X0 m c) (X1 m c) (X2 m c) (X3 m c) (X4 m c) (X5 m c) (X6 m c) (row N_0 t r)

theorem pmse : Ideal.div (∑ k : Fin 1024, ER m c t (ix2 r k) * ER m c t (ix2 r k)) wid = mse (X0 m c) (X1 m c) (X2 m c) (X3 m c) (X4 m c) (X5 m c) (X6 m c) (row N_0 t r) :=
  congrArg (fun a : EReal => Ideal.div a wid) (Finset.sum_congr rfl fun k _ => congrArg₂ (fun a b : EReal => a * b) (per m c t r k) (per m c t r k))

theorem los0 (h : t.val % 8 = 0) (j : S1x128.Idx) : (outsAt0 m c t.val t.isLt).2.2.2.2 j = 0 + part m c t j := by
  rw [outsAt0_A m c t h]; frame_out
  idx_vars j
  obtain rfl : j0 = 0 := Subsingleton.elim _ _
  exact (p6 _ _ j1).trans (congrArg₂ (fun a b : EReal => a + b) (by pointwise [k0_pay4]) (congrArg (fun a : EReal => half * a) (Finset.sum_congr rfl fun r _ => pmse m c t r)))

theorem los1 (h : ¬t.val % 8 = 0) (j : S1x128.Idx) :
    (outsAt0 m c t.val t.isLt).2.2.2.2 j = (outsAt0 m c (t.val-1) (Nat.lt_of_le_of_lt (Nat.sub_le _ _) t.isLt)).2.2.2.2 j + part m c t j := by
  rw [outsAt0_B m c t h]; frame_out
  idx_vars j
  obtain rfl : j0 = 0 := Subsingleton.elim _ _
  exact (p6 _ _ j1).trans (congrArg₂ (fun a b : EReal => a + b) rfl (congrArg (fun a : EReal => half * a) (Finset.sum_congr rfl fun r _ => pmse m c t r)))

theorem arr11 : (dats m 0 c).arrAt 11 cfg0.N = loss (X0 m c) (X1 m c) (X2 m c) (X3 m c) (X4 m c) (X5 m c) (X6 m c) := by
  refine (dats m 0 c).arrAt_eq_of_after_last 11 t0_7 (by decide +kernel) _ fun j => ?_
  blk_simp
  rw [after0_11]
  refine (Pipeline.eq_sum_fin_of_reset_step_apply_last (fun n h => (outsAt0 m c n h).2.2.2.2) 8 (fun _ => (0 : EReal)) (part m c) (los0 m c) (los1 m c) (le_of_eq N_0) t0_7 rfl j).trans ?_
  rw [zero_add]
  refine Eq.trans ?_ (congrArg (fun a : EReal => half * a) (sum_rows N_0 (fun i => mse (X0 m c) (X1 m c) (X2 m c) (X3 m c) (X4 m c) (X5 m c) (X6 m c) i)))
  simp only [part, half_eq, mul_comm ((1 / 2 : ℝ) : EReal)]
  exact sum_mul_coe _ _ _ (by norm_num)

end Cert.HeadIdeal.Blocks
end
-- ==== Proof.HeadRefValue.lean ====
/- The loss and its gradient: the derivative of the forward lines, as the functions of `HeadSpec`. -/
module

public import proofs.«01_k».proof.Proof.Gen.HeadRefIdeal.Read
public import proofs.«01_k».proof.Proof.HeadSpec

@[expose] public section

set_option maxRecDepth 16384

noncomputable section

namespace Cert.HeadRefIdeal.Blocks

open Idealize.ShloMosaic Cert.HeadRefIdeal Cert.HeadRefIdeal.Read Cert.Common Cert.NormSpec Cert.HeadSpec
open scoped BigOperators

variable (x0 : M3 2 2048 1024) (x1 : M2 1 1024) (x2 : M4 1 2 2048 256) (x3 : M3 1 1024 1024) (x4 : M3 1 256 1024) (x5 : M1 1024) (x6 : M3 2 2048 1024) (i : Fin 4096) (j : Fin 1024)

/-! The forward lines. -/

theorem r11 : val_main_v11 (F := Ideal) x0 (ix2 i 0) = inv (tok x0 i) := by
  pointwise [val_main_v11, val_main_v10, val_main_v9, val_main_cst_1, val_main_v8, val_main_v7, val_main_cst_0, val_main_v6, val_main_v5, val_main_cst, val_main_v4, val_main_v0]; rfl
theorem r16 : val_main_v16 (F := Ideal) x0 x1 (ix2 i j) = unit (tok x0 i) j * x1 (ix2 0 j) := by
  rw [unit, ← r11]; pointwise [val_main_v16, val_main_v15, val_main_v14, val_main_v3, val_main_v13, val_main_v12, val_main_v0]; rfl
theorem r18 : val_main_v18 (F := Ideal) x0 x1 x3 (ix2 i j) = ∑ k : Fin 1024, unit (tok x0 i) k * x1 (ix2 0 k) * x3 (ix3 0 k j) := by
  simp only [← r16]; pointwise [val_main_v18, val_main_v17]
theorem r26 : val_main_v26 (F := Ideal) x0 x1 x3 (ix2 i j) = gp x0 x1 x3 i j := by
  rw [gp, ← r18]; pointwise [val_main_v26, val_main_v25, val_main_cst_3, val_main_v24, val_main_v23, val_main_cst_2, val_main_v22, val_main_v21]; rfl
theorem r20 : val_main_v20 (F := Ideal) x2 x4 (ix2 i j) = pe x2 x4 i j := by
  pointwise [val_main_v20, val_main_v19, val_main_v1]; rfl
theorem r31 : val_main_v31 (F := Ideal) x0 x1 x2 x3 x4 (ix2 i j) = xf x0 x1 x2 x3 x4 i j := by
  rw [xf, ← r26, ← r20]; pointwise [val_main_v31, val_main_v30, val_main_v0]; rfl
theorem r38 : val_main_v38 (F := Ideal) x0 x1 x2 x3 x4 (ix2 i 0) = msq (xr x0 x1 x2 x3 x4 i) := by
  rw [msq]; simp only [xr, ← r31]
  pointwise [val_main_v38, val_main_v37, val_main_cst_7, val_main_v36, val_main_v35, val_main_cst_6, val_main_v34, val_main_v33, val_main_cst_5, val_main_v32]
theorem r39 : val_main_v39 (F := Ideal) x0 x1 x2 x3 x4 (ix2 i 0) = inv (xr x0 x1 x2 x3 x4 i) := by
  show _ = Ideal.rsqrt (msq _); rw [← r38]; pointwise [val_main_v39]
theorem r42 : val_main_v42 (F := Ideal) x0 x1 x2 x3 x4 (ix2 i 0) = mhalf * Ideal.div (inv (xr x0 x1 x2 x3 x4 i)) (msq (xr x0 x1 x2 x3 x4 i)) := by
  rw [← r38, ← r39]; pointwise [val_main_v42, val_main_v41, val_main_cst_8, val_main_v40]
theorem r44 : val_main_v44 (F := Ideal) x0 x1 x2 x3 x4 (ix2 i j) = unit (xr x0 x1 x2 x3 x4 i) j := by
  rw [unit, ← r39]; simp only [xr, ← r31]; pointwise [val_main_v44, val_main_v43]
theorem r48 : val_main_v48 (F := Ideal) x0 x1 x2 x3 x4 x5 x6 (ix2 i j) = err x0 x1 x2 x3 x4 x5 x6 i j := by
  rw [err, ← r44]; pointwise [val_main_v48, val_main_v47, val_main_v46, val_main_v45, val_main_v2]; rfl
theorem r54 : val_main_v54 (F := Ideal) x0 x1 x2 x3 x4 x5 x6 (ix1 i) = mse x0 x1 x2 x3 x4 x5 x6 i := by
  rw [mse]; simp only [← r48]; pointwise [val_main_v54, val_main_v53, val_main_cst_11, val_main_v52, val_main_cst_10, val_main_v49]

/-- The loss. -/
theorem r89 : val_main_v89 (F := Ideal) x0 x1 x2 x3 x4 x5 x6 = loss x0 x1 x2 x3 x4 x5 x6 := by
  funext y
  rw [loss]; simp only [← r54]
  idx_vars y
  pointwise [val_main_v89, val_main_v56, val_main_cst_13, val_main_v55, val_main_cst_12]

/-! The gradient. -/

theorem scale (e : EReal) : Ideal.div (half * 1) wid * (Ideal.ofBits .f32 0x40000000#32 * e) = e * iwid := by
  rw [mul_one, half_eq, wid_eq, two_eq, iwid_eq, Ideal.div_coe (by norm_num), ← mul_assoc, ← EReal.coe_mul, ← EReal.coe_mul, mul_comm]
  exact congrArg (fun r : ℝ => e * (r : EReal)) (by norm_num)
theorem r62 : val_main_v62 (F := Ideal) x0 x1 x2 x3 x4 x5 x6 (ix2 i j) = dy x0 x1 x2 x3 x4 x5 x6 i j := by
  refine Eq.trans ?_ (scale (err x0 x1 x2 x3 x4 x5 x6 i j))
  rw [← r48]
  pointwise [val_main_v62, val_main_v61, val_main_v60, val_main_v59, val_main_cst_16, val_main_v58, val_main_v57, val_main_cst_14, val_main_cst_15, val_main_v51, val_main_v50, val_main_cst_9]
theorem r67 : val_main_v67 (F := Ideal) x0 x1 x2 x3 x4 x5 x6 (ix2 i j) = dy x0 x1 x2 x3 x4 x5 x6 i j * x5 (ix1 j) := by
  rw [← r62]; pointwise [val_main_v67, val_main_v66, val_main_v45]
theorem r78 : val_main_v78 (F := Ideal) x0 x1 x2 x3 x4 x5 x6 (ix2 i j) = through (xr x0 x1 x2 x3 x4 i) (fun k => dy x0 x1 x2 x3 x4 x5 x6 i k) (fun k => x5 (ix1 k)) := by
  rw [through, ← r42]; simp only [← r67]; simp only [xr, ← r31]
  pointwise [val_main_v78, val_main_v77, val_main_cst_21, val_main_v76, val_main_v75, val_main_cst_20, val_main_v74, val_main_v71, val_main_v70, val_main_cst_19, val_main_v69]
  simp only [Fin.sum_univ_one]
theorem r82 : val_main_v82 (F := Ideal) x0 x1 x2 x3 x4 x5 x6 (ix2 i j) = dx3E x0 x1 x2 x3 x4 x5 x6 i j := by
  have h := agree (xr x0 x1 x2 x3 x4 i) (fun k => dy x0 x1 x2 x3 x4 x5 x6 i k) (fun k => x5 (ix1 k)) 0 j
  rw [zero_add, add_zero] at h
  refine Eq.trans ?_ h
  simp only []
  rw [← r67, ← r39, ← r78 x0 x1 x2 x3 x4 x5 x6 i j]; simp only [xr, ← r31]
  pointwise [val_main_v82, val_main_v81, val_main_v80, val_main_v79, val_main_v73, val_main_v72]
theorem r82' : val_main_v82 (F := Ideal) x0 x1 x2 x3 x4 x5 x6 = dx3 x0 x1 x2 x3 x4 x5 x6 := by
  funext y; idx_vars y; exact r82 x0 x1 x2 x3 x4 x5 x6 y0 y1
theorem r86 : val_main_v86 (F := Ideal) x0 x1 x2 x3 x4 x5 x6 = dpre x0 x1 x2 x3 x4 x5 x6 := by
  funext y; idx_vars y
  show _ = dpreE x0 x1 x2 x3 x4 x5 x6 y0 y1
  rw [dpreE, mul_assoc, ← r82, ← r20, ← r26]
  pointwise [val_main_v86, val_main_v85, val_main_v84, val_main_v29, val_main_v28, val_main_v27, val_main_cst_4]
theorem r87 : val_main_v87 (F := Ideal) x0 x1 x2 x3 x4 x5 x6 = dpe x0 x1 x2 x3 x4 x5 x6 := by
  funext y; idx_vars y
  show _ = dpeE x0 x1 x2 x3 x4 x5 x6 y0 y1
  rw [dpeE, mul_comm, ← r82, ← r26]
  pointwise [val_main_v87, val_main_v83]
theorem r88 : val_main_v88 (F := Ideal) x0 x1 x2 x3 x4 x5 x6 = dg x0 x1 x2 x3 x4 x5 x6 := by
  funext y; idx_vars y
  pointwise [val_main_v88, val_main_v68, val_main_cst_18, val_main_v65, val_main_v64, val_main_cst_17, val_main_v63]
  simp only [Fin.sum_univ_one]
  refine Finset.sum_congr rfl fun k _ => ?_
  rw [mul_comm]
  exact congrArg₂ (fun a b : EReal => a * b) (r62 x0 x1 x2 x3 x4 x5 x6 k y1) (r44 x0 x1 x2 x3 x4 k y1)

end Cert.HeadRefIdeal.Blocks
end
-- ==== Proof.HeadClaim.lean ====
/- The loss and its gradient: the frames and the value claim. -/
module

public import proofs.«01_k».proof.Defs
public import proofs.«01_k».proof.Proof.Gen.Head.Frame
public import proofs.«01_k».proof.Proof.Gen.HeadRefIdeal
public import proofs.«01_k».proof.Proof.Gen.HeadRefIdeal.Run
public import proofs.«01_k».proof.Proof.HeadValue
public import proofs.«01_k».proof.Proof.HeadRefValue

@[expose] public section

noncomputable section

namespace Cert.Proof.Head

open Idealize.ShloMosaic Idealize.SL.Sem Cert.Common Cert.HeadSpec Cert.HeadIdeal.Blocks Cert.HeadRefIdeal.Blocks

theorem frameP : Cert.quiescent_Head (hHead := Cert.Head.Gen.facts) := fun m ρ _ => Cert.Head.Gen.frame m ρ
theorem frameI : Cert.quiescent_HeadIdeal (hHeadIdeal := Cert.HeadIdeal.Gen.facts) := fun m ρ _ => Cert.HeadIdeal.Gen.frame m ρ
theorem frameR : Cert.quiescent_HeadRefIdeal (hHeadRefIdeal := Cert.HeadRefIdeal.Gen.facts) := fun m ρ _ =>
  (θ_run Cert.HeadRefIdeal.defs _ _).mono (fun r h => ⟨fun c => (h c).2.2.2.2.2, sem_eq_zero_of_no_sems (by decide) r.2⟩) (Cert.HeadRefIdeal.Value.run (F := Ideal) m ρ)
theorem preserves : Cert.preserves_Head_HeadIdeal := trivial

theorem algebraic : Cert.algebraic_HeadIdeal_HeadRefIdeal (hHeadIdeal := Cert.HeadIdeal.Gen.facts) (hHeadRefIdeal := Cert.HeadRefIdeal.Gen.facts) := by
  intro m ρ m' ρ' _ hag
  refine ⟨fun c => dx3 (X0 m c) (X1 m c) (X2 m c) (X3 m c) (X4 m c) (X5 m c) (X6 m c), fun c => dpre (X0 m c) (X1 m c) (X2 m c) (X3 m c) (X4 m c) (X5 m c) (X6 m c), fun c => dpe (X0 m c) (X1 m c) (X2 m c) (X3 m c) (X4 m c) (X5 m c) (X6 m c), fun c => dg (X0 m c) (X1 m c) (X2 m c) (X3 m c) (X4 m c) (X5 m c) (X6 m c), fun c => loss (X0 m c) (X1 m c) (X2 m c) (X3 m c) (X4 m c) (X5 m c) (X6 m c), ?_, ?_⟩
  · refine (θ_run _ _ _).mono (fun r h c => ?_) (Cert.HeadIdeal.Value.run_blocks m ρ)
    obtain ⟨h0, h1, h2, h3, h4, hr⟩ := h c
    exact ⟨h0.trans (arr7 m c), h1.trans (arr8 m c), h2.trans (arr9 m c), h3.trans (arr10 m c), h4.trans (arr11 m c), hr⟩
  · refine (θ_run _ _ _).mono (fun r h c => ?_) (Cert.HeadRefIdeal.Value.run m' ρ')
    obtain ⟨h0, h1, h2, h3, h4, hr⟩ := h c
    obtain ⟨a0, a1, a2, a3, a4, a5, a6⟩ := hag c
    have e0 : (m' ((c.tc : Thread Cert.HeadRefIdeal.nD Cert.HeadRefIdeal.τ).loc Cert.HeadRefIdeal.main_arg0) : M3 2 2048 1024) = X0 m c := a0
    have e1 : (m' ((c.tc : Thread Cert.HeadRefIdeal.nD Cert.HeadRefIdeal.τ).loc Cert.HeadRefIdeal.main_arg1) : M2 1 1024) = X1 m c := a1
    have e2 : (m' ((c.tc : Thread Cert.HeadRefIdeal.nD Cert.HeadRefIdeal.τ).loc Cert.HeadRefIdeal.main_arg2) : M4 1 2 2048 256) = X2 m c := a2
    have e3 : (m' ((c.tc : Thread Cert.HeadRefIdeal.nD Cert.HeadRefIdeal.τ).loc Cert.HeadRefIdeal.main_arg3) : M3 1 1024 1024) = X3 m c := a3
    have e4 : (m' ((c.tc : Thread Cert.HeadRefIdeal.nD Cert.HeadRefIdeal.τ).loc Cert.HeadRefIdeal.main_arg4) : M3 1 256 1024) = X4 m c := a4
    have e5 : (m' ((c.tc : Thread Cert.HeadRefIdeal.nD Cert.HeadRefIdeal.τ).loc Cert.HeadRefIdeal.main_arg5) : M1 1024) = X5 m c := a5
    have e6 : (m' ((c.tc : Thread Cert.HeadRefIdeal.nD Cert.HeadRefIdeal.τ).loc Cert.HeadRefIdeal.main_arg6) : M3 2 2048 1024) = X6 m c := a6
    refine ⟨h0.trans ?_, h1.trans ?_, h2.trans ?_, h3.trans ?_, h4.trans ?_, hr⟩
    · refine (Cert.HeadRefIdeal.Read.val_main_v82_eq ..).trans ?_
      rw [e0, e1, e2, e3, e4, e5, e6]; exact r82' _ _ _ _ _ _ _
    · refine (Cert.HeadRefIdeal.Read.val_main_v86_eq ..).trans ?_
      rw [e0, e1, e2, e3, e4, e5, e6]; exact r86 _ _ _ _ _ _ _
    · refine (Cert.HeadRefIdeal.Read.val_main_v87_eq ..).trans ?_
      rw [e0, e1, e2, e3, e4, e5, e6]; exact r87 _ _ _ _ _ _ _
    · refine (Cert.HeadRefIdeal.Read.val_main_v88_eq ..).trans ?_
      rw [e0, e1, e2, e3, e4, e5, e6]; exact r88 _ _ _ _ _ _ _
    · refine (Cert.HeadRefIdeal.Read.val_main_v89_eq ..).trans ?_
      rw [e0, e1, e2, e3, e4, e5, e6]; exact r89 _ _ _ _ _ _ _

end Cert.Proof.Head
end
-- ==== Proof.MixValue.lean ====
/- The mixing layer's input product and norm gradient: the kernel's three results. -/
module

public import proofs.«01_k».proof.Proof.Gen.MixIdeal.Value
public import proofs.«01_k».proof.Proof.NormSpec
public import Idealize.ShloMosaic.Lib.Pipeline.ReadBack

@[expose] public section

set_option maxRecDepth 16384

noncomputable section

namespace Cert.MixIdeal.Blocks

open Idealize.ShloMosaic Idealize.SL.Sem Cert.MixIdeal Cert.MixIdeal.Gen Cert.Common Cert.NormSpec
open scoped BigOperators

/-- The cotangent of the normalised rows: the four groups of the input projection's columns, in their order. -/
def dhA (w : M3 1 1024 5128) (da : M3 2 2048 3072) (i : Fin 4096) (j : Fin 1024) : EReal := ∑ k : Fin 1536, tok da i ⟨k.val, by omega⟩ * w (ix3 0 j ⟨k.val, by omega⟩)
def dhB (w : M3 1 1024 5128) (da : M3 2 2048 3072) (i : Fin 4096) (j : Fin 1024) : EReal := ∑ k : Fin 1536, tok da i ⟨1536 + k.val, by omega⟩ * w (ix3 0 j ⟨1544 + k.val, by omega⟩)
def dhF (w : M3 1 1024 5128) (df : M3 2 2048 8) (i : Fin 4096) (j : Fin 1024) : EReal := ∑ k : Fin 8, tok df i k * w (ix3 0 j ⟨1536 + k.val, by omega⟩)
def dhG (w : M3 1 1024 5128) (dgl : M3 2 2048 2048) (i : Fin 4096) (j : Fin 1024) : EReal := ∑ k : Fin 2048, tok dgl i k * w (ix3 0 j ⟨3080 + k.val, by omega⟩)
def dh (w : M3 1 1024 5128) (da : M3 2 2048 3072) (dgl : M3 2 2048 2048) (df : M3 2 2048 8) (i : Fin 4096) (j : Fin 1024) : EReal :=
  dhA w da i j + dhF w df i j + dhB w da i j + dhG w dgl i j

/-! The body's values over blocks. -/

/-- A block's products with the transpose of another. -/
def ntG (v : Vec Ideal S512x2048 .bf16) (w : Vec Ideal S1024x2048 .bf16) (r : Fin 512) (l : Fin 1024) : EReal := ∑ k : Fin 2048, v (ix2 r k) * w (ix2 l k)
def ntF (v : Vec Ideal S512x128 .bf16) (w : Vec Ideal S1024x128 .bf16) (r : Fin 512) (l : Fin 1024) : EReal := ∑ k : Fin 128, v (ix2 r k) * w (ix2 l k)

theorem p5 (v0 : Vec Ideal S512x1024 .f32) (v2 : Vec Ideal S512x2048 .bf16) (v4 : Vec Ideal S1024x2048 .bf16) (v8 : Vec Ideal S512x128 .bf16) (v10 : Vec Ideal S1024x128 .bf16) (r : Fin 512) (l : Fin 1024) :
    k0_pay5 v0 v2 v4 v8 v10 (ix2 r l) = (v0 (ix2 r l) : EReal) + ntG v2 v4 r l + ntF v8 v10 r l := by
  pointwise [k0_pay5]; rfl
theorem p6 (v7 : Vec Ideal S512x1024 .f32) (r : Fin 512) : k0_pay7 v7 (ix2 r 0) = inv (fun k => v7 (ix2 r k)) := by
  pointwise [k0_pay7, k0_pay6]; rfl
theorem p7 (v7 : Vec Ideal S512x1024 .f32) (r : Fin 512) (l : Fin 1024) : k0_pay8 v7 (ix2 r l) = unit (fun k => v7 (ix2 r k)) l := by
  rw [unit, ← p6]; pointwise [k0_pay8, k0_pay6]
theorem p8 (v24 : FVec Ideal S512x1024 .f32) (v7 : Vec Ideal S512x1024 .f32) (v44 : Vec Ideal S1x1024 .f32) (l : Fin 1024) :
    k0_pay4 v24 (k0_pay8 v7) v44 (ix2 0 l) = v44 (ix2 0 l) + ∑ r : Fin 512, v24 (ix2 r l) * unit (fun k => v7 (ix2 r k)) l := by
  pointwise [k0_pay4]; exact congrArg _ (Finset.sum_congr rfl fun r _ => congrArg₂ (· * ·) rfl (p7 v7 r l))
theorem p9 (v0 : Vec Ideal S512x1024 .f32) (v2 : Vec Ideal S512x2048 .bf16) (v4 : Vec Ideal S1024x2048 .bf16) (v8 : Vec Ideal S512x128 .bf16) (v10 : Vec Ideal S1024x128 .bf16)
    (v7 : Vec Ideal S512x1024 .f32) (v9 : Vec Ideal S1x1024 .f32) (v35 : Vec Ideal S512x1024 .f32) (r : Fin 512) (l : Fin 1024) :
    k0_pay1 (k0_pay9 v0 v2 v4 v8 v10 v7 v9) (k0_pay10 v7) v35 (ix2 r l) = back (fun k => v7 (ix2 r k)) (fun k => k0_pay5 v0 v2 v4 v8 v10 (ix2 r k)) (fun k => v9 (ix2 0 k)) l + v35 (ix2 r l) := by
  have e : ∀ k, unit (fun k => v7 (ix2 r k)) k = k0_pay8 v7 (ix2 r k) := fun k => (p7 v7 r k).symm
  rw [back, ← p6]; simp only [e]
  pointwise [k0_pay1, k0_pay9, k0_pay10]

variable (m : (ℓ : Loc nD τ sig) → Buf (Elt Ideal) ℓ) (c : Dev nD)

/-- What each window reads at a point. -/
theorem idx (t : Fin cfg0.N) : win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![0, 0] := by
  revert t; decide +kernel

/-! The arguments, at the argument buffers' own types. -/

abbrev X0 : M3 2 2048 1024 := m (c.tc.loc main_arg0)
abbrev X1 : M2 1 1024 := m (c.tc.loc main_arg1)
abbrev X2 : M3 1 1024 5128 := m (c.tc.loc main_arg2)
abbrev X3 : M3 2 2048 3072 := m (c.tc.loc main_arg3)
abbrev X4 : M3 2 2048 2048 := m (c.tc.loc main_arg4)
abbrev X5 : M3 2 2048 8 := m (c.tc.loc main_arg5)
abbrev X6 : M3 2 2048 1024 := m (c.tc.loc main_arg6)

variable (t : Fin cfg0.N)

/-! The input blocks, entry by entry, in the arguments. -/

/-- The host's product: the columns of the two attentions. -/
theorem hP (i : Fin 4096) (j : Fin 1024) : (V m c main_v10 : FVec Ideal S4096x1024 .f32) (ix2 i j) = dhA (X2 m c) (X3 m c) i j + dhB (X2 m c) (X3 m c) i j := by
  unfold V; after_reads_at
  refine congrArg₂ (fun a b : EReal => a + b) (Finset.sum_congr rfl fun k _ => congrArg₂ (fun a b : EReal => a * b) rfl ?_) (Finset.sum_congr rfl fun k _ => congrArg₂ (fun a b : EReal => a * b) rfl ?_)
  · after_reads_at
  · after_reads_at
theorem hG (i : Fin 4096) (k : Fin 2048) : (V m c main_v11 : FVec Ideal S4096x2048 .bf16) (ix2 i k) = tok (X4 m c) i k := by
  unfold V; after_reads_at; rfl
theorem hGw (j : Fin 1024) (k : Fin 2048) : (V m c main_v13 : FVec Ideal S1024x2048 .bf16) (ix2 j k) = X2 m c (ix3 0 j ⟨3080 + k.val, by omega⟩) := by
  unfold V; after_reads_at
theorem hF (i : Fin 4096) (k : Fin 128) : (V m c main_v16 : FVec Ideal S4096x128 .bf16) (ix2 i k) = if h : k.val < 8 then tok (X5 m c) i ⟨k.val, h⟩ else 0 := by
  unfold V; after_reads_at
  refine dite_congr rfl (fun h => ?_) (fun h => ?_)
  · after_reads_at; rfl
  · after_reads_at
theorem hFw (j : Fin 1024) (k : Fin 128) : (V m c main_v20 : FVec Ideal S1024x128 .bf16) (ix2 j k) = if h : k.val < 8 then X2 m c (ix3 0 j ⟨1536 + k.val, by omega⟩) else 0 := by
  unfold V; after_reads_at
  refine dite_congr rfl (fun h => ?_) (fun h => ?_)
  · after_reads_at
  · after_reads_at

theorem ibP (r : Fin 512) (j : Fin 1024) : (iblk m c 7 t : FVec Ideal S512x1024 .f32) (ix2 r j) = dhA (X2 m c) (X3 m c) (row N_0 t r) j + dhB (X2 m c) (X3 m c) (row N_0 t r) j := by
  rw [← hP]; blk_ext [iblk, idx t]
theorem ibG (r : Fin 512) (k : Fin 2048) : (iblk m c 0 t : FVec Ideal S512x2048 .bf16) (ix2 r k) = tok (X4 m c) (row N_0 t r) k := by
  rw [← hG]; blk_ext [iblk, idx t]
theorem ibGw (j : Fin 1024) (k : Fin 2048) : (iblk m c 1 t : FVec Ideal S1024x2048 .bf16) (ix2 j k) = X2 m c (ix3 0 j ⟨3080 + k.val, by omega⟩) := by
  rw [← hGw]; blk_ext [iblk, idx t]
theorem ibF (r : Fin 512) (k : Fin 128) : (iblk m c 2 t : FVec Ideal S512x128 .bf16) (ix2 r k) = if h : k.val < 8 then tok (X5 m c) (row N_0 t r) ⟨k.val, h⟩ else 0 := by
  rw [← hF]; blk_ext [iblk, idx t]
theorem ibFw (j : Fin 1024) (k : Fin 128) : (iblk m c 3 t : FVec Ideal S1024x128 .bf16) (ix2 j k) = if h : k.val < 8 then X2 m c (ix3 0 j ⟨1536 + k.val, by omega⟩) else 0 := by
  rw [← hFw]; blk_ext [iblk, idx t]
theorem ib2 (r : Fin 512) (k : Fin 1024) : (iblk m c 4 t : FVec Ideal S512x1024 .f32) (ix2 r k) = tok (X0 m c) (row N_0 t r) k := by
  have h : (V m c main_v0 : FVec Ideal S4096x1024 .f32) (ix2 (row N_0 t r) k) = tok (X0 m c) (row N_0 t r) k := by
    unfold V; after_reads_at; rfl
  rw [← h]; blk_ext [iblk, idx t]
theorem ib4 (r : Fin 512) (k : Fin 1024) : (iblk m c 6 t : FVec Ideal S512x1024 .f32) (ix2 r k) = tok (X6 m c) (row N_0 t r) k := by
  have h : (V m c main_v4 : FVec Ideal S4096x1024 .f32) (ix2 (row N_0 t r) k) = tok (X6 m c) (row N_0 t r) k := by
    unfold V; after_reads_at; rfl
  rw [← h]; blk_ext [iblk, idx t]
theorem ib3 (k : Fin 1024) : (iblk m c 5 t : FVec Ideal S1x1024 .f32) (ix2 0 k) = X1 m c (ix2 0 k) := by
  have h : (V m c main_arg1 : FVec Ideal S1x1024 .f32) (ix2 0 k) = X1 m c (ix2 0 k) := by
    unfold V; after_reads_at
  rw [← h]; blk_ext [iblk, idx t]

/-- The cotangent of the normalised rows, in the arguments. -/
abbrev D : Fin 4096 → Fin 1024 → EReal := dh (X2 m c) (X3 m c) (X4 m c) (X5 m c)

/-- The products' sum at a point. -/
abbrev prod : FVec Ideal S512x1024 .f32 := k0_pay5 (iblk m c 7 t) (iblk m c 0 t) (iblk m c 1 t) (iblk m c 2 t) (iblk m c 3 t)

/-- A product over 128 columns, all but eight of them zeros. -/
theorem sum_padded (a b : Fin 8 → EReal) :
    ∑ k : Fin 128, (if h : k.val < 8 then a ⟨k.val, h⟩ else 0) * (if h : k.val < 8 then b ⟨k.val, h⟩ else 0) = ∑ k : Fin 8, a k * b k := by
  refine (Fin.sum_univ_add (a := 8) (b := 120) _).trans ?_
  rw [Finset.sum_eq_zero (s := (Finset.univ : Finset (Fin 120))), add_zero]
  · exact Finset.sum_congr rfl fun k _ => congrArg₂ (· * ·) (dif_pos k.isLt) (dif_pos k.isLt)
  · intro k _
    have h : ¬ (Fin.natAdd 8 k).val < 8 := by simp
    exact (congrArg₂ (· * ·) (dif_neg h) (dif_neg h)).trans (mul_zero _)

theorem pdhG (r : Fin 512) (l : Fin 1024) : ntG (iblk m c 0 t) (iblk m c 1 t) r l = dhG (X2 m c) (X4 m c) (row N_0 t r) l := by
  rw [ntG, dhG]; exact Finset.sum_congr rfl fun k _ => congrArg₂ (· * ·) (ibG m c t r k) (ibGw m c t l k)
theorem pdhF (r : Fin 512) (l : Fin 1024) : ntF (iblk m c 2 t) (iblk m c 3 t) r l = dhF (X2 m c) (X5 m c) (row N_0 t r) l := by
  rw [ntF, dhF, ← sum_padded (fun k => tok (X5 m c) (row N_0 t r) k) (fun k => X2 m c (ix3 0 l ⟨1536 + k.val, by omega⟩))]
  exact Finset.sum_congr rfl fun k _ => congrArg₂ (· * ·) (ibF m c t r k) (ibFw m c t l k)
theorem pdh (r : Fin 512) (l : Fin 1024) : prod m c t (ix2 r l) = D m c (row N_0 t r) l := by
  refine (p5 _ _ _ _ _ r l).trans ?_
  rw [pdhG, pdhF]
  refine (congrArg (· + dhG (X2 m c) (X4 m c) (row N_0 t r) l + dhF (X2 m c) (X5 m c) (row N_0 t r) l) (ibP m c t r l)).trans ?_
  show _ + _ + _ + _ = dh _ _ _ _ _ _
  rw [dh]; ac_rfl

/-- The input's gradient at a point, as the body computes it. -/
abbrev out : FVec Ideal S512x1024 .f32 := k0_pay1 (k0_pay9 (iblk m c 7 t) (iblk m c 0 t) (iblk m c 1 t) (iblk m c 2 t) (iblk m c 3 t) (iblk m c 4 t) (iblk m c 5 t)) (k0_pay10 (iblk m c 4 t)) (iblk m c 6 t)

theorem pdx (r : Fin 512) (l : Fin 1024) : out m c t (ix2 r l) = dxE (X0 m c) (X1 m c) (X6 m c) (D m c) (row N_0 t r) l := by
  refine (p9 _ _ _ _ _ _ _ _ r l).trans (congrArg₂ (· + ·) ?_ (ib4 m c t r l))
  exact congr (congr (congr (congrArg back (funext fun k => ib2 m c t r k)) (funext fun k => pdh m c t r k)) (funext fun k => ib3 m c t k)) rfl

theorem pdg (v44 : Vec Ideal S1x1024 .f32) (l : Fin 1024) : k0_pay4 (prod m c t) (k0_pay8 (iblk m c 4 t)) v44 (ix2 0 l)
    = v44 (ix2 0 l) + ∑ r : Fin 512, D m c (row N_0 t r) l * unit (tok (X0 m c) (row N_0 t r)) l :=
  (p8 _ _ _ l).trans (congrArg _ (Finset.sum_congr rfl fun r _ => congrArg₂ (· * ·) (pdh m c t r l) (congr (congrArg unit (funext fun k => ib2 m c t r k)) rfl)))

/-! The three results. -/

theorem emb8 (r : Fin 512) (l : Fin 1024) : ((View.whole main_v21_0).slice (win0_8.rect t)).emb (ix2 r l) = ix2 (row N_0 t r) l := by blk_ext [idx t]
theorem emb9 (r : Fin 512) (l : Fin 1024) : ((View.whole main_v21_1).slice (win0_9.rect t)).emb (ix2 r l) = ix2 (row N_0 t r) l := by blk_ext [idx t]

theorem arr8 : (dats m 0 c).arrAt 8 cfg0.N = dx (X0 m c) (X1 m c) (X6 m c) (D m c) := by
  refine (dats m 0 c).arrAt_eq_of_covers 8 _ (by decide +kernel) fun t hf y => ?_
  blk_simp
  rw [after0_8]
  have e : ∀ y : S512x1024.Idx, out m c t y
      = dx (X0 m c) (X1 m c) (X6 m c) (D m c) (((View.whole main_v21_0).slice (win0_8.rect t)).emb y) := by
    intro y; idx_vars y; rw [pdx]; erw [emb8]; rfl
  by_cases h : t.val % 8 = 0
  · rw [outsAt0_A m c t h]; frame_out; exact e y
  · rw [outsAt0_B m c t h]; frame_out; exact e y

theorem arr9 : (dats m 0 c).arrAt 9 cfg0.N = dx (X0 m c) (X1 m c) (X6 m c) (D m c) := by
  refine (dats m 0 c).arrAt_eq_of_covers 9 _ (by decide +kernel) fun t hf y => ?_
  blk_simp
  rw [after0_9]
  have e : ∀ y : S512x1024.Idx, k0_pay2 (k0_pay9 (iblk m c 7 t) (iblk m c 0 t) (iblk m c 1 t) (iblk m c 2 t) (iblk m c 3 t) (iblk m c 4 t) (iblk m c 5 t)) (k0_pay10 (iblk m c 4 t)) (iblk m c 6 t) y
      = dx (X0 m c) (X1 m c) (X6 m c) (D m c) (((View.whole main_v21_1).slice (win0_9.rect t)).emb y) := by
    intro y; idx_vars y; refine Eq.trans (b := out m c t (ix2 y0 y1)) (by pointwise [k0_pay2]) ?_
    rw [pdx]; erw [emb9]; rfl
  by_cases h : t.val % 8 = 0
  · rw [outsAt0_A m c t h]; frame_out; exact e y
  · rw [outsAt0_B m c t h]; frame_out; exact e y

/-- What a point adds to the scale's cotangent. -/
def term (t : Fin cfg0.N) (j : S1x1024.Idx) : EReal := ∑ r : Fin 512, D m c (row N_0 t r) (j 1) * unit (tok (X0 m c) (row N_0 t r)) (j 1)

theorem acc0 (h : t.val % 8 = 0) (j : S1x1024.Idx) : (outsAt0 m c t.val t.isLt).2.2 j = 0 + term m c t j := by
  rw [outsAt0_A m c t h]; frame_out
  idx_vars j
  obtain rfl : j0 = 0 := Subsingleton.elim _ _
  exact (pdg m c t _ j1).trans (congrArg₂ (· + ·) (by pointwise [k0_pay3]) rfl)

theorem acc1 (h : ¬t.val % 8 = 0) (j : S1x1024.Idx) :
    (outsAt0 m c t.val t.isLt).2.2 j = (outsAt0 m c (t.val-1) (Nat.lt_of_le_of_lt (Nat.sub_le _ _) t.isLt)).2.2 j + term m c t j := by
  rw [outsAt0_B m c t h]; frame_out
  idx_vars j
  obtain rfl : j0 = 0 := Subsingleton.elim _ _
  exact pdg m c t _ j1

theorem arr10 : (dats m 0 c).arrAt 10 cfg0.N = dg (X0 m c) (D m c) := by
  refine (dats m 0 c).arrAt_eq_of_after_last 10 t0_7 (by decide +kernel) _ fun j => ?_
  blk_simp
  rw [after0_10]
  refine (Pipeline.eq_sum_fin_of_reset_step_apply_last (fun n h => (outsAt0 m c n h).2.2) 8 (fun _ => (0 : EReal)) (term m c) (acc0 m c) (acc1 m c) (le_of_eq N_0) t0_7 rfl j).trans ?_
  rw [zero_add]
  exact sum_rows N_0 (fun i => D m c i (j 1) * unit (tok (X0 m c) i) (j 1))

end Cert.MixIdeal.Blocks
end
-- ==== Proof.MixRefValue.lean ====
/- The mixing layer's input product and norm gradient: the derivative of the forward lines, as the functions of `NormSpec`. -/
module

public import proofs.«01_k».proof.Proof.Gen.MixRefIdeal.Read
public import proofs.«01_k».proof.Proof.MixValue

@[expose] public section

set_option maxRecDepth 16384

noncomputable section

namespace Cert.MixRefIdeal.Blocks

open Idealize.ShloMosaic Cert.MixRefIdeal Cert.MixRefIdeal.Read Cert.Common Cert.NormSpec Cert.MixIdeal.Blocks
open scoped BigOperators

variable (x0 : M3 2 2048 1024) (x1 : M2 1 1024) (x2 : M3 1 1024 5128) (x3 : M3 2 2048 3072) (x4 : M3 2 2048 2048) (x5 : M3 2 2048 8) (x6 : M3 2 2048 1024) (i : Fin 4096)

theorem r9 : val_main_v14 (F := Ideal) x0 (ix2 i 0) = msq (tok x0 i) := by
  pointwise [val_main_v14, val_main_v13, val_main_cst_1, val_main_v12, val_main_v11, val_main_cst_0, val_main_v10, val_main_v9, val_main_cst, val_main_v8, val_main_v0]; rfl
theorem r10 : val_main_v15 (F := Ideal) x0 (ix2 i 0) = inv (tok x0 i) := by
  show _ = Ideal.rsqrt (msq (tok x0 i)); rw [← r9]; pointwise [val_main_v15]
theorem r13 : val_main_v18 (F := Ideal) x0 (ix2 i 0) = mhalf * Ideal.div (inv (tok x0 i)) (msq (tok x0 i)) := by
  rw [← r9, ← r10]; pointwise [val_main_v18, val_main_v17, val_main_cst_2, val_main_v16]
theorem r15 (j : Fin 1024) : val_main_v20 (F := Ideal) x0 (ix2 i j) = unit (tok x0 i) j := by
  rw [unit, ← r10]; pointwise [val_main_v20, val_main_v19, val_main_v0]; rfl
/-- A product over four groups of columns, laid side by side. -/
theorem sum_pieces (a : Fin 1536 → EReal) (f : Fin 8 → EReal) (b : Fin 1536 → EReal) (g : Fin 2048 → EReal) (w : Fin 5128 → EReal) :
    ∑ x : Fin 5128, (if h : x.val < 1536 then a ⟨x.val, h⟩ else if h : x.val - 1536 < 8 then f ⟨x.val - 1536, h⟩
      else if h : x.val - 1536 - 8 < 1536 then b ⟨x.val - 1536 - 8, h⟩ else g ⟨x.val - 1536 - 8 - 1536, by omega⟩) * w x
      = (∑ k : Fin 1536, a k * w ⟨k.val, by omega⟩) + (∑ k : Fin 8, f k * w ⟨1536 + k.val, by omega⟩) + (∑ k : Fin 1536, b k * w ⟨1544 + k.val, by omega⟩)
        + ∑ k : Fin 2048, g k * w ⟨3080 + k.val, by omega⟩ := by
  refine (Fin.sum_univ_add (a := 1536) (b := 3592) _).trans ?_
  rw [add_assoc, add_assoc]
  refine congrArg₂ (· + ·) (Finset.sum_congr rfl fun k _ => congrArg₂ (· * ·) (dif_pos k.isLt) rfl) ((Fin.sum_univ_add (a := 8) (b := 3584) _).trans ?_)
  refine congrArg₂ (· + ·) (Finset.sum_congr rfl fun k _ => congrArg₂ (· * ·) ?_ rfl) ((Fin.sum_univ_add (a := 1536) (b := 2048) _).trans ?_)
  · refine (dif_neg (by simp)).trans ((dif_pos (by simp)).trans (congrArg f (Fin.ext ?_)))
    simp
  refine congrArg₂ (· + ·) (Finset.sum_congr rfl fun k _ => congrArg₂ (· * ·) ?_ (congrArg w (Fin.ext ?_))) (Finset.sum_congr rfl fun k _ => congrArg₂ (· * ·) ?_ (congrArg w (Fin.ext ?_)))
  · refine (dif_neg (by simp)).trans ((dif_neg (by simp)).trans ((dif_pos (by simp)).trans (congrArg b (Fin.ext ?_))))
    simp
  · simp; omega
  · refine (dif_neg (by simp)).trans ((dif_neg (by simp)).trans ((dif_neg (by simp)).trans (congrArg g (Fin.ext ?_))))
    simp
  · simp; omega

theorem r22 (j : Fin 1024) : val_main_v27 (F := Ideal) x2 x3 x4 x5 (ix2 i j) = dh x2 x3 x4 x5 i j := by
  pointwise [val_main_v27, val_main_v25, val_main_v7]
  refine (sum_pieces (fun k => val_main_v5 (F := Ideal) x3 (ix2 i k)) (fun k => val_main_v3 (F := Ideal) x5 (ix2 i k)) (fun k => val_main_v6 (F := Ideal) x3 (ix2 i k)) (fun k => val_main_v2 (F := Ideal) x4 (ix2 i k)) (fun x => x2 (ix3 0 j x))).trans ?_
  refine congrArg₂ (fun a b : EReal => a + b) (congrArg₂ (fun a b : EReal => a + b) (congrArg₂ (fun a b : EReal => a + b) ?_ ?_) ?_) ?_
  · exact Finset.sum_congr rfl fun k _ => congrArg (fun a : EReal => a * _) (by pointwise [val_main_v5, val_main_v1]; rfl)
  · exact Finset.sum_congr rfl fun k _ => congrArg (fun a : EReal => a * _) (by pointwise [val_main_v3]; rfl)
  · exact Finset.sum_congr rfl fun k _ => congrArg (fun a : EReal => a * _) (by pointwise [val_main_v6, val_main_v1]; rfl)
  · exact Finset.sum_congr rfl fun k _ => congrArg (fun a : EReal => a * _) (by pointwise [val_main_v2]; rfl)
theorem r27 (j : Fin 1024) : val_main_v32 (F := Ideal) x1 x2 x3 x4 x5 (ix2 i j) = dh x2 x3 x4 x5 i j * x1 (ix2 0 j) := by
  rw [← r22]; pointwise [val_main_v32, val_main_v31, val_main_v22, val_main_v21]
theorem r40 (j : Fin 1024) : val_main_v45 (F := Ideal) x0 x1 x2 x3 x4 x5 (ix2 i j) = through (tok x0 i) (dh x2 x3 x4 x5 i) (fun k => x1 (ix2 0 k)) := by
  have e : ∀ k, dh x2 x3 x4 x5 i k * x1 (ix2 0 k) = val_main_v32 (F := Ideal) x1 x2 x3 x4 x5 (ix2 i k) := fun k => (r27 x1 x2 x3 x4 x5 i k).symm
  rw [through, ← r13]; simp only [e]
  pointwise [val_main_v45, val_main_v44, val_main_v43, val_main_v42, val_main_cst_6, val_main_cst_7, val_main_v41, val_main_v37, val_main_v36, val_main_v35, val_main_v0, val_main_cst_5]
  simp only [Fin.sum_univ_one]; rfl

theorem r44 : val_main_v49 (F := Ideal) x0 x1 x2 x3 x4 x5 x6 = dx x0 x1 x6 (dh x2 x3 x4 x5) := by
  funext y; idx_vars y
  refine Eq.trans ?_ (dxE_eq x0 x1 x6 (dh x2 x3 x4 x5) y0 y1)
  rw [← r27, ← r10, ← r40 x0 x1 x2 x3 x4 x5 y0 y1]
  pointwise [val_main_v49, val_main_v48, val_main_v47, val_main_v46, val_main_v40, val_main_v39, val_main_v38, val_main_v4, val_main_v0]
  rfl

theorem r45 : val_main_v50 (F := Ideal) x0 x1 x2 x3 x4 x5 x6 = dx x0 x1 x6 (dh x2 x3 x4 x5) := by
  rw [← r44 x0 x1 x2 x3 x4 x5 x6]; rfl

theorem r29 : val_main_v34 (F := Ideal) x0 x2 x3 x4 x5 = dg x0 (dh x2 x3 x4 x5) := by
  funext y; idx_vars y
  pointwise [val_main_v34, val_main_v33, val_main_cst_4, val_main_v30, val_main_v29, val_main_cst_3, val_main_v28]
  simp only [Fin.sum_univ_one]
  refine Finset.sum_congr rfl fun k _ => ?_
  rw [mul_comm]
  exact congrArg₂ (· * ·) (r22 x2 x3 x4 x5 k y1) (r15 x0 k y1)

end Cert.MixRefIdeal.Blocks
end
-- ==== Proof.MixClaim.lean ====
/- The mixing layer's input product and norm gradient: the frames and the value claim. -/
module

public import proofs.«01_k».proof.Defs
public import proofs.«01_k».proof.Proof.Gen.Mix.Frame
public import proofs.«01_k».proof.Proof.Gen.MixRefIdeal
public import proofs.«01_k».proof.Proof.Gen.MixRefIdeal.Run
public import proofs.«01_k».proof.Proof.MixRefValue

@[expose] public section

noncomputable section

namespace Cert.Proof.Mix

open Idealize.ShloMosaic Idealize.SL.Sem Cert.Common Cert.NormSpec Cert.MixIdeal.Blocks Cert.MixRefIdeal.Blocks

theorem frameP : Cert.quiescent_Mix (hMix := Cert.Mix.Gen.facts) := fun m ρ _ => Cert.Mix.Gen.frame m ρ
theorem frameI : Cert.quiescent_MixIdeal (hMixIdeal := Cert.MixIdeal.Gen.facts) := fun m ρ _ => Cert.MixIdeal.Gen.frame m ρ
theorem frameR : Cert.quiescent_MixRefIdeal (hMixRefIdeal := Cert.MixRefIdeal.Gen.facts) := fun m ρ _ =>
  (θ_run Cert.MixRefIdeal.defs _ _).mono (fun r h => ⟨fun c => (h c).2.2.2, sem_eq_zero_of_no_sems (by decide) r.2⟩) (Cert.MixRefIdeal.Value.run (F := Ideal) m ρ)
theorem preserves : Cert.preserves_Mix_MixIdeal := trivial

theorem algebraic : Cert.algebraic_MixIdeal_MixRefIdeal (hMixIdeal := Cert.MixIdeal.Gen.facts) (hMixRefIdeal := Cert.MixRefIdeal.Gen.facts) := by
  intro m ρ m' ρ' _ hag
  refine ⟨fun c => dx (X0 m c) (X1 m c) (X6 m c) (D m c), fun c => dx (X0 m c) (X1 m c) (X6 m c) (D m c), fun c => dg (X0 m c) (D m c), ?_, ?_⟩
  · refine (θ_run _ _ _).mono (fun r h c => ?_) (Cert.MixIdeal.Value.run_blocks m ρ)
    obtain ⟨h0, h1, h2, hr⟩ := h c
    exact ⟨h0.trans (arr8 m c), h1.trans (arr9 m c), h2.trans (arr10 m c), hr⟩
  · refine (θ_run _ _ _).mono (fun r h c => ?_) (Cert.MixRefIdeal.Value.run m' ρ')
    obtain ⟨h0, h1, h2, hr⟩ := h c
    obtain ⟨a0, a1, a2, a3, a4, a5, a6⟩ := hag c
    have e0 : (m' ((c.tc : Thread Cert.MixRefIdeal.nD Cert.MixRefIdeal.τ).loc Cert.MixRefIdeal.main_arg0) : M3 2 2048 1024) = X0 m c := a0
    have e1 : (m' ((c.tc : Thread Cert.MixRefIdeal.nD Cert.MixRefIdeal.τ).loc Cert.MixRefIdeal.main_arg1) : M2 1 1024) = X1 m c := a1
    have e2 : (m' ((c.tc : Thread Cert.MixRefIdeal.nD Cert.MixRefIdeal.τ).loc Cert.MixRefIdeal.main_arg2) : M3 1 1024 5128) = X2 m c := a2
    have e3 : (m' ((c.tc : Thread Cert.MixRefIdeal.nD Cert.MixRefIdeal.τ).loc Cert.MixRefIdeal.main_arg3) : M3 2 2048 3072) = X3 m c := a3
    have e4 : (m' ((c.tc : Thread Cert.MixRefIdeal.nD Cert.MixRefIdeal.τ).loc Cert.MixRefIdeal.main_arg4) : M3 2 2048 2048) = X4 m c := a4
    have e5 : (m' ((c.tc : Thread Cert.MixRefIdeal.nD Cert.MixRefIdeal.τ).loc Cert.MixRefIdeal.main_arg5) : M3 2 2048 8) = X5 m c := a5
    have e6 : (m' ((c.tc : Thread Cert.MixRefIdeal.nD Cert.MixRefIdeal.τ).loc Cert.MixRefIdeal.main_arg6) : M3 2 2048 1024) = X6 m c := a6
    refine ⟨h0.trans ?_, h1.trans ?_, h2.trans ?_, hr⟩
    · refine (Cert.MixRefIdeal.Read.val_main_v49_eq ..).trans ?_
      rw [e0, e1, e2, e3, e4, e5, e6]; exact r44 _ _ _ _ _ _ _
    · refine (Cert.MixRefIdeal.Read.val_main_v50_eq ..).trans ?_
      rw [e0, e1, e2, e3, e4, e5, e6]; exact r45 _ _ _ _ _ _ _
    · refine (Cert.MixRefIdeal.Read.val_main_v34_eq ..).trans ?_
      rw [e0, e2, e3, e4, e5]; exact r29 _ _ _ _ _

end Cert.Proof.Mix
end
-- ==== Proof.NrmValue.lean ====
/- The RMS norm: the kernel's result and the reference's. -/
module

public import proofs.«01_k».proof.Proof.Gen.NrmIdeal.Value
public import proofs.«01_k».proof.Proof.Gen.NrmRefIdeal.Read
public import proofs.«01_k».proof.Proof.NormSpec
public import Idealize.ShloMosaic.Lib.Pipeline.ReadBack

@[expose] public section

set_option maxRecDepth 16384

noncomputable section

namespace Cert.NrmIdeal.Blocks

open Idealize.ShloMosaic Idealize.SL.Sem Cert.NrmIdeal Cert.NrmIdeal.Gen Cert.Common Cert.NormSpec
open scoped BigOperators

/-- The scaled normalised rows. -/
def sc (x : M3 2 2048 1024) (g : M2 1 1024) : M2 4096 1024 := fun y => unit (tok x (y 0)) (y 1) * g (ix2 0 (y 1))

theorem p1 (v0 : Vec Ideal S512x1024 .f32) (v12 : Vec Ideal S1x1024 .f32) (r : Fin 512) (l : Fin 1024) :
    (k0_pay1 v0 v12 : FVec Ideal S512x1024 .bf16) (ix2 r l) = unit (fun k => v0 (ix2 r k)) l * v12 (ix2 0 l) := by
  pointwise [k0_pay1]; rfl

variable (m : (ℓ : Loc nD τ sig) → Buf (Elt Ideal) ℓ) (c : Dev nD)

/-- What each window reads at a point. -/
theorem idx (t : Fin cfg0.N) : win0_0.index t = ![t.val, 0] ∧ win0_1.index t = ![0, 0] ∧ win0_2.index t = ![t.val, 0] := by
  revert t; decide +kernel

abbrev X0 : M3 2 2048 1024 := m (c.tc.loc main_arg0)
abbrev X1 : M2 1 1024 := m (c.tc.loc main_arg1)

variable (t : Fin cfg0.N)

theorem ib0 (r : Fin 512) (k : Fin 1024) : (iblk m c 0 t : FVec Ideal S512x1024 .f32) (ix2 r k) = tok (X0 m c) (row N_0 t r) k := by
  have h : (V m c main_v0 : FVec Ideal S4096x1024 .f32) (ix2 (row N_0 t r) k) = tok (X0 m c) (row N_0 t r) k := by
    unfold V; after_reads_at; rfl
  rw [← h]; blk_ext [iblk, idx t]
theorem ib1 (k : Fin 1024) : (iblk m c 1 t : FVec Ideal S1x1024 .f32) (ix2 0 k) = X1 m c (ix2 0 k) := by
  have h : (V m c main_arg1 : FVec Ideal S1x1024 .f32) (ix2 0 k) = X1 m c (ix2 0 k) := by
    unfold V; after_reads_at
  rw [← h]; blk_ext [iblk, idx t]

theorem pout (r : Fin 512) (l : Fin 1024) : (k0_pay1 (iblk m c 0 t) (iblk m c 1 t) : FVec Ideal S512x1024 .bf16) (ix2 r l) = unit (tok (X0 m c) (row N_0 t r)) l * X1 m c (ix2 0 l) :=
  (p1 _ _ r l).trans (congrArg₂ (fun a b : EReal => a * b) (congrArg (fun f => unit f l) (funext fun k => ib0 m c t r k)) (ib1 m c t l))

theorem emb2 (r : Fin 512) (l : Fin 1024) : ((View.whole main_v1).slice (win0_2.rect t)).emb (ix2 r l) = ix2 (row N_0 t r) l := by blk_ext [idx t]

theorem arr2 : (dats m 0 c).arrAt 2 cfg0.N = sc (X0 m c) (X1 m c) := by
  refine (dats m 0 c).arrAt_eq_of_covers 2 _ (by decide +kernel) fun t hf y => ?_
  blk_simp
  rw [after0_2]
  have e : ∀ y : S512x1024.Idx, k0_pay1 (iblk m c 0 t) (iblk m c 1 t) y
      = sc (X0 m c) (X1 m c) (((View.whole main_v1).slice (win0_2.rect t)).emb y) := by
    intro y; idx_vars y; refine (pout m c t y0 y1).trans ?_; erw [emb2]; rfl
  frame_out; exact e y

end Cert.NrmIdeal.Blocks

namespace Cert.NrmRefIdeal.Blocks

open Idealize.ShloMosaic Cert.NrmRefIdeal Cert.NrmRefIdeal.Read Cert.Common Cert.NormSpec Cert.NrmIdeal.Blocks
open scoped BigOperators

variable (x0 : M3 2 2048 1024) (x1 : M2 1 1024)

theorem r8 (i : Fin 4096) : val_main_v8 (F := Ideal) x0 (ix2 i 0) = inv (tok x0 i) := by
  pointwise [val_main_v8, val_main_v7, val_main_v6, val_main_cst_1, val_main_v5, val_main_v4, val_main_cst_0, val_main_v3, val_main_v2, val_main_cst, val_main_v1, val_main_v0]; rfl
theorem r15 : val_main_v15 (F := Ideal) x0 x1 = sc x0 x1 := by
  funext y; idx_vars y
  show _ = unit (tok x0 y0) y1 * x1 (ix2 0 y1)
  rw [unit, ← r8]; pointwise [val_main_v15, val_main_v14, val_main_v13, val_main_v12, val_main_v11, val_main_v10, val_main_v9, val_main_v0]; rfl

end Cert.NrmRefIdeal.Blocks
end
-- ==== Proof.NrmClaim.lean ====
/- The five claims of the RMS norm. -/
module

public import proofs.«01_k».proof.Defs
public import proofs.«01_k».proof.Proof.Gen.Nrm.Frame
public import proofs.«01_k».proof.Proof.Gen.NrmRefIdeal
public import proofs.«01_k».proof.Proof.Gen.NrmRefIdeal.Run
public import proofs.«01_k».proof.Proof.NrmValue

@[expose] public section

noncomputable section

namespace Cert.Proof.Nrm

open Idealize.ShloMosaic Idealize.SL.Sem Cert.Common Cert.NrmIdeal.Blocks

theorem frameP : Cert.quiescent_Nrm (hNrm := Cert.Nrm.Gen.facts) := fun m ρ _ => Cert.Nrm.Gen.frame m ρ
theorem frameI : Cert.quiescent_NrmIdeal (hNrmIdeal := Cert.NrmIdeal.Gen.facts) := fun m ρ _ => Cert.NrmIdeal.Gen.frame m ρ
theorem frameR : Cert.quiescent_NrmRefIdeal (hNrmRefIdeal := Cert.NrmRefIdeal.Gen.facts) := fun m ρ _ =>
  (θ_run Cert.NrmRefIdeal.defs _ _).mono (fun r h => ⟨fun c => (h c).2, sem_eq_zero_of_no_sems (by decide) r.2⟩) (Cert.NrmRefIdeal.Value.run (F := Ideal) m ρ)
theorem preserves : Cert.preserves_Nrm_NrmIdeal := trivial

theorem algebraic : Cert.algebraic_NrmIdeal_NrmRefIdeal (hNrmIdeal := Cert.NrmIdeal.Gen.facts) (hNrmRefIdeal := Cert.NrmRefIdeal.Gen.facts) := by
  intro m ρ m' ρ' _ hag
  refine ⟨fun c => sc (X0 m c) (X1 m c), ?_, ?_⟩
  · refine (θ_run _ _ _).mono (fun r h c => ?_) (Cert.NrmIdeal.Value.run_blocks m ρ)
    obtain ⟨h0, hr⟩ := h c
    exact ⟨h0.trans (arr2 m c), hr⟩
  · refine (θ_run _ _ _).mono (fun r h c => ?_) (Cert.NrmRefIdeal.Value.run m' ρ')
    obtain ⟨h0, hr⟩ := h c
    obtain ⟨a0, a1⟩ := hag c
    exact ⟨h0.trans ((Cert.NrmRefIdeal.Read.val_main_v15_eq ..).trans ((Cert.NrmRefIdeal.Blocks.r15 ..).trans (congr (congrArg sc a0) a1))), hr⟩

end Cert.Proof.Nrm
end
-- ==== Proof.GatefValue.lean ====
/- The two branches' projections and their gated mixture: the kernel's three results and the reference's. -/
module

public import proofs.«01_k».proof.Proof.Gen.GatefIdeal.Value
public import proofs.«01_k».proof.Proof.Gen.GatefRefIdeal.Read
public import proofs.«01_k».proof.Proof.GateSpec
public import Idealize.ShloMosaic.Lib.Pipeline.ReadBack

@[expose] public section

set_option maxRecDepth 16384

noncomputable section

namespace Cert.GatefIdeal.Blocks

open Idealize.ShloMosaic Idealize.SL.Sem Cert.GatefIdeal Cert.GatefIdeal.Gen Cert.Common Cert.GateSpec
open scoped BigOperators

/-- The gated mixture of the two branches. -/
def mixE (x0 : M3 2 2048 2048) (x1 : M3 1 2 1024) (x2 x3 : M3 2 2048 512) (x4 x5 : M3 1 512 1024) (i : Fin 4096) (j : Fin 1024) : EReal :=
  ga x0 x1 i j * proj x2 x4 i j + gb x0 x1 i j * proj x3 x5 i j
/-- The three results. -/
def mixed (x0 : M3 2 2048 2048) (x1 : M3 1 2 1024) (x2 x3 : M3 2 2048 512) (x4 x5 : M3 1 512 1024) : M2 4096 1024 := fun y => mixE x0 x1 x2 x3 x4 x5 (y 0) (y 1)
def branch (x2 : M3 2 2048 512) (x4 : M3 1 512 1024) : M2 4096 1024 := fun y => proj x2 x4 (y 0) (y 1)

theorem p1 (a b c d : FVec Ideal S512x1024 .f32) (r : Fin 512) (l : Fin 1024) :
    (k0_pay1 a b c d : FVec Ideal S512x1024 .bf16) (ix2 r l) = c (ix2 r l) * a (ix2 r l) + d (ix2 r l) * b (ix2 r l) := by
  pointwise [k0_pay1]
theorem p2 (v : Vec Ideal S512x512 .bf16) (w0 w1 w2 w3 : Vec Ideal S1x512x256 .bf16) (B : Fin 512 → Fin 1024 → EReal)
    (h0 : ∀ (k : Fin 512) (l : Fin 256), w0 (ix3 0 k l) = B k ⟨l.val, by omega⟩) (h1 : ∀ (k : Fin 512) (l : Fin 256), w1 (ix3 0 k l) = B k ⟨256 + l.val, by omega⟩)
    (h2 : ∀ (k : Fin 512) (l : Fin 256), w2 (ix3 0 k l) = B k ⟨512 + l.val, by omega⟩) (h3 : ∀ (k : Fin 512) (l : Fin 256), w3 (ix3 0 k l) = B k ⟨768 + l.val, by omega⟩)
    (r : Fin 512) (l : Fin 1024) : k0_pay2 v w0 v w1 v w2 v w3 (ix2 r l) = ∑ k : Fin 512, v (ix2 r k) * B k l := by
  pointwise [k0_pay2]
  by_cases a1 : l.val < 256
  · refine (dif_pos a1).trans ?_
    exact Finset.sum_congr rfl fun k _ => congrArg (fun b : EReal => v (ix2 r k) * b) (h0 k ⟨l.val, a1⟩)
  refine (dif_neg a1).trans ?_
  by_cases a2 : l.val - 256 < 256
  · refine (dif_pos a2).trans ?_
    exact Finset.sum_congr rfl fun k _ => congrArg (fun b : EReal => v (ix2 r k) * b) ((h1 k ⟨l.val - 256, a2⟩).trans (congrArg (B k) (Fin.ext (show 256 + (l.val - 256) = l.val by omega))))
  refine (dif_neg a2).trans ?_
  by_cases a3 : l.val - 256 - 256 < 256
  · refine (dif_pos a3).trans ?_
    exact Finset.sum_congr rfl fun k _ => congrArg (fun b : EReal => v (ix2 r k) * b) ((h2 k ⟨l.val - 256 - 256, a3⟩).trans (congrArg (B k) (Fin.ext (show 512 + (l.val - 256 - 256) = l.val by omega))))
  refine (dif_neg a3).trans ?_
  exact Finset.sum_congr rfl fun k _ => congrArg (fun b : EReal => v (ix2 r k) * b) ((h3 k ⟨l.val - 256 - 256 - 256, by omega⟩).trans (congrArg (B k) (Fin.ext (show 768 + (l.val - 256 - 256 - 256) = l.val by omega))))
theorem p4 (v : Vec Ideal S512x512 .bf16) (w0 w1 w2 w3 : Vec Ideal S1x512x256 .bf16) (B : Fin 512 → Fin 1024 → EReal)
    (h0 : ∀ (k : Fin 512) (l : Fin 256), w0 (ix3 0 k l) = B k ⟨l.val, by omega⟩) (h1 : ∀ (k : Fin 512) (l : Fin 256), w1 (ix3 0 k l) = B k ⟨256 + l.val, by omega⟩)
    (h2 : ∀ (k : Fin 512) (l : Fin 256), w2 (ix3 0 k l) = B k ⟨512 + l.val, by omega⟩) (h3 : ∀ (k : Fin 512) (l : Fin 256), w3 (ix3 0 k l) = B k ⟨768 + l.val, by omega⟩)
    (r : Fin 512) (l : Fin 1024) : k0_pay4 (k0_pay3 v w0) v w1 v w2 v w3 (ix2 r l) = ∑ k : Fin 512, v (ix2 r k) * B k l := by
  pointwise [k0_pay4, k0_pay3]
  by_cases a1 : l.val < 256
  · refine (dif_pos a1).trans ?_
    exact Finset.sum_congr rfl fun k _ => congrArg (fun b : EReal => v (ix2 r k) * b) (h0 k ⟨l.val, a1⟩)
  refine (dif_neg a1).trans ?_
  by_cases a2 : l.val - 256 < 256
  · refine (dif_pos a2).trans ?_
    exact Finset.sum_congr rfl fun k _ => congrArg (fun b : EReal => v (ix2 r k) * b) ((h1 k ⟨l.val - 256, a2⟩).trans (congrArg (B k) (Fin.ext (show 256 + (l.val - 256) = l.val by omega))))
  refine (dif_neg a2).trans ?_
  by_cases a3 : l.val - 256 - 256 < 256
  · refine (dif_pos a3).trans ?_
    exact Finset.sum_congr rfl fun k _ => congrArg (fun b : EReal => v (ix2 r k) * b) ((h2 k ⟨l.val - 256 - 256, a3⟩).trans (congrArg (B k) (Fin.ext (show 512 + (l.val - 256 - 256) = l.val by omega))))
  refine (dif_neg a3).trans ?_
  exact Finset.sum_congr rfl fun k _ => congrArg (fun b : EReal => v (ix2 r k) * b) ((h3 k ⟨l.val - 256 - 256 - 256, by omega⟩).trans (congrArg (B k) (Fin.ext (show 768 + (l.val - 256 - 256 - 256) = l.val by omega))))

variable (m : (ℓ : Loc nD τ sig) → Buf (Elt Ideal) ℓ) (c : Dev nD)

/-- What each window reads at a point. -/
theorem idx (t : Fin cfg0.N) : win0_0.index t = ![t.val, 0] ∧ win0_1.index t = ![t.val, 1] ∧ win0_2.index t = ![0, 0] ∧ win0_3.index t = ![t.val, 0] ∧ win0_4.index t = ![t.val, 0] ∧ win0_5.index t = ![0, 0, 0] ∧ win0_6.index t = ![0, 0, 0] ∧ win0_7.index t = ![t.val, 0] ∧ win0_8.index t = ![t.val, 0] ∧ win0_9.index t = ![t.val, 0] := by
  revert t; decide +kernel

abbrev X0 : M3 2 2048 2048 := m (c.tc.loc main_arg0)
abbrev X1 : M3 1 2 1024 := m (c.tc.loc main_arg1)
abbrev X2 : M3 2 2048 512 := m (c.tc.loc main_arg2)
abbrev X3 : M3 2 2048 512 := m (c.tc.loc main_arg3)
abbrev X4 : M3 1 512 1024 := m (c.tc.loc main_arg4)
abbrev X5 : M3 1 512 1024 := m (c.tc.loc main_arg5)

variable (t : Fin cfg0.N)

theorem ib0 (r : Fin 512) (k : Fin 1024) : (iblk m c 0 t : FVec Ideal S512x1024 .f32) (ix2 r k) = tok (X0 m c) (row N_0 t r) ⟨k.val, by omega⟩ := by
  have h : (V m c main_v0 : FVec Ideal S4096x2048 .f32) (ix2 (row N_0 t r) ⟨k.val, by omega⟩) = tok (X0 m c) (row N_0 t r) ⟨k.val, by omega⟩ := by
    unfold V; after_reads_at; rfl
  rw [← h]; blk_ext [iblk, idx t]
theorem ib1 (r : Fin 512) (k : Fin 1024) : (iblk m c 1 t : FVec Ideal S512x1024 .f32) (ix2 r k) = tok (X0 m c) (row N_0 t r) ⟨1024 + k.val, by omega⟩ := by
  have h : (V m c main_v0 : FVec Ideal S4096x2048 .f32) (ix2 (row N_0 t r) ⟨1024 + k.val, by omega⟩) = tok (X0 m c) (row N_0 t r) ⟨1024 + k.val, by omega⟩ := by
    unfold V; after_reads_at; rfl
  rw [← h]; blk_ext [iblk, idx t]
theorem ib2 (r : Fin 2) (k : Fin 1024) : (iblk m c 2 t : FVec Ideal S2x1024 .f32) (ix2 r k) = X1 m c (ix3 0 r k) := by
  have h : (V m c main_v3 : FVec Ideal S2x1024 .f32) (ix2 r k) = X1 m c (ix3 0 r k) := by
    unfold V; after_reads_at
  rw [← h]; blk_ext [iblk, idx t]
theorem ib3 (r k : Fin 512) : (iblk m c 3 t : FVec Ideal S512x512 .bf16) (ix2 r k) = tok (X2 m c) (row N_0 t r) k := by
  have h : (V m c main_v4 : FVec Ideal S4096x512 .bf16) (ix2 (row N_0 t r) k) = tok (X2 m c) (row N_0 t r) k := by
    unfold V; after_reads_at; rfl
  rw [← h]; blk_ext [iblk, idx t]
theorem ib4 (r k : Fin 512) : (iblk m c 4 t : FVec Ideal S512x512 .bf16) (ix2 r k) = tok (X3 m c) (row N_0 t r) k := by
  have h : (V m c main_v5 : FVec Ideal S4096x512 .bf16) (ix2 (row N_0 t r) k) = tok (X3 m c) (row N_0 t r) k := by
    unfold V; after_reads_at; rfl
  rw [← h]; blk_ext [iblk, idx t]
theorem ib5 (s : Fin 4) (r : Fin 512) (k : Fin 256) : (iblk m c 5 t : FVec Ideal S4x512x256 .bf16) (ix3 s r k) = X4 m c (ix3 0 r ⟨s.val * 256 + k.val, by omega⟩) := by
  have h : (V m c main_v9 : FVec Ideal S4x512x256 .bf16) (ix3 s r k) = X4 m c (ix3 0 r ⟨s.val * 256 + k.val, by omega⟩) := by
    unfold V; after_reads_at
  rw [← h]; blk_ext [iblk, idx t]
theorem ib5a (r : Fin 512) (k : Fin 256) : (View.ld (iblk m c 5 t) (Rect.unit (s := S4x512x256) ![0, 0, 0] S1x512x256.size inb_S4x512x256_S1x512x256_0_0_0) : Vec Ideal S1x512x256 .bf16) (ix3 0 r k)
    = X4 m c (ix3 0 r ⟨k.val, by omega⟩) := by
  have h := ib5 m c t 0 r k
  refine Eq.trans ?_ (h.trans (by blk_ext))
  pointwise
theorem ib5b (r : Fin 512) (k : Fin 256) : (View.ld (iblk m c 5 t) (Rect.unit (s := S4x512x256) ![1, 0, 0] S1x512x256.size inb_S4x512x256_S1x512x256_1_0_0) : Vec Ideal S1x512x256 .bf16) (ix3 0 r k)
    = X4 m c (ix3 0 r ⟨256 + k.val, by omega⟩) := by
  have h := ib5 m c t 1 r k
  refine Eq.trans ?_ (h.trans (by blk_ext))
  pointwise
theorem ib5c (r : Fin 512) (k : Fin 256) : (View.ld (iblk m c 5 t) (Rect.unit (s := S4x512x256) ![2, 0, 0] S1x512x256.size inb_S4x512x256_S1x512x256_2_0_0) : Vec Ideal S1x512x256 .bf16) (ix3 0 r k)
    = X4 m c (ix3 0 r ⟨512 + k.val, by omega⟩) := by
  have h := ib5 m c t 2 r k
  refine Eq.trans ?_ (h.trans (by blk_ext))
  pointwise
theorem ib5d (r : Fin 512) (k : Fin 256) : (View.ld (iblk m c 5 t) (Rect.unit (s := S4x512x256) ![3, 0, 0] S1x512x256.size inb_S4x512x256_S1x512x256_3_0_0) : Vec Ideal S1x512x256 .bf16) (ix3 0 r k)
    = X4 m c (ix3 0 r ⟨768 + k.val, by omega⟩) := by
  have h := ib5 m c t 3 r k
  refine Eq.trans ?_ (h.trans (by blk_ext))
  pointwise
theorem ib6 (s : Fin 4) (r : Fin 512) (k : Fin 256) : (iblk m c 6 t : FVec Ideal S4x512x256 .bf16) (ix3 s r k) = X5 m c (ix3 0 r ⟨s.val * 256 + k.val, by omega⟩) := by
  have h : (V m c main_v13 : FVec Ideal S4x512x256 .bf16) (ix3 s r k) = X5 m c (ix3 0 r ⟨s.val * 256 + k.val, by omega⟩) := by
    unfold V; after_reads_at
  rw [← h]; blk_ext [iblk, idx t]
theorem ib6a (r : Fin 512) (k : Fin 256) : (View.ld (iblk m c 6 t) (Rect.unit (s := S4x512x256) ![0, 0, 0] S1x512x256.size inb_S4x512x256_S1x512x256_0_0_0) : Vec Ideal S1x512x256 .bf16) (ix3 0 r k)
    = X5 m c (ix3 0 r ⟨k.val, by omega⟩) := by
  have h := ib6 m c t 0 r k
  refine Eq.trans ?_ (h.trans (by blk_ext))
  pointwise
theorem ib6b (r : Fin 512) (k : Fin 256) : (View.ld (iblk m c 6 t) (Rect.unit (s := S4x512x256) ![1, 0, 0] S1x512x256.size inb_S4x512x256_S1x512x256_1_0_0) : Vec Ideal S1x512x256 .bf16) (ix3 0 r k)
    = X5 m c (ix3 0 r ⟨256 + k.val, by omega⟩) := by
  have h := ib6 m c t 1 r k
  refine Eq.trans ?_ (h.trans (by blk_ext))
  pointwise
theorem ib6c (r : Fin 512) (k : Fin 256) : (View.ld (iblk m c 6 t) (Rect.unit (s := S4x512x256) ![2, 0, 0] S1x512x256.size inb_S4x512x256_S1x512x256_2_0_0) : Vec Ideal S1x512x256 .bf16) (ix3 0 r k)
    = X5 m c (ix3 0 r ⟨512 + k.val, by omega⟩) := by
  have h := ib6 m c t 2 r k
  refine Eq.trans ?_ (h.trans (by blk_ext))
  pointwise
theorem ib6d (r : Fin 512) (k : Fin 256) : (View.ld (iblk m c 6 t) (Rect.unit (s := S4x512x256) ![3, 0, 0] S1x512x256.size inb_S4x512x256_S1x512x256_3_0_0) : Vec Ideal S1x512x256 .bf16) (ix3 0 r k)
    = X5 m c (ix3 0 r ⟨768 + k.val, by omega⟩) := by
  have h := ib6 m c t 3 r k
  refine Eq.trans ?_ (h.trans (by blk_ext))
  pointwise

theorem ib2a (k : Fin 1024) : (View.ld (iblk m c 2 t) (Rect.unit (s := S2x1024) ![0, 0] S1x1024.size inb_S2x1024_S1x1024_0_0) : Vec Ideal S1x1024 .f32) (ix2 0 k) = X1 m c (ix3 0 0 k) := by
  rw [← ib2 m c t]; pointwise
theorem ib2b (k : Fin 1024) : (View.ld (iblk m c 2 t) (Rect.unit (s := S2x1024) ![1, 0] S1x1024.size inb_S2x1024_S1x1024_1_0) : Vec Ideal S1x1024 .f32) (ix2 0 k) = X1 m c (ix3 0 1 k) := by
  rw [← ib2 m c t]; pointwise

theorem pga (r : Fin 512) (l : Fin 1024) : (k0_pay5 (iblk m c 0 t) (View.ld (iblk m c 2 t) (Rect.unit (s := S2x1024) ![0, 0] S1x1024.size inb_S2x1024_S1x1024_0_0))) (ix2 r l) = ga (X0 m c) (X1 m c) (row N_0 t r) l := by
  rw [ga, ← ib2a m c t, ← ib0 m c t]; pointwise [k0_pay5]
theorem pgb (r : Fin 512) (l : Fin 1024) : (k0_pay6 (iblk m c 1 t) (View.ld (iblk m c 2 t) (Rect.unit (s := S2x1024) ![1, 0] S1x1024.size inb_S2x1024_S1x1024_1_0))) (ix2 r l) = gb (X0 m c) (X1 m c) (row N_0 t r) l := by
  rw [gb, ← ib2b m c t, ← ib1 m c t]; pointwise [k0_pay6]
theorem pof (r : Fin 512) (l : Fin 1024) : (k0_pay2 (iblk m c 3 t) (View.ld (iblk m c 5 t) (Rect.unit (s := S4x512x256) ![0, 0, 0] S1x512x256.size inb_S4x512x256_S1x512x256_0_0_0)) (iblk m c 3 t) (View.ld (iblk m c 5 t) (Rect.unit (s := S4x512x256) ![1, 0, 0] S1x512x256.size inb_S4x512x256_S1x512x256_1_0_0)) (iblk m c 3 t) (View.ld (iblk m c 5 t) (Rect.unit (s := S4x512x256) ![2, 0, 0] S1x512x256.size inb_S4x512x256_S1x512x256_2_0_0)) (iblk m c 3 t) (View.ld (iblk m c 5 t) (Rect.unit (s := S4x512x256) ![3, 0, 0] S1x512x256.size inb_S4x512x256_S1x512x256_3_0_0))) (ix2 r l) = proj (X2 m c) (X4 m c) (row N_0 t r) l :=
  (p2 _ _ _ _ _ (fun k l => X4 m c (ix3 0 k l)) (ib5a m c t) (ib5b m c t) (ib5c m c t) (ib5d m c t) r l).trans
    (Finset.sum_congr rfl fun k _ => congrArg (fun a : EReal => a * X4 m c (ix3 0 k l)) (ib3 m c t r k))
theorem pos (r : Fin 512) (l : Fin 1024) : (k0_pay4 (k0_pay3 (iblk m c 4 t) (View.ld (iblk m c 6 t) (Rect.unit (s := S4x512x256) ![0, 0, 0] S1x512x256.size inb_S4x512x256_S1x512x256_0_0_0))) (iblk m c 4 t) (View.ld (iblk m c 6 t) (Rect.unit (s := S4x512x256) ![1, 0, 0] S1x512x256.size inb_S4x512x256_S1x512x256_1_0_0)) (iblk m c 4 t) (View.ld (iblk m c 6 t) (Rect.unit (s := S4x512x256) ![2, 0, 0] S1x512x256.size inb_S4x512x256_S1x512x256_2_0_0)) (iblk m c 4 t) (View.ld (iblk m c 6 t) (Rect.unit (s := S4x512x256) ![3, 0, 0] S1x512x256.size inb_S4x512x256_S1x512x256_3_0_0))) (ix2 r l) = proj (X3 m c) (X5 m c) (row N_0 t r) l :=
  (p4 _ _ _ _ _ (fun k l => X5 m c (ix3 0 k l)) (ib6a m c t) (ib6b m c t) (ib6c m c t) (ib6d m c t) r l).trans
    (Finset.sum_congr rfl fun k _ => congrArg (fun a : EReal => a * X5 m c (ix3 0 k l)) (ib4 m c t r k))
theorem pmix (r : Fin 512) (l : Fin 1024) : (k0_pay1 (k0_pay2 (iblk m c 3 t) (View.ld (iblk m c 5 t) (Rect.unit (s := S4x512x256) ![0, 0, 0] S1x512x256.size inb_S4x512x256_S1x512x256_0_0_0)) (iblk m c 3 t) (View.ld (iblk m c 5 t) (Rect.unit (s := S4x512x256) ![1, 0, 0] S1x512x256.size inb_S4x512x256_S1x512x256_1_0_0)) (iblk m c 3 t) (View.ld (iblk m c 5 t) (Rect.unit (s := S4x512x256) ![2, 0, 0] S1x512x256.size inb_S4x512x256_S1x512x256_2_0_0)) (iblk m c 3 t) (View.ld (iblk m c 5 t) (Rect.unit (s := S4x512x256) ![3, 0, 0] S1x512x256.size inb_S4x512x256_S1x512x256_3_0_0))) (k0_pay4 (k0_pay3 (iblk m c 4 t) (View.ld (iblk m c 6 t) (Rect.unit (s := S4x512x256) ![0, 0, 0] S1x512x256.size inb_S4x512x256_S1x512x256_0_0_0))) (iblk m c 4 t) (View.ld (iblk m c 6 t) (Rect.unit (s := S4x512x256) ![1, 0, 0] S1x512x256.size inb_S4x512x256_S1x512x256_1_0_0)) (iblk m c 4 t) (View.ld (iblk m c 6 t) (Rect.unit (s := S4x512x256) ![2, 0, 0] S1x512x256.size inb_S4x512x256_S1x512x256_2_0_0)) (iblk m c 4 t) (View.ld (iblk m c 6 t) (Rect.unit (s := S4x512x256) ![3, 0, 0] S1x512x256.size inb_S4x512x256_S1x512x256_3_0_0))) (k0_pay5 (iblk m c 0 t) (View.ld (iblk m c 2 t) (Rect.unit (s := S2x1024) ![0, 0] S1x1024.size inb_S2x1024_S1x1024_0_0))) (k0_pay6 (iblk m c 1 t) (View.ld (iblk m c 2 t) (Rect.unit (s := S2x1024) ![1, 0] S1x1024.size inb_S2x1024_S1x1024_1_0))) : FVec Ideal S512x1024 .bf16) (ix2 r l) = mixE (X0 m c) (X1 m c) (X2 m c) (X3 m c) (X4 m c) (X5 m c) (row N_0 t r) l := by
  refine (p1 _ _ _ _ r l).trans ?_
  rw [mixE, pga, pgb, pof, pos]

theorem emb7 (r : Fin 512) (l : Fin 1024) : ((View.whole main_v14_0).slice (win0_7.rect t)).emb (ix2 r l) = ix2 (row N_0 t r) l := by blk_ext [idx t]

theorem arr7 : (dats m 0 c).arrAt 7 cfg0.N = mixed (X0 m c) (X1 m c) (X2 m c) (X3 m c) (X4 m c) (X5 m c) := by
  refine (dats m 0 c).arrAt_eq_of_covers 7 _ (by decide +kernel) fun t hf y => ?_
  blk_simp
  rw [after0_7]
  have e : ∀ y : S512x1024.Idx, k0_pay1 (k0_pay2 (iblk m c 3 t) (View.ld (iblk m c 5 t) (Rect.unit (s := S4x512x256) ![0, 0, 0] S1x512x256.size inb_S4x512x256_S1x512x256_0_0_0)) (iblk m c 3 t) (View.ld (iblk m c 5 t) (Rect.unit (s := S4x512x256) ![1, 0, 0] S1x512x256.size inb_S4x512x256_S1x512x256_1_0_0)) (iblk m c 3 t) (View.ld (iblk m c 5 t) (Rect.unit (s := S4x512x256) ![2, 0, 0] S1x512x256.size inb_S4x512x256_S1x512x256_2_0_0)) (iblk m c 3 t) (View.ld (iblk m c 5 t) (Rect.unit (s := S4x512x256) ![3, 0, 0] S1x512x256.size inb_S4x512x256_S1x512x256_3_0_0))) (k0_pay4 (k0_pay3 (iblk m c 4 t) (View.ld (iblk m c 6 t) (Rect.unit (s := S4x512x256) ![0, 0, 0] S1x512x256.size inb_S4x512x256_S1x512x256_0_0_0))) (iblk m c 4 t) (View.ld (iblk m c 6 t) (Rect.unit (s := S4x512x256) ![1, 0, 0] S1x512x256.size inb_S4x512x256_S1x512x256_1_0_0)) (iblk m c 4 t) (View.ld (iblk m c 6 t) (Rect.unit (s := S4x512x256) ![2, 0, 0] S1x512x256.size inb_S4x512x256_S1x512x256_2_0_0)) (iblk m c 4 t) (View.ld (iblk m c 6 t) (Rect.unit (s := S4x512x256) ![3, 0, 0] S1x512x256.size inb_S4x512x256_S1x512x256_3_0_0))) (k0_pay5 (iblk m c 0 t) (View.ld (iblk m c 2 t) (Rect.unit (s := S2x1024) ![0, 0] S1x1024.size inb_S2x1024_S1x1024_0_0))) (k0_pay6 (iblk m c 1 t) (View.ld (iblk m c 2 t) (Rect.unit (s := S2x1024) ![1, 0] S1x1024.size inb_S2x1024_S1x1024_1_0))) y
      = mixed (X0 m c) (X1 m c) (X2 m c) (X3 m c) (X4 m c) (X5 m c) (((View.whole main_v14_0).slice (win0_7.rect t)).emb y) := by
    intro y; idx_vars y; refine (pmix m c t y0 y1).trans ?_; erw [emb7]; rfl
  unfold_out out0_7; frame_out; exact e y

theorem emb8 (r : Fin 512) (l : Fin 1024) : ((View.whole main_v14_1).slice (win0_8.rect t)).emb (ix2 r l) = ix2 (row N_0 t r) l := by blk_ext [idx t]

theorem arr8 : (dats m 0 c).arrAt 8 cfg0.N = branch (X2 m c) (X4 m c) := by
  refine (dats m 0 c).arrAt_eq_of_covers 8 _ (by decide +kernel) fun t hf y => ?_
  blk_simp
  rw [after0_8]
  have e : ∀ y : S512x1024.Idx, (k0_pay2 (iblk m c 3 t) (View.ld (iblk m c 5 t) (Rect.unit (s := S4x512x256) ![0, 0, 0] S1x512x256.size inb_S4x512x256_S1x512x256_0_0_0)) (iblk m c 3 t) (View.ld (iblk m c 5 t) (Rect.unit (s := S4x512x256) ![1, 0, 0] S1x512x256.size inb_S4x512x256_S1x512x256_1_0_0)) (iblk m c 3 t) (View.ld (iblk m c 5 t) (Rect.unit (s := S4x512x256) ![2, 0, 0] S1x512x256.size inb_S4x512x256_S1x512x256_2_0_0)) (iblk m c 3 t) (View.ld (iblk m c 5 t) (Rect.unit (s := S4x512x256) ![3, 0, 0] S1x512x256.size inb_S4x512x256_S1x512x256_3_0_0))) y
      = branch (X2 m c) (X4 m c) (((View.whole main_v14_1).slice (win0_8.rect t)).emb y) := by
    intro y; idx_vars y; refine (pof m c t y0 y1).trans ?_; erw [emb8]; rfl
  unfold_out out0_8; frame_out; exact e y

theorem emb9 (r : Fin 512) (l : Fin 1024) : ((View.whole main_v14_2).slice (win0_9.rect t)).emb (ix2 r l) = ix2 (row N_0 t r) l := by blk_ext [idx t]

theorem arr9 : (dats m 0 c).arrAt 9 cfg0.N = branch (X3 m c) (X5 m c) := by
  refine (dats m 0 c).arrAt_eq_of_covers 9 _ (by decide +kernel) fun t hf y => ?_
  blk_simp
  rw [after0_9]
  have e : ∀ y : S512x1024.Idx, (k0_pay4 (k0_pay3 (iblk m c 4 t) (View.ld (iblk m c 6 t) (Rect.unit (s := S4x512x256) ![0, 0, 0] S1x512x256.size inb_S4x512x256_S1x512x256_0_0_0))) (iblk m c 4 t) (View.ld (iblk m c 6 t) (Rect.unit (s := S4x512x256) ![1, 0, 0] S1x512x256.size inb_S4x512x256_S1x512x256_1_0_0)) (iblk m c 4 t) (View.ld (iblk m c 6 t) (Rect.unit (s := S4x512x256) ![2, 0, 0] S1x512x256.size inb_S4x512x256_S1x512x256_2_0_0)) (iblk m c 4 t) (View.ld (iblk m c 6 t) (Rect.unit (s := S4x512x256) ![3, 0, 0] S1x512x256.size inb_S4x512x256_S1x512x256_3_0_0))) y
      = branch (X3 m c) (X5 m c) (((View.whole main_v14_2).slice (win0_9.rect t)).emb y) := by
    intro y; idx_vars y; refine (pos m c t y0 y1).trans ?_; erw [emb9]; rfl
  unfold_out out0_9; frame_out; exact e y

end Cert.GatefIdeal.Blocks

namespace Cert.GatefRefIdeal.Blocks

open Idealize.ShloMosaic Cert.GatefRefIdeal Cert.GatefRefIdeal.Read Cert.Common Cert.GateSpec Cert.GatefIdeal.Blocks
open scoped BigOperators

variable (x0 : M3 2 2048 2048) (x1 : M3 1 2 1024) (x2 x3 : M3 2 2048 512) (x4 x5 : M3 1 512 1024) (i : Fin 4096) (j : Fin 1024)

theorem r18 : val_main_v18 (F := Ideal) x0 x1 (ix2 i j) = ga x0 x1 i j := by
  pointwise [val_main_v18, val_main_v17, val_main_cst_0, val_main_v16, val_main_v15, val_main_cst, val_main_v14, val_main_v13, val_main_v12, val_main_v11, val_main_v10, val_main_v9, val_main_v8, val_main_v7, val_main_v0]; rfl
theorem r31 : val_main_v31 (F := Ideal) x0 x1 (ix2 i j) = gb x0 x1 i j := by
  pointwise [val_main_v31, val_main_v30, val_main_cst_2, val_main_v29, val_main_v28, val_main_cst_1, val_main_v27, val_main_v26, val_main_v25, val_main_v24, val_main_v23, val_main_v22, val_main_v21, val_main_v20, val_main_v0]; rfl
theorem r4 : val_main_v4 (F := Ideal) x2 x4 (ix2 i j) = proj x2 x4 i j := by
  pointwise [val_main_v4, val_main_v3, val_main_v1]; rfl
theorem r6 : val_main_v6 (F := Ideal) x3 x5 (ix2 i j) = proj x3 x5 i j := by
  pointwise [val_main_v6, val_main_v5, val_main_v2]; rfl
theorem res1 : val_main_v4 (F := Ideal) x2 x4 = branch x2 x4 := by
  funext y; idx_vars y; exact r4 x2 x4 y0 y1
theorem res2 : val_main_v6 (F := Ideal) x3 x5 = branch x3 x5 := by
  funext y; idx_vars y; exact r6 x3 x5 y0 y1
theorem res0 : val_main_v34 (F := Ideal) x0 x1 x2 x3 x4 x5 = mixed x0 x1 x2 x3 x4 x5 := by
  funext y; idx_vars y
  show _ = ga x0 x1 y0 y1 * proj x2 x4 y0 y1 + gb x0 x1 y0 y1 * proj x3 x5 y0 y1
  rw [← r18, ← r31, ← r4, ← r6]; pointwise [val_main_v34, val_main_v33, val_main_v32, val_main_v19]

end Cert.GatefRefIdeal.Blocks
end
-- ==== Proof.GatefClaim.lean ====
/- The five claims of the two branches' projections and their gated mixture. -/
module

public import proofs.«01_k».proof.Defs
public import proofs.«01_k».proof.Proof.Gen.Gatef.Frame
public import proofs.«01_k».proof.Proof.Gen.GatefRefIdeal
public import proofs.«01_k».proof.Proof.Gen.GatefRefIdeal.Run
public import proofs.«01_k».proof.Proof.GatefValue

@[expose] public section

noncomputable section

namespace Cert.Proof.Gatef

open Idealize.ShloMosaic Idealize.SL.Sem Cert.Common Cert.GatefIdeal.Blocks

theorem frameP : Cert.quiescent_Gatef (hGatef := Cert.Gatef.Gen.facts) := fun m ρ _ => Cert.Gatef.Gen.frame m ρ
theorem frameI : Cert.quiescent_GatefIdeal (hGatefIdeal := Cert.GatefIdeal.Gen.facts) := fun m ρ _ => Cert.GatefIdeal.Gen.frame m ρ
theorem frameR : Cert.quiescent_GatefRefIdeal (hGatefRefIdeal := Cert.GatefRefIdeal.Gen.facts) := fun m ρ _ =>
  (θ_run Cert.GatefRefIdeal.defs _ _).mono (fun r h => ⟨fun c => (h c).2.2.2, sem_eq_zero_of_no_sems (by decide) r.2⟩) (Cert.GatefRefIdeal.Value.run (F := Ideal) m ρ)
theorem preserves : Cert.preserves_Gatef_GatefIdeal := trivial

theorem algebraic : Cert.algebraic_GatefIdeal_GatefRefIdeal (hGatefIdeal := Cert.GatefIdeal.Gen.facts) (hGatefRefIdeal := Cert.GatefRefIdeal.Gen.facts) := by
  intro m ρ m' ρ' _ hag
  refine ⟨fun c => mixed (X0 m c) (X1 m c) (X2 m c) (X3 m c) (X4 m c) (X5 m c), fun c => branch (X2 m c) (X4 m c), fun c => branch (X3 m c) (X5 m c), ?_, ?_⟩
  · refine (θ_run _ _ _).mono (fun r h c => ?_) (Cert.GatefIdeal.Value.run_blocks m ρ)
    obtain ⟨h0, h1, h2, hr⟩ := h c
    exact ⟨h0.trans (arr7 m c), h1.trans (arr8 m c), h2.trans (arr9 m c), hr⟩
  · refine (θ_run _ _ _).mono (fun r h c => ?_) (Cert.GatefRefIdeal.Value.run m' ρ')
    obtain ⟨h0, h1, h2, hr⟩ := h c
    obtain ⟨a0, a1, a2, a3, a4, a5⟩ := hag c
    exact ⟨h0.trans ((Cert.GatefRefIdeal.Read.val_main_v34_eq ..).trans ((Cert.GatefRefIdeal.Blocks.res0 ..).trans (congr (congr (congr (congr (congr (congrArg mixed a0) a1) a2) a3) a4) a5))),
      h1.trans ((Cert.GatefRefIdeal.Read.val_main_v4_eq ..).trans ((Cert.GatefRefIdeal.Blocks.res1 ..).trans (congr (congrArg branch a2) a4))),
      h2.trans ((Cert.GatefRefIdeal.Read.val_main_v6_eq ..).trans ((Cert.GatefRefIdeal.Blocks.res2 ..).trans (congr (congrArg branch a3) a5))), hr⟩

end Cert.Proof.Gatef
end
-- ==== Proof.MmrValue.lean ====
/- The heads' projection, the residual and the norm: the kernel's two results and the reference's. -/
module

public import proofs.«01_k».proof.Proof.Gen.MmrIdeal.Value
public import proofs.«01_k».proof.Proof.Gen.MmrRefIdeal.Read
public import proofs.«01_k».proof.Proof.NormSpec
public import Idealize.ShloMosaic.Lib.Pipeline.ReadBack

@[expose] public section

set_option maxRecDepth 16384

noncomputable section

namespace Cert.MmrIdeal.Blocks

open Idealize.ShloMosaic Idealize.SL.Sem Cert.MmrIdeal Cert.MmrIdeal.Gen Cert.Common Cert.NormSpec
open scoped BigOperators

/-- The stream with the mixed heads' projection added. -/
def xE (a : M3 2 2048 1024) (w : M3 1 1024 1024) (x : M3 2 2048 1024) (i : Fin 4096) (j : Fin 1024) : EReal := tok x i j + ∑ k : Fin 1024, tok a i k * w (ix3 0 k j)
/-- The scaled normalised rows of the new stream. -/
def hE (a : M3 2 2048 1024) (w : M3 1 1024 1024) (x : M3 2 2048 1024) (g : M2 1 1024) (i : Fin 4096) (j : Fin 1024) : EReal := unit (xE a w x i) j * g (ix2 0 j)
/-- The two results. -/
def out0 (a : M3 2 2048 1024) (w : M3 1 1024 1024) (x : M3 2 2048 1024) : M2 4096 1024 := fun y => xE a w x (y 0) (y 1)
def out1 (a : M3 2 2048 1024) (w : M3 1 1024 1024) (x : M3 2 2048 1024) (g : M2 1 1024) : M2 4096 1024 := fun y => hE a w x g (y 0) (y 1)

theorem p1 (v0 : Vec Ideal S512x1024 .bf16) (v2 : Vec Ideal S512x1024 .f32) (v4 : Vec Ideal S1024x1024 .bf16) (r : Fin 512) (l : Fin 1024) :
    k0_pay1 v0 v2 v4 (ix2 r l) = v2 (ix2 r l) + ∑ k : Fin 1024, v0 (ix2 r k) * v4 (ix2 k l) := by
  pointwise [k0_pay1]
theorem p2 (v0 : Vec Ideal S512x1024 .bf16) (v2 : Vec Ideal S512x1024 .f32) (v4 : Vec Ideal S1024x1024 .bf16) (g : Vec Ideal S1x1024 .f32) (r : Fin 512) (l : Fin 1024) :
    (k0_pay2 v0 v2 v4 g : FVec Ideal S512x1024 .bf16) (ix2 r l) = unit (fun k => k0_pay1 v0 v2 v4 (ix2 r k)) l * g (ix2 0 l) := by
  pointwise [k0_pay2]; rfl

variable (m : (ℓ : Loc nD τ sig) → Buf (Elt Ideal) ℓ) (c : Dev nD)

/-- What each window reads at a point. -/
theorem idx (t : Fin cfg0.N) : win0_0.index t = ![t.val, 0] ∧ win0_1.index t = ![0, 0] ∧ win0_2.index t = ![t.val, 0] ∧ win0_3.index t = ![0, 0] ∧ win0_4.index t = ![t.val, 0] ∧ win0_5.index t = ![t.val, 0] := by
  revert t; decide +kernel

abbrev X0 : M3 2 2048 1024 := m (c.tc.loc main_arg0)
abbrev X1 : M3 1 1024 1024 := m (c.tc.loc main_arg1)
abbrev X2 : M3 2 2048 1024 := m (c.tc.loc main_arg2)
abbrev X3 : M2 1 1024 := m (c.tc.loc main_arg3)

variable (t : Fin cfg0.N)

theorem ib0 (r : Fin 512) (k : Fin 1024) : (iblk m c 0 t : FVec Ideal S512x1024 .bf16) (ix2 r k) = tok (X0 m c) (row N_0 t r) k := by
  have h : (V m c main_v2 : FVec Ideal S4096x1024 .bf16) (ix2 (row N_0 t r) k) = tok (X0 m c) (row N_0 t r) k := by
    unfold V; after_reads_at; rfl
  rw [← h]; blk_ext [iblk, idx t]
theorem ib1 (r k : Fin 1024) : (iblk m c 1 t : FVec Ideal S1024x1024 .bf16) (ix2 r k) = X1 m c (ix3 0 r k) := by
  have h : (V m c main_v4 : FVec Ideal S1024x1024 .bf16) (ix2 r k) = X1 m c (ix3 0 r k) := by
    unfold V; after_reads_at
  rw [← h]; blk_ext [iblk, idx t]
theorem ib2 (r : Fin 512) (k : Fin 1024) : (iblk m c 2 t : FVec Ideal S512x1024 .f32) (ix2 r k) = tok (X2 m c) (row N_0 t r) k := by
  have h : (V m c main_v1 : FVec Ideal S4096x1024 .f32) (ix2 (row N_0 t r) k) = tok (X2 m c) (row N_0 t r) k := by
    unfold V; after_reads_at; rfl
  rw [← h]; blk_ext [iblk, idx t]
theorem ib3 (k : Fin 1024) : (iblk m c 3 t : FVec Ideal S1x1024 .f32) (ix2 0 k) = X3 m c (ix2 0 k) := by
  have h : (V m c main_arg3 : FVec Ideal S1x1024 .f32) (ix2 0 k) = X3 m c (ix2 0 k) := by
    unfold V; after_reads_at
  rw [← h]; blk_ext [iblk, idx t]

theorem px (r : Fin 512) (l : Fin 1024) : k0_pay1 (iblk m c 0 t) (iblk m c 2 t) (iblk m c 1 t) (ix2 r l) = xE (X0 m c) (X1 m c) (X2 m c) (row N_0 t r) l :=
  (p1 _ _ _ r l).trans (congrArg₂ (fun a b : EReal => a + b) (ib2 m c t r l) (Finset.sum_congr rfl fun k _ => congrArg₂ (fun a b : EReal => a * b) (ib0 m c t r k) (ib1 m c t k l)))
theorem ph (r : Fin 512) (l : Fin 1024) : (k0_pay2 (iblk m c 0 t) (iblk m c 2 t) (iblk m c 1 t) (iblk m c 3 t) : FVec Ideal S512x1024 .bf16) (ix2 r l) = hE (X0 m c) (X1 m c) (X2 m c) (X3 m c) (row N_0 t r) l :=
  (p2 _ _ _ _ r l).trans (congrArg₂ (fun a b : EReal => a * b) (congrArg (fun f => unit f l) (funext fun k => px m c t r k)) (ib3 m c t l))

theorem emb4 (r : Fin 512) (l : Fin 1024) : ((View.whole main_v5_0).slice (win0_4.rect t)).emb (ix2 r l) = ix2 (row N_0 t r) l := by blk_ext [idx t]

theorem arr4 : (dats m 0 c).arrAt 4 cfg0.N = out0 (X0 m c) (X1 m c) (X2 m c) := by
  refine (dats m 0 c).arrAt_eq_of_covers 4 _ (by decide +kernel) fun t hf y => ?_
  blk_simp
  rw [after0_4]
  have e : ∀ y : S512x1024.Idx, k0_pay1 (iblk m c 0 t) (iblk m c 2 t) (iblk m c 1 t) y
      = out0 (X0 m c) (X1 m c) (X2 m c) (((View.whole main_v5_0).slice (win0_4.rect t)).emb y) := by
    intro y; idx_vars y; refine (px m c t y0 y1).trans ?_; erw [emb4]; rfl
  frame_out; exact e y

theorem emb5 (r : Fin 512) (l : Fin 1024) : ((View.whole main_v5_1).slice (win0_5.rect t)).emb (ix2 r l) = ix2 (row N_0 t r) l := by blk_ext [idx t]

theorem arr5 : (dats m 0 c).arrAt 5 cfg0.N = out1 (X0 m c) (X1 m c) (X2 m c) (X3 m c) := by
  refine (dats m 0 c).arrAt_eq_of_covers 5 _ (by decide +kernel) fun t hf y => ?_
  blk_simp
  rw [after0_5]
  have e : ∀ y : S512x1024.Idx, k0_pay2 (iblk m c 0 t) (iblk m c 2 t) (iblk m c 1 t) (iblk m c 3 t) y
      = out1 (X0 m c) (X1 m c) (X2 m c) (X3 m c) (((View.whole main_v5_1).slice (win0_5.rect t)).emb y) := by
    intro y; idx_vars y; refine (ph m c t y0 y1).trans ?_; erw [emb5]; rfl
  frame_out; exact e y

end Cert.MmrIdeal.Blocks

namespace Cert.MmrRefIdeal.Blocks

open Idealize.ShloMosaic Cert.MmrRefIdeal Cert.MmrRefIdeal.Read Cert.Common Cert.NormSpec Cert.MmrIdeal.Blocks
open scoped BigOperators

variable (x0 : M3 2 2048 1024) (x1 : M3 1 1024 1024) (x2 : M3 2 2048 1024) (x3 : M2 1 1024)

theorem r4 (i : Fin 4096) (j : Fin 1024) : val_main_v4 (F := Ideal) x0 x1 x2 (ix2 i j) = xE x0 x1 x2 i j := by
  pointwise [val_main_v4, val_main_v3, val_main_v2, val_main_v1, val_main_v0]; rfl
theorem r12 (i : Fin 4096) : val_main_v12 (F := Ideal) x0 x1 x2 (ix2 i 0) = inv (xE x0 x1 x2 i) := by
  have e : xE x0 x1 x2 i = fun j => val_main_v4 (F := Ideal) x0 x1 x2 (ix2 i j) := funext fun j => (r4 x0 x1 x2 i j).symm
  rw [e]
  pointwise [val_main_v12, val_main_v11, val_main_v10, val_main_cst_1, val_main_v9, val_main_v8, val_main_cst_0, val_main_v7, val_main_v6, val_main_cst, val_main_v5]; rfl
theorem res0 : val_main_v4 (F := Ideal) x0 x1 x2 = out0 x0 x1 x2 := by
  funext y; idx_vars y; exact r4 x0 x1 x2 y0 y1
theorem res1 : val_main_v19 (F := Ideal) x0 x1 x2 x3 = out1 x0 x1 x2 x3 := by
  funext y; idx_vars y
  show _ = xE x0 x1 x2 y0 y1 * inv (xE x0 x1 x2 y0) * x3 (ix2 0 y1)
  rw [← r12, ← r4]; pointwise [val_main_v19, val_main_v18, val_main_v17, val_main_v16, val_main_v15, val_main_v14, val_main_v13]

end Cert.MmrRefIdeal.Blocks
end
-- ==== Proof.MmrClaim.lean ====
/- The five claims of the heads' projection, the residual and the norm. -/
module

public import proofs.«01_k».proof.Defs
public import proofs.«01_k».proof.Proof.Gen.Mmr.Frame
public import proofs.«01_k».proof.Proof.Gen.MmrRefIdeal
public import proofs.«01_k».proof.Proof.Gen.MmrRefIdeal.Run
public import proofs.«01_k».proof.Proof.MmrValue

@[expose] public section

noncomputable section

namespace Cert.Proof.Mmr

open Idealize.ShloMosaic Idealize.SL.Sem Cert.Common Cert.MmrIdeal.Blocks

theorem frameP : Cert.quiescent_Mmr (hMmr := Cert.Mmr.Gen.facts) := fun m ρ _ => Cert.Mmr.Gen.frame m ρ
theorem frameI : Cert.quiescent_MmrIdeal (hMmrIdeal := Cert.MmrIdeal.Gen.facts) := fun m ρ _ => Cert.MmrIdeal.Gen.frame m ρ
theorem frameR : Cert.quiescent_MmrRefIdeal (hMmrRefIdeal := Cert.MmrRefIdeal.Gen.facts) := fun m ρ _ =>
  (θ_run Cert.MmrRefIdeal.defs _ _).mono (fun r h => ⟨fun c => (h c).2.2, sem_eq_zero_of_no_sems (by decide) r.2⟩) (Cert.MmrRefIdeal.Value.run (F := Ideal) m ρ)
theorem preserves : Cert.preserves_Mmr_MmrIdeal := trivial

theorem algebraic : Cert.algebraic_MmrIdeal_MmrRefIdeal (hMmrIdeal := Cert.MmrIdeal.Gen.facts) (hMmrRefIdeal := Cert.MmrRefIdeal.Gen.facts) := by
  intro m ρ m' ρ' _ hag
  refine ⟨fun c => out0 (X0 m c) (X1 m c) (X2 m c), fun c => out1 (X0 m c) (X1 m c) (X2 m c) (X3 m c), ?_, ?_⟩
  · refine (θ_run _ _ _).mono (fun r h c => ?_) (Cert.MmrIdeal.Value.run_blocks m ρ)
    obtain ⟨h0, h1, hr⟩ := h c
    exact ⟨h0.trans (arr4 m c), h1.trans (arr5 m c), hr⟩
  · refine (θ_run _ _ _).mono (fun r h c => ?_) (Cert.MmrRefIdeal.Value.run m' ρ')
    obtain ⟨h0, h1, hr⟩ := h c
    obtain ⟨a0, a1, a2, a3⟩ := hag c
    exact ⟨h0.trans ((Cert.MmrRefIdeal.Read.val_main_v4_eq ..).trans ((Cert.MmrRefIdeal.Blocks.res0 ..).trans (congr (congr (congrArg out0 a0) a1) a2))),
      h1.trans ((Cert.MmrRefIdeal.Read.val_main_v19_eq ..).trans ((Cert.MmrRefIdeal.Blocks.res1 ..).trans (congr (congr (congr (congrArg out1 a0) a1) a2) a3))), hr⟩

end Cert.Proof.Mmr
end
-- ==== Proof.UpValue.lean ====
/- The hidden layer's rectified product: the kernel's result and the reference's. -/
module

public import proofs.«01_k».proof.Proof.Gen.UpIdeal.Value
public import proofs.«01_k».proof.Proof.Gen.UpRefIdeal.Read
public import proofs.«01_k».proof.Proof.Common
public import Idealize.ShloMosaic.Lib.Pipeline.ReadBack

@[expose] public section

set_option maxRecDepth 16384

noncomputable section

namespace Cert.UpIdeal.Blocks

open Idealize.ShloMosaic Idealize.SL.Sem Cert.UpIdeal Cert.UpIdeal.Gen Cert.Common
open scoped BigOperators

/-- The hidden layer: a rectified product. -/
def actE (h : M3 2 2048 1024) (u : M3 1 1024 4096) (i j : Fin 4096) : EReal := max (∑ k : Fin 1024, tok h i k * u (ix3 0 k j)) 0
def out (h : M3 2 2048 1024) (u : M3 1 1024 4096) : M2 4096 4096 := fun y => actE h u (y 0) (y 1)

theorem p1 (v0 : Vec Ideal S1024x1024 .bf16) (v2 : Vec Ideal S1x1024x1024 .bf16) (r l : Fin 1024) :
    (k0_pay1 v0 v2 : FVec Ideal S1024x1024 .bf16) (ix2 r l) = (max (∑ k : Fin 1024, v0 (ix2 r k) * v2 (ix3 0 k l) : EReal) 0 : EReal) := by
  pointwise [k0_pay1]

variable (m : (ℓ : Loc nD τ sig) → Buf (Elt Ideal) ℓ) (c : Dev nD)

/-- What each window reads at a point. -/
theorem idx (t : Fin cfg0.N) : win0_0.index t = ![t.val / 4, 0] ∧ win0_1.index t = ![t.val % 4, 0, 0] ∧ win0_2.index t = ![t.val / 4, t.val % 4] := by
  revert t; decide +kernel

abbrev X0 : M3 2 2048 1024 := m (c.tc.loc main_arg0)
abbrev X1 : M3 1 1024 4096 := m (c.tc.loc main_arg1)

variable (t : Fin cfg0.N)

theorem lt16 : t.val < 16 := lt_of_lt_of_eq t.isLt N_0
/-- The row and the column of the whole array at an entry of a point's block. -/
def gr (r : Fin 1024) : Fin 4096 := ⟨t.val / 4 * 1024 + r.val, by have := lt16 t; omega⟩
def gc (r : Fin 1024) : Fin 4096 := ⟨t.val % 4 * 1024 + r.val, by omega⟩

theorem ib0 (r k : Fin 1024) : (iblk m c 0 t : FVec Ideal S1024x1024 .bf16) (ix2 r k) = tok (X0 m c) (gr t r) k := by
  have h : (V m c main_v1 : FVec Ideal S4096x1024 .bf16) (ix2 (gr t r) k) = tok (X0 m c) (gr t r) k := by
    unfold V; after_reads_at; rfl
  rw [← h]; blk_ext [iblk, idx t, gr]
theorem hostw (s : Fin 4) (r k : Fin 1024) : (V m c main_v5 : FVec Ideal S4x1024x1024 .bf16) (ix3 s r k) = X1 m c (ix3 0 r ⟨s.val * 1024 + k.val, by omega⟩) := by
  unfold V; after_reads_at
theorem ib1 (r k : Fin 1024) : (iblk m c 1 t : FVec Ideal S1x1024x1024 .bf16) (ix3 0 r k) = X1 m c (ix3 0 r (gc t k)) := by
  refine Eq.trans ?_ (hostw m c ⟨t.val % 4, by omega⟩ r k)
  blk_ext [iblk, idx t]
theorem pout (r l : Fin 1024) : (k0_pay1 (iblk m c 0 t) (iblk m c 1 t) : FVec Ideal S1024x1024 .bf16) (ix2 r l) = actE (X0 m c) (X1 m c) (gr t r) (gc t l) :=
  (p1 _ _ r l).trans (congrArg (fun a : EReal => max a 0) (Finset.sum_congr rfl fun k _ => congrArg₂ (fun a b : EReal => a * b) (ib0 m c t r k) (ib1 m c t k l)))

theorem emb2 (r : Fin 1024) (l : Fin 1024) : ((View.whole main_v6).slice (win0_2.rect t)).emb (ix2 r l) = ix2 (gr t r) (gc t l) := by blk_ext [idx t, gr, gc]

theorem arr2 : (dats m 0 c).arrAt 2 cfg0.N = out (X0 m c) (X1 m c) := by
  refine (dats m 0 c).arrAt_eq_of_covers 2 _ (by decide +kernel) fun t hf y => ?_
  blk_simp
  rw [after0_2]
  have e : ∀ y : S1024x1024.Idx, k0_pay1 (iblk m c 0 t) (iblk m c 1 t) y
      = out (X0 m c) (X1 m c) (((View.whole main_v6).slice (win0_2.rect t)).emb y) := by
    intro y; idx_vars y; refine (pout m c t y0 y1).trans ?_; erw [emb2]; rfl
  frame_out; exact e y

end Cert.UpIdeal.Blocks

namespace Cert.UpRefIdeal.Blocks

open Idealize.ShloMosaic Cert.UpRefIdeal Cert.UpRefIdeal.Read Cert.Common Cert.UpIdeal.Blocks
open scoped BigOperators

variable (x0 : M3 2 2048 1024) (x1 : M3 1 1024 4096)

theorem r4 : val_main_v4 (F := Ideal) x0 x1 = out x0 x1 := by
  funext y; idx_vars y
  pointwise [val_main_v4, val_main_v3, val_main_call0_v0, val_main_call0_cst, val_main_v2, val_main_v1, val_main_v0]; rfl

end Cert.UpRefIdeal.Blocks
end
-- ==== Proof.UpClaim.lean ====
/- The five claims of the hidden layer's rectified product. -/
module

public import proofs.«01_k».proof.Defs
public import proofs.«01_k».proof.Proof.Gen.Up.Frame
public import proofs.«01_k».proof.Proof.Gen.UpRefIdeal
public import proofs.«01_k».proof.Proof.Gen.UpRefIdeal.Run
public import proofs.«01_k».proof.Proof.UpValue

@[expose] public section

noncomputable section

namespace Cert.Proof.Up

open Idealize.ShloMosaic Idealize.SL.Sem Cert.Common Cert.UpIdeal.Blocks

theorem frameP : Cert.quiescent_Up (hUp := Cert.Up.Gen.facts) := fun m ρ _ => Cert.Up.Gen.frame m ρ
theorem frameI : Cert.quiescent_UpIdeal (hUpIdeal := Cert.UpIdeal.Gen.facts) := fun m ρ _ => Cert.UpIdeal.Gen.frame m ρ
theorem frameR : Cert.quiescent_UpRefIdeal (hUpRefIdeal := Cert.UpRefIdeal.Gen.facts) := fun m ρ _ =>
  (θ_run Cert.UpRefIdeal.defs _ _).mono (fun r h => ⟨fun c => (h c).2, sem_eq_zero_of_no_sems (by decide) r.2⟩) (Cert.UpRefIdeal.Value.run (F := Ideal) m ρ)
theorem preserves : Cert.preserves_Up_UpIdeal := trivial

theorem algebraic : Cert.algebraic_UpIdeal_UpRefIdeal (hUpIdeal := Cert.UpIdeal.Gen.facts) (hUpRefIdeal := Cert.UpRefIdeal.Gen.facts) := by
  intro m ρ m' ρ' _ hag
  refine ⟨fun c => out (X0 m c) (X1 m c), ?_, ?_⟩
  · refine (θ_run _ _ _).mono (fun r h c => ?_) (Cert.UpIdeal.Value.run_blocks m ρ)
    obtain ⟨h0, hr⟩ := h c
    exact ⟨h0.trans (arr2 m c), hr⟩
  · refine (θ_run _ _ _).mono (fun r h c => ?_) (Cert.UpRefIdeal.Value.run m' ρ')
    obtain ⟨h0, hr⟩ := h c
    obtain ⟨a0, a1⟩ := hag c
    exact ⟨h0.trans ((Cert.UpRefIdeal.Read.val_main_v4_eq ..).trans ((Cert.UpRefIdeal.Blocks.r4 ..).trans (congr (congrArg out a0) a1))), hr⟩

end Cert.Proof.Up
end
-- ==== Proof.MmdValue.lean ====
/- The hidden layer's projection, the residual and the norm: the kernel's two results and the reference's. -/
module

public import proofs.«01_k».proof.Proof.Gen.MmdIdeal.Value
public import proofs.«01_k».proof.Proof.Gen.MmdRefIdeal.Read
public import proofs.«01_k».proof.Proof.NormSpec
public import Idealize.ShloMosaic.Lib.Pipeline.ReadBack

@[expose] public section

set_option maxRecDepth 16384

noncomputable section

namespace Cert.MmdIdeal.Blocks

open Idealize.ShloMosaic Idealize.SL.Sem Cert.MmdIdeal Cert.MmdIdeal.Gen Cert.Common Cert.NormSpec
open scoped BigOperators

/-- The hidden layer: a rectified product. -/
def act (h : M3 2 2048 1024) (u : M3 1 1024 4096) (i j : Fin 4096) : EReal := max (∑ k : Fin 1024, tok h i k * u (ix3 0 k j)) 0
/-- The stream with the squared hidden layer's projection added. -/
def xE (h : M3 2 2048 1024) (u : M3 1 1024 4096) (w : M3 1 4096 1024) (x : M3 2 2048 1024) (i : Fin 4096) (j : Fin 1024) : EReal :=
  tok x i j + ∑ k : Fin 4096, act h u i k * act h u i k * w (ix3 0 k j)
/-- The scaled normalised rows of the new stream. -/
def hE (h : M3 2 2048 1024) (u : M3 1 1024 4096) (w : M3 1 4096 1024) (x : M3 2 2048 1024) (g : M2 1 1024) (i : Fin 4096) (j : Fin 1024) : EReal := unit (xE h u w x i) j * g (ix2 0 j)
/-- The two results. -/
def out0 (h : M3 2 2048 1024) (u : M3 1 1024 4096) (w : M3 1 4096 1024) (x : M3 2 2048 1024) : M2 4096 1024 := fun y => xE h u w x (y 0) (y 1)
def out1 (h : M3 2 2048 1024) (u : M3 1 1024 4096) (w : M3 1 4096 1024) (x : M3 2 2048 1024) (g : M2 1 1024) : M2 4096 1024 := fun y => hE h u w x g (y 0) (y 1)

theorem p1 (v0 : Vec Ideal S512x4096 .bf16) (v2 : Vec Ideal S512x1024 .f32) (v4 : Vec Ideal S4096x1024 .bf16) (r : Fin 512) (l : Fin 1024) :
    k0_pay1 v0 v2 v4 (ix2 r l) = v2 (ix2 r l) + ∑ k : Fin 4096, v0 (ix2 r k) * v0 (ix2 r k) * v4 (ix2 k l) := by
  pointwise [k0_pay1]
theorem p2 (v0 : Vec Ideal S512x4096 .bf16) (v2 : Vec Ideal S512x1024 .f32) (v4 : Vec Ideal S4096x1024 .bf16) (g : Vec Ideal S1x1024 .f32) (r : Fin 512) (l : Fin 1024) :
    (k0_pay2 v0 v2 v4 g : FVec Ideal S512x1024 .bf16) (ix2 r l) = unit (fun k => k0_pay1 v0 v2 v4 (ix2 r k)) l * g (ix2 0 l) := by
  pointwise [k0_pay2]; rfl

variable (m : (ℓ : Loc nD τ sig) → Buf (Elt Ideal) ℓ) (c : Dev nD)

/-- What each window reads at a point. -/
theorem idx (t : Fin cfg0.N) : win0_0.index t = ![t.val, 0] ∧ win0_1.index t = ![0, 0] ∧ win0_2.index t = ![t.val, 0] ∧ win0_3.index t = ![0, 0] ∧ win0_4.index t = ![t.val, 0] ∧ win0_5.index t = ![t.val, 0] := by
  revert t; decide +kernel

abbrev X0 : M3 2 2048 1024 := m (c.tc.loc main_arg0)
abbrev X1 : M3 1 1024 4096 := m (c.tc.loc main_arg1)
abbrev X2 : M3 1 4096 1024 := m (c.tc.loc main_arg2)
abbrev X3 : M3 2 2048 1024 := m (c.tc.loc main_arg3)
abbrev X4 : M2 1 1024 := m (c.tc.loc main_arg4)

variable (t : Fin cfg0.N)

theorem ib0 (r : Fin 512) (k : Fin 4096) : (iblk m c 0 t : FVec Ideal S512x4096 .bf16) (ix2 r k) = act (X0 m c) (X1 m c) (row N_0 t r) k := by
  have h : (V m c main_v6 : FVec Ideal S4096x4096 .bf16) (ix2 (row N_0 t r) k) = act (X0 m c) (X1 m c) (row N_0 t r) k := by
    unfold V; after_reads_at; rfl
  rw [← h]; blk_ext [iblk, idx t]
theorem ib1 (r : Fin 4096) (k : Fin 1024) : (iblk m c 1 t : FVec Ideal S4096x1024 .bf16) (ix2 r k) = X2 m c (ix3 0 r k) := by
  have h : (V m c main_v8 : FVec Ideal S4096x1024 .bf16) (ix2 r k) = X2 m c (ix3 0 r k) := by
    unfold V; after_reads_at
  rw [← h]; blk_ext [iblk, idx t]
theorem ib2 (r : Fin 512) (k : Fin 1024) : (iblk m c 2 t : FVec Ideal S512x1024 .f32) (ix2 r k) = tok (X3 m c) (row N_0 t r) k := by
  have h : (V m c main_v1 : FVec Ideal S4096x1024 .f32) (ix2 (row N_0 t r) k) = tok (X3 m c) (row N_0 t r) k := by
    unfold V; after_reads_at; rfl
  rw [← h]; blk_ext [iblk, idx t]
theorem ib3 (k : Fin 1024) : (iblk m c 3 t : FVec Ideal S1x1024 .f32) (ix2 0 k) = X4 m c (ix2 0 k) := by
  have h : (V m c main_arg4 : FVec Ideal S1x1024 .f32) (ix2 0 k) = X4 m c (ix2 0 k) := by
    unfold V; after_reads_at
  rw [← h]; blk_ext [iblk, idx t]

theorem px (r : Fin 512) (l : Fin 1024) : k0_pay1 (iblk m c 0 t) (iblk m c 2 t) (iblk m c 1 t) (ix2 r l) = xE (X0 m c) (X1 m c) (X2 m c) (X3 m c) (row N_0 t r) l :=
  (p1 _ _ _ r l).trans (congrArg₂ (fun a b : EReal => a + b) (ib2 m c t r l)
    (Finset.sum_congr rfl fun k _ => congrArg₂ (fun a b : EReal => a * a * b) (ib0 m c t r k) (ib1 m c t k l)))
theorem ph (r : Fin 512) (l : Fin 1024) : (k0_pay2 (iblk m c 0 t) (iblk m c 2 t) (iblk m c 1 t) (iblk m c 3 t) : FVec Ideal S512x1024 .bf16) (ix2 r l) = hE (X0 m c) (X1 m c) (X2 m c) (X3 m c) (X4 m c) (row N_0 t r) l :=
  (p2 _ _ _ _ r l).trans (congrArg₂ (fun a b : EReal => a * b) (congrArg (fun f => unit f l) (funext fun k => px m c t r k)) (ib3 m c t l))

theorem emb4 (r : Fin 512) (l : Fin 1024) : ((View.whole main_v9_0).slice (win0_4.rect t)).emb (ix2 r l) = ix2 (row N_0 t r) l := by blk_ext [idx t]

theorem arr4 : (dats m 0 c).arrAt 4 cfg0.N = out0 (X0 m c) (X1 m c) (X2 m c) (X3 m c) := by
  refine (dats m 0 c).arrAt_eq_of_covers 4 _ (by decide +kernel) fun t hf y => ?_
  blk_simp
  rw [after0_4]
  have e : ∀ y : S512x1024.Idx, k0_pay1 (iblk m c 0 t) (iblk m c 2 t) (iblk m c 1 t) y
      = out0 (X0 m c) (X1 m c) (X2 m c) (X3 m c) (((View.whole main_v9_0).slice (win0_4.rect t)).emb y) := by
    intro y; idx_vars y; refine (px m c t y0 y1).trans ?_; erw [emb4]; rfl
  frame_out; exact e y

theorem emb5 (r : Fin 512) (l : Fin 1024) : ((View.whole main_v9_1).slice (win0_5.rect t)).emb (ix2 r l) = ix2 (row N_0 t r) l := by blk_ext [idx t]

theorem arr5 : (dats m 0 c).arrAt 5 cfg0.N = out1 (X0 m c) (X1 m c) (X2 m c) (X3 m c) (X4 m c) := by
  refine (dats m 0 c).arrAt_eq_of_covers 5 _ (by decide +kernel) fun t hf y => ?_
  blk_simp
  rw [after0_5]
  have e : ∀ y : S512x1024.Idx, k0_pay2 (iblk m c 0 t) (iblk m c 2 t) (iblk m c 1 t) (iblk m c 3 t) y
      = out1 (X0 m c) (X1 m c) (X2 m c) (X3 m c) (X4 m c) (((View.whole main_v9_1).slice (win0_5.rect t)).emb y) := by
    intro y; idx_vars y; refine (ph m c t y0 y1).trans ?_; erw [emb5]; rfl
  frame_out; exact e y

end Cert.MmdIdeal.Blocks

namespace Cert.MmdRefIdeal.Blocks

open Idealize.ShloMosaic Cert.MmdRefIdeal Cert.MmdRefIdeal.Read Cert.Common Cert.NormSpec Cert.MmdIdeal.Blocks
open scoped BigOperators

variable (x0 : M3 2 2048 1024) (x1 : M3 1 1024 4096) (x2 : M3 1 4096 1024) (x3 : M3 2 2048 1024) (x4 : M2 1 1024)

theorem r4 (i j : Fin 4096) : val_main_v4 (F := Ideal) x0 x1 (ix2 i j) = act x0 x1 i j := by
  pointwise [val_main_v4, val_main_call0_v0, val_main_call0_cst, val_main_v3, val_main_v2, val_main_v0]; rfl
theorem r8 (i : Fin 4096) (j : Fin 1024) : val_main_v8 (F := Ideal) x0 x1 x2 x3 (ix2 i j) = xE x0 x1 x2 x3 i j := by
  rw [xE]; simp only [← r4]
  pointwise [val_main_v8, val_main_v7, val_main_v6, val_main_v5, val_main_v1]; rfl
theorem r16 (i : Fin 4096) : val_main_v16 (F := Ideal) x0 x1 x2 x3 (ix2 i 0) = inv (xE x0 x1 x2 x3 i) := by
  have e : xE x0 x1 x2 x3 i = fun j => val_main_v8 (F := Ideal) x0 x1 x2 x3 (ix2 i j) := funext fun j => (r8 x0 x1 x2 x3 i j).symm
  rw [e]
  pointwise [val_main_v16, val_main_v15, val_main_v14, val_main_cst_1, val_main_v13, val_main_v12, val_main_cst_0, val_main_v11, val_main_v10, val_main_cst, val_main_v9]; rfl
theorem res0 : val_main_v8 (F := Ideal) x0 x1 x2 x3 = out0 x0 x1 x2 x3 := by
  funext y; idx_vars y; exact r8 x0 x1 x2 x3 y0 y1
theorem res1 : val_main_v23 (F := Ideal) x0 x1 x2 x3 x4 = out1 x0 x1 x2 x3 x4 := by
  funext y; idx_vars y
  show _ = xE x0 x1 x2 x3 y0 y1 * inv (xE x0 x1 x2 x3 y0) * x4 (ix2 0 y1)
  rw [← r16, ← r8]; pointwise [val_main_v23, val_main_v22, val_main_v21, val_main_v20, val_main_v19, val_main_v18, val_main_v17]

end Cert.MmdRefIdeal.Blocks
end
-- ==== Proof.MmdClaim.lean ====
/- The five claims of the hidden layer's projection, the residual and the norm. -/
module

public import proofs.«01_k».proof.Defs
public import proofs.«01_k».proof.Proof.Gen.Mmd.Frame
public import proofs.«01_k».proof.Proof.Gen.MmdRefIdeal
public import proofs.«01_k».proof.Proof.Gen.MmdRefIdeal.Run
public import proofs.«01_k».proof.Proof.MmdValue

@[expose] public section

noncomputable section

namespace Cert.Proof.Mmd

open Idealize.ShloMosaic Idealize.SL.Sem Cert.Common Cert.MmdIdeal.Blocks

theorem frameP : Cert.quiescent_Mmd (hMmd := Cert.Mmd.Gen.facts) := fun m ρ _ => Cert.Mmd.Gen.frame m ρ
theorem frameI : Cert.quiescent_MmdIdeal (hMmdIdeal := Cert.MmdIdeal.Gen.facts) := fun m ρ _ => Cert.MmdIdeal.Gen.frame m ρ
theorem frameR : Cert.quiescent_MmdRefIdeal (hMmdRefIdeal := Cert.MmdRefIdeal.Gen.facts) := fun m ρ _ =>
  (θ_run Cert.MmdRefIdeal.defs _ _).mono (fun r h => ⟨fun c => (h c).2.2, sem_eq_zero_of_no_sems (by decide) r.2⟩) (Cert.MmdRefIdeal.Value.run (F := Ideal) m ρ)
theorem preserves : Cert.preserves_Mmd_MmdIdeal := trivial

theorem algebraic : Cert.algebraic_MmdIdeal_MmdRefIdeal (hMmdIdeal := Cert.MmdIdeal.Gen.facts) (hMmdRefIdeal := Cert.MmdRefIdeal.Gen.facts) := by
  intro m ρ m' ρ' _ hag
  refine ⟨fun c => out0 (X0 m c) (X1 m c) (X2 m c) (X3 m c), fun c => out1 (X0 m c) (X1 m c) (X2 m c) (X3 m c) (X4 m c), ?_, ?_⟩
  · refine (θ_run _ _ _).mono (fun r h c => ?_) (Cert.MmdIdeal.Value.run_blocks m ρ)
    obtain ⟨h0, h1, hr⟩ := h c
    exact ⟨h0.trans (arr4 m c), h1.trans (arr5 m c), hr⟩
  · refine (θ_run _ _ _).mono (fun r h c => ?_) (Cert.MmdRefIdeal.Value.run m' ρ')
    obtain ⟨h0, h1, hr⟩ := h c
    obtain ⟨a0, a1, a2, a3, a4⟩ := hag c
    exact ⟨h0.trans ((Cert.MmdRefIdeal.Read.val_main_v8_eq ..).trans ((Cert.MmdRefIdeal.Blocks.res0 ..).trans (congr (congr (congr (congrArg out0 a0) a1) a2) a3))),
      h1.trans ((Cert.MmdRefIdeal.Read.val_main_v23_eq ..).trans ((Cert.MmdRefIdeal.Blocks.res1 ..).trans (congr (congr (congr (congr (congrArg out1 a0) a1) a2) a3) a4))), hr⟩

end Cert.Proof.Mmd
end
-- ==== Proof.AdamValue.lean ====
/- One step of the optimiser on the vectors: the kernel's three results and the reference's. -/
module

public import proofs.«01_k».proof.Proof.Gen.AdamIdeal.Value
public import proofs.«01_k».proof.Proof.Gen.AdamRefIdeal.Read
public import proofs.«01_k».proof.Proof.Common

@[expose] public section

set_option maxRecDepth 16384

noncomputable section

namespace Cert.AdamIdeal.Blocks

open Idealize.ShloMosaic Cert.AdamIdeal Cert.AdamIdeal.Value Cert.AdamRefIdeal.Read Cert.Common

variable (w g a b : M2 8 1024)

theorem g5 : G5 (F := Ideal) g a = val_main_v4 (F := Ideal) g a := by
  funext y; idx_vars y
  pointwise [G5, val_main_v4, val_main_v3, val_main_v2, val_main_cst_0, val_main_v1, val_main_v0, val_main_cst]
theorem g6 : G6 (F := Ideal) g b = val_main_v10 (F := Ideal) g b := by
  funext y; idx_vars y
  pointwise [G6, val_main_v10, val_main_v9, val_main_v8, val_main_cst_2, val_main_v7, val_main_v6, val_main_v5, val_main_cst_1]
theorem g4 : G4 (F := Ideal) w g a b = val_main_v23 (F := Ideal) w g a b := by
  funext y; idx_vars y
  pointwise [G4, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

end Cert.AdamIdeal.Blocks
end
-- ==== Proof.AdamClaim.lean ====
/- The five claims of the optimiser's step on the vectors. -/
module

public import proofs.«01_k».proof.Defs
public import proofs.«01_k».proof.Proof.Gen.Adam.Frame
public import proofs.«01_k».proof.Proof.Gen.AdamRefIdeal
public import proofs.«01_k».proof.Proof.Gen.AdamRefIdeal.Run
public import proofs.«01_k».proof.Proof.AdamValue

@[expose] public section

noncomputable section

namespace Cert.Proof.Adam

open Idealize.ShloMosaic Idealize.SL.Sem Cert.Common Cert.AdamIdeal.Blocks Cert.AdamIdeal.Value

theorem frameP : Cert.quiescent_Adam (hAdam := Cert.Adam.Gen.facts) := fun m ρ _ => Cert.Adam.Gen.frame m ρ
theorem frameI : Cert.quiescent_AdamIdeal (hAdamIdeal := Cert.AdamIdeal.Gen.facts) := fun m ρ _ => Cert.AdamIdeal.Gen.frame m ρ
theorem frameR : Cert.quiescent_AdamRefIdeal (hAdamRefIdeal := Cert.AdamRefIdeal.Gen.facts) := fun m ρ _ =>
  (θ_run Cert.AdamRefIdeal.defs _ _).mono (fun r h => ⟨fun c => (h c).2.2.2, sem_eq_zero_of_no_sems (by decide) r.2⟩) (Cert.AdamRefIdeal.Value.run (F := Ideal) m ρ)
theorem preserves : Cert.preserves_Adam_AdamIdeal := trivial

theorem algebraic : Cert.algebraic_AdamIdeal_AdamRefIdeal (hAdamIdeal := Cert.AdamIdeal.Gen.facts) (hAdamRefIdeal := Cert.AdamRefIdeal.Gen.facts) := by
  intro m ρ m' ρ' _ hag
  refine ⟨fun c => _, fun c => _, fun c => _, Cert.AdamIdeal.Value.run m ρ, ?_⟩
  refine (θ_run _ _ _).mono (fun r h c => ?_) (Cert.AdamRefIdeal.Value.run m' ρ')
  obtain ⟨h0, h1, h2, hr⟩ := h c
  obtain ⟨a0, a1, a2, a3⟩ := hag c
  exact ⟨h0.trans ((Cert.AdamRefIdeal.Read.val_main_v23_eq ..).trans ((g4 ..).symm.trans (congr (congr (congr (congrArg G4 a0) a1) a2) a3))),
    h1.trans ((Cert.AdamRefIdeal.Read.val_main_v4_eq ..).trans ((g5 ..).symm.trans (congr (congrArg G5 a1) a2))),
    h2.trans ((Cert.AdamRefIdeal.Read.val_main_v10_eq ..).trans ((g6 ..).symm.trans (congr (congrArg G6 a1) a3))), hr⟩

end Cert.Proof.Adam
end
-- ==== Proof.lean ====
/- The claims of the training step's gradient calls, one module each. -/
module

public import proofs.«01_k».proof.Defs
public import proofs.«01_k».proof.Proof.GateClaim
public import proofs.«01_k».proof.Proof.FoxClaim
public import proofs.«01_k».proof.Proof.SbClaim
public import proofs.«01_k».proof.Proof.PleClaim
public import proofs.«01_k».proof.Proof.MlpClaim
public import proofs.«01_k».proof.Proof.ActClaim
public import proofs.«01_k».proof.Proof.PostClaim
public import proofs.«01_k».proof.Proof.PrepClaim
public import proofs.«01_k».proof.Proof.HeadClaim
public import proofs.«01_k».proof.Proof.MixClaim
public import proofs.«01_k».proof.Proof.NrmClaim
public import proofs.«01_k».proof.Proof.GatefClaim
public import proofs.«01_k».proof.Proof.MmrClaim
public import proofs.«01_k».proof.Proof.UpClaim
public import proofs.«01_k».proof.Proof.MmdClaim
public import proofs.«01_k».proof.Proof.AdamClaim

@[expose] public section

noncomputable section

namespace Cert.Proof

theorem claim : Cert.Claim := ⟨Cert.Gate.Gen.facts, Cert.GateIdeal.Gen.facts, Cert.GateRefIdeal.Gen.facts,
  Cert.Fox.Gen.facts, Cert.FoxIdeal.Gen.facts, Cert.FoxRefIdeal.Gen.facts,
  Cert.Sb.Gen.facts, Cert.SbIdeal.Gen.facts, Cert.SbRefIdeal.Gen.facts,
  Cert.Ple.Gen.facts, Cert.PleIdeal.Gen.facts, Cert.PleRefIdeal.Gen.facts,
  Cert.Mlp.Gen.facts, Cert.MlpIdeal.Gen.facts, Cert.MlpRefIdeal.Gen.facts,
  Cert.Act.Gen.facts, Cert.ActIdeal.Gen.facts, Cert.ActRefIdeal.Gen.facts,
  Cert.Post.Gen.facts, Cert.PostIdeal.Gen.facts, Cert.PostRefIdeal.Gen.facts,
  Cert.Prep.Gen.facts, Cert.PrepIdeal.Gen.facts, Cert.PrepRefIdeal.Gen.facts,
  Cert.Head.Gen.facts, Cert.HeadIdeal.Gen.facts, Cert.HeadRefIdeal.Gen.facts,
  Cert.Mix.Gen.facts, Cert.MixIdeal.Gen.facts, Cert.MixRefIdeal.Gen.facts,
  Cert.Nrm.Gen.facts, Cert.NrmIdeal.Gen.facts, Cert.NrmRefIdeal.Gen.facts,
  Cert.Gatef.Gen.facts, Cert.GatefIdeal.Gen.facts, Cert.GatefRefIdeal.Gen.facts,
  Cert.Mmr.Gen.facts, Cert.MmrIdeal.Gen.facts, Cert.MmrRefIdeal.Gen.facts,
  Cert.Up.Gen.facts, Cert.UpIdeal.Gen.facts, Cert.UpRefIdeal.Gen.facts,
  Cert.Mmd.Gen.facts, Cert.MmdIdeal.Gen.facts, Cert.MmdRefIdeal.Gen.facts,
  Cert.Adam.Gen.facts, Cert.AdamIdeal.Gen.facts, Cert.AdamRefIdeal.Gen.facts,
  Fox.preFacts, Sb.preFacts, Post.preFacts,
  Gate.frameP, Gate.frameI, Gate.frameR,
  Fox.frameP, Fox.frameI, Fox.frameI', Fox.frameR, Fox.frameR',
  Sb.frameP, Sb.frameI, Sb.frameI', Sb.frameR, Sb.frameR',
  Ple.frameP, Ple.frameI, Ple.frameR,
  Mlp.frameP, Mlp.frameI, Mlp.frameR,
  Act.frameP, Act.frameI, Act.frameR,
  Post.frameP, Post.frameI, Post.frameI', Post.frameR, Post.frameR',
  Prep.frameP, Prep.frameI, Prep.frameR,
  Head.frameP, Head.frameI, Head.frameR,
  Mix.frameP, Mix.frameI, Mix.frameR,
  Nrm.frameP, Nrm.frameI, Nrm.frameR,
  Gatef.frameP, Gatef.frameI, Gatef.frameR,
  Mmr.frameP, Mmr.frameI, Mmr.frameR,
  Up.frameP, Up.frameI, Up.frameR,
  Mmd.frameP, Mmd.frameI, Mmd.frameR,
  Adam.frameP, Adam.frameI, Adam.frameR,
  Gate.preserves, Gate.algebraic,
  Fox.preserves, Fox.algebraic,
  Sb.preserves, Sb.algebraic,
  Ple.preserves, Ple.algebraic,
  Mlp.preserves, Mlp.algebraic,
  Act.preserves, Act.algebraic,
  Post.preserves, Post.algebraic,
  Prep.preserves, Prep.algebraic,
  Head.preserves, Head.algebraic,
  Mix.preserves, Mix.algebraic,
  Nrm.preserves, Nrm.algebraic,
  Gatef.preserves, Gatef.algebraic,
  Mmr.preserves, Mmr.algebraic,
  Up.preserves, Up.algebraic,
  Mmd.preserves, Mmd.algebraic,
  Adam.preserves, Adam.algebraic⟩

end Cert.Proof

end
